-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_Wdown (m : (ℓ : Loc Cert.Wdown.nD Cert.Wdown.τ Cert.Wdown.sig) → Buf (Elt Bits) ℓ) : Prop :=
  True

def Pre_WdownIdeal (m : (ℓ : Loc Cert.WdownIdeal.nD Cert.WdownIdeal.τ Cert.WdownIdeal.sig) → Buf (Elt Ideal) ℓ) : Prop :=
  True

def Pre_WdownRefIdeal (m : (ℓ : Loc Cert.WdownRefIdeal.nD Cert.WdownRefIdeal.τ Cert.WdownRefIdeal.sig) → Buf (Elt Ideal) ℓ) : Prop :=
  True

def Pre_Wgu (m : (ℓ : Loc Cert.Wgu.nD Cert.Wgu.τ Cert.Wgu.sig) → Buf (Elt Bits) ℓ) : Prop :=
  True

def Pre_WguIdeal (m : (ℓ : Loc Cert.WguIdeal.nD Cert.WguIdeal.τ Cert.WguIdeal.sig) → Buf (Elt Ideal) ℓ) : Prop :=
  True

def Pre_WguRefIdeal (m : (ℓ : Loc Cert.WguRefIdeal.nD Cert.WguRefIdeal.τ Cert.WguRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Downx (m : (ℓ : Loc Cert.Downx.nD Cert.Downx.τ Cert.Downx.sig) → Buf (Elt Bits) ℓ) : Prop :=
  True

def Pre_DownxIdeal (m : (ℓ : Loc Cert.DownxIdeal.nD Cert.DownxIdeal.τ Cert.DownxIdeal.sig) → Buf (Elt Ideal) ℓ) : Prop :=
  True

def Pre_DownxRefIdeal (m : (ℓ : Loc Cert.DownxRefIdeal.nD Cert.DownxRefIdeal.τ Cert.DownxRefIdeal.sig) → Buf (Elt Ideal) ℓ) : Prop :=
  True

def Pre_Downl (m : (ℓ : Loc Cert.Downl.nD Cert.Downl.τ Cert.Downl.sig) → Buf (Elt Bits) ℓ) : Prop :=
  True

def Pre_DownlIdeal (m : (ℓ : Loc Cert.DownlIdeal.nD Cert.DownlIdeal.τ Cert.DownlIdeal.sig) → Buf (Elt Ideal) ℓ) : Prop :=
  True

def Pre_DownlRefIdeal (m : (ℓ : Loc Cert.DownlRefIdeal.nD Cert.DownlRefIdeal.τ Cert.DownlRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Outln (m : (ℓ : Loc Cert.Outln.nD Cert.Outln.τ Cert.Outln.sig) → Buf (Elt Bits) ℓ) : Prop :=
  True

def Pre_OutlnIdeal (m : (ℓ : Loc Cert.OutlnIdeal.nD Cert.OutlnIdeal.τ Cert.OutlnIdeal.sig) → Buf (Elt Ideal) ℓ) : Prop :=
  True

def Pre_OutlnRefIdeal (m : (ℓ : Loc Cert.OutlnRefIdeal.nD Cert.OutlnRefIdeal.τ Cert.OutlnRefIdeal.sig) → Buf (Elt Ideal) ℓ) : Prop :=
  True

def Pre_Dxin (m : (ℓ : Loc Cert.Dxin.nD Cert.Dxin.τ Cert.Dxin.sig) → Buf (Elt Bits) ℓ) : Prop :=
  True

def Pre_DxinIdeal (m : (ℓ : Loc Cert.DxinIdeal.nD Cert.DxinIdeal.τ Cert.DxinIdeal.sig) → Buf (Elt Ideal) ℓ) : Prop :=
  True

def Pre_DxinRefIdeal (m : (ℓ : Loc Cert.DxinRefIdeal.nD Cert.DxinRefIdeal.τ Cert.DxinRefIdeal.sig) → Buf (Elt Ideal) ℓ) : Prop :=
  True

def Pre_Dxgu (m : (ℓ : Loc Cert.Dxgu.nD Cert.Dxgu.τ Cert.Dxgu.sig) → Buf (Elt Bits) ℓ) : Prop :=
  True

def Pre_DxguIdeal (m : (ℓ : Loc Cert.DxguIdeal.nD Cert.DxguIdeal.τ Cert.DxguIdeal.sig) → Buf (Elt Ideal) ℓ) : Prop :=
  True

def Pre_DxguRefIdeal (m : (ℓ : Loc Cert.DxguRefIdeal.nD Cert.DxguRefIdeal.τ Cert.DxguRefIdeal.sig) → Buf (Elt Ideal) ℓ) : Prop :=
  True

def Pre_Outb (m : (ℓ : Loc Cert.Outb.nD Cert.Outb.τ Cert.Outb.sig) → Buf (Elt Bits) ℓ) : Prop :=
  True

def Pre_OutbIdeal (m : (ℓ : Loc Cert.OutbIdeal.nD Cert.OutbIdeal.τ Cert.OutbIdeal.sig) → Buf (Elt Ideal) ℓ) : Prop :=
  True

def Pre_OutbIdeal_outb_finite [hPre_outb_finite : Cert.Pre_outb_finite.Facts] (m : (ℓ : Loc Cert.OutbIdeal.nD Cert.OutbIdeal.τ Cert.OutbIdeal.sig) → Buf (Elt Ideal) ℓ) : Prop :=
  ∀ c : Dev Cert.OutbIdeal.nD,
    (Cert.Pre_outb_finite.fn (F := Ideal) (m ((c.tc : Thread Cert.OutbIdeal.nD Cert.OutbIdeal.τ).loc Cert.OutbIdeal.main_arg0)) (m ((c.tc : Thread Cert.OutbIdeal.nD Cert.OutbIdeal.τ).loc Cert.OutbIdeal.main_arg1)) (m ((c.tc : Thread Cert.OutbIdeal.nD Cert.OutbIdeal.τ).loc Cert.OutbIdeal.main_arg2)) (m ((c.tc : Thread Cert.OutbIdeal.nD Cert.OutbIdeal.τ).loc Cert.OutbIdeal.main_arg3)) (m ((c.tc : Thread Cert.OutbIdeal.nD Cert.OutbIdeal.τ).loc Cert.OutbIdeal.main_arg4))) = (fun _ => 1#1)

def Pre_OutbRefIdeal (m : (ℓ : Loc Cert.OutbRefIdeal.nD Cert.OutbRefIdeal.τ Cert.OutbRefIdeal.sig) → Buf (Elt Ideal) ℓ) : Prop :=
  True

def Pre_OutbRefIdeal_outb_finite [hPre_outb_finite : Cert.Pre_outb_finite.Facts] (m : (ℓ : Loc Cert.OutbRefIdeal.nD Cert.OutbRefIdeal.τ Cert.OutbRefIdeal.sig) → Buf (Elt Ideal) ℓ) : Prop :=
  ∀ c : Dev Cert.OutbRefIdeal.nD,
    (Cert.Pre_outb_finite.fn (F := Ideal) (m ((c.tc : Thread Cert.OutbRefIdeal.nD Cert.OutbRefIdeal.τ).loc Cert.OutbRefIdeal.main_arg0)) (m ((c.tc : Thread Cert.OutbRefIdeal.nD Cert.OutbRefIdeal.τ).loc Cert.OutbRefIdeal.main_arg1)) (m ((c.tc : Thread Cert.OutbRefIdeal.nD Cert.OutbRefIdeal.τ).loc Cert.OutbRefIdeal.main_arg2)) (m ((c.tc : Thread Cert.OutbRefIdeal.nD Cert.OutbRefIdeal.τ).loc Cert.OutbRefIdeal.main_arg3)) (m ((c.tc : Thread Cert.OutbRefIdeal.nD Cert.OutbRefIdeal.τ).loc Cert.OutbRefIdeal.main_arg4))) = (fun _ => 1#1)

def Pre_Ffb (m : (ℓ : Loc Cert.Ffb.nD Cert.Ffb.τ Cert.Ffb.sig) → Buf (Elt Bits) ℓ) : Prop :=
  True

def Pre_FfbIdeal (m : (ℓ : Loc Cert.FfbIdeal.nD Cert.FfbIdeal.τ Cert.FfbIdeal.sig) → Buf (Elt Ideal) ℓ) : Prop :=
  True

def Pre_FfbIdeal_ffb_finite [hPre_ffb_finite : Cert.Pre_ffb_finite.Facts] (m : (ℓ : Loc Cert.FfbIdeal.nD Cert.FfbIdeal.τ Cert.FfbIdeal.sig) → Buf (Elt Ideal) ℓ) : Prop :=
  ∀ c : Dev Cert.FfbIdeal.nD,
    (Cert.Pre_ffb_finite.fn (F := Ideal) (m ((c.tc : Thread Cert.FfbIdeal.nD Cert.FfbIdeal.τ).loc Cert.FfbIdeal.main_arg0)) (m ((c.tc : Thread Cert.FfbIdeal.nD Cert.FfbIdeal.τ).loc Cert.FfbIdeal.main_arg1)) (m ((c.tc : Thread Cert.FfbIdeal.nD Cert.FfbIdeal.τ).loc Cert.FfbIdeal.main_arg2)) (m ((c.tc : Thread Cert.FfbIdeal.nD Cert.FfbIdeal.τ).loc Cert.FfbIdeal.main_arg3)) (m ((c.tc : Thread Cert.FfbIdeal.nD Cert.FfbIdeal.τ).loc Cert.FfbIdeal.main_arg4)) (m ((c.tc : Thread Cert.FfbIdeal.nD Cert.FfbIdeal.τ).loc Cert.FfbIdeal.main_arg5))) = (fun _ => 1#1)

def Pre_FfbRefIdeal (m : (ℓ : Loc Cert.FfbRefIdeal.nD Cert.FfbRefIdeal.τ Cert.FfbRefIdeal.sig) → Buf (Elt Ideal) ℓ) : Prop :=
  True

def Pre_FfbRefIdeal_ffb_finite [hPre_ffb_finite : Cert.Pre_ffb_finite.Facts] (m : (ℓ : Loc Cert.FfbRefIdeal.nD Cert.FfbRefIdeal.τ Cert.FfbRefIdeal.sig) → Buf (Elt Ideal) ℓ) : Prop :=
  ∀ c : Dev Cert.FfbRefIdeal.nD,
    (Cert.Pre_ffb_finite.fn (F := Ideal) (m ((c.tc : Thread Cert.FfbRefIdeal.nD Cert.FfbRefIdeal.τ).loc Cert.FfbRefIdeal.main_arg0)) (m ((c.tc : Thread Cert.FfbRefIdeal.nD Cert.FfbRefIdeal.τ).loc Cert.FfbRefIdeal.main_arg1)) (m ((c.tc : Thread Cert.FfbRefIdeal.nD Cert.FfbRefIdeal.τ).loc Cert.FfbRefIdeal.main_arg2)) (m ((c.tc : Thread Cert.FfbRefIdeal.nD Cert.FfbRefIdeal.τ).loc Cert.FfbRefIdeal.main_arg3)) (m ((c.tc : Thread Cert.FfbRefIdeal.nD Cert.FfbRefIdeal.τ).loc Cert.FfbRefIdeal.main_arg4)) (m ((c.tc : Thread Cert.FfbRefIdeal.nD Cert.FfbRefIdeal.τ).loc Cert.FfbRefIdeal.main_arg5))) = (fun _ => 1#1)

def Pre_Attf (m : (ℓ : Loc Cert.Attf.nD Cert.Attf.τ Cert.Attf.sig) → Buf (Elt Bits) ℓ) : Prop :=
  True

def Pre_AttfIdeal (m : (ℓ : Loc Cert.AttfIdeal.nD Cert.AttfIdeal.τ Cert.AttfIdeal.sig) → Buf (Elt Ideal) ℓ) : Prop :=
  True

def Pre_AttfIdeal_att_finite [hPre_att_finite : Cert.Pre_att_finite.Facts] (m : (ℓ : Loc Cert.AttfIdeal.nD Cert.AttfIdeal.τ Cert.AttfIdeal.sig) → Buf (Elt Ideal) ℓ) : Prop :=
  ∀ c : Dev Cert.AttfIdeal.nD,
    (Cert.Pre_att_finite.fn (F := Ideal) (m ((c.tc : Thread Cert.AttfIdeal.nD Cert.AttfIdeal.τ).loc Cert.AttfIdeal.main_arg0)) (m ((c.tc : Thread Cert.AttfIdeal.nD Cert.AttfIdeal.τ).loc Cert.AttfIdeal.main_arg1)) (m ((c.tc : Thread Cert.AttfIdeal.nD Cert.AttfIdeal.τ).loc Cert.AttfIdeal.main_arg2)) (m ((c.tc : Thread Cert.AttfIdeal.nD Cert.AttfIdeal.τ).loc Cert.AttfIdeal.main_arg3))) = (fun _ => 1#1)

def Pre_AttfRefIdeal (m : (ℓ : Loc Cert.AttfRefIdeal.nD Cert.AttfRefIdeal.τ Cert.AttfRefIdeal.sig) → Buf (Elt Ideal) ℓ) : Prop :=
  True

def Pre_AttfRefIdeal_att_finite [hPre_att_finite : Cert.Pre_att_finite.Facts] (m : (ℓ : Loc Cert.AttfRefIdeal.nD Cert.AttfRefIdeal.τ Cert.AttfRefIdeal.sig) → Buf (Elt Ideal) ℓ) : Prop :=
  ∀ c : Dev Cert.AttfRefIdeal.nD,
    (Cert.Pre_att_finite.fn (F := Ideal) (m ((c.tc : Thread Cert.AttfRefIdeal.nD Cert.AttfRefIdeal.τ).loc Cert.AttfRefIdeal.main_arg0)) (m ((c.tc : Thread Cert.AttfRefIdeal.nD Cert.AttfRefIdeal.τ).loc Cert.AttfRefIdeal.main_arg1)) (m ((c.tc : Thread Cert.AttfRefIdeal.nD Cert.AttfRefIdeal.τ).loc Cert.AttfRefIdeal.main_arg2)) (m ((c.tc : Thread Cert.AttfRefIdeal.nD Cert.AttfRefIdeal.τ).loc Cert.AttfRefIdeal.main_arg3))) = (fun _ => 1#1)

def Pre_Sada (m : (ℓ : Loc Cert.Sada.nD Cert.Sada.τ Cert.Sada.sig) → Buf (Elt Bits) ℓ) : Prop :=
  True

def Pre_SadaIdeal (m : (ℓ : Loc Cert.SadaIdeal.nD Cert.SadaIdeal.τ Cert.SadaIdeal.sig) → Buf (Elt Ideal) ℓ) : Prop :=
  True

def Pre_SadaRefIdeal (m : (ℓ : Loc Cert.SadaRefIdeal.nD Cert.SadaRefIdeal.τ Cert.SadaRefIdeal.sig) → Buf (Elt Ideal) ℓ) : Prop :=
  True

def Pre_Sadb (m : (ℓ : Loc Cert.Sadb.nD Cert.Sadb.τ Cert.Sadb.sig) → Buf (Elt Bits) ℓ) : Prop :=
  True

def Pre_SadbIdeal (m : (ℓ : Loc Cert.SadbIdeal.nD Cert.SadbIdeal.τ Cert.SadbIdeal.sig) → Buf (Elt Ideal) ℓ) : Prop :=
  True

def Pre_SadbRefIdeal (m : (ℓ : Loc Cert.SadbRefIdeal.nD Cert.SadbRefIdeal.τ Cert.SadbRefIdeal.sig) → Buf (Elt Ideal) ℓ) : Prop :=
  True

def Pre_Sadc (m : (ℓ : Loc Cert.Sadc.nD Cert.Sadc.τ Cert.Sadc.sig) → Buf (Elt Bits) ℓ) : Prop :=
  True

def Pre_SadcIdeal (m : (ℓ : Loc Cert.SadcIdeal.nD Cert.SadcIdeal.τ Cert.SadcIdeal.sig) → Buf (Elt Ideal) ℓ) : Prop :=
  True

def Pre_SadcRefIdeal (m : (ℓ : Loc Cert.SadcRefIdeal.nD Cert.SadcRefIdeal.τ Cert.SadcRefIdeal.sig) → Buf (Elt Ideal) ℓ) : Prop :=
  True

def Pre_Sadd (m : (ℓ : Loc Cert.Sadd.nD Cert.Sadd.τ Cert.Sadd.sig) → Buf (Elt Bits) ℓ) : Prop :=
  True

def Pre_SaddIdeal (m : (ℓ : Loc Cert.SaddIdeal.nD Cert.SaddIdeal.τ Cert.SaddIdeal.sig) → Buf (Elt Ideal) ℓ) : Prop :=
  True

def Pre_SaddRefIdeal (m : (ℓ : Loc Cert.SaddRefIdeal.nD Cert.SaddRefIdeal.τ Cert.SaddRefIdeal.sig) → Buf (Elt Ideal) ℓ) : Prop :=
  True

def Pre_Ssum (m : (ℓ : Loc Cert.Ssum.nD Cert.Ssum.τ Cert.Ssum.sig) → Buf (Elt Bits) ℓ) : Prop :=
  True

def Pre_SsumIdeal (m : (ℓ : Loc Cert.SsumIdeal.nD Cert.SsumIdeal.τ Cert.SsumIdeal.sig) → Buf (Elt Ideal) ℓ) : Prop :=
  True

def Pre_SsumRefIdeal (m : (ℓ : Loc Cert.SsumRefIdeal.nD Cert.SsumRefIdeal.τ Cert.SsumRefIdeal.sig) → Buf (Elt Ideal) ℓ) : Prop :=
  True

def Pre_Mixf (m : (ℓ : Loc Cert.Mixf.nD Cert.Mixf.τ Cert.Mixf.sig) → Buf (Elt Bits) ℓ) : Prop :=
  True

def Pre_MixfIdeal (m : (ℓ : Loc Cert.MixfIdeal.nD Cert.MixfIdeal.τ Cert.MixfIdeal.sig) → Buf (Elt Ideal) ℓ) : Prop :=
  True

def Pre_MixfRefIdeal (m : (ℓ : Loc Cert.MixfRefIdeal.nD Cert.MixfRefIdeal.τ Cert.MixfRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Wdown [hWdown : Cert.Wdown.Facts] : Prop :=
  ∀ (m : (ℓ : Loc Cert.Wdown.nD Cert.Wdown.τ Cert.Wdown.sig) → Buf (Elt Bits) ℓ) (g : Dev Cert.Wdown.nD → PrngReg), Pre_Wdown m →
    θ_run (Cert.Wdown.defs (F := Bits)) (onTc (τ := Cert.Wdown.τ) (Cert.Wdown.main (F := Bits))) ⟨m, fun _ => 0, g⟩ (fun r => (∀ c : Dev Cert.Wdown.nD,
      r.2.mem ((c.tc : Thread Cert.Wdown.nD Cert.Wdown.τ).loc Cert.Wdown.main_arg0) = m ((c.tc : Thread Cert.Wdown.nD Cert.Wdown.τ).loc Cert.Wdown.main_arg0)
      ∧ r.2.mem ((c.tc : Thread Cert.Wdown.nD Cert.Wdown.τ).loc Cert.Wdown.main_arg1) = m ((c.tc : Thread Cert.Wdown.nD Cert.Wdown.τ).loc Cert.Wdown.main_arg1))
      ∧ r.2.sem = fun _ => 0)

def quiescent_WdownIdeal [hWdownIdeal : Cert.WdownIdeal.Facts] : Prop :=
  ∀ (m : (ℓ : Loc Cert.WdownIdeal.nD Cert.WdownIdeal.τ Cert.WdownIdeal.sig) → Buf (Elt Ideal) ℓ) (g : Dev Cert.WdownIdeal.nD → PrngReg), Pre_WdownIdeal m →
    θ_run (Cert.WdownIdeal.defs (F := Ideal)) (onTc (τ := Cert.WdownIdeal.τ) (Cert.WdownIdeal.main (F := Ideal))) ⟨m, fun _ => 0, g⟩ (fun r => (∀ c : Dev Cert.WdownIdeal.nD,
      r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
      ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ r.2.sem = fun _ => 0)

def quiescent_WdownRefIdeal [hWdownRefIdeal : Cert.WdownRefIdeal.Facts] : Prop :=
  ∀ (m : (ℓ : Loc Cert.WdownRefIdeal.nD Cert.WdownRefIdeal.τ Cert.WdownRefIdeal.sig) → Buf (Elt Ideal) ℓ) (g : Dev Cert.WdownRefIdeal.nD → PrngReg), Pre_WdownRefIdeal m →
    θ_run (Cert.WdownRefIdeal.defs (F := Ideal)) (onTc (τ := Cert.WdownRefIdeal.τ) (Cert.WdownRefIdeal.main (F := Ideal))) ⟨m, fun _ => 0, g⟩ (fun r => (∀ c : Dev Cert.WdownRefIdeal.nD,
      r.2.mem ((c.tc : Thread Cert.WdownRefIdeal.nD Cert.WdownRefIdeal.τ).loc Cert.WdownRefIdeal.main_arg0) = m ((c.tc : Thread Cert.WdownRefIdeal.nD Cert.WdownRefIdeal.τ).loc Cert.WdownRefIdeal.main_arg0)
      ∧ r.2.mem ((c.tc : Thread Cert.WdownRefIdeal.nD Cert.WdownRefIdeal.τ).loc Cert.WdownRefIdeal.main_arg1) = m ((c.tc : Thread Cert.WdownRefIdeal.nD Cert.WdownRefIdeal.τ).loc Cert.WdownRefIdeal.main_arg1))
      ∧ r.2.sem = fun _ => 0)

def quiescent_Wgu [hWgu : Cert.Wgu.Facts] : Prop :=
  ∀ (m : (ℓ : Loc Cert.Wgu.nD Cert.Wgu.τ Cert.Wgu.sig) → Buf (Elt Bits) ℓ) (g : Dev Cert.Wgu.nD → PrngReg), Pre_Wgu m →
    θ_run (Cert.Wgu.defs (F := Bits)) (onTc (τ := Cert.Wgu.τ) (Cert.Wgu.main (F := Bits))) ⟨m, fun _ => 0, g⟩ (fun r => (∀ c : Dev Cert.Wgu.nD,
      r.2.mem ((c.tc : Thread Cert.Wgu.nD Cert.Wgu.τ).loc Cert.Wgu.main_arg0) = m ((c.tc : Thread Cert.Wgu.nD Cert.Wgu.τ).loc Cert.Wgu.main_arg0)
      ∧ r.2.mem ((c.tc : Thread Cert.Wgu.nD Cert.Wgu.τ).loc Cert.Wgu.main_arg1) = m ((c.tc : Thread Cert.Wgu.nD Cert.Wgu.τ).loc Cert.Wgu.main_arg1))
      ∧ r.2.sem = fun _ => 0)

def quiescent_WguIdeal [hWguIdeal : Cert.WguIdeal.Facts] : Prop :=
  ∀ (m : (ℓ : Loc Cert.WguIdeal.nD Cert.WguIdeal.τ Cert.WguIdeal.sig) → Buf (Elt Ideal) ℓ) (g : Dev Cert.WguIdeal.nD → PrngReg), Pre_WguIdeal m →
    θ_run (Cert.WguIdeal.defs (F := Ideal)) (onTc (τ := Cert.WguIdeal.τ) (Cert.WguIdeal.main (F := Ideal))) ⟨m, fun _ => 0, g⟩ (fun r => (∀ c : Dev Cert.WguIdeal.nD,
      r.2.mem ((c.tc : Thread Cert.WguIdeal.nD Cert.WguIdeal.τ).loc Cert.WguIdeal.main_arg0) = m ((c.tc : Thread Cert.WguIdeal.nD Cert.WguIdeal.τ).loc Cert.WguIdeal.main_arg0)
      ∧ r.2.mem ((c.tc : Thread Cert.WguIdeal.nD Cert.WguIdeal.τ).loc Cert.WguIdeal.main_arg1) = m ((c.tc : Thread Cert.WguIdeal.nD Cert.WguIdeal.τ).loc Cert.WguIdeal.main_arg1))
      ∧ r.2.sem = fun _ => 0)

def quiescent_WguRefIdeal [hWguRefIdeal : Cert.WguRefIdeal.Facts] : Prop :=
  ∀ (m : (ℓ : Loc Cert.WguRefIdeal.nD Cert.WguRefIdeal.τ Cert.WguRefIdeal.sig) → Buf (Elt Ideal) ℓ) (g : Dev Cert.WguRefIdeal.nD → PrngReg), Pre_WguRefIdeal m →
    θ_run (Cert.WguRefIdeal.defs (F := Ideal)) (onTc (τ := Cert.WguRefIdeal.τ) (Cert.WguRefIdeal.main (F := Ideal))) ⟨m, fun _ => 0, g⟩ (fun r => (∀ c : Dev Cert.WguRefIdeal.nD,
      r.2.mem ((c.tc : Thread Cert.WguRefIdeal.nD Cert.WguRefIdeal.τ).loc Cert.WguRefIdeal.main_arg0) = m ((c.tc : Thread Cert.WguRefIdeal.nD Cert.WguRefIdeal.τ).loc Cert.WguRefIdeal.main_arg0)
      ∧ r.2.mem ((c.tc : Thread Cert.WguRefIdeal.nD Cert.WguRefIdeal.τ).loc Cert.WguRefIdeal.main_arg1) = m ((c.tc : Thread Cert.WguRefIdeal.nD Cert.WguRefIdeal.τ).loc Cert.WguRefIdeal.main_arg1))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6))
      ∧ r.2.sem = fun _ => 0)

def quiescent_Downx [hDownx : Cert.Downx.Facts] : Prop :=
  ∀ (m : (ℓ : Loc Cert.Downx.nD Cert.Downx.τ Cert.Downx.sig) → Buf (Elt Bits) ℓ) (g : Dev Cert.Downx.nD → PrngReg), Pre_Downx m →
    θ_run (Cert.Downx.defs (F := Bits)) (onTc (τ := Cert.Downx.τ) (Cert.Downx.main (F := Bits))) ⟨m, fun _ => 0, g⟩ (fun r => (∀ c : Dev Cert.Downx.nD,
      r.2.mem ((c.tc : Thread Cert.Downx.nD Cert.Downx.τ).loc Cert.Downx.main_arg0) = m ((c.tc : Thread Cert.Downx.nD Cert.Downx.τ).loc Cert.Downx.main_arg0)
      ∧ r.2.mem ((c.tc : Thread Cert.Downx.nD Cert.Downx.τ).loc Cert.Downx.main_arg1) = m ((c.tc : Thread Cert.Downx.nD Cert.Downx.τ).loc Cert.Downx.main_arg1)
      ∧ r.2.mem ((c.tc : Thread Cert.Downx.nD Cert.Downx.τ).loc Cert.Downx.main_arg2) = m ((c.tc : Thread Cert.Downx.nD Cert.Downx.τ).loc Cert.Downx.main_arg2)
      ∧ r.2.mem ((c.tc : Thread Cert.Downx.nD Cert.Downx.τ).loc Cert.Downx.main_arg3) = m ((c.tc : Thread Cert.Downx.nD Cert.Downx.τ).loc Cert.Downx.main_arg3)
      ∧ r.2.mem ((c.tc : Thread Cert.Downx.nD Cert.Downx.τ).loc Cert.Downx.main_arg4) = m ((c.tc : Thread Cert.Downx.nD Cert.Downx.τ).loc Cert.Downx.main_arg4))
      ∧ r.2.sem = fun _ => 0)

def quiescent_DownxIdeal [hDownxIdeal : Cert.DownxIdeal.Facts] : Prop :=
  ∀ (m : (ℓ : Loc Cert.DownxIdeal.nD Cert.DownxIdeal.τ Cert.DownxIdeal.sig) → Buf (Elt Ideal) ℓ) (g : Dev Cert.DownxIdeal.nD → PrngReg), Pre_DownxIdeal m →
    θ_run (Cert.DownxIdeal.defs (F := Ideal)) (onTc (τ := Cert.DownxIdeal.τ) (Cert.DownxIdeal.main (F := Ideal))) ⟨m, fun _ => 0, g⟩ (fun r => (∀ c : Dev Cert.DownxIdeal.nD,
      r.2.mem ((c.tc : Thread Cert.DownxIdeal.nD Cert.DownxIdeal.τ).loc Cert.DownxIdeal.main_arg0) = m ((c.tc : Thread Cert.DownxIdeal.nD Cert.DownxIdeal.τ).loc Cert.DownxIdeal.main_arg0)
      ∧ r.2.mem ((c.tc : Thread Cert.DownxIdeal.nD Cert.DownxIdeal.τ).loc Cert.DownxIdeal.main_arg1) = m ((c.tc : Thread Cert.DownxIdeal.nD Cert.DownxIdeal.τ).loc Cert.DownxIdeal.main_arg1)
      ∧ r.2.mem ((c.tc : Thread Cert.DownxIdeal.nD Cert.DownxIdeal.τ).loc Cert.DownxIdeal.main_arg2) = m ((c.tc : Thread Cert.DownxIdeal.nD Cert.DownxIdeal.τ).loc Cert.DownxIdeal.main_arg2)
      ∧ r.2.mem ((c.tc : Thread Cert.DownxIdeal.nD Cert.DownxIdeal.τ).loc Cert.DownxIdeal.main_arg3) = m ((c.tc : Thread Cert.DownxIdeal.nD Cert.DownxIdeal.τ).loc Cert.DownxIdeal.main_arg3)
      ∧ r.2.mem ((c.tc : Thread Cert.DownxIdeal.nD Cert.DownxIdeal.τ).loc Cert.DownxIdeal.main_arg4) = m ((c.tc : Thread Cert.DownxIdeal.nD Cert.DownxIdeal.τ).loc Cert.DownxIdeal.main_arg4))
      ∧ r.2.sem = fun _ => 0)

def quiescent_DownxRefIdeal [hDownxRefIdeal : Cert.DownxRefIdeal.Facts] : Prop :=
  ∀ (m : (ℓ : Loc Cert.DownxRefIdeal.nD Cert.DownxRefIdeal.τ Cert.DownxRefIdeal.sig) → Buf (Elt Ideal) ℓ) (g : Dev Cert.DownxRefIdeal.nD → PrngReg), Pre_DownxRefIdeal m →
    θ_run (Cert.DownxRefIdeal.defs (F := Ideal)) (onTc (τ := Cert.DownxRefIdeal.τ) (Cert.DownxRefIdeal.main (F := Ideal))) ⟨m, fun _ => 0, g⟩ (fun r => (∀ c : Dev Cert.DownxRefIdeal.nD,
      r.2.mem ((c.tc : Thread Cert.DownxRefIdeal.nD Cert.DownxRefIdeal.τ).loc Cert.DownxRefIdeal.main_arg0) = m ((c.tc : Thread Cert.DownxRefIdeal.nD Cert.DownxRefIdeal.τ).loc Cert.DownxRefIdeal.main_arg0)
      ∧ r.2.mem ((c.tc : Thread Cert.DownxRefIdeal.nD Cert.DownxRefIdeal.τ).loc Cert.DownxRefIdeal.main_arg1) = m ((c.tc : Thread Cert.DownxRefIdeal.nD Cert.DownxRefIdeal.τ).loc Cert.DownxRefIdeal.main_arg1)
      ∧ r.2.mem ((c.tc : Thread Cert.DownxRefIdeal.nD Cert.DownxRefIdeal.τ).loc Cert.DownxRefIdeal.main_arg2) = m ((c.tc : Thread Cert.DownxRefIdeal.nD Cert.DownxRefIdeal.τ).loc Cert.DownxRefIdeal.main_arg2)
      ∧ r.2.mem ((c.tc : Thread Cert.DownxRefIdeal.nD Cert.DownxRefIdeal.τ).loc Cert.DownxRefIdeal.main_arg3) = m ((c.tc : Thread Cert.DownxRefIdeal.nD Cert.DownxRefIdeal.τ).loc Cert.DownxRefIdeal.main_arg3)
      ∧ r.2.mem ((c.tc : Thread Cert.DownxRefIdeal.nD Cert.DownxRefIdeal.τ).loc Cert.DownxRefIdeal.main_arg4) = m ((c.tc : Thread Cert.DownxRefIdeal.nD Cert.DownxRefIdeal.τ).loc Cert.DownxRefIdeal.main_arg4))
      ∧ r.2.sem = fun _ => 0)

def quiescent_Downl [hDownl : Cert.Downl.Facts] : Prop :=
  ∀ (m : (ℓ : Loc Cert.Downl.nD Cert.Downl.τ Cert.Downl.sig) → Buf (Elt Bits) ℓ) (g : Dev Cert.Downl.nD → PrngReg), Pre_Downl m →
    θ_run (Cert.Downl.defs (F := Bits)) (onTc (τ := Cert.Downl.τ) (Cert.Downl.main (F := Bits))) ⟨m, fun _ => 0, g⟩ (fun r => (∀ c : Dev Cert.Downl.nD,
      r.2.mem ((c.tc : Thread Cert.Downl.nD Cert.Downl.τ).loc Cert.Downl.main_arg0) = m ((c.tc : Thread Cert.Downl.nD Cert.Downl.τ).loc Cert.Downl.main_arg0)
      ∧ r.2.mem ((c.tc : Thread Cert.Downl.nD Cert.Downl.τ).loc Cert.Downl.main_arg1) = m ((c.tc : Thread Cert.Downl.nD Cert.Downl.τ).loc Cert.Downl.main_arg1)
      ∧ r.2.mem ((c.tc : Thread Cert.Downl.nD Cert.Downl.τ).loc Cert.Downl.main_arg2) = m ((c.tc : Thread Cert.Downl.nD Cert.Downl.τ).loc Cert.Downl.main_arg2)
      ∧ r.2.mem ((c.tc : Thread Cert.Downl.nD Cert.Downl.τ).loc Cert.Downl.main_arg3) = m ((c.tc : Thread Cert.Downl.nD Cert.Downl.τ).loc Cert.Downl.main_arg3)
      ∧ r.2.mem ((c.tc : Thread Cert.Downl.nD Cert.Downl.τ).loc Cert.Downl.main_arg4) = m ((c.tc : Thread Cert.Downl.nD Cert.Downl.τ).loc Cert.Downl.main_arg4)
      ∧ r.2.mem ((c.tc : Thread Cert.Downl.nD Cert.Downl.τ).loc Cert.Downl.main_arg5) = m ((c.tc : Thread Cert.Downl.nD Cert.Downl.τ).loc Cert.Downl.main_arg5)
      ∧ r.2.mem ((c.tc : Thread Cert.Downl.nD Cert.Downl.τ).loc Cert.Downl.main_arg6) = m ((c.tc : Thread Cert.Downl.nD Cert.Downl.τ).loc Cert.Downl.main_arg6)
      ∧ r.2.mem ((c.tc : Thread Cert.Downl.nD Cert.Downl.τ).loc Cert.Downl.main_arg7) = m ((c.tc : Thread Cert.Downl.nD Cert.Downl.τ).loc Cert.Downl.main_arg7))
      ∧ r.2.sem = fun _ => 0)

def quiescent_DownlIdeal [hDownlIdeal : Cert.DownlIdeal.Facts] : Prop :=
  ∀ (m : (ℓ : Loc Cert.DownlIdeal.nD Cert.DownlIdeal.τ Cert.DownlIdeal.sig) → Buf (Elt Ideal) ℓ) (g : Dev Cert.DownlIdeal.nD → PrngReg), Pre_DownlIdeal m →
    θ_run (Cert.DownlIdeal.defs (F := Ideal)) (onTc (τ := Cert.DownlIdeal.τ) (Cert.DownlIdeal.main (F := Ideal))) ⟨m, fun _ => 0, g⟩ (fun r => (∀ c : Dev Cert.DownlIdeal.nD,
      r.2.mem ((c.tc : Thread Cert.DownlIdeal.nD Cert.DownlIdeal.τ).loc Cert.DownlIdeal.main_arg0) = m ((c.tc : Thread Cert.DownlIdeal.nD Cert.DownlIdeal.τ).loc Cert.DownlIdeal.main_arg0)
      ∧ r.2.mem ((c.tc : Thread Cert.DownlIdeal.nD Cert.DownlIdeal.τ).loc Cert.DownlIdeal.main_arg1) = m ((c.tc : Thread Cert.DownlIdeal.nD Cert.DownlIdeal.τ).loc Cert.DownlIdeal.main_arg1)
      ∧ r.2.mem ((c.tc : Thread Cert.DownlIdeal.nD Cert.DownlIdeal.τ).loc Cert.DownlIdeal.main_arg2) = m ((c.tc : Thread Cert.DownlIdeal.nD Cert.DownlIdeal.τ).loc Cert.DownlIdeal.main_arg2)
      ∧ r.2.mem ((c.tc : Thread Cert.DownlIdeal.nD Cert.DownlIdeal.τ).loc Cert.DownlIdeal.main_arg3) = m ((c.tc : Thread Cert.DownlIdeal.nD Cert.DownlIdeal.τ).loc Cert.DownlIdeal.main_arg3)
      ∧ r.2.mem ((c.tc : Thread Cert.DownlIdeal.nD Cert.DownlIdeal.τ).loc Cert.DownlIdeal.main_arg4) = m ((c.tc : Thread Cert.DownlIdeal.nD Cert.DownlIdeal.τ).loc Cert.DownlIdeal.main_arg4)
      ∧ r.2.mem ((c.tc : Thread Cert.DownlIdeal.nD Cert.DownlIdeal.τ).loc Cert.DownlIdeal.main_arg5) = m ((c.tc : Thread Cert.DownlIdeal.nD Cert.DownlIdeal.τ).loc Cert.DownlIdeal.main_arg5)
      ∧ r.2.mem ((c.tc : Thread Cert.DownlIdeal.nD Cert.DownlIdeal.τ).loc Cert.DownlIdeal.main_arg6) = m ((c.tc : Thread Cert.DownlIdeal.nD Cert.DownlIdeal.τ).loc Cert.DownlIdeal.main_arg6)
      ∧ r.2.mem ((c.tc : Thread Cert.DownlIdeal.nD Cert.DownlIdeal.τ).loc Cert.DownlIdeal.main_arg7) = m ((c.tc : Thread Cert.DownlIdeal.nD Cert.DownlIdeal.τ).loc Cert.DownlIdeal.main_arg7))
      ∧ r.2.sem = fun _ => 0)

def quiescent_DownlRefIdeal [hDownlRefIdeal : Cert.DownlRefIdeal.Facts] : Prop :=
  ∀ (m : (ℓ : Loc Cert.DownlRefIdeal.nD Cert.DownlRefIdeal.τ Cert.DownlRefIdeal.sig) → Buf (Elt Ideal) ℓ) (g : Dev Cert.DownlRefIdeal.nD → PrngReg), Pre_DownlRefIdeal m →
    θ_run (Cert.DownlRefIdeal.defs (F := Ideal)) (onTc (τ := Cert.DownlRefIdeal.τ) (Cert.DownlRefIdeal.main (F := Ideal))) ⟨m, fun _ => 0, g⟩ (fun r => (∀ c : Dev Cert.DownlRefIdeal.nD,
      r.2.mem ((c.tc : Thread Cert.DownlRefIdeal.nD Cert.DownlRefIdeal.τ).loc Cert.DownlRefIdeal.main_arg0) = m ((c.tc : Thread Cert.DownlRefIdeal.nD Cert.DownlRefIdeal.τ).loc Cert.DownlRefIdeal.main_arg0)
      ∧ r.2.mem ((c.tc : Thread Cert.DownlRefIdeal.nD Cert.DownlRefIdeal.τ).loc Cert.DownlRefIdeal.main_arg1) = m ((c.tc : Thread Cert.DownlRefIdeal.nD Cert.DownlRefIdeal.τ).loc Cert.DownlRefIdeal.main_arg1)
      ∧ r.2.mem ((c.tc : Thread Cert.DownlRefIdeal.nD Cert.DownlRefIdeal.τ).loc Cert.DownlRefIdeal.main_arg2) = m ((c.tc : Thread Cert.DownlRefIdeal.nD Cert.DownlRefIdeal.τ).loc Cert.DownlRefIdeal.main_arg2)
      ∧ r.2.mem ((c.tc : Thread Cert.DownlRefIdeal.nD Cert.DownlRefIdeal.τ).loc Cert.DownlRefIdeal.main_arg3) = m ((c.tc : Thread Cert.DownlRefIdeal.nD Cert.DownlRefIdeal.τ).loc Cert.DownlRefIdeal.main_arg3)
      ∧ r.2.mem ((c.tc : Thread Cert.DownlRefIdeal.nD Cert.DownlRefIdeal.τ).loc Cert.DownlRefIdeal.main_arg4) = m ((c.tc : Thread Cert.DownlRefIdeal.nD Cert.DownlRefIdeal.τ).loc Cert.DownlRefIdeal.main_arg4)
      ∧ r.2.mem ((c.tc : Thread Cert.DownlRefIdeal.nD Cert.DownlRefIdeal.τ).loc Cert.DownlRefIdeal.main_arg5) = m ((c.tc : Thread Cert.DownlRefIdeal.nD Cert.DownlRefIdeal.τ).loc Cert.DownlRefIdeal.main_arg5)
      ∧ r.2.mem ((c.tc : Thread Cert.DownlRefIdeal.nD Cert.DownlRefIdeal.τ).loc Cert.DownlRefIdeal.main_arg6) = m ((c.tc : Thread Cert.DownlRefIdeal.nD Cert.DownlRefIdeal.τ).loc Cert.DownlRefIdeal.main_arg6)
      ∧ r.2.mem ((c.tc : Thread Cert.DownlRefIdeal.nD Cert.DownlRefIdeal.τ).loc Cert.DownlRefIdeal.main_arg7) = m ((c.tc : Thread Cert.DownlRefIdeal.nD Cert.DownlRefIdeal.τ).loc Cert.DownlRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Outln [hOutln : Cert.Outln.Facts] : Prop :=
  ∀ (m : (ℓ : Loc Cert.Outln.nD Cert.Outln.τ Cert.Outln.sig) → Buf (Elt Bits) ℓ) (g : Dev Cert.Outln.nD → PrngReg), Pre_Outln m →
    θ_run (Cert.Outln.defs (F := Bits)) (onTc (τ := Cert.Outln.τ) (Cert.Outln.main (F := Bits))) ⟨m, fun _ => 0, g⟩ (fun r => (∀ c : Dev Cert.Outln.nD,
      r.2.mem ((c.tc : Thread Cert.Outln.nD Cert.Outln.τ).loc Cert.Outln.main_arg0) = m ((c.tc : Thread Cert.Outln.nD Cert.Outln.τ).loc Cert.Outln.main_arg0)
      ∧ r.2.mem ((c.tc : Thread Cert.Outln.nD Cert.Outln.τ).loc Cert.Outln.main_arg1) = m ((c.tc : Thread Cert.Outln.nD Cert.Outln.τ).loc Cert.Outln.main_arg1)
      ∧ r.2.mem ((c.tc : Thread Cert.Outln.nD Cert.Outln.τ).loc Cert.Outln.main_arg2) = m ((c.tc : Thread Cert.Outln.nD Cert.Outln.τ).loc Cert.Outln.main_arg2)
      ∧ r.2.mem ((c.tc : Thread Cert.Outln.nD Cert.Outln.τ).loc Cert.Outln.main_arg3) = m ((c.tc : Thread Cert.Outln.nD Cert.Outln.τ).loc Cert.Outln.main_arg3)
      ∧ r.2.mem ((c.tc : Thread Cert.Outln.nD Cert.Outln.τ).loc Cert.Outln.main_arg4) = m ((c.tc : Thread Cert.Outln.nD Cert.Outln.τ).loc Cert.Outln.main_arg4)
      ∧ r.2.mem ((c.tc : Thread Cert.Outln.nD Cert.Outln.τ).loc Cert.Outln.main_arg5) = m ((c.tc : Thread Cert.Outln.nD Cert.Outln.τ).loc Cert.Outln.main_arg5)
      ∧ r.2.mem ((c.tc : Thread Cert.Outln.nD Cert.Outln.τ).loc Cert.Outln.main_arg6) = m ((c.tc : Thread Cert.Outln.nD Cert.Outln.τ).loc Cert.Outln.main_arg6)
      ∧ r.2.mem ((c.tc : Thread Cert.Outln.nD Cert.Outln.τ).loc Cert.Outln.main_arg7) = m ((c.tc : Thread Cert.Outln.nD Cert.Outln.τ).loc Cert.Outln.main_arg7)
      ∧ r.2.mem ((c.tc : Thread Cert.Outln.nD Cert.Outln.τ).loc Cert.Outln.main_arg8) = m ((c.tc : Thread Cert.Outln.nD Cert.Outln.τ).loc Cert.Outln.main_arg8))
      ∧ r.2.sem = fun _ => 0)

def quiescent_OutlnIdeal [hOutlnIdeal : Cert.OutlnIdeal.Facts] : Prop :=
  ∀ (m : (ℓ : Loc Cert.OutlnIdeal.nD Cert.OutlnIdeal.τ Cert.OutlnIdeal.sig) → Buf (Elt Ideal) ℓ) (g : Dev Cert.OutlnIdeal.nD → PrngReg), Pre_OutlnIdeal m →
    θ_run (Cert.OutlnIdeal.defs (F := Ideal)) (onTc (τ := Cert.OutlnIdeal.τ) (Cert.OutlnIdeal.main (F := Ideal))) ⟨m, fun _ => 0, g⟩ (fun r => (∀ c : Dev Cert.OutlnIdeal.nD,
      r.2.mem ((c.tc : Thread Cert.OutlnIdeal.nD Cert.OutlnIdeal.τ).loc Cert.OutlnIdeal.main_arg0) = m ((c.tc : Thread Cert.OutlnIdeal.nD Cert.OutlnIdeal.τ).loc Cert.OutlnIdeal.main_arg0)
      ∧ r.2.mem ((c.tc : Thread Cert.OutlnIdeal.nD Cert.OutlnIdeal.τ).loc Cert.OutlnIdeal.main_arg1) = m ((c.tc : Thread Cert.OutlnIdeal.nD Cert.OutlnIdeal.τ).loc Cert.OutlnIdeal.main_arg1)
      ∧ r.2.mem ((c.tc : Thread Cert.OutlnIdeal.nD Cert.OutlnIdeal.τ).loc Cert.OutlnIdeal.main_arg2) = m ((c.tc : Thread Cert.OutlnIdeal.nD Cert.OutlnIdeal.τ).loc Cert.OutlnIdeal.main_arg2)
      ∧ r.2.mem ((c.tc : Thread Cert.OutlnIdeal.nD Cert.OutlnIdeal.τ).loc Cert.OutlnIdeal.main_arg3) = m ((c.tc : Thread Cert.OutlnIdeal.nD Cert.OutlnIdeal.τ).loc Cert.OutlnIdeal.main_arg3)
      ∧ r.2.mem ((c.tc : Thread Cert.OutlnIdeal.nD Cert.OutlnIdeal.τ).loc Cert.OutlnIdeal.main_arg4) = m ((c.tc : Thread Cert.OutlnIdeal.nD Cert.OutlnIdeal.τ).loc Cert.OutlnIdeal.main_arg4)
      ∧ r.2.mem ((c.tc : Thread Cert.OutlnIdeal.nD Cert.OutlnIdeal.τ).loc Cert.OutlnIdeal.main_arg5) = m ((c.tc : Thread Cert.OutlnIdeal.nD Cert.OutlnIdeal.τ).loc Cert.OutlnIdeal.main_arg5)
      ∧ r.2.mem ((c.tc : Thread Cert.OutlnIdeal.nD Cert.OutlnIdeal.τ).loc Cert.OutlnIdeal.main_arg6) = m ((c.tc : Thread Cert.OutlnIdeal.nD Cert.OutlnIdeal.τ).loc Cert.OutlnIdeal.main_arg6)
      ∧ r.2.mem ((c.tc : Thread Cert.OutlnIdeal.nD Cert.OutlnIdeal.τ).loc Cert.OutlnIdeal.main_arg7) = m ((c.tc : Thread Cert.OutlnIdeal.nD Cert.OutlnIdeal.τ).loc Cert.OutlnIdeal.main_arg7)
      ∧ r.2.mem ((c.tc : Thread Cert.OutlnIdeal.nD Cert.OutlnIdeal.τ).loc Cert.OutlnIdeal.main_arg8) = m ((c.tc : Thread Cert.OutlnIdeal.nD Cert.OutlnIdeal.τ).loc Cert.OutlnIdeal.main_arg8))
      ∧ r.2.sem = fun _ => 0)

def quiescent_OutlnRefIdeal [hOutlnRefIdeal : Cert.OutlnRefIdeal.Facts] : Prop :=
  ∀ (m : (ℓ : Loc Cert.OutlnRefIdeal.nD Cert.OutlnRefIdeal.τ Cert.OutlnRefIdeal.sig) → Buf (Elt Ideal) ℓ) (g : Dev Cert.OutlnRefIdeal.nD → PrngReg), Pre_OutlnRefIdeal m →
    θ_run (Cert.OutlnRefIdeal.defs (F := Ideal)) (onTc (τ := Cert.OutlnRefIdeal.τ) (Cert.OutlnRefIdeal.main (F := Ideal))) ⟨m, fun _ => 0, g⟩ (fun r => (∀ c : Dev Cert.OutlnRefIdeal.nD,
      r.2.mem ((c.tc : Thread Cert.OutlnRefIdeal.nD Cert.OutlnRefIdeal.τ).loc Cert.OutlnRefIdeal.main_arg0) = m ((c.tc : Thread Cert.OutlnRefIdeal.nD Cert.OutlnRefIdeal.τ).loc Cert.OutlnRefIdeal.main_arg0)
      ∧ r.2.mem ((c.tc : Thread Cert.OutlnRefIdeal.nD Cert.OutlnRefIdeal.τ).loc Cert.OutlnRefIdeal.main_arg1) = m ((c.tc : Thread Cert.OutlnRefIdeal.nD Cert.OutlnRefIdeal.τ).loc Cert.OutlnRefIdeal.main_arg1)
      ∧ r.2.mem ((c.tc : Thread Cert.OutlnRefIdeal.nD Cert.OutlnRefIdeal.τ).loc Cert.OutlnRefIdeal.main_arg2) = m ((c.tc : Thread Cert.OutlnRefIdeal.nD Cert.OutlnRefIdeal.τ).loc Cert.OutlnRefIdeal.main_arg2)
      ∧ r.2.mem ((c.tc : Thread Cert.OutlnRefIdeal.nD Cert.OutlnRefIdeal.τ).loc Cert.OutlnRefIdeal.main_arg3) = m ((c.tc : Thread Cert.OutlnRefIdeal.nD Cert.OutlnRefIdeal.τ).loc Cert.OutlnRefIdeal.main_arg3)
      ∧ r.2.mem ((c.tc : Thread Cert.OutlnRefIdeal.nD Cert.OutlnRefIdeal.τ).loc Cert.OutlnRefIdeal.main_arg4) = m ((c.tc : Thread Cert.OutlnRefIdeal.nD Cert.OutlnRefIdeal.τ).loc Cert.OutlnRefIdeal.main_arg4)
      ∧ r.2.mem ((c.tc : Thread Cert.OutlnRefIdeal.nD Cert.OutlnRefIdeal.τ).loc Cert.OutlnRefIdeal.main_arg5) = m ((c.tc : Thread Cert.OutlnRefIdeal.nD Cert.OutlnRefIdeal.τ).loc Cert.OutlnRefIdeal.main_arg5)
      ∧ r.2.mem ((c.tc : Thread Cert.OutlnRefIdeal.nD Cert.OutlnRefIdeal.τ).loc Cert.OutlnRefIdeal.main_arg6) = m ((c.tc : Thread Cert.OutlnRefIdeal.nD Cert.OutlnRefIdeal.τ).loc Cert.OutlnRefIdeal.main_arg6)
      ∧ r.2.mem ((c.tc : Thread Cert.OutlnRefIdeal.nD Cert.OutlnRefIdeal.τ).loc Cert.OutlnRefIdeal.main_arg7) = m ((c.tc : Thread Cert.OutlnRefIdeal.nD Cert.OutlnRefIdeal.τ).loc Cert.OutlnRefIdeal.main_arg7)
      ∧ r.2.mem ((c.tc : Thread Cert.OutlnRefIdeal.nD Cert.OutlnRefIdeal.τ).loc Cert.OutlnRefIdeal.main_arg8) = m ((c.tc : Thread Cert.OutlnRefIdeal.nD Cert.OutlnRefIdeal.τ).loc Cert.OutlnRefIdeal.main_arg8))
      ∧ r.2.sem = fun _ => 0)

def quiescent_Dxin [hDxin : Cert.Dxin.Facts] : Prop :=
  ∀ (m : (ℓ : Loc Cert.Dxin.nD Cert.Dxin.τ Cert.Dxin.sig) → Buf (Elt Bits) ℓ) (g : Dev Cert.Dxin.nD → PrngReg), Pre_Dxin m →
    θ_run (Cert.Dxin.defs (F := Bits)) (onTc (τ := Cert.Dxin.τ) (Cert.Dxin.main (F := Bits))) ⟨m, fun _ => 0, g⟩ (fun r => (∀ c : Dev Cert.Dxin.nD,
      r.2.mem ((c.tc : Thread Cert.Dxin.nD Cert.Dxin.τ).loc Cert.Dxin.main_arg0) = m ((c.tc : Thread Cert.Dxin.nD Cert.Dxin.τ).loc Cert.Dxin.main_arg0)
      ∧ r.2.mem ((c.tc : Thread Cert.Dxin.nD Cert.Dxin.τ).loc Cert.Dxin.main_arg1) = m ((c.tc : Thread Cert.Dxin.nD Cert.Dxin.τ).loc Cert.Dxin.main_arg1)
      ∧ r.2.mem ((c.tc : Thread Cert.Dxin.nD Cert.Dxin.τ).loc Cert.Dxin.main_arg2) = m ((c.tc : Thread Cert.Dxin.nD Cert.Dxin.τ).loc Cert.Dxin.main_arg2))
      ∧ r.2.sem = fun _ => 0)

def quiescent_DxinIdeal [hDxinIdeal : Cert.DxinIdeal.Facts] : Prop :=
  ∀ (m : (ℓ : Loc Cert.DxinIdeal.nD Cert.DxinIdeal.τ Cert.DxinIdeal.sig) → Buf (Elt Ideal) ℓ) (g : Dev Cert.DxinIdeal.nD → PrngReg), Pre_DxinIdeal m →
    θ_run (Cert.DxinIdeal.defs (F := Ideal)) (onTc (τ := Cert.DxinIdeal.τ) (Cert.DxinIdeal.main (F := Ideal))) ⟨m, fun _ => 0, g⟩ (fun r => (∀ c : Dev Cert.DxinIdeal.nD,
      r.2.mem ((c.tc : Thread Cert.DxinIdeal.nD Cert.DxinIdeal.τ).loc Cert.DxinIdeal.main_arg0) = m ((c.tc : Thread Cert.DxinIdeal.nD Cert.DxinIdeal.τ).loc Cert.DxinIdeal.main_arg0)
      ∧ r.2.mem ((c.tc : Thread Cert.DxinIdeal.nD Cert.DxinIdeal.τ).loc Cert.DxinIdeal.main_arg1) = m ((c.tc : Thread Cert.DxinIdeal.nD Cert.DxinIdeal.τ).loc Cert.DxinIdeal.main_arg1)
      ∧ r.2.mem ((c.tc : Thread Cert.DxinIdeal.nD Cert.DxinIdeal.τ).loc Cert.DxinIdeal.main_arg2) = m ((c.tc : Thread Cert.DxinIdeal.nD Cert.DxinIdeal.τ).loc Cert.DxinIdeal.main_arg2))
      ∧ r.2.sem = fun _ => 0)

def quiescent_DxinRefIdeal [hDxinRefIdeal : Cert.DxinRefIdeal.Facts] : Prop :=
  ∀ (m : (ℓ : Loc Cert.DxinRefIdeal.nD Cert.DxinRefIdeal.τ Cert.DxinRefIdeal.sig) → Buf (Elt Ideal) ℓ) (g : Dev Cert.DxinRefIdeal.nD → PrngReg), Pre_DxinRefIdeal m →
    θ_run (Cert.DxinRefIdeal.defs (F := Ideal)) (onTc (τ := Cert.DxinRefIdeal.τ) (Cert.DxinRefIdeal.main (F := Ideal))) ⟨m, fun _ => 0, g⟩ (fun r => (∀ c : Dev Cert.DxinRefIdeal.nD,
      r.2.mem ((c.tc : Thread Cert.DxinRefIdeal.nD Cert.DxinRefIdeal.τ).loc Cert.DxinRefIdeal.main_arg0) = m ((c.tc : Thread Cert.DxinRefIdeal.nD Cert.DxinRefIdeal.τ).loc Cert.DxinRefIdeal.main_arg0)
      ∧ r.2.mem ((c.tc : Thread Cert.DxinRefIdeal.nD Cert.DxinRefIdeal.τ).loc Cert.DxinRefIdeal.main_arg1) = m ((c.tc : Thread Cert.DxinRefIdeal.nD Cert.DxinRefIdeal.τ).loc Cert.DxinRefIdeal.main_arg1)
      ∧ r.2.mem ((c.tc : Thread Cert.DxinRefIdeal.nD Cert.DxinRefIdeal.τ).loc Cert.DxinRefIdeal.main_arg2) = m ((c.tc : Thread Cert.DxinRefIdeal.nD Cert.DxinRefIdeal.τ).loc Cert.DxinRefIdeal.main_arg2))
      ∧ r.2.sem = fun _ => 0)

def quiescent_Dxgu [hDxgu : Cert.Dxgu.Facts] : Prop :=
  ∀ (m : (ℓ : Loc Cert.Dxgu.nD Cert.Dxgu.τ Cert.Dxgu.sig) → Buf (Elt Bits) ℓ) (g : Dev Cert.Dxgu.nD → PrngReg), Pre_Dxgu m →
    θ_run (Cert.Dxgu.defs (F := Bits)) (onTc (τ := Cert.Dxgu.τ) (Cert.Dxgu.main (F := Bits))) ⟨m, fun _ => 0, g⟩ (fun r => (∀ c : Dev Cert.Dxgu.nD,
      r.2.mem ((c.tc : Thread Cert.Dxgu.nD Cert.Dxgu.τ).loc Cert.Dxgu.main_arg0) = m ((c.tc : Thread Cert.Dxgu.nD Cert.Dxgu.τ).loc Cert.Dxgu.main_arg0)
      ∧ r.2.mem ((c.tc : Thread Cert.Dxgu.nD Cert.Dxgu.τ).loc Cert.Dxgu.main_arg1) = m ((c.tc : Thread Cert.Dxgu.nD Cert.Dxgu.τ).loc Cert.Dxgu.main_arg1)
      ∧ r.2.mem ((c.tc : Thread Cert.Dxgu.nD Cert.Dxgu.τ).loc Cert.Dxgu.main_arg2) = m ((c.tc : Thread Cert.Dxgu.nD Cert.Dxgu.τ).loc Cert.Dxgu.main_arg2))
      ∧ r.2.sem = fun _ => 0)

def quiescent_DxguIdeal [hDxguIdeal : Cert.DxguIdeal.Facts] : Prop :=
  ∀ (m : (ℓ : Loc Cert.DxguIdeal.nD Cert.DxguIdeal.τ Cert.DxguIdeal.sig) → Buf (Elt Ideal) ℓ) (g : Dev Cert.DxguIdeal.nD → PrngReg), Pre_DxguIdeal m →
    θ_run (Cert.DxguIdeal.defs (F := Ideal)) (onTc (τ := Cert.DxguIdeal.τ) (Cert.DxguIdeal.main (F := Ideal))) ⟨m, fun _ => 0, g⟩ (fun r => (∀ c : Dev Cert.DxguIdeal.nD,
      r.2.mem ((c.tc : Thread Cert.DxguIdeal.nD Cert.DxguIdeal.τ).loc Cert.DxguIdeal.main_arg0) = m ((c.tc : Thread Cert.DxguIdeal.nD Cert.DxguIdeal.τ).loc Cert.DxguIdeal.main_arg0)
      ∧ r.2.mem ((c.tc : Thread Cert.DxguIdeal.nD Cert.DxguIdeal.τ).loc Cert.DxguIdeal.main_arg1) = m ((c.tc : Thread Cert.DxguIdeal.nD Cert.DxguIdeal.τ).loc Cert.DxguIdeal.main_arg1)
      ∧ r.2.mem ((c.tc : Thread Cert.DxguIdeal.nD Cert.DxguIdeal.τ).loc Cert.DxguIdeal.main_arg2) = m ((c.tc : Thread Cert.DxguIdeal.nD Cert.DxguIdeal.τ).loc Cert.DxguIdeal.main_arg2))
      ∧ r.2.sem = fun _ => 0)

def quiescent_DxguRefIdeal [hDxguRefIdeal : Cert.DxguRefIdeal.Facts] : Prop :=
  ∀ (m : (ℓ : Loc Cert.DxguRefIdeal.nD Cert.DxguRefIdeal.τ Cert.DxguRefIdeal.sig) → Buf (Elt Ideal) ℓ) (g : Dev Cert.DxguRefIdeal.nD → PrngReg), Pre_DxguRefIdeal m →
    θ_run (Cert.DxguRefIdeal.defs (F := Ideal)) (onTc (τ := Cert.DxguRefIdeal.τ) (Cert.DxguRefIdeal.main (F := Ideal))) ⟨m, fun _ => 0, g⟩ (fun r => (∀ c : Dev Cert.DxguRefIdeal.nD,
      r.2.mem ((c.tc : Thread Cert.DxguRefIdeal.nD Cert.DxguRefIdeal.τ).loc Cert.DxguRefIdeal.main_arg0) = m ((c.tc : Thread Cert.DxguRefIdeal.nD Cert.DxguRefIdeal.τ).loc Cert.DxguRefIdeal.main_arg0)
      ∧ r.2.mem ((c.tc : Thread Cert.DxguRefIdeal.nD Cert.DxguRefIdeal.τ).loc Cert.DxguRefIdeal.main_arg1) = m ((c.tc : Thread Cert.DxguRefIdeal.nD Cert.DxguRefIdeal.τ).loc Cert.DxguRefIdeal.main_arg1)
      ∧ r.2.mem ((c.tc : Thread Cert.DxguRefIdeal.nD Cert.DxguRefIdeal.τ).loc Cert.DxguRefIdeal.main_arg2) = m ((c.tc : Thread Cert.DxguRefIdeal.nD Cert.DxguRefIdeal.τ).loc Cert.DxguRefIdeal.main_arg2))
      ∧ r.2.sem = fun _ => 0)

def quiescent_Outb [hOutb : Cert.Outb.Facts] : Prop :=
  ∀ (m : (ℓ : Loc Cert.Outb.nD Cert.Outb.τ Cert.Outb.sig) → Buf (Elt Bits) ℓ) (g : Dev Cert.Outb.nD → PrngReg), Pre_Outb m →
    θ_run (Cert.Outb.defs (F := Bits)) (onTc (τ := Cert.Outb.τ) (Cert.Outb.main (F := Bits))) ⟨m, fun _ => 0, g⟩ (fun r => (∀ c : Dev Cert.Outb.nD,
      r.2.mem ((c.tc : Thread Cert.Outb.nD Cert.Outb.τ).loc Cert.Outb.main_arg0) = m ((c.tc : Thread Cert.Outb.nD Cert.Outb.τ).loc Cert.Outb.main_arg0)
      ∧ r.2.mem ((c.tc : Thread Cert.Outb.nD Cert.Outb.τ).loc Cert.Outb.main_arg1) = m ((c.tc : Thread Cert.Outb.nD Cert.Outb.τ).loc Cert.Outb.main_arg1)
      ∧ r.2.mem ((c.tc : Thread Cert.Outb.nD Cert.Outb.τ).loc Cert.Outb.main_arg2) = m ((c.tc : Thread Cert.Outb.nD Cert.Outb.τ).loc Cert.Outb.main_arg2)
      ∧ r.2.mem ((c.tc : Thread Cert.Outb.nD Cert.Outb.τ).loc Cert.Outb.main_arg3) = m ((c.tc : Thread Cert.Outb.nD Cert.Outb.τ).loc Cert.Outb.main_arg3)
      ∧ r.2.mem ((c.tc : Thread Cert.Outb.nD Cert.Outb.τ).loc Cert.Outb.main_arg4) = m ((c.tc : Thread Cert.Outb.nD Cert.Outb.τ).loc Cert.Outb.main_arg4))
      ∧ r.2.sem = fun _ => 0)

def quiescent_OutbIdeal [hOutbIdeal : Cert.OutbIdeal.Facts] : Prop :=
  ∀ (m : (ℓ : Loc Cert.OutbIdeal.nD Cert.OutbIdeal.τ Cert.OutbIdeal.sig) → Buf (Elt Ideal) ℓ) (g : Dev Cert.OutbIdeal.nD → PrngReg), Pre_OutbIdeal m →
    θ_run (Cert.OutbIdeal.defs (F := Ideal)) (onTc (τ := Cert.OutbIdeal.τ) (Cert.OutbIdeal.main (F := Ideal))) ⟨m, fun _ => 0, g⟩ (fun r => (∀ c : Dev Cert.OutbIdeal.nD,
      r.2.mem ((c.tc : Thread Cert.OutbIdeal.nD Cert.OutbIdeal.τ).loc Cert.OutbIdeal.main_arg0) = m ((c.tc : Thread Cert.OutbIdeal.nD Cert.OutbIdeal.τ).loc Cert.OutbIdeal.main_arg0)
      ∧ r.2.mem ((c.tc : Thread Cert.OutbIdeal.nD Cert.OutbIdeal.τ).loc Cert.OutbIdeal.main_arg1) = m ((c.tc : Thread Cert.OutbIdeal.nD Cert.OutbIdeal.τ).loc Cert.OutbIdeal.main_arg1)
      ∧ r.2.mem ((c.tc : Thread Cert.OutbIdeal.nD Cert.OutbIdeal.τ).loc Cert.OutbIdeal.main_arg2) = m ((c.tc : Thread Cert.OutbIdeal.nD Cert.OutbIdeal.τ).loc Cert.OutbIdeal.main_arg2)
      ∧ r.2.mem ((c.tc : Thread Cert.OutbIdeal.nD Cert.OutbIdeal.τ).loc Cert.OutbIdeal.main_arg3) = m ((c.tc : Thread Cert.OutbIdeal.nD Cert.OutbIdeal.τ).loc Cert.OutbIdeal.main_arg3)
      ∧ r.2.mem ((c.tc : Thread Cert.OutbIdeal.nD Cert.OutbIdeal.τ).loc Cert.OutbIdeal.main_arg4) = m ((c.tc : Thread Cert.OutbIdeal.nD Cert.OutbIdeal.τ).loc Cert.OutbIdeal.main_arg4))
      ∧ r.2.sem = fun _ => 0)

def quiescent_OutbIdeal_pre_outb_finite [hOutbIdeal : Cert.OutbIdeal.Facts] [hPre_outb_finite : Cert.Pre_outb_finite.Facts] : Prop :=
  ∀ (m : (ℓ : Loc Cert.OutbIdeal.nD Cert.OutbIdeal.τ Cert.OutbIdeal.sig) → Buf (Elt Ideal) ℓ) (g : Dev Cert.OutbIdeal.nD → PrngReg), Pre_OutbIdeal_outb_finite m →
    θ_run (Cert.OutbIdeal.defs (F := Ideal)) (onTc (τ := Cert.OutbIdeal.τ) (Cert.OutbIdeal.main (F := Ideal))) ⟨m, fun _ => 0, g⟩ (fun r => (∀ c : Dev Cert.OutbIdeal.nD,
      r.2.mem ((c.tc : Thread Cert.OutbIdeal.nD Cert.OutbIdeal.τ).loc Cert.OutbIdeal.main_arg0) = m ((c.tc : Thread Cert.OutbIdeal.nD Cert.OutbIdeal.τ).loc Cert.OutbIdeal.main_arg0)
      ∧ r.2.mem ((c.tc : Thread Cert.OutbIdeal.nD Cert.OutbIdeal.τ).loc Cert.OutbIdeal.main_arg1) = m ((c.tc : Thread Cert.OutbIdeal.nD Cert.OutbIdeal.τ).loc Cert.OutbIdeal.main_arg1)
      ∧ r.2.mem ((c.tc : Thread Cert.OutbIdeal.nD Cert.OutbIdeal.τ).loc Cert.OutbIdeal.main_arg2) = m ((c.tc : Thread Cert.OutbIdeal.nD Cert.OutbIdeal.τ).loc Cert.OutbIdeal.main_arg2)
      ∧ r.2.mem ((c.tc : Thread Cert.OutbIdeal.nD Cert.OutbIdeal.τ).loc Cert.OutbIdeal.main_arg3) = m ((c.tc : Thread Cert.OutbIdeal.nD Cert.OutbIdeal.τ).loc Cert.OutbIdeal.main_arg3)
      ∧ r.2.mem ((c.tc : Thread Cert.OutbIdeal.nD Cert.OutbIdeal.τ).loc Cert.OutbIdeal.main_arg4) = m ((c.tc : Thread Cert.OutbIdeal.nD Cert.OutbIdeal.τ).loc Cert.OutbIdeal.main_arg4))
      ∧ r.2.sem = fun _ => 0)

def quiescent_OutbRefIdeal [hOutbRefIdeal : Cert.OutbRefIdeal.Facts] : Prop :=
  ∀ (m : (ℓ : Loc Cert.OutbRefIdeal.nD Cert.OutbRefIdeal.τ Cert.OutbRefIdeal.sig) → Buf (Elt Ideal) ℓ) (g : Dev Cert.OutbRefIdeal.nD → PrngReg), Pre_OutbRefIdeal m →
    θ_run (Cert.OutbRefIdeal.defs (F := Ideal)) (onTc (τ := Cert.OutbRefIdeal.τ) (Cert.OutbRefIdeal.main (F := Ideal))) ⟨m, fun _ => 0, g⟩ (fun r => (∀ c : Dev Cert.OutbRefIdeal.nD,
      r.2.mem ((c.tc : Thread Cert.OutbRefIdeal.nD Cert.OutbRefIdeal.τ).loc Cert.OutbRefIdeal.main_arg0) = m ((c.tc : Thread Cert.OutbRefIdeal.nD Cert.OutbRefIdeal.τ).loc Cert.OutbRefIdeal.main_arg0)
      ∧ r.2.mem ((c.tc : Thread Cert.OutbRefIdeal.nD Cert.OutbRefIdeal.τ).loc Cert.OutbRefIdeal.main_arg1) = m ((c.tc : Thread Cert.OutbRefIdeal.nD Cert.OutbRefIdeal.τ).loc Cert.OutbRefIdeal.main_arg1)
      ∧ r.2.mem ((c.tc : Thread Cert.OutbRefIdeal.nD Cert.OutbRefIdeal.τ).loc Cert.OutbRefIdeal.main_arg2) = m ((c.tc : Thread Cert.OutbRefIdeal.nD Cert.OutbRefIdeal.τ).loc Cert.OutbRefIdeal.main_arg2)
      ∧ r.2.mem ((c.tc : Thread Cert.OutbRefIdeal.nD Cert.OutbRefIdeal.τ).loc Cert.OutbRefIdeal.main_arg3) = m ((c.tc : Thread Cert.OutbRefIdeal.nD Cert.OutbRefIdeal.τ).loc Cert.OutbRefIdeal.main_arg3)
      ∧ r.2.mem ((c.tc : Thread Cert.OutbRefIdeal.nD Cert.OutbRefIdeal.τ).loc Cert.OutbRefIdeal.main_arg4) = m ((c.tc : Thread Cert.OutbRefIdeal.nD Cert.OutbRefIdeal.τ).loc Cert.OutbRefIdeal.main_arg4))
      ∧ r.2.sem = fun _ => 0)

def quiescent_OutbRefIdeal_pre_outb_finite [hOutbRefIdeal : Cert.OutbRefIdeal.Facts] [hPre_outb_finite : Cert.Pre_outb_finite.Facts] : Prop :=
  ∀ (m : (ℓ : Loc Cert.OutbRefIdeal.nD Cert.OutbRefIdeal.τ Cert.OutbRefIdeal.sig) → Buf (Elt Ideal) ℓ) (g : Dev Cert.OutbRefIdeal.nD → PrngReg), Pre_OutbRefIdeal_outb_finite m →
    θ_run (Cert.OutbRefIdeal.defs (F := Ideal)) (onTc (τ := Cert.OutbRefIdeal.τ) (Cert.OutbRefIdeal.main (F := Ideal))) ⟨m, fun _ => 0, g⟩ (fun r => (∀ c : Dev Cert.OutbRefIdeal.nD,
      r.2.mem ((c.tc : Thread Cert.OutbRefIdeal.nD Cert.OutbRefIdeal.τ).loc Cert.OutbRefIdeal.main_arg0) = m ((c.tc : Thread Cert.OutbRefIdeal.nD Cert.OutbRefIdeal.τ).loc Cert.OutbRefIdeal.main_arg0)
      ∧ r.2.mem ((c.tc : Thread Cert.OutbRefIdeal.nD Cert.OutbRefIdeal.τ).loc Cert.OutbRefIdeal.main_arg1) = m ((c.tc : Thread Cert.OutbRefIdeal.nD Cert.OutbRefIdeal.τ).loc Cert.OutbRefIdeal.main_arg1)
      ∧ r.2.mem ((c.tc : Thread Cert.OutbRefIdeal.nD Cert.OutbRefIdeal.τ).loc Cert.OutbRefIdeal.main_arg2) = m ((c.tc : Thread Cert.OutbRefIdeal.nD Cert.OutbRefIdeal.τ).loc Cert.OutbRefIdeal.main_arg2)
      ∧ r.2.mem ((c.tc : Thread Cert.OutbRefIdeal.nD Cert.OutbRefIdeal.τ).loc Cert.OutbRefIdeal.main_arg3) = m ((c.tc : Thread Cert.OutbRefIdeal.nD Cert.OutbRefIdeal.τ).loc Cert.OutbRefIdeal.main_arg3)
      ∧ r.2.mem ((c.tc : Thread Cert.OutbRefIdeal.nD Cert.OutbRefIdeal.τ).loc Cert.OutbRefIdeal.main_arg4) = m ((c.tc : Thread Cert.OutbRefIdeal.nD Cert.OutbRefIdeal.τ).loc Cert.OutbRefIdeal.main_arg4))
      ∧ r.2.sem = fun _ => 0)

def quiescent_Ffb [hFfb : Cert.Ffb.Facts] : Prop :=
  ∀ (m : (ℓ : Loc Cert.Ffb.nD Cert.Ffb.τ Cert.Ffb.sig) → Buf (Elt Bits) ℓ) (g : Dev Cert.Ffb.nD → PrngReg), Pre_Ffb m →
    θ_run (Cert.Ffb.defs (F := Bits)) (onTc (τ := Cert.Ffb.τ) (Cert.Ffb.main (F := Bits))) ⟨m, fun _ => 0, g⟩ (fun r => (∀ c : Dev Cert.Ffb.nD,
      r.2.mem ((c.tc : Thread Cert.Ffb.nD Cert.Ffb.τ).loc Cert.Ffb.main_arg0) = m ((c.tc : Thread Cert.Ffb.nD Cert.Ffb.τ).loc Cert.Ffb.main_arg0)
      ∧ r.2.mem ((c.tc : Thread Cert.Ffb.nD Cert.Ffb.τ).loc Cert.Ffb.main_arg1) = m ((c.tc : Thread Cert.Ffb.nD Cert.Ffb.τ).loc Cert.Ffb.main_arg1)
      ∧ r.2.mem ((c.tc : Thread Cert.Ffb.nD Cert.Ffb.τ).loc Cert.Ffb.main_arg2) = m ((c.tc : Thread Cert.Ffb.nD Cert.Ffb.τ).loc Cert.Ffb.main_arg2)
      ∧ r.2.mem ((c.tc : Thread Cert.Ffb.nD Cert.Ffb.τ).loc Cert.Ffb.main_arg3) = m ((c.tc : Thread Cert.Ffb.nD Cert.Ffb.τ).loc Cert.Ffb.main_arg3)
      ∧ r.2.mem ((c.tc : Thread Cert.Ffb.nD Cert.Ffb.τ).loc Cert.Ffb.main_arg4) = m ((c.tc : Thread Cert.Ffb.nD Cert.Ffb.τ).loc Cert.Ffb.main_arg4)
      ∧ r.2.mem ((c.tc : Thread Cert.Ffb.nD Cert.Ffb.τ).loc Cert.Ffb.main_arg5) = m ((c.tc : Thread Cert.Ffb.nD Cert.Ffb.τ).loc Cert.Ffb.main_arg5))
      ∧ r.2.sem = fun _ => 0)

def quiescent_FfbIdeal [hFfbIdeal : Cert.FfbIdeal.Facts] : Prop :=
  ∀ (m : (ℓ : Loc Cert.FfbIdeal.nD Cert.FfbIdeal.τ Cert.FfbIdeal.sig) → Buf (Elt Ideal) ℓ) (g : Dev Cert.FfbIdeal.nD → PrngReg), Pre_FfbIdeal m →
    θ_run (Cert.FfbIdeal.defs (F := Ideal)) (onTc (τ := Cert.FfbIdeal.τ) (Cert.FfbIdeal.main (F := Ideal))) ⟨m, fun _ => 0, g⟩ (fun r => (∀ c : Dev Cert.FfbIdeal.nD,
      r.2.mem ((c.tc : Thread Cert.FfbIdeal.nD Cert.FfbIdeal.τ).loc Cert.FfbIdeal.main_arg0) = m ((c.tc : Thread Cert.FfbIdeal.nD Cert.FfbIdeal.τ).loc Cert.FfbIdeal.main_arg0)
      ∧ r.2.mem ((c.tc : Thread Cert.FfbIdeal.nD Cert.FfbIdeal.τ).loc Cert.FfbIdeal.main_arg1) = m ((c.tc : Thread Cert.FfbIdeal.nD Cert.FfbIdeal.τ).loc Cert.FfbIdeal.main_arg1)
      ∧ r.2.mem ((c.tc : Thread Cert.FfbIdeal.nD Cert.FfbIdeal.τ).loc Cert.FfbIdeal.main_arg2) = m ((c.tc : Thread Cert.FfbIdeal.nD Cert.FfbIdeal.τ).loc Cert.FfbIdeal.main_arg2)
      ∧ r.2.mem ((c.tc : Thread Cert.FfbIdeal.nD Cert.FfbIdeal.τ).loc Cert.FfbIdeal.main_arg3) = m ((c.tc : Thread Cert.FfbIdeal.nD Cert.FfbIdeal.τ).loc Cert.FfbIdeal.main_arg3)
      ∧ r.2.mem ((c.tc : Thread Cert.FfbIdeal.nD Cert.FfbIdeal.τ).loc Cert.FfbIdeal.main_arg4) = m ((c.tc : Thread Cert.FfbIdeal.nD Cert.FfbIdeal.τ).loc Cert.FfbIdeal.main_arg4)
      ∧ r.2.mem ((c.tc : Thread Cert.FfbIdeal.nD Cert.FfbIdeal.τ).loc Cert.FfbIdeal.main_arg5) = m ((c.tc : Thread Cert.FfbIdeal.nD Cert.FfbIdeal.τ).loc Cert.FfbIdeal.main_arg5))
      ∧ r.2.sem = fun _ => 0)

def quiescent_FfbIdeal_pre_ffb_finite [hFfbIdeal : Cert.FfbIdeal.Facts] [hPre_ffb_finite : Cert.Pre_ffb_finite.Facts] : Prop :=
  ∀ (m : (ℓ : Loc Cert.FfbIdeal.nD Cert.FfbIdeal.τ Cert.FfbIdeal.sig) → Buf (Elt Ideal) ℓ) (g : Dev Cert.FfbIdeal.nD → PrngReg), Pre_FfbIdeal_ffb_finite m →
    θ_run (Cert.FfbIdeal.defs (F := Ideal)) (onTc (τ := Cert.FfbIdeal.τ) (Cert.FfbIdeal.main (F := Ideal))) ⟨m, fun _ => 0, g⟩ (fun r => (∀ c : Dev Cert.FfbIdeal.nD,
      r.2.mem ((c.tc : Thread Cert.FfbIdeal.nD Cert.FfbIdeal.τ).loc Cert.FfbIdeal.main_arg0) = m ((c.tc : Thread Cert.FfbIdeal.nD Cert.FfbIdeal.τ).loc Cert.FfbIdeal.main_arg0)
      ∧ r.2.mem ((c.tc : Thread Cert.FfbIdeal.nD Cert.FfbIdeal.τ).loc Cert.FfbIdeal.main_arg1) = m ((c.tc : Thread Cert.FfbIdeal.nD Cert.FfbIdeal.τ).loc Cert.FfbIdeal.main_arg1)
      ∧ r.2.mem ((c.tc : Thread Cert.FfbIdeal.nD Cert.FfbIdeal.τ).loc Cert.FfbIdeal.main_arg2) = m ((c.tc : Thread Cert.FfbIdeal.nD Cert.FfbIdeal.τ).loc Cert.FfbIdeal.main_arg2)
      ∧ r.2.mem ((c.tc : Thread Cert.FfbIdeal.nD Cert.FfbIdeal.τ).loc Cert.FfbIdeal.main_arg3) = m ((c.tc : Thread Cert.FfbIdeal.nD Cert.FfbIdeal.τ).loc Cert.FfbIdeal.main_arg3)
      ∧ r.2.mem ((c.tc : Thread Cert.FfbIdeal.nD Cert.FfbIdeal.τ).loc Cert.FfbIdeal.main_arg4) = m ((c.tc : Thread Cert.FfbIdeal.nD Cert.FfbIdeal.τ).loc Cert.FfbIdeal.main_arg4)
      ∧ r.2.mem ((c.tc : Thread Cert.FfbIdeal.nD Cert.FfbIdeal.τ).loc Cert.FfbIdeal.main_arg5) = m ((c.tc : Thread Cert.FfbIdeal.nD Cert.FfbIdeal.τ).loc Cert.FfbIdeal.main_arg5))
      ∧ r.2.sem = fun _ => 0)

def quiescent_FfbRefIdeal [hFfbRefIdeal : Cert.FfbRefIdeal.Facts] : Prop :=
  ∀ (m : (ℓ : Loc Cert.FfbRefIdeal.nD Cert.FfbRefIdeal.τ Cert.FfbRefIdeal.sig) → Buf (Elt Ideal) ℓ) (g : Dev Cert.FfbRefIdeal.nD → PrngReg), Pre_FfbRefIdeal m →
    θ_run (Cert.FfbRefIdeal.defs (F := Ideal)) (onTc (τ := Cert.FfbRefIdeal.τ) (Cert.FfbRefIdeal.main (F := Ideal))) ⟨m, fun _ => 0, g⟩ (fun r => (∀ c : Dev Cert.FfbRefIdeal.nD,
      r.2.mem ((c.tc : Thread Cert.FfbRefIdeal.nD Cert.FfbRefIdeal.τ).loc Cert.FfbRefIdeal.main_arg0) = m ((c.tc : Thread Cert.FfbRefIdeal.nD Cert.FfbRefIdeal.τ).loc Cert.FfbRefIdeal.main_arg0)
      ∧ r.2.mem ((c.tc : Thread Cert.FfbRefIdeal.nD Cert.FfbRefIdeal.τ).loc Cert.FfbRefIdeal.main_arg1) = m ((c.tc : Thread Cert.FfbRefIdeal.nD Cert.FfbRefIdeal.τ).loc Cert.FfbRefIdeal.main_arg1)
      ∧ r.2.mem ((c.tc : Thread Cert.FfbRefIdeal.nD Cert.FfbRefIdeal.τ).loc Cert.FfbRefIdeal.main_arg2) = m ((c.tc : Thread Cert.FfbRefIdeal.nD Cert.FfbRefIdeal.τ).loc Cert.FfbRefIdeal.main_arg2)
      ∧ r.2.mem ((c.tc : Thread Cert.FfbRefIdeal.nD Cert.FfbRefIdeal.τ).loc Cert.FfbRefIdeal.main_arg3) = m ((c.tc : Thread Cert.FfbRefIdeal.nD Cert.FfbRefIdeal.τ).loc Cert.FfbRefIdeal.main_arg3)
      ∧ r.2.mem ((c.tc : Thread Cert.FfbRefIdeal.nD Cert.FfbRefIdeal.τ).loc Cert.FfbRefIdeal.main_arg4) = m ((c.tc : Thread Cert.FfbRefIdeal.nD Cert.FfbRefIdeal.τ).loc Cert.FfbRefIdeal.main_arg4)
      ∧ r.2.mem ((c.tc : Thread Cert.FfbRefIdeal.nD Cert.FfbRefIdeal.τ).loc Cert.FfbRefIdeal.main_arg5) = m ((c.tc : Thread Cert.FfbRefIdeal.nD Cert.FfbRefIdeal.τ).loc Cert.FfbRefIdeal.main_arg5))
      ∧ r.2.sem = fun _ => 0)

def quiescent_FfbRefIdeal_pre_ffb_finite [hFfbRefIdeal : Cert.FfbRefIdeal.Facts] [hPre_ffb_finite : Cert.Pre_ffb_finite.Facts] : Prop :=
  ∀ (m : (ℓ : Loc Cert.FfbRefIdeal.nD Cert.FfbRefIdeal.τ Cert.FfbRefIdeal.sig) → Buf (Elt Ideal) ℓ) (g : Dev Cert.FfbRefIdeal.nD → PrngReg), Pre_FfbRefIdeal_ffb_finite m →
    θ_run (Cert.FfbRefIdeal.defs (F := Ideal)) (onTc (τ := Cert.FfbRefIdeal.τ) (Cert.FfbRefIdeal.main (F := Ideal))) ⟨m, fun _ => 0, g⟩ (fun r => (∀ c : Dev Cert.FfbRefIdeal.nD,
      r.2.mem ((c.tc : Thread Cert.FfbRefIdeal.nD Cert.FfbRefIdeal.τ).loc Cert.FfbRefIdeal.main_arg0) = m ((c.tc : Thread Cert.FfbRefIdeal.nD Cert.FfbRefIdeal.τ).loc Cert.FfbRefIdeal.main_arg0)
      ∧ r.2.mem ((c.tc : Thread Cert.FfbRefIdeal.nD Cert.FfbRefIdeal.τ).loc Cert.FfbRefIdeal.main_arg1) = m ((c.tc : Thread Cert.FfbRefIdeal.nD Cert.FfbRefIdeal.τ).loc Cert.FfbRefIdeal.main_arg1)
      ∧ r.2.mem ((c.tc : Thread Cert.FfbRefIdeal.nD Cert.FfbRefIdeal.τ).loc Cert.FfbRefIdeal.main_arg2) = m ((c.tc : Thread Cert.FfbRefIdeal.nD Cert.FfbRefIdeal.τ).loc Cert.FfbRefIdeal.main_arg2)
      ∧ r.2.mem ((c.tc : Thread Cert.FfbRefIdeal.nD Cert.FfbRefIdeal.τ).loc Cert.FfbRefIdeal.main_arg3) = m ((c.tc : Thread Cert.FfbRefIdeal.nD Cert.FfbRefIdeal.τ).loc Cert.FfbRefIdeal.main_arg3)
      ∧ r.2.mem ((c.tc : Thread Cert.FfbRefIdeal.nD Cert.FfbRefIdeal.τ).loc Cert.FfbRefIdeal.main_arg4) = m ((c.tc : Thread Cert.FfbRefIdeal.nD Cert.FfbRefIdeal.τ).loc Cert.FfbRefIdeal.main_arg4)
      ∧ r.2.mem ((c.tc : Thread Cert.FfbRefIdeal.nD Cert.FfbRefIdeal.τ).loc Cert.FfbRefIdeal.main_arg5) = m ((c.tc : Thread Cert.FfbRefIdeal.nD Cert.FfbRefIdeal.τ).loc Cert.FfbRefIdeal.main_arg5))
      ∧ r.2.sem = fun _ => 0)

def quiescent_Attf [hAttf : Cert.Attf.Facts] : Prop :=
  ∀ (m : (ℓ : Loc Cert.Attf.nD Cert.Attf.τ Cert.Attf.sig) → Buf (Elt Bits) ℓ) (g : Dev Cert.Attf.nD → PrngReg), Pre_Attf m →
    θ_run (Cert.Attf.defs (F := Bits)) (onTc (τ := Cert.Attf.τ) (Cert.Attf.main (F := Bits))) ⟨m, fun _ => 0, g⟩ (fun r => (∀ c : Dev Cert.Attf.nD,
      r.2.mem ((c.tc : Thread Cert.Attf.nD Cert.Attf.τ).loc Cert.Attf.main_arg0) = m ((c.tc : Thread Cert.Attf.nD Cert.Attf.τ).loc Cert.Attf.main_arg0)
      ∧ r.2.mem ((c.tc : Thread Cert.Attf.nD Cert.Attf.τ).loc Cert.Attf.main_arg1) = m ((c.tc : Thread Cert.Attf.nD Cert.Attf.τ).loc Cert.Attf.main_arg1)
      ∧ r.2.mem ((c.tc : Thread Cert.Attf.nD Cert.Attf.τ).loc Cert.Attf.main_arg2) = m ((c.tc : Thread Cert.Attf.nD Cert.Attf.τ).loc Cert.Attf.main_arg2)
      ∧ r.2.mem ((c.tc : Thread Cert.Attf.nD Cert.Attf.τ).loc Cert.Attf.main_arg3) = m ((c.tc : Thread Cert.Attf.nD Cert.Attf.τ).loc Cert.Attf.main_arg3))
      ∧ r.2.sem = fun _ => 0)

def quiescent_AttfIdeal [hAttfIdeal : Cert.AttfIdeal.Facts] : Prop :=
  ∀ (m : (ℓ : Loc Cert.AttfIdeal.nD Cert.AttfIdeal.τ Cert.AttfIdeal.sig) → Buf (Elt Ideal) ℓ) (g : Dev Cert.AttfIdeal.nD → PrngReg), Pre_AttfIdeal m →
    θ_run (Cert.AttfIdeal.defs (F := Ideal)) (onTc (τ := Cert.AttfIdeal.τ) (Cert.AttfIdeal.main (F := Ideal))) ⟨m, fun _ => 0, g⟩ (fun r => (∀ c : Dev Cert.AttfIdeal.nD,
      r.2.mem ((c.tc : Thread Cert.AttfIdeal.nD Cert.AttfIdeal.τ).loc Cert.AttfIdeal.main_arg0) = m ((c.tc : Thread Cert.AttfIdeal.nD Cert.AttfIdeal.τ).loc Cert.AttfIdeal.main_arg0)
      ∧ r.2.mem ((c.tc : Thread Cert.AttfIdeal.nD Cert.AttfIdeal.τ).loc Cert.AttfIdeal.main_arg1) = m ((c.tc : Thread Cert.AttfIdeal.nD Cert.AttfIdeal.τ).loc Cert.AttfIdeal.main_arg1)
      ∧ r.2.mem ((c.tc : Thread Cert.AttfIdeal.nD Cert.AttfIdeal.τ).loc Cert.AttfIdeal.main_arg2) = m ((c.tc : Thread Cert.AttfIdeal.nD Cert.AttfIdeal.τ).loc Cert.AttfIdeal.main_arg2)
      ∧ r.2.mem ((c.tc : Thread Cert.AttfIdeal.nD Cert.AttfIdeal.τ).loc Cert.AttfIdeal.main_arg3) = m ((c.tc : Thread Cert.AttfIdeal.nD Cert.AttfIdeal.τ).loc Cert.AttfIdeal.main_arg3))
      ∧ r.2.sem = fun _ => 0)

def quiescent_AttfIdeal_pre_att_finite [hAttfIdeal : Cert.AttfIdeal.Facts] [hPre_att_finite : Cert.Pre_att_finite.Facts] : Prop :=
  ∀ (m : (ℓ : Loc Cert.AttfIdeal.nD Cert.AttfIdeal.τ Cert.AttfIdeal.sig) → Buf (Elt Ideal) ℓ) (g : Dev Cert.AttfIdeal.nD → PrngReg), Pre_AttfIdeal_att_finite m →
    θ_run (Cert.AttfIdeal.defs (F := Ideal)) (onTc (τ := Cert.AttfIdeal.τ) (Cert.AttfIdeal.main (F := Ideal))) ⟨m, fun _ => 0, g⟩ (fun r => (∀ c : Dev Cert.AttfIdeal.nD,
      r.2.mem ((c.tc : Thread Cert.AttfIdeal.nD Cert.AttfIdeal.τ).loc Cert.AttfIdeal.main_arg0) = m ((c.tc : Thread Cert.AttfIdeal.nD Cert.AttfIdeal.τ).loc Cert.AttfIdeal.main_arg0)
      ∧ r.2.mem ((c.tc : Thread Cert.AttfIdeal.nD Cert.AttfIdeal.τ).loc Cert.AttfIdeal.main_arg1) = m ((c.tc : Thread Cert.AttfIdeal.nD Cert.AttfIdeal.τ).loc Cert.AttfIdeal.main_arg1)
      ∧ r.2.mem ((c.tc : Thread Cert.AttfIdeal.nD Cert.AttfIdeal.τ).loc Cert.AttfIdeal.main_arg2) = m ((c.tc : Thread Cert.AttfIdeal.nD Cert.AttfIdeal.τ).loc Cert.AttfIdeal.main_arg2)
      ∧ r.2.mem ((c.tc : Thread Cert.AttfIdeal.nD Cert.AttfIdeal.τ).loc Cert.AttfIdeal.main_arg3) = m ((c.tc : Thread Cert.AttfIdeal.nD Cert.AttfIdeal.τ).loc Cert.AttfIdeal.main_arg3))
      ∧ r.2.sem = fun _ => 0)

def quiescent_AttfRefIdeal [hAttfRefIdeal : Cert.AttfRefIdeal.Facts] : Prop :=
  ∀ (m : (ℓ : Loc Cert.AttfRefIdeal.nD Cert.AttfRefIdeal.τ Cert.AttfRefIdeal.sig) → Buf (Elt Ideal) ℓ) (g : Dev Cert.AttfRefIdeal.nD → PrngReg), Pre_AttfRefIdeal m →
    θ_run (Cert.AttfRefIdeal.defs (F := Ideal)) (onTc (τ := Cert.AttfRefIdeal.τ) (Cert.AttfRefIdeal.main (F := Ideal))) ⟨m, fun _ => 0, g⟩ (fun r => (∀ c : Dev Cert.AttfRefIdeal.nD,
      r.2.mem ((c.tc : Thread Cert.AttfRefIdeal.nD Cert.AttfRefIdeal.τ).loc Cert.AttfRefIdeal.main_arg0) = m ((c.tc : Thread Cert.AttfRefIdeal.nD Cert.AttfRefIdeal.τ).loc Cert.AttfRefIdeal.main_arg0)
      ∧ r.2.mem ((c.tc : Thread Cert.AttfRefIdeal.nD Cert.AttfRefIdeal.τ).loc Cert.AttfRefIdeal.main_arg1) = m ((c.tc : Thread Cert.AttfRefIdeal.nD Cert.AttfRefIdeal.τ).loc Cert.AttfRefIdeal.main_arg1)
      ∧ r.2.mem ((c.tc : Thread Cert.AttfRefIdeal.nD Cert.AttfRefIdeal.τ).loc Cert.AttfRefIdeal.main_arg2) = m ((c.tc : Thread Cert.AttfRefIdeal.nD Cert.AttfRefIdeal.τ).loc Cert.AttfRefIdeal.main_arg2)
      ∧ r.2.mem ((c.tc : Thread Cert.AttfRefIdeal.nD Cert.AttfRefIdeal.τ).loc Cert.AttfRefIdeal.main_arg3) = m ((c.tc : Thread Cert.AttfRefIdeal.nD Cert.AttfRefIdeal.τ).loc Cert.AttfRefIdeal.main_arg3))
      ∧ r.2.sem = fun _ => 0)

def quiescent_AttfRefIdeal_pre_att_finite [hAttfRefIdeal : Cert.AttfRefIdeal.Facts] [hPre_att_finite : Cert.Pre_att_finite.Facts] : Prop :=
  ∀ (m : (ℓ : Loc Cert.AttfRefIdeal.nD Cert.AttfRefIdeal.τ Cert.AttfRefIdeal.sig) → Buf (Elt Ideal) ℓ) (g : Dev Cert.AttfRefIdeal.nD → PrngReg), Pre_AttfRefIdeal_att_finite m →
    θ_run (Cert.AttfRefIdeal.defs (F := Ideal)) (onTc (τ := Cert.AttfRefIdeal.τ) (Cert.AttfRefIdeal.main (F := Ideal))) ⟨m, fun _ => 0, g⟩ (fun r => (∀ c : Dev Cert.AttfRefIdeal.nD,
      r.2.mem ((c.tc : Thread Cert.AttfRefIdeal.nD Cert.AttfRefIdeal.τ).loc Cert.AttfRefIdeal.main_arg0) = m ((c.tc : Thread Cert.AttfRefIdeal.nD Cert.AttfRefIdeal.τ).loc Cert.AttfRefIdeal.main_arg0)
      ∧ r.2.mem ((c.tc : Thread Cert.AttfRefIdeal.nD Cert.AttfRefIdeal.τ).loc Cert.AttfRefIdeal.main_arg1) = m ((c.tc : Thread Cert.AttfRefIdeal.nD Cert.AttfRefIdeal.τ).loc Cert.AttfRefIdeal.main_arg1)
      ∧ r.2.mem ((c.tc : Thread Cert.AttfRefIdeal.nD Cert.AttfRefIdeal.τ).loc Cert.AttfRefIdeal.main_arg2) = m ((c.tc : Thread Cert.AttfRefIdeal.nD Cert.AttfRefIdeal.τ).loc Cert.AttfRefIdeal.main_arg2)
      ∧ r.2.mem ((c.tc : Thread Cert.AttfRefIdeal.nD Cert.AttfRefIdeal.τ).loc Cert.AttfRefIdeal.main_arg3) = m ((c.tc : Thread Cert.AttfRefIdeal.nD Cert.AttfRefIdeal.τ).loc Cert.AttfRefIdeal.main_arg3))
      ∧ r.2.sem = fun _ => 0)

def quiescent_Sada [hSada : Cert.Sada.Facts] : Prop :=
  ∀ (m : (ℓ : Loc Cert.Sada.nD Cert.Sada.τ Cert.Sada.sig) → Buf (Elt Bits) ℓ) (g : Dev Cert.Sada.nD → PrngReg), Pre_Sada m →
    θ_run (Cert.Sada.defs (F := Bits)) (onTc (τ := Cert.Sada.τ) (Cert.Sada.main (F := Bits))) ⟨m, fun _ => 0, g⟩ (fun r => (∀ c : Dev Cert.Sada.nD,
      r.2.mem ((c.tc : Thread Cert.Sada.nD Cert.Sada.τ).loc Cert.Sada.main_arg0) = m ((c.tc : Thread Cert.Sada.nD Cert.Sada.τ).loc Cert.Sada.main_arg0)
      ∧ r.2.mem ((c.tc : Thread Cert.Sada.nD Cert.Sada.τ).loc Cert.Sada.main_arg1) = m ((c.tc : Thread Cert.Sada.nD Cert.Sada.τ).loc Cert.Sada.main_arg1)
      ∧ r.2.mem ((c.tc : Thread Cert.Sada.nD Cert.Sada.τ).loc Cert.Sada.main_arg2) = m ((c.tc : Thread Cert.Sada.nD Cert.Sada.τ).loc Cert.Sada.main_arg2)
      ∧ r.2.mem ((c.tc : Thread Cert.Sada.nD Cert.Sada.τ).loc Cert.Sada.main_arg3) = m ((c.tc : Thread Cert.Sada.nD Cert.Sada.τ).loc Cert.Sada.main_arg3)
      ∧ r.2.mem ((c.tc : Thread Cert.Sada.nD Cert.Sada.τ).loc Cert.Sada.main_arg4) = m ((c.tc : Thread Cert.Sada.nD Cert.Sada.τ).loc Cert.Sada.main_arg4)
      ∧ r.2.mem ((c.tc : Thread Cert.Sada.nD Cert.Sada.τ).loc Cert.Sada.main_arg5) = m ((c.tc : Thread Cert.Sada.nD Cert.Sada.τ).loc Cert.Sada.main_arg5)
      ∧ r.2.mem ((c.tc : Thread Cert.Sada.nD Cert.Sada.τ).loc Cert.Sada.main_arg6) = m ((c.tc : Thread Cert.Sada.nD Cert.Sada.τ).loc Cert.Sada.main_arg6)
      ∧ r.2.mem ((c.tc : Thread Cert.Sada.nD Cert.Sada.τ).loc Cert.Sada.main_arg7) = m ((c.tc : Thread Cert.Sada.nD Cert.Sada.τ).loc Cert.Sada.main_arg7)
      ∧ r.2.mem ((c.tc : Thread Cert.Sada.nD Cert.Sada.τ).loc Cert.Sada.main_arg8) = m ((c.tc : Thread Cert.Sada.nD Cert.Sada.τ).loc Cert.Sada.main_arg8)
      ∧ r.2.mem ((c.tc : Thread Cert.Sada.nD Cert.Sada.τ).loc Cert.Sada.main_arg9) = m ((c.tc : Thread Cert.Sada.nD Cert.Sada.τ).loc Cert.Sada.main_arg9)
      ∧ r.2.mem ((c.tc : Thread Cert.Sada.nD Cert.Sada.τ).loc Cert.Sada.main_arg10) = m ((c.tc : Thread Cert.Sada.nD Cert.Sada.τ).loc Cert.Sada.main_arg10)
      ∧ r.2.mem ((c.tc : Thread Cert.Sada.nD Cert.Sada.τ).loc Cert.Sada.main_arg11) = m ((c.tc : Thread Cert.Sada.nD Cert.Sada.τ).loc Cert.Sada.main_arg11))
      ∧ r.2.sem = fun _ => 0)

def quiescent_SadaIdeal [hSadaIdeal : Cert.SadaIdeal.Facts] : Prop :=
  ∀ (m : (ℓ : Loc Cert.SadaIdeal.nD Cert.SadaIdeal.τ Cert.SadaIdeal.sig) → Buf (Elt Ideal) ℓ) (g : Dev Cert.SadaIdeal.nD → PrngReg), Pre_SadaIdeal m →
    θ_run (Cert.SadaIdeal.defs (F := Ideal)) (onTc (τ := Cert.SadaIdeal.τ) (Cert.SadaIdeal.main (F := Ideal))) ⟨m, fun _ => 0, g⟩ (fun r => (∀ c : Dev Cert.SadaIdeal.nD,
      r.2.mem ((c.tc : Thread Cert.SadaIdeal.nD Cert.SadaIdeal.τ).loc Cert.SadaIdeal.main_arg0) = m ((c.tc : Thread Cert.SadaIdeal.nD Cert.SadaIdeal.τ).loc Cert.SadaIdeal.main_arg0)
      ∧ r.2.mem ((c.tc : Thread Cert.SadaIdeal.nD Cert.SadaIdeal.τ).loc Cert.SadaIdeal.main_arg1) = m ((c.tc : Thread Cert.SadaIdeal.nD Cert.SadaIdeal.τ).loc Cert.SadaIdeal.main_arg1)
      ∧ r.2.mem ((c.tc : Thread Cert.SadaIdeal.nD Cert.SadaIdeal.τ).loc Cert.SadaIdeal.main_arg2) = m ((c.tc : Thread Cert.SadaIdeal.nD Cert.SadaIdeal.τ).loc Cert.SadaIdeal.main_arg2)
      ∧ r.2.mem ((c.tc : Thread Cert.SadaIdeal.nD Cert.SadaIdeal.τ).loc Cert.SadaIdeal.main_arg3) = m ((c.tc : Thread Cert.SadaIdeal.nD Cert.SadaIdeal.τ).loc Cert.SadaIdeal.main_arg3)
      ∧ r.2.mem ((c.tc : Thread Cert.SadaIdeal.nD Cert.SadaIdeal.τ).loc Cert.SadaIdeal.main_arg4) = m ((c.tc : Thread Cert.SadaIdeal.nD Cert.SadaIdeal.τ).loc Cert.SadaIdeal.main_arg4)
      ∧ r.2.mem ((c.tc : Thread Cert.SadaIdeal.nD Cert.SadaIdeal.τ).loc Cert.SadaIdeal.main_arg5) = m ((c.tc : Thread Cert.SadaIdeal.nD Cert.SadaIdeal.τ).loc Cert.SadaIdeal.main_arg5)
      ∧ r.2.mem ((c.tc : Thread Cert.SadaIdeal.nD Cert.SadaIdeal.τ).loc Cert.SadaIdeal.main_arg6) = m ((c.tc : Thread Cert.SadaIdeal.nD Cert.SadaIdeal.τ).loc Cert.SadaIdeal.main_arg6)
      ∧ r.2.mem ((c.tc : Thread Cert.SadaIdeal.nD Cert.SadaIdeal.τ).loc Cert.SadaIdeal.main_arg7) = m ((c.tc : Thread Cert.SadaIdeal.nD Cert.SadaIdeal.τ).loc Cert.SadaIdeal.main_arg7)
      ∧ r.2.mem ((c.tc : Thread Cert.SadaIdeal.nD Cert.SadaIdeal.τ).loc Cert.SadaIdeal.main_arg8) = m ((c.tc : Thread Cert.SadaIdeal.nD Cert.SadaIdeal.τ).loc Cert.SadaIdeal.main_arg8)
      ∧ r.2.mem ((c.tc : Thread Cert.SadaIdeal.nD Cert.SadaIdeal.τ).loc Cert.SadaIdeal.main_arg9) = m ((c.tc : Thread Cert.SadaIdeal.nD Cert.SadaIdeal.τ).loc Cert.SadaIdeal.main_arg9)
      ∧ r.2.mem ((c.tc : Thread Cert.SadaIdeal.nD Cert.SadaIdeal.τ).loc Cert.SadaIdeal.main_arg10) = m ((c.tc : Thread Cert.SadaIdeal.nD Cert.SadaIdeal.τ).loc Cert.SadaIdeal.main_arg10)
      ∧ r.2.mem ((c.tc : Thread Cert.SadaIdeal.nD Cert.SadaIdeal.τ).loc Cert.SadaIdeal.main_arg11) = m ((c.tc : Thread Cert.SadaIdeal.nD Cert.SadaIdeal.τ).loc Cert.SadaIdeal.main_arg11))
      ∧ r.2.sem = fun _ => 0)

def quiescent_SadaRefIdeal [hSadaRefIdeal : Cert.SadaRefIdeal.Facts] : Prop :=
  ∀ (m : (ℓ : Loc Cert.SadaRefIdeal.nD Cert.SadaRefIdeal.τ Cert.SadaRefIdeal.sig) → Buf (Elt Ideal) ℓ) (g : Dev Cert.SadaRefIdeal.nD → PrngReg), Pre_SadaRefIdeal m →
    θ_run (Cert.SadaRefIdeal.defs (F := Ideal)) (onTc (τ := Cert.SadaRefIdeal.τ) (Cert.SadaRefIdeal.main (F := Ideal))) ⟨m, fun _ => 0, g⟩ (fun r => (∀ c : Dev Cert.SadaRefIdeal.nD,
      r.2.mem ((c.tc : Thread Cert.SadaRefIdeal.nD Cert.SadaRefIdeal.τ).loc Cert.SadaRefIdeal.main_arg0) = m ((c.tc : Thread Cert.SadaRefIdeal.nD Cert.SadaRefIdeal.τ).loc Cert.SadaRefIdeal.main_arg0)
      ∧ r.2.mem ((c.tc : Thread Cert.SadaRefIdeal.nD Cert.SadaRefIdeal.τ).loc Cert.SadaRefIdeal.main_arg1) = m ((c.tc : Thread Cert.SadaRefIdeal.nD Cert.SadaRefIdeal.τ).loc Cert.SadaRefIdeal.main_arg1)
      ∧ r.2.mem ((c.tc : Thread Cert.SadaRefIdeal.nD Cert.SadaRefIdeal.τ).loc Cert.SadaRefIdeal.main_arg2) = m ((c.tc : Thread Cert.SadaRefIdeal.nD Cert.SadaRefIdeal.τ).loc Cert.SadaRefIdeal.main_arg2)
      ∧ r.2.mem ((c.tc : Thread Cert.SadaRefIdeal.nD Cert.SadaRefIdeal.τ).loc Cert.SadaRefIdeal.main_arg3) = m ((c.tc : Thread Cert.SadaRefIdeal.nD Cert.SadaRefIdeal.τ).loc Cert.SadaRefIdeal.main_arg3)
      ∧ r.2.mem ((c.tc : Thread Cert.SadaRefIdeal.nD Cert.SadaRefIdeal.τ).loc Cert.SadaRefIdeal.main_arg4) = m ((c.tc : Thread Cert.SadaRefIdeal.nD Cert.SadaRefIdeal.τ).loc Cert.SadaRefIdeal.main_arg4)
      ∧ r.2.mem ((c.tc : Thread Cert.SadaRefIdeal.nD Cert.SadaRefIdeal.τ).loc Cert.SadaRefIdeal.main_arg5) = m ((c.tc : Thread Cert.SadaRefIdeal.nD Cert.SadaRefIdeal.τ).loc Cert.SadaRefIdeal.main_arg5)
      ∧ r.2.mem ((c.tc : Thread Cert.SadaRefIdeal.nD Cert.SadaRefIdeal.τ).loc Cert.SadaRefIdeal.main_arg6) = m ((c.tc : Thread Cert.SadaRefIdeal.nD Cert.SadaRefIdeal.τ).loc Cert.SadaRefIdeal.main_arg6)
      ∧ r.2.mem ((c.tc : Thread Cert.SadaRefIdeal.nD Cert.SadaRefIdeal.τ).loc Cert.SadaRefIdeal.main_arg7) = m ((c.tc : Thread Cert.SadaRefIdeal.nD Cert.SadaRefIdeal.τ).loc Cert.SadaRefIdeal.main_arg7)
      ∧ r.2.mem ((c.tc : Thread Cert.SadaRefIdeal.nD Cert.SadaRefIdeal.τ).loc Cert.SadaRefIdeal.main_arg8) = m ((c.tc : Thread Cert.SadaRefIdeal.nD Cert.SadaRefIdeal.τ).loc Cert.SadaRefIdeal.main_arg8)
      ∧ r.2.mem ((c.tc : Thread Cert.SadaRefIdeal.nD Cert.SadaRefIdeal.τ).loc Cert.SadaRefIdeal.main_arg9) = m ((c.tc : Thread Cert.SadaRefIdeal.nD Cert.SadaRefIdeal.τ).loc Cert.SadaRefIdeal.main_arg9)
      ∧ r.2.mem ((c.tc : Thread Cert.SadaRefIdeal.nD Cert.SadaRefIdeal.τ).loc Cert.SadaRefIdeal.main_arg10) = m ((c.tc : Thread Cert.SadaRefIdeal.nD Cert.SadaRefIdeal.τ).loc Cert.SadaRefIdeal.main_arg10)
      ∧ r.2.mem ((c.tc : Thread Cert.SadaRefIdeal.nD Cert.SadaRefIdeal.τ).loc Cert.SadaRefIdeal.main_arg11) = m ((c.tc : Thread Cert.SadaRefIdeal.nD Cert.SadaRefIdeal.τ).loc Cert.SadaRefIdeal.main_arg11))
      ∧ r.2.sem = fun _ => 0)

def quiescent_Sadb [hSadb : Cert.Sadb.Facts] : Prop :=
  ∀ (m : (ℓ : Loc Cert.Sadb.nD Cert.Sadb.τ Cert.Sadb.sig) → Buf (Elt Bits) ℓ) (g : Dev Cert.Sadb.nD → PrngReg), Pre_Sadb m →
    θ_run (Cert.Sadb.defs (F := Bits)) (onTc (τ := Cert.Sadb.τ) (Cert.Sadb.main (F := Bits))) ⟨m, fun _ => 0, g⟩ (fun r => (∀ c : Dev Cert.Sadb.nD,
      r.2.mem ((c.tc : Thread Cert.Sadb.nD Cert.Sadb.τ).loc Cert.Sadb.main_arg0) = m ((c.tc : Thread Cert.Sadb.nD Cert.Sadb.τ).loc Cert.Sadb.main_arg0)
      ∧ r.2.mem ((c.tc : Thread Cert.Sadb.nD Cert.Sadb.τ).loc Cert.Sadb.main_arg1) = m ((c.tc : Thread Cert.Sadb.nD Cert.Sadb.τ).loc Cert.Sadb.main_arg1)
      ∧ r.2.mem ((c.tc : Thread Cert.Sadb.nD Cert.Sadb.τ).loc Cert.Sadb.main_arg2) = m ((c.tc : Thread Cert.Sadb.nD Cert.Sadb.τ).loc Cert.Sadb.main_arg2)
      ∧ r.2.mem ((c.tc : Thread Cert.Sadb.nD Cert.Sadb.τ).loc Cert.Sadb.main_arg3) = m ((c.tc : Thread Cert.Sadb.nD Cert.Sadb.τ).loc Cert.Sadb.main_arg3)
      ∧ r.2.mem ((c.tc : Thread Cert.Sadb.nD Cert.Sadb.τ).loc Cert.Sadb.main_arg4) = m ((c.tc : Thread Cert.Sadb.nD Cert.Sadb.τ).loc Cert.Sadb.main_arg4)
      ∧ r.2.mem ((c.tc : Thread Cert.Sadb.nD Cert.Sadb.τ).loc Cert.Sadb.main_arg5) = m ((c.tc : Thread Cert.Sadb.nD Cert.Sadb.τ).loc Cert.Sadb.main_arg5)
      ∧ r.2.mem ((c.tc : Thread Cert.Sadb.nD Cert.Sadb.τ).loc Cert.Sadb.main_arg6) = m ((c.tc : Thread Cert.Sadb.nD Cert.Sadb.τ).loc Cert.Sadb.main_arg6)
      ∧ r.2.mem ((c.tc : Thread Cert.Sadb.nD Cert.Sadb.τ).loc Cert.Sadb.main_arg7) = m ((c.tc : Thread Cert.Sadb.nD Cert.Sadb.τ).loc Cert.Sadb.main_arg7)
      ∧ r.2.mem ((c.tc : Thread Cert.Sadb.nD Cert.Sadb.τ).loc Cert.Sadb.main_arg8) = m ((c.tc : Thread Cert.Sadb.nD Cert.Sadb.τ).loc Cert.Sadb.main_arg8)
      ∧ r.2.mem ((c.tc : Thread Cert.Sadb.nD Cert.Sadb.τ).loc Cert.Sadb.main_arg9) = m ((c.tc : Thread Cert.Sadb.nD Cert.Sadb.τ).loc Cert.Sadb.main_arg9)
      ∧ r.2.mem ((c.tc : Thread Cert.Sadb.nD Cert.Sadb.τ).loc Cert.Sadb.main_arg10) = m ((c.tc : Thread Cert.Sadb.nD Cert.Sadb.τ).loc Cert.Sadb.main_arg10)
      ∧ r.2.mem ((c.tc : Thread Cert.Sadb.nD Cert.Sadb.τ).loc Cert.Sadb.main_arg11) = m ((c.tc : Thread Cert.Sadb.nD Cert.Sadb.τ).loc Cert.Sadb.main_arg11))
      ∧ r.2.sem = fun _ => 0)

def quiescent_SadbIdeal [hSadbIdeal : Cert.SadbIdeal.Facts] : Prop :=
  ∀ (m : (ℓ : Loc Cert.SadbIdeal.nD Cert.SadbIdeal.τ Cert.SadbIdeal.sig) → Buf (Elt Ideal) ℓ) (g : Dev Cert.SadbIdeal.nD → PrngReg), Pre_SadbIdeal m →
    θ_run (Cert.SadbIdeal.defs (F := Ideal)) (onTc (τ := Cert.SadbIdeal.τ) (Cert.SadbIdeal.main (F := Ideal))) ⟨m, fun _ => 0, g⟩ (fun r => (∀ c : Dev Cert.SadbIdeal.nD,
      r.2.mem ((c.tc : Thread Cert.SadbIdeal.nD Cert.SadbIdeal.τ).loc Cert.SadbIdeal.main_arg0) = m ((c.tc : Thread Cert.SadbIdeal.nD Cert.SadbIdeal.τ).loc Cert.SadbIdeal.main_arg0)
      ∧ r.2.mem ((c.tc : Thread Cert.SadbIdeal.nD Cert.SadbIdeal.τ).loc Cert.SadbIdeal.main_arg1) = m ((c.tc : Thread Cert.SadbIdeal.nD Cert.SadbIdeal.τ).loc Cert.SadbIdeal.main_arg1)
      ∧ r.2.mem ((c.tc : Thread Cert.SadbIdeal.nD Cert.SadbIdeal.τ).loc Cert.SadbIdeal.main_arg2) = m ((c.tc : Thread Cert.SadbIdeal.nD Cert.SadbIdeal.τ).loc Cert.SadbIdeal.main_arg2)
      ∧ r.2.mem ((c.tc : Thread Cert.SadbIdeal.nD Cert.SadbIdeal.τ).loc Cert.SadbIdeal.main_arg3) = m ((c.tc : Thread Cert.SadbIdeal.nD Cert.SadbIdeal.τ).loc Cert.SadbIdeal.main_arg3)
      ∧ r.2.mem ((c.tc : Thread Cert.SadbIdeal.nD Cert.SadbIdeal.τ).loc Cert.SadbIdeal.main_arg4) = m ((c.tc : Thread Cert.SadbIdeal.nD Cert.SadbIdeal.τ).loc Cert.SadbIdeal.main_arg4)
      ∧ r.2.mem ((c.tc : Thread Cert.SadbIdeal.nD Cert.SadbIdeal.τ).loc Cert.SadbIdeal.main_arg5) = m ((c.tc : Thread Cert.SadbIdeal.nD Cert.SadbIdeal.τ).loc Cert.SadbIdeal.main_arg5)
      ∧ r.2.mem ((c.tc : Thread Cert.SadbIdeal.nD Cert.SadbIdeal.τ).loc Cert.SadbIdeal.main_arg6) = m ((c.tc : Thread Cert.SadbIdeal.nD Cert.SadbIdeal.τ).loc Cert.SadbIdeal.main_arg6)
      ∧ r.2.mem ((c.tc : Thread Cert.SadbIdeal.nD Cert.SadbIdeal.τ).loc Cert.SadbIdeal.main_arg7) = m ((c.tc : Thread Cert.SadbIdeal.nD Cert.SadbIdeal.τ).loc Cert.SadbIdeal.main_arg7)
      ∧ r.2.mem ((c.tc : Thread Cert.SadbIdeal.nD Cert.SadbIdeal.τ).loc Cert.SadbIdeal.main_arg8) = m ((c.tc : Thread Cert.SadbIdeal.nD Cert.SadbIdeal.τ).loc Cert.SadbIdeal.main_arg8)
      ∧ r.2.mem ((c.tc : Thread Cert.SadbIdeal.nD Cert.SadbIdeal.τ).loc Cert.SadbIdeal.main_arg9) = m ((c.tc : Thread Cert.SadbIdeal.nD Cert.SadbIdeal.τ).loc Cert.SadbIdeal.main_arg9)
      ∧ r.2.mem ((c.tc : Thread Cert.SadbIdeal.nD Cert.SadbIdeal.τ).loc Cert.SadbIdeal.main_arg10) = m ((c.tc : Thread Cert.SadbIdeal.nD Cert.SadbIdeal.τ).loc Cert.SadbIdeal.main_arg10)
      ∧ r.2.mem ((c.tc : Thread Cert.SadbIdeal.nD Cert.SadbIdeal.τ).loc Cert.SadbIdeal.main_arg11) = m ((c.tc : Thread Cert.SadbIdeal.nD Cert.SadbIdeal.τ).loc Cert.SadbIdeal.main_arg11))
      ∧ r.2.sem = fun _ => 0)

def quiescent_SadbRefIdeal [hSadbRefIdeal : Cert.SadbRefIdeal.Facts] : Prop :=
  ∀ (m : (ℓ : Loc Cert.SadbRefIdeal.nD Cert.SadbRefIdeal.τ Cert.SadbRefIdeal.sig) → Buf (Elt Ideal) ℓ) (g : Dev Cert.SadbRefIdeal.nD → PrngReg), Pre_SadbRefIdeal m →
    θ_run (Cert.SadbRefIdeal.defs (F := Ideal)) (onTc (τ := Cert.SadbRefIdeal.τ) (Cert.SadbRefIdeal.main (F := Ideal))) ⟨m, fun _ => 0, g⟩ (fun r => (∀ c : Dev Cert.SadbRefIdeal.nD,
      r.2.mem ((c.tc : Thread Cert.SadbRefIdeal.nD Cert.SadbRefIdeal.τ).loc Cert.SadbRefIdeal.main_arg0) = m ((c.tc : Thread Cert.SadbRefIdeal.nD Cert.SadbRefIdeal.τ).loc Cert.SadbRefIdeal.main_arg0)
      ∧ r.2.mem ((c.tc : Thread Cert.SadbRefIdeal.nD Cert.SadbRefIdeal.τ).loc Cert.SadbRefIdeal.main_arg1) = m ((c.tc : Thread Cert.SadbRefIdeal.nD Cert.SadbRefIdeal.τ).loc Cert.SadbRefIdeal.main_arg1)
      ∧ r.2.mem ((c.tc : Thread Cert.SadbRefIdeal.nD Cert.SadbRefIdeal.τ).loc Cert.SadbRefIdeal.main_arg2) = m ((c.tc : Thread Cert.SadbRefIdeal.nD Cert.SadbRefIdeal.τ).loc Cert.SadbRefIdeal.main_arg2)
      ∧ r.2.mem ((c.tc : Thread Cert.SadbRefIdeal.nD Cert.SadbRefIdeal.τ).loc Cert.SadbRefIdeal.main_arg3) = m ((c.tc : Thread Cert.SadbRefIdeal.nD Cert.SadbRefIdeal.τ).loc Cert.SadbRefIdeal.main_arg3)
      ∧ r.2.mem ((c.tc : Thread Cert.SadbRefIdeal.nD Cert.SadbRefIdeal.τ).loc Cert.SadbRefIdeal.main_arg4) = m ((c.tc : Thread Cert.SadbRefIdeal.nD Cert.SadbRefIdeal.τ).loc Cert.SadbRefIdeal.main_arg4)
      ∧ r.2.mem ((c.tc : Thread Cert.SadbRefIdeal.nD Cert.SadbRefIdeal.τ).loc Cert.SadbRefIdeal.main_arg5) = m ((c.tc : Thread Cert.SadbRefIdeal.nD Cert.SadbRefIdeal.τ).loc Cert.SadbRefIdeal.main_arg5)
      ∧ r.2.mem ((c.tc : Thread Cert.SadbRefIdeal.nD Cert.SadbRefIdeal.τ).loc Cert.SadbRefIdeal.main_arg6) = m ((c.tc : Thread Cert.SadbRefIdeal.nD Cert.SadbRefIdeal.τ).loc Cert.SadbRefIdeal.main_arg6)
      ∧ r.2.mem ((c.tc : Thread Cert.SadbRefIdeal.nD Cert.SadbRefIdeal.τ).loc Cert.SadbRefIdeal.main_arg7) = m ((c.tc : Thread Cert.SadbRefIdeal.nD Cert.SadbRefIdeal.τ).loc Cert.SadbRefIdeal.main_arg7)
      ∧ r.2.mem ((c.tc : Thread Cert.SadbRefIdeal.nD Cert.SadbRefIdeal.τ).loc Cert.SadbRefIdeal.main_arg8) = m ((c.tc : Thread Cert.SadbRefIdeal.nD Cert.SadbRefIdeal.τ).loc Cert.SadbRefIdeal.main_arg8)
      ∧ r.2.mem ((c.tc : Thread Cert.SadbRefIdeal.nD Cert.SadbRefIdeal.τ).loc Cert.SadbRefIdeal.main_arg9) = m ((c.tc : Thread Cert.SadbRefIdeal.nD Cert.SadbRefIdeal.τ).loc Cert.SadbRefIdeal.main_arg9)
      ∧ r.2.mem ((c.tc : Thread Cert.SadbRefIdeal.nD Cert.SadbRefIdeal.τ).loc Cert.SadbRefIdeal.main_arg10) = m ((c.tc : Thread Cert.SadbRefIdeal.nD Cert.SadbRefIdeal.τ).loc Cert.SadbRefIdeal.main_arg10)
      ∧ r.2.mem ((c.tc : Thread Cert.SadbRefIdeal.nD Cert.SadbRefIdeal.τ).loc Cert.SadbRefIdeal.main_arg11) = m ((c.tc : Thread Cert.SadbRefIdeal.nD Cert.SadbRefIdeal.τ).loc Cert.SadbRefIdeal.main_arg11))
      ∧ r.2.sem = fun _ => 0)

def quiescent_Sadc [hSadc : Cert.Sadc.Facts] : Prop :=
  ∀ (m : (ℓ : Loc Cert.Sadc.nD Cert.Sadc.τ Cert.Sadc.sig) → Buf (Elt Bits) ℓ) (g : Dev Cert.Sadc.nD → PrngReg), Pre_Sadc m →
    θ_run (Cert.Sadc.defs (F := Bits)) (onTc (τ := Cert.Sadc.τ) (Cert.Sadc.main (F := Bits))) ⟨m, fun _ => 0, g⟩ (fun r => (∀ c : Dev Cert.Sadc.nD,
      r.2.mem ((c.tc : Thread Cert.Sadc.nD Cert.Sadc.τ).loc Cert.Sadc.main_arg0) = m ((c.tc : Thread Cert.Sadc.nD Cert.Sadc.τ).loc Cert.Sadc.main_arg0)
      ∧ r.2.mem ((c.tc : Thread Cert.Sadc.nD Cert.Sadc.τ).loc Cert.Sadc.main_arg1) = m ((c.tc : Thread Cert.Sadc.nD Cert.Sadc.τ).loc Cert.Sadc.main_arg1)
      ∧ r.2.mem ((c.tc : Thread Cert.Sadc.nD Cert.Sadc.τ).loc Cert.Sadc.main_arg2) = m ((c.tc : Thread Cert.Sadc.nD Cert.Sadc.τ).loc Cert.Sadc.main_arg2)
      ∧ r.2.mem ((c.tc : Thread Cert.Sadc.nD Cert.Sadc.τ).loc Cert.Sadc.main_arg3) = m ((c.tc : Thread Cert.Sadc.nD Cert.Sadc.τ).loc Cert.Sadc.main_arg3)
      ∧ r.2.mem ((c.tc : Thread Cert.Sadc.nD Cert.Sadc.τ).loc Cert.Sadc.main_arg4) = m ((c.tc : Thread Cert.Sadc.nD Cert.Sadc.τ).loc Cert.Sadc.main_arg4)
      ∧ r.2.mem ((c.tc : Thread Cert.Sadc.nD Cert.Sadc.τ).loc Cert.Sadc.main_arg5) = m ((c.tc : Thread Cert.Sadc.nD Cert.Sadc.τ).loc Cert.Sadc.main_arg5)
      ∧ r.2.mem ((c.tc : Thread Cert.Sadc.nD Cert.Sadc.τ).loc Cert.Sadc.main_arg6) = m ((c.tc : Thread Cert.Sadc.nD Cert.Sadc.τ).loc Cert.Sadc.main_arg6)
      ∧ r.2.mem ((c.tc : Thread Cert.Sadc.nD Cert.Sadc.τ).loc Cert.Sadc.main_arg7) = m ((c.tc : Thread Cert.Sadc.nD Cert.Sadc.τ).loc Cert.Sadc.main_arg7)
      ∧ r.2.mem ((c.tc : Thread Cert.Sadc.nD Cert.Sadc.τ).loc Cert.Sadc.main_arg8) = m ((c.tc : Thread Cert.Sadc.nD Cert.Sadc.τ).loc Cert.Sadc.main_arg8)
      ∧ r.2.mem ((c.tc : Thread Cert.Sadc.nD Cert.Sadc.τ).loc Cert.Sadc.main_arg9) = m ((c.tc : Thread Cert.Sadc.nD Cert.Sadc.τ).loc Cert.Sadc.main_arg9)
      ∧ r.2.mem ((c.tc : Thread Cert.Sadc.nD Cert.Sadc.τ).loc Cert.Sadc.main_arg10) = m ((c.tc : Thread Cert.Sadc.nD Cert.Sadc.τ).loc Cert.Sadc.main_arg10)
      ∧ r.2.mem ((c.tc : Thread Cert.Sadc.nD Cert.Sadc.τ).loc Cert.Sadc.main_arg11) = m ((c.tc : Thread Cert.Sadc.nD Cert.Sadc.τ).loc Cert.Sadc.main_arg11))
      ∧ r.2.sem = fun _ => 0)

def quiescent_SadcIdeal [hSadcIdeal : Cert.SadcIdeal.Facts] : Prop :=
  ∀ (m : (ℓ : Loc Cert.SadcIdeal.nD Cert.SadcIdeal.τ Cert.SadcIdeal.sig) → Buf (Elt Ideal) ℓ) (g : Dev Cert.SadcIdeal.nD → PrngReg), Pre_SadcIdeal m →
    θ_run (Cert.SadcIdeal.defs (F := Ideal)) (onTc (τ := Cert.SadcIdeal.τ) (Cert.SadcIdeal.main (F := Ideal))) ⟨m, fun _ => 0, g⟩ (fun r => (∀ c : Dev Cert.SadcIdeal.nD,
      r.2.mem ((c.tc : Thread Cert.SadcIdeal.nD Cert.SadcIdeal.τ).loc Cert.SadcIdeal.main_arg0) = m ((c.tc : Thread Cert.SadcIdeal.nD Cert.SadcIdeal.τ).loc Cert.SadcIdeal.main_arg0)
      ∧ r.2.mem ((c.tc : Thread Cert.SadcIdeal.nD Cert.SadcIdeal.τ).loc Cert.SadcIdeal.main_arg1) = m ((c.tc : Thread Cert.SadcIdeal.nD Cert.SadcIdeal.τ).loc Cert.SadcIdeal.main_arg1)
      ∧ r.2.mem ((c.tc : Thread Cert.SadcIdeal.nD Cert.SadcIdeal.τ).loc Cert.SadcIdeal.main_arg2) = m ((c.tc : Thread Cert.SadcIdeal.nD Cert.SadcIdeal.τ).loc Cert.SadcIdeal.main_arg2)
      ∧ r.2.mem ((c.tc : Thread Cert.SadcIdeal.nD Cert.SadcIdeal.τ).loc Cert.SadcIdeal.main_arg3) = m ((c.tc : Thread Cert.SadcIdeal.nD Cert.SadcIdeal.τ).loc Cert.SadcIdeal.main_arg3)
      ∧ r.2.mem ((c.tc : Thread Cert.SadcIdeal.nD Cert.SadcIdeal.τ).loc Cert.SadcIdeal.main_arg4) = m ((c.tc : Thread Cert.SadcIdeal.nD Cert.SadcIdeal.τ).loc Cert.SadcIdeal.main_arg4)
      ∧ r.2.mem ((c.tc : Thread Cert.SadcIdeal.nD Cert.SadcIdeal.τ).loc Cert.SadcIdeal.main_arg5) = m ((c.tc : Thread Cert.SadcIdeal.nD Cert.SadcIdeal.τ).loc Cert.SadcIdeal.main_arg5)
      ∧ r.2.mem ((c.tc : Thread Cert.SadcIdeal.nD Cert.SadcIdeal.τ).loc Cert.SadcIdeal.main_arg6) = m ((c.tc : Thread Cert.SadcIdeal.nD Cert.SadcIdeal.τ).loc Cert.SadcIdeal.main_arg6)
      ∧ r.2.mem ((c.tc : Thread Cert.SadcIdeal.nD Cert.SadcIdeal.τ).loc Cert.SadcIdeal.main_arg7) = m ((c.tc : Thread Cert.SadcIdeal.nD Cert.SadcIdeal.τ).loc Cert.SadcIdeal.main_arg7)
      ∧ r.2.mem ((c.tc : Thread Cert.SadcIdeal.nD Cert.SadcIdeal.τ).loc Cert.SadcIdeal.main_arg8) = m ((c.tc : Thread Cert.SadcIdeal.nD Cert.SadcIdeal.τ).loc Cert.SadcIdeal.main_arg8)
      ∧ r.2.mem ((c.tc : Thread Cert.SadcIdeal.nD Cert.SadcIdeal.τ).loc Cert.SadcIdeal.main_arg9) = m ((c.tc : Thread Cert.SadcIdeal.nD Cert.SadcIdeal.τ).loc Cert.SadcIdeal.main_arg9)
      ∧ r.2.mem ((c.tc : Thread Cert.SadcIdeal.nD Cert.SadcIdeal.τ).loc Cert.SadcIdeal.main_arg10) = m ((c.tc : Thread Cert.SadcIdeal.nD Cert.SadcIdeal.τ).loc Cert.SadcIdeal.main_arg10)
      ∧ r.2.mem ((c.tc : Thread Cert.SadcIdeal.nD Cert.SadcIdeal.τ).loc Cert.SadcIdeal.main_arg11) = m ((c.tc : Thread Cert.SadcIdeal.nD Cert.SadcIdeal.τ).loc Cert.SadcIdeal.main_arg11))
      ∧ r.2.sem = fun _ => 0)

def quiescent_SadcRefIdeal [hSadcRefIdeal : Cert.SadcRefIdeal.Facts] : Prop :=
  ∀ (m : (ℓ : Loc Cert.SadcRefIdeal.nD Cert.SadcRefIdeal.τ Cert.SadcRefIdeal.sig) → Buf (Elt Ideal) ℓ) (g : Dev Cert.SadcRefIdeal.nD → PrngReg), Pre_SadcRefIdeal m →
    θ_run (Cert.SadcRefIdeal.defs (F := Ideal)) (onTc (τ := Cert.SadcRefIdeal.τ) (Cert.SadcRefIdeal.main (F := Ideal))) ⟨m, fun _ => 0, g⟩ (fun r => (∀ c : Dev Cert.SadcRefIdeal.nD,
      r.2.mem ((c.tc : Thread Cert.SadcRefIdeal.nD Cert.SadcRefIdeal.τ).loc Cert.SadcRefIdeal.main_arg0) = m ((c.tc : Thread Cert.SadcRefIdeal.nD Cert.SadcRefIdeal.τ).loc Cert.SadcRefIdeal.main_arg0)
      ∧ r.2.mem ((c.tc : Thread Cert.SadcRefIdeal.nD Cert.SadcRefIdeal.τ).loc Cert.SadcRefIdeal.main_arg1) = m ((c.tc : Thread Cert.SadcRefIdeal.nD Cert.SadcRefIdeal.τ).loc Cert.SadcRefIdeal.main_arg1)
      ∧ r.2.mem ((c.tc : Thread Cert.SadcRefIdeal.nD Cert.SadcRefIdeal.τ).loc Cert.SadcRefIdeal.main_arg2) = m ((c.tc : Thread Cert.SadcRefIdeal.nD Cert.SadcRefIdeal.τ).loc Cert.SadcRefIdeal.main_arg2)
      ∧ r.2.mem ((c.tc : Thread Cert.SadcRefIdeal.nD Cert.SadcRefIdeal.τ).loc Cert.SadcRefIdeal.main_arg3) = m ((c.tc : Thread Cert.SadcRefIdeal.nD Cert.SadcRefIdeal.τ).loc Cert.SadcRefIdeal.main_arg3)
      ∧ r.2.mem ((c.tc : Thread Cert.SadcRefIdeal.nD Cert.SadcRefIdeal.τ).loc Cert.SadcRefIdeal.main_arg4) = m ((c.tc : Thread Cert.SadcRefIdeal.nD Cert.SadcRefIdeal.τ).loc Cert.SadcRefIdeal.main_arg4)
      ∧ r.2.mem ((c.tc : Thread Cert.SadcRefIdeal.nD Cert.SadcRefIdeal.τ).loc Cert.SadcRefIdeal.main_arg5) = m ((c.tc : Thread Cert.SadcRefIdeal.nD Cert.SadcRefIdeal.τ).loc Cert.SadcRefIdeal.main_arg5)
      ∧ r.2.mem ((c.tc : Thread Cert.SadcRefIdeal.nD Cert.SadcRefIdeal.τ).loc Cert.SadcRefIdeal.main_arg6) = m ((c.tc : Thread Cert.SadcRefIdeal.nD Cert.SadcRefIdeal.τ).loc Cert.SadcRefIdeal.main_arg6)
      ∧ r.2.mem ((c.tc : Thread Cert.SadcRefIdeal.nD Cert.SadcRefIdeal.τ).loc Cert.SadcRefIdeal.main_arg7) = m ((c.tc : Thread Cert.SadcRefIdeal.nD Cert.SadcRefIdeal.τ).loc Cert.SadcRefIdeal.main_arg7)
      ∧ r.2.mem ((c.tc : Thread Cert.SadcRefIdeal.nD Cert.SadcRefIdeal.τ).loc Cert.SadcRefIdeal.main_arg8) = m ((c.tc : Thread Cert.SadcRefIdeal.nD Cert.SadcRefIdeal.τ).loc Cert.SadcRefIdeal.main_arg8)
      ∧ r.2.mem ((c.tc : Thread Cert.SadcRefIdeal.nD Cert.SadcRefIdeal.τ).loc Cert.SadcRefIdeal.main_arg9) = m ((c.tc : Thread Cert.SadcRefIdeal.nD Cert.SadcRefIdeal.τ).loc Cert.SadcRefIdeal.main_arg9)
      ∧ r.2.mem ((c.tc : Thread Cert.SadcRefIdeal.nD Cert.SadcRefIdeal.τ).loc Cert.SadcRefIdeal.main_arg10) = m ((c.tc : Thread Cert.SadcRefIdeal.nD Cert.SadcRefIdeal.τ).loc Cert.SadcRefIdeal.main_arg10)
      ∧ r.2.mem ((c.tc : Thread Cert.SadcRefIdeal.nD Cert.SadcRefIdeal.τ).loc Cert.SadcRefIdeal.main_arg11) = m ((c.tc : Thread Cert.SadcRefIdeal.nD Cert.SadcRefIdeal.τ).loc Cert.SadcRefIdeal.main_arg11))
      ∧ r.2.sem = fun _ => 0)

def quiescent_Sadd [hSadd : Cert.Sadd.Facts] : Prop :=
  ∀ (m : (ℓ : Loc Cert.Sadd.nD Cert.Sadd.τ Cert.Sadd.sig) → Buf (Elt Bits) ℓ) (g : Dev Cert.Sadd.nD → PrngReg), Pre_Sadd m →
    θ_run (Cert.Sadd.defs (F := Bits)) (onTc (τ := Cert.Sadd.τ) (Cert.Sadd.main (F := Bits))) ⟨m, fun _ => 0, g⟩ (fun r => (∀ c : Dev Cert.Sadd.nD,
      r.2.mem ((c.tc : Thread Cert.Sadd.nD Cert.Sadd.τ).loc Cert.Sadd.main_arg0) = m ((c.tc : Thread Cert.Sadd.nD Cert.Sadd.τ).loc Cert.Sadd.main_arg0)
      ∧ r.2.mem ((c.tc : Thread Cert.Sadd.nD Cert.Sadd.τ).loc Cert.Sadd.main_arg1) = m ((c.tc : Thread Cert.Sadd.nD Cert.Sadd.τ).loc Cert.Sadd.main_arg1)
      ∧ r.2.mem ((c.tc : Thread Cert.Sadd.nD Cert.Sadd.τ).loc Cert.Sadd.main_arg2) = m ((c.tc : Thread Cert.Sadd.nD Cert.Sadd.τ).loc Cert.Sadd.main_arg2)
      ∧ r.2.mem ((c.tc : Thread Cert.Sadd.nD Cert.Sadd.τ).loc Cert.Sadd.main_arg3) = m ((c.tc : Thread Cert.Sadd.nD Cert.Sadd.τ).loc Cert.Sadd.main_arg3)
      ∧ r.2.mem ((c.tc : Thread Cert.Sadd.nD Cert.Sadd.τ).loc Cert.Sadd.main_arg4) = m ((c.tc : Thread Cert.Sadd.nD Cert.Sadd.τ).loc Cert.Sadd.main_arg4)
      ∧ r.2.mem ((c.tc : Thread Cert.Sadd.nD Cert.Sadd.τ).loc Cert.Sadd.main_arg5) = m ((c.tc : Thread Cert.Sadd.nD Cert.Sadd.τ).loc Cert.Sadd.main_arg5)
      ∧ r.2.mem ((c.tc : Thread Cert.Sadd.nD Cert.Sadd.τ).loc Cert.Sadd.main_arg6) = m ((c.tc : Thread Cert.Sadd.nD Cert.Sadd.τ).loc Cert.Sadd.main_arg6)
      ∧ r.2.mem ((c.tc : Thread Cert.Sadd.nD Cert.Sadd.τ).loc Cert.Sadd.main_arg7) = m ((c.tc : Thread Cert.Sadd.nD Cert.Sadd.τ).loc Cert.Sadd.main_arg7)
      ∧ r.2.mem ((c.tc : Thread Cert.Sadd.nD Cert.Sadd.τ).loc Cert.Sadd.main_arg8) = m ((c.tc : Thread Cert.Sadd.nD Cert.Sadd.τ).loc Cert.Sadd.main_arg8)
      ∧ r.2.mem ((c.tc : Thread Cert.Sadd.nD Cert.Sadd.τ).loc Cert.Sadd.main_arg9) = m ((c.tc : Thread Cert.Sadd.nD Cert.Sadd.τ).loc Cert.Sadd.main_arg9)
      ∧ r.2.mem ((c.tc : Thread Cert.Sadd.nD Cert.Sadd.τ).loc Cert.Sadd.main_arg10) = m ((c.tc : Thread Cert.Sadd.nD Cert.Sadd.τ).loc Cert.Sadd.main_arg10)
      ∧ r.2.mem ((c.tc : Thread Cert.Sadd.nD Cert.Sadd.τ).loc Cert.Sadd.main_arg11) = m ((c.tc : Thread Cert.Sadd.nD Cert.Sadd.τ).loc Cert.Sadd.main_arg11))
      ∧ r.2.sem = fun _ => 0)

def quiescent_SaddIdeal [hSaddIdeal : Cert.SaddIdeal.Facts] : Prop :=
  ∀ (m : (ℓ : Loc Cert.SaddIdeal.nD Cert.SaddIdeal.τ Cert.SaddIdeal.sig) → Buf (Elt Ideal) ℓ) (g : Dev Cert.SaddIdeal.nD → PrngReg), Pre_SaddIdeal m →
    θ_run (Cert.SaddIdeal.defs (F := Ideal)) (onTc (τ := Cert.SaddIdeal.τ) (Cert.SaddIdeal.main (F := Ideal))) ⟨m, fun _ => 0, g⟩ (fun r => (∀ c : Dev Cert.SaddIdeal.nD,
      r.2.mem ((c.tc : Thread Cert.SaddIdeal.nD Cert.SaddIdeal.τ).loc Cert.SaddIdeal.main_arg0) = m ((c.tc : Thread Cert.SaddIdeal.nD Cert.SaddIdeal.τ).loc Cert.SaddIdeal.main_arg0)
      ∧ r.2.mem ((c.tc : Thread Cert.SaddIdeal.nD Cert.SaddIdeal.τ).loc Cert.SaddIdeal.main_arg1) = m ((c.tc : Thread Cert.SaddIdeal.nD Cert.SaddIdeal.τ).loc Cert.SaddIdeal.main_arg1)
      ∧ r.2.mem ((c.tc : Thread Cert.SaddIdeal.nD Cert.SaddIdeal.τ).loc Cert.SaddIdeal.main_arg2) = m ((c.tc : Thread Cert.SaddIdeal.nD Cert.SaddIdeal.τ).loc Cert.SaddIdeal.main_arg2)
      ∧ r.2.mem ((c.tc : Thread Cert.SaddIdeal.nD Cert.SaddIdeal.τ).loc Cert.SaddIdeal.main_arg3) = m ((c.tc : Thread Cert.SaddIdeal.nD Cert.SaddIdeal.τ).loc Cert.SaddIdeal.main_arg3)
      ∧ r.2.mem ((c.tc : Thread Cert.SaddIdeal.nD Cert.SaddIdeal.τ).loc Cert.SaddIdeal.main_arg4) = m ((c.tc : Thread Cert.SaddIdeal.nD Cert.SaddIdeal.τ).loc Cert.SaddIdeal.main_arg4)
      ∧ r.2.mem ((c.tc : Thread Cert.SaddIdeal.nD Cert.SaddIdeal.τ).loc Cert.SaddIdeal.main_arg5) = m ((c.tc : Thread Cert.SaddIdeal.nD Cert.SaddIdeal.τ).loc Cert.SaddIdeal.main_arg5)
      ∧ r.2.mem ((c.tc : Thread Cert.SaddIdeal.nD Cert.SaddIdeal.τ).loc Cert.SaddIdeal.main_arg6) = m ((c.tc : Thread Cert.SaddIdeal.nD Cert.SaddIdeal.τ).loc Cert.SaddIdeal.main_arg6)
      ∧ r.2.mem ((c.tc : Thread Cert.SaddIdeal.nD Cert.SaddIdeal.τ).loc Cert.SaddIdeal.main_arg7) = m ((c.tc : Thread Cert.SaddIdeal.nD Cert.SaddIdeal.τ).loc Cert.SaddIdeal.main_arg7)
      ∧ r.2.mem ((c.tc : Thread Cert.SaddIdeal.nD Cert.SaddIdeal.τ).loc Cert.SaddIdeal.main_arg8) = m ((c.tc : Thread Cert.SaddIdeal.nD Cert.SaddIdeal.τ).loc Cert.SaddIdeal.main_arg8)
      ∧ r.2.mem ((c.tc : Thread Cert.SaddIdeal.nD Cert.SaddIdeal.τ).loc Cert.SaddIdeal.main_arg9) = m ((c.tc : Thread Cert.SaddIdeal.nD Cert.SaddIdeal.τ).loc Cert.SaddIdeal.main_arg9)
      ∧ r.2.mem ((c.tc : Thread Cert.SaddIdeal.nD Cert.SaddIdeal.τ).loc Cert.SaddIdeal.main_arg10) = m ((c.tc : Thread Cert.SaddIdeal.nD Cert.SaddIdeal.τ).loc Cert.SaddIdeal.main_arg10)
      ∧ r.2.mem ((c.tc : Thread Cert.SaddIdeal.nD Cert.SaddIdeal.τ).loc Cert.SaddIdeal.main_arg11) = m ((c.tc : Thread Cert.SaddIdeal.nD Cert.SaddIdeal.τ).loc Cert.SaddIdeal.main_arg11))
      ∧ r.2.sem = fun _ => 0)

def quiescent_SaddRefIdeal [hSaddRefIdeal : Cert.SaddRefIdeal.Facts] : Prop :=
  ∀ (m : (ℓ : Loc Cert.SaddRefIdeal.nD Cert.SaddRefIdeal.τ Cert.SaddRefIdeal.sig) → Buf (Elt Ideal) ℓ) (g : Dev Cert.SaddRefIdeal.nD → PrngReg), Pre_SaddRefIdeal m →
    θ_run (Cert.SaddRefIdeal.defs (F := Ideal)) (onTc (τ := Cert.SaddRefIdeal.τ) (Cert.SaddRefIdeal.main (F := Ideal))) ⟨m, fun _ => 0, g⟩ (fun r => (∀ c : Dev Cert.SaddRefIdeal.nD,
      r.2.mem ((c.tc : Thread Cert.SaddRefIdeal.nD Cert.SaddRefIdeal.τ).loc Cert.SaddRefIdeal.main_arg0) = m ((c.tc : Thread Cert.SaddRefIdeal.nD Cert.SaddRefIdeal.τ).loc Cert.SaddRefIdeal.main_arg0)
      ∧ r.2.mem ((c.tc : Thread Cert.SaddRefIdeal.nD Cert.SaddRefIdeal.τ).loc Cert.SaddRefIdeal.main_arg1) = m ((c.tc : Thread Cert.SaddRefIdeal.nD Cert.SaddRefIdeal.τ).loc Cert.SaddRefIdeal.main_arg1)
      ∧ r.2.mem ((c.tc : Thread Cert.SaddRefIdeal.nD Cert.SaddRefIdeal.τ).loc Cert.SaddRefIdeal.main_arg2) = m ((c.tc : Thread Cert.SaddRefIdeal.nD Cert.SaddRefIdeal.τ).loc Cert.SaddRefIdeal.main_arg2)
      ∧ r.2.mem ((c.tc : Thread Cert.SaddRefIdeal.nD Cert.SaddRefIdeal.τ).loc Cert.SaddRefIdeal.main_arg3) = m ((c.tc : Thread Cert.SaddRefIdeal.nD Cert.SaddRefIdeal.τ).loc Cert.SaddRefIdeal.main_arg3)
      ∧ r.2.mem ((c.tc : Thread Cert.SaddRefIdeal.nD Cert.SaddRefIdeal.τ).loc Cert.SaddRefIdeal.main_arg4) = m ((c.tc : Thread Cert.SaddRefIdeal.nD Cert.SaddRefIdeal.τ).loc Cert.SaddRefIdeal.main_arg4)
      ∧ r.2.mem ((c.tc : Thread Cert.SaddRefIdeal.nD Cert.SaddRefIdeal.τ).loc Cert.SaddRefIdeal.main_arg5) = m ((c.tc : Thread Cert.SaddRefIdeal.nD Cert.SaddRefIdeal.τ).loc Cert.SaddRefIdeal.main_arg5)
      ∧ r.2.mem ((c.tc : Thread Cert.SaddRefIdeal.nD Cert.SaddRefIdeal.τ).loc Cert.SaddRefIdeal.main_arg6) = m ((c.tc : Thread Cert.SaddRefIdeal.nD Cert.SaddRefIdeal.τ).loc Cert.SaddRefIdeal.main_arg6)
      ∧ r.2.mem ((c.tc : Thread Cert.SaddRefIdeal.nD Cert.SaddRefIdeal.τ).loc Cert.SaddRefIdeal.main_arg7) = m ((c.tc : Thread Cert.SaddRefIdeal.nD Cert.SaddRefIdeal.τ).loc Cert.SaddRefIdeal.main_arg7)
      ∧ r.2.mem ((c.tc : Thread Cert.SaddRefIdeal.nD Cert.SaddRefIdeal.τ).loc Cert.SaddRefIdeal.main_arg8) = m ((c.tc : Thread Cert.SaddRefIdeal.nD Cert.SaddRefIdeal.τ).loc Cert.SaddRefIdeal.main_arg8)
      ∧ r.2.mem ((c.tc : Thread Cert.SaddRefIdeal.nD Cert.SaddRefIdeal.τ).loc Cert.SaddRefIdeal.main_arg9) = m ((c.tc : Thread Cert.SaddRefIdeal.nD Cert.SaddRefIdeal.τ).loc Cert.SaddRefIdeal.main_arg9)
      ∧ r.2.mem ((c.tc : Thread Cert.SaddRefIdeal.nD Cert.SaddRefIdeal.τ).loc Cert.SaddRefIdeal.main_arg10) = m ((c.tc : Thread Cert.SaddRefIdeal.nD Cert.SaddRefIdeal.τ).loc Cert.SaddRefIdeal.main_arg10)
      ∧ r.2.mem ((c.tc : Thread Cert.SaddRefIdeal.nD Cert.SaddRefIdeal.τ).loc Cert.SaddRefIdeal.main_arg11) = m ((c.tc : Thread Cert.SaddRefIdeal.nD Cert.SaddRefIdeal.τ).loc Cert.SaddRefIdeal.main_arg11))
      ∧ r.2.sem = fun _ => 0)

def quiescent_Ssum [hSsum : Cert.Ssum.Facts] : Prop :=
  ∀ (m : (ℓ : Loc Cert.Ssum.nD Cert.Ssum.τ Cert.Ssum.sig) → Buf (Elt Bits) ℓ) (g : Dev Cert.Ssum.nD → PrngReg), Pre_Ssum m →
    θ_run (Cert.Ssum.defs (F := Bits)) (onTc (τ := Cert.Ssum.τ) (Cert.Ssum.main (F := Bits))) ⟨m, fun _ => 0, g⟩ (fun r => (∀ c : Dev Cert.Ssum.nD,
      r.2.mem ((c.tc : Thread Cert.Ssum.nD Cert.Ssum.τ).loc Cert.Ssum.main_arg0) = m ((c.tc : Thread Cert.Ssum.nD Cert.Ssum.τ).loc Cert.Ssum.main_arg0))
      ∧ r.2.sem = fun _ => 0)

def quiescent_SsumIdeal [hSsumIdeal : Cert.SsumIdeal.Facts] : Prop :=
  ∀ (m : (ℓ : Loc Cert.SsumIdeal.nD Cert.SsumIdeal.τ Cert.SsumIdeal.sig) → Buf (Elt Ideal) ℓ) (g : Dev Cert.SsumIdeal.nD → PrngReg), Pre_SsumIdeal m →
    θ_run (Cert.SsumIdeal.defs (F := Ideal)) (onTc (τ := Cert.SsumIdeal.τ) (Cert.SsumIdeal.main (F := Ideal))) ⟨m, fun _ => 0, g⟩ (fun r => (∀ c : Dev Cert.SsumIdeal.nD,
      r.2.mem ((c.tc : Thread Cert.SsumIdeal.nD Cert.SsumIdeal.τ).loc Cert.SsumIdeal.main_arg0) = m ((c.tc : Thread Cert.SsumIdeal.nD Cert.SsumIdeal.τ).loc Cert.SsumIdeal.main_arg0))
      ∧ r.2.sem = fun _ => 0)

def quiescent_SsumRefIdeal [hSsumRefIdeal : Cert.SsumRefIdeal.Facts] : Prop :=
  ∀ (m : (ℓ : Loc Cert.SsumRefIdeal.nD Cert.SsumRefIdeal.τ Cert.SsumRefIdeal.sig) → Buf (Elt Ideal) ℓ) (g : Dev Cert.SsumRefIdeal.nD → PrngReg), Pre_SsumRefIdeal m →
    θ_run (Cert.SsumRefIdeal.defs (F := Ideal)) (onTc (τ := Cert.SsumRefIdeal.τ) (Cert.SsumRefIdeal.main (F := Ideal))) ⟨m, fun _ => 0, g⟩ (fun r => (∀ c : Dev Cert.SsumRefIdeal.nD,
      r.2.mem ((c.tc : Thread Cert.SsumRefIdeal.nD Cert.SsumRefIdeal.τ).loc Cert.SsumRefIdeal.main_arg0) = m ((c.tc : Thread Cert.SsumRefIdeal.nD Cert.SsumRefIdeal.τ).loc Cert.SsumRefIdeal.main_arg0))
      ∧ r.2.sem = fun _ => 0)

def quiescent_Mixf [hMixf : Cert.Mixf.Facts] : Prop :=
  ∀ (m : (ℓ : Loc Cert.Mixf.nD Cert.Mixf.τ Cert.Mixf.sig) → Buf (Elt Bits) ℓ) (g : Dev Cert.Mixf.nD → PrngReg), Pre_Mixf m →
    θ_run (Cert.Mixf.defs (F := Bits)) (onTc (τ := Cert.Mixf.τ) (Cert.Mixf.main (F := Bits))) ⟨m, fun _ => 0, g⟩ (fun r => (∀ c : Dev Cert.Mixf.nD,
      r.2.mem ((c.tc : Thread Cert.Mixf.nD Cert.Mixf.τ).loc Cert.Mixf.main_arg0) = m ((c.tc : Thread Cert.Mixf.nD Cert.Mixf.τ).loc Cert.Mixf.main_arg0)
      ∧ r.2.mem ((c.tc : Thread Cert.Mixf.nD Cert.Mixf.τ).loc Cert.Mixf.main_arg1) = m ((c.tc : Thread Cert.Mixf.nD Cert.Mixf.τ).loc Cert.Mixf.main_arg1)
      ∧ r.2.mem ((c.tc : Thread Cert.Mixf.nD Cert.Mixf.τ).loc Cert.Mixf.main_arg2) = m ((c.tc : Thread Cert.Mixf.nD Cert.Mixf.τ).loc Cert.Mixf.main_arg2)
      ∧ r.2.mem ((c.tc : Thread Cert.Mixf.nD Cert.Mixf.τ).loc Cert.Mixf.main_arg3) = m ((c.tc : Thread Cert.Mixf.nD Cert.Mixf.τ).loc Cert.Mixf.main_arg3)
      ∧ r.2.mem ((c.tc : Thread Cert.Mixf.nD Cert.Mixf.τ).loc Cert.Mixf.main_arg4) = m ((c.tc : Thread Cert.Mixf.nD Cert.Mixf.τ).loc Cert.Mixf.main_arg4)
      ∧ r.2.mem ((c.tc : Thread Cert.Mixf.nD Cert.Mixf.τ).loc Cert.Mixf.main_arg5) = m ((c.tc : Thread Cert.Mixf.nD Cert.Mixf.τ).loc Cert.Mixf.main_arg5))
      ∧ r.2.sem = fun _ => 0)

def quiescent_MixfIdeal [hMixfIdeal : Cert.MixfIdeal.Facts] : Prop :=
  ∀ (m : (ℓ : Loc Cert.MixfIdeal.nD Cert.MixfIdeal.τ Cert.MixfIdeal.sig) → Buf (Elt Ideal) ℓ) (g : Dev Cert.MixfIdeal.nD → PrngReg), Pre_MixfIdeal m →
    θ_run (Cert.MixfIdeal.defs (F := Ideal)) (onTc (τ := Cert.MixfIdeal.τ) (Cert.MixfIdeal.main (F := Ideal))) ⟨m, fun _ => 0, g⟩ (fun r => (∀ c : Dev Cert.MixfIdeal.nD,
      r.2.mem ((c.tc : Thread Cert.MixfIdeal.nD Cert.MixfIdeal.τ).loc Cert.MixfIdeal.main_arg0) = m ((c.tc : Thread Cert.MixfIdeal.nD Cert.MixfIdeal.τ).loc Cert.MixfIdeal.main_arg0)
      ∧ r.2.mem ((c.tc : Thread Cert.MixfIdeal.nD Cert.MixfIdeal.τ).loc Cert.MixfIdeal.main_arg1) = m ((c.tc : Thread Cert.MixfIdeal.nD Cert.MixfIdeal.τ).loc Cert.MixfIdeal.main_arg1)
      ∧ r.2.mem ((c.tc : Thread Cert.MixfIdeal.nD Cert.MixfIdeal.τ).loc Cert.MixfIdeal.main_arg2) = m ((c.tc : Thread Cert.MixfIdeal.nD Cert.MixfIdeal.τ).loc Cert.MixfIdeal.main_arg2)
      ∧ r.2.mem ((c.tc : Thread Cert.MixfIdeal.nD Cert.MixfIdeal.τ).loc Cert.MixfIdeal.main_arg3) = m ((c.tc : Thread Cert.MixfIdeal.nD Cert.MixfIdeal.τ).loc Cert.MixfIdeal.main_arg3)
      ∧ r.2.mem ((c.tc : Thread Cert.MixfIdeal.nD Cert.MixfIdeal.τ).loc Cert.MixfIdeal.main_arg4) = m ((c.tc : Thread Cert.MixfIdeal.nD Cert.MixfIdeal.τ).loc Cert.MixfIdeal.main_arg4)
      ∧ r.2.mem ((c.tc : Thread Cert.MixfIdeal.nD Cert.MixfIdeal.τ).loc Cert.MixfIdeal.main_arg5) = m ((c.tc : Thread Cert.MixfIdeal.nD Cert.MixfIdeal.τ).loc Cert.MixfIdeal.main_arg5))
      ∧ r.2.sem = fun _ => 0)

def quiescent_MixfRefIdeal [hMixfRefIdeal : Cert.MixfRefIdeal.Facts] : Prop :=
  ∀ (m : (ℓ : Loc Cert.MixfRefIdeal.nD Cert.MixfRefIdeal.τ Cert.MixfRefIdeal.sig) → Buf (Elt Ideal) ℓ) (g : Dev Cert.MixfRefIdeal.nD → PrngReg), Pre_MixfRefIdeal m →
    θ_run (Cert.MixfRefIdeal.defs (F := Ideal)) (onTc (τ := Cert.MixfRefIdeal.τ) (Cert.MixfRefIdeal.main (F := Ideal))) ⟨m, fun _ => 0, g⟩ (fun r => (∀ c : Dev Cert.MixfRefIdeal.nD,
      r.2.mem ((c.tc : Thread Cert.MixfRefIdeal.nD Cert.MixfRefIdeal.τ).loc Cert.MixfRefIdeal.main_arg0) = m ((c.tc : Thread Cert.MixfRefIdeal.nD Cert.MixfRefIdeal.τ).loc Cert.MixfRefIdeal.main_arg0)
      ∧ r.2.mem ((c.tc : Thread Cert.MixfRefIdeal.nD Cert.MixfRefIdeal.τ).loc Cert.MixfRefIdeal.main_arg1) = m ((c.tc : Thread Cert.MixfRefIdeal.nD Cert.MixfRefIdeal.τ).loc Cert.MixfRefIdeal.main_arg1)
      ∧ r.2.mem ((c.tc : Thread Cert.MixfRefIdeal.nD Cert.MixfRefIdeal.τ).loc Cert.MixfRefIdeal.main_arg2) = m ((c.tc : Thread Cert.MixfRefIdeal.nD Cert.MixfRefIdeal.τ).loc Cert.MixfRefIdeal.main_arg2)
      ∧ r.2.mem ((c.tc : Thread Cert.MixfRefIdeal.nD Cert.MixfRefIdeal.τ).loc Cert.MixfRefIdeal.main_arg3) = m ((c.tc : Thread Cert.MixfRefIdeal.nD Cert.MixfRefIdeal.τ).loc Cert.MixfRefIdeal.main_arg3)
      ∧ r.2.mem ((c.tc : Thread Cert.MixfRefIdeal.nD Cert.MixfRefIdeal.τ).loc Cert.MixfRefIdeal.main_arg4) = m ((c.tc : Thread Cert.MixfRefIdeal.nD Cert.MixfRefIdeal.τ).loc Cert.MixfRefIdeal.main_arg4)
      ∧ r.2.mem ((c.tc : Thread Cert.MixfRefIdeal.nD Cert.MixfRefIdeal.τ).loc Cert.MixfRefIdeal.main_arg5) = m ((c.tc : Thread Cert.MixfRefIdeal.nD Cert.MixfRefIdeal.τ).loc Cert.MixfRefIdeal.main_arg5))
      ∧ r.2.sem = fun _ => 0)

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v16_0)) (v1 : (c : Dev Cert.FfnIdeal.nD) → Buf (Elt Ideal) ((c.tc : Thread Cert.FfnIdeal.nD Cert.FfnIdeal.τ).loc Cert.FfnIdeal.main_v16_1)) (v2 : (c : Dev Cert.FfnIdeal.nD) → Buf (Elt Ideal) ((c.tc : Thread Cert.FfnIdeal.nD Cert.FfnIdeal.τ).loc Cert.FfnIdeal.main_v16_2)) (v3 : (c : Dev Cert.FfnIdeal.nD) → Buf (Elt Ideal) ((c.tc : Thread Cert.FfnIdeal.nD Cert.FfnIdeal.τ).loc Cert.FfnIdeal.main_v16_3)) (v4 : (c : Dev Cert.FfnIdeal.nD) → Buf (Elt Ideal) ((c.tc : Thread Cert.FfnIdeal.nD Cert.FfnIdeal.τ).loc Cert.FfnIdeal.main_v16_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v16_0) = v0 c
          ∧ r.2.mem ((c.tc : Thread Cert.FfnIdeal.nD Cert.FfnIdeal.τ).loc Cert.FfnIdeal.main_v16_1) = v1 c
          ∧ r.2.mem ((c.tc : Thread Cert.FfnIdeal.nD Cert.FfnIdeal.τ).loc Cert.FfnIdeal.main_v16_2) = v2 c
          ∧ r.2.mem ((c.tc : Thread Cert.FfnIdeal.nD Cert.FfnIdeal.τ).loc Cert.FfnIdeal.main_v16_3) = v3 c
          ∧ r.2.mem ((c.tc : Thread Cert.FfnIdeal.nD Cert.FfnIdeal.τ).loc Cert.FfnIdeal.main_v16_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v84) = v0 c
          ∧ r.2.mem ((c.tc : Thread Cert.FfnRefIdeal.nD Cert.FfnRefIdeal.τ).loc Cert.FfnRefIdeal.main_v85) = v1 c
          ∧ r.2.mem ((c.tc : Thread Cert.FfnRefIdeal.nD Cert.FfnRefIdeal.τ).loc Cert.FfnRefIdeal.main_v86) = v2 c
          ∧ r.2.mem ((c.tc : Thread Cert.FfnRefIdeal.nD Cert.FfnRefIdeal.τ).loc Cert.FfnRefIdeal.main_v87) = v3 c
          ∧ r.2.mem ((c.tc : Thread Cert.FfnRefIdeal.nD Cert.FfnRefIdeal.τ).loc Cert.FfnRefIdeal.main_v88) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Wdown_WdownIdeal : Prop :=
  True

def algebraic_WdownIdeal_WdownRefIdeal [hWdownIdeal : Cert.WdownIdeal.Facts] [hWdownRefIdeal : Cert.WdownRefIdeal.Facts] : Prop :=
  ∀ (m : (ℓ : Loc Cert.WdownIdeal.nD Cert.WdownIdeal.τ Cert.WdownIdeal.sig) → Buf (Elt Ideal) ℓ) (g : Dev Cert.WdownIdeal.nD → PrngReg)
    (m' : (ℓ : Loc Cert.WdownRefIdeal.nD Cert.WdownRefIdeal.τ Cert.WdownRefIdeal.sig) → Buf (Elt Ideal) ℓ) (g' : Dev Cert.WdownRefIdeal.nD → PrngReg), Pre_WdownIdeal m →
    (∀ c : Dev Cert.WdownIdeal.nD,
      m' ((c.tc : Thread Cert.WdownRefIdeal.nD Cert.WdownRefIdeal.τ).loc Cert.WdownRefIdeal.main_arg0) = m ((c.tc : Thread Cert.WdownIdeal.nD Cert.WdownIdeal.τ).loc Cert.WdownIdeal.main_arg0)
      ∧ m' ((c.tc : Thread Cert.WdownRefIdeal.nD Cert.WdownRefIdeal.τ).loc Cert.WdownRefIdeal.main_arg1) = m ((c.tc : Thread Cert.WdownIdeal.nD Cert.WdownIdeal.τ).loc Cert.WdownIdeal.main_arg1)) →
    ∃ (v0 : (c : Dev Cert.WdownIdeal.nD) → Buf (Elt Ideal) ((c.tc : Thread Cert.WdownIdeal.nD Cert.WdownIdeal.τ).loc Cert.WdownIdeal.main_v0)),
      θ_run (Cert.WdownIdeal.defs (F := Ideal)) (onTc (τ := Cert.WdownIdeal.τ) (Cert.WdownIdeal.main (F := Ideal))) ⟨m, fun _ => 0, g⟩ (fun r => ∀ c : Dev Cert.WdownIdeal.nD,
          r.2.mem ((c.tc : Thread Cert.WdownIdeal.nD Cert.WdownIdeal.τ).loc Cert.WdownIdeal.main_v0) = v0 c
          ∧ r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
          ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ θ_run (Cert.WdownRefIdeal.defs (F := Ideal)) (onTc (τ := Cert.WdownRefIdeal.τ) (Cert.WdownRefIdeal.main (F := Ideal))) ⟨m', fun _ => 0, g'⟩ (fun r => ∀ c : Dev Cert.WdownRefIdeal.nD,
          r.2.mem ((c.tc : Thread Cert.WdownRefIdeal.nD Cert.WdownRefIdeal.τ).loc Cert.WdownRefIdeal.main_v6) = v0 c
          ∧ r.2.mem ((c.tc : Thread Cert.WdownRefIdeal.nD Cert.WdownRefIdeal.τ).loc Cert.WdownRefIdeal.main_arg0) = m' ((c.tc : Thread Cert.WdownRefIdeal.nD Cert.WdownRefIdeal.τ).loc Cert.WdownRefIdeal.main_arg0)
          ∧ r.2.mem ((c.tc : Thread Cert.WdownRefIdeal.nD Cert.WdownRefIdeal.τ).loc Cert.WdownRefIdeal.main_arg1) = m' ((c.tc : Thread Cert.WdownRefIdeal.nD Cert.WdownRefIdeal.τ).loc Cert.WdownRefIdeal.main_arg1))

def preserves_Wgu_WguIdeal : Prop :=
  True

def algebraic_WguIdeal_WguRefIdeal [hWguIdeal : Cert.WguIdeal.Facts] [hWguRefIdeal : Cert.WguRefIdeal.Facts] : Prop :=
  ∀ (m : (ℓ : Loc Cert.WguIdeal.nD Cert.WguIdeal.τ Cert.WguIdeal.sig) → Buf (Elt Ideal) ℓ) (g : Dev Cert.WguIdeal.nD → PrngReg)
    (m' : (ℓ : Loc Cert.WguRefIdeal.nD Cert.WguRefIdeal.τ Cert.WguRefIdeal.sig) → Buf (Elt Ideal) ℓ) (g' : Dev Cert.WguRefIdeal.nD → PrngReg), Pre_WguIdeal m →
    (∀ c : Dev Cert.WguIdeal.nD,
      m' ((c.tc : Thread Cert.WguRefIdeal.nD Cert.WguRefIdeal.τ).loc Cert.WguRefIdeal.main_arg0) = m ((c.tc : Thread Cert.WguIdeal.nD Cert.WguIdeal.τ).loc Cert.WguIdeal.main_arg0)
      ∧ m' ((c.tc : Thread Cert.WguRefIdeal.nD Cert.WguRefIdeal.τ).loc Cert.WguRefIdeal.main_arg1) = m ((c.tc : Thread Cert.WguIdeal.nD Cert.WguIdeal.τ).loc Cert.WguIdeal.main_arg1)) →
    ∃ (v0 : (c : Dev Cert.WguIdeal.nD) → Buf (Elt Ideal) ((c.tc : Thread Cert.WguIdeal.nD Cert.WguIdeal.τ).loc Cert.WguIdeal.main_v0)),
      θ_run (Cert.WguIdeal.defs (F := Ideal)) (onTc (τ := Cert.WguIdeal.τ) (Cert.WguIdeal.main (F := Ideal))) ⟨m, fun _ => 0, g⟩ (fun r => ∀ c : Dev Cert.WguIdeal.nD,
          r.2.mem ((c.tc : Thread Cert.WguIdeal.nD Cert.WguIdeal.τ).loc Cert.WguIdeal.main_v0) = v0 c
          ∧ r.2.mem ((c.tc : Thread Cert.WguIdeal.nD Cert.WguIdeal.τ).loc Cert.WguIdeal.main_arg0) = m ((c.tc : Thread Cert.WguIdeal.nD Cert.WguIdeal.τ).loc Cert.WguIdeal.main_arg0)
          ∧ r.2.mem ((c.tc : Thread Cert.WguIdeal.nD Cert.WguIdeal.τ).loc Cert.WguIdeal.main_arg1) = m ((c.tc : Thread Cert.WguIdeal.nD Cert.WguIdeal.τ).loc Cert.WguIdeal.main_arg1))
      ∧ θ_run (Cert.WguRefIdeal.defs (F := Ideal)) (onTc (τ := Cert.WguRefIdeal.τ) (Cert.WguRefIdeal.main (F := Ideal))) ⟨m', fun _ => 0, g'⟩ (fun r => ∀ c : Dev Cert.WguRefIdeal.nD,
          r.2.mem ((c.tc : Thread Cert.WguRefIdeal.nD Cert.WguRefIdeal.τ).loc Cert.WguRefIdeal.main_v7) = v0 c
          ∧ r.2.mem ((c.tc : Thread Cert.WguRefIdeal.nD Cert.WguRefIdeal.τ).loc Cert.WguRefIdeal.main_arg0) = m' ((c.tc : Thread Cert.WguRefIdeal.nD Cert.WguRefIdeal.τ).loc Cert.WguRefIdeal.main_arg0)
          ∧ r.2.mem ((c.tc : Thread Cert.WguRefIdeal.nD Cert.WguRefIdeal.τ).loc Cert.WguRefIdeal.main_arg1) = m' ((c.tc : Thread Cert.WguRefIdeal.nD Cert.WguRefIdeal.τ).loc Cert.WguRefIdeal.main_arg1))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)) →
    ∃ (v0 : (c : Dev Cert.WoutIdeal.nD) → Buf (Elt Ideal) ((c.tc : Thread Cert.WoutIdeal.nD Cert.WoutIdeal.τ).loc Cert.WoutIdeal.main_v0)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v0) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v6) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v7) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_v7) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)) →
    ∃ (v0 : (c : Dev Cert.DownIdeal.nD) → Buf (Elt Ideal) ((c.tc : Thread Cert.DownIdeal.nD Cert.DownIdeal.τ).loc Cert.DownIdeal.main_v5_0)) (v1 : (c : Dev Cert.DownIdeal.nD) → Buf (Elt Ideal) ((c.tc : Thread Cert.DownIdeal.nD Cert.DownIdeal.τ).loc Cert.DownIdeal.main_v5_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5_0) = v0 c
          ∧ r.2.mem ((c.tc : Thread Cert.DownIdeal.nD Cert.DownIdeal.τ).loc Cert.DownIdeal.main_v5_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v30) = v0 c
          ∧ r.2.mem ((c.tc : Thread Cert.DownRefIdeal.nD Cert.DownRefIdeal.τ).loc Cert.DownRefIdeal.main_v55) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6))

def preserves_Downx_DownxIdeal : Prop :=
  True

def algebraic_DownxIdeal_DownxRefIdeal [hDownxIdeal : Cert.DownxIdeal.Facts] [hDownxRefIdeal : Cert.DownxRefIdeal.Facts] : Prop :=
  ∀ (m : (ℓ : Loc Cert.DownxIdeal.nD Cert.DownxIdeal.τ Cert.DownxIdeal.sig) → Buf (Elt Ideal) ℓ) (g : Dev Cert.DownxIdeal.nD → PrngReg)
    (m' : (ℓ : Loc Cert.DownxRefIdeal.nD Cert.DownxRefIdeal.τ Cert.DownxRefIdeal.sig) → Buf (Elt Ideal) ℓ) (g' : Dev Cert.DownxRefIdeal.nD → PrngReg), Pre_DownxIdeal m →
    (∀ c : Dev Cert.DownxIdeal.nD,
      m' ((c.tc : Thread Cert.DownxRefIdeal.nD Cert.DownxRefIdeal.τ).loc Cert.DownxRefIdeal.main_arg0) = m ((c.tc : Thread Cert.DownxIdeal.nD Cert.DownxIdeal.τ).loc Cert.DownxIdeal.main_arg0)
      ∧ m' ((c.tc : Thread Cert.DownxRefIdeal.nD Cert.DownxRefIdeal.τ).loc Cert.DownxRefIdeal.main_arg1) = m ((c.tc : Thread Cert.DownxIdeal.nD Cert.DownxIdeal.τ).loc Cert.DownxIdeal.main_arg1)
      ∧ m' ((c.tc : Thread Cert.DownxRefIdeal.nD Cert.DownxRefIdeal.τ).loc Cert.DownxRefIdeal.main_arg2) = m ((c.tc : Thread Cert.DownxIdeal.nD Cert.DownxIdeal.τ).loc Cert.DownxIdeal.main_arg2)
      ∧ m' ((c.tc : Thread Cert.DownxRefIdeal.nD Cert.DownxRefIdeal.τ).loc Cert.DownxRefIdeal.main_arg3) = m ((c.tc : Thread Cert.DownxIdeal.nD Cert.DownxIdeal.τ).loc Cert.DownxIdeal.main_arg3)
      ∧ m' ((c.tc : Thread Cert.DownxRefIdeal.nD Cert.DownxRefIdeal.τ).loc Cert.DownxRefIdeal.main_arg4) = m ((c.tc : Thread Cert.DownxIdeal.nD Cert.DownxIdeal.τ).loc Cert.DownxIdeal.main_arg4)) →
    ∃ (v0 : (c : Dev Cert.DownxIdeal.nD) → Buf (Elt Ideal) ((c.tc : Thread Cert.DownxIdeal.nD Cert.DownxIdeal.τ).loc Cert.DownxIdeal.main_v3_0)) (v1 : (c : Dev Cert.DownxIdeal.nD) → Buf (Elt Ideal) ((c.tc : Thread Cert.DownxIdeal.nD Cert.DownxIdeal.τ).loc Cert.DownxIdeal.main_v3_1)),
      θ_run (Cert.DownxIdeal.defs (F := Ideal)) (onTc (τ := Cert.DownxIdeal.τ) (Cert.DownxIdeal.main (F := Ideal))) ⟨m, fun _ => 0, g⟩ (fun r => ∀ c : Dev Cert.DownxIdeal.nD,
          r.2.mem ((c.tc : Thread Cert.DownxIdeal.nD Cert.DownxIdeal.τ).loc Cert.DownxIdeal.main_v3_0) = v0 c
          ∧ r.2.mem ((c.tc : Thread Cert.DownxIdeal.nD Cert.DownxIdeal.τ).loc Cert.DownxIdeal.main_v3_1) = v1 c
          ∧ r.2.mem ((c.tc : Thread Cert.DownxIdeal.nD Cert.DownxIdeal.τ).loc Cert.DownxIdeal.main_arg0) = m ((c.tc : Thread Cert.DownxIdeal.nD Cert.DownxIdeal.τ).loc Cert.DownxIdeal.main_arg0)
          ∧ r.2.mem ((c.tc : Thread Cert.DownxIdeal.nD Cert.DownxIdeal.τ).loc Cert.DownxIdeal.main_arg1) = m ((c.tc : Thread Cert.DownxIdeal.nD Cert.DownxIdeal.τ).loc Cert.DownxIdeal.main_arg1)
          ∧ r.2.mem ((c.tc : Thread Cert.DownxIdeal.nD Cert.DownxIdeal.τ).loc Cert.DownxIdeal.main_arg2) = m ((c.tc : Thread Cert.DownxIdeal.nD Cert.DownxIdeal.τ).loc Cert.DownxIdeal.main_arg2)
          ∧ r.2.mem ((c.tc : Thread Cert.DownxIdeal.nD Cert.DownxIdeal.τ).loc Cert.DownxIdeal.main_arg3) = m ((c.tc : Thread Cert.DownxIdeal.nD Cert.DownxIdeal.τ).loc Cert.DownxIdeal.main_arg3)
          ∧ r.2.mem ((c.tc : Thread Cert.DownxIdeal.nD Cert.DownxIdeal.τ).loc Cert.DownxIdeal.main_arg4) = m ((c.tc : Thread Cert.DownxIdeal.nD Cert.DownxIdeal.τ).loc Cert.DownxIdeal.main_arg4))
      ∧ θ_run (Cert.DownxRefIdeal.defs (F := Ideal)) (onTc (τ := Cert.DownxRefIdeal.τ) (Cert.DownxRefIdeal.main (F := Ideal))) ⟨m', fun _ => 0, g'⟩ (fun r => ∀ c : Dev Cert.DownxRefIdeal.nD,
          r.2.mem ((c.tc : Thread Cert.DownxRefIdeal.nD Cert.DownxRefIdeal.τ).loc Cert.DownxRefIdeal.main_v6) = v0 c
          ∧ r.2.mem ((c.tc : Thread Cert.DownxRefIdeal.nD Cert.DownxRefIdeal.τ).loc Cert.DownxRefIdeal.main_v31) = v1 c
          ∧ r.2.mem ((c.tc : Thread Cert.DownxRefIdeal.nD Cert.DownxRefIdeal.τ).loc Cert.DownxRefIdeal.main_arg0) = m' ((c.tc : Thread Cert.DownxRefIdeal.nD Cert.DownxRefIdeal.τ).loc Cert.DownxRefIdeal.main_arg0)
          ∧ r.2.mem ((c.tc : Thread Cert.DownxRefIdeal.nD Cert.DownxRefIdeal.τ).loc Cert.DownxRefIdeal.main_arg1) = m' ((c.tc : Thread Cert.DownxRefIdeal.nD Cert.DownxRefIdeal.τ).loc Cert.DownxRefIdeal.main_arg1)
          ∧ r.2.mem ((c.tc : Thread Cert.DownxRefIdeal.nD Cert.DownxRefIdeal.τ).loc Cert.DownxRefIdeal.main_arg2) = m' ((c.tc : Thread Cert.DownxRefIdeal.nD Cert.DownxRefIdeal.τ).loc Cert.DownxRefIdeal.main_arg2)
          ∧ r.2.mem ((c.tc : Thread Cert.DownxRefIdeal.nD Cert.DownxRefIdeal.τ).loc Cert.DownxRefIdeal.main_arg3) = m' ((c.tc : Thread Cert.DownxRefIdeal.nD Cert.DownxRefIdeal.τ).loc Cert.DownxRefIdeal.main_arg3)
          ∧ r.2.mem ((c.tc : Thread Cert.DownxRefIdeal.nD Cert.DownxRefIdeal.τ).loc Cert.DownxRefIdeal.main_arg4) = m' ((c.tc : Thread Cert.DownxRefIdeal.nD Cert.DownxRefIdeal.τ).loc Cert.DownxRefIdeal.main_arg4))

def preserves_Downl_DownlIdeal : Prop :=
  True

def algebraic_DownlIdeal_DownlRefIdeal [hDownlIdeal : Cert.DownlIdeal.Facts] [hDownlRefIdeal : Cert.DownlRefIdeal.Facts] : Prop :=
  ∀ (m : (ℓ : Loc Cert.DownlIdeal.nD Cert.DownlIdeal.τ Cert.DownlIdeal.sig) → Buf (Elt Ideal) ℓ) (g : Dev Cert.DownlIdeal.nD → PrngReg)
    (m' : (ℓ : Loc Cert.DownlRefIdeal.nD Cert.DownlRefIdeal.τ Cert.DownlRefIdeal.sig) → Buf (Elt Ideal) ℓ) (g' : Dev Cert.DownlRefIdeal.nD → PrngReg), Pre_DownlIdeal m →
    (∀ c : Dev Cert.DownlIdeal.nD,
      m' ((c.tc : Thread Cert.DownlRefIdeal.nD Cert.DownlRefIdeal.τ).loc Cert.DownlRefIdeal.main_arg0) = m ((c.tc : Thread Cert.DownlIdeal.nD Cert.DownlIdeal.τ).loc Cert.DownlIdeal.main_arg0)
      ∧ m' ((c.tc : Thread Cert.DownlRefIdeal.nD Cert.DownlRefIdeal.τ).loc Cert.DownlRefIdeal.main_arg1) = m ((c.tc : Thread Cert.DownlIdeal.nD Cert.DownlIdeal.τ).loc Cert.DownlIdeal.main_arg1)
      ∧ m' ((c.tc : Thread Cert.DownlRefIdeal.nD Cert.DownlRefIdeal.τ).loc Cert.DownlRefIdeal.main_arg2) = m ((c.tc : Thread Cert.DownlIdeal.nD Cert.DownlIdeal.τ).loc Cert.DownlIdeal.main_arg2)
      ∧ m' ((c.tc : Thread Cert.DownlRefIdeal.nD Cert.DownlRefIdeal.τ).loc Cert.DownlRefIdeal.main_arg3) = m ((c.tc : Thread Cert.DownlIdeal.nD Cert.DownlIdeal.τ).loc Cert.DownlIdeal.main_arg3)
      ∧ m' ((c.tc : Thread Cert.DownlRefIdeal.nD Cert.DownlRefIdeal.τ).loc Cert.DownlRefIdeal.main_arg4) = m ((c.tc : Thread Cert.DownlIdeal.nD Cert.DownlIdeal.τ).loc Cert.DownlIdeal.main_arg4)
      ∧ m' ((c.tc : Thread Cert.DownlRefIdeal.nD Cert.DownlRefIdeal.τ).loc Cert.DownlRefIdeal.main_arg5) = m ((c.tc : Thread Cert.DownlIdeal.nD Cert.DownlIdeal.τ).loc Cert.DownlIdeal.main_arg5)
      ∧ m' ((c.tc : Thread Cert.DownlRefIdeal.nD Cert.DownlRefIdeal.τ).loc Cert.DownlRefIdeal.main_arg6) = m ((c.tc : Thread Cert.DownlIdeal.nD Cert.DownlIdeal.τ).loc Cert.DownlIdeal.main_arg6)
      ∧ m' ((c.tc : Thread Cert.DownlRefIdeal.nD Cert.DownlRefIdeal.τ).loc Cert.DownlRefIdeal.main_arg7) = m ((c.tc : Thread Cert.DownlIdeal.nD Cert.DownlIdeal.τ).loc Cert.DownlIdeal.main_arg7)) →
    ∃ (v0 : (c : Dev Cert.DownlIdeal.nD) → Buf (Elt Ideal) ((c.tc : Thread Cert.DownlIdeal.nD Cert.DownlIdeal.τ).loc Cert.DownlIdeal.main_v5_0)) (v1 : (c : Dev Cert.DownlIdeal.nD) → Buf (Elt Ideal) ((c.tc : Thread Cert.DownlIdeal.nD Cert.DownlIdeal.τ).loc Cert.DownlIdeal.main_v5_1)) (v2 : (c : Dev Cert.DownlIdeal.nD) → Buf (Elt Ideal) ((c.tc : Thread Cert.DownlIdeal.nD Cert.DownlIdeal.τ).loc Cert.DownlIdeal.main_v5_2)),
      θ_run (Cert.DownlIdeal.defs (F := Ideal)) (onTc (τ := Cert.DownlIdeal.τ) (Cert.DownlIdeal.main (F := Ideal))) ⟨m, fun _ => 0, g⟩ (fun r => ∀ c : Dev Cert.DownlIdeal.nD,
          r.2.mem ((c.tc : Thread Cert.DownlIdeal.nD Cert.DownlIdeal.τ).loc Cert.DownlIdeal.main_v5_0) = v0 c
          ∧ r.2.mem ((c.tc : Thread Cert.DownlIdeal.nD Cert.DownlIdeal.τ).loc Cert.DownlIdeal.main_v5_1) = v1 c
          ∧ r.2.mem ((c.tc : Thread Cert.DownlIdeal.nD Cert.DownlIdeal.τ).loc Cert.DownlIdeal.main_v5_2) = v2 c
          ∧ r.2.mem ((c.tc : Thread Cert.DownlIdeal.nD Cert.DownlIdeal.τ).loc Cert.DownlIdeal.main_arg0) = m ((c.tc : Thread Cert.DownlIdeal.nD Cert.DownlIdeal.τ).loc Cert.DownlIdeal.main_arg0)
          ∧ r.2.mem ((c.tc : Thread Cert.DownlIdeal.nD Cert.DownlIdeal.τ).loc Cert.DownlIdeal.main_arg1) = m ((c.tc : Thread Cert.DownlIdeal.nD Cert.DownlIdeal.τ).loc Cert.DownlIdeal.main_arg1)
          ∧ r.2.mem ((c.tc : Thread Cert.DownlIdeal.nD Cert.DownlIdeal.τ).loc Cert.DownlIdeal.main_arg2) = m ((c.tc : Thread Cert.DownlIdeal.nD Cert.DownlIdeal.τ).loc Cert.DownlIdeal.main_arg2)
          ∧ r.2.mem ((c.tc : Thread Cert.DownlIdeal.nD Cert.DownlIdeal.τ).loc Cert.DownlIdeal.main_arg3) = m ((c.tc : Thread Cert.DownlIdeal.nD Cert.DownlIdeal.τ).loc Cert.DownlIdeal.main_arg3)
          ∧ r.2.mem ((c.tc : Thread Cert.DownlIdeal.nD Cert.DownlIdeal.τ).loc Cert.DownlIdeal.main_arg4) = m ((c.tc : Thread Cert.DownlIdeal.nD Cert.DownlIdeal.τ).loc Cert.DownlIdeal.main_arg4)
          ∧ r.2.mem ((c.tc : Thread Cert.DownlIdeal.nD Cert.DownlIdeal.τ).loc Cert.DownlIdeal.main_arg5) = m ((c.tc : Thread Cert.DownlIdeal.nD Cert.DownlIdeal.τ).loc Cert.DownlIdeal.main_arg5)
          ∧ r.2.mem ((c.tc : Thread Cert.DownlIdeal.nD Cert.DownlIdeal.τ).loc Cert.DownlIdeal.main_arg6) = m ((c.tc : Thread Cert.DownlIdeal.nD Cert.DownlIdeal.τ).loc Cert.DownlIdeal.main_arg6)
          ∧ r.2.mem ((c.tc : Thread Cert.DownlIdeal.nD Cert.DownlIdeal.τ).loc Cert.DownlIdeal.main_arg7) = m ((c.tc : Thread Cert.DownlIdeal.nD Cert.DownlIdeal.τ).loc Cert.DownlIdeal.main_arg7))
      ∧ θ_run (Cert.DownlRefIdeal.defs (F := Ideal)) (onTc (τ := Cert.DownlRefIdeal.τ) (Cert.DownlRefIdeal.main (F := Ideal))) ⟨m', fun _ => 0, g'⟩ (fun r => ∀ c : Dev Cert.DownlRefIdeal.nD,
          r.2.mem ((c.tc : Thread Cert.DownlRefIdeal.nD Cert.DownlRefIdeal.τ).loc Cert.DownlRefIdeal.main_v30) = v0 c
          ∧ r.2.mem ((c.tc : Thread Cert.DownlRefIdeal.nD Cert.DownlRefIdeal.τ).loc Cert.DownlRefIdeal.main_v69) = v1 c
          ∧ r.2.mem ((c.tc : Thread Cert.DownlRefIdeal.nD Cert.DownlRefIdeal.τ).loc Cert.DownlRefIdeal.main_v73) = v2 c
          ∧ r.2.mem ((c.tc : Thread Cert.DownlRefIdeal.nD Cert.DownlRefIdeal.τ).loc Cert.DownlRefIdeal.main_arg0) = m' ((c.tc : Thread Cert.DownlRefIdeal.nD Cert.DownlRefIdeal.τ).loc Cert.DownlRefIdeal.main_arg0)
          ∧ r.2.mem ((c.tc : Thread Cert.DownlRefIdeal.nD Cert.DownlRefIdeal.τ).loc Cert.DownlRefIdeal.main_arg1) = m' ((c.tc : Thread Cert.DownlRefIdeal.nD Cert.DownlRefIdeal.τ).loc Cert.DownlRefIdeal.main_arg1)
          ∧ r.2.mem ((c.tc : Thread Cert.DownlRefIdeal.nD Cert.DownlRefIdeal.τ).loc Cert.DownlRefIdeal.main_arg2) = m' ((c.tc : Thread Cert.DownlRefIdeal.nD Cert.DownlRefIdeal.τ).loc Cert.DownlRefIdeal.main_arg2)
          ∧ r.2.mem ((c.tc : Thread Cert.DownlRefIdeal.nD Cert.DownlRefIdeal.τ).loc Cert.DownlRefIdeal.main_arg3) = m' ((c.tc : Thread Cert.DownlRefIdeal.nD Cert.DownlRefIdeal.τ).loc Cert.DownlRefIdeal.main_arg3)
          ∧ r.2.mem ((c.tc : Thread Cert.DownlRefIdeal.nD Cert.DownlRefIdeal.τ).loc Cert.DownlRefIdeal.main_arg4) = m' ((c.tc : Thread Cert.DownlRefIdeal.nD Cert.DownlRefIdeal.τ).loc Cert.DownlRefIdeal.main_arg4)
          ∧ r.2.mem ((c.tc : Thread Cert.DownlRefIdeal.nD Cert.DownlRefIdeal.τ).loc Cert.DownlRefIdeal.main_arg5) = m' ((c.tc : Thread Cert.DownlRefIdeal.nD Cert.DownlRefIdeal.τ).loc Cert.DownlRefIdeal.main_arg5)
          ∧ r.2.mem ((c.tc : Thread Cert.DownlRefIdeal.nD Cert.DownlRefIdeal.τ).loc Cert.DownlRefIdeal.main_arg6) = m' ((c.tc : Thread Cert.DownlRefIdeal.nD Cert.DownlRefIdeal.τ).loc Cert.DownlRefIdeal.main_arg6)
          ∧ r.2.mem ((c.tc : Thread Cert.DownlRefIdeal.nD Cert.DownlRefIdeal.τ).loc Cert.DownlRefIdeal.main_arg7) = m' ((c.tc : Thread Cert.DownlRefIdeal.nD Cert.DownlRefIdeal.τ).loc Cert.DownlRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v1) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Outln_OutlnIdeal : Prop :=
  True

def algebraic_OutlnIdeal_OutlnRefIdeal [hOutlnIdeal : Cert.OutlnIdeal.Facts] [hOutlnRefIdeal : Cert.OutlnRefIdeal.Facts] : Prop :=
  ∀ (m : (ℓ : Loc Cert.OutlnIdeal.nD Cert.OutlnIdeal.τ Cert.OutlnIdeal.sig) → Buf (Elt Ideal) ℓ) (g : Dev Cert.OutlnIdeal.nD → PrngReg)
    (m' : (ℓ : Loc Cert.OutlnRefIdeal.nD Cert.OutlnRefIdeal.τ Cert.OutlnRefIdeal.sig) → Buf (Elt Ideal) ℓ) (g' : Dev Cert.OutlnRefIdeal.nD → PrngReg), Pre_OutlnIdeal m →
    (∀ c : Dev Cert.OutlnIdeal.nD,
      m' ((c.tc : Thread Cert.OutlnRefIdeal.nD Cert.OutlnRefIdeal.τ).loc Cert.OutlnRefIdeal.main_arg0) = m ((c.tc : Thread Cert.OutlnIdeal.nD Cert.OutlnIdeal.τ).loc Cert.OutlnIdeal.main_arg0)
      ∧ m' ((c.tc : Thread Cert.OutlnRefIdeal.nD Cert.OutlnRefIdeal.τ).loc Cert.OutlnRefIdeal.main_arg1) = m ((c.tc : Thread Cert.OutlnIdeal.nD Cert.OutlnIdeal.τ).loc Cert.OutlnIdeal.main_arg1)
      ∧ m' ((c.tc : Thread Cert.OutlnRefIdeal.nD Cert.OutlnRefIdeal.τ).loc Cert.OutlnRefIdeal.main_arg2) = m ((c.tc : Thread Cert.OutlnIdeal.nD Cert.OutlnIdeal.τ).loc Cert.OutlnIdeal.main_arg2)
      ∧ m' ((c.tc : Thread Cert.OutlnRefIdeal.nD Cert.OutlnRefIdeal.τ).loc Cert.OutlnRefIdeal.main_arg3) = m ((c.tc : Thread Cert.OutlnIdeal.nD Cert.OutlnIdeal.τ).loc Cert.OutlnIdeal.main_arg3)
      ∧ m' ((c.tc : Thread Cert.OutlnRefIdeal.nD Cert.OutlnRefIdeal.τ).loc Cert.OutlnRefIdeal.main_arg4) = m ((c.tc : Thread Cert.OutlnIdeal.nD Cert.OutlnIdeal.τ).loc Cert.OutlnIdeal.main_arg4)
      ∧ m' ((c.tc : Thread Cert.OutlnRefIdeal.nD Cert.OutlnRefIdeal.τ).loc Cert.OutlnRefIdeal.main_arg5) = m ((c.tc : Thread Cert.OutlnIdeal.nD Cert.OutlnIdeal.τ).loc Cert.OutlnIdeal.main_arg5)
      ∧ m' ((c.tc : Thread Cert.OutlnRefIdeal.nD Cert.OutlnRefIdeal.τ).loc Cert.OutlnRefIdeal.main_arg6) = m ((c.tc : Thread Cert.OutlnIdeal.nD Cert.OutlnIdeal.τ).loc Cert.OutlnIdeal.main_arg6)
      ∧ m' ((c.tc : Thread Cert.OutlnRefIdeal.nD Cert.OutlnRefIdeal.τ).loc Cert.OutlnRefIdeal.main_arg7) = m ((c.tc : Thread Cert.OutlnIdeal.nD Cert.OutlnIdeal.τ).loc Cert.OutlnIdeal.main_arg7)
      ∧ m' ((c.tc : Thread Cert.OutlnRefIdeal.nD Cert.OutlnRefIdeal.τ).loc Cert.OutlnRefIdeal.main_arg8) = m ((c.tc : Thread Cert.OutlnIdeal.nD Cert.OutlnIdeal.τ).loc Cert.OutlnIdeal.main_arg8)) →
    ∃ (v0 : (c : Dev Cert.OutlnIdeal.nD) → Buf (Elt Ideal) ((c.tc : Thread Cert.OutlnIdeal.nD Cert.OutlnIdeal.τ).loc Cert.OutlnIdeal.main_v5_0)) (v1 : (c : Dev Cert.OutlnIdeal.nD) → Buf (Elt Ideal) ((c.tc : Thread Cert.OutlnIdeal.nD Cert.OutlnIdeal.τ).loc Cert.OutlnIdeal.main_v5_1)) (v2 : (c : Dev Cert.OutlnIdeal.nD) → Buf (Elt Ideal) ((c.tc : Thread Cert.OutlnIdeal.nD Cert.OutlnIdeal.τ).loc Cert.OutlnIdeal.main_v5_2)),
      θ_run (Cert.OutlnIdeal.defs (F := Ideal)) (onTc (τ := Cert.OutlnIdeal.τ) (Cert.OutlnIdeal.main (F := Ideal))) ⟨m, fun _ => 0, g⟩ (fun r => ∀ c : Dev Cert.OutlnIdeal.nD,
          r.2.mem ((c.tc : Thread Cert.OutlnIdeal.nD Cert.OutlnIdeal.τ).loc Cert.OutlnIdeal.main_v5_0) = v0 c
          ∧ r.2.mem ((c.tc : Thread Cert.OutlnIdeal.nD Cert.OutlnIdeal.τ).loc Cert.OutlnIdeal.main_v5_1) = v1 c
          ∧ r.2.mem ((c.tc : Thread Cert.OutlnIdeal.nD Cert.OutlnIdeal.τ).loc Cert.OutlnIdeal.main_v5_2) = v2 c
          ∧ r.2.mem ((c.tc : Thread Cert.OutlnIdeal.nD Cert.OutlnIdeal.τ).loc Cert.OutlnIdeal.main_arg0) = m ((c.tc : Thread Cert.OutlnIdeal.nD Cert.OutlnIdeal.τ).loc Cert.OutlnIdeal.main_arg0)
          ∧ r.2.mem ((c.tc : Thread Cert.OutlnIdeal.nD Cert.OutlnIdeal.τ).loc Cert.OutlnIdeal.main_arg1) = m ((c.tc : Thread Cert.OutlnIdeal.nD Cert.OutlnIdeal.τ).loc Cert.OutlnIdeal.main_arg1)
          ∧ r.2.mem ((c.tc : Thread Cert.OutlnIdeal.nD Cert.OutlnIdeal.τ).loc Cert.OutlnIdeal.main_arg2) = m ((c.tc : Thread Cert.OutlnIdeal.nD Cert.OutlnIdeal.τ).loc Cert.OutlnIdeal.main_arg2)
          ∧ r.2.mem ((c.tc : Thread Cert.OutlnIdeal.nD Cert.OutlnIdeal.τ).loc Cert.OutlnIdeal.main_arg3) = m ((c.tc : Thread Cert.OutlnIdeal.nD Cert.OutlnIdeal.τ).loc Cert.OutlnIdeal.main_arg3)
          ∧ r.2.mem ((c.tc : Thread Cert.OutlnIdeal.nD Cert.OutlnIdeal.τ).loc Cert.OutlnIdeal.main_arg4) = m ((c.tc : Thread Cert.OutlnIdeal.nD Cert.OutlnIdeal.τ).loc Cert.OutlnIdeal.main_arg4)
          ∧ r.2.mem ((c.tc : Thread Cert.OutlnIdeal.nD Cert.OutlnIdeal.τ).loc Cert.OutlnIdeal.main_arg5) = m ((c.tc : Thread Cert.OutlnIdeal.nD Cert.OutlnIdeal.τ).loc Cert.OutlnIdeal.main_arg5)
          ∧ r.2.mem ((c.tc : Thread Cert.OutlnIdeal.nD Cert.OutlnIdeal.τ).loc Cert.OutlnIdeal.main_arg6) = m ((c.tc : Thread Cert.OutlnIdeal.nD Cert.OutlnIdeal.τ).loc Cert.OutlnIdeal.main_arg6)
          ∧ r.2.mem ((c.tc : Thread Cert.OutlnIdeal.nD Cert.OutlnIdeal.τ).loc Cert.OutlnIdeal.main_arg7) = m ((c.tc : Thread Cert.OutlnIdeal.nD Cert.OutlnIdeal.τ).loc Cert.OutlnIdeal.main_arg7)
          ∧ r.2.mem ((c.tc : Thread Cert.OutlnIdeal.nD Cert.OutlnIdeal.τ).loc Cert.OutlnIdeal.main_arg8) = m ((c.tc : Thread Cert.OutlnIdeal.nD Cert.OutlnIdeal.τ).loc Cert.OutlnIdeal.main_arg8))
      ∧ θ_run (Cert.OutlnRefIdeal.defs (F := Ideal)) (onTc (τ := Cert.OutlnRefIdeal.τ) (Cert.OutlnRefIdeal.main (F := Ideal))) ⟨m', fun _ => 0, g'⟩ (fun r => ∀ c : Dev Cert.OutlnRefIdeal.nD,
          r.2.mem ((c.tc : Thread Cert.OutlnRefIdeal.nD Cert.OutlnRefIdeal.τ).loc Cert.OutlnRefIdeal.main_v32) = v0 c
          ∧ r.2.mem ((c.tc : Thread Cert.OutlnRefIdeal.nD Cert.OutlnRefIdeal.τ).loc Cert.OutlnRefIdeal.main_v31) = v1 c
          ∧ r.2.mem ((c.tc : Thread Cert.OutlnRefIdeal.nD Cert.OutlnRefIdeal.τ).loc Cert.OutlnRefIdeal.main_v57) = v2 c
          ∧ r.2.mem ((c.tc : Thread Cert.OutlnRefIdeal.nD Cert.OutlnRefIdeal.τ).loc Cert.OutlnRefIdeal.main_arg0) = m' ((c.tc : Thread Cert.OutlnRefIdeal.nD Cert.OutlnRefIdeal.τ).loc Cert.OutlnRefIdeal.main_arg0)
          ∧ r.2.mem ((c.tc : Thread Cert.OutlnRefIdeal.nD Cert.OutlnRefIdeal.τ).loc Cert.OutlnRefIdeal.main_arg1) = m' ((c.tc : Thread Cert.OutlnRefIdeal.nD Cert.OutlnRefIdeal.τ).loc Cert.OutlnRefIdeal.main_arg1)
          ∧ r.2.mem ((c.tc : Thread Cert.OutlnRefIdeal.nD Cert.OutlnRefIdeal.τ).loc Cert.OutlnRefIdeal.main_arg2) = m' ((c.tc : Thread Cert.OutlnRefIdeal.nD Cert.OutlnRefIdeal.τ).loc Cert.OutlnRefIdeal.main_arg2)
          ∧ r.2.mem ((c.tc : Thread Cert.OutlnRefIdeal.nD Cert.OutlnRefIdeal.τ).loc Cert.OutlnRefIdeal.main_arg3) = m' ((c.tc : Thread Cert.OutlnRefIdeal.nD Cert.OutlnRefIdeal.τ).loc Cert.OutlnRefIdeal.main_arg3)
          ∧ r.2.mem ((c.tc : Thread Cert.OutlnRefIdeal.nD Cert.OutlnRefIdeal.τ).loc Cert.OutlnRefIdeal.main_arg4) = m' ((c.tc : Thread Cert.OutlnRefIdeal.nD Cert.OutlnRefIdeal.τ).loc Cert.OutlnRefIdeal.main_arg4)
          ∧ r.2.mem ((c.tc : Thread Cert.OutlnRefIdeal.nD Cert.OutlnRefIdeal.τ).loc Cert.OutlnRefIdeal.main_arg5) = m' ((c.tc : Thread Cert.OutlnRefIdeal.nD Cert.OutlnRefIdeal.τ).loc Cert.OutlnRefIdeal.main_arg5)
          ∧ r.2.mem ((c.tc : Thread Cert.OutlnRefIdeal.nD Cert.OutlnRefIdeal.τ).loc Cert.OutlnRefIdeal.main_arg6) = m' ((c.tc : Thread Cert.OutlnRefIdeal.nD Cert.OutlnRefIdeal.τ).loc Cert.OutlnRefIdeal.main_arg6)
          ∧ r.2.mem ((c.tc : Thread Cert.OutlnRefIdeal.nD Cert.OutlnRefIdeal.τ).loc Cert.OutlnRefIdeal.main_arg7) = m' ((c.tc : Thread Cert.OutlnRefIdeal.nD Cert.OutlnRefIdeal.τ).loc Cert.OutlnRefIdeal.main_arg7)
          ∧ r.2.mem ((c.tc : Thread Cert.OutlnRefIdeal.nD Cert.OutlnRefIdeal.τ).loc Cert.OutlnRefIdeal.main_arg8) = m' ((c.tc : Thread Cert.OutlnRefIdeal.nD Cert.OutlnRefIdeal.τ).loc Cert.OutlnRefIdeal.main_arg8))

def preserves_Dxin_DxinIdeal : Prop :=
  True

def algebraic_DxinIdeal_DxinRefIdeal [hDxinIdeal : Cert.DxinIdeal.Facts] [hDxinRefIdeal : Cert.DxinRefIdeal.Facts] : Prop :=
  ∀ (m : (ℓ : Loc Cert.DxinIdeal.nD Cert.DxinIdeal.τ Cert.DxinIdeal.sig) → Buf (Elt Ideal) ℓ) (g : Dev Cert.DxinIdeal.nD → PrngReg)
    (m' : (ℓ : Loc Cert.DxinRefIdeal.nD Cert.DxinRefIdeal.τ Cert.DxinRefIdeal.sig) → Buf (Elt Ideal) ℓ) (g' : Dev Cert.DxinRefIdeal.nD → PrngReg), Pre_DxinIdeal m →
    (∀ c : Dev Cert.DxinIdeal.nD,
      m' ((c.tc : Thread Cert.DxinRefIdeal.nD Cert.DxinRefIdeal.τ).loc Cert.DxinRefIdeal.main_arg0) = m ((c.tc : Thread Cert.DxinIdeal.nD Cert.DxinIdeal.τ).loc Cert.DxinIdeal.main_arg0)
      ∧ m' ((c.tc : Thread Cert.DxinRefIdeal.nD Cert.DxinRefIdeal.τ).loc Cert.DxinRefIdeal.main_arg1) = m ((c.tc : Thread Cert.DxinIdeal.nD Cert.DxinIdeal.τ).loc Cert.DxinIdeal.main_arg1)
      ∧ m' ((c.tc : Thread Cert.DxinRefIdeal.nD Cert.DxinRefIdeal.τ).loc Cert.DxinRefIdeal.main_arg2) = m ((c.tc : Thread Cert.DxinIdeal.nD Cert.DxinIdeal.τ).loc Cert.DxinIdeal.main_arg2)) →
    ∃ (v0 : (c : Dev Cert.DxinIdeal.nD) → Buf (Elt Ideal) ((c.tc : Thread Cert.DxinIdeal.nD Cert.DxinIdeal.τ).loc Cert.DxinIdeal.main_v2)),
      θ_run (Cert.DxinIdeal.defs (F := Ideal)) (onTc (τ := Cert.DxinIdeal.τ) (Cert.DxinIdeal.main (F := Ideal))) ⟨m, fun _ => 0, g⟩ (fun r => ∀ c : Dev Cert.DxinIdeal.nD,
          r.2.mem ((c.tc : Thread Cert.DxinIdeal.nD Cert.DxinIdeal.τ).loc Cert.DxinIdeal.main_v2) = v0 c
          ∧ r.2.mem ((c.tc : Thread Cert.DxinIdeal.nD Cert.DxinIdeal.τ).loc Cert.DxinIdeal.main_arg0) = m ((c.tc : Thread Cert.DxinIdeal.nD Cert.DxinIdeal.τ).loc Cert.DxinIdeal.main_arg0)
          ∧ r.2.mem ((c.tc : Thread Cert.DxinIdeal.nD Cert.DxinIdeal.τ).loc Cert.DxinIdeal.main_arg1) = m ((c.tc : Thread Cert.DxinIdeal.nD Cert.DxinIdeal.τ).loc Cert.DxinIdeal.main_arg1)
          ∧ r.2.mem ((c.tc : Thread Cert.DxinIdeal.nD Cert.DxinIdeal.τ).loc Cert.DxinIdeal.main_arg2) = m ((c.tc : Thread Cert.DxinIdeal.nD Cert.DxinIdeal.τ).loc Cert.DxinIdeal.main_arg2))
      ∧ θ_run (Cert.DxinRefIdeal.defs (F := Ideal)) (onTc (τ := Cert.DxinRefIdeal.τ) (Cert.DxinRefIdeal.main (F := Ideal))) ⟨m', fun _ => 0, g'⟩ (fun r => ∀ c : Dev Cert.DxinRefIdeal.nD,
          r.2.mem ((c.tc : Thread Cert.DxinRefIdeal.nD Cert.DxinRefIdeal.τ).loc Cert.DxinRefIdeal.main_v8) = v0 c
          ∧ r.2.mem ((c.tc : Thread Cert.DxinRefIdeal.nD Cert.DxinRefIdeal.τ).loc Cert.DxinRefIdeal.main_arg0) = m' ((c.tc : Thread Cert.DxinRefIdeal.nD Cert.DxinRefIdeal.τ).loc Cert.DxinRefIdeal.main_arg0)
          ∧ r.2.mem ((c.tc : Thread Cert.DxinRefIdeal.nD Cert.DxinRefIdeal.τ).loc Cert.DxinRefIdeal.main_arg1) = m' ((c.tc : Thread Cert.DxinRefIdeal.nD Cert.DxinRefIdeal.τ).loc Cert.DxinRefIdeal.main_arg1)
          ∧ r.2.mem ((c.tc : Thread Cert.DxinRefIdeal.nD Cert.DxinRefIdeal.τ).loc Cert.DxinRefIdeal.main_arg2) = m' ((c.tc : Thread Cert.DxinRefIdeal.nD Cert.DxinRefIdeal.τ).loc Cert.DxinRefIdeal.main_arg2))

def preserves_Dxgu_DxguIdeal : Prop :=
  True

def algebraic_DxguIdeal_DxguRefIdeal [hDxguIdeal : Cert.DxguIdeal.Facts] [hDxguRefIdeal : Cert.DxguRefIdeal.Facts] : Prop :=
  ∀ (m : (ℓ : Loc Cert.DxguIdeal.nD Cert.DxguIdeal.τ Cert.DxguIdeal.sig) → Buf (Elt Ideal) ℓ) (g : Dev Cert.DxguIdeal.nD → PrngReg)
    (m' : (ℓ : Loc Cert.DxguRefIdeal.nD Cert.DxguRefIdeal.τ Cert.DxguRefIdeal.sig) → Buf (Elt Ideal) ℓ) (g' : Dev Cert.DxguRefIdeal.nD → PrngReg), Pre_DxguIdeal m →
    (∀ c : Dev Cert.DxguIdeal.nD,
      m' ((c.tc : Thread Cert.DxguRefIdeal.nD Cert.DxguRefIdeal.τ).loc Cert.DxguRefIdeal.main_arg0) = m ((c.tc : Thread Cert.DxguIdeal.nD Cert.DxguIdeal.τ).loc Cert.DxguIdeal.main_arg0)
      ∧ m' ((c.tc : Thread Cert.DxguRefIdeal.nD Cert.DxguRefIdeal.τ).loc Cert.DxguRefIdeal.main_arg1) = m ((c.tc : Thread Cert.DxguIdeal.nD Cert.DxguIdeal.τ).loc Cert.DxguIdeal.main_arg1)
      ∧ m' ((c.tc : Thread Cert.DxguRefIdeal.nD Cert.DxguRefIdeal.τ).loc Cert.DxguRefIdeal.main_arg2) = m ((c.tc : Thread Cert.DxguIdeal.nD Cert.DxguIdeal.τ).loc Cert.DxguIdeal.main_arg2)) →
    ∃ (v0 : (c : Dev Cert.DxguIdeal.nD) → Buf (Elt Ideal) ((c.tc : Thread Cert.DxguIdeal.nD Cert.DxguIdeal.τ).loc Cert.DxguIdeal.main_v2)),
      θ_run (Cert.DxguIdeal.defs (F := Ideal)) (onTc (τ := Cert.DxguIdeal.τ) (Cert.DxguIdeal.main (F := Ideal))) ⟨m, fun _ => 0, g⟩ (fun r => ∀ c : Dev Cert.DxguIdeal.nD,
          r.2.mem ((c.tc : Thread Cert.DxguIdeal.nD Cert.DxguIdeal.τ).loc Cert.DxguIdeal.main_v2) = v0 c
          ∧ r.2.mem ((c.tc : Thread Cert.DxguIdeal.nD Cert.DxguIdeal.τ).loc Cert.DxguIdeal.main_arg0) = m ((c.tc : Thread Cert.DxguIdeal.nD Cert.DxguIdeal.τ).loc Cert.DxguIdeal.main_arg0)
          ∧ r.2.mem ((c.tc : Thread Cert.DxguIdeal.nD Cert.DxguIdeal.τ).loc Cert.DxguIdeal.main_arg1) = m ((c.tc : Thread Cert.DxguIdeal.nD Cert.DxguIdeal.τ).loc Cert.DxguIdeal.main_arg1)
          ∧ r.2.mem ((c.tc : Thread Cert.DxguIdeal.nD Cert.DxguIdeal.τ).loc Cert.DxguIdeal.main_arg2) = m ((c.tc : Thread Cert.DxguIdeal.nD Cert.DxguIdeal.τ).loc Cert.DxguIdeal.main_arg2))
      ∧ θ_run (Cert.DxguRefIdeal.defs (F := Ideal)) (onTc (τ := Cert.DxguRefIdeal.τ) (Cert.DxguRefIdeal.main (F := Ideal))) ⟨m', fun _ => 0, g'⟩ (fun r => ∀ c : Dev Cert.DxguRefIdeal.nD,
          r.2.mem ((c.tc : Thread Cert.DxguRefIdeal.nD Cert.DxguRefIdeal.τ).loc Cert.DxguRefIdeal.main_v8) = v0 c
          ∧ r.2.mem ((c.tc : Thread Cert.DxguRefIdeal.nD Cert.DxguRefIdeal.τ).loc Cert.DxguRefIdeal.main_arg0) = m' ((c.tc : Thread Cert.DxguRefIdeal.nD Cert.DxguRefIdeal.τ).loc Cert.DxguRefIdeal.main_arg0)
          ∧ r.2.mem ((c.tc : Thread Cert.DxguRefIdeal.nD Cert.DxguRefIdeal.τ).loc Cert.DxguRefIdeal.main_arg1) = m' ((c.tc : Thread Cert.DxguRefIdeal.nD Cert.DxguRefIdeal.τ).loc Cert.DxguRefIdeal.main_arg1)
          ∧ r.2.mem ((c.tc : Thread Cert.DxguRefIdeal.nD Cert.DxguRefIdeal.τ).loc Cert.DxguRefIdeal.main_arg2) = m' ((c.tc : Thread Cert.DxguRefIdeal.nD Cert.DxguRefIdeal.τ).loc Cert.DxguRefIdeal.main_arg2))

def preserves_Outb_OutbIdeal : Prop :=
  True

def algebraic_OutbIdeal_OutbRefIdeal_pre_outb_finite [hOutbIdeal : Cert.OutbIdeal.Facts] [hOutbRefIdeal : Cert.OutbRefIdeal.Facts] [hPre_outb_finite : Cert.Pre_outb_finite.Facts] : Prop :=
  ∀ (m : (ℓ : Loc Cert.OutbIdeal.nD Cert.OutbIdeal.τ Cert.OutbIdeal.sig) → Buf (Elt Ideal) ℓ) (g : Dev Cert.OutbIdeal.nD → PrngReg)
    (m' : (ℓ : Loc Cert.OutbRefIdeal.nD Cert.OutbRefIdeal.τ Cert.OutbRefIdeal.sig) → Buf (Elt Ideal) ℓ) (g' : Dev Cert.OutbRefIdeal.nD → PrngReg), Pre_OutbIdeal_outb_finite m →
    (∀ c : Dev Cert.OutbIdeal.nD,
      m' ((c.tc : Thread Cert.OutbRefIdeal.nD Cert.OutbRefIdeal.τ).loc Cert.OutbRefIdeal.main_arg0) = m ((c.tc : Thread Cert.OutbIdeal.nD Cert.OutbIdeal.τ).loc Cert.OutbIdeal.main_arg0)
      ∧ m' ((c.tc : Thread Cert.OutbRefIdeal.nD Cert.OutbRefIdeal.τ).loc Cert.OutbRefIdeal.main_arg1) = m ((c.tc : Thread Cert.OutbIdeal.nD Cert.OutbIdeal.τ).loc Cert.OutbIdeal.main_arg1)
      ∧ m' ((c.tc : Thread Cert.OutbRefIdeal.nD Cert.OutbRefIdeal.τ).loc Cert.OutbRefIdeal.main_arg2) = m ((c.tc : Thread Cert.OutbIdeal.nD Cert.OutbIdeal.τ).loc Cert.OutbIdeal.main_arg2)
      ∧ m' ((c.tc : Thread Cert.OutbRefIdeal.nD Cert.OutbRefIdeal.τ).loc Cert.OutbRefIdeal.main_arg3) = m ((c.tc : Thread Cert.OutbIdeal.nD Cert.OutbIdeal.τ).loc Cert.OutbIdeal.main_arg3)
      ∧ m' ((c.tc : Thread Cert.OutbRefIdeal.nD Cert.OutbRefIdeal.τ).loc Cert.OutbRefIdeal.main_arg4) = m ((c.tc : Thread Cert.OutbIdeal.nD Cert.OutbIdeal.τ).loc Cert.OutbIdeal.main_arg4)) →
    ∃ (v0 : (c : Dev Cert.OutbIdeal.nD) → Buf (Elt Ideal) ((c.tc : Thread Cert.OutbIdeal.nD Cert.OutbIdeal.τ).loc Cert.OutbIdeal.main_v2_0)) (v1 : (c : Dev Cert.OutbIdeal.nD) → Buf (Elt Ideal) ((c.tc : Thread Cert.OutbIdeal.nD Cert.OutbIdeal.τ).loc Cert.OutbIdeal.main_v2_1)) (v2 : (c : Dev Cert.OutbIdeal.nD) → Buf (Elt Ideal) ((c.tc : Thread Cert.OutbIdeal.nD Cert.OutbIdeal.τ).loc Cert.OutbIdeal.main_v2_2)) (v3 : (c : Dev Cert.OutbIdeal.nD) → Buf (Elt Ideal) ((c.tc : Thread Cert.OutbIdeal.nD Cert.OutbIdeal.τ).loc Cert.OutbIdeal.main_v2_3)) (v4 : (c : Dev Cert.OutbIdeal.nD) → Buf (Elt Ideal) ((c.tc : Thread Cert.OutbIdeal.nD Cert.OutbIdeal.τ).loc Cert.OutbIdeal.main_v2_4)) (v5 : (c : Dev Cert.OutbIdeal.nD) → Buf (Elt Ideal) ((c.tc : Thread Cert.OutbIdeal.nD Cert.OutbIdeal.τ).loc Cert.OutbIdeal.main_v2_5)) (v6 : (c : Dev Cert.OutbIdeal.nD) → Buf (Elt Ideal) ((c.tc : Thread Cert.OutbIdeal.nD Cert.OutbIdeal.τ).loc Cert.OutbIdeal.main_v2_6)),
      θ_run (Cert.OutbIdeal.defs (F := Ideal)) (onTc (τ := Cert.OutbIdeal.τ) (Cert.OutbIdeal.main (F := Ideal))) ⟨m, fun _ => 0, g⟩ (fun r => ∀ c : Dev Cert.OutbIdeal.nD,
          r.2.mem ((c.tc : Thread Cert.OutbIdeal.nD Cert.OutbIdeal.τ).loc Cert.OutbIdeal.main_v2_0) = v0 c
          ∧ r.2.mem ((c.tc : Thread Cert.OutbIdeal.nD Cert.OutbIdeal.τ).loc Cert.OutbIdeal.main_v2_1) = v1 c
          ∧ r.2.mem ((c.tc : Thread Cert.OutbIdeal.nD Cert.OutbIdeal.τ).loc Cert.OutbIdeal.main_v2_2) = v2 c
          ∧ r.2.mem ((c.tc : Thread Cert.OutbIdeal.nD Cert.OutbIdeal.τ).loc Cert.OutbIdeal.main_v2_3) = v3 c
          ∧ r.2.mem ((c.tc : Thread Cert.OutbIdeal.nD Cert.OutbIdeal.τ).loc Cert.OutbIdeal.main_v2_4) = v4 c
          ∧ r.2.mem ((c.tc : Thread Cert.OutbIdeal.nD Cert.OutbIdeal.τ).loc Cert.OutbIdeal.main_v2_5) = v5 c
          ∧ r.2.mem ((c.tc : Thread Cert.OutbIdeal.nD Cert.OutbIdeal.τ).loc Cert.OutbIdeal.main_v2_6) = v6 c
          ∧ r.2.mem ((c.tc : Thread Cert.OutbIdeal.nD Cert.OutbIdeal.τ).loc Cert.OutbIdeal.main_arg0) = m ((c.tc : Thread Cert.OutbIdeal.nD Cert.OutbIdeal.τ).loc Cert.OutbIdeal.main_arg0)
          ∧ r.2.mem ((c.tc : Thread Cert.OutbIdeal.nD Cert.OutbIdeal.τ).loc Cert.OutbIdeal.main_arg1) = m ((c.tc : Thread Cert.OutbIdeal.nD Cert.OutbIdeal.τ).loc Cert.OutbIdeal.main_arg1)
          ∧ r.2.mem ((c.tc : Thread Cert.OutbIdeal.nD Cert.OutbIdeal.τ).loc Cert.OutbIdeal.main_arg2) = m ((c.tc : Thread Cert.OutbIdeal.nD Cert.OutbIdeal.τ).loc Cert.OutbIdeal.main_arg2)
          ∧ r.2.mem ((c.tc : Thread Cert.OutbIdeal.nD Cert.OutbIdeal.τ).loc Cert.OutbIdeal.main_arg3) = m ((c.tc : Thread Cert.OutbIdeal.nD Cert.OutbIdeal.τ).loc Cert.OutbIdeal.main_arg3)
          ∧ r.2.mem ((c.tc : Thread Cert.OutbIdeal.nD Cert.OutbIdeal.τ).loc Cert.OutbIdeal.main_arg4) = m ((c.tc : Thread Cert.OutbIdeal.nD Cert.OutbIdeal.τ).loc Cert.OutbIdeal.main_arg4))
      ∧ θ_run (Cert.OutbRefIdeal.defs (F := Ideal)) (onTc (τ := Cert.OutbRefIdeal.τ) (Cert.OutbRefIdeal.main (F := Ideal))) ⟨m', fun _ => 0, g'⟩ (fun r => ∀ c : Dev Cert.OutbRefIdeal.nD,
          r.2.mem ((c.tc : Thread Cert.OutbRefIdeal.nD Cert.OutbRefIdeal.τ).loc Cert.OutbRefIdeal.main_v62) = v0 c
          ∧ r.2.mem ((c.tc : Thread Cert.OutbRefIdeal.nD Cert.OutbRefIdeal.τ).loc Cert.OutbRefIdeal.main_v69) = v1 c
          ∧ r.2.mem ((c.tc : Thread Cert.OutbRefIdeal.nD Cert.OutbRefIdeal.τ).loc Cert.OutbRefIdeal.main_v66) = v2 c
          ∧ r.2.mem ((c.tc : Thread Cert.OutbRefIdeal.nD Cert.OutbRefIdeal.τ).loc Cert.OutbRefIdeal.main_v67) = v3 c
          ∧ r.2.mem ((c.tc : Thread Cert.OutbRefIdeal.nD Cert.OutbRefIdeal.τ).loc Cert.OutbRefIdeal.main_v68) = v4 c
          ∧ r.2.mem ((c.tc : Thread Cert.OutbRefIdeal.nD Cert.OutbRefIdeal.τ).loc Cert.OutbRefIdeal.main_v70) = v5 c
          ∧ r.2.mem ((c.tc : Thread Cert.OutbRefIdeal.nD Cert.OutbRefIdeal.τ).loc Cert.OutbRefIdeal.main_v71) = v6 c
          ∧ r.2.mem ((c.tc : Thread Cert.OutbRefIdeal.nD Cert.OutbRefIdeal.τ).loc Cert.OutbRefIdeal.main_arg0) = m' ((c.tc : Thread Cert.OutbRefIdeal.nD Cert.OutbRefIdeal.τ).loc Cert.OutbRefIdeal.main_arg0)
          ∧ r.2.mem ((c.tc : Thread Cert.OutbRefIdeal.nD Cert.OutbRefIdeal.τ).loc Cert.OutbRefIdeal.main_arg1) = m' ((c.tc : Thread Cert.OutbRefIdeal.nD Cert.OutbRefIdeal.τ).loc Cert.OutbRefIdeal.main_arg1)
          ∧ r.2.mem ((c.tc : Thread Cert.OutbRefIdeal.nD Cert.OutbRefIdeal.τ).loc Cert.OutbRefIdeal.main_arg2) = m' ((c.tc : Thread Cert.OutbRefIdeal.nD Cert.OutbRefIdeal.τ).loc Cert.OutbRefIdeal.main_arg2)
          ∧ r.2.mem ((c.tc : Thread Cert.OutbRefIdeal.nD Cert.OutbRefIdeal.τ).loc Cert.OutbRefIdeal.main_arg3) = m' ((c.tc : Thread Cert.OutbRefIdeal.nD Cert.OutbRefIdeal.τ).loc Cert.OutbRefIdeal.main_arg3)
          ∧ r.2.mem ((c.tc : Thread Cert.OutbRefIdeal.nD Cert.OutbRefIdeal.τ).loc Cert.OutbRefIdeal.main_arg4) = m' ((c.tc : Thread Cert.OutbRefIdeal.nD Cert.OutbRefIdeal.τ).loc Cert.OutbRefIdeal.main_arg4))

def preserves_Ffb_FfbIdeal : Prop :=
  True

def algebraic_FfbIdeal_FfbRefIdeal_pre_ffb_finite [hFfbIdeal : Cert.FfbIdeal.Facts] [hFfbRefIdeal : Cert.FfbRefIdeal.Facts] [hPre_ffb_finite : Cert.Pre_ffb_finite.Facts] : Prop :=
  ∀ (m : (ℓ : Loc Cert.FfbIdeal.nD Cert.FfbIdeal.τ Cert.FfbIdeal.sig) → Buf (Elt Ideal) ℓ) (g : Dev Cert.FfbIdeal.nD → PrngReg)
    (m' : (ℓ : Loc Cert.FfbRefIdeal.nD Cert.FfbRefIdeal.τ Cert.FfbRefIdeal.sig) → Buf (Elt Ideal) ℓ) (g' : Dev Cert.FfbRefIdeal.nD → PrngReg), Pre_FfbIdeal_ffb_finite m →
    (∀ c : Dev Cert.FfbIdeal.nD,
      m' ((c.tc : Thread Cert.FfbRefIdeal.nD Cert.FfbRefIdeal.τ).loc Cert.FfbRefIdeal.main_arg0) = m ((c.tc : Thread Cert.FfbIdeal.nD Cert.FfbIdeal.τ).loc Cert.FfbIdeal.main_arg0)
      ∧ m' ((c.tc : Thread Cert.FfbRefIdeal.nD Cert.FfbRefIdeal.τ).loc Cert.FfbRefIdeal.main_arg1) = m ((c.tc : Thread Cert.FfbIdeal.nD Cert.FfbIdeal.τ).loc Cert.FfbIdeal.main_arg1)
      ∧ m' ((c.tc : Thread Cert.FfbRefIdeal.nD Cert.FfbRefIdeal.τ).loc Cert.FfbRefIdeal.main_arg2) = m ((c.tc : Thread Cert.FfbIdeal.nD Cert.FfbIdeal.τ).loc Cert.FfbIdeal.main_arg2)
      ∧ m' ((c.tc : Thread Cert.FfbRefIdeal.nD Cert.FfbRefIdeal.τ).loc Cert.FfbRefIdeal.main_arg3) = m ((c.tc : Thread Cert.FfbIdeal.nD Cert.FfbIdeal.τ).loc Cert.FfbIdeal.main_arg3)
      ∧ m' ((c.tc : Thread Cert.FfbRefIdeal.nD Cert.FfbRefIdeal.τ).loc Cert.FfbRefIdeal.main_arg4) = m ((c.tc : Thread Cert.FfbIdeal.nD Cert.FfbIdeal.τ).loc Cert.FfbIdeal.main_arg4)
      ∧ m' ((c.tc : Thread Cert.FfbRefIdeal.nD Cert.FfbRefIdeal.τ).loc Cert.FfbRefIdeal.main_arg5) = m ((c.tc : Thread Cert.FfbIdeal.nD Cert.FfbIdeal.τ).loc Cert.FfbIdeal.main_arg5)) →
    ∃ (v0 : (c : Dev Cert.FfbIdeal.nD) → Buf (Elt Ideal) ((c.tc : Thread Cert.FfbIdeal.nD Cert.FfbIdeal.τ).loc Cert.FfbIdeal.main_v2_0)) (v1 : (c : Dev Cert.FfbIdeal.nD) → Buf (Elt Ideal) ((c.tc : Thread Cert.FfbIdeal.nD Cert.FfbIdeal.τ).loc Cert.FfbIdeal.main_v2_1)) (v2 : (c : Dev Cert.FfbIdeal.nD) → Buf (Elt Ideal) ((c.tc : Thread Cert.FfbIdeal.nD Cert.FfbIdeal.τ).loc Cert.FfbIdeal.main_v2_2)) (v3 : (c : Dev Cert.FfbIdeal.nD) → Buf (Elt Ideal) ((c.tc : Thread Cert.FfbIdeal.nD Cert.FfbIdeal.τ).loc Cert.FfbIdeal.main_v2_3)) (v4 : (c : Dev Cert.FfbIdeal.nD) → Buf (Elt Ideal) ((c.tc : Thread Cert.FfbIdeal.nD Cert.FfbIdeal.τ).loc Cert.FfbIdeal.main_v2_4)),
      θ_run (Cert.FfbIdeal.defs (F := Ideal)) (onTc (τ := Cert.FfbIdeal.τ) (Cert.FfbIdeal.main (F := Ideal))) ⟨m, fun _ => 0, g⟩ (fun r => ∀ c : Dev Cert.FfbIdeal.nD,
          r.2.mem ((c.tc : Thread Cert.FfbIdeal.nD Cert.FfbIdeal.τ).loc Cert.FfbIdeal.main_v2_0) = v0 c
          ∧ r.2.mem ((c.tc : Thread Cert.FfbIdeal.nD Cert.FfbIdeal.τ).loc Cert.FfbIdeal.main_v2_1) = v1 c
          ∧ r.2.mem ((c.tc : Thread Cert.FfbIdeal.nD Cert.FfbIdeal.τ).loc Cert.FfbIdeal.main_v2_2) = v2 c
          ∧ r.2.mem ((c.tc : Thread Cert.FfbIdeal.nD Cert.FfbIdeal.τ).loc Cert.FfbIdeal.main_v2_3) = v3 c
          ∧ r.2.mem ((c.tc : Thread Cert.FfbIdeal.nD Cert.FfbIdeal.τ).loc Cert.FfbIdeal.main_v2_4) = v4 c
          ∧ r.2.mem ((c.tc : Thread Cert.FfbIdeal.nD Cert.FfbIdeal.τ).loc Cert.FfbIdeal.main_arg0) = m ((c.tc : Thread Cert.FfbIdeal.nD Cert.FfbIdeal.τ).loc Cert.FfbIdeal.main_arg0)
          ∧ r.2.mem ((c.tc : Thread Cert.FfbIdeal.nD Cert.FfbIdeal.τ).loc Cert.FfbIdeal.main_arg1) = m ((c.tc : Thread Cert.FfbIdeal.nD Cert.FfbIdeal.τ).loc Cert.FfbIdeal.main_arg1)
          ∧ r.2.mem ((c.tc : Thread Cert.FfbIdeal.nD Cert.FfbIdeal.τ).loc Cert.FfbIdeal.main_arg2) = m ((c.tc : Thread Cert.FfbIdeal.nD Cert.FfbIdeal.τ).loc Cert.FfbIdeal.main_arg2)
          ∧ r.2.mem ((c.tc : Thread Cert.FfbIdeal.nD Cert.FfbIdeal.τ).loc Cert.FfbIdeal.main_arg3) = m ((c.tc : Thread Cert.FfbIdeal.nD Cert.FfbIdeal.τ).loc Cert.FfbIdeal.main_arg3)
          ∧ r.2.mem ((c.tc : Thread Cert.FfbIdeal.nD Cert.FfbIdeal.τ).loc Cert.FfbIdeal.main_arg4) = m ((c.tc : Thread Cert.FfbIdeal.nD Cert.FfbIdeal.τ).loc Cert.FfbIdeal.main_arg4)
          ∧ r.2.mem ((c.tc : Thread Cert.FfbIdeal.nD Cert.FfbIdeal.τ).loc Cert.FfbIdeal.main_arg5) = m ((c.tc : Thread Cert.FfbIdeal.nD Cert.FfbIdeal.τ).loc Cert.FfbIdeal.main_arg5))
      ∧ θ_run (Cert.FfbRefIdeal.defs (F := Ideal)) (onTc (τ := Cert.FfbRefIdeal.τ) (Cert.FfbRefIdeal.main (F := Ideal))) ⟨m', fun _ => 0, g'⟩ (fun r => ∀ c : Dev Cert.FfbRefIdeal.nD,
          r.2.mem ((c.tc : Thread Cert.FfbRefIdeal.nD Cert.FfbRefIdeal.τ).loc Cert.FfbRefIdeal.main_v62) = v0 c
          ∧ r.2.mem ((c.tc : Thread Cert.FfbRefIdeal.nD Cert.FfbRefIdeal.τ).loc Cert.FfbRefIdeal.main_v80) = v1 c
          ∧ r.2.mem ((c.tc : Thread Cert.FfbRefIdeal.nD Cert.FfbRefIdeal.τ).loc Cert.FfbRefIdeal.main_v81) = v2 c
          ∧ r.2.mem ((c.tc : Thread Cert.FfbRefIdeal.nD Cert.FfbRefIdeal.τ).loc Cert.FfbRefIdeal.main_v82) = v3 c
          ∧ r.2.mem ((c.tc : Thread Cert.FfbRefIdeal.nD Cert.FfbRefIdeal.τ).loc Cert.FfbRefIdeal.main_v83) = v4 c
          ∧ r.2.mem ((c.tc : Thread Cert.FfbRefIdeal.nD Cert.FfbRefIdeal.τ).loc Cert.FfbRefIdeal.main_arg0) = m' ((c.tc : Thread Cert.FfbRefIdeal.nD Cert.FfbRefIdeal.τ).loc Cert.FfbRefIdeal.main_arg0)
          ∧ r.2.mem ((c.tc : Thread Cert.FfbRefIdeal.nD Cert.FfbRefIdeal.τ).loc Cert.FfbRefIdeal.main_arg1) = m' ((c.tc : Thread Cert.FfbRefIdeal.nD Cert.FfbRefIdeal.τ).loc Cert.FfbRefIdeal.main_arg1)
          ∧ r.2.mem ((c.tc : Thread Cert.FfbRefIdeal.nD Cert.FfbRefIdeal.τ).loc Cert.FfbRefIdeal.main_arg2) = m' ((c.tc : Thread Cert.FfbRefIdeal.nD Cert.FfbRefIdeal.τ).loc Cert.FfbRefIdeal.main_arg2)
          ∧ r.2.mem ((c.tc : Thread Cert.FfbRefIdeal.nD Cert.FfbRefIdeal.τ).loc Cert.FfbRefIdeal.main_arg3) = m' ((c.tc : Thread Cert.FfbRefIdeal.nD Cert.FfbRefIdeal.τ).loc Cert.FfbRefIdeal.main_arg3)
          ∧ r.2.mem ((c.tc : Thread Cert.FfbRefIdeal.nD Cert.FfbRefIdeal.τ).loc Cert.FfbRefIdeal.main_arg4) = m' ((c.tc : Thread Cert.FfbRefIdeal.nD Cert.FfbRefIdeal.τ).loc Cert.FfbRefIdeal.main_arg4)
          ∧ r.2.mem ((c.tc : Thread Cert.FfbRefIdeal.nD Cert.FfbRefIdeal.τ).loc Cert.FfbRefIdeal.main_arg5) = m' ((c.tc : Thread Cert.FfbRefIdeal.nD Cert.FfbRefIdeal.τ).loc Cert.FfbRefIdeal.main_arg5))

def preserves_Attf_AttfIdeal : Prop :=
  IdealRules.named_const.Statement Cert.AttfIdeal.κ "mask" .f32 0xF149F2CA#32 ⊥

def algebraic_AttfIdeal_AttfRefIdeal_pre_att_finite [hAttfIdeal : Cert.AttfIdeal.Facts] [hAttfRefIdeal : Cert.AttfRefIdeal.Facts] [hPre_att_finite : Cert.Pre_att_finite.Facts] : Prop :=
  ∀ (m : (ℓ : Loc Cert.AttfIdeal.nD Cert.AttfIdeal.τ Cert.AttfIdeal.sig) → Buf (Elt Ideal) ℓ) (g : Dev Cert.AttfIdeal.nD → PrngReg)
    (m' : (ℓ : Loc Cert.AttfRefIdeal.nD Cert.AttfRefIdeal.τ Cert.AttfRefIdeal.sig) → Buf (Elt Ideal) ℓ) (g' : Dev Cert.AttfRefIdeal.nD → PrngReg), Pre_AttfIdeal_att_finite m →
    (∀ c : Dev Cert.AttfIdeal.nD,
      m' ((c.tc : Thread Cert.AttfRefIdeal.nD Cert.AttfRefIdeal.τ).loc Cert.AttfRefIdeal.main_arg0) = m ((c.tc : Thread Cert.AttfIdeal.nD Cert.AttfIdeal.τ).loc Cert.AttfIdeal.main_arg0)
      ∧ m' ((c.tc : Thread Cert.AttfRefIdeal.nD Cert.AttfRefIdeal.τ).loc Cert.AttfRefIdeal.main_arg1) = m ((c.tc : Thread Cert.AttfIdeal.nD Cert.AttfIdeal.τ).loc Cert.AttfIdeal.main_arg1)
      ∧ m' ((c.tc : Thread Cert.AttfRefIdeal.nD Cert.AttfRefIdeal.τ).loc Cert.AttfRefIdeal.main_arg2) = m ((c.tc : Thread Cert.AttfIdeal.nD Cert.AttfIdeal.τ).loc Cert.AttfIdeal.main_arg2)
      ∧ m' ((c.tc : Thread Cert.AttfRefIdeal.nD Cert.AttfRefIdeal.τ).loc Cert.AttfRefIdeal.main_arg3) = m ((c.tc : Thread Cert.AttfIdeal.nD Cert.AttfIdeal.τ).loc Cert.AttfIdeal.main_arg3)) →
    ∃ (v0 : (c : Dev Cert.AttfIdeal.nD) → Buf (Elt Ideal) ((c.tc : Thread Cert.AttfIdeal.nD Cert.AttfIdeal.τ).loc Cert.AttfIdeal.main_v5)),
      θ_run (Cert.AttfIdeal.defs (F := Ideal)) (onTc (τ := Cert.AttfIdeal.τ) (Cert.AttfIdeal.main (F := Ideal))) ⟨m, fun _ => 0, g⟩ (fun r => ∀ c : Dev Cert.AttfIdeal.nD,
          r.2.mem ((c.tc : Thread Cert.AttfIdeal.nD Cert.AttfIdeal.τ).loc Cert.AttfIdeal.main_v5) = v0 c
          ∧ r.2.mem ((c.tc : Thread Cert.AttfIdeal.nD Cert.AttfIdeal.τ).loc Cert.AttfIdeal.main_arg0) = m ((c.tc : Thread Cert.AttfIdeal.nD Cert.AttfIdeal.τ).loc Cert.AttfIdeal.main_arg0)
          ∧ r.2.mem ((c.tc : Thread Cert.AttfIdeal.nD Cert.AttfIdeal.τ).loc Cert.AttfIdeal.main_arg1) = m ((c.tc : Thread Cert.AttfIdeal.nD Cert.AttfIdeal.τ).loc Cert.AttfIdeal.main_arg1)
          ∧ r.2.mem ((c.tc : Thread Cert.AttfIdeal.nD Cert.AttfIdeal.τ).loc Cert.AttfIdeal.main_arg2) = m ((c.tc : Thread Cert.AttfIdeal.nD Cert.AttfIdeal.τ).loc Cert.AttfIdeal.main_arg2)
          ∧ r.2.mem ((c.tc : Thread Cert.AttfIdeal.nD Cert.AttfIdeal.τ).loc Cert.AttfIdeal.main_arg3) = m ((c.tc : Thread Cert.AttfIdeal.nD Cert.AttfIdeal.τ).loc Cert.AttfIdeal.main_arg3))
      ∧ θ_run (Cert.AttfRefIdeal.defs (F := Ideal)) (onTc (τ := Cert.AttfRefIdeal.τ) (Cert.AttfRefIdeal.main (F := Ideal))) ⟨m', fun _ => 0, g'⟩ (fun r => ∀ c : Dev Cert.AttfRefIdeal.nD,
          r.2.mem ((c.tc : Thread Cert.AttfRefIdeal.nD Cert.AttfRefIdeal.τ).loc Cert.AttfRefIdeal.main_v77) = v0 c
          ∧ r.2.mem ((c.tc : Thread Cert.AttfRefIdeal.nD Cert.AttfRefIdeal.τ).loc Cert.AttfRefIdeal.main_arg0) = m' ((c.tc : Thread Cert.AttfRefIdeal.nD Cert.AttfRefIdeal.τ).loc Cert.AttfRefIdeal.main_arg0)
          ∧ r.2.mem ((c.tc : Thread Cert.AttfRefIdeal.nD Cert.AttfRefIdeal.τ).loc Cert.AttfRefIdeal.main_arg1) = m' ((c.tc : Thread Cert.AttfRefIdeal.nD Cert.AttfRefIdeal.τ).loc Cert.AttfRefIdeal.main_arg1)
          ∧ r.2.mem ((c.tc : Thread Cert.AttfRefIdeal.nD Cert.AttfRefIdeal.τ).loc Cert.AttfRefIdeal.main_arg2) = m' ((c.tc : Thread Cert.AttfRefIdeal.nD Cert.AttfRefIdeal.τ).loc Cert.AttfRefIdeal.main_arg2)
          ∧ r.2.mem ((c.tc : Thread Cert.AttfRefIdeal.nD Cert.AttfRefIdeal.τ).loc Cert.AttfRefIdeal.main_arg3) = m' ((c.tc : Thread Cert.AttfRefIdeal.nD Cert.AttfRefIdeal.τ).loc Cert.AttfRefIdeal.main_arg3))

def preserves_Sada_SadaIdeal : Prop :=
  True

def algebraic_SadaIdeal_SadaRefIdeal [hSadaIdeal : Cert.SadaIdeal.Facts] [hSadaRefIdeal : Cert.SadaRefIdeal.Facts] : Prop :=
  ∀ (m : (ℓ : Loc Cert.SadaIdeal.nD Cert.SadaIdeal.τ Cert.SadaIdeal.sig) → Buf (Elt Ideal) ℓ) (g : Dev Cert.SadaIdeal.nD → PrngReg)
    (m' : (ℓ : Loc Cert.SadaRefIdeal.nD Cert.SadaRefIdeal.τ Cert.SadaRefIdeal.sig) → Buf (Elt Ideal) ℓ) (g' : Dev Cert.SadaRefIdeal.nD → PrngReg), Pre_SadaIdeal m →
    (∀ c : Dev Cert.SadaIdeal.nD,
      m' ((c.tc : Thread Cert.SadaRefIdeal.nD Cert.SadaRefIdeal.τ).loc Cert.SadaRefIdeal.main_arg0) = m ((c.tc : Thread Cert.SadaIdeal.nD Cert.SadaIdeal.τ).loc Cert.SadaIdeal.main_arg0)
      ∧ m' ((c.tc : Thread Cert.SadaRefIdeal.nD Cert.SadaRefIdeal.τ).loc Cert.SadaRefIdeal.main_arg1) = m ((c.tc : Thread Cert.SadaIdeal.nD Cert.SadaIdeal.τ).loc Cert.SadaIdeal.main_arg1)
      ∧ m' ((c.tc : Thread Cert.SadaRefIdeal.nD Cert.SadaRefIdeal.τ).loc Cert.SadaRefIdeal.main_arg2) = m ((c.tc : Thread Cert.SadaIdeal.nD Cert.SadaIdeal.τ).loc Cert.SadaIdeal.main_arg2)
      ∧ m' ((c.tc : Thread Cert.SadaRefIdeal.nD Cert.SadaRefIdeal.τ).loc Cert.SadaRefIdeal.main_arg3) = m ((c.tc : Thread Cert.SadaIdeal.nD Cert.SadaIdeal.τ).loc Cert.SadaIdeal.main_arg3)
      ∧ m' ((c.tc : Thread Cert.SadaRefIdeal.nD Cert.SadaRefIdeal.τ).loc Cert.SadaRefIdeal.main_arg4) = m ((c.tc : Thread Cert.SadaIdeal.nD Cert.SadaIdeal.τ).loc Cert.SadaIdeal.main_arg4)
      ∧ m' ((c.tc : Thread Cert.SadaRefIdeal.nD Cert.SadaRefIdeal.τ).loc Cert.SadaRefIdeal.main_arg5) = m ((c.tc : Thread Cert.SadaIdeal.nD Cert.SadaIdeal.τ).loc Cert.SadaIdeal.main_arg5)
      ∧ m' ((c.tc : Thread Cert.SadaRefIdeal.nD Cert.SadaRefIdeal.τ).loc Cert.SadaRefIdeal.main_arg6) = m ((c.tc : Thread Cert.SadaIdeal.nD Cert.SadaIdeal.τ).loc Cert.SadaIdeal.main_arg6)
      ∧ m' ((c.tc : Thread Cert.SadaRefIdeal.nD Cert.SadaRefIdeal.τ).loc Cert.SadaRefIdeal.main_arg7) = m ((c.tc : Thread Cert.SadaIdeal.nD Cert.SadaIdeal.τ).loc Cert.SadaIdeal.main_arg7)
      ∧ m' ((c.tc : Thread Cert.SadaRefIdeal.nD Cert.SadaRefIdeal.τ).loc Cert.SadaRefIdeal.main_arg8) = m ((c.tc : Thread Cert.SadaIdeal.nD Cert.SadaIdeal.τ).loc Cert.SadaIdeal.main_arg8)
      ∧ m' ((c.tc : Thread Cert.SadaRefIdeal.nD Cert.SadaRefIdeal.τ).loc Cert.SadaRefIdeal.main_arg9) = m ((c.tc : Thread Cert.SadaIdeal.nD Cert.SadaIdeal.τ).loc Cert.SadaIdeal.main_arg9)
      ∧ m' ((c.tc : Thread Cert.SadaRefIdeal.nD Cert.SadaRefIdeal.τ).loc Cert.SadaRefIdeal.main_arg10) = m ((c.tc : Thread Cert.SadaIdeal.nD Cert.SadaIdeal.τ).loc Cert.SadaIdeal.main_arg10)
      ∧ m' ((c.tc : Thread Cert.SadaRefIdeal.nD Cert.SadaRefIdeal.τ).loc Cert.SadaRefIdeal.main_arg11) = m ((c.tc : Thread Cert.SadaIdeal.nD Cert.SadaIdeal.τ).loc Cert.SadaIdeal.main_arg11)) →
    ∃ (v0 : (c : Dev Cert.SadaIdeal.nD) → Buf (Elt Ideal) ((c.tc : Thread Cert.SadaIdeal.nD Cert.SadaIdeal.τ).loc Cert.SadaIdeal.main_v0_0)) (v1 : (c : Dev Cert.SadaIdeal.nD) → Buf (Elt Ideal) ((c.tc : Thread Cert.SadaIdeal.nD Cert.SadaIdeal.τ).loc Cert.SadaIdeal.main_v0_1)) (v2 : (c : Dev Cert.SadaIdeal.nD) → Buf (Elt Ideal) ((c.tc : Thread Cert.SadaIdeal.nD Cert.SadaIdeal.τ).loc Cert.SadaIdeal.main_v0_2)) (v3 : (c : Dev Cert.SadaIdeal.nD) → Buf (Elt Ideal) ((c.tc : Thread Cert.SadaIdeal.nD Cert.SadaIdeal.τ).loc Cert.SadaIdeal.main_v0_3)) (v4 : (c : Dev Cert.SadaIdeal.nD) → Buf (Elt Ideal) ((c.tc : Thread Cert.SadaIdeal.nD Cert.SadaIdeal.τ).loc Cert.SadaIdeal.main_v0_4)) (v5 : (c : Dev Cert.SadaIdeal.nD) → Buf (Elt Ideal) ((c.tc : Thread Cert.SadaIdeal.nD Cert.SadaIdeal.τ).loc Cert.SadaIdeal.main_v0_5)) (v6 : (c : Dev Cert.SadaIdeal.nD) → Buf (Elt Ideal) ((c.tc : Thread Cert.SadaIdeal.nD Cert.SadaIdeal.τ).loc Cert.SadaIdeal.main_v0_6)) (v7 : (c : Dev Cert.SadaIdeal.nD) → Buf (Elt Ideal) ((c.tc : Thread Cert.SadaIdeal.nD Cert.SadaIdeal.τ).loc Cert.SadaIdeal.main_v0_7)) (v8 : (c : Dev Cert.SadaIdeal.nD) → Buf (Elt Ideal) ((c.tc : Thread Cert.SadaIdeal.nD Cert.SadaIdeal.τ).loc Cert.SadaIdeal.main_v0_8)),
      θ_run (Cert.SadaIdeal.defs (F := Ideal)) (onTc (τ := Cert.SadaIdeal.τ) (Cert.SadaIdeal.main (F := Ideal))) ⟨m, fun _ => 0, g⟩ (fun r => ∀ c : Dev Cert.SadaIdeal.nD,
          r.2.mem ((c.tc : Thread Cert.SadaIdeal.nD Cert.SadaIdeal.τ).loc Cert.SadaIdeal.main_v0_0) = v0 c
          ∧ r.2.mem ((c.tc : Thread Cert.SadaIdeal.nD Cert.SadaIdeal.τ).loc Cert.SadaIdeal.main_v0_1) = v1 c
          ∧ r.2.mem ((c.tc : Thread Cert.SadaIdeal.nD Cert.SadaIdeal.τ).loc Cert.SadaIdeal.main_v0_2) = v2 c
          ∧ r.2.mem ((c.tc : Thread Cert.SadaIdeal.nD Cert.SadaIdeal.τ).loc Cert.SadaIdeal.main_v0_3) = v3 c
          ∧ r.2.mem ((c.tc : Thread Cert.SadaIdeal.nD Cert.SadaIdeal.τ).loc Cert.SadaIdeal.main_v0_4) = v4 c
          ∧ r.2.mem ((c.tc : Thread Cert.SadaIdeal.nD Cert.SadaIdeal.τ).loc Cert.SadaIdeal.main_v0_5) = v5 c
          ∧ r.2.mem ((c.tc : Thread Cert.SadaIdeal.nD Cert.SadaIdeal.τ).loc Cert.SadaIdeal.main_v0_6) = v6 c
          ∧ r.2.mem ((c.tc : Thread Cert.SadaIdeal.nD Cert.SadaIdeal.τ).loc Cert.SadaIdeal.main_v0_7) = v7 c
          ∧ r.2.mem ((c.tc : Thread Cert.SadaIdeal.nD Cert.SadaIdeal.τ).loc Cert.SadaIdeal.main_v0_8) = v8 c
          ∧ r.2.mem ((c.tc : Thread Cert.SadaIdeal.nD Cert.SadaIdeal.τ).loc Cert.SadaIdeal.main_arg0) = m ((c.tc : Thread Cert.SadaIdeal.nD Cert.SadaIdeal.τ).loc Cert.SadaIdeal.main_arg0)
          ∧ r.2.mem ((c.tc : Thread Cert.SadaIdeal.nD Cert.SadaIdeal.τ).loc Cert.SadaIdeal.main_arg1) = m ((c.tc : Thread Cert.SadaIdeal.nD Cert.SadaIdeal.τ).loc Cert.SadaIdeal.main_arg1)
          ∧ r.2.mem ((c.tc : Thread Cert.SadaIdeal.nD Cert.SadaIdeal.τ).loc Cert.SadaIdeal.main_arg2) = m ((c.tc : Thread Cert.SadaIdeal.nD Cert.SadaIdeal.τ).loc Cert.SadaIdeal.main_arg2)
          ∧ r.2.mem ((c.tc : Thread Cert.SadaIdeal.nD Cert.SadaIdeal.τ).loc Cert.SadaIdeal.main_arg3) = m ((c.tc : Thread Cert.SadaIdeal.nD Cert.SadaIdeal.τ).loc Cert.SadaIdeal.main_arg3)
          ∧ r.2.mem ((c.tc : Thread Cert.SadaIdeal.nD Cert.SadaIdeal.τ).loc Cert.SadaIdeal.main_arg4) = m ((c.tc : Thread Cert.SadaIdeal.nD Cert.SadaIdeal.τ).loc Cert.SadaIdeal.main_arg4)
          ∧ r.2.mem ((c.tc : Thread Cert.SadaIdeal.nD Cert.SadaIdeal.τ).loc Cert.SadaIdeal.main_arg5) = m ((c.tc : Thread Cert.SadaIdeal.nD Cert.SadaIdeal.τ).loc Cert.SadaIdeal.main_arg5)
          ∧ r.2.mem ((c.tc : Thread Cert.SadaIdeal.nD Cert.SadaIdeal.τ).loc Cert.SadaIdeal.main_arg6) = m ((c.tc : Thread Cert.SadaIdeal.nD Cert.SadaIdeal.τ).loc Cert.SadaIdeal.main_arg6)
          ∧ r.2.mem ((c.tc : Thread Cert.SadaIdeal.nD Cert.SadaIdeal.τ).loc Cert.SadaIdeal.main_arg7) = m ((c.tc : Thread Cert.SadaIdeal.nD Cert.SadaIdeal.τ).loc Cert.SadaIdeal.main_arg7)
          ∧ r.2.mem ((c.tc : Thread Cert.SadaIdeal.nD Cert.SadaIdeal.τ).loc Cert.SadaIdeal.main_arg8) = m ((c.tc : Thread Cert.SadaIdeal.nD Cert.SadaIdeal.τ).loc Cert.SadaIdeal.main_arg8)
          ∧ r.2.mem ((c.tc : Thread Cert.SadaIdeal.nD Cert.SadaIdeal.τ).loc Cert.SadaIdeal.main_arg9) = m ((c.tc : Thread Cert.SadaIdeal.nD Cert.SadaIdeal.τ).loc Cert.SadaIdeal.main_arg9)
          ∧ r.2.mem ((c.tc : Thread Cert.SadaIdeal.nD Cert.SadaIdeal.τ).loc Cert.SadaIdeal.main_arg10) = m ((c.tc : Thread Cert.SadaIdeal.nD Cert.SadaIdeal.τ).loc Cert.SadaIdeal.main_arg10)
          ∧ r.2.mem ((c.tc : Thread Cert.SadaIdeal.nD Cert.SadaIdeal.τ).loc Cert.SadaIdeal.main_arg11) = m ((c.tc : Thread Cert.SadaIdeal.nD Cert.SadaIdeal.τ).loc Cert.SadaIdeal.main_arg11))
      ∧ θ_run (Cert.SadaRefIdeal.defs (F := Ideal)) (onTc (τ := Cert.SadaRefIdeal.τ) (Cert.SadaRefIdeal.main (F := Ideal))) ⟨m', fun _ => 0, g'⟩ (fun r => ∀ c : Dev Cert.SadaRefIdeal.nD,
          r.2.mem ((c.tc : Thread Cert.SadaRefIdeal.nD Cert.SadaRefIdeal.τ).loc Cert.SadaRefIdeal.main_v23) = v0 c
          ∧ r.2.mem ((c.tc : Thread Cert.SadaRefIdeal.nD Cert.SadaRefIdeal.τ).loc Cert.SadaRefIdeal.main_v47) = v1 c
          ∧ r.2.mem ((c.tc : Thread Cert.SadaRefIdeal.nD Cert.SadaRefIdeal.τ).loc Cert.SadaRefIdeal.main_v71) = v2 c
          ∧ r.2.mem ((c.tc : Thread Cert.SadaRefIdeal.nD Cert.SadaRefIdeal.τ).loc Cert.SadaRefIdeal.main_v4) = v3 c
          ∧ r.2.mem ((c.tc : Thread Cert.SadaRefIdeal.nD Cert.SadaRefIdeal.τ).loc Cert.SadaRefIdeal.main_v28) = v4 c
          ∧ r.2.mem ((c.tc : Thread Cert.SadaRefIdeal.nD Cert.SadaRefIdeal.τ).loc Cert.SadaRefIdeal.main_v52) = v5 c
          ∧ r.2.mem ((c.tc : Thread Cert.SadaRefIdeal.nD Cert.SadaRefIdeal.τ).loc Cert.SadaRefIdeal.main_v10) = v6 c
          ∧ r.2.mem ((c.tc : Thread Cert.SadaRefIdeal.nD Cert.SadaRefIdeal.τ).loc Cert.SadaRefIdeal.main_v34) = v7 c
          ∧ r.2.mem ((c.tc : Thread Cert.SadaRefIdeal.nD Cert.SadaRefIdeal.τ).loc Cert.SadaRefIdeal.main_v58) = v8 c
          ∧ r.2.mem ((c.tc : Thread Cert.SadaRefIdeal.nD Cert.SadaRefIdeal.τ).loc Cert.SadaRefIdeal.main_arg0) = m' ((c.tc : Thread Cert.SadaRefIdeal.nD Cert.SadaRefIdeal.τ).loc Cert.SadaRefIdeal.main_arg0)
          ∧ r.2.mem ((c.tc : Thread Cert.SadaRefIdeal.nD Cert.SadaRefIdeal.τ).loc Cert.SadaRefIdeal.main_arg1) = m' ((c.tc : Thread Cert.SadaRefIdeal.nD Cert.SadaRefIdeal.τ).loc Cert.SadaRefIdeal.main_arg1)
          ∧ r.2.mem ((c.tc : Thread Cert.SadaRefIdeal.nD Cert.SadaRefIdeal.τ).loc Cert.SadaRefIdeal.main_arg2) = m' ((c.tc : Thread Cert.SadaRefIdeal.nD Cert.SadaRefIdeal.τ).loc Cert.SadaRefIdeal.main_arg2)
          ∧ r.2.mem ((c.tc : Thread Cert.SadaRefIdeal.nD Cert.SadaRefIdeal.τ).loc Cert.SadaRefIdeal.main_arg3) = m' ((c.tc : Thread Cert.SadaRefIdeal.nD Cert.SadaRefIdeal.τ).loc Cert.SadaRefIdeal.main_arg3)
          ∧ r.2.mem ((c.tc : Thread Cert.SadaRefIdeal.nD Cert.SadaRefIdeal.τ).loc Cert.SadaRefIdeal.main_arg4) = m' ((c.tc : Thread Cert.SadaRefIdeal.nD Cert.SadaRefIdeal.τ).loc Cert.SadaRefIdeal.main_arg4)
          ∧ r.2.mem ((c.tc : Thread Cert.SadaRefIdeal.nD Cert.SadaRefIdeal.τ).loc Cert.SadaRefIdeal.main_arg5) = m' ((c.tc : Thread Cert.SadaRefIdeal.nD Cert.SadaRefIdeal.τ).loc Cert.SadaRefIdeal.main_arg5)
          ∧ r.2.mem ((c.tc : Thread Cert.SadaRefIdeal.nD Cert.SadaRefIdeal.τ).loc Cert.SadaRefIdeal.main_arg6) = m' ((c.tc : Thread Cert.SadaRefIdeal.nD Cert.SadaRefIdeal.τ).loc Cert.SadaRefIdeal.main_arg6)
          ∧ r.2.mem ((c.tc : Thread Cert.SadaRefIdeal.nD Cert.SadaRefIdeal.τ).loc Cert.SadaRefIdeal.main_arg7) = m' ((c.tc : Thread Cert.SadaRefIdeal.nD Cert.SadaRefIdeal.τ).loc Cert.SadaRefIdeal.main_arg7)
          ∧ r.2.mem ((c.tc : Thread Cert.SadaRefIdeal.nD Cert.SadaRefIdeal.τ).loc Cert.SadaRefIdeal.main_arg8) = m' ((c.tc : Thread Cert.SadaRefIdeal.nD Cert.SadaRefIdeal.τ).loc Cert.SadaRefIdeal.main_arg8)
          ∧ r.2.mem ((c.tc : Thread Cert.SadaRefIdeal.nD Cert.SadaRefIdeal.τ).loc Cert.SadaRefIdeal.main_arg9) = m' ((c.tc : Thread Cert.SadaRefIdeal.nD Cert.SadaRefIdeal.τ).loc Cert.SadaRefIdeal.main_arg9)
          ∧ r.2.mem ((c.tc : Thread Cert.SadaRefIdeal.nD Cert.SadaRefIdeal.τ).loc Cert.SadaRefIdeal.main_arg10) = m' ((c.tc : Thread Cert.SadaRefIdeal.nD Cert.SadaRefIdeal.τ).loc Cert.SadaRefIdeal.main_arg10)
          ∧ r.2.mem ((c.tc : Thread Cert.SadaRefIdeal.nD Cert.SadaRefIdeal.τ).loc Cert.SadaRefIdeal.main_arg11) = m' ((c.tc : Thread Cert.SadaRefIdeal.nD Cert.SadaRefIdeal.τ).loc Cert.SadaRefIdeal.main_arg11))

def preserves_Sadb_SadbIdeal : Prop :=
  True

def algebraic_SadbIdeal_SadbRefIdeal [hSadbIdeal : Cert.SadbIdeal.Facts] [hSadbRefIdeal : Cert.SadbRefIdeal.Facts] : Prop :=
  ∀ (m : (ℓ : Loc Cert.SadbIdeal.nD Cert.SadbIdeal.τ Cert.SadbIdeal.sig) → Buf (Elt Ideal) ℓ) (g : Dev Cert.SadbIdeal.nD → PrngReg)
    (m' : (ℓ : Loc Cert.SadbRefIdeal.nD Cert.SadbRefIdeal.τ Cert.SadbRefIdeal.sig) → Buf (Elt Ideal) ℓ) (g' : Dev Cert.SadbRefIdeal.nD → PrngReg), Pre_SadbIdeal m →
    (∀ c : Dev Cert.SadbIdeal.nD,
      m' ((c.tc : Thread Cert.SadbRefIdeal.nD Cert.SadbRefIdeal.τ).loc Cert.SadbRefIdeal.main_arg0) = m ((c.tc : Thread Cert.SadbIdeal.nD Cert.SadbIdeal.τ).loc Cert.SadbIdeal.main_arg0)
      ∧ m' ((c.tc : Thread Cert.SadbRefIdeal.nD Cert.SadbRefIdeal.τ).loc Cert.SadbRefIdeal.main_arg1) = m ((c.tc : Thread Cert.SadbIdeal.nD Cert.SadbIdeal.τ).loc Cert.SadbIdeal.main_arg1)
      ∧ m' ((c.tc : Thread Cert.SadbRefIdeal.nD Cert.SadbRefIdeal.τ).loc Cert.SadbRefIdeal.main_arg2) = m ((c.tc : Thread Cert.SadbIdeal.nD Cert.SadbIdeal.τ).loc Cert.SadbIdeal.main_arg2)
      ∧ m' ((c.tc : Thread Cert.SadbRefIdeal.nD Cert.SadbRefIdeal.τ).loc Cert.SadbRefIdeal.main_arg3) = m ((c.tc : Thread Cert.SadbIdeal.nD Cert.SadbIdeal.τ).loc Cert.SadbIdeal.main_arg3)
      ∧ m' ((c.tc : Thread Cert.SadbRefIdeal.nD Cert.SadbRefIdeal.τ).loc Cert.SadbRefIdeal.main_arg4) = m ((c.tc : Thread Cert.SadbIdeal.nD Cert.SadbIdeal.τ).loc Cert.SadbIdeal.main_arg4)
      ∧ m' ((c.tc : Thread Cert.SadbRefIdeal.nD Cert.SadbRefIdeal.τ).loc Cert.SadbRefIdeal.main_arg5) = m ((c.tc : Thread Cert.SadbIdeal.nD Cert.SadbIdeal.τ).loc Cert.SadbIdeal.main_arg5)
      ∧ m' ((c.tc : Thread Cert.SadbRefIdeal.nD Cert.SadbRefIdeal.τ).loc Cert.SadbRefIdeal.main_arg6) = m ((c.tc : Thread Cert.SadbIdeal.nD Cert.SadbIdeal.τ).loc Cert.SadbIdeal.main_arg6)
      ∧ m' ((c.tc : Thread Cert.SadbRefIdeal.nD Cert.SadbRefIdeal.τ).loc Cert.SadbRefIdeal.main_arg7) = m ((c.tc : Thread Cert.SadbIdeal.nD Cert.SadbIdeal.τ).loc Cert.SadbIdeal.main_arg7)
      ∧ m' ((c.tc : Thread Cert.SadbRefIdeal.nD Cert.SadbRefIdeal.τ).loc Cert.SadbRefIdeal.main_arg8) = m ((c.tc : Thread Cert.SadbIdeal.nD Cert.SadbIdeal.τ).loc Cert.SadbIdeal.main_arg8)
      ∧ m' ((c.tc : Thread Cert.SadbRefIdeal.nD Cert.SadbRefIdeal.τ).loc Cert.SadbRefIdeal.main_arg9) = m ((c.tc : Thread Cert.SadbIdeal.nD Cert.SadbIdeal.τ).loc Cert.SadbIdeal.main_arg9)
      ∧ m' ((c.tc : Thread Cert.SadbRefIdeal.nD Cert.SadbRefIdeal.τ).loc Cert.SadbRefIdeal.main_arg10) = m ((c.tc : Thread Cert.SadbIdeal.nD Cert.SadbIdeal.τ).loc Cert.SadbIdeal.main_arg10)
      ∧ m' ((c.tc : Thread Cert.SadbRefIdeal.nD Cert.SadbRefIdeal.τ).loc Cert.SadbRefIdeal.main_arg11) = m ((c.tc : Thread Cert.SadbIdeal.nD Cert.SadbIdeal.τ).loc Cert.SadbIdeal.main_arg11)) →
    ∃ (v0 : (c : Dev Cert.SadbIdeal.nD) → Buf (Elt Ideal) ((c.tc : Thread Cert.SadbIdeal.nD Cert.SadbIdeal.τ).loc Cert.SadbIdeal.main_v0_0)) (v1 : (c : Dev Cert.SadbIdeal.nD) → Buf (Elt Ideal) ((c.tc : Thread Cert.SadbIdeal.nD Cert.SadbIdeal.τ).loc Cert.SadbIdeal.main_v0_1)) (v2 : (c : Dev Cert.SadbIdeal.nD) → Buf (Elt Ideal) ((c.tc : Thread Cert.SadbIdeal.nD Cert.SadbIdeal.τ).loc Cert.SadbIdeal.main_v0_2)) (v3 : (c : Dev Cert.SadbIdeal.nD) → Buf (Elt Ideal) ((c.tc : Thread Cert.SadbIdeal.nD Cert.SadbIdeal.τ).loc Cert.SadbIdeal.main_v0_3)) (v4 : (c : Dev Cert.SadbIdeal.nD) → Buf (Elt Ideal) ((c.tc : Thread Cert.SadbIdeal.nD Cert.SadbIdeal.τ).loc Cert.SadbIdeal.main_v0_4)) (v5 : (c : Dev Cert.SadbIdeal.nD) → Buf (Elt Ideal) ((c.tc : Thread Cert.SadbIdeal.nD Cert.SadbIdeal.τ).loc Cert.SadbIdeal.main_v0_5)) (v6 : (c : Dev Cert.SadbIdeal.nD) → Buf (Elt Ideal) ((c.tc : Thread Cert.SadbIdeal.nD Cert.SadbIdeal.τ).loc Cert.SadbIdeal.main_v0_6)) (v7 : (c : Dev Cert.SadbIdeal.nD) → Buf (Elt Ideal) ((c.tc : Thread Cert.SadbIdeal.nD Cert.SadbIdeal.τ).loc Cert.SadbIdeal.main_v0_7)) (v8 : (c : Dev Cert.SadbIdeal.nD) → Buf (Elt Ideal) ((c.tc : Thread Cert.SadbIdeal.nD Cert.SadbIdeal.τ).loc Cert.SadbIdeal.main_v0_8)),
      θ_run (Cert.SadbIdeal.defs (F := Ideal)) (onTc (τ := Cert.SadbIdeal.τ) (Cert.SadbIdeal.main (F := Ideal))) ⟨m, fun _ => 0, g⟩ (fun r => ∀ c : Dev Cert.SadbIdeal.nD,
          r.2.mem ((c.tc : Thread Cert.SadbIdeal.nD Cert.SadbIdeal.τ).loc Cert.SadbIdeal.main_v0_0) = v0 c
          ∧ r.2.mem ((c.tc : Thread Cert.SadbIdeal.nD Cert.SadbIdeal.τ).loc Cert.SadbIdeal.main_v0_1) = v1 c
          ∧ r.2.mem ((c.tc : Thread Cert.SadbIdeal.nD Cert.SadbIdeal.τ).loc Cert.SadbIdeal.main_v0_2) = v2 c
          ∧ r.2.mem ((c.tc : Thread Cert.SadbIdeal.nD Cert.SadbIdeal.τ).loc Cert.SadbIdeal.main_v0_3) = v3 c
          ∧ r.2.mem ((c.tc : Thread Cert.SadbIdeal.nD Cert.SadbIdeal.τ).loc Cert.SadbIdeal.main_v0_4) = v4 c
          ∧ r.2.mem ((c.tc : Thread Cert.SadbIdeal.nD Cert.SadbIdeal.τ).loc Cert.SadbIdeal.main_v0_5) = v5 c
          ∧ r.2.mem ((c.tc : Thread Cert.SadbIdeal.nD Cert.SadbIdeal.τ).loc Cert.SadbIdeal.main_v0_6) = v6 c
          ∧ r.2.mem ((c.tc : Thread Cert.SadbIdeal.nD Cert.SadbIdeal.τ).loc Cert.SadbIdeal.main_v0_7) = v7 c
          ∧ r.2.mem ((c.tc : Thread Cert.SadbIdeal.nD Cert.SadbIdeal.τ).loc Cert.SadbIdeal.main_v0_8) = v8 c
          ∧ r.2.mem ((c.tc : Thread Cert.SadbIdeal.nD Cert.SadbIdeal.τ).loc Cert.SadbIdeal.main_arg0) = m ((c.tc : Thread Cert.SadbIdeal.nD Cert.SadbIdeal.τ).loc Cert.SadbIdeal.main_arg0)
          ∧ r.2.mem ((c.tc : Thread Cert.SadbIdeal.nD Cert.SadbIdeal.τ).loc Cert.SadbIdeal.main_arg1) = m ((c.tc : Thread Cert.SadbIdeal.nD Cert.SadbIdeal.τ).loc Cert.SadbIdeal.main_arg1)
          ∧ r.2.mem ((c.tc : Thread Cert.SadbIdeal.nD Cert.SadbIdeal.τ).loc Cert.SadbIdeal.main_arg2) = m ((c.tc : Thread Cert.SadbIdeal.nD Cert.SadbIdeal.τ).loc Cert.SadbIdeal.main_arg2)
          ∧ r.2.mem ((c.tc : Thread Cert.SadbIdeal.nD Cert.SadbIdeal.τ).loc Cert.SadbIdeal.main_arg3) = m ((c.tc : Thread Cert.SadbIdeal.nD Cert.SadbIdeal.τ).loc Cert.SadbIdeal.main_arg3)
          ∧ r.2.mem ((c.tc : Thread Cert.SadbIdeal.nD Cert.SadbIdeal.τ).loc Cert.SadbIdeal.main_arg4) = m ((c.tc : Thread Cert.SadbIdeal.nD Cert.SadbIdeal.τ).loc Cert.SadbIdeal.main_arg4)
          ∧ r.2.mem ((c.tc : Thread Cert.SadbIdeal.nD Cert.SadbIdeal.τ).loc Cert.SadbIdeal.main_arg5) = m ((c.tc : Thread Cert.SadbIdeal.nD Cert.SadbIdeal.τ).loc Cert.SadbIdeal.main_arg5)
          ∧ r.2.mem ((c.tc : Thread Cert.SadbIdeal.nD Cert.SadbIdeal.τ).loc Cert.SadbIdeal.main_arg6) = m ((c.tc : Thread Cert.SadbIdeal.nD Cert.SadbIdeal.τ).loc Cert.SadbIdeal.main_arg6)
          ∧ r.2.mem ((c.tc : Thread Cert.SadbIdeal.nD Cert.SadbIdeal.τ).loc Cert.SadbIdeal.main_arg7) = m ((c.tc : Thread Cert.SadbIdeal.nD Cert.SadbIdeal.τ).loc Cert.SadbIdeal.main_arg7)
          ∧ r.2.mem ((c.tc : Thread Cert.SadbIdeal.nD Cert.SadbIdeal.τ).loc Cert.SadbIdeal.main_arg8) = m ((c.tc : Thread Cert.SadbIdeal.nD Cert.SadbIdeal.τ).loc Cert.SadbIdeal.main_arg8)
          ∧ r.2.mem ((c.tc : Thread Cert.SadbIdeal.nD Cert.SadbIdeal.τ).loc Cert.SadbIdeal.main_arg9) = m ((c.tc : Thread Cert.SadbIdeal.nD Cert.SadbIdeal.τ).loc Cert.SadbIdeal.main_arg9)
          ∧ r.2.mem ((c.tc : Thread Cert.SadbIdeal.nD Cert.SadbIdeal.τ).loc Cert.SadbIdeal.main_arg10) = m ((c.tc : Thread Cert.SadbIdeal.nD Cert.SadbIdeal.τ).loc Cert.SadbIdeal.main_arg10)
          ∧ r.2.mem ((c.tc : Thread Cert.SadbIdeal.nD Cert.SadbIdeal.τ).loc Cert.SadbIdeal.main_arg11) = m ((c.tc : Thread Cert.SadbIdeal.nD Cert.SadbIdeal.τ).loc Cert.SadbIdeal.main_arg11))
      ∧ θ_run (Cert.SadbRefIdeal.defs (F := Ideal)) (onTc (τ := Cert.SadbRefIdeal.τ) (Cert.SadbRefIdeal.main (F := Ideal))) ⟨m', fun _ => 0, g'⟩ (fun r => ∀ c : Dev Cert.SadbRefIdeal.nD,
          r.2.mem ((c.tc : Thread Cert.SadbRefIdeal.nD Cert.SadbRefIdeal.τ).loc Cert.SadbRefIdeal.main_v23) = v0 c
          ∧ r.2.mem ((c.tc : Thread Cert.SadbRefIdeal.nD Cert.SadbRefIdeal.τ).loc Cert.SadbRefIdeal.main_v47) = v1 c
          ∧ r.2.mem ((c.tc : Thread Cert.SadbRefIdeal.nD Cert.SadbRefIdeal.τ).loc Cert.SadbRefIdeal.main_v71) = v2 c
          ∧ r.2.mem ((c.tc : Thread Cert.SadbRefIdeal.nD Cert.SadbRefIdeal.τ).loc Cert.SadbRefIdeal.main_v4) = v3 c
          ∧ r.2.mem ((c.tc : Thread Cert.SadbRefIdeal.nD Cert.SadbRefIdeal.τ).loc Cert.SadbRefIdeal.main_v28) = v4 c
          ∧ r.2.mem ((c.tc : Thread Cert.SadbRefIdeal.nD Cert.SadbRefIdeal.τ).loc Cert.SadbRefIdeal.main_v52) = v5 c
          ∧ r.2.mem ((c.tc : Thread Cert.SadbRefIdeal.nD Cert.SadbRefIdeal.τ).loc Cert.SadbRefIdeal.main_v10) = v6 c
          ∧ r.2.mem ((c.tc : Thread Cert.SadbRefIdeal.nD Cert.SadbRefIdeal.τ).loc Cert.SadbRefIdeal.main_v34) = v7 c
          ∧ r.2.mem ((c.tc : Thread Cert.SadbRefIdeal.nD Cert.SadbRefIdeal.τ).loc Cert.SadbRefIdeal.main_v58) = v8 c
          ∧ r.2.mem ((c.tc : Thread Cert.SadbRefIdeal.nD Cert.SadbRefIdeal.τ).loc Cert.SadbRefIdeal.main_arg0) = m' ((c.tc : Thread Cert.SadbRefIdeal.nD Cert.SadbRefIdeal.τ).loc Cert.SadbRefIdeal.main_arg0)
          ∧ r.2.mem ((c.tc : Thread Cert.SadbRefIdeal.nD Cert.SadbRefIdeal.τ).loc Cert.SadbRefIdeal.main_arg1) = m' ((c.tc : Thread Cert.SadbRefIdeal.nD Cert.SadbRefIdeal.τ).loc Cert.SadbRefIdeal.main_arg1)
          ∧ r.2.mem ((c.tc : Thread Cert.SadbRefIdeal.nD Cert.SadbRefIdeal.τ).loc Cert.SadbRefIdeal.main_arg2) = m' ((c.tc : Thread Cert.SadbRefIdeal.nD Cert.SadbRefIdeal.τ).loc Cert.SadbRefIdeal.main_arg2)
          ∧ r.2.mem ((c.tc : Thread Cert.SadbRefIdeal.nD Cert.SadbRefIdeal.τ).loc Cert.SadbRefIdeal.main_arg3) = m' ((c.tc : Thread Cert.SadbRefIdeal.nD Cert.SadbRefIdeal.τ).loc Cert.SadbRefIdeal.main_arg3)
          ∧ r.2.mem ((c.tc : Thread Cert.SadbRefIdeal.nD Cert.SadbRefIdeal.τ).loc Cert.SadbRefIdeal.main_arg4) = m' ((c.tc : Thread Cert.SadbRefIdeal.nD Cert.SadbRefIdeal.τ).loc Cert.SadbRefIdeal.main_arg4)
          ∧ r.2.mem ((c.tc : Thread Cert.SadbRefIdeal.nD Cert.SadbRefIdeal.τ).loc Cert.SadbRefIdeal.main_arg5) = m' ((c.tc : Thread Cert.SadbRefIdeal.nD Cert.SadbRefIdeal.τ).loc Cert.SadbRefIdeal.main_arg5)
          ∧ r.2.mem ((c.tc : Thread Cert.SadbRefIdeal.nD Cert.SadbRefIdeal.τ).loc Cert.SadbRefIdeal.main_arg6) = m' ((c.tc : Thread Cert.SadbRefIdeal.nD Cert.SadbRefIdeal.τ).loc Cert.SadbRefIdeal.main_arg6)
          ∧ r.2.mem ((c.tc : Thread Cert.SadbRefIdeal.nD Cert.SadbRefIdeal.τ).loc Cert.SadbRefIdeal.main_arg7) = m' ((c.tc : Thread Cert.SadbRefIdeal.nD Cert.SadbRefIdeal.τ).loc Cert.SadbRefIdeal.main_arg7)
          ∧ r.2.mem ((c.tc : Thread Cert.SadbRefIdeal.nD Cert.SadbRefIdeal.τ).loc Cert.SadbRefIdeal.main_arg8) = m' ((c.tc : Thread Cert.SadbRefIdeal.nD Cert.SadbRefIdeal.τ).loc Cert.SadbRefIdeal.main_arg8)
          ∧ r.2.mem ((c.tc : Thread Cert.SadbRefIdeal.nD Cert.SadbRefIdeal.τ).loc Cert.SadbRefIdeal.main_arg9) = m' ((c.tc : Thread Cert.SadbRefIdeal.nD Cert.SadbRefIdeal.τ).loc Cert.SadbRefIdeal.main_arg9)
          ∧ r.2.mem ((c.tc : Thread Cert.SadbRefIdeal.nD Cert.SadbRefIdeal.τ).loc Cert.SadbRefIdeal.main_arg10) = m' ((c.tc : Thread Cert.SadbRefIdeal.nD Cert.SadbRefIdeal.τ).loc Cert.SadbRefIdeal.main_arg10)
          ∧ r.2.mem ((c.tc : Thread Cert.SadbRefIdeal.nD Cert.SadbRefIdeal.τ).loc Cert.SadbRefIdeal.main_arg11) = m' ((c.tc : Thread Cert.SadbRefIdeal.nD Cert.SadbRefIdeal.τ).loc Cert.SadbRefIdeal.main_arg11))

def preserves_Sadc_SadcIdeal : Prop :=
  True

def algebraic_SadcIdeal_SadcRefIdeal [hSadcIdeal : Cert.SadcIdeal.Facts] [hSadcRefIdeal : Cert.SadcRefIdeal.Facts] : Prop :=
  ∀ (m : (ℓ : Loc Cert.SadcIdeal.nD Cert.SadcIdeal.τ Cert.SadcIdeal.sig) → Buf (Elt Ideal) ℓ) (g : Dev Cert.SadcIdeal.nD → PrngReg)
    (m' : (ℓ : Loc Cert.SadcRefIdeal.nD Cert.SadcRefIdeal.τ Cert.SadcRefIdeal.sig) → Buf (Elt Ideal) ℓ) (g' : Dev Cert.SadcRefIdeal.nD → PrngReg), Pre_SadcIdeal m →
    (∀ c : Dev Cert.SadcIdeal.nD,
      m' ((c.tc : Thread Cert.SadcRefIdeal.nD Cert.SadcRefIdeal.τ).loc Cert.SadcRefIdeal.main_arg0) = m ((c.tc : Thread Cert.SadcIdeal.nD Cert.SadcIdeal.τ).loc Cert.SadcIdeal.main_arg0)
      ∧ m' ((c.tc : Thread Cert.SadcRefIdeal.nD Cert.SadcRefIdeal.τ).loc Cert.SadcRefIdeal.main_arg1) = m ((c.tc : Thread Cert.SadcIdeal.nD Cert.SadcIdeal.τ).loc Cert.SadcIdeal.main_arg1)
      ∧ m' ((c.tc : Thread Cert.SadcRefIdeal.nD Cert.SadcRefIdeal.τ).loc Cert.SadcRefIdeal.main_arg2) = m ((c.tc : Thread Cert.SadcIdeal.nD Cert.SadcIdeal.τ).loc Cert.SadcIdeal.main_arg2)
      ∧ m' ((c.tc : Thread Cert.SadcRefIdeal.nD Cert.SadcRefIdeal.τ).loc Cert.SadcRefIdeal.main_arg3) = m ((c.tc : Thread Cert.SadcIdeal.nD Cert.SadcIdeal.τ).loc Cert.SadcIdeal.main_arg3)
      ∧ m' ((c.tc : Thread Cert.SadcRefIdeal.nD Cert.SadcRefIdeal.τ).loc Cert.SadcRefIdeal.main_arg4) = m ((c.tc : Thread Cert.SadcIdeal.nD Cert.SadcIdeal.τ).loc Cert.SadcIdeal.main_arg4)
      ∧ m' ((c.tc : Thread Cert.SadcRefIdeal.nD Cert.SadcRefIdeal.τ).loc Cert.SadcRefIdeal.main_arg5) = m ((c.tc : Thread Cert.SadcIdeal.nD Cert.SadcIdeal.τ).loc Cert.SadcIdeal.main_arg5)
      ∧ m' ((c.tc : Thread Cert.SadcRefIdeal.nD Cert.SadcRefIdeal.τ).loc Cert.SadcRefIdeal.main_arg6) = m ((c.tc : Thread Cert.SadcIdeal.nD Cert.SadcIdeal.τ).loc Cert.SadcIdeal.main_arg6)
      ∧ m' ((c.tc : Thread Cert.SadcRefIdeal.nD Cert.SadcRefIdeal.τ).loc Cert.SadcRefIdeal.main_arg7) = m ((c.tc : Thread Cert.SadcIdeal.nD Cert.SadcIdeal.τ).loc Cert.SadcIdeal.main_arg7)
      ∧ m' ((c.tc : Thread Cert.SadcRefIdeal.nD Cert.SadcRefIdeal.τ).loc Cert.SadcRefIdeal.main_arg8) = m ((c.tc : Thread Cert.SadcIdeal.nD Cert.SadcIdeal.τ).loc Cert.SadcIdeal.main_arg8)
      ∧ m' ((c.tc : Thread Cert.SadcRefIdeal.nD Cert.SadcRefIdeal.τ).loc Cert.SadcRefIdeal.main_arg9) = m ((c.tc : Thread Cert.SadcIdeal.nD Cert.SadcIdeal.τ).loc Cert.SadcIdeal.main_arg9)
      ∧ m' ((c.tc : Thread Cert.SadcRefIdeal.nD Cert.SadcRefIdeal.τ).loc Cert.SadcRefIdeal.main_arg10) = m ((c.tc : Thread Cert.SadcIdeal.nD Cert.SadcIdeal.τ).loc Cert.SadcIdeal.main_arg10)
      ∧ m' ((c.tc : Thread Cert.SadcRefIdeal.nD Cert.SadcRefIdeal.τ).loc Cert.SadcRefIdeal.main_arg11) = m ((c.tc : Thread Cert.SadcIdeal.nD Cert.SadcIdeal.τ).loc Cert.SadcIdeal.main_arg11)) →
    ∃ (v0 : (c : Dev Cert.SadcIdeal.nD) → Buf (Elt Ideal) ((c.tc : Thread Cert.SadcIdeal.nD Cert.SadcIdeal.τ).loc Cert.SadcIdeal.main_v0_0)) (v1 : (c : Dev Cert.SadcIdeal.nD) → Buf (Elt Ideal) ((c.tc : Thread Cert.SadcIdeal.nD Cert.SadcIdeal.τ).loc Cert.SadcIdeal.main_v0_1)) (v2 : (c : Dev Cert.SadcIdeal.nD) → Buf (Elt Ideal) ((c.tc : Thread Cert.SadcIdeal.nD Cert.SadcIdeal.τ).loc Cert.SadcIdeal.main_v0_2)) (v3 : (c : Dev Cert.SadcIdeal.nD) → Buf (Elt Ideal) ((c.tc : Thread Cert.SadcIdeal.nD Cert.SadcIdeal.τ).loc Cert.SadcIdeal.main_v0_3)) (v4 : (c : Dev Cert.SadcIdeal.nD) → Buf (Elt Ideal) ((c.tc : Thread Cert.SadcIdeal.nD Cert.SadcIdeal.τ).loc Cert.SadcIdeal.main_v0_4)) (v5 : (c : Dev Cert.SadcIdeal.nD) → Buf (Elt Ideal) ((c.tc : Thread Cert.SadcIdeal.nD Cert.SadcIdeal.τ).loc Cert.SadcIdeal.main_v0_5)) (v6 : (c : Dev Cert.SadcIdeal.nD) → Buf (Elt Ideal) ((c.tc : Thread Cert.SadcIdeal.nD Cert.SadcIdeal.τ).loc Cert.SadcIdeal.main_v0_6)) (v7 : (c : Dev Cert.SadcIdeal.nD) → Buf (Elt Ideal) ((c.tc : Thread Cert.SadcIdeal.nD Cert.SadcIdeal.τ).loc Cert.SadcIdeal.main_v0_7)) (v8 : (c : Dev Cert.SadcIdeal.nD) → Buf (Elt Ideal) ((c.tc : Thread Cert.SadcIdeal.nD Cert.SadcIdeal.τ).loc Cert.SadcIdeal.main_v0_8)),
      θ_run (Cert.SadcIdeal.defs (F := Ideal)) (onTc (τ := Cert.SadcIdeal.τ) (Cert.SadcIdeal.main (F := Ideal))) ⟨m, fun _ => 0, g⟩ (fun r => ∀ c : Dev Cert.SadcIdeal.nD,
          r.2.mem ((c.tc : Thread Cert.SadcIdeal.nD Cert.SadcIdeal.τ).loc Cert.SadcIdeal.main_v0_0) = v0 c
          ∧ r.2.mem ((c.tc : Thread Cert.SadcIdeal.nD Cert.SadcIdeal.τ).loc Cert.SadcIdeal.main_v0_1) = v1 c
          ∧ r.2.mem ((c.tc : Thread Cert.SadcIdeal.nD Cert.SadcIdeal.τ).loc Cert.SadcIdeal.main_v0_2) = v2 c
          ∧ r.2.mem ((c.tc : Thread Cert.SadcIdeal.nD Cert.SadcIdeal.τ).loc Cert.SadcIdeal.main_v0_3) = v3 c
          ∧ r.2.mem ((c.tc : Thread Cert.SadcIdeal.nD Cert.SadcIdeal.τ).loc Cert.SadcIdeal.main_v0_4) = v4 c
          ∧ r.2.mem ((c.tc : Thread Cert.SadcIdeal.nD Cert.SadcIdeal.τ).loc Cert.SadcIdeal.main_v0_5) = v5 c
          ∧ r.2.mem ((c.tc : Thread Cert.SadcIdeal.nD Cert.SadcIdeal.τ).loc Cert.SadcIdeal.main_v0_6) = v6 c
          ∧ r.2.mem ((c.tc : Thread Cert.SadcIdeal.nD Cert.SadcIdeal.τ).loc Cert.SadcIdeal.main_v0_7) = v7 c
          ∧ r.2.mem ((c.tc : Thread Cert.SadcIdeal.nD Cert.SadcIdeal.τ).loc Cert.SadcIdeal.main_v0_8) = v8 c
          ∧ r.2.mem ((c.tc : Thread Cert.SadcIdeal.nD Cert.SadcIdeal.τ).loc Cert.SadcIdeal.main_arg0) = m ((c.tc : Thread Cert.SadcIdeal.nD Cert.SadcIdeal.τ).loc Cert.SadcIdeal.main_arg0)
          ∧ r.2.mem ((c.tc : Thread Cert.SadcIdeal.nD Cert.SadcIdeal.τ).loc Cert.SadcIdeal.main_arg1) = m ((c.tc : Thread Cert.SadcIdeal.nD Cert.SadcIdeal.τ).loc Cert.SadcIdeal.main_arg1)
          ∧ r.2.mem ((c.tc : Thread Cert.SadcIdeal.nD Cert.SadcIdeal.τ).loc Cert.SadcIdeal.main_arg2) = m ((c.tc : Thread Cert.SadcIdeal.nD Cert.SadcIdeal.τ).loc Cert.SadcIdeal.main_arg2)
          ∧ r.2.mem ((c.tc : Thread Cert.SadcIdeal.nD Cert.SadcIdeal.τ).loc Cert.SadcIdeal.main_arg3) = m ((c.tc : Thread Cert.SadcIdeal.nD Cert.SadcIdeal.τ).loc Cert.SadcIdeal.main_arg3)
          ∧ r.2.mem ((c.tc : Thread Cert.SadcIdeal.nD Cert.SadcIdeal.τ).loc Cert.SadcIdeal.main_arg4) = m ((c.tc : Thread Cert.SadcIdeal.nD Cert.SadcIdeal.τ).loc Cert.SadcIdeal.main_arg4)
          ∧ r.2.mem ((c.tc : Thread Cert.SadcIdeal.nD Cert.SadcIdeal.τ).loc Cert.SadcIdeal.main_arg5) = m ((c.tc : Thread Cert.SadcIdeal.nD Cert.SadcIdeal.τ).loc Cert.SadcIdeal.main_arg5)
          ∧ r.2.mem ((c.tc : Thread Cert.SadcIdeal.nD Cert.SadcIdeal.τ).loc Cert.SadcIdeal.main_arg6) = m ((c.tc : Thread Cert.SadcIdeal.nD Cert.SadcIdeal.τ).loc Cert.SadcIdeal.main_arg6)
          ∧ r.2.mem ((c.tc : Thread Cert.SadcIdeal.nD Cert.SadcIdeal.τ).loc Cert.SadcIdeal.main_arg7) = m ((c.tc : Thread Cert.SadcIdeal.nD Cert.SadcIdeal.τ).loc Cert.SadcIdeal.main_arg7)
          ∧ r.2.mem ((c.tc : Thread Cert.SadcIdeal.nD Cert.SadcIdeal.τ).loc Cert.SadcIdeal.main_arg8) = m ((c.tc : Thread Cert.SadcIdeal.nD Cert.SadcIdeal.τ).loc Cert.SadcIdeal.main_arg8)
          ∧ r.2.mem ((c.tc : Thread Cert.SadcIdeal.nD Cert.SadcIdeal.τ).loc Cert.SadcIdeal.main_arg9) = m ((c.tc : Thread Cert.SadcIdeal.nD Cert.SadcIdeal.τ).loc Cert.SadcIdeal.main_arg9)
          ∧ r.2.mem ((c.tc : Thread Cert.SadcIdeal.nD Cert.SadcIdeal.τ).loc Cert.SadcIdeal.main_arg10) = m ((c.tc : Thread Cert.SadcIdeal.nD Cert.SadcIdeal.τ).loc Cert.SadcIdeal.main_arg10)
          ∧ r.2.mem ((c.tc : Thread Cert.SadcIdeal.nD Cert.SadcIdeal.τ).loc Cert.SadcIdeal.main_arg11) = m ((c.tc : Thread Cert.SadcIdeal.nD Cert.SadcIdeal.τ).loc Cert.SadcIdeal.main_arg11))
      ∧ θ_run (Cert.SadcRefIdeal.defs (F := Ideal)) (onTc (τ := Cert.SadcRefIdeal.τ) (Cert.SadcRefIdeal.main (F := Ideal))) ⟨m', fun _ => 0, g'⟩ (fun r => ∀ c : Dev Cert.SadcRefIdeal.nD,
          r.2.mem ((c.tc : Thread Cert.SadcRefIdeal.nD Cert.SadcRefIdeal.τ).loc Cert.SadcRefIdeal.main_v23) = v0 c
          ∧ r.2.mem ((c.tc : Thread Cert.SadcRefIdeal.nD Cert.SadcRefIdeal.τ).loc Cert.SadcRefIdeal.main_v47) = v1 c
          ∧ r.2.mem ((c.tc : Thread Cert.SadcRefIdeal.nD Cert.SadcRefIdeal.τ).loc Cert.SadcRefIdeal.main_v71) = v2 c
          ∧ r.2.mem ((c.tc : Thread Cert.SadcRefIdeal.nD Cert.SadcRefIdeal.τ).loc Cert.SadcRefIdeal.main_v4) = v3 c
          ∧ r.2.mem ((c.tc : Thread Cert.SadcRefIdeal.nD Cert.SadcRefIdeal.τ).loc Cert.SadcRefIdeal.main_v28) = v4 c
          ∧ r.2.mem ((c.tc : Thread Cert.SadcRefIdeal.nD Cert.SadcRefIdeal.τ).loc Cert.SadcRefIdeal.main_v52) = v5 c
          ∧ r.2.mem ((c.tc : Thread Cert.SadcRefIdeal.nD Cert.SadcRefIdeal.τ).loc Cert.SadcRefIdeal.main_v10) = v6 c
          ∧ r.2.mem ((c.tc : Thread Cert.SadcRefIdeal.nD Cert.SadcRefIdeal.τ).loc Cert.SadcRefIdeal.main_v34) = v7 c
          ∧ r.2.mem ((c.tc : Thread Cert.SadcRefIdeal.nD Cert.SadcRefIdeal.τ).loc Cert.SadcRefIdeal.main_v58) = v8 c
          ∧ r.2.mem ((c.tc : Thread Cert.SadcRefIdeal.nD Cert.SadcRefIdeal.τ).loc Cert.SadcRefIdeal.main_arg0) = m' ((c.tc : Thread Cert.SadcRefIdeal.nD Cert.SadcRefIdeal.τ).loc Cert.SadcRefIdeal.main_arg0)
          ∧ r.2.mem ((c.tc : Thread Cert.SadcRefIdeal.nD Cert.SadcRefIdeal.τ).loc Cert.SadcRefIdeal.main_arg1) = m' ((c.tc : Thread Cert.SadcRefIdeal.nD Cert.SadcRefIdeal.τ).loc Cert.SadcRefIdeal.main_arg1)
          ∧ r.2.mem ((c.tc : Thread Cert.SadcRefIdeal.nD Cert.SadcRefIdeal.τ).loc Cert.SadcRefIdeal.main_arg2) = m' ((c.tc : Thread Cert.SadcRefIdeal.nD Cert.SadcRefIdeal.τ).loc Cert.SadcRefIdeal.main_arg2)
          ∧ r.2.mem ((c.tc : Thread Cert.SadcRefIdeal.nD Cert.SadcRefIdeal.τ).loc Cert.SadcRefIdeal.main_arg3) = m' ((c.tc : Thread Cert.SadcRefIdeal.nD Cert.SadcRefIdeal.τ).loc Cert.SadcRefIdeal.main_arg3)
          ∧ r.2.mem ((c.tc : Thread Cert.SadcRefIdeal.nD Cert.SadcRefIdeal.τ).loc Cert.SadcRefIdeal.main_arg4) = m' ((c.tc : Thread Cert.SadcRefIdeal.nD Cert.SadcRefIdeal.τ).loc Cert.SadcRefIdeal.main_arg4)
          ∧ r.2.mem ((c.tc : Thread Cert.SadcRefIdeal.nD Cert.SadcRefIdeal.τ).loc Cert.SadcRefIdeal.main_arg5) = m' ((c.tc : Thread Cert.SadcRefIdeal.nD Cert.SadcRefIdeal.τ).loc Cert.SadcRefIdeal.main_arg5)
          ∧ r.2.mem ((c.tc : Thread Cert.SadcRefIdeal.nD Cert.SadcRefIdeal.τ).loc Cert.SadcRefIdeal.main_arg6) = m' ((c.tc : Thread Cert.SadcRefIdeal.nD Cert.SadcRefIdeal.τ).loc Cert.SadcRefIdeal.main_arg6)
          ∧ r.2.mem ((c.tc : Thread Cert.SadcRefIdeal.nD Cert.SadcRefIdeal.τ).loc Cert.SadcRefIdeal.main_arg7) = m' ((c.tc : Thread Cert.SadcRefIdeal.nD Cert.SadcRefIdeal.τ).loc Cert.SadcRefIdeal.main_arg7)
          ∧ r.2.mem ((c.tc : Thread Cert.SadcRefIdeal.nD Cert.SadcRefIdeal.τ).loc Cert.SadcRefIdeal.main_arg8) = m' ((c.tc : Thread Cert.SadcRefIdeal.nD Cert.SadcRefIdeal.τ).loc Cert.SadcRefIdeal.main_arg8)
          ∧ r.2.mem ((c.tc : Thread Cert.SadcRefIdeal.nD Cert.SadcRefIdeal.τ).loc Cert.SadcRefIdeal.main_arg9) = m' ((c.tc : Thread Cert.SadcRefIdeal.nD Cert.SadcRefIdeal.τ).loc Cert.SadcRefIdeal.main_arg9)
          ∧ r.2.mem ((c.tc : Thread Cert.SadcRefIdeal.nD Cert.SadcRefIdeal.τ).loc Cert.SadcRefIdeal.main_arg10) = m' ((c.tc : Thread Cert.SadcRefIdeal.nD Cert.SadcRefIdeal.τ).loc Cert.SadcRefIdeal.main_arg10)
          ∧ r.2.mem ((c.tc : Thread Cert.SadcRefIdeal.nD Cert.SadcRefIdeal.τ).loc Cert.SadcRefIdeal.main_arg11) = m' ((c.tc : Thread Cert.SadcRefIdeal.nD Cert.SadcRefIdeal.τ).loc Cert.SadcRefIdeal.main_arg11))

def preserves_Sadd_SaddIdeal : Prop :=
  True

def algebraic_SaddIdeal_SaddRefIdeal [hSaddIdeal : Cert.SaddIdeal.Facts] [hSaddRefIdeal : Cert.SaddRefIdeal.Facts] : Prop :=
  ∀ (m : (ℓ : Loc Cert.SaddIdeal.nD Cert.SaddIdeal.τ Cert.SaddIdeal.sig) → Buf (Elt Ideal) ℓ) (g : Dev Cert.SaddIdeal.nD → PrngReg)
    (m' : (ℓ : Loc Cert.SaddRefIdeal.nD Cert.SaddRefIdeal.τ Cert.SaddRefIdeal.sig) → Buf (Elt Ideal) ℓ) (g' : Dev Cert.SaddRefIdeal.nD → PrngReg), Pre_SaddIdeal m →
    (∀ c : Dev Cert.SaddIdeal.nD,
      m' ((c.tc : Thread Cert.SaddRefIdeal.nD Cert.SaddRefIdeal.τ).loc Cert.SaddRefIdeal.main_arg0) = m ((c.tc : Thread Cert.SaddIdeal.nD Cert.SaddIdeal.τ).loc Cert.SaddIdeal.main_arg0)
      ∧ m' ((c.tc : Thread Cert.SaddRefIdeal.nD Cert.SaddRefIdeal.τ).loc Cert.SaddRefIdeal.main_arg1) = m ((c.tc : Thread Cert.SaddIdeal.nD Cert.SaddIdeal.τ).loc Cert.SaddIdeal.main_arg1)
      ∧ m' ((c.tc : Thread Cert.SaddRefIdeal.nD Cert.SaddRefIdeal.τ).loc Cert.SaddRefIdeal.main_arg2) = m ((c.tc : Thread Cert.SaddIdeal.nD Cert.SaddIdeal.τ).loc Cert.SaddIdeal.main_arg2)
      ∧ m' ((c.tc : Thread Cert.SaddRefIdeal.nD Cert.SaddRefIdeal.τ).loc Cert.SaddRefIdeal.main_arg3) = m ((c.tc : Thread Cert.SaddIdeal.nD Cert.SaddIdeal.τ).loc Cert.SaddIdeal.main_arg3)
      ∧ m' ((c.tc : Thread Cert.SaddRefIdeal.nD Cert.SaddRefIdeal.τ).loc Cert.SaddRefIdeal.main_arg4) = m ((c.tc : Thread Cert.SaddIdeal.nD Cert.SaddIdeal.τ).loc Cert.SaddIdeal.main_arg4)
      ∧ m' ((c.tc : Thread Cert.SaddRefIdeal.nD Cert.SaddRefIdeal.τ).loc Cert.SaddRefIdeal.main_arg5) = m ((c.tc : Thread Cert.SaddIdeal.nD Cert.SaddIdeal.τ).loc Cert.SaddIdeal.main_arg5)
      ∧ m' ((c.tc : Thread Cert.SaddRefIdeal.nD Cert.SaddRefIdeal.τ).loc Cert.SaddRefIdeal.main_arg6) = m ((c.tc : Thread Cert.SaddIdeal.nD Cert.SaddIdeal.τ).loc Cert.SaddIdeal.main_arg6)
      ∧ m' ((c.tc : Thread Cert.SaddRefIdeal.nD Cert.SaddRefIdeal.τ).loc Cert.SaddRefIdeal.main_arg7) = m ((c.tc : Thread Cert.SaddIdeal.nD Cert.SaddIdeal.τ).loc Cert.SaddIdeal.main_arg7)
      ∧ m' ((c.tc : Thread Cert.SaddRefIdeal.nD Cert.SaddRefIdeal.τ).loc Cert.SaddRefIdeal.main_arg8) = m ((c.tc : Thread Cert.SaddIdeal.nD Cert.SaddIdeal.τ).loc Cert.SaddIdeal.main_arg8)
      ∧ m' ((c.tc : Thread Cert.SaddRefIdeal.nD Cert.SaddRefIdeal.τ).loc Cert.SaddRefIdeal.main_arg9) = m ((c.tc : Thread Cert.SaddIdeal.nD Cert.SaddIdeal.τ).loc Cert.SaddIdeal.main_arg9)
      ∧ m' ((c.tc : Thread Cert.SaddRefIdeal.nD Cert.SaddRefIdeal.τ).loc Cert.SaddRefIdeal.main_arg10) = m ((c.tc : Thread Cert.SaddIdeal.nD Cert.SaddIdeal.τ).loc Cert.SaddIdeal.main_arg10)
      ∧ m' ((c.tc : Thread Cert.SaddRefIdeal.nD Cert.SaddRefIdeal.τ).loc Cert.SaddRefIdeal.main_arg11) = m ((c.tc : Thread Cert.SaddIdeal.nD Cert.SaddIdeal.τ).loc Cert.SaddIdeal.main_arg11)) →
    ∃ (v0 : (c : Dev Cert.SaddIdeal.nD) → Buf (Elt Ideal) ((c.tc : Thread Cert.SaddIdeal.nD Cert.SaddIdeal.τ).loc Cert.SaddIdeal.main_v0_0)) (v1 : (c : Dev Cert.SaddIdeal.nD) → Buf (Elt Ideal) ((c.tc : Thread Cert.SaddIdeal.nD Cert.SaddIdeal.τ).loc Cert.SaddIdeal.main_v0_1)) (v2 : (c : Dev Cert.SaddIdeal.nD) → Buf (Elt Ideal) ((c.tc : Thread Cert.SaddIdeal.nD Cert.SaddIdeal.τ).loc Cert.SaddIdeal.main_v0_2)) (v3 : (c : Dev Cert.SaddIdeal.nD) → Buf (Elt Ideal) ((c.tc : Thread Cert.SaddIdeal.nD Cert.SaddIdeal.τ).loc Cert.SaddIdeal.main_v0_3)) (v4 : (c : Dev Cert.SaddIdeal.nD) → Buf (Elt Ideal) ((c.tc : Thread Cert.SaddIdeal.nD Cert.SaddIdeal.τ).loc Cert.SaddIdeal.main_v0_4)) (v5 : (c : Dev Cert.SaddIdeal.nD) → Buf (Elt Ideal) ((c.tc : Thread Cert.SaddIdeal.nD Cert.SaddIdeal.τ).loc Cert.SaddIdeal.main_v0_5)) (v6 : (c : Dev Cert.SaddIdeal.nD) → Buf (Elt Ideal) ((c.tc : Thread Cert.SaddIdeal.nD Cert.SaddIdeal.τ).loc Cert.SaddIdeal.main_v0_6)) (v7 : (c : Dev Cert.SaddIdeal.nD) → Buf (Elt Ideal) ((c.tc : Thread Cert.SaddIdeal.nD Cert.SaddIdeal.τ).loc Cert.SaddIdeal.main_v0_7)) (v8 : (c : Dev Cert.SaddIdeal.nD) → Buf (Elt Ideal) ((c.tc : Thread Cert.SaddIdeal.nD Cert.SaddIdeal.τ).loc Cert.SaddIdeal.main_v0_8)),
      θ_run (Cert.SaddIdeal.defs (F := Ideal)) (onTc (τ := Cert.SaddIdeal.τ) (Cert.SaddIdeal.main (F := Ideal))) ⟨m, fun _ => 0, g⟩ (fun r => ∀ c : Dev Cert.SaddIdeal.nD,
          r.2.mem ((c.tc : Thread Cert.SaddIdeal.nD Cert.SaddIdeal.τ).loc Cert.SaddIdeal.main_v0_0) = v0 c
          ∧ r.2.mem ((c.tc : Thread Cert.SaddIdeal.nD Cert.SaddIdeal.τ).loc Cert.SaddIdeal.main_v0_1) = v1 c
          ∧ r.2.mem ((c.tc : Thread Cert.SaddIdeal.nD Cert.SaddIdeal.τ).loc Cert.SaddIdeal.main_v0_2) = v2 c
          ∧ r.2.mem ((c.tc : Thread Cert.SaddIdeal.nD Cert.SaddIdeal.τ).loc Cert.SaddIdeal.main_v0_3) = v3 c
          ∧ r.2.mem ((c.tc : Thread Cert.SaddIdeal.nD Cert.SaddIdeal.τ).loc Cert.SaddIdeal.main_v0_4) = v4 c
          ∧ r.2.mem ((c.tc : Thread Cert.SaddIdeal.nD Cert.SaddIdeal.τ).loc Cert.SaddIdeal.main_v0_5) = v5 c
          ∧ r.2.mem ((c.tc : Thread Cert.SaddIdeal.nD Cert.SaddIdeal.τ).loc Cert.SaddIdeal.main_v0_6) = v6 c
          ∧ r.2.mem ((c.tc : Thread Cert.SaddIdeal.nD Cert.SaddIdeal.τ).loc Cert.SaddIdeal.main_v0_7) = v7 c
          ∧ r.2.mem ((c.tc : Thread Cert.SaddIdeal.nD Cert.SaddIdeal.τ).loc Cert.SaddIdeal.main_v0_8) = v8 c
          ∧ r.2.mem ((c.tc : Thread Cert.SaddIdeal.nD Cert.SaddIdeal.τ).loc Cert.SaddIdeal.main_arg0) = m ((c.tc : Thread Cert.SaddIdeal.nD Cert.SaddIdeal.τ).loc Cert.SaddIdeal.main_arg0)
          ∧ r.2.mem ((c.tc : Thread Cert.SaddIdeal.nD Cert.SaddIdeal.τ).loc Cert.SaddIdeal.main_arg1) = m ((c.tc : Thread Cert.SaddIdeal.nD Cert.SaddIdeal.τ).loc Cert.SaddIdeal.main_arg1)
          ∧ r.2.mem ((c.tc : Thread Cert.SaddIdeal.nD Cert.SaddIdeal.τ).loc Cert.SaddIdeal.main_arg2) = m ((c.tc : Thread Cert.SaddIdeal.nD Cert.SaddIdeal.τ).loc Cert.SaddIdeal.main_arg2)
          ∧ r.2.mem ((c.tc : Thread Cert.SaddIdeal.nD Cert.SaddIdeal.τ).loc Cert.SaddIdeal.main_arg3) = m ((c.tc : Thread Cert.SaddIdeal.nD Cert.SaddIdeal.τ).loc Cert.SaddIdeal.main_arg3)
          ∧ r.2.mem ((c.tc : Thread Cert.SaddIdeal.nD Cert.SaddIdeal.τ).loc Cert.SaddIdeal.main_arg4) = m ((c.tc : Thread Cert.SaddIdeal.nD Cert.SaddIdeal.τ).loc Cert.SaddIdeal.main_arg4)
          ∧ r.2.mem ((c.tc : Thread Cert.SaddIdeal.nD Cert.SaddIdeal.τ).loc Cert.SaddIdeal.main_arg5) = m ((c.tc : Thread Cert.SaddIdeal.nD Cert.SaddIdeal.τ).loc Cert.SaddIdeal.main_arg5)
          ∧ r.2.mem ((c.tc : Thread Cert.SaddIdeal.nD Cert.SaddIdeal.τ).loc Cert.SaddIdeal.main_arg6) = m ((c.tc : Thread Cert.SaddIdeal.nD Cert.SaddIdeal.τ).loc Cert.SaddIdeal.main_arg6)
          ∧ r.2.mem ((c.tc : Thread Cert.SaddIdeal.nD Cert.SaddIdeal.τ).loc Cert.SaddIdeal.main_arg7) = m ((c.tc : Thread Cert.SaddIdeal.nD Cert.SaddIdeal.τ).loc Cert.SaddIdeal.main_arg7)
          ∧ r.2.mem ((c.tc : Thread Cert.SaddIdeal.nD Cert.SaddIdeal.τ).loc Cert.SaddIdeal.main_arg8) = m ((c.tc : Thread Cert.SaddIdeal.nD Cert.SaddIdeal.τ).loc Cert.SaddIdeal.main_arg8)
          ∧ r.2.mem ((c.tc : Thread Cert.SaddIdeal.nD Cert.SaddIdeal.τ).loc Cert.SaddIdeal.main_arg9) = m ((c.tc : Thread Cert.SaddIdeal.nD Cert.SaddIdeal.τ).loc Cert.SaddIdeal.main_arg9)
          ∧ r.2.mem ((c.tc : Thread Cert.SaddIdeal.nD Cert.SaddIdeal.τ).loc Cert.SaddIdeal.main_arg10) = m ((c.tc : Thread Cert.SaddIdeal.nD Cert.SaddIdeal.τ).loc Cert.SaddIdeal.main_arg10)
          ∧ r.2.mem ((c.tc : Thread Cert.SaddIdeal.nD Cert.SaddIdeal.τ).loc Cert.SaddIdeal.main_arg11) = m ((c.tc : Thread Cert.SaddIdeal.nD Cert.SaddIdeal.τ).loc Cert.SaddIdeal.main_arg11))
      ∧ θ_run (Cert.SaddRefIdeal.defs (F := Ideal)) (onTc (τ := Cert.SaddRefIdeal.τ) (Cert.SaddRefIdeal.main (F := Ideal))) ⟨m', fun _ => 0, g'⟩ (fun r => ∀ c : Dev Cert.SaddRefIdeal.nD,
          r.2.mem ((c.tc : Thread Cert.SaddRefIdeal.nD Cert.SaddRefIdeal.τ).loc Cert.SaddRefIdeal.main_v23) = v0 c
          ∧ r.2.mem ((c.tc : Thread Cert.SaddRefIdeal.nD Cert.SaddRefIdeal.τ).loc Cert.SaddRefIdeal.main_v47) = v1 c
          ∧ r.2.mem ((c.tc : Thread Cert.SaddRefIdeal.nD Cert.SaddRefIdeal.τ).loc Cert.SaddRefIdeal.main_v71) = v2 c
          ∧ r.2.mem ((c.tc : Thread Cert.SaddRefIdeal.nD Cert.SaddRefIdeal.τ).loc Cert.SaddRefIdeal.main_v4) = v3 c
          ∧ r.2.mem ((c.tc : Thread Cert.SaddRefIdeal.nD Cert.SaddRefIdeal.τ).loc Cert.SaddRefIdeal.main_v28) = v4 c
          ∧ r.2.mem ((c.tc : Thread Cert.SaddRefIdeal.nD Cert.SaddRefIdeal.τ).loc Cert.SaddRefIdeal.main_v52) = v5 c
          ∧ r.2.mem ((c.tc : Thread Cert.SaddRefIdeal.nD Cert.SaddRefIdeal.τ).loc Cert.SaddRefIdeal.main_v10) = v6 c
          ∧ r.2.mem ((c.tc : Thread Cert.SaddRefIdeal.nD Cert.SaddRefIdeal.τ).loc Cert.SaddRefIdeal.main_v34) = v7 c
          ∧ r.2.mem ((c.tc : Thread Cert.SaddRefIdeal.nD Cert.SaddRefIdeal.τ).loc Cert.SaddRefIdeal.main_v58) = v8 c
          ∧ r.2.mem ((c.tc : Thread Cert.SaddRefIdeal.nD Cert.SaddRefIdeal.τ).loc Cert.SaddRefIdeal.main_arg0) = m' ((c.tc : Thread Cert.SaddRefIdeal.nD Cert.SaddRefIdeal.τ).loc Cert.SaddRefIdeal.main_arg0)
          ∧ r.2.mem ((c.tc : Thread Cert.SaddRefIdeal.nD Cert.SaddRefIdeal.τ).loc Cert.SaddRefIdeal.main_arg1) = m' ((c.tc : Thread Cert.SaddRefIdeal.nD Cert.SaddRefIdeal.τ).loc Cert.SaddRefIdeal.main_arg1)
          ∧ r.2.mem ((c.tc : Thread Cert.SaddRefIdeal.nD Cert.SaddRefIdeal.τ).loc Cert.SaddRefIdeal.main_arg2) = m' ((c.tc : Thread Cert.SaddRefIdeal.nD Cert.SaddRefIdeal.τ).loc Cert.SaddRefIdeal.main_arg2)
          ∧ r.2.mem ((c.tc : Thread Cert.SaddRefIdeal.nD Cert.SaddRefIdeal.τ).loc Cert.SaddRefIdeal.main_arg3) = m' ((c.tc : Thread Cert.SaddRefIdeal.nD Cert.SaddRefIdeal.τ).loc Cert.SaddRefIdeal.main_arg3)
          ∧ r.2.mem ((c.tc : Thread Cert.SaddRefIdeal.nD Cert.SaddRefIdeal.τ).loc Cert.SaddRefIdeal.main_arg4) = m' ((c.tc : Thread Cert.SaddRefIdeal.nD Cert.SaddRefIdeal.τ).loc Cert.SaddRefIdeal.main_arg4)
          ∧ r.2.mem ((c.tc : Thread Cert.SaddRefIdeal.nD Cert.SaddRefIdeal.τ).loc Cert.SaddRefIdeal.main_arg5) = m' ((c.tc : Thread Cert.SaddRefIdeal.nD Cert.SaddRefIdeal.τ).loc Cert.SaddRefIdeal.main_arg5)
          ∧ r.2.mem ((c.tc : Thread Cert.SaddRefIdeal.nD Cert.SaddRefIdeal.τ).loc Cert.SaddRefIdeal.main_arg6) = m' ((c.tc : Thread Cert.SaddRefIdeal.nD Cert.SaddRefIdeal.τ).loc Cert.SaddRefIdeal.main_arg6)
          ∧ r.2.mem ((c.tc : Thread Cert.SaddRefIdeal.nD Cert.SaddRefIdeal.τ).loc Cert.SaddRefIdeal.main_arg7) = m' ((c.tc : Thread Cert.SaddRefIdeal.nD Cert.SaddRefIdeal.τ).loc Cert.SaddRefIdeal.main_arg7)
          ∧ r.2.mem ((c.tc : Thread Cert.SaddRefIdeal.nD Cert.SaddRefIdeal.τ).loc Cert.SaddRefIdeal.main_arg8) = m' ((c.tc : Thread Cert.SaddRefIdeal.nD Cert.SaddRefIdeal.τ).loc Cert.SaddRefIdeal.main_arg8)
          ∧ r.2.mem ((c.tc : Thread Cert.SaddRefIdeal.nD Cert.SaddRefIdeal.τ).loc Cert.SaddRefIdeal.main_arg9) = m' ((c.tc : Thread Cert.SaddRefIdeal.nD Cert.SaddRefIdeal.τ).loc Cert.SaddRefIdeal.main_arg9)
          ∧ r.2.mem ((c.tc : Thread Cert.SaddRefIdeal.nD Cert.SaddRefIdeal.τ).loc Cert.SaddRefIdeal.main_arg10) = m' ((c.tc : Thread Cert.SaddRefIdeal.nD Cert.SaddRefIdeal.τ).loc Cert.SaddRefIdeal.main_arg10)
          ∧ r.2.mem ((c.tc : Thread Cert.SaddRefIdeal.nD Cert.SaddRefIdeal.τ).loc Cert.SaddRefIdeal.main_arg11) = m' ((c.tc : Thread Cert.SaddRefIdeal.nD Cert.SaddRefIdeal.τ).loc Cert.SaddRefIdeal.main_arg11))

def preserves_Ssum_SsumIdeal : Prop :=
  True

def algebraic_SsumIdeal_SsumRefIdeal [hSsumIdeal : Cert.SsumIdeal.Facts] [hSsumRefIdeal : Cert.SsumRefIdeal.Facts] : Prop :=
  ∀ (m : (ℓ : Loc Cert.SsumIdeal.nD Cert.SsumIdeal.τ Cert.SsumIdeal.sig) → Buf (Elt Ideal) ℓ) (g : Dev Cert.SsumIdeal.nD → PrngReg)
    (m' : (ℓ : Loc Cert.SsumRefIdeal.nD Cert.SsumRefIdeal.τ Cert.SsumRefIdeal.sig) → Buf (Elt Ideal) ℓ) (g' : Dev Cert.SsumRefIdeal.nD → PrngReg), Pre_SsumIdeal m →
    (∀ c : Dev Cert.SsumIdeal.nD,
      m' ((c.tc : Thread Cert.SsumRefIdeal.nD Cert.SsumRefIdeal.τ).loc Cert.SsumRefIdeal.main_arg0) = m ((c.tc : Thread Cert.SsumIdeal.nD Cert.SsumIdeal.τ).loc Cert.SsumIdeal.main_arg0)) →
    ∃ (v0 : (c : Dev Cert.SsumIdeal.nD) → Buf (Elt Ideal) ((c.tc : Thread Cert.SsumIdeal.nD Cert.SsumIdeal.τ).loc Cert.SsumIdeal.main_v0)),
      θ_run (Cert.SsumIdeal.defs (F := Ideal)) (onTc (τ := Cert.SsumIdeal.τ) (Cert.SsumIdeal.main (F := Ideal))) ⟨m, fun _ => 0, g⟩ (fun r => ∀ c : Dev Cert.SsumIdeal.nD,
          r.2.mem ((c.tc : Thread Cert.SsumIdeal.nD Cert.SsumIdeal.τ).loc Cert.SsumIdeal.main_v0) = v0 c
          ∧ r.2.mem ((c.tc : Thread Cert.SsumIdeal.nD Cert.SsumIdeal.τ).loc Cert.SsumIdeal.main_arg0) = m ((c.tc : Thread Cert.SsumIdeal.nD Cert.SsumIdeal.τ).loc Cert.SsumIdeal.main_arg0))
      ∧ θ_run (Cert.SsumRefIdeal.defs (F := Ideal)) (onTc (τ := Cert.SsumRefIdeal.τ) (Cert.SsumRefIdeal.main (F := Ideal))) ⟨m', fun _ => 0, g'⟩ (fun r => ∀ c : Dev Cert.SsumRefIdeal.nD,
          r.2.mem ((c.tc : Thread Cert.SsumRefIdeal.nD Cert.SsumRefIdeal.τ).loc Cert.SsumRefIdeal.main_v0) = v0 c
          ∧ r.2.mem ((c.tc : Thread Cert.SsumRefIdeal.nD Cert.SsumRefIdeal.τ).loc Cert.SsumRefIdeal.main_arg0) = m' ((c.tc : Thread Cert.SsumRefIdeal.nD Cert.SsumRefIdeal.τ).loc Cert.SsumRefIdeal.main_arg0))

def preserves_Mixf_MixfIdeal : Prop :=
  True

def algebraic_MixfIdeal_MixfRefIdeal [hMixfIdeal : Cert.MixfIdeal.Facts] [hMixfRefIdeal : Cert.MixfRefIdeal.Facts] : Prop :=
  ∀ (m : (ℓ : Loc Cert.MixfIdeal.nD Cert.MixfIdeal.τ Cert.MixfIdeal.sig) → Buf (Elt Ideal) ℓ) (g : Dev Cert.MixfIdeal.nD → PrngReg)
    (m' : (ℓ : Loc Cert.MixfRefIdeal.nD Cert.MixfRefIdeal.τ Cert.MixfRefIdeal.sig) → Buf (Elt Ideal) ℓ) (g' : Dev Cert.MixfRefIdeal.nD → PrngReg), Pre_MixfIdeal m →
    (∀ c : Dev Cert.MixfIdeal.nD,
      m' ((c.tc : Thread Cert.MixfRefIdeal.nD Cert.MixfRefIdeal.τ).loc Cert.MixfRefIdeal.main_arg0) = m ((c.tc : Thread Cert.MixfIdeal.nD Cert.MixfIdeal.τ).loc Cert.MixfIdeal.main_arg0)
      ∧ m' ((c.tc : Thread Cert.MixfRefIdeal.nD Cert.MixfRefIdeal.τ).loc Cert.MixfRefIdeal.main_arg1) = m ((c.tc : Thread Cert.MixfIdeal.nD Cert.MixfIdeal.τ).loc Cert.MixfIdeal.main_arg1)
      ∧ m' ((c.tc : Thread Cert.MixfRefIdeal.nD Cert.MixfRefIdeal.τ).loc Cert.MixfRefIdeal.main_arg2) = m ((c.tc : Thread Cert.MixfIdeal.nD Cert.MixfIdeal.τ).loc Cert.MixfIdeal.main_arg2)
      ∧ m' ((c.tc : Thread Cert.MixfRefIdeal.nD Cert.MixfRefIdeal.τ).loc Cert.MixfRefIdeal.main_arg3) = m ((c.tc : Thread Cert.MixfIdeal.nD Cert.MixfIdeal.τ).loc Cert.MixfIdeal.main_arg3)
      ∧ m' ((c.tc : Thread Cert.MixfRefIdeal.nD Cert.MixfRefIdeal.τ).loc Cert.MixfRefIdeal.main_arg4) = m ((c.tc : Thread Cert.MixfIdeal.nD Cert.MixfIdeal.τ).loc Cert.MixfIdeal.main_arg4)
      ∧ m' ((c.tc : Thread Cert.MixfRefIdeal.nD Cert.MixfRefIdeal.τ).loc Cert.MixfRefIdeal.main_arg5) = m ((c.tc : Thread Cert.MixfIdeal.nD Cert.MixfIdeal.τ).loc Cert.MixfIdeal.main_arg5)) →
    ∃ (v0 : (c : Dev Cert.MixfIdeal.nD) → Buf (Elt Ideal) ((c.tc : Thread Cert.MixfIdeal.nD Cert.MixfIdeal.τ).loc Cert.MixfIdeal.main_v31_3)) (v1 : (c : Dev Cert.MixfIdeal.nD) → Buf (Elt Ideal) ((c.tc : Thread Cert.MixfIdeal.nD Cert.MixfIdeal.τ).loc Cert.MixfIdeal.main_v31_4)) (v2 : (c : Dev Cert.MixfIdeal.nD) → Buf (Elt Ideal) ((c.tc : Thread Cert.MixfIdeal.nD Cert.MixfIdeal.τ).loc Cert.MixfIdeal.main_v31_5)),
      θ_run (Cert.MixfIdeal.defs (F := Ideal)) (onTc (τ := Cert.MixfIdeal.τ) (Cert.MixfIdeal.main (F := Ideal))) ⟨m, fun _ => 0, g⟩ (fun r => ∀ c : Dev Cert.MixfIdeal.nD,
          r.2.mem ((c.tc : Thread Cert.MixfIdeal.nD Cert.MixfIdeal.τ).loc Cert.MixfIdeal.main_v31_3) = v0 c
          ∧ r.2.mem ((c.tc : Thread Cert.MixfIdeal.nD Cert.MixfIdeal.τ).loc Cert.MixfIdeal.main_v31_4) = v1 c
          ∧ r.2.mem ((c.tc : Thread Cert.MixfIdeal.nD Cert.MixfIdeal.τ).loc Cert.MixfIdeal.main_v31_5) = v2 c
          ∧ r.2.mem ((c.tc : Thread Cert.MixfIdeal.nD Cert.MixfIdeal.τ).loc Cert.MixfIdeal.main_arg0) = m ((c.tc : Thread Cert.MixfIdeal.nD Cert.MixfIdeal.τ).loc Cert.MixfIdeal.main_arg0)
          ∧ r.2.mem ((c.tc : Thread Cert.MixfIdeal.nD Cert.MixfIdeal.τ).loc Cert.MixfIdeal.main_arg1) = m ((c.tc : Thread Cert.MixfIdeal.nD Cert.MixfIdeal.τ).loc Cert.MixfIdeal.main_arg1)
          ∧ r.2.mem ((c.tc : Thread Cert.MixfIdeal.nD Cert.MixfIdeal.τ).loc Cert.MixfIdeal.main_arg2) = m ((c.tc : Thread Cert.MixfIdeal.nD Cert.MixfIdeal.τ).loc Cert.MixfIdeal.main_arg2)
          ∧ r.2.mem ((c.tc : Thread Cert.MixfIdeal.nD Cert.MixfIdeal.τ).loc Cert.MixfIdeal.main_arg3) = m ((c.tc : Thread Cert.MixfIdeal.nD Cert.MixfIdeal.τ).loc Cert.MixfIdeal.main_arg3)
          ∧ r.2.mem ((c.tc : Thread Cert.MixfIdeal.nD Cert.MixfIdeal.τ).loc Cert.MixfIdeal.main_arg4) = m ((c.tc : Thread Cert.MixfIdeal.nD Cert.MixfIdeal.τ).loc Cert.MixfIdeal.main_arg4)
          ∧ r.2.mem ((c.tc : Thread Cert.MixfIdeal.nD Cert.MixfIdeal.τ).loc Cert.MixfIdeal.main_arg5) = m ((c.tc : Thread Cert.MixfIdeal.nD Cert.MixfIdeal.τ).loc Cert.MixfIdeal.main_arg5))
      ∧ θ_run (Cert.MixfRefIdeal.defs (F := Ideal)) (onTc (τ := Cert.MixfRefIdeal.τ) (Cert.MixfRefIdeal.main (F := Ideal))) ⟨m', fun _ => 0, g'⟩ (fun r => ∀ c : Dev Cert.MixfRefIdeal.nD,
          r.2.mem ((c.tc : Thread Cert.MixfRefIdeal.nD Cert.MixfRefIdeal.τ).loc Cert.MixfRefIdeal.main_v37) = v0 c
          ∧ r.2.mem ((c.tc : Thread Cert.MixfRefIdeal.nD Cert.MixfRefIdeal.τ).loc Cert.MixfRefIdeal.main_v70) = v1 c
          ∧ r.2.mem ((c.tc : Thread Cert.MixfRefIdeal.nD Cert.MixfRefIdeal.τ).loc Cert.MixfRefIdeal.main_v71) = v2 c
          ∧ r.2.mem ((c.tc : Thread Cert.MixfRefIdeal.nD Cert.MixfRefIdeal.τ).loc Cert.MixfRefIdeal.main_arg0) = m' ((c.tc : Thread Cert.MixfRefIdeal.nD Cert.MixfRefIdeal.τ).loc Cert.MixfRefIdeal.main_arg0)
          ∧ r.2.mem ((c.tc : Thread Cert.MixfRefIdeal.nD Cert.MixfRefIdeal.τ).loc Cert.MixfRefIdeal.main_arg1) = m' ((c.tc : Thread Cert.MixfRefIdeal.nD Cert.MixfRefIdeal.τ).loc Cert.MixfRefIdeal.main_arg1)
          ∧ r.2.mem ((c.tc : Thread Cert.MixfRefIdeal.nD Cert.MixfRefIdeal.τ).loc Cert.MixfRefIdeal.main_arg2) = m' ((c.tc : Thread Cert.MixfRefIdeal.nD Cert.MixfRefIdeal.τ).loc Cert.MixfRefIdeal.main_arg2)
          ∧ r.2.mem ((c.tc : Thread Cert.MixfRefIdeal.nD Cert.MixfRefIdeal.τ).loc Cert.MixfRefIdeal.main_arg3) = m' ((c.tc : Thread Cert.MixfRefIdeal.nD Cert.MixfRefIdeal.τ).loc Cert.MixfRefIdeal.main_arg3)
          ∧ r.2.mem ((c.tc : Thread Cert.MixfRefIdeal.nD Cert.MixfRefIdeal.τ).loc Cert.MixfRefIdeal.main_arg4) = m' ((c.tc : Thread Cert.MixfRefIdeal.nD Cert.MixfRefIdeal.τ).loc Cert.MixfRefIdeal.main_arg4)
          ∧ r.2.mem ((c.tc : Thread Cert.MixfRefIdeal.nD Cert.MixfRefIdeal.τ).loc Cert.MixfRefIdeal.main_arg5) = m' ((c.tc : Thread Cert.MixfRefIdeal.nD Cert.MixfRefIdeal.τ).loc Cert.MixfRefIdeal.main_arg5))

def Claim : Prop :=
  ∃ (hFfn : Cert.Ffn.Facts) (hFfnIdeal : Cert.FfnIdeal.Facts) (hFfnRefIdeal : Cert.FfnRefIdeal.Facts) (hWdown : Cert.Wdown.Facts) (hWdownIdeal : Cert.WdownIdeal.Facts) (hWdownRefIdeal : Cert.WdownRefIdeal.Facts) (hWgu : Cert.Wgu.Facts) (hWguIdeal : Cert.WguIdeal.Facts) (hWguRefIdeal : Cert.WguRefIdeal.Facts) (hWout : Cert.Wout.Facts) (hWoutIdeal : Cert.WoutIdeal.Facts) (hWoutRefIdeal : Cert.WoutRefIdeal.Facts) (hWin : Cert.Win.Facts) (hWinIdeal : Cert.WinIdeal.Facts) (hWinRefIdeal : Cert.WinRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hDownx : Cert.Downx.Facts) (hDownxIdeal : Cert.DownxIdeal.Facts) (hDownxRefIdeal : Cert.DownxRefIdeal.Facts) (hDownl : Cert.Downl.Facts) (hDownlIdeal : Cert.DownlIdeal.Facts) (hDownlRefIdeal : Cert.DownlRefIdeal.Facts) (hProj : Cert.Proj.Facts) (hProjIdeal : Cert.ProjIdeal.Facts) (hProjRefIdeal : Cert.ProjRefIdeal.Facts) (hOutln : Cert.Outln.Facts) (hOutlnIdeal : Cert.OutlnIdeal.Facts) (hOutlnRefIdeal : Cert.OutlnRefIdeal.Facts) (hDxin : Cert.Dxin.Facts) (hDxinIdeal : Cert.DxinIdeal.Facts) (hDxinRefIdeal : Cert.DxinRefIdeal.Facts) (hDxgu : Cert.Dxgu.Facts) (hDxguIdeal : Cert.DxguIdeal.Facts) (hDxguRefIdeal : Cert.DxguRefIdeal.Facts) (hOutb : Cert.Outb.Facts) (hOutbIdeal : Cert.OutbIdeal.Facts) (hOutbRefIdeal : Cert.OutbRefIdeal.Facts) (hFfb : Cert.Ffb.Facts) (hFfbIdeal : Cert.FfbIdeal.Facts) (hFfbRefIdeal : Cert.FfbRefIdeal.Facts) (hAttf : Cert.Attf.Facts) (hAttfIdeal : Cert.AttfIdeal.Facts) (hAttfRefIdeal : Cert.AttfRefIdeal.Facts) (hSada : Cert.Sada.Facts) (hSadaIdeal : Cert.SadaIdeal.Facts) (hSadaRefIdeal : Cert.SadaRefIdeal.Facts) (hSadb : Cert.Sadb.Facts) (hSadbIdeal : Cert.SadbIdeal.Facts) (hSadbRefIdeal : Cert.SadbRefIdeal.Facts) (hSadc : Cert.Sadc.Facts) (hSadcIdeal : Cert.SadcIdeal.Facts) (hSadcRefIdeal : Cert.SadcRefIdeal.Facts) (hSadd : Cert.Sadd.Facts) (hSaddIdeal : Cert.SaddIdeal.Facts) (hSaddRefIdeal : Cert.SaddRefIdeal.Facts) (hSsum : Cert.Ssum.Facts) (hSsumIdeal : Cert.SsumIdeal.Facts) (hSsumRefIdeal : Cert.SsumRefIdeal.Facts) (hMixf : Cert.Mixf.Facts) (hMixfIdeal : Cert.MixfIdeal.Facts) (hMixfRefIdeal : Cert.MixfRefIdeal.Facts) (hPre_ffn_finite : Cert.Pre_ffn_finite.Facts) (hPre_outb_finite : Cert.Pre_outb_finite.Facts) (hPre_ffb_finite : Cert.Pre_ffb_finite.Facts) (hPre_att_finite : Cert.Pre_att_finite.Facts),
    quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Wdown (hWdown := hWdown)
    ∧ quiescent_WdownIdeal (hWdownIdeal := hWdownIdeal)
    ∧ quiescent_WdownRefIdeal (hWdownRefIdeal := hWdownRefIdeal)
    ∧ quiescent_Wgu (hWgu := hWgu)
    ∧ quiescent_WguIdeal (hWguIdeal := hWguIdeal)
    ∧ quiescent_WguRefIdeal (hWguRefIdeal := hWguRefIdeal)
    ∧ quiescent_Wout (hWout := hWout)
    ∧ quiescent_WoutIdeal (hWoutIdeal := hWoutIdeal)
    ∧ quiescent_WoutRefIdeal (hWoutRefIdeal := hWoutRefIdeal)
    ∧ quiescent_Win (hWin := hWin)
    ∧ quiescent_WinIdeal (hWinIdeal := hWinIdeal)
    ∧ quiescent_WinRefIdeal (hWinRefIdeal := hWinRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Downx (hDownx := hDownx)
    ∧ quiescent_DownxIdeal (hDownxIdeal := hDownxIdeal)
    ∧ quiescent_DownxRefIdeal (hDownxRefIdeal := hDownxRefIdeal)
    ∧ quiescent_Downl (hDownl := hDownl)
    ∧ quiescent_DownlIdeal (hDownlIdeal := hDownlIdeal)
    ∧ quiescent_DownlRefIdeal (hDownlRefIdeal := hDownlRefIdeal)
    ∧ quiescent_Proj (hProj := hProj)
    ∧ quiescent_ProjIdeal (hProjIdeal := hProjIdeal)
    ∧ quiescent_ProjRefIdeal (hProjRefIdeal := hProjRefIdeal)
    ∧ quiescent_Outln (hOutln := hOutln)
    ∧ quiescent_OutlnIdeal (hOutlnIdeal := hOutlnIdeal)
    ∧ quiescent_OutlnRefIdeal (hOutlnRefIdeal := hOutlnRefIdeal)
    ∧ quiescent_Dxin (hDxin := hDxin)
    ∧ quiescent_DxinIdeal (hDxinIdeal := hDxinIdeal)
    ∧ quiescent_DxinRefIdeal (hDxinRefIdeal := hDxinRefIdeal)
    ∧ quiescent_Dxgu (hDxgu := hDxgu)
    ∧ quiescent_DxguIdeal (hDxguIdeal := hDxguIdeal)
    ∧ quiescent_DxguRefIdeal (hDxguRefIdeal := hDxguRefIdeal)
    ∧ quiescent_Outb (hOutb := hOutb)
    ∧ quiescent_OutbIdeal (hOutbIdeal := hOutbIdeal)
    ∧ quiescent_OutbIdeal_pre_outb_finite (hOutbIdeal := hOutbIdeal) (hPre_outb_finite := hPre_outb_finite)
    ∧ quiescent_OutbRefIdeal (hOutbRefIdeal := hOutbRefIdeal)
    ∧ quiescent_OutbRefIdeal_pre_outb_finite (hOutbRefIdeal := hOutbRefIdeal) (hPre_outb_finite := hPre_outb_finite)
    ∧ quiescent_Ffb (hFfb := hFfb)
    ∧ quiescent_FfbIdeal (hFfbIdeal := hFfbIdeal)
    ∧ quiescent_FfbIdeal_pre_ffb_finite (hFfbIdeal := hFfbIdeal) (hPre_ffb_finite := hPre_ffb_finite)
    ∧ quiescent_FfbRefIdeal (hFfbRefIdeal := hFfbRefIdeal)
    ∧ quiescent_FfbRefIdeal_pre_ffb_finite (hFfbRefIdeal := hFfbRefIdeal) (hPre_ffb_finite := hPre_ffb_finite)
    ∧ quiescent_Attf (hAttf := hAttf)
    ∧ quiescent_AttfIdeal (hAttfIdeal := hAttfIdeal)
    ∧ quiescent_AttfIdeal_pre_att_finite (hAttfIdeal := hAttfIdeal) (hPre_att_finite := hPre_att_finite)
    ∧ quiescent_AttfRefIdeal (hAttfRefIdeal := hAttfRefIdeal)
    ∧ quiescent_AttfRefIdeal_pre_att_finite (hAttfRefIdeal := hAttfRefIdeal) (hPre_att_finite := hPre_att_finite)
    ∧ quiescent_Sada (hSada := hSada)
    ∧ quiescent_SadaIdeal (hSadaIdeal := hSadaIdeal)
    ∧ quiescent_SadaRefIdeal (hSadaRefIdeal := hSadaRefIdeal)
    ∧ quiescent_Sadb (hSadb := hSadb)
    ∧ quiescent_SadbIdeal (hSadbIdeal := hSadbIdeal)
    ∧ quiescent_SadbRefIdeal (hSadbRefIdeal := hSadbRefIdeal)
    ∧ quiescent_Sadc (hSadc := hSadc)
    ∧ quiescent_SadcIdeal (hSadcIdeal := hSadcIdeal)
    ∧ quiescent_SadcRefIdeal (hSadcRefIdeal := hSadcRefIdeal)
    ∧ quiescent_Sadd (hSadd := hSadd)
    ∧ quiescent_SaddIdeal (hSaddIdeal := hSaddIdeal)
    ∧ quiescent_SaddRefIdeal (hSaddRefIdeal := hSaddRefIdeal)
    ∧ quiescent_Ssum (hSsum := hSsum)
    ∧ quiescent_SsumIdeal (hSsumIdeal := hSsumIdeal)
    ∧ quiescent_SsumRefIdeal (hSsumRefIdeal := hSsumRefIdeal)
    ∧ quiescent_Mixf (hMixf := hMixf)
    ∧ quiescent_MixfIdeal (hMixfIdeal := hMixfIdeal)
    ∧ quiescent_MixfRefIdeal (hMixfRefIdeal := hMixfRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Wdown_WdownIdeal
    ∧ algebraic_WdownIdeal_WdownRefIdeal (hWdownIdeal := hWdownIdeal) (hWdownRefIdeal := hWdownRefIdeal)
    ∧ preserves_Wgu_WguIdeal
    ∧ algebraic_WguIdeal_WguRefIdeal (hWguIdeal := hWguIdeal) (hWguRefIdeal := hWguRefIdeal)
    ∧ preserves_Wout_WoutIdeal
    ∧ algebraic_WoutIdeal_WoutRefIdeal (hWoutIdeal := hWoutIdeal) (hWoutRefIdeal := hWoutRefIdeal)
    ∧ preserves_Win_WinIdeal
    ∧ algebraic_WinIdeal_WinRefIdeal (hWinIdeal := hWinIdeal) (hWinRefIdeal := hWinRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Downx_DownxIdeal
    ∧ algebraic_DownxIdeal_DownxRefIdeal (hDownxIdeal := hDownxIdeal) (hDownxRefIdeal := hDownxRefIdeal)
    ∧ preserves_Downl_DownlIdeal
    ∧ algebraic_DownlIdeal_DownlRefIdeal (hDownlIdeal := hDownlIdeal) (hDownlRefIdeal := hDownlRefIdeal)
    ∧ preserves_Proj_ProjIdeal
    ∧ algebraic_ProjIdeal_ProjRefIdeal (hProjIdeal := hProjIdeal) (hProjRefIdeal := hProjRefIdeal)
    ∧ preserves_Outln_OutlnIdeal
    ∧ algebraic_OutlnIdeal_OutlnRefIdeal (hOutlnIdeal := hOutlnIdeal) (hOutlnRefIdeal := hOutlnRefIdeal)
    ∧ preserves_Dxin_DxinIdeal
    ∧ algebraic_DxinIdeal_DxinRefIdeal (hDxinIdeal := hDxinIdeal) (hDxinRefIdeal := hDxinRefIdeal)
    ∧ preserves_Dxgu_DxguIdeal
    ∧ algebraic_DxguIdeal_DxguRefIdeal (hDxguIdeal := hDxguIdeal) (hDxguRefIdeal := hDxguRefIdeal)
    ∧ preserves_Outb_OutbIdeal
    ∧ algebraic_OutbIdeal_OutbRefIdeal_pre_outb_finite (hOutbIdeal := hOutbIdeal) (hOutbRefIdeal := hOutbRefIdeal) (hPre_outb_finite := hPre_outb_finite)
    ∧ preserves_Ffb_FfbIdeal
    ∧ algebraic_FfbIdeal_FfbRefIdeal_pre_ffb_finite (hFfbIdeal := hFfbIdeal) (hFfbRefIdeal := hFfbRefIdeal) (hPre_ffb_finite := hPre_ffb_finite)
    ∧ preserves_Attf_AttfIdeal
    ∧ algebraic_AttfIdeal_AttfRefIdeal_pre_att_finite (hAttfIdeal := hAttfIdeal) (hAttfRefIdeal := hAttfRefIdeal) (hPre_att_finite := hPre_att_finite)
    ∧ preserves_Sada_SadaIdeal
    ∧ algebraic_SadaIdeal_SadaRefIdeal (hSadaIdeal := hSadaIdeal) (hSadaRefIdeal := hSadaRefIdeal)
    ∧ preserves_Sadb_SadbIdeal
    ∧ algebraic_SadbIdeal_SadbRefIdeal (hSadbIdeal := hSadbIdeal) (hSadbRefIdeal := hSadbRefIdeal)
    ∧ preserves_Sadc_SadcIdeal
    ∧ algebraic_SadcIdeal_SadcRefIdeal (hSadcIdeal := hSadcIdeal) (hSadcRefIdeal := hSadcRefIdeal)
    ∧ preserves_Sadd_SaddIdeal
    ∧ algebraic_SaddIdeal_SaddRefIdeal (hSaddIdeal := hSaddIdeal) (hSaddRefIdeal := hSaddRefIdeal)
    ∧ preserves_Ssum_SsumIdeal
    ∧ algebraic_SsumIdeal_SsumRefIdeal (hSsumIdeal := hSsumIdeal) (hSsumRefIdeal := hSsumRefIdeal)
    ∧ preserves_Mixf_MixfIdeal
    ∧ algebraic_MixfIdeal_MixfRefIdeal (hMixfIdeal := hMixfIdeal) (hMixfRefIdeal := hMixfRefIdeal)
-- ==== Pre_att_finite.lean ====
abbrev S8192x512 : Shape := ⟨2, ![8192, 512]⟩
abbrev S8192x128 : Shape := ⟨2, ![8192, 128]⟩
abbrev S8 : Shape := ⟨1, ![8]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S8192x512 .f32) (main_arg1 : FVec F S8192x128 .f32) (main_arg2 : FVec F S8192x128 .f32) (main_arg3 : FVec F S8 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Pre_ffb_finite.lean ====
abbrev S8192x1024 : Shape := ⟨2, ![8192, 1024]⟩
abbrev S1024 : Shape := ⟨1, ![1024]⟩
abbrev S2816x1024 : Shape := ⟨2, ![2816, 1024]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2816x1024 : S_.BroadcastsInDim S2816x1024 (![] : Fin 0 → Fin S2816x1024.rank)
  reducesTo_S2816x1024_S_d0_1 : S2816x1024.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn_part1 {F : FTy → Type} [FloatOps F] (main_arg5 : FVec F S8192x5632 .bf16) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S8192x5632 .bf16 := Host.absf main_arg5
  let main_cst_6 : FVec F S_ .bf16 := constant S_ .bf16 0x7F80#16
  let main_v20 : FVec F S8192x5632 .bf16 := broadcastInDim S8192x5632 ![] bcast_S_S8192x5632 main_cst_6
  let main_v21 : IVec S8192x5632 1 := cmpf .olt main_v19 main_v20
  let main_c_7 : IVec S_ 1 := constantI S_ 1 1#1
  let main_v22 : IVec S_ 1 := (fun x v => Host.reduce IntOp.andi x v reducesTo_S8192x5632_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S1024 .f32) (main_arg3 : FVec F S1024 .f32) (main_arg4 : FVec F S2816x1024 .f32) (main_arg5 : FVec F S8192x5632 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S2816x1024 .f32 := Host.absf main_arg4
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg5 main_v13 main_v16
-- ==== Pre_ffn_finite.lean ====
abbrev S8192x1024 : Shape := ⟨2, ![8192, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S8192x1024 .f32 := Host.absf main_arg5
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S1024x5632 .f32) (main_arg2 : FVec F S2816x1024 .f32) (main_arg3 : FVec F S1024 .f32) (main_arg4 : FVec F S1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_v13 main_v16
-- ==== Pre_outb_finite.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S8192x1024 .f32) (main_arg2 : FVec F S1024 .f32) (main_arg3 : FVec F S1024 .f32) (main_arg4 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Ffn.lean ====
abbrev S8192x1024 : Shape := ⟨2, ![8192, 1024]⟩
abbrev S1024x5632 : Shape := ⟨2, ![1024, 5632]⟩
abbrev S2816x1024 : Shape := ⟨2, ![2816, 1024]⟩
abbrev S1024 : Shape := ⟨1, ![1024]⟩
abbrev S5632x1024 : Shape := ⟨2, ![5632, 1024]⟩
abbrev S8192x5632 : Shape := ⟨2, ![8192, 5632]⟩
abbrev S8192x2816 : Shape := ⟨2, ![8192, 2816]⟩
abbrev S_ : Shape := ⟨0, ![]⟩
abbrev S1x1024 : Shape := ⟨2, ![1, 1024]⟩
abbrev S256x1024 : Shape := ⟨2, ![256, 1024]⟩
abbrev S256x5632 : Shape := ⟨2, ![256, 5632]⟩
abbrev S256x256 : Shape := ⟨2, ![256, 256]⟩
abbrev S5632x256 : Shape := ⟨2, ![5632, 256]⟩
abbrev S256 : Shape := ⟨1, ![256]⟩
abbrev S256x1 : Shape := ⟨2, ![256, 1]⟩
abbrev S768x1024 : Shape := ⟨2, ![768, 1024]⟩
abbrev S256x768 : Shape := ⟨2, ![256, 768]⟩
abbrev S640x1024 : Shape := ⟨2, ![640, 1024]⟩
abbrev S256x640 : Shape := ⟨2, ![256, 640]⟩

abbrev nBuf : Space → Nat
  | .hbm => 37
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S5632x1024, .f32⟩
  | .hbm, ⟨7, _⟩ => ⟨S5632x1024, .bf16⟩
  | .hbm, ⟨8, _⟩ => ⟨S2816x1024, .bf16⟩
  | .hbm, ⟨9, _⟩ => ⟨S8192x5632, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x5632, .bf16⟩
  | .hbm, ⟨32, _⟩ => ⟨S8192x1024, .f32⟩
  | .hbm, ⟨33, _⟩ => ⟨S8192x1024, .bf16⟩
  | .hbm, ⟨34, _⟩ => ⟨S8192x5632, .bf16⟩
  | .hbm, ⟨35, _⟩ => ⟨S1x1024, .f32⟩
  | .hbm, ⟨36, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S2816x1024, .bf16⟩
  | .local _ .vmem, ⟨6, _⟩ => ⟨S256x5632, .bf16⟩
  | .local _ .vmem, ⟨7, _⟩ => ⟨S256x5632, .bf16⟩
  | .local _ .vmem, ⟨8, _⟩ => ⟨S5632x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x5632, .bf16⟩
  | .local _ .vmem, ⟨14, _⟩ => ⟨S256x5632, .bf16⟩
  | .local _ .vmem, ⟨15, _⟩ => ⟨S1x1024, .f32⟩
  | .local _ .vmem, ⟨16, _⟩ => ⟨S1x1024, .f32⟩
  | .local _ .vmem, ⟨17, _⟩ => ⟨S256x5632, .bf16⟩
  | .local _ .vmem, ⟨18, _⟩ => ⟨S256x5632, .bf16⟩
  | .local _ .vmem, ⟨19, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev main_v16_3 : Ref sig .tc := ⟨.hbm, 35, rfl⟩
abbrev main_v16_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnRefIdeal.lean ====
abbrev S8192x1024 : Shape := ⟨2, ![8192, 1024]⟩
abbrev S1024x5632 : Shape := ⟨2, ![1024, 5632]⟩
abbrev S2816x1024 : Shape := ⟨2, ![2816, 1024]⟩
abbrev S1024 : Shape := ⟨1, ![1024]⟩
abbrev S8192x5632 : Shape := ⟨2, ![8192, 5632]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 132
  | .vmem => 0
  | .smem => 0
  | _ => 0

abbrev hbmTy0_0 (i : Nat) : BufTy := match i % 128 with
  | 0 => ⟨S8192x1024, .f32⟩
  | 1 => ⟨S1024x5632, .f32⟩
  | 2 => ⟨S2816x1024, .f32⟩
  | 3 => ⟨S1024, .f32⟩
  | 4 => ⟨S1024, .f32⟩
  | 5 => ⟨S8192x1024, .f32⟩
  | 6 => ⟨S8192x5632, .f32⟩
  | 7 => ⟨S8192x2816, .f32⟩
  | 8 => ⟨S8192x2816, .f32⟩
  | 9 => ⟨S8192x2816, .f32⟩
  | 10 => ⟨S8192x2816, .f32⟩
  | 11 => ⟨S_, .f32⟩
  | 12 => ⟨S8192x2816, .f32⟩
  | 13 => ⟨S8192x2816, .f32⟩
  | 14 => ⟨S_, .f32⟩
  | 15 => ⟨S8192x2816, .f32⟩
  | 16 => ⟨S8192x2816, .f32⟩
  | 17 => ⟨S_, .f32⟩
  | 18 => ⟨S8192x2816, .f32⟩
  | 19 => ⟨S8192x2816, .f32⟩
  | 20 => ⟨S8192x2816, .f32⟩
  | 21 => ⟨S8192x2816, .f32⟩
  | 22 => ⟨S8192x2816, .f32⟩
  | 23 => ⟨S8192x1024, .f32⟩
  | 24 => ⟨S_, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S8192x1024, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S8192x1024, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S8192x1024, .f32⟩
  | 50 => ⟨S8192x1024, .f32⟩
  | 51 => ⟨S_, .f32⟩
  | 52 => ⟨S8192x1, .f32⟩
  | 53 => ⟨S8192x1, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x1024, .f32⟩
  | 60 => ⟨S8192x1024, .f32⟩
  | 61 => ⟨S1x1024, .f32⟩
  | 62 => ⟨S8192x1024, .f32⟩
  | 63 => ⟨S8192x1024, .f32⟩
  | 64 => ⟨S1x1024, .f32⟩
  | 65 => ⟨S8192x1024, .f32⟩
  | 66 => ⟨S8192x1024, .f32⟩
  | 67 => ⟨S8192x1024, .f32⟩
  | 68 => ⟨S_, .f32⟩
  | 69 => ⟨S1024, .f32⟩
  | 70 => ⟨S1x1024, .f32⟩
  | 71 => ⟨S_, .f32⟩
  | 72 => ⟨S1024, .f32⟩
  | 73 => ⟨S8192x1024, .f32⟩
  | 74 => ⟨S_, .f32⟩
  | 75 => ⟨S1024, .f32⟩
  | 76 => ⟨S1x1024, .f32⟩
  | 77 => ⟨S8192x1024, .f32⟩
  | 78 => ⟨S8192x1024, .f32⟩
  | 79 => ⟨S_, .f32⟩
  | 80 => ⟨S1024, .f32⟩
  | 81 => ⟨S8192x1024, .f32⟩
  | 82 => ⟨S_, .f32⟩
  | 83 => ⟨S8192, .f32⟩
  | 84 => ⟨S8192x1, .f32⟩
  | 85 => ⟨S8192x1024, .f32⟩
  | 86 => ⟨S8192x1024, .f32⟩
  | 87 => ⟨S8192x1, .f32⟩
  | 88 => ⟨S8192x1024, .f32⟩
  | 89 => ⟨S_, .f32⟩
  | 90 => ⟨S8192, .f32⟩
  | 91 => ⟨S8192x1, .f32⟩
  | 92 => ⟨S_, .f32⟩
  | 93 => ⟨S8192x1, .f32⟩
  | 94 => ⟨S8192x1, .f32⟩
  | 95 => ⟨S_, .f32⟩
  | 96 => ⟨S8192, .f32⟩
  | 97 => ⟨S8192x1024, .f32⟩
  | 98 => ⟨S8192x1024, .f32⟩
  | 99 => ⟨S8192x1024, .f32⟩
  | 100 => ⟨S_, .f32⟩
  | 101 => ⟨S8192, .f32⟩
  | 102 => ⟨S8192x1, .f32⟩
  | 103 => ⟨S8192x1024, .f32⟩
  | 104 => ⟨S8192x1, .f32⟩
  | 105 => ⟨S_, .f32⟩
  | 106 => ⟨S8192x1, .f32⟩
  | 107 => ⟨S8192x1, .f32⟩
  | 108 => ⟨S_, .f32⟩
  | 109 => ⟨S8192, .f32⟩
  | 110 => ⟨S8192x1024, .f32⟩
  | 111 => ⟨S8192x1024, .f32⟩
  | 112 => ⟨S_, .f32⟩
  | 113 => ⟨S8192x1024, .f32⟩
  | 114 => ⟨S8192x1024, .f32⟩
  | 115 => ⟨S_, .f32⟩
  | 116 => ⟨S8192x1024, .f32⟩
  | 117 => ⟨S8192x1024, .f32⟩
  | 118 => ⟨S8192x2816, .f32⟩
  | 119 => ⟨S8192x2816, .f32⟩
  | 120 => ⟨S8192x2816, .f32⟩
  | 121 => ⟨S8192x2816, .f32⟩
  | 122 => ⟨S8192x2816, .f32⟩
  | 123 => ⟨S8192x2816, .f32⟩
  | 124 => ⟨S8192x2816, .f32⟩
  | 125 => ⟨S8192x5632, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .bf16⟩
  | 1 => ⟨S8192x5632, .bf16⟩
  | 2 => ⟨S1x1024, .f32⟩
  | 3 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v3_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v3_1 : Ref sig .tc := ⟨.hbm, 20, rfl⟩
abbrev main_v3_0 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_7 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_11 : Ref sig .tc := ⟨.hbm, 79, rfl⟩
abbrev main_v49 : Ref sig .tc := ⟨.hbm, 80, rfl⟩
abbrev main_v50 : Ref sig .tc := ⟨.hbm, 81, rfl⟩
abbrev main_cst_12 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_13 : Ref sig .tc := ⟨.hbm, 89, rfl⟩
abbrev main_v57 : Ref sig .tc := ⟨.hbm, 90, rfl⟩
abbrev main_v58 : Ref sig .tc := ⟨.hbm, 91, rfl⟩
abbrev main_cst_14 : Ref sig .tc := ⟨.hbm, 92, rfl⟩
abbrev main_v59 : Ref sig .tc := ⟨.hbm, 93, rfl⟩
abbrev main_v60 : Ref sig .tc := ⟨.hbm, 94, rfl⟩
abbrev main_cst_15 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_16 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_17 : Ref sig .tc := ⟨.hbm, 105, rfl⟩
abbrev main_v69 : Ref sig .tc := ⟨.hbm, 106, rfl⟩
abbrev main_v70 : Ref sig .tc := ⟨.hbm, 107, rfl⟩
abbrev main_cst_18 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_19 : Ref sig .tc := ⟨.hbm, 112, rfl⟩
abbrev main_v74 : Ref sig .tc := ⟨.hbm, 113, rfl⟩
abbrev main_v75 : Ref sig .tc := ⟨.hbm, 114, rfl⟩
abbrev main_cst_20 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩

abbrev nD : Nat := 1
abbrev τ : Topo := Topo.v7x

variable {F : FTy → Type} [FloatOps F]
-- ==== Wdown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WdownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Wgu.lean ====
abbrev S8192x1024 : Shape := ⟨2, ![8192, 1024]⟩
abbrev S8192x5632 : Shape := ⟨2, ![8192, 5632]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WguRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Wout.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WoutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Win.lean ====
abbrev S8192x1024 : Shape := ⟨2, ![8192, 1024]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WinRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Up.lean ====
abbrev S8192x1024 : Shape := ⟨2, ![8192, 1024]⟩
abbrev S1024x5632 : Shape := ⟨2, ![1024, 5632]⟩
abbrev S5632x1024 : Shape := ⟨2, ![5632, 1024]⟩
abbrev S8192x5632 : Shape := ⟨2, ![8192, 5632]⟩
abbrev S8192x2816 : Shape := ⟨2, ![8192, 2816]⟩
abbrev S512x1024 : Shape := ⟨2, ![512, 1024]⟩
abbrev S512x5632 : Shape := ⟨2, ![512, 5632]⟩
abbrev S512x2816 : Shape := ⟨2, ![512, 2816]⟩
abbrev S1408x1024 : Shape := ⟨2, ![1408, 1024]⟩
abbrev S512x1408 : Shape := ⟨2, ![512, 1408]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S5632x1024, .f32⟩
  | .hbm, ⟨3, _⟩ => ⟨S5632x1024, .bf16⟩
  | .hbm, ⟨4, _⟩ => ⟨S8192x5632, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S5632x1024, .bf16⟩
  | .local _ .vmem, ⟨3, _⟩ => ⟨S512x5632, .bf16⟩
  | .local _ .vmem, ⟨4, _⟩ => ⟨S512x5632, .bf16⟩
  | .local _ .vmem, ⟨5, _⟩ => ⟨S512x2816, .bf16⟩
  | .local _ .vmem, ⟨6, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== UpRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S8192x1024, .f32⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S8192x5632, .bf16⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S1024x2816 : Shape := ⟨2, ![1024, 2816]⟩
abbrev S1024x1024 : Shape := ⟨2, ![1024, 1024]⟩
abbrev S1024x1 : Shape := ⟨2, ![1024, 1]⟩

abbrev nBuf : Space → Nat
  | .hbm => 14
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x2816, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Downx.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S1024x2816 : Shape := ⟨2, ![1024, 2816]⟩
abbrev S1024x1024 : Shape := ⟨2, ![1024, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownxRefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x2816, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Downl.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S1024x2816 : Shape := ⟨2, ![1024, 2816]⟩
abbrev S1024x1024 : Shape := ⟨2, ![1024, 1024]⟩
abbrev S1024x1 : Shape := ⟨2, ![1024, 1]⟩

abbrev nBuf : Space → Nat
  | .hbm => 16
  | .vmem => 16
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S8192x1024, .f32⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S1x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== DownlRefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x2816, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S8192, .f32⟩
  | .hbm, ⟨93, _⟩ => ⟨S_, .f32⟩
  | .hbm, ⟨94, _⟩ => ⟨S8192, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S1024, .f32⟩
  | .hbm, ⟨102, _⟩ => ⟨S1x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_cst_13 : Ref sig .tc := ⟨.hbm, 82, rfl⟩
abbrev main_v60 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_cst_15 : Ref sig .tc := ⟨.hbm, 87, rfl⟩
abbrev main_v63 : Ref sig .tc := ⟨.hbm, 88, rfl⟩
abbrev main_cst_16 : Ref sig .tc := ⟨.hbm, 89, rfl⟩
abbrev main_cst_17 : Ref sig .tc := ⟨.hbm, 90, rfl⟩
abbrev main_v64 : Ref sig .tc := ⟨.hbm, 91, rfl⟩
abbrev main_v65 : Ref sig .tc := ⟨.hbm, 92, rfl⟩
abbrev main_cst_18 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_19 : Ref sig .tc := ⟨.hbm, 100, rfl⟩
abbrev main_v72 : Ref sig .tc := ⟨.hbm, 101, rfl⟩
abbrev main_v73 : Ref sig .tc := ⟨.hbm, 102, rfl⟩

abbrev nD : Nat := 1
abbrev τ : Topo := Topo.v7x

variable {F : FTy → Type} [FloatOps F]
-- ==== Proj.lean ====
abbrev S8192x1024 : Shape := ⟨2, ![8192, 1024]⟩
abbrev S1024x2048 : Shape := ⟨2, ![1024, 2048]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S2048x1024, .f32⟩
  | .hbm, ⟨3, _⟩ => ⟨S2048x1024, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S8192x1024, .f32⟩
  | .hbm, ⟨3, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Outln.lean ====
abbrev S8192x256 : Shape := ⟨2, ![8192, 256]⟩
abbrev S8192x512 : Shape := ⟨2, ![8192, 512]⟩
abbrev S1024x1024 : Shape := ⟨2, ![1024, 1024]⟩
abbrev S8192x1024 : Shape := ⟨2, ![8192, 1024]⟩
abbrev S1024 : Shape := ⟨1, ![1024]⟩
abbrev S1x1024 : Shape := ⟨2, ![1, 1024]⟩
abbrev S1024x256 : Shape := ⟨2, ![1024, 256]⟩
abbrev S1024x512 : Shape := ⟨2, ![1024, 512]⟩
abbrev S1024x1 : Shape := ⟨2, ![1024, 1]⟩

abbrev nBuf : Space → Nat
  | .hbm => 17
  | .vmem => 19
  | .smem => 0
  | _ => 0

abbrev bufTy : (tb : Table) → Fin (tcTables nBuf tb) → BufTy
  | .hbm, ⟨0, _⟩ => ⟨S8192x256, .bf16⟩
  | .hbm, ⟨1, _⟩ => ⟨S8192x512, .bf16⟩
  | .hbm, ⟨2, _⟩ => ⟨S8192x256, .bf16⟩
  | .hbm, ⟨3, _⟩ => ⟨S1024x1024, .f32⟩
  | .hbm, ⟨4, _⟩ => ⟨S8192x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8192x1024, .bf16⟩
  | .hbm, ⟨15, _⟩ => ⟨S8192x1024, .f32⟩
  | .hbm, ⟨16, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutlnRefIdeal.lean ====
abbrev S8192x256 : Shape := ⟨2, ![8192, 256]⟩
abbrev S8192x512 : Shape := ⟨2, ![8192, 512]⟩
abbrev S1024x1024 : Shape := ⟨2, ![1024, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x512, .bf16⟩
  | .hbm, ⟨2, _⟩ => ⟨S8192x256, .bf16⟩
  | .hbm, ⟨3, _⟩ => ⟨S1024x1024, .f32⟩
  | .hbm, ⟨4, _⟩ => ⟨S8192x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S8192x256, .f32⟩
  | .hbm, ⟨10, _⟩ => ⟨S8192x512, .f32⟩
  | .hbm, ⟨11, _⟩ => ⟨S8192x256, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S1x1024, .f32⟩
  | .hbm, ⟨75, _⟩ => ⟨S8192x1024, .f32⟩
  | .hbm, ⟨76, _⟩ => ⟨S8192x1024, .f32⟩
  | .hbm, ⟨77, _⟩ => ⟨S8192x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Dxin.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S1024x2048, .f32⟩
  | .hbm, ⟨3, _⟩ => ⟨S2048x1024, .f32⟩
  | .hbm, ⟨4, _⟩ => ⟨S2048x1024, .bf16⟩
  | .hbm, ⟨5, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DxinIdeal.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S1024x2048, .f32⟩
  | .hbm, ⟨3, _⟩ => ⟨S2048x1024, .f32⟩
  | .hbm, ⟨4, _⟩ => ⟨S2048x1024, .bf16⟩
  | .hbm, ⟨5, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DxinRefIdeal.lean ====
abbrev S8192x1024 : Shape := ⟨2, ![8192, 1024]⟩
abbrev S8192x2048 : Shape := ⟨2, ![8192, 2048]⟩
abbrev S1024x2048 : Shape := ⟨2, ![1024, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S1024x2048, .f32⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S8192x2048, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Dxgu.lean ====
abbrev S8192x1024 : Shape := ⟨2, ![8192, 1024]⟩
abbrev S8192x5632 : Shape := ⟨2, ![8192, 5632]⟩
abbrev S1024x5632 : Shape := ⟨2, ![1024, 5632]⟩
abbrev S5632x1024 : Shape := ⟨2, ![5632, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S1024x5632, .f32⟩
  | .hbm, ⟨3, _⟩ => ⟨S5632x1024, .f32⟩
  | .hbm, ⟨4, _⟩ => ⟨S5632x1024, .bf16⟩
  | .hbm, ⟨5, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x5632, .bf16⟩
  | .local _ .vmem, ⟨3, _⟩ => ⟨S1024x5632, .bf16⟩
  | .local _ .vmem, ⟨4, _⟩ => ⟨S5632x1024, .bf16⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DxguRefIdeal.lean ====
abbrev S8192x1024 : Shape := ⟨2, ![8192, 1024]⟩
abbrev S8192x5632 : Shape := ⟨2, ![8192, 5632]⟩
abbrev S1024x5632 : Shape := ⟨2, ![1024, 5632]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S1024x5632, .f32⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x5632, .f32⟩
  | .hbm, ⟨9, _⟩ => ⟨S8192x5632, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Outb.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S8192x256 : Shape := ⟨2, ![8192, 256]⟩
abbrev S8192x512 : Shape := ⟨2, ![8192, 512]⟩
abbrev S1024x256 : Shape := ⟨2, ![1024, 256]⟩
abbrev S1024x512 : Shape := ⟨2, ![1024, 512]⟩
abbrev S1024x1 : Shape := ⟨2, ![1024, 1]⟩

abbrev nBuf : Space → Nat
  | .hbm => 14
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1x1024, .f32⟩
  | .hbm, ⟨6, _⟩ => ⟨S1024x1024, .bf16⟩
  | .hbm, ⟨7, _⟩ => ⟨S8192x1024, .f32⟩
  | .hbm, ⟨8, _⟩ => ⟨S8192x1024, .bf16⟩
  | .hbm, ⟨9, _⟩ => ⟨S8192x256, .f32⟩
  | .hbm, ⟨10, _⟩ => ⟨S8192x512, .f32⟩
  | .hbm, ⟨11, _⟩ => ⟨S8192x256, .f32⟩
  | .hbm, ⟨12, _⟩ => ⟨S1x1024, .f32⟩
  | .hbm, ⟨13, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x256, .f32⟩
  | .local _ .vmem, ⟨11, _⟩ => ⟨S1024x256, .f32⟩
  | .local _ .vmem, ⟨12, _⟩ => ⟨S1024x512, .f32⟩
  | .local _ .vmem, ⟨13, _⟩ => ⟨S1024x512, .f32⟩
  | .local _ .vmem, ⟨14, _⟩ => ⟨S1024x256, .f32⟩
  | .local _ .vmem, ⟨15, _⟩ => ⟨S1024x256, .f32⟩
  | .local _ .vmem, ⟨16, _⟩ => ⟨S1x1024, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev main_v2_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== OutbRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x256 : Shape := ⟨2, ![8192, 256]⟩
abbrev S8192x512 : Shape := ⟨2, ![8192, 512]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x1024, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x256, .f32⟩
  | .hbm, ⟨91, _⟩ => ⟨S8192x512, .f32⟩
  | .hbm, ⟨92, _⟩ => ⟨S8192x256, .f32⟩
  | .hbm, ⟨93, _⟩ => ⟨S8192x1024, .bf16⟩
  | .hbm, ⟨94, _⟩ => ⟨S1x1024, .f32⟩
  | .hbm, ⟨95, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_14 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Ffb.lean ====
abbrev S8192x1024 : Shape := ⟨2, ![8192, 1024]⟩
abbrev S1024 : Shape := ⟨1, ![1024]⟩
abbrev S2816x1024 : Shape := ⟨2, ![2816, 1024]⟩
abbrev S8192x5632 : Shape := ⟨2, ![8192, 5632]⟩
abbrev S1x1024 : Shape := ⟨2, ![1, 1024]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩
abbrev S768x1024 : Shape := ⟨2, ![768, 1024]⟩
abbrev S256x768 : Shape := ⟨2, ![256, 768]⟩
abbrev S640x1024 : Shape := ⟨2, ![640, 1024]⟩
abbrev S256x640 : Shape := ⟨2, ![256, 640]⟩

abbrev nBuf : Space → Nat
  | .hbm => 13
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S2816x1024, .f32⟩
  | .hbm, ⟨5, _⟩ => ⟨S8192x5632, .bf16⟩
  | .hbm, ⟨6, _⟩ => ⟨S1x1024, .f32⟩
  | .hbm, ⟨7, _⟩ => ⟨S2816x1024, .bf16⟩
  | .hbm, ⟨8, _⟩ => ⟨S8192x1024, .f32⟩
  | .hbm, ⟨9, _⟩ => ⟨S8192x1024, .bf16⟩
  | .hbm, ⟨10, _⟩ => ⟨S8192x5632, .bf16⟩
  | .hbm, ⟨11, _⟩ => ⟨S1x1024, .f32⟩
  | .hbm, ⟨12, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S2816x1024, .bf16⟩
  | .local _ .vmem, ⟨6, _⟩ => ⟨S256x5632, .bf16⟩
  | .local _ .vmem, ⟨7, _⟩ => ⟨S256x5632, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x5632, .bf16⟩
  | .local _ .vmem, ⟨13, _⟩ => ⟨S256x5632, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfbRefIdeal.lean ====
abbrev S8192x1024 : Shape := ⟨2, ![8192, 1024]⟩
abbrev S1024 : Shape := ⟨1, ![1024]⟩
abbrev S2816x1024 : Shape := ⟨2, ![2816, 1024]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 126
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S2816x1024, .f32⟩
  | .hbm, ⟨5, _⟩ => ⟨S8192x5632, .bf16⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x1024, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S8192x5632, .f32⟩
  | .hbm, ⟨88, _⟩ => ⟨S8192x2816, .f32⟩
  | .hbm, ⟨89, _⟩ => ⟨S8192x2816, .f32⟩
  | .hbm, ⟨90, _⟩ => ⟨S8192x2816, .f32⟩
  | .hbm, ⟨91, _⟩ => ⟨S8192x2816, .f32⟩
  | .hbm, ⟨92, _⟩ => ⟨S_, .f32⟩
  | .hbm, ⟨93, _⟩ => ⟨S8192x2816, .f32⟩
  | .hbm, ⟨94, _⟩ => ⟨S8192x2816, .f32⟩
  | .hbm, ⟨95, _⟩ => ⟨S_, .f32⟩
  | .hbm, ⟨96, _⟩ => ⟨S8192x2816, .f32⟩
  | .hbm, ⟨97, _⟩ => ⟨S8192x2816, .f32⟩
  | .hbm, ⟨98, _⟩ => ⟨S_, .f32⟩
  | .hbm, ⟨99, _⟩ => ⟨S8192x2816, .f32⟩
  | .hbm, ⟨100, _⟩ => ⟨S8192x2816, .f32⟩
  | .hbm, ⟨101, _⟩ => ⟨S8192x2816, .f32⟩
  | .hbm, ⟨102, _⟩ => ⟨S8192x2816, .f32⟩
  | .hbm, ⟨103, _⟩ => ⟨S8192x2816, .f32⟩
  | .hbm, ⟨104, _⟩ => ⟨S8192x1024, .f32⟩
  | .hbm, ⟨105, _⟩ => ⟨S_, .f32⟩
  | .hbm, ⟨106, _⟩ => ⟨S8192x1024, .f32⟩
  | .hbm, ⟨107, _⟩ => ⟨S8192x1024, .f32⟩
  | .hbm, ⟨108, _⟩ => ⟨S_, .f32⟩
  | .hbm, ⟨109, _⟩ => ⟨S8192x1024, .f32⟩
  | .hbm, ⟨110, _⟩ => ⟨S8192x1024, .f32⟩
  | .hbm, ⟨111, _⟩ => ⟨S8192x2816, .f32⟩
  | .hbm, ⟨112, _⟩ => ⟨S8192x2816, .f32⟩
  | .hbm, ⟨113, _⟩ => ⟨S8192x2816, .f32⟩
  | .hbm, ⟨114, _⟩ => ⟨S8192x2816, .f32⟩
  | .hbm, ⟨115, _⟩ => ⟨S8192x2816, .f32⟩
  | .hbm, ⟨116, _⟩ => ⟨S8192x2816, .f32⟩
  | .hbm, ⟨117, _⟩ => ⟨S8192x2816, .f32⟩
  | .hbm, ⟨118, _⟩ => ⟨S8192x5632, .f32⟩
  | .hbm, ⟨119, _⟩ => ⟨S_, .f32⟩
  | .hbm, ⟨120, _⟩ => ⟨S8192x1024, .f32⟩
  | .hbm, ⟨121, _⟩ => ⟨S8192x1024, .f32⟩
  | .hbm, ⟨122, _⟩ => ⟨S8192x1024, .bf16⟩
  | .hbm, ⟨123, _⟩ => ⟨S8192x5632, .bf16⟩
  | .hbm, ⟨124, _⟩ => ⟨S1x1024, .f32⟩
  | .hbm, ⟨125, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_call0_v0 : Ref sig .tc := ⟨.hbm, 90, rfl⟩
abbrev main_call0_v1 : Ref sig .tc := ⟨.hbm, 91, rfl⟩
abbrev main_call0_cst : Ref sig .tc := ⟨.hbm, 92, rfl⟩
abbrev main_call0_v2 : Ref sig .tc := ⟨.hbm, 93, rfl⟩
abbrev main_call0_v3 : Ref sig .tc := ⟨.hbm, 94, rfl⟩
abbrev main_call0_cst_0 : Ref sig .tc := ⟨.hbm, 95, rfl⟩
abbrev main_call0_v4 : Ref sig .tc := ⟨.hbm, 96, rfl⟩
abbrev main_v66_2 : Ref sig .tc := ⟨.hbm, 97, rfl⟩
abbrev main_call0_cst_1 : Ref sig .tc := ⟨.hbm, 98, rfl⟩
abbrev main_call0_v6 : Ref sig .tc := ⟨.hbm, 99, rfl⟩
abbrev main_call0_v7 : Ref sig .tc := ⟨.hbm, 100, rfl⟩
abbrev main_v66_1 : Ref sig .tc := ⟨.hbm, 101, rfl⟩
abbrev main_v66_0 : Ref sig .tc := ⟨.hbm, 102, rfl⟩
abbrev main_v67 : Ref sig .tc := ⟨.hbm, 103, rfl⟩
abbrev main_v68 : Ref sig .tc := ⟨.hbm, 104, rfl⟩
abbrev main_cst_17 : Ref sig .tc := ⟨.hbm, 105, rfl⟩
abbrev main_v69 : Ref sig .tc := ⟨.hbm, 106, rfl⟩
abbrev main_v70 : Ref sig .tc := ⟨.hbm, 107, rfl⟩
abbrev main_cst_18 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_v76 : Ref sig .tc := ⟨.hbm, 117, rfl⟩
abbrev main_v77 : Ref sig .tc := ⟨.hbm, 118, rfl⟩
abbrev main_cst_19 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩

abbrev nD : Nat := 1
abbrev τ : Topo := Topo.v7x

variable {F : FTy → Type} [FloatOps F]
-- ==== Attf.lean ====
abbrev S8192x512 : Shape := ⟨2, ![8192, 512]⟩
abbrev S8192x128 : Shape := ⟨2, ![8192, 128]⟩
abbrev S8 : Shape := ⟨1, ![8]⟩
abbrev S_ : Shape := ⟨0, ![]⟩
abbrev S512x512 : Shape := ⟨2, ![512, 512]⟩
abbrev S128x128 : Shape := ⟨2, ![128, 128]⟩
abbrev S512x128 : Shape := ⟨2, ![512, 128]⟩
abbrev S4x128x384 : Shape := ⟨3, ![4, 128, 384]⟩
abbrev S128x384 : Shape := ⟨2, ![128, 384]⟩
abbrev S1x128x384 : Shape := ⟨3, ![1, 128, 384]⟩
abbrev S128x64 : Shape := ⟨2, ![128, 64]⟩
abbrev S384x64 : Shape := ⟨2, ![384, 64]⟩
abbrev S1 : Shape := ⟨1, ![1]⟩
abbrev S128 : Shape := ⟨1, ![128]⟩
abbrev S128x1 : Shape := ⟨2, ![128, 1]⟩

abbrev nBuf : Space → Nat
  | .hbm => 11
  | .vmem => 17
  | .smem => 1
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8, .f32⟩
  | .hbm, ⟨4, _⟩ => ⟨S_, .f32⟩
  | .hbm, ⟨5, _⟩ => ⟨S8192x512, .f32⟩
  | .hbm, ⟨6, _⟩ => ⟨S8192x512, .f32⟩
  | .hbm, ⟨7, _⟩ => ⟨S8192x512, .bf16⟩
  | .hbm, ⟨8, _⟩ => ⟨S8192x128, .bf16⟩
  | .hbm, ⟨9, _⟩ => ⟨S8192x128, .bf16⟩
  | .hbm, ⟨10, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S128x128, .bf16⟩
  | .local _ .vmem, ⟨3, _⟩ => ⟨S128x128, .bf16⟩
  | .local _ .vmem, ⟨4, _⟩ => ⟨S512x128, .bf16⟩
  | .local _ .vmem, ⟨5, _⟩ => ⟨S512x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S512x128, .bf16⟩
  | .local _ .vmem, ⟨11, _⟩ => ⟨S512x128, .bf16⟩
  | .local _ .vmem, ⟨12, _⟩ => ⟨S128x128, .bf16⟩
  | .local _ .vmem, ⟨13, _⟩ => ⟨S128x128, .bf16⟩
  | .local _ .vmem, ⟨14, _⟩ => ⟨S512x512, .bf16⟩
  | .local _ .vmem, ⟨15, _⟩ => ⟨S512x512, .bf16⟩
  | .local _ .vmem, ⟨16, _⟩ => ⟨S4x128x384, .f32⟩
  | .local _ .smem, ⟨0, _⟩ => ⟨S8, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttfIdeal.lean ====
variable {F : FTy → Type} [FloatOps F] [Named F]
def κ : String → Option EReal := fun
  | "mask" => some ⊥
  | _ => none
-- ==== AttfRefIdeal.lean ====
abbrev S8192x512 : Shape := ⟨2, ![8192, 512]⟩
abbrev S8192x128 : Shape := ⟨2, ![8192, 128]⟩
abbrev S8 : Shape := ⟨1, ![8]⟩
abbrev S64x128x2x4x64 : Shape := ⟨5, ![64, 128, 2, 4, 64]⟩
abbrev S8192x2x64 : Shape := ⟨3, ![8192, 2, 64]⟩
abbrev S_ : Shape := ⟨0, ![]⟩
abbrev S8448x2x64 : Shape := ⟨3, ![8448, 2, 64]⟩
abbrev S64x128x2x64 : Shape := ⟨4, ![64, 128, 2, 64]⟩
abbrev S64x384x2x64 : Shape := ⟨4, ![64, 384, 2, 64]⟩
abbrev S64x2x384x128x4 : Shape := ⟨5, ![64, 2, 384, 128, 4]⟩
abbrev S64x2x4x128x384 : Shape := ⟨5, ![64, 2, 4, 128, 384]⟩
abbrev S8192 : Shape := ⟨1, ![8192]⟩
abbrev S64x128 : Shape := ⟨2, ![64, 128]⟩
abbrev S64 : Shape := ⟨1, ![64]⟩
abbrev S64x1 : Shape := ⟨2, ![64, 1]⟩
abbrev S384 : Shape := ⟨1, ![384]⟩
abbrev S1x384 : Shape := ⟨2, ![1, 384]⟩
abbrev S64x384 : Shape := ⟨2, ![64, 384]⟩
abbrev S64x128x1 : Shape := ⟨3, ![64, 128, 1]⟩
abbrev S64x1x384 : Shape := ⟨3, ![64, 1, 384]⟩
abbrev S64x128x384 : Shape := ⟨3, ![64, 128, 384]⟩
abbrev S64x1x1x128x384 : Shape := ⟨5, ![64, 1, 1, 128, 384]⟩
abbrev S2x4 : Shape := ⟨2, ![2, 4]⟩
abbrev S1x2x4x1 : Shape := ⟨4, ![1, 2, 4, 1]⟩
abbrev S64x2x4x128 : Shape := ⟨4, ![64, 2, 4, 128]⟩
abbrev S64x2x4x128x1 : Shape := ⟨5, ![64, 2, 4, 128, 1]⟩
abbrev S64x2x64x4x128 : Shape := ⟨5, ![64, 2, 64, 4, 128]⟩
abbrev S64x128x2x4 : Shape := ⟨4, ![64, 128, 2, 4]⟩
abbrev S64x128x2x4x1 : Shape := ⟨5, ![64, 128, 2, 4, 1]⟩

abbrev nBuf : Space → Nat
  | .hbm => 98
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8, .f32⟩
  | .hbm, ⟨4, _⟩ => ⟨S64x128x2x4x64, .f32⟩
  | .hbm, ⟨5, _⟩ => ⟨S8192x2x64, .f32⟩
  | .hbm, ⟨6, _⟩ => ⟨S_, .i32⟩
  | .hbm, ⟨7, _⟩ => ⟨S_, .f32⟩
  | .hbm, ⟨8, _⟩ => ⟨S8448x2x64, .f32⟩
  | .hbm, ⟨9, _⟩ => ⟨S8192x2x64, .f32⟩
  | .hbm, ⟨10, _⟩ => ⟨S64x128x2x64, .f32⟩
  | .hbm, ⟨11, _⟩ => ⟨S8192x2x64, .f32⟩
  | .hbm, ⟨12, _⟩ => ⟨S64x128x2x64, .f32⟩
  | .hbm, ⟨13, _⟩ => ⟨S8192x2x64, .f32⟩
  | .hbm, ⟨14, _⟩ => ⟨S64x128x2x64, .f32⟩
  | .hbm, ⟨15, _⟩ => ⟨S64x384x2x64, .f32⟩
  | .hbm, ⟨16, _⟩ => ⟨S8192x2x64, .f32⟩
  | .hbm, ⟨17, _⟩ => ⟨S_, .i32⟩
  | .hbm, ⟨18, _⟩ => ⟨S_, .f32⟩
  | .hbm, ⟨19, _⟩ => ⟨S8448x2x64, .f32⟩
  | .hbm, ⟨20, _⟩ => ⟨S8192x2x64, .f32⟩
  | .hbm, ⟨21, _⟩ => ⟨S64x128x2x64, .f32⟩
  | .hbm, ⟨22, _⟩ => ⟨S8192x2x64, .f32⟩
  | .hbm, ⟨23, _⟩ => ⟨S64x128x2x64, .f32⟩
  | .hbm, ⟨24, _⟩ => ⟨S8192x2x64, .f32⟩
  | .hbm, ⟨25, _⟩ => ⟨S64x128x2x64, .f32⟩
  | .hbm, ⟨26, _⟩ => ⟨S64x384x2x64, .f32⟩
  | .hbm, ⟨27, _⟩ => ⟨S64x2x384x128x4, .f32⟩
  | .hbm, ⟨28, _⟩ => ⟨S64x2x4x128x384, .f32⟩
  | .hbm, ⟨29, _⟩ => ⟨S_, .f32⟩
  | .hbm, ⟨30, _⟩ => ⟨S64x2x4x128x384, .f32⟩
  | .hbm, ⟨31, _⟩ => ⟨S64x2x4x128x384, .f32⟩
  | .hbm, ⟨32, _⟩ => ⟨S8192, .i32⟩
  | .hbm, ⟨33, _⟩ => ⟨S64x128, .i32⟩
  | .hbm, ⟨34, _⟩ => ⟨S64, .i32⟩
  | .hbm, ⟨35, _⟩ => ⟨S64x1, .i32⟩
  | .hbm, ⟨36, _⟩ => ⟨S_, .i32⟩
  | .hbm, ⟨37, _⟩ => ⟨S64x1, .i32⟩
  | .hbm, ⟨38, _⟩ => ⟨S64x1, .i32⟩
  | .hbm, ⟨39, _⟩ => ⟨S_, .i32⟩
  | .hbm, ⟨40, _⟩ => ⟨S64x1, .i32⟩
  | .hbm, ⟨41, _⟩ => ⟨S64x1, .i32⟩
  | .hbm, ⟨42, _⟩ => ⟨S384, .i32⟩
  | .hbm, ⟨43, _⟩ => ⟨S1x384, .i32⟩
  | .hbm, ⟨44, _⟩ => ⟨S64x384, .i32⟩
  | .hbm, ⟨45, _⟩ => ⟨S64x384, .i32⟩
  | .hbm, ⟨46, _⟩ => ⟨S64x384, .i32⟩
  | .hbm, ⟨47, _⟩ => ⟨S64x128x1, .i32⟩
  | .hbm, ⟨48, _⟩ => ⟨S64x1x384, .i32⟩
  | .hbm, ⟨49, _⟩ => ⟨S64x128x384, .i32⟩
  | .hbm, ⟨50, _⟩ => ⟨S64x128x384, .i32⟩
  | .hbm, ⟨51, _⟩ => ⟨S64x128x384, .i32⟩
  | .hbm, ⟨52, _⟩ => ⟨S64x128x384, .i32⟩
  | .hbm, ⟨53, _⟩ => ⟨S_, .i32⟩
  | .hbm, ⟨54, _⟩ => ⟨S64x128x384, .i32⟩
  | .hbm, ⟨55, _⟩ => ⟨S64x128x384, .i1⟩
  | .hbm, ⟨56, _⟩ => ⟨S_, .i32⟩
  | .hbm, ⟨57, _⟩ => ⟨S64x384, .i32⟩
  | .hbm, ⟨58, _⟩ => ⟨S64x384, .i1⟩
  | .hbm, ⟨59, _⟩ => ⟨S64x1x384, .i1⟩
  | .hbm, ⟨60, _⟩ => ⟨S64x128x384, .i1⟩
  | .hbm, ⟨61, _⟩ => ⟨S64x128x384, .i1⟩
  | .hbm, ⟨62, _⟩ => ⟨S_, .i32⟩
  | .hbm, ⟨63, _⟩ => ⟨S64x384, .i32⟩
  | .hbm, ⟨64, _⟩ => ⟨S64x384, .i1⟩
  | .hbm, ⟨65, _⟩ => ⟨S64x1x384, .i1⟩
  | .hbm, ⟨66, _⟩ => ⟨S64x128x384, .i1⟩
  | .hbm, ⟨67, _⟩ => ⟨S64x128x384, .i1⟩
  | .hbm, ⟨68, _⟩ => ⟨S64x1x1x128x384, .i1⟩
  | .hbm, ⟨69, _⟩ => ⟨S_, .f32⟩
  | .hbm, ⟨70, _⟩ => ⟨S_, .f32⟩
  | .hbm, ⟨71, _⟩ => ⟨S64x2x4x128x384, .i1⟩
  | .hbm, ⟨72, _⟩ => ⟨S64x2x4x128x384, .f32⟩
  | .hbm, ⟨73, _⟩ => ⟨S64x2x4x128x384, .f32⟩
  | .hbm, ⟨74, _⟩ => ⟨S2x4, .f32⟩
  | .hbm, ⟨75, _⟩ => ⟨S1x2x4x1, .f32⟩
  | .hbm, ⟨76, _⟩ => ⟨S_, .f32⟩
  | .hbm, ⟨77, _⟩ => ⟨S64x2x4x128, .f32⟩
  | .hbm, ⟨78, _⟩ => ⟨S64x2x4x128, .f32⟩
  | .hbm, ⟨79, _⟩ => ⟨S64x2x4x128, .f32⟩
  | .hbm, ⟨80, _⟩ => ⟨S64x2x4x128x1, .f32⟩
  | .hbm, ⟨81, _⟩ => ⟨S64x2x4x128x384, .f32⟩
  | .hbm, ⟨82, _⟩ => ⟨S64x2x4x128x384, .f32⟩
  | .hbm, ⟨83, _⟩ => ⟨S64x2x4x128x384, .f32⟩
  | .hbm, ⟨84, _⟩ => ⟨S_, .f32⟩
  | .hbm, ⟨85, _⟩ => ⟨S64x2x4x128, .f32⟩
  | .hbm, ⟨86, _⟩ => ⟨S64x2x4x128, .f32⟩
  | .hbm, ⟨87, _⟩ => ⟨S64x2x4x128, .f32⟩
  | .hbm, ⟨88, _⟩ => ⟨S64x2x4x128, .f32⟩
  | .hbm, ⟨89, _⟩ => ⟨S64x2x4x128, .f32⟩
  | .hbm, ⟨90, _⟩ => ⟨S64x2x64x4x128, .f32⟩
  | .hbm, ⟨91, _⟩ => ⟨S64x128x2x4x64, .f32⟩
  | .hbm, ⟨92, _⟩ => ⟨S64x128x2x4, .f32⟩
  | .hbm, ⟨93, _⟩ => ⟨S64x128x2x4x1, .f32⟩
  | .hbm, ⟨94, _⟩ => ⟨S64x128x2x4x64, .f32⟩
  | .hbm, ⟨95, _⟩ => ⟨S64x128x2x4x64, .f32⟩
  | .hbm, ⟨96, _⟩ => ⟨S8192x512, .f32⟩
  | .hbm, ⟨97, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_1 : Ref sig .tc := ⟨.hbm, 36, rfl⟩
abbrev main_v27 : Ref sig .tc := ⟨.hbm, 37, rfl⟩
abbrev main_v28 : Ref sig .tc := ⟨.hbm, 38, rfl⟩
abbrev main_c_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_3 : Ref sig .tc := ⟨.hbm, 53, rfl⟩
abbrev main_v42 : Ref sig .tc := ⟨.hbm, 54, rfl⟩
abbrev main_v43 : Ref sig .tc := ⟨.hbm, 55, rfl⟩
abbrev main_c_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_5 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== Sada.lean ====
abbrev S2x1024 : Shape := ⟨2, ![2, 1024]⟩
abbrev S2x8 : Shape := ⟨2, ![2, 8]⟩

abbrev nBuf : Space → Nat
  | .hbm => 21
  | .vmem => 21
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x8, .f32⟩
  | .hbm, ⟨3, _⟩ => ⟨S2x1024, .f32⟩
  | .hbm, ⟨4, _⟩ => ⟨S2x1024, .f32⟩
  | .hbm, ⟨5, _⟩ => ⟨S2x8, .f32⟩
  | .hbm, ⟨6, _⟩ => ⟨S2x1024, .f32⟩
  | .hbm, ⟨7, _⟩ => ⟨S2x1024, .f32⟩
  | .hbm, ⟨8, _⟩ => ⟨S2x8, .f32⟩
  | .hbm, ⟨9, _⟩ => ⟨S2x1024, .f32⟩
  | .hbm, ⟨10, _⟩ => ⟨S2x1024, .f32⟩
  | .hbm, ⟨11, _⟩ => ⟨S2x8, .f32⟩
  | .hbm, ⟨12, _⟩ => ⟨S2x1024, .f32⟩
  | .hbm, ⟨13, _⟩ => ⟨S2x1024, .f32⟩
  | .hbm, ⟨14, _⟩ => ⟨S2x8, .f32⟩
  | .hbm, ⟨15, _⟩ => ⟨S2x1024, .f32⟩
  | .hbm, ⟨16, _⟩ => ⟨S2x1024, .f32⟩
  | .hbm, ⟨17, _⟩ => ⟨S2x8, .f32⟩
  | .hbm, ⟨18, _⟩ => ⟨S2x1024, .f32⟩
  | .hbm, ⟨19, _⟩ => ⟨S2x1024, .f32⟩
  | .hbm, ⟨20, _⟩ => ⟨S2x8, .f32⟩
  | .local _ .vmem, ⟨0, _⟩ => ⟨S2x1024, .f32⟩
  | .local _ .vmem, ⟨1, _⟩ => ⟨S2x1024, .f32⟩
  | .local _ .vmem, ⟨2, _⟩ => ⟨S2x8, .f32⟩
  | .local _ .vmem, ⟨3, _⟩ => ⟨S2x1024, .f32⟩
  | .local _ .vmem, ⟨4, _⟩ => ⟨S2x1024, .f32⟩
  | .local _ .vmem, ⟨5, _⟩ => ⟨S2x8, .f32⟩
  | .local _ .vmem, ⟨6, _⟩ => ⟨S2x1024, .f32⟩
  | .local _ .vmem, ⟨7, _⟩ => ⟨S2x1024, .f32⟩
  | .local _ .vmem, ⟨8, _⟩ => ⟨S2x8, .f32⟩
  | .local _ .vmem, ⟨9, _⟩ => ⟨S2x1024, .f32⟩
  | .local _ .vmem, ⟨10, _⟩ => ⟨S2x1024, .f32⟩
  | .local _ .vmem, ⟨11, _⟩ => ⟨S2x8, .f32⟩
  | .local _ .vmem, ⟨12, _⟩ => ⟨S2x1024, .f32⟩
  | .local _ .vmem, ⟨13, _⟩ => ⟨S2x1024, .f32⟩
  | .local _ .vmem, ⟨14, _⟩ => ⟨S2x8, .f32⟩
  | .local _ .vmem, ⟨15, _⟩ => ⟨S2x1024, .f32⟩
  | .local _ .vmem, ⟨16, _⟩ => ⟨S2x1024, .f32⟩
  | .local _ .vmem, ⟨17, _⟩ => ⟨S2x8, .f32⟩
  | .local _ .vmem, ⟨18, _⟩ => ⟨S2x1024, .f32⟩
  | .local _ .vmem, ⟨19, _⟩ => ⟨S2x1024, .f32⟩
  | .local _ .vmem, ⟨20, _⟩ => ⟨S2x8, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== SadaIdeal.lean ====
abbrev S2x1024 : Shape := ⟨2, ![2, 1024]⟩
abbrev S2x8 : Shape := ⟨2, ![2, 8]⟩

abbrev nBuf : Space → Nat
  | .hbm => 21
  | .vmem => 21
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x8, .f32⟩
  | .hbm, ⟨3, _⟩ => ⟨S2x1024, .f32⟩
  | .hbm, ⟨4, _⟩ => ⟨S2x1024, .f32⟩
  | .hbm, ⟨5, _⟩ => ⟨S2x8, .f32⟩
  | .hbm, ⟨6, _⟩ => ⟨S2x1024, .f32⟩
  | .hbm, ⟨7, _⟩ => ⟨S2x1024, .f32⟩
  | .hbm, ⟨8, _⟩ => ⟨S2x8, .f32⟩
  | .hbm, ⟨9, _⟩ => ⟨S2x1024, .f32⟩
  | .hbm, ⟨10, _⟩ => ⟨S2x1024, .f32⟩
  | .hbm, ⟨11, _⟩ => ⟨S2x8, .f32⟩
  | .hbm, ⟨12, _⟩ => ⟨S2x1024, .f32⟩
  | .hbm, ⟨13, _⟩ => ⟨S2x1024, .f32⟩
  | .hbm, ⟨14, _⟩ => ⟨S2x8, .f32⟩
  | .hbm, ⟨15, _⟩ => ⟨S2x1024, .f32⟩
  | .hbm, ⟨16, _⟩ => ⟨S2x1024, .f32⟩
  | .hbm, ⟨17, _⟩ => ⟨S2x8, .f32⟩
  | .hbm, ⟨18, _⟩ => ⟨S2x1024, .f32⟩
  | .hbm, ⟨19, _⟩ => ⟨S2x1024, .f32⟩
  | .hbm, ⟨20, _⟩ => ⟨S2x8, .f32⟩
  | .local _ .vmem, ⟨0, _⟩ => ⟨S2x1024, .f32⟩
  | .local _ .vmem, ⟨1, _⟩ => ⟨S2x1024, .f32⟩
  | .local _ .vmem, ⟨2, _⟩ => ⟨S2x8, .f32⟩
  | .local _ .vmem, ⟨3, _⟩ => ⟨S2x1024, .f32⟩
  | .local _ .vmem, ⟨4, _⟩ => ⟨S2x1024, .f32⟩
  | .local _ .vmem, ⟨5, _⟩ => ⟨S2x8, .f32⟩
  | .local _ .vmem, ⟨6, _⟩ => ⟨S2x1024, .f32⟩
  | .local _ .vmem, ⟨7, _⟩ => ⟨S2x1024, .f32⟩
  | .local _ .vmem, ⟨8, _⟩ => ⟨S2x8, .f32⟩
  | .local _ .vmem, ⟨9, _⟩ => ⟨S2x1024, .f32⟩
  | .local _ .vmem, ⟨10, _⟩ => ⟨S2x1024, .f32⟩
  | .local _ .vmem, ⟨11, _⟩ => ⟨S2x8, .f32⟩
  | .local _ .vmem, ⟨12, _⟩ => ⟨S2x1024, .f32⟩
  | .local _ .vmem, ⟨13, _⟩ => ⟨S2x1024, .f32⟩
  | .local _ .vmem, ⟨14, _⟩ => ⟨S2x8, .f32⟩
  | .local _ .vmem, ⟨15, _⟩ => ⟨S2x1024, .f32⟩
  | .local _ .vmem, ⟨16, _⟩ => ⟨S2x1024, .f32⟩
  | .local _ .vmem, ⟨17, _⟩ => ⟨S2x8, .f32⟩
  | .local _ .vmem, ⟨18, _⟩ => ⟨S2x1024, .f32⟩
  | .local _ .vmem, ⟨19, _⟩ => ⟨S2x1024, .f32⟩
  | .local _ .vmem, ⟨20, _⟩ => ⟨S2x8, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== SadaRefIdeal.lean ====
abbrev S2x1024 : Shape := ⟨2, ![2, 1024]⟩
abbrev S2x8 : Shape := ⟨2, ![2, 8]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x8, .f32⟩
  | .hbm, ⟨3, _⟩ => ⟨S2x1024, .f32⟩
  | .hbm, ⟨4, _⟩ => ⟨S2x1024, .f32⟩
  | .hbm, ⟨5, _⟩ => ⟨S2x8, .f32⟩
  | .hbm, ⟨6, _⟩ => ⟨S2x1024, .f32⟩
  | .hbm, ⟨7, _⟩ => ⟨S2x1024, .f32⟩
  | .hbm, ⟨8, _⟩ => ⟨S2x8, .f32⟩
  | .hbm, ⟨9, _⟩ => ⟨S2x1024, .f32⟩
  | .hbm, ⟨10, _⟩ => ⟨S2x1024, .f32⟩
  | .hbm, ⟨11, _⟩ => ⟨S2x8, .f32⟩
  | .hbm, ⟨12, _⟩ => ⟨S_, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S_, .f32⟩
  | .hbm, ⟨24, _⟩ => ⟨S2x1024, .f32⟩
  | .hbm, ⟨25, _⟩ => ⟨S2x1024, .f32⟩
  | .hbm, ⟨26, _⟩ => ⟨S2x1024, .f32⟩
  | .hbm, ⟨27, _⟩ => ⟨S_, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | .hbm, ⟨37, _⟩ => ⟨S2x1024, .f32⟩
  | .hbm, ⟨38, _⟩ => ⟨S_, .f32⟩
  | .hbm, ⟨39, _⟩ => ⟨S2x1024, .f32⟩
  | .hbm, ⟨40, _⟩ => ⟨S2x1024, .f32⟩
  | .hbm, ⟨41, _⟩ => ⟨S2x1024, .f32⟩
  | .hbm, ⟨42, _⟩ => ⟨S_, .f32⟩
  | .hbm, ⟨43, _⟩ => ⟨S2x1024, .f32⟩
  | .hbm, ⟨44, _⟩ => ⟨S2x1024, .f32⟩
  | .hbm, ⟨45, _⟩ => ⟨S_, .f32⟩
  | .hbm, ⟨46, _⟩ => ⟨S2x1024, .f32⟩
  | .hbm, ⟨47, _⟩ => ⟨S2x1024, .f32⟩
  | .hbm, ⟨48, _⟩ => ⟨S_, .f32⟩
  | .hbm, ⟨49, _⟩ => ⟨S2x1024, .f32⟩
  | .hbm, ⟨50, _⟩ => ⟨S2x1024, .f32⟩
  | .hbm, ⟨51, _⟩ => ⟨S2x1024, .f32⟩
  | .hbm, ⟨52, _⟩ => ⟨S_, .f32⟩
  | .hbm, ⟨53, _⟩ => ⟨S2x1024, .f32⟩
  | .hbm, ⟨54, _⟩ => ⟨S2x1024, .f32⟩
  | .hbm, ⟨55, _⟩ => ⟨S2x1024, .f32⟩
  | .hbm, ⟨56, _⟩ => ⟨S_, .f32⟩
  | .hbm, ⟨57, _⟩ => ⟨S2x1024, .f32⟩
  | .hbm, ⟨58, _⟩ => ⟨S2x1024, .f32⟩
  | .hbm, ⟨59, _⟩ => ⟨S2x1024, .f32⟩
  | .hbm, ⟨60, _⟩ => ⟨S_, .f32⟩
  | .hbm, ⟨61, _⟩ => ⟨S2x1024, .f32⟩
  | .hbm, ⟨62, _⟩ => ⟨S2x1024, .f32⟩
  | .hbm, ⟨63, _⟩ => ⟨S_, .f32⟩
  | .hbm, ⟨64, _⟩ => ⟨S2x1024, .f32⟩
  | .hbm, ⟨65, _⟩ => ⟨S2x1024, .f32⟩
  | .hbm, ⟨66, _⟩ => ⟨S2x1024, .f32⟩
  | .hbm, ⟨67, _⟩ => ⟨S_, .f32⟩
  | .hbm, ⟨68, _⟩ => ⟨S2x1024, .f32⟩
  | .hbm, ⟨69, _⟩ => ⟨S2x1024, .f32⟩
  | .hbm, ⟨70, _⟩ => ⟨S2x1024, .f32⟩
  | .hbm, ⟨71, _⟩ => ⟨S_, .f32⟩
  | .hbm, ⟨72, _⟩ => ⟨S2x1024, .f32⟩
  | .hbm, ⟨73, _⟩ => ⟨S2x1024, .f32⟩
  | .hbm, ⟨74, _⟩ => ⟨S2x1024, .f32⟩
  | .hbm, ⟨75, _⟩ => ⟨S_, .f32⟩
  | .hbm, ⟨76, _⟩ => ⟨S2x1024, .f32⟩
  | .hbm, ⟨77, _⟩ => ⟨S2x1024, .f32⟩
  | .hbm, ⟨78, _⟩ => ⟨S_, .f32⟩
  | .hbm, ⟨79, _⟩ => ⟨S2x8, .f32⟩
  | .hbm, ⟨80, _⟩ => ⟨S2x8, .f32⟩
  | .hbm, ⟨81, _⟩ => ⟨S_, .f32⟩
  | .hbm, ⟨82, _⟩ => ⟨S2x8, .f32⟩
  | .hbm, ⟨83, _⟩ => ⟨S2x8, .f32⟩
  | .hbm, ⟨84, _⟩ => ⟨S2x8, .f32⟩
  | .hbm, ⟨85, _⟩ => ⟨S_, .f32⟩
  | .hbm, ⟨86, _⟩ => ⟨S2x8, .f32⟩
  | .hbm, ⟨87, _⟩ => ⟨S2x8, .f32⟩
  | .hbm, ⟨88, _⟩ => ⟨S2x8, .f32⟩
  | .hbm, ⟨89, _⟩ => ⟨S_, .f32⟩
  | .hbm, ⟨90, _⟩ => ⟨S2x8, .f32⟩
  | .hbm, ⟨91, _⟩ => ⟨S2x8, .f32⟩
  | .hbm, ⟨92, _⟩ => ⟨S2x8, .f32⟩
  | .hbm, ⟨93, _⟩ => ⟨S_, .f32⟩
  | .hbm, ⟨94, _⟩ => ⟨S2x8, .f32⟩
  | .hbm, ⟨95, _⟩ => ⟨S2x8, .f32⟩
  | .hbm, ⟨96, _⟩ => ⟨S_, .f32⟩
  | .hbm, ⟨97, _⟩ => ⟨S2x8, .f32⟩
  | .hbm, ⟨98, _⟩ => ⟨S2x8, .f32⟩
  | .hbm, ⟨99, _⟩ => ⟨S2x8, .f32⟩
  | .hbm, ⟨100, _⟩ => ⟨S_, .f32⟩
  | .hbm, ⟨101, _⟩ => ⟨S2x8, .f32⟩
  | .hbm, ⟨102, _⟩ => ⟨S2x8, .f32⟩
  | .hbm, ⟨103, _⟩ => ⟨S2x8, .f32⟩
  | .hbm, ⟨104, _⟩ => ⟨S_, .f32⟩
  | .hbm, ⟨105, _⟩ => ⟨S2x8, .f32⟩
  | .hbm, ⟨106, _⟩ => ⟨S2x8, .f32⟩
  | .hbm, ⟨107, _⟩ => ⟨S2x8, .f32⟩
  | .hbm, ⟨108, _⟩ => ⟨S_, .f32⟩
  | .hbm, ⟨109, _⟩ => ⟨S2x8, .f32⟩
  | .hbm, ⟨110, _⟩ => ⟨S2x8, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Sadb.lean ====
abbrev S2x256 : Shape := ⟨2, ![2, 256]⟩

abbrev nBuf : Space → Nat
  | .hbm => 21
  | .vmem => 21
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .hbm, ⟨7, _⟩ => ⟨S2x256, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S2x256, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S2x256, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S2x256, .f32⟩
  | .hbm, ⟨20, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | .local _ .vmem, ⟨7, _⟩ => ⟨S2x256, .f32⟩
  | .local _ .vmem, ⟨8, _⟩ => ⟨S2x256, .f32⟩
  | .local _ .vmem, ⟨9, _⟩ => ⟨S2x256, .f32⟩
  | .local _ .vmem, ⟨10, _⟩ => ⟨S2x256, .f32⟩
  | .local _ .vmem, ⟨11, _⟩ => ⟨S2x256, .f32⟩
  | .local _ .vmem, ⟨12, _⟩ => ⟨S2x256, .f32⟩
  | .local _ .vmem, ⟨13, _⟩ => ⟨S2x256, .f32⟩
  | .local _ .vmem, ⟨14, _⟩ => ⟨S2x256, .f32⟩
  | .local _ .vmem, ⟨15, _⟩ => ⟨S2x256, .f32⟩
  | .local _ .vmem, ⟨16, _⟩ => ⟨S2x256, .f32⟩
  | .local _ .vmem, ⟨17, _⟩ => ⟨S2x256, .f32⟩
  | .local _ .vmem, ⟨18, _⟩ => ⟨S2x256, .f32⟩
  | .local _ .vmem, ⟨19, _⟩ => ⟨S2x256, .f32⟩
  | .local _ .vmem, ⟨20, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== SadbIdeal.lean ====
abbrev S2x256 : Shape := ⟨2, ![2, 256]⟩

abbrev nBuf : Space → Nat
  | .hbm => 21
  | .vmem => 21
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .hbm, ⟨7, _⟩ => ⟨S2x256, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S2x256, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S2x256, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S2x256, .f32⟩
  | .hbm, ⟨20, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | .local _ .vmem, ⟨7, _⟩ => ⟨S2x256, .f32⟩
  | .local _ .vmem, ⟨8, _⟩ => ⟨S2x256, .f32⟩
  | .local _ .vmem, ⟨9, _⟩ => ⟨S2x256, .f32⟩
  | .local _ .vmem, ⟨10, _⟩ => ⟨S2x256, .f32⟩
  | .local _ .vmem, ⟨11, _⟩ => ⟨S2x256, .f32⟩
  | .local _ .vmem, ⟨12, _⟩ => ⟨S2x256, .f32⟩
  | .local _ .vmem, ⟨13, _⟩ => ⟨S2x256, .f32⟩
  | .local _ .vmem, ⟨14, _⟩ => ⟨S2x256, .f32⟩
  | .local _ .vmem, ⟨15, _⟩ => ⟨S2x256, .f32⟩
  | .local _ .vmem, ⟨16, _⟩ => ⟨S2x256, .f32⟩
  | .local _ .vmem, ⟨17, _⟩ => ⟨S2x256, .f32⟩
  | .local _ .vmem, ⟨18, _⟩ => ⟨S2x256, .f32⟩
  | .local _ .vmem, ⟨19, _⟩ => ⟨S2x256, .f32⟩
  | .local _ .vmem, ⟨20, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== SadbRefIdeal.lean ====
abbrev S2x256 : Shape := ⟨2, ![2, 256]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .hbm, ⟨7, _⟩ => ⟨S2x256, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S2x256, .f32⟩
  | .hbm, ⟨12, _⟩ => ⟨S_, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S2x256, .f32⟩
  | .hbm, ⟨23, _⟩ => ⟨S_, .f32⟩
  | .hbm, ⟨24, _⟩ => ⟨S2x256, .f32⟩
  | .hbm, ⟨25, _⟩ => ⟨S2x256, .f32⟩
  | .hbm, ⟨26, _⟩ => ⟨S2x256, .f32⟩
  | .hbm, ⟨27, _⟩ => ⟨S_, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | .hbm, ⟨37, _⟩ => ⟨S2x256, .f32⟩
  | .hbm, ⟨38, _⟩ => ⟨S_, .f32⟩
  | .hbm, ⟨39, _⟩ => ⟨S2x256, .f32⟩
  | .hbm, ⟨40, _⟩ => ⟨S2x256, .f32⟩
  | .hbm, ⟨41, _⟩ => ⟨S2x256, .f32⟩
  | .hbm, ⟨42, _⟩ => ⟨S_, .f32⟩
  | .hbm, ⟨43, _⟩ => ⟨S2x256, .f32⟩
  | .hbm, ⟨44, _⟩ => ⟨S2x256, .f32⟩
  | .hbm, ⟨45, _⟩ => ⟨S_, .f32⟩
  | .hbm, ⟨46, _⟩ => ⟨S2x256, .f32⟩
  | .hbm, ⟨47, _⟩ => ⟨S2x256, .f32⟩
  | .hbm, ⟨48, _⟩ => ⟨S_, .f32⟩
  | .hbm, ⟨49, _⟩ => ⟨S2x256, .f32⟩
  | .hbm, ⟨50, _⟩ => ⟨S2x256, .f32⟩
  | .hbm, ⟨51, _⟩ => ⟨S2x256, .f32⟩
  | .hbm, ⟨52, _⟩ => ⟨S_, .f32⟩
  | .hbm, ⟨53, _⟩ => ⟨S2x256, .f32⟩
  | .hbm, ⟨54, _⟩ => ⟨S2x256, .f32⟩
  | .hbm, ⟨55, _⟩ => ⟨S2x256, .f32⟩
  | .hbm, ⟨56, _⟩ => ⟨S_, .f32⟩
  | .hbm, ⟨57, _⟩ => ⟨S2x256, .f32⟩
  | .hbm, ⟨58, _⟩ => ⟨S2x256, .f32⟩
  | .hbm, ⟨59, _⟩ => ⟨S2x256, .f32⟩
  | .hbm, ⟨60, _⟩ => ⟨S_, .f32⟩
  | .hbm, ⟨61, _⟩ => ⟨S2x256, .f32⟩
  | .hbm, ⟨62, _⟩ => ⟨S2x256, .f32⟩
  | .hbm, ⟨63, _⟩ => ⟨S_, .f32⟩
  | .hbm, ⟨64, _⟩ => ⟨S2x256, .f32⟩
  | .hbm, ⟨65, _⟩ => ⟨S2x256, .f32⟩
  | .hbm, ⟨66, _⟩ => ⟨S2x256, .f32⟩
  | .hbm, ⟨67, _⟩ => ⟨S_, .f32⟩
  | .hbm, ⟨68, _⟩ => ⟨S2x256, .f32⟩
  | .hbm, ⟨69, _⟩ => ⟨S2x256, .f32⟩
  | .hbm, ⟨70, _⟩ => ⟨S2x256, .f32⟩
  | .hbm, ⟨71, _⟩ => ⟨S_, .f32⟩
  | .hbm, ⟨72, _⟩ => ⟨S2x256, .f32⟩
  | .hbm, ⟨73, _⟩ => ⟨S2x256, .f32⟩
  | .hbm, ⟨74, _⟩ => ⟨S2x256, .f32⟩
  | .hbm, ⟨75, _⟩ => ⟨S_, .f32⟩
  | .hbm, ⟨76, _⟩ => ⟨S2x256, .f32⟩
  | .hbm, ⟨77, _⟩ => ⟨S2x256, .f32⟩
  | .hbm, ⟨78, _⟩ => ⟨S_, .f32⟩
  | .hbm, ⟨79, _⟩ => ⟨S2x256, .f32⟩
  | .hbm, ⟨80, _⟩ => ⟨S2x256, .f32⟩
  | .hbm, ⟨81, _⟩ => ⟨S_, .f32⟩
  | .hbm, ⟨82, _⟩ => ⟨S2x256, .f32⟩
  | .hbm, ⟨83, _⟩ => ⟨S2x256, .f32⟩
  | .hbm, ⟨84, _⟩ => ⟨S2x256, .f32⟩
  | .hbm, ⟨85, _⟩ => ⟨S_, .f32⟩
  | .hbm, ⟨86, _⟩ => ⟨S2x256, .f32⟩
  | .hbm, ⟨87, _⟩ => ⟨S2x256, .f32⟩
  | .hbm, ⟨88, _⟩ => ⟨S2x256, .f32⟩
  | .hbm, ⟨89, _⟩ => ⟨S_, .f32⟩
  | .hbm, ⟨90, _⟩ => ⟨S2x256, .f32⟩
  | .hbm, ⟨91, _⟩ => ⟨S2x256, .f32⟩
  | .hbm, ⟨92, _⟩ => ⟨S2x256, .f32⟩
  | .hbm, ⟨93, _⟩ => ⟨S_, .f32⟩
  | .hbm, ⟨94, _⟩ => ⟨S2x256, .f32⟩
  | .hbm, ⟨95, _⟩ => ⟨S2x256, .f32⟩
  | .hbm, ⟨96, _⟩ => ⟨S_, .f32⟩
  | .hbm, ⟨97, _⟩ => ⟨S2x256, .f32⟩
  | .hbm, ⟨98, _⟩ => ⟨S2x256, .f32⟩
  | .hbm, ⟨99, _⟩ => ⟨S2x256, .f32⟩
  | .hbm, ⟨100, _⟩ => ⟨S_, .f32⟩
  | .hbm, ⟨101, _⟩ => ⟨S2x256, .f32⟩
  | .hbm, ⟨102, _⟩ => ⟨S2x256, .f32⟩
  | .hbm, ⟨103, _⟩ => ⟨S2x256, .f32⟩
  | .hbm, ⟨104, _⟩ => ⟨S_, .f32⟩
  | .hbm, ⟨105, _⟩ => ⟨S2x256, .f32⟩
  | .hbm, ⟨106, _⟩ => ⟨S2x256, .f32⟩
  | .hbm, ⟨107, _⟩ => ⟨S2x256, .f32⟩
  | .hbm, ⟨108, _⟩ => ⟨S_, .f32⟩
  | .hbm, ⟨109, _⟩ => ⟨S2x256, .f32⟩
  | .hbm, ⟨110, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Sadc.lean ====
abbrev S2x1024 : Shape := ⟨2, ![2, 1024]⟩

abbrev nBuf : Space → Nat
  | .hbm => 21
  | .vmem => 21
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S2x1024, .f32⟩
  | .hbm, ⟨20, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | .local _ .vmem, ⟨8, _⟩ => ⟨S2x1024, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S2x1024, .f32⟩
  | .local _ .vmem, ⟨14, _⟩ => ⟨S2x1024, .f32⟩
  | .local _ .vmem, ⟨15, _⟩ => ⟨S2x1024, .f32⟩
  | .local _ .vmem, ⟨16, _⟩ => ⟨S2x1024, .f32⟩
  | .local _ .vmem, ⟨17, _⟩ => ⟨S2x1024, .f32⟩
  | .local _ .vmem, ⟨18, _⟩ => ⟨S2x1024, .f32⟩
  | .local _ .vmem, ⟨19, _⟩ => ⟨S2x1024, .f32⟩
  | .local _ .vmem, ⟨20, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== SadcIdeal.lean ====
abbrev S2x1024 : Shape := ⟨2, ![2, 1024]⟩

abbrev nBuf : Space → Nat
  | .hbm => 21
  | .vmem => 21
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S2x1024, .f32⟩
  | .hbm, ⟨20, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | .local _ .vmem, ⟨8, _⟩ => ⟨S2x1024, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S2x1024, .f32⟩
  | .local _ .vmem, ⟨14, _⟩ => ⟨S2x1024, .f32⟩
  | .local _ .vmem, ⟨15, _⟩ => ⟨S2x1024, .f32⟩
  | .local _ .vmem, ⟨16, _⟩ => ⟨S2x1024, .f32⟩
  | .local _ .vmem, ⟨17, _⟩ => ⟨S2x1024, .f32⟩
  | .local _ .vmem, ⟨18, _⟩ => ⟨S2x1024, .f32⟩
  | .local _ .vmem, ⟨19, _⟩ => ⟨S2x1024, .f32⟩
  | .local _ .vmem, ⟨20, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== SadcRefIdeal.lean ====
abbrev S2x1024 : Shape := ⟨2, ![2, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S_, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S_, .f32⟩
  | .hbm, ⟨24, _⟩ => ⟨S2x1024, .f32⟩
  | .hbm, ⟨25, _⟩ => ⟨S2x1024, .f32⟩
  | .hbm, ⟨26, _⟩ => ⟨S2x1024, .f32⟩
  | .hbm, ⟨27, _⟩ => ⟨S_, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | .hbm, ⟨37, _⟩ => ⟨S2x1024, .f32⟩
  | .hbm, ⟨38, _⟩ => ⟨S_, .f32⟩
  | .hbm, ⟨39, _⟩ => ⟨S2x1024, .f32⟩
  | .hbm, ⟨40, _⟩ => ⟨S2x1024, .f32⟩
  | .hbm, ⟨41, _⟩ => ⟨S2x1024, .f32⟩
  | .hbm, ⟨42, _⟩ => ⟨S_, .f32⟩
  | .hbm, ⟨43, _⟩ => ⟨S2x1024, .f32⟩
  | .hbm, ⟨44, _⟩ => ⟨S2x1024, .f32⟩
  | .hbm, ⟨45, _⟩ => ⟨S_, .f32⟩
  | .hbm, ⟨46, _⟩ => ⟨S2x1024, .f32⟩
  | .hbm, ⟨47, _⟩ => ⟨S2x1024, .f32⟩
  | .hbm, ⟨48, _⟩ => ⟨S_, .f32⟩
  | .hbm, ⟨49, _⟩ => ⟨S2x1024, .f32⟩
  | .hbm, ⟨50, _⟩ => ⟨S2x1024, .f32⟩
  | .hbm, ⟨51, _⟩ => ⟨S2x1024, .f32⟩
  | .hbm, ⟨52, _⟩ => ⟨S_, .f32⟩
  | .hbm, ⟨53, _⟩ => ⟨S2x1024, .f32⟩
  | .hbm, ⟨54, _⟩ => ⟨S2x1024, .f32⟩
  | .hbm, ⟨55, _⟩ => ⟨S2x1024, .f32⟩
  | .hbm, ⟨56, _⟩ => ⟨S_, .f32⟩
  | .hbm, ⟨57, _⟩ => ⟨S2x1024, .f32⟩
  | .hbm, ⟨58, _⟩ => ⟨S2x1024, .f32⟩
  | .hbm, ⟨59, _⟩ => ⟨S2x1024, .f32⟩
  | .hbm, ⟨60, _⟩ => ⟨S_, .f32⟩
  | .hbm, ⟨61, _⟩ => ⟨S2x1024, .f32⟩
  | .hbm, ⟨62, _⟩ => ⟨S2x1024, .f32⟩
  | .hbm, ⟨63, _⟩ => ⟨S_, .f32⟩
  | .hbm, ⟨64, _⟩ => ⟨S2x1024, .f32⟩
  | .hbm, ⟨65, _⟩ => ⟨S2x1024, .f32⟩
  | .hbm, ⟨66, _⟩ => ⟨S2x1024, .f32⟩
  | .hbm, ⟨67, _⟩ => ⟨S_, .f32⟩
  | .hbm, ⟨68, _⟩ => ⟨S2x1024, .f32⟩
  | .hbm, ⟨69, _⟩ => ⟨S2x1024, .f32⟩
  | .hbm, ⟨70, _⟩ => ⟨S2x1024, .f32⟩
  | .hbm, ⟨71, _⟩ => ⟨S_, .f32⟩
  | .hbm, ⟨72, _⟩ => ⟨S2x1024, .f32⟩
  | .hbm, ⟨73, _⟩ => ⟨S2x1024, .f32⟩
  | .hbm, ⟨74, _⟩ => ⟨S2x1024, .f32⟩
  | .hbm, ⟨75, _⟩ => ⟨S_, .f32⟩
  | .hbm, ⟨76, _⟩ => ⟨S2x1024, .f32⟩
  | .hbm, ⟨77, _⟩ => ⟨S2x1024, .f32⟩
  | .hbm, ⟨78, _⟩ => ⟨S_, .f32⟩
  | .hbm, ⟨79, _⟩ => ⟨S2x1024, .f32⟩
  | .hbm, ⟨80, _⟩ => ⟨S2x1024, .f32⟩
  | .hbm, ⟨81, _⟩ => ⟨S_, .f32⟩
  | .hbm, ⟨82, _⟩ => ⟨S2x1024, .f32⟩
  | .hbm, ⟨83, _⟩ => ⟨S2x1024, .f32⟩
  | .hbm, ⟨84, _⟩ => ⟨S2x1024, .f32⟩
  | .hbm, ⟨85, _⟩ => ⟨S_, .f32⟩
  | .hbm, ⟨86, _⟩ => ⟨S2x1024, .f32⟩
  | .hbm, ⟨87, _⟩ => ⟨S2x1024, .f32⟩
  | .hbm, ⟨88, _⟩ => ⟨S2x1024, .f32⟩
  | .hbm, ⟨89, _⟩ => ⟨S_, .f32⟩
  | .hbm, ⟨90, _⟩ => ⟨S2x1024, .f32⟩
  | .hbm, ⟨91, _⟩ => ⟨S2x1024, .f32⟩
  | .hbm, ⟨92, _⟩ => ⟨S2x1024, .f32⟩
  | .hbm, ⟨93, _⟩ => ⟨S_, .f32⟩
  | .hbm, ⟨94, _⟩ => ⟨S2x1024, .f32⟩
  | .hbm, ⟨95, _⟩ => ⟨S2x1024, .f32⟩
  | .hbm, ⟨96, _⟩ => ⟨S_, .f32⟩
  | .hbm, ⟨97, _⟩ => ⟨S2x1024, .f32⟩
  | .hbm, ⟨98, _⟩ => ⟨S2x1024, .f32⟩
  | .hbm, ⟨99, _⟩ => ⟨S2x1024, .f32⟩
  | .hbm, ⟨100, _⟩ => ⟨S_, .f32⟩
  | .hbm, ⟨101, _⟩ => ⟨S2x1024, .f32⟩
  | .hbm, ⟨102, _⟩ => ⟨S2x1024, .f32⟩
  | .hbm, ⟨103, _⟩ => ⟨S2x1024, .f32⟩
  | .hbm, ⟨104, _⟩ => ⟨S_, .f32⟩
  | .hbm, ⟨105, _⟩ => ⟨S2x1024, .f32⟩
  | .hbm, ⟨106, _⟩ => ⟨S2x1024, .f32⟩
  | .hbm, ⟨107, _⟩ => ⟨S2x1024, .f32⟩
  | .hbm, ⟨108, _⟩ => ⟨S_, .f32⟩
  | .hbm, ⟨109, _⟩ => ⟨S2x1024, .f32⟩
  | .hbm, ⟨110, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Sadd.lean ====
abbrev S2x1024 : Shape := ⟨2, ![2, 1024]⟩
abbrev S2x3x32 : Shape := ⟨3, ![2, 3, 32]⟩
abbrev S2x31x32 : Shape := ⟨3, ![2, 31, 32]⟩

abbrev nBuf : Space → Nat
  | .hbm => 21
  | .vmem => 21
  | .smem => 0
  | _ => 0

abbrev bufTy : (tb : Table) → Fin (tcTables nBuf tb) → BufTy
  | .hbm, ⟨0, _⟩ => ⟨S2x1024, .f32⟩
  | .hbm, ⟨1, _⟩ => ⟨S2x3x32, .f32⟩
  | .hbm, ⟨2, _⟩ => ⟨S2x31x32, .f32⟩
  | .hbm, ⟨3, _⟩ => ⟨S2x1024, .f32⟩
  | .hbm, ⟨4, _⟩ => ⟨S2x3x32, .f32⟩
  | .hbm, ⟨5, _⟩ => ⟨S2x31x32, .f32⟩
  | .hbm, ⟨6, _⟩ => ⟨S2x1024, .f32⟩
  | .hbm, ⟨7, _⟩ => ⟨S2x3x32, .f32⟩
  | .hbm, ⟨8, _⟩ => ⟨S2x31x32, .f32⟩
  | .hbm, ⟨9, _⟩ => ⟨S2x1024, .f32⟩
  | .hbm, ⟨10, _⟩ => ⟨S2x3x32, .f32⟩
  | .hbm, ⟨11, _⟩ => ⟨S2x31x32, .f32⟩
  | .hbm, ⟨12, _⟩ => ⟨S2x1024, .f32⟩
  | .hbm, ⟨13, _⟩ => ⟨S2x3x32, .f32⟩
  | .hbm, ⟨14, _⟩ => ⟨S2x31x32, .f32⟩
  | .hbm, ⟨15, _⟩ => ⟨S2x1024, .f32⟩
  | .hbm, ⟨16, _⟩ => ⟨S2x3x32, .f32⟩
  | .hbm, ⟨17, _⟩ => ⟨S2x31x32, .f32⟩
  | .hbm, ⟨18, _⟩ => ⟨S2x1024, .f32⟩
  | .hbm, ⟨19, _⟩ => ⟨S2x3x32, .f32⟩
  | .hbm, ⟨20, _⟩ => ⟨S2x31x32, .f32⟩
  | .local _ .vmem, ⟨0, _⟩ => ⟨S2x1024, .f32⟩
  | .local _ .vmem, ⟨1, _⟩ => ⟨S2x3x32, .f32⟩
  | .local _ .vmem, ⟨2, _⟩ => ⟨S2x31x32, .f32⟩
  | .local _ .vmem, ⟨3, _⟩ => ⟨S2x1024, .f32⟩
  | .local _ .vmem, ⟨4, _⟩ => ⟨S2x3x32, .f32⟩
  | .local _ .vmem, ⟨5, _⟩ => ⟨S2x31x32, .f32⟩
  | .local _ .vmem, ⟨6, _⟩ => ⟨S2x1024, .f32⟩
  | .local _ .vmem, ⟨7, _⟩ => ⟨S2x3x32, .f32⟩
  | .local _ .vmem, ⟨8, _⟩ => ⟨S2x31x32, .f32⟩
  | .local _ .vmem, ⟨9, _⟩ => ⟨S2x1024, .f32⟩
  | .local _ .vmem, ⟨10, _⟩ => ⟨S2x3x32, .f32⟩
  | .local _ .vmem, ⟨11, _⟩ => ⟨S2x31x32, .f32⟩
  | .local _ .vmem, ⟨12, _⟩ => ⟨S2x1024, .f32⟩
  | .local _ .vmem, ⟨13, _⟩ => ⟨S2x3x32, .f32⟩
  | .local _ .vmem, ⟨14, _⟩ => ⟨S2x31x32, .f32⟩
  | .local _ .vmem, ⟨15, _⟩ => ⟨S2x1024, .f32⟩
  | .local _ .vmem, ⟨16, _⟩ => ⟨S2x3x32, .f32⟩
  | .local _ .vmem, ⟨17, _⟩ => ⟨S2x31x32, .f32⟩
  | .local _ .vmem, ⟨18, _⟩ => ⟨S2x1024, .f32⟩
  | .local _ .vmem, ⟨19, _⟩ => ⟨S2x3x32, .f32⟩
  | .local _ .vmem, ⟨20, _⟩ => ⟨S2x31x32, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x31x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x31x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x3x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x31x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x3x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x31x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x3x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x31x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x3x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x31x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x3x32 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x31x32 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== SaddRefIdeal.lean ====
abbrev S2x1024 : Shape := ⟨2, ![2, 1024]⟩
abbrev S2x3x32 : Shape := ⟨3, ![2, 3, 32]⟩
abbrev S2x31x32 : Shape := ⟨3, ![2, 31, 32]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x3x32, .f32⟩
  | .hbm, ⟨2, _⟩ => ⟨S2x31x32, .f32⟩
  | .hbm, ⟨3, _⟩ => ⟨S2x1024, .f32⟩
  | .hbm, ⟨4, _⟩ => ⟨S2x3x32, .f32⟩
  | .hbm, ⟨5, _⟩ => ⟨S2x31x32, .f32⟩
  | .hbm, ⟨6, _⟩ => ⟨S2x1024, .f32⟩
  | .hbm, ⟨7, _⟩ => ⟨S2x3x32, .f32⟩
  | .hbm, ⟨8, _⟩ => ⟨S2x31x32, .f32⟩
  | .hbm, ⟨9, _⟩ => ⟨S2x1024, .f32⟩
  | .hbm, ⟨10, _⟩ => ⟨S2x3x32, .f32⟩
  | .hbm, ⟨11, _⟩ => ⟨S2x31x32, .f32⟩
  | .hbm, ⟨12, _⟩ => ⟨S_, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S_, .f32⟩
  | .hbm, ⟨24, _⟩ => ⟨S2x1024, .f32⟩
  | .hbm, ⟨25, _⟩ => ⟨S2x1024, .f32⟩
  | .hbm, ⟨26, _⟩ => ⟨S2x1024, .f32⟩
  | .hbm, ⟨27, _⟩ => ⟨S_, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | .hbm, ⟨37, _⟩ => ⟨S2x1024, .f32⟩
  | .hbm, ⟨38, _⟩ => ⟨S_, .f32⟩
  | .hbm, ⟨39, _⟩ => ⟨S2x1024, .f32⟩
  | .hbm, ⟨40, _⟩ => ⟨S2x1024, .f32⟩
  | .hbm, ⟨41, _⟩ => ⟨S2x1024, .f32⟩
  | .hbm, ⟨42, _⟩ => ⟨S_, .f32⟩
  | .hbm, ⟨43, _⟩ => ⟨S2x1024, .f32⟩
  | .hbm, ⟨44, _⟩ => ⟨S2x1024, .f32⟩
  | .hbm, ⟨45, _⟩ => ⟨S_, .f32⟩
  | .hbm, ⟨46, _⟩ => ⟨S2x3x32, .f32⟩
  | .hbm, ⟨47, _⟩ => ⟨S2x3x32, .f32⟩
  | .hbm, ⟨48, _⟩ => ⟨S_, .f32⟩
  | .hbm, ⟨49, _⟩ => ⟨S2x3x32, .f32⟩
  | .hbm, ⟨50, _⟩ => ⟨S2x3x32, .f32⟩
  | .hbm, ⟨51, _⟩ => ⟨S2x3x32, .f32⟩
  | .hbm, ⟨52, _⟩ => ⟨S_, .f32⟩
  | .hbm, ⟨53, _⟩ => ⟨S2x3x32, .f32⟩
  | .hbm, ⟨54, _⟩ => ⟨S2x3x32, .f32⟩
  | .hbm, ⟨55, _⟩ => ⟨S2x3x32, .f32⟩
  | .hbm, ⟨56, _⟩ => ⟨S_, .f32⟩
  | .hbm, ⟨57, _⟩ => ⟨S2x3x32, .f32⟩
  | .hbm, ⟨58, _⟩ => ⟨S2x3x32, .f32⟩
  | .hbm, ⟨59, _⟩ => ⟨S2x3x32, .f32⟩
  | .hbm, ⟨60, _⟩ => ⟨S_, .f32⟩
  | .hbm, ⟨61, _⟩ => ⟨S2x3x32, .f32⟩
  | .hbm, ⟨62, _⟩ => ⟨S2x3x32, .f32⟩
  | .hbm, ⟨63, _⟩ => ⟨S_, .f32⟩
  | .hbm, ⟨64, _⟩ => ⟨S2x3x32, .f32⟩
  | .hbm, ⟨65, _⟩ => ⟨S2x3x32, .f32⟩
  | .hbm, ⟨66, _⟩ => ⟨S2x3x32, .f32⟩
  | .hbm, ⟨67, _⟩ => ⟨S_, .f32⟩
  | .hbm, ⟨68, _⟩ => ⟨S2x3x32, .f32⟩
  | .hbm, ⟨69, _⟩ => ⟨S2x3x32, .f32⟩
  | .hbm, ⟨70, _⟩ => ⟨S2x3x32, .f32⟩
  | .hbm, ⟨71, _⟩ => ⟨S_, .f32⟩
  | .hbm, ⟨72, _⟩ => ⟨S2x3x32, .f32⟩
  | .hbm, ⟨73, _⟩ => ⟨S2x3x32, .f32⟩
  | .hbm, ⟨74, _⟩ => ⟨S2x3x32, .f32⟩
  | .hbm, ⟨75, _⟩ => ⟨S_, .f32⟩
  | .hbm, ⟨76, _⟩ => ⟨S2x3x32, .f32⟩
  | .hbm, ⟨77, _⟩ => ⟨S2x3x32, .f32⟩
  | .hbm, ⟨78, _⟩ => ⟨S_, .f32⟩
  | .hbm, ⟨79, _⟩ => ⟨S2x31x32, .f32⟩
  | .hbm, ⟨80, _⟩ => ⟨S2x31x32, .f32⟩
  | .hbm, ⟨81, _⟩ => ⟨S_, .f32⟩
  | .hbm, ⟨82, _⟩ => ⟨S2x31x32, .f32⟩
  | .hbm, ⟨83, _⟩ => ⟨S2x31x32, .f32⟩
  | .hbm, ⟨84, _⟩ => ⟨S2x31x32, .f32⟩
  | .hbm, ⟨85, _⟩ => ⟨S_, .f32⟩
  | .hbm, ⟨86, _⟩ => ⟨S2x31x32, .f32⟩
  | .hbm, ⟨87, _⟩ => ⟨S2x31x32, .f32⟩
  | .hbm, ⟨88, _⟩ => ⟨S2x31x32, .f32⟩
  | .hbm, ⟨89, _⟩ => ⟨S_, .f32⟩
  | .hbm, ⟨90, _⟩ => ⟨S2x31x32, .f32⟩
  | .hbm, ⟨91, _⟩ => ⟨S2x31x32, .f32⟩
  | .hbm, ⟨92, _⟩ => ⟨S2x31x32, .f32⟩
  | .hbm, ⟨93, _⟩ => ⟨S_, .f32⟩
  | .hbm, ⟨94, _⟩ => ⟨S2x31x32, .f32⟩
  | .hbm, ⟨95, _⟩ => ⟨S2x31x32, .f32⟩
  | .hbm, ⟨96, _⟩ => ⟨S_, .f32⟩
  | .hbm, ⟨97, _⟩ => ⟨S2x31x32, .f32⟩
  | .hbm, ⟨98, _⟩ => ⟨S2x31x32, .f32⟩
  | .hbm, ⟨99, _⟩ => ⟨S2x31x32, .f32⟩
  | .hbm, ⟨100, _⟩ => ⟨S_, .f32⟩
  | .hbm, ⟨101, _⟩ => ⟨S2x31x32, .f32⟩
  | .hbm, ⟨102, _⟩ => ⟨S2x31x32, .f32⟩
  | .hbm, ⟨103, _⟩ => ⟨S2x31x32, .f32⟩
  | .hbm, ⟨104, _⟩ => ⟨S_, .f32⟩
  | .hbm, ⟨105, _⟩ => ⟨S2x31x32, .f32⟩
  | .hbm, ⟨106, _⟩ => ⟨S2x31x32, .f32⟩
  | .hbm, ⟨107, _⟩ => ⟨S2x31x32, .f32⟩
  | .hbm, ⟨108, _⟩ => ⟨S_, .f32⟩
  | .hbm, ⟨109, _⟩ => ⟨S2x31x32, .f32⟩
  | .hbm, ⟨110, _⟩ => ⟨S2x31x32, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Ssum.lean ====
abbrev S8x248x128 : Shape := ⟨3, ![8, 248, 128]⟩
abbrev S248x128 : Shape := ⟨2, ![248, 128]⟩
abbrev S1x248x128 : Shape := ⟨3, ![1, 248, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x248x128, .f32⟩
  | .hbm, ⟨1, _⟩ => ⟨S248x128, .f32⟩
  | .local _ .vmem, ⟨0, _⟩ => ⟨S8x248x128, .f32⟩
  | .local _ .vmem, ⟨1, _⟩ => ⟨S248x128, .f32⟩
  | _, _ => ⟨S8x248x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x248x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S248x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SsumRefIdeal.lean ====
abbrev S8x248x128 : Shape := ⟨3, ![8, 248, 128]⟩
abbrev S_ : Shape := ⟨0, ![]⟩
abbrev S248x128 : Shape := ⟨2, ![248, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x248x128, .f32⟩
  | .hbm, ⟨1, _⟩ => ⟨S_, .f32⟩
  | .hbm, ⟨2, _⟩ => ⟨S248x128, .f32⟩
  | _, _ => ⟨S8x248x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Mixf.lean ====
abbrev S8192x2048 : Shape := ⟨2, ![8192, 2048]⟩
abbrev S3x256 : Shape := ⟨2, ![3, 256]⟩
abbrev S31x256 : Shape := ⟨2, ![31, 256]⟩
abbrev S256 : Shape := ⟨1, ![256]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S8192x128 : Shape := ⟨2, ![8192, 128]⟩
abbrev S64 : Shape := ⟨1, ![64]⟩
abbrev S1x64 : Shape := ⟨2, ![1, 64]⟩
abbrev S2x64 : Shape := ⟨2, ![2, 64]⟩
abbrev S1x256 : Shape := ⟨2, ![1, 256]⟩
abbrev S8192x256 : Shape := ⟨2, ![8192, 256]⟩
abbrev S8192x512 : Shape := ⟨2, ![8192, 512]⟩
abbrev S512x2048 : Shape := ⟨2, ![512, 2048]⟩
abbrev S16x2048 : Shape := ⟨2, ![16, 2048]⟩
abbrev S512x128 : Shape := ⟨2, ![512, 128]⟩
abbrev S512x256 : Shape := ⟨2, ![512, 256]⟩
abbrev S512x512 : Shape := ⟨2, ![512, 512]⟩
abbrev S544x256 : Shape := ⟨2, ![544, 256]⟩
abbrev S8x136x256 : Shape := ⟨3, ![8, 136, 256]⟩
abbrev S16x256 : Shape := ⟨2, ![16, 256]⟩
abbrev S136x256 : Shape := ⟨2, ![136, 256]⟩
abbrev S1x136x256 : Shape := ⟨3, ![1, 136, 256]⟩
abbrev S1x128x256 : Shape := ⟨3, ![1, 128, 256]⟩
abbrev S128x256 : Shape := ⟨2, ![128, 256]⟩
abbrev S128x1 : Shape := ⟨2, ![128, 1]⟩

abbrev nBuf : Space → Nat
  | .hbm => 47
  | .vmem => 30
  | .smem => 0
  | _ => 0

abbrev bufTy : (tb : Table) → Fin (tcTables nBuf tb) → BufTy
  | .hbm, ⟨0, _⟩ => ⟨S8192x2048, .f32⟩
  | .hbm, ⟨1, _⟩ => ⟨S3x256, .f32⟩
  | .hbm, ⟨2, _⟩ => ⟨S31x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8192, .i32⟩
  | .hbm, ⟨15, _⟩ => ⟨S8192, .f32⟩
  | .hbm, ⟨16, _⟩ => ⟨S8192x1, .f32⟩
  | .hbm, ⟨17, _⟩ => ⟨S1x32, .f32⟩
  | .hbm, ⟨18, _⟩ => ⟨S4x32, .f32⟩
  | .hbm, ⟨19, _⟩ => ⟨S128, .f32⟩
  | .hbm, ⟨20, _⟩ => ⟨S1x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S64, .f32⟩
  | .hbm, ⟨30, _⟩ => ⟨S1x64, .f32⟩
  | .hbm, ⟨31, _⟩ => ⟨S2x64, .f32⟩
  | .hbm, ⟨32, _⟩ => ⟨S128, .f32⟩
  | .hbm, ⟨33, _⟩ => ⟨S8192x128, .f32⟩
  | .hbm, ⟨34, _⟩ => ⟨S8192x128, .f32⟩
  | .hbm, ⟨35, _⟩ => ⟨S1x128, .f32⟩
  | .hbm, ⟨36, _⟩ => ⟨S8192x128, .f32⟩
  | .hbm, ⟨37, _⟩ => ⟨S8192x128, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S8192x256, .bf16⟩
  | .hbm, ⟨42, _⟩ => ⟨S8192x256, .bf16⟩
  | .hbm, ⟨43, _⟩ => ⟨S8192x256, .f32⟩
  | .hbm, ⟨44, _⟩ => ⟨S8192x512, .bf16⟩
  | .hbm, ⟨45, _⟩ => ⟨S8192x128, .bf16⟩
  | .hbm, ⟨46, _⟩ => ⟨S8192x128, .bf16⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S3x256, .f32⟩
  | .local _ .vmem, ⟨7, _⟩ => ⟨S31x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .f32⟩
  | .local _ .vmem, ⟨20, _⟩ => ⟨S512x256, .f32⟩
  | .local _ .vmem, ⟨21, _⟩ => ⟨S512x512, .bf16⟩
  | .local _ .vmem, ⟨22, _⟩ => ⟨S512x512, .bf16⟩
  | .local _ .vmem, ⟨23, _⟩ => ⟨S512x128, .bf16⟩
  | .local _ .vmem, ⟨24, _⟩ => ⟨S512x128, .bf16⟩
  | .local _ .vmem, ⟨25, _⟩ => ⟨S512x128, .bf16⟩
  | .local _ .vmem, ⟨26, _⟩ => ⟨S512x128, .bf16⟩
  | .local _ .vmem, ⟨27, _⟩ => ⟨S544x256, .f32⟩
  | .local _ .vmem, ⟨28, _⟩ => ⟨S544x256, .f32⟩
  | .local _ .vmem, ⟨29, _⟩ => ⟨S8x136x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31_0 : Ref sig .tc := ⟨.hbm, 41, rfl⟩
abbrev main_v31_1 : Ref sig .tc := ⟨.hbm, 42, rfl⟩
abbrev main_v31_2 : Ref sig .tc := ⟨.hbm, 43, rfl⟩
abbrev main_v31_3 : Ref sig .tc := ⟨.hbm, 44, rfl⟩
abbrev main_v31_4 : Ref sig .tc := ⟨.hbm, 45, rfl⟩
abbrev main_v31_5 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixfRefIdeal.lean ====
abbrev S8192x2048 : Shape := ⟨2, ![8192, 2048]⟩
abbrev S3x256 : Shape := ⟨2, ![3, 256]⟩
abbrev S31x256 : Shape := ⟨2, ![31, 256]⟩
abbrev S256 : Shape := ⟨1, ![256]⟩
abbrev S8192x512 : Shape := ⟨2, ![8192, 512]⟩
abbrev S8192x128 : Shape := ⟨2, ![8192, 128]⟩
abbrev S8192x8x64 : Shape := ⟨3, ![8192, 8, 64]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x8x32 : Shape := ⟨3, ![8192, 8, 32]⟩
abbrev S8192x2x64 : Shape := ⟨3, ![8192, 2, 64]⟩
abbrev S8192x2x32 : Shape := ⟨3, ![8192, 2, 32]⟩

abbrev nBuf : Space → Nat
  | .hbm => 83
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S3x256, .f32⟩
  | .hbm, ⟨2, _⟩ => ⟨S31x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S8192x512, .f32⟩
  | .hbm, ⟨7, _⟩ => ⟨S8192x128, .f32⟩
  | .hbm, ⟨8, _⟩ => ⟨S8192x128, .f32⟩
  | .hbm, ⟨9, _⟩ => ⟨S8192x8x64, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8192, .i32⟩
  | .hbm, ⟨19, _⟩ => ⟨S8192, .f32⟩
  | .hbm, ⟨20, _⟩ => ⟨S8192x1, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x1x32, .f32⟩
  | .hbm, ⟨27, _⟩ => ⟨S8192x32, .f32⟩
  | .hbm, ⟨28, _⟩ => ⟨S8192x1x32, .f32⟩
  | .hbm, ⟨29, _⟩ => ⟨S8192x8x32, .f32⟩
  | .hbm, ⟨30, _⟩ => ⟨S8192x8x32, .f32⟩
  | .hbm, ⟨31, _⟩ => ⟨S8192x8x32, .f32⟩
  | .hbm, ⟨32, _⟩ => ⟨S8192x8x32, .f32⟩
  | .hbm, ⟨33, _⟩ => ⟨S8192x8x32, .f32⟩
  | .hbm, ⟨34, _⟩ => ⟨S8192x8x32, .f32⟩
  | .hbm, ⟨35, _⟩ => ⟨S8192x8x32, .f32⟩
  | .hbm, ⟨36, _⟩ => ⟨S8192x8x32, .f32⟩
  | .hbm, ⟨37, _⟩ => ⟨S8192x8x32, .f32⟩
  | .hbm, ⟨38, _⟩ => ⟨S8192x8x32, .f32⟩
  | .hbm, ⟨39, _⟩ => ⟨S8192x8x32, .f32⟩
  | .hbm, ⟨40, _⟩ => ⟨S8192x8x32, .f32⟩
  | .hbm, ⟨41, _⟩ => ⟨S8192x8x64, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S8192x512, .bf16⟩
  | .hbm, ⟨47, _⟩ => ⟨S8192x2x64, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S8192, .i32⟩
  | .hbm, ⟨57, _⟩ => ⟨S8192, .f32⟩
  | .hbm, ⟨58, _⟩ => ⟨S8192x1, .f32⟩
  | .hbm, ⟨59, _⟩ => ⟨S1x32, .f32⟩
  | .hbm, ⟨60, _⟩ => ⟨S8192x32, .f32⟩
  | .hbm, ⟨61, _⟩ => ⟨S8192x32, .f32⟩
  | .hbm, ⟨62, _⟩ => ⟨S8192x32, .f32⟩
  | .hbm, ⟨63, _⟩ => ⟨S8192x32, .f32⟩
  | .hbm, ⟨64, _⟩ => ⟨S8192x1x32, .f32⟩
  | .hbm, ⟨65, _⟩ => ⟨S8192x32, .f32⟩
  | .hbm, ⟨66, _⟩ => ⟨S8192x1x32, .f32⟩
  | .hbm, ⟨67, _⟩ => ⟨S8192x2x32, .f32⟩
  | .hbm, ⟨68, _⟩ => ⟨S8192x2x32, .f32⟩
  | .hbm, ⟨69, _⟩ => ⟨S8192x2x32, .f32⟩
  | .hbm, ⟨70, _⟩ => ⟨S8192x2x32, .f32⟩
  | .hbm, ⟨71, _⟩ => ⟨S8192x2x32, .f32⟩
  | .hbm, ⟨72, _⟩ => ⟨S8192x2x32, .f32⟩
  | .hbm, ⟨73, _⟩ => ⟨S8192x2x32, .f32⟩
  | .hbm, ⟨74, _⟩ => ⟨S8192x2x32, .f32⟩
  | .hbm, ⟨75, _⟩ => ⟨S8192x2x32, .f32⟩
  | .hbm, ⟨76, _⟩ => ⟨S8192x2x32, .f32⟩
  | .hbm, ⟨77, _⟩ => ⟨S8192x2x32, .f32⟩
  | .hbm, ⟨78, _⟩ => ⟨S8192x2x32, .f32⟩
  | .hbm, ⟨79, _⟩ => ⟨S8192x2x64, .f32⟩
  | .hbm, ⟨80, _⟩ => ⟨S8192x128, .f32⟩
  | .hbm, ⟨81, _⟩ => ⟨S8192x128, .bf16⟩
  | .hbm, ⟨82, _⟩ => ⟨S8192x128, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_1 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩

abbrev nD : Nat := 1
abbrev τ : Topo := Topo.v7x

variable {F : FTy → Type} [FloatOps F]
-- ==== Proof.Reals.lean ====
/- Extended reals that are finite, and the layer normalisation's gradient over the reals. -/
module

public import Idealize.ShloMosaic.PureOps.Ideal
public import Mathlib.Analysis.SpecialFunctions.Pow.Real
public import Mathlib.Tactic.Ring
public import Mathlib.Tactic.FieldSimp

@[expose] public section

noncomputable section

namespace Cert.Reals

open Idealize.ShloMosaic
open scoped BigOperators

/-- The sum of two reals read as extended reals. -/
theorem add_coe (a b : ℝ) : (a : EReal) + (b : EReal) = ((a + b : ℝ) : EReal) := (EReal.coe_add a b).symm

/-- The product of two reals read as extended reals. -/
theorem mul_coe (a b : ℝ) : (a : EReal) * (b : EReal) = ((a * b : ℝ) : EReal) := (EReal.coe_mul a b).symm

/-- The difference of two reals read as extended reals. -/
theorem sub_coe (a b : ℝ) : (a : EReal) - (b : EReal) = ((a - b : ℝ) : EReal) := (EReal.coe_sub a b).symm

/-- The negation of a real read as an extended real. -/
theorem neg_coe (a : ℝ) : -(a : EReal) = ((-a : ℝ) : EReal) := (EReal.coe_neg a).symm

/-- A finite sum of reals read as extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, add_coe]

/-- The quotient of two reals, the divisor not zero. -/
theorem div_coe (a b : ℝ) (hb : b ≠ 0) : Ideal.div (a : EReal) (b : EReal) = ((a / b : ℝ) : EReal) := by
  have h : (b : EReal) ≠ 0 := by exact_mod_cast hb
  rw [Ideal.div, if_neg h, ← EReal.coe_inv, mul_coe, div_eq_mul_inv]

/-- The exponential of a real. -/
theorem exp_coe (a : ℝ) : Ideal.exp (a : EReal) = ((Real.exp a : ℝ) : EReal) := rfl

/-- The logistic function of a real. -/
def sg (a : ℝ) : ℝ := 1 / (1 + Real.exp (-a))

/-- The quotient that spells the logistic function, at a real. -/
theorem logistic_coe (a : ℝ) : Ideal.div 1 (1 + Ideal.exp (-(a : EReal))) = ((sg a : ℝ) : EReal) := by
  rw [neg_coe, exp_coe, ← EReal.coe_one, add_coe, div_coe _ _ (by positivity)]; rfl

/-- The reciprocal square root of a positive real. -/
theorem rsqrt_coe (a : ℝ) (ha : 0 < a) : Ideal.rsqrt (a : EReal) = (((Real.sqrt a)⁻¹ : ℝ) : EReal) := by
  have h0 : ¬ a < 0 := not_lt.mpr ha.le
  show (if a < 0 then (⊥ : EReal) else if a = 0 then ⊤ else (((Real.sqrt a)⁻¹ : ℝ) : EReal)) = _
  rw [if_neg h0, if_neg ha.ne']

/-- An extended real that is neither infinity is a real. -/
theorem exists_real (x : EReal) (h : max x (-x) < ⊤) : ∃ r : ℝ, x = (r : EReal) := by
  induction x using EReal.rec with
  | bot => simp at h
  | coe r => exact ⟨r, rfl⟩
  | top => simp at h

/-! ## Layer normalisation over the reals -/

variable {n : ℕ} (N e : ℝ) (r : Fin n → ℝ)

/-- The mean of a row. -/
def mean (f : Fin n → ℝ) : ℝ := (∑ k, f k) / N

/-- A row less its mean. -/
def cen (k : Fin n) : ℝ := r k - mean N r

/-- The variance of a row. -/
def var : ℝ := mean N fun k => cen N r k * cen N r k

/-- The reciprocal standard deviation of a row. -/
def rstd : ℝ := (Real.sqrt (var N r + e))⁻¹

/-- The normalised row. -/
def xhat (k : Fin n) : ℝ := cen N r k * rstd N e r

/-- The gradient of the row, from the gradient `d` of the normalised row. -/
def dnorm (d : Fin n → ℝ) (k : Fin n) : ℝ :=
  rstd N e r * (d k - mean N d - xhat N e r k * mean N fun k => d k * xhat N e r k)

theorem var_nonneg (hN : 0 < N) : 0 ≤ var N r := by
  unfold var mean
  exact div_nonneg (Finset.sum_nonneg fun k _ => mul_self_nonneg _) hN.le

theorem sum_cen (hn : (n : ℝ) = N) (hN : 0 < N) : ∑ k, cen N r k = 0 := by
  unfold cen mean
  rw [Finset.sum_sub_distrib, Finset.sum_const, Finset.card_univ, Fintype.card_fin, nsmul_eq_mul, hn]
  field_simp; ring

/-- The chain rule through the variance, the mean and the normalised row gives the closed form. -/
theorem chain (hn : (n : ℝ) = N) (hN : 0 < N) (he : 0 < e) (d : Fin n → ℝ) (k : Fin n) :
    (d k * rstd N e r
        + ((∑ k, cen N r k * d k) * (-(1 / 2) * (rstd N e r / (var N r + e))) / N) * (2 * cen N r k))
      + ((∑ k, -(d k * rstd N e r))
          + ∑ k, -(((∑ k, cen N r k * d k) * (-(1 / 2) * (rstd N e r / (var N r + e))) / N) * (2 * cen N r k))) / N
    = dnorm N e r d k := by
  have hw : 0 < var N r + e := add_pos_of_nonneg_of_pos (var_nonneg N r hN) he
  have hs : rstd N e r / (var N r + e) = rstd N e r * rstd N e r * rstd N e r := by
    have : rstd N e r * rstd N e r = (var N r + e)⁻¹ := by
      unfold rstd; rw [← mul_inv, Real.mul_self_sqrt hw.le]
    rw [this, div_eq_mul_inv, mul_comm]
  have h0 : ∑ k, -(((∑ k, cen N r k * d k) * (-(1 / 2) * (rstd N e r / (var N r + e))) / N) * (2 * cen N r k)) = 0 := by
    rw [Finset.sum_neg_distrib, ← Finset.mul_sum, ← Finset.mul_sum, sum_cen N r hn hN]; simp
  have h1 : ∑ k, -(d k * rstd N e r) = -((∑ k, d k) * rstd N e r) := by
    rw [Finset.sum_neg_distrib, Finset.sum_mul]
  have h2 : ∑ k, d k * xhat N e r k = (∑ k, cen N r k * d k) * rstd N e r := by
    rw [Finset.sum_mul]; refine Finset.sum_congr rfl fun k _ => ?_; unfold xhat; ring
  rw [h0, h1, hs]
  unfold dnorm mean
  rw [h2]; unfold xhat
  generalize ∑ k, cen N r k * d k = A
  generalize ∑ k, d k = B
  ring

end Cert.Reals

end
-- ==== Proof.Finite.lean ====
/- What the precondition says: the arrays it names hold real numbers. -/
module

public import proofs.«01_k».proof.Proof.Gen.Pre_ffn_finite
public import proofs.«01_k».proof.Proof.Reals
public import Idealize.ShloMosaic.Lib.Pipeline.ValueKit
public import Idealize.ShloMosaic.Lib.IdealHost

@[expose] public section

noncomputable section

namespace Cert.Finite

open Idealize.ShloMosaic

/-- Of single bits, a conjunction is one exactly when both are. -/
theorem and_bits (a b : BitVec 1) : IntOp.andi a b = 1#1 ↔ a = 1#1 ∧ b = 1#1 := by
  revert a b; decide

/-- A fold of conjunctions that ends at one met only ones. -/
theorem foldl_bits {α : Type} (f : α → BitVec 1) (l : List α) : ∀ b : BitVec 1,
    l.foldl (fun r n => IntOp.andi r (f n)) b = 1#1 → ∀ n ∈ l, f n = 1#1 := by
  induction l with
  | nil => intro b _ n hn; simp at hn
  | cons a l ih =>
    intro b hb n hn
    rcases List.mem_cons.1 hn with rfl | hn
    · have key : ∀ (l : List α) (b : BitVec 1), l.foldl (fun r n => IntOp.andi r (f n)) b = 1#1 → b = 1#1 := by
        intro l
        induction l with
        | nil => intro b h; exact h
        | cons a l ih => intro b h; exact ((and_bits _ _).1 (ih _ h)).1
      exact ((and_bits _ _).1 (key l _ hb)).2
    · exact ih _ hb n hn

/-- A conjunction over a whole array that is one says that every element is one. -/
theorem reduce_bits {s t u : Shape} {axes : List (Fin s.rank)} (x : IVec s 1) (v : IVec u 1) (hr : s.ReducesTo axes t)
    (hu : 0 < u.numel) (ht : ∀ a b : t.Idx, a = b) (j : t.Idx)
    (e : Host.reduce IntOp.andi x v hr hu j = 1#1) (i : s.Idx) : x i = 1#1 := by
  have := foldl_bits (fun n => x (s.rowMajor.symm n)) _ _ e (s.rowMajor i)
    (List.mem_filter.2 ⟨List.mem_finRange _, by simpa using ht _ _⟩)
  simpa using this

/-- The word of infinity. -/
theorem ofBits_inf : (FloatOps.ofBits (F := Ideal) .f32 0x7F800000#32 : EReal) = ⊤ := by
  simp [FloatOps.ofBits, Ideal.ofBits, Ideal.ieee]

/-- An array whose absolute values are all below infinity holds reals. -/
theorem real_of_lt {s t u v : Shape} {axes : List (Fin s.rank)} {d : Fin u.rank → Fin s.rank} (a : FVec Ideal s .f32)
    (hb : u.BroadcastsInDim s d) (o : IVec v 1) (hr : s.ReducesTo axes t) (hv : 0 < v.numel) (ht : ∀ a b : t.Idx, a = b) (j : t.Idx)
    (e : Host.reduce IntOp.andi (cmpf .olt (Host.absf a) (broadcastInDim s d hb (constant u .f32 0x7F800000#32))) o hr hv j = 1#1)
    (i : s.Idx) : ∃ r : ℝ, a i = ((r : ℝ) : EReal) := by
  have h := reduce_bits _ _ hr hv ht j e i
  refine Cert.Reals.exists_real _ ?_
  by_contra hn
  have h2 : (Ideal.cmp .olt (max (a i) (-(a i))) (FloatOps.ofBits (F := Ideal) .f32 0x7F800000#32) : BitVec 1) = 1#1 := h
  rw [ofBits_inf] at h2
  simp [Ideal.cmp, hn] at h2

end Cert.Finite

namespace Cert.Pre_ffn_finite

open Idealize.ShloMosaic

/-- Where it holds, five of the six arrays hold reals. -/
theorem real (a0 : FVec Ideal S8192x1024 .f32) (a1 : FVec Ideal S1024x5632 .f32) (a2 : FVec Ideal S2816x1024 .f32)
    (a3 a4 : FVec Ideal S1024 .f32) (a5 : FVec Ideal S8192x1024 .f32)
    (e : fn (F := Ideal) a0 a1 a2 a3 a4 a5 = fun _ => 1#1) :
    (∀ i, ∃ r : ℝ, a0 i = ((r : ℝ) : EReal)) ∧ (∀ i, ∃ r : ℝ, a1 i = ((r : ℝ) : EReal)) ∧ (∀ i, ∃ r : ℝ, a2 i = ((r : ℝ) : EReal))
      ∧ (∀ i, ∃ r : ℝ, a3 i = ((r : ℝ) : EReal)) ∧ (∀ i, ∃ r : ℝ, a5 i = ((r : ℝ) : EReal)) := by
  have ht : ∀ a b : S_.Idx, a = b := fun a b => funext fun k => k.elim0
  have e0 := congrFun e (fun k => k.elim0)
  simp only [fn, fn_part1, andi, Cert.Finite.and_bits] at e0
  obtain ⟨⟨⟨⟨h0, h1⟩, h2⟩, h3⟩, h5⟩ := e0
  exact ⟨Cert.Finite.real_of_lt a0 _ _ _ _ ht _ h0, Cert.Finite.real_of_lt a1 _ _ _ _ ht _ h1,
    Cert.Finite.real_of_lt a2 _ _ _ _ ht _ h2, Cert.Finite.real_of_lt a3 _ _ _ _ ht _ h3, Cert.Finite.real_of_lt a5 _ _ _ _ ht _ h5⟩

end Cert.Pre_ffn_finite
-- ==== Proof.FfnSpec.lean ====
/- The feed-forward block's backward pass over the reals: the closed form that both programs are shown to compute. -/
module

public import proofs.«01_k».proof.Proof.Reals

@[expose] public section

noncomputable section

namespace Cert.Reals

open Idealize.ShloMosaic

/-- The pattern of the normalisation's small constant. -/
def eps : ℝ := 10995116 * (2 : ℝ) ^ (-40 : ℤ)

/-- The pattern of the residual factor, the square root of two rounded. -/
def alpha : ℝ := 11863283 * (2 : ℝ) ^ (-23 : ℤ)

theorem ofBits_eps : Ideal.ofBits .f32 0x3727C5AC#32 = (eps : EReal) := by
  simp [Ideal.ofBits, Ideal.ieee, eps, -EReal.coe_mul]

theorem ofBits_alpha : Ideal.ofBits .f32 0x3FB504F3#32 = (alpha : EReal) := by
  simp [Ideal.ofBits, Ideal.ieee, alpha, -EReal.coe_mul]

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_two : Ideal.ofBits .f32 0x40000000#32 = ((2 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem eps_pos : 0 < eps := by unfold eps; positivity

end Cert.Reals

namespace Cert.Ffn

open Cert.Reals
open scoped BigOperators

/-! ## One row -/

/-- The gradient of a block's output before the gate's down product: half the normalisation's gradient. -/
def dr (r g dy : Fin 1024 → ℝ) : Fin 1024 → ℝ := dnorm 1024 eps r fun k => dy k * g k

/-- The gradient of the gated activation. -/
def da (wd : Fin 2816 → Fin 1024 → ℝ) (d : Fin 1024 → ℝ) (j : Fin 2816) : ℝ := ∑ k, (1 / 2 * d k) * wd j k

/-- The gate half of a row of hidden values. -/
def lo (h : Fin 5632 → ℝ) (j : Fin 2816) : ℝ := h ⟨j, by omega⟩

/-- The up half of a row of hidden values. -/
def hi (h : Fin 5632 → ℝ) (j : Fin 2816) : ℝ := h ⟨2816 + j, by omega⟩

/-- The gradient of the gate's argument. -/
def dgate (wd : Fin 2816 → Fin 1024 → ℝ) (h : Fin 5632 → ℝ) (d : Fin 1024 → ℝ) (j : Fin 2816) : ℝ :=
  da wd d j * hi h j * (sg (lo h j) * (1 + lo h j * (1 - sg (lo h j))))

/-- The gradient of the up half. -/
def dup (wd : Fin 2816 → Fin 1024 → ℝ) (h : Fin 5632 → ℝ) (d : Fin 1024 → ℝ) (j : Fin 2816) : ℝ :=
  da wd d j * (lo h j * sg (lo h j))

/-- The gradient of a row of hidden values. -/
def dh (wd : Fin 2816 → Fin 1024 → ℝ) (h : Fin 5632 → ℝ) (d : Fin 1024 → ℝ) (j : Fin 5632) : ℝ :=
  if hj : (j : ℕ) < 2816 then dgate wd h d ⟨j, hj⟩ else dup wd h d ⟨j - 2816, by omega⟩

theorem dh_lo (wd : Fin 2816 → Fin 1024 → ℝ) (h : Fin 5632 → ℝ) (d : Fin 1024 → ℝ) (j : Fin 5632) (hj : (j : ℕ) < 2816) :
    dh wd h d j = dgate wd h d ⟨j, hj⟩ := dif_pos hj

theorem dh_hi (wd : Fin 2816 → Fin 1024 → ℝ) (h : Fin 5632 → ℝ) (d : Fin 1024 → ℝ) (j : Fin 5632) (hj : ¬ (j : ℕ) < 2816) :
    dh wd h d j = dup wd h d ⟨j - 2816, by omega⟩ := dif_neg hj

/-- The gradient of a row of the block's input, from the hidden values' gradient. -/
def dx (wgu : Fin 1024 → Fin 5632 → ℝ) (b : Fin 5632 → ℝ) (d : Fin 1024 → ℝ) (k : Fin 1024) : ℝ :=
  alpha * d k + ∑ j, b j * wgu k j

/-! ## The forward values -/

/-- A row of hidden values. -/
def hid (wgu : Fin 1024 → Fin 5632 → ℝ) (x : Fin 1024 → ℝ) (j : Fin 5632) : ℝ := ∑ k, x k * wgu k j

/-- A row of the normalisation's argument. -/
def res (wgu : Fin 1024 → Fin 5632 → ℝ) (wd : Fin 2816 → Fin 1024 → ℝ) (x : Fin 1024 → ℝ) (k : Fin 1024) : ℝ :=
  alpha * x k + 1 / 2 * ∑ j, lo (hid wgu x) j * sg (lo (hid wgu x) j) * hi (hid wgu x) j * wd j k

end Cert.Ffn

end
-- ==== Proof.FfnRef.lean ====
/- The feed-forward reference's host lines at real arguments are the closed form. -/
module

public import proofs.«01_k».proof.Proof.FfnSpec
public import proofs.«01_k».proof.Proof.Gen.FfnRefIdeal.Run
public import Idealize.ShloMosaic.Lib.Pipeline.ValueKit
public import Idealize.ShloMosaic.Lib.IdealHost

@[expose] public section

set_option maxRecDepth 16384

noncomputable section

namespace Cert.FfnRef

open Cert.FfnRefIdeal Cert.FfnRefIdeal.Gen Cert.FfnRefIdeal.Value Idealize.ShloMosaic Idealize.ShloMosaic.TcCoe Idealize.SL.Sem
open Cert.Reals Cert.Ffn
open scoped BigOperators

variable (V0 : Valuation τ sig (Elt Ideal)) (x : Fin 8192 → Fin 1024 → ℝ) (wgu : Fin 1024 → Fin 5632 → ℝ)
  (wd : Fin 2816 → Fin 1024 → ℝ) (g : Fin 1024 → ℝ) (dy : Fin 8192 → Fin 1024 → ℝ)

/-- The arguments are reals. -/
structure Args : Prop where
  x : ∀ i, V0 (Proc.devRef .tc main_arg0) i = ((x (i 0) (i 1) : ℝ) : EReal)
  wgu : ∀ i, V0 (Proc.devRef .tc main_arg1) i = ((wgu (i 0) (i 1) : ℝ) : EReal)
  wd : ∀ i, V0 (Proc.devRef .tc main_arg2) i = ((wd (i 0) (i 1) : ℝ) : EReal)
  g : ∀ i, V0 (Proc.devRef .tc main_arg3) i = ((g (i 0) : ℝ) : EReal)
  dy : ∀ i, V0 (Proc.devRef .tc main_arg5) i = ((dy (i 0) (i 1) : ℝ) : EReal)

variable {V0 x wgu wd g dy} (h : Args V0 x wgu wd g dy)
include h

theorem v0_eq (i) : res_main_v0 V0 i = ((hid wgu (x (i 0)) (i 1) : ℝ) : EReal) := by
  pointwise [res_main_v0]
  simp only [h.x, h.wgu, mul_coe, sum_coe]
  rfl

theorem v1_eq (i) : res_main_v1 V0 i = ((lo (hid wgu (x (i 0))) (i 1) : ℝ) : EReal) := by
  pointwise [res_main_v1]
  rw [v0_eq h]; rfl

theorem v2_eq (i) : res_main_v2 V0 i = ((hi (hid wgu (x (i 0))) (i 1) : ℝ) : EReal) := by
  pointwise [res_main_v2]
  rw [v0_eq h]; rfl

theorem v32_eq (i) : res_main_v3_2 V0 i = ((sg (lo (hid wgu (x (i 0))) (i 1)) : ℝ) : EReal) := by
  pointwise [res_main_v3_2]
  rw [v1_eq h, logistic_coe]

theorem v30_eq (i) : res_main_v3_0 V0 i = ((lo (hid wgu (x (i 0))) (i 1) * sg (lo (hid wgu (x (i 0))) (i 1)) : ℝ) : EReal) := by
  pointwise [res_main_v3_0]
  rw [v1_eq h, v32_eq h, mul_coe]

theorem v10_eq (i) : res_main_v10 V0 i = ((res wgu wd (x (i 0)) (i 1) : ℝ) : EReal) := by
  pointwise [res_main_v10]
  simp only [h.x, h.wd, v30_eq h, v2_eq h, ofBits_alpha, ofBits_half, mul_coe, sum_coe, add_coe]
  rfl

theorem v14_eq (i) : res_main_v14 V0 i = ((mean 1024 (res wgu wd (x (i 0))) : ℝ) : EReal) := by
  pointwise [res_main_v14]
  simp only [v10_eq h, ofBits_1024, sum_coe, div_coe _ (1024 : ℝ) (by norm_num)]
  rfl

theorem v16_eq (i) : res_main_v16 V0 i = ((cen 1024 (res wgu wd (x (i 0))) (i 1) : ℝ) : EReal) := by
  pointwise [res_main_v16]
  rw [v10_eq h, v14_eq h, sub_coe]; rfl

theorem v25_eq (i) : res_main_v25 V0 i = ((cen 1024 (res wgu wd (x (i 0))) (i 1) : ℝ) : EReal) := v16_eq h i

theorem v27_eq (i) : res_main_v27 V0 i = ((var 1024 (res wgu wd (x (i 0))) + eps : ℝ) : EReal) := by
  pointwise [res_main_v27]
  simp only [v16_eq h, ofBits_1024, ofBits_eps, mul_coe, sum_coe, div_coe _ (1024 : ℝ) (by norm_num), add_coe]
  rfl

theorem var_pos (r : Fin 1024 → ℝ) : 0 < var 1024 r + eps :=
  add_pos_of_nonneg_of_pos (var_nonneg 1024 r (by norm_num)) eps_pos

theorem v28_eq (i) : res_main_v28 V0 i = ((rstd 1024 eps (res wgu wd (x (i 0))) : ℝ) : EReal) := by
  pointwise [res_main_v28]
  rw [v27_eq h, rsqrt_coe _ (var_pos h _)]; rfl

theorem v33_eq (i) : res_main_v33 V0 i = ((xhat 1024 eps (res wgu wd (x (i 0))) (i 1) : ℝ) : EReal) := by
  pointwise [res_main_v33]
  rw [v25_eq h, v28_eq h, mul_coe]; rfl

theorem v48_eq (i) : res_main_v48 V0 i = ((dy (i 0) (i 1) * g (i 1) : ℝ) : EReal) := by
  pointwise [res_main_v48, res_main_v40, res_main_v34]
  simp only [h.dy, h.g, mul_coe]
  rfl

theorem v40_eq (i) : res_main_v40 V0 i = ((dy (i 0) (i 1) : ℝ) : EReal) := by
  pointwise [res_main_v40]
  simp only [h.dy]
  try rfl

theorem v54_eq (i) : res_main_v54 V0 i
    = ((dy (i 0) (i 1) * g (i 1) * rstd 1024 eps (res wgu wd (x (i 0))) : ℝ) : EReal) := by
  pointwise [res_main_v54]
  rw [v48_eq h, v28_eq h, mul_coe]
  try rfl

theorem v63_eq (i) : res_main_v63 V0 i = (((∑ k, cen 1024 (res wgu wd (x (i 0))) k * (dy (i 0) k * g k))
      * (-(1 / 2) * (rstd 1024 eps (res wgu wd (x (i 0))) / (var 1024 (res wgu wd (x (i 0))) + eps))) / 1024
      * (2 * cen 1024 (res wgu wd (x (i 0))) (i 1)) : ℝ) : EReal) := by
  pointwise [res_main_v63]
  simp only [v25_eq h, v48_eq h, v28_eq h, v27_eq h, v16_eq h, ofBits_neg_half, ofBits_1024, ofBits_two, mul_coe, sum_coe,
    div_coe _ _ (var_pos h _).ne', div_coe _ (1024 : ℝ) (by norm_num), Finset.univ_unique, Finset.sum_singleton]
  try rfl

theorem v73_eq (i) : res_main_v73 V0 i = ((dr (res wgu wd (x (i 0))) g (dy (i 0)) (i 1) : ℝ) : EReal) := by
  pointwise [res_main_v73]
  simp only [v54_eq h, v63_eq h, ofBits_1024, neg_coe, mul_coe, sum_coe, add_coe, div_coe _ (1024 : ℝ) (by norm_num),
    Finset.univ_unique, Finset.sum_singleton]
  exact congrArg _ (chain 1024 eps (res wgu wd (x (i 0))) (by norm_num) (by norm_num) eps_pos (fun k => dy (i 0) k * g k) (i 1))

/-- The gradient of the normalisation's argument halved. -/
theorem v75_eq (i) : res_main_v75 V0 i = ((1 / 2 * dr (res wgu wd (x (i 0))) g (dy (i 0)) (i 1) : ℝ) : EReal) := by
  pointwise [res_main_v75]
  rw [v73_eq h, ofBits_half, mul_coe]

theorem v78_eq (i) : res_main_v78 V0 i = ((da wd (dr (res wgu wd (x (i 0))) g (dy (i 0))) (i 1) : ℝ) : EReal) := by
  pointwise [res_main_v78]
  simp only [v75_eq h, h.wd, mul_coe, sum_coe]
  rfl

theorem v80_eq (i) : res_main_v80 V0 i
    = ((da wd (dr (res wgu wd (x (i 0))) g (dy (i 0))) (i 1) * hi (hid wgu (x (i 0))) (i 1) : ℝ) : EReal) := by
  pointwise [res_main_v80]
  rw [v78_eq h, v2_eq h, mul_coe]

/-- The gradient of the hidden values. -/
theorem v82_eq (i) : res_main_v82 V0 i
    = ((dh wd (hid wgu (x (i 0))) (dr (res wgu wd (x (i 0))) g (dy (i 0))) (i 1) : ℝ) : EReal) := by
  pointwise [res_main_v82]
  have h1 : ((1 : ℝ) : EReal) = 1 := rfl
  simp only [v80_eq h, v32_eq h, v1_eq h, v30_eq h, v78_eq h, ← h1, mul_coe, sub_coe, add_coe]
  split
  · rename_i hj
    rw [dh_lo _ _ _ _ hj, EReal.coe_eq_coe_iff]
    have e : ∀ a u s g : ℝ, a * u * s + g * (a * u) * (s * (1 - s)) = a * u * (s * (1 + g * (1 - s))) := fun a u s g => by ring
    exact e _ _ _ _
  · rename_i hj
    rw [dh_hi _ _ _ _ hj, EReal.coe_eq_coe_iff, dup, mul_comm]
    rfl

/-- The gradient of the block's input. -/
theorem v84_eq (i) : (addf (mulf (broadcastInDim S8192x1024 ![] bcast_S_S8192x1024 (constant S_ .f32 0x3FB504F3#32)) (res_main_v73 V0)) (Host.dotGeneral (φ₁ := .f32) (φ₂ := .f32) dot_S8192x5632_S1024x5632_S8192x1024_1_1_0_0_n_n none (res_main_v82 V0 : FVec Ideal S8192x5632 .f32) (V0 (Proc.devRef .tc main_arg1) : FVec Ideal S1024x5632 .f32)) : FVec Ideal S8192x1024 .f32) i
    = ((dx wgu (dh wd (hid wgu (x (i 0))) (dr (res wgu wd (x (i 0))) g (dy (i 0)))) (dr (res wgu wd (x (i 0))) g (dy (i 0))) (i 1) : ℝ) : EReal) := by
  pointwise
  simp only [v73_eq h, v82_eq h, h.wgu, ofBits_alpha, mul_coe, sum_coe, add_coe]
  rfl

/-- The gradient of the normalisation's factor. -/
theorem v87_eq (i) : (shapeCast S1x1024 (Host.reduceAdd (shapeCast _ (Host.reduceAdd (mulf (res_main_v33 V0) (res_main_v40 V0)) (constant S_ .f32 0x00000000#32) reducesTo_S8192x1024_S1024_d0 h_S_) shapeCasts_S1024_S1x1024) (constant S_ .f32 0x00000000#32) reducesTo_S1x1024_S1024_d0 h_S_) shapeCasts_S1024_S1x1024 : FVec Ideal S1x1024 .f32) i
    = ((∑ t, xhat 1024 eps (res wgu wd (x t)) (i 1) * dy t (i 1) : ℝ) : EReal) := by
  pointwise
  simp only [v33_eq h, v40_eq h, mul_coe, sum_coe, Finset.univ_unique, Finset.sum_singleton]
  try rfl

/-- The gradient of the normalisation's offset. -/
theorem v88_eq (i) : (shapeCast S1x1024 (Host.reduceAdd (shapeCast _ (Host.reduceAdd (V0 (Proc.devRef .tc main_arg5)) (constant S_ .f32 0x00000000#32) reducesTo_S8192x1024_S1024_d0 h_S_) shapeCasts_S1024_S1x1024) (constant S_ .f32 0x00000000#32) reducesTo_S1x1024_S1024_d0 h_S_) shapeCasts_S1024_S1x1024 : FVec Ideal S1x1024 .f32) i
    = ((∑ t, dy t (i 1) : ℝ) : EReal) := by
  pointwise
  simp only [h.dy, mul_coe, sum_coe, Finset.univ_unique, Finset.sum_singleton]
  try rfl

end Cert.FfnRef

end
-- ==== Proof.FfnPay.lean ====
/- The feed-forward kernel's payloads at real blocks are the closed form's rows. -/
module

public import proofs.«01_k».proof.Proof.FfnSpec
public import proofs.«01_k».proof.Proof.Gen.FfnIdeal.Skeleton
public import Idealize.ShloMosaic.Lib.Pipeline.ValueKit
public import Idealize.ShloMosaic.Lib.IdealHost

@[expose] public section

set_option maxRecDepth 16384

noncomputable section

namespace Cert.FfnKernel

open Cert.FfnIdeal Cert.FfnIdeal.Gen Idealize.ShloMosaic Idealize.ShloMosaic.TcCoe Idealize.SL.Sem
open Cert.Reals Cert.Ffn
open scoped BigOperators

variable {r dy : Fin 256 → Fin 1024 → ℝ} {g : Fin 1024 → ℝ}

theorem var_pos (r : Fin 1024 → ℝ) : 0 < var 1024 r + eps :=
  add_pos_of_nonneg_of_pos (var_nonneg 1024 r (by norm_num)) eps_pos

section
variable {v38 v56 : Vec Ideal S256x1024 .f32} {v76 : Vec Ideal S1x1024 .f32}

/-- The row less its mean. -/
theorem pay9_eq (h38 : ∀ i, v38 i = ((r (i 0) (i 1) : ℝ) : EReal)) (i) :
    k0_pay9 (F := Ideal) v38 i = ((cen 1024 (r (i 0)) (i 1) : ℝ) : EReal) := by
  pointwise [k0_pay9]
  simp only [h38, ofBits_1024, sum_coe, sub_coe, div_coe _ (1024 : ℝ) (by norm_num)]
  rfl

/-- The reciprocal standard deviation of each row. -/
theorem pay10_eq (h38 : ∀ i, v38 i = ((r (i 0) (i 1) : ℝ) : EReal)) (i) :
    k0_pay10 (F := Ideal) v38 i = ((rstd 1024 eps (r (i 0)) : ℝ) : EReal) := by
  pointwise [k0_pay10]
  simp only [pay9_eq h38, ofBits_1024, ofBits_eps, mul_coe, sum_coe, div_coe _ (1024 : ℝ) (by norm_num), add_coe]
  exact rsqrt_coe _ (var_pos (r (i 0)))

/-- The normalised row. -/
theorem pay11_eq (h38 : ∀ i, v38 i = ((r (i 0) (i 1) : ℝ) : EReal)) (i) :
    k0_pay11 (F := Ideal) v38 i = ((xhat 1024 eps (r (i 0)) (i 1) : ℝ) : EReal) := by
  pointwise [k0_pay11]
  rw [pay9_eq h38, pay10_eq h38, mul_coe]
  rfl

section
variable (h38 : ∀ i, v38 i = ((r (i 0) (i 1) : ℝ) : EReal)) (h56 : ∀ i, v56 i = ((dy (i 0) (i 1) : ℝ) : EReal))
include h38 h56

/-- A block's part of the factor's gradient. -/
theorem pay14_eq (i) : k0_pay14 (F := Ideal) v38 v56 i = ((∑ a, dy a (i 0) * xhat 1024 eps (r a) (i 0) : ℝ) : EReal) := by
  pointwise [k0_pay14]
  simp only [h56, pay11_eq h38, mul_coe, sum_coe]
  rfl

variable (h76 : ∀ i, v76 i = ((g (i 1) : ℝ) : EReal))
include h76

/-- The normalisation's gradient. -/
theorem pay17_eq (i) :
    k0_pay17 (F := Ideal) (k0_pay10 v38) (k0_pay11 v38) v56 v76 i = ((dr (r (i 0)) g (dy (i 0)) (i 1) : ℝ) : EReal) := by
  pointwise [k0_pay17]
  simp only [pay10_eq h38, pay11_eq h38, h56, h76, ofBits_1024, mul_coe, sum_coe, sub_coe, div_coe _ (1024 : ℝ) (by norm_num), add_coe]
  rfl

/-- Half of it. -/
theorem pay18_eq (i) :
    k0_pay18 (F := Ideal) (k0_pay10 v38) (k0_pay11 v38) v56 v76 i = ((1 / 2 * dr (r (i 0)) g (dy (i 0)) (i 1) : ℝ) : EReal) := by
  pointwise [k0_pay18]
  rw [pay17_eq h38 h56 h76, ofBits_half, mul_coe]

end

end

/-! ## The gate's tiles -/

/-- A tile's entry of the gate's gradient. -/
def gate {n : ℕ} (D : Fin 256 → Fin 1024 → ℝ) (W : Fin n → Fin 1024 → ℝ) (G U : Fin 256 → Fin n → ℝ) (a : Fin 256) (j : Fin n) : ℝ :=
  (∑ k, D a k * W j k) * U a j * (sg (G a j) * (1 + G a j * (1 - sg (G a j))))

/-- A tile's entry of the up half's gradient. -/
def up {n : ℕ} (D : Fin 256 → Fin 1024 → ℝ) (W : Fin n → Fin 1024 → ℝ) (G : Fin 256 → Fin n → ℝ) (a : Fin 256) (j : Fin n) : ℝ :=
  (∑ k, D a k * W j k) * (G a j * sg (G a j))

/-- The quotient that spells the logistic function, its argument subtracted from zero. -/
theorem zero_logistic_coe (a : ℝ) : Ideal.div 1 (1 + Ideal.exp (0 - (a : EReal))) = ((sg a : ℝ) : EReal) := by
  rw [zero_sub, logistic_coe]

theorem one_coe : ((1 : ℝ) : EReal) = 1 := rfl

theorem one_bits : (Scalar.ofBits (F := Ideal) .f32 0x3F800000#32 : EReal) = ((1 : ℝ) : EReal) := Ideal.ofBits_one_f32

section
variable {v98 : FVec Ideal S256x1024 .bf16} {D : Fin 256 → Fin 1024 → ℝ} (h98 : ∀ i, v98 i = ((D (i 0) (i 1) : ℝ) : EReal))

section
variable {vw : Vec Ideal S768x1024 .bf16} {W : Fin 768 → Fin 1024 → ℝ} {vg vu : Vec Ideal S256x768 .bf16} {G U : Fin 256 → Fin 768 → ℝ}
  (hw : ∀ i, vw i = ((W (i 0) (i 1) : ℝ) : EReal)) (hg : ∀ i, vg i = ((G (i 0) (i 1) : ℝ) : EReal))
  (hu : ∀ i, vu i = ((U (i 0) (i 1) : ℝ) : EReal))

include h98 hw in
theorem pay20_eq (i) : k0_pay20 (F := Ideal) v98 (k0_pay19 vw) i = ((∑ k, D (i 0) k * W (i 1) k : ℝ) : EReal) := by
  pointwise [k0_pay20, k0_pay19]
  simp only [h98, hw, mul_coe, sum_coe]
  rfl

include h98 hw in
theorem pay21_eq (i) : k0_pay21 (F := Ideal) v98 vw i = ((∑ k, D (i 0) k * W (i 1) k : ℝ) : EReal) := by
  pointwise [k0_pay21]
  simp only [h98, hw, mul_coe, sum_coe]
  rfl

include hg in
theorem pay24_eq (i) : k0_pay24 (F := Ideal) vg i = ((G (i 0) (i 1) : ℝ) : EReal) := by
  pointwise [k0_pay24]
  exact hg i

include hg in
theorem pay25_eq (i) : k0_pay25 (F := Ideal) vg i = ((sg (G (i 0) (i 1)) : ℝ) : EReal) := by
  pointwise [k0_pay25]
  rw [pay24_eq hg, zero_logistic_coe]

include hg in
theorem pay34_eq (i) : k0_pay34 (F := Ideal) vg i = ((G (i 0) (i 1) : ℝ) : EReal) := by
  pointwise [k0_pay34]
  exact hg i

include hg in
theorem pay35_eq (i) : k0_pay35 (F := Ideal) (k0_pay34 vg) i = ((sg (G (i 0) (i 1)) : ℝ) : EReal) := by
  pointwise [k0_pay35]
  rw [pay34_eq hg, zero_logistic_coe]

include h98 hw hg hu in
theorem pay28_eq (i) : k0_pay28 (F := Ideal) (k0_pay25 vg) (k0_pay26 v98 (k0_pay19 vw) vu) (k0_pay27 vg) (Scalar.ofBits .f32 0x3F800000#32) i
    = ((gate D W G U (i 0) (i 1) : ℝ) : EReal) := by
  pointwise [k0_pay28, k0_pay26, k0_pay27]
  simp only [pay20_eq h98 hw, hu, pay24_eq hg, pay25_eq hg, one_bits, ← one_coe, mul_coe, sub_coe, add_coe]
  rfl

include h98 hw hg in
theorem pay29_eq (i) : k0_pay29 (F := Ideal) (k0_pay20 v98 (k0_pay19 vw)) (k0_pay24 vg) (k0_pay25 vg) i
    = ((up D W G (i 0) (i 1) : ℝ) : EReal) := by
  pointwise [k0_pay29]
  simp only [pay20_eq h98 hw, pay24_eq hg, pay25_eq hg, mul_coe]
  rfl

include h98 hw hg hu in
theorem pay36_eq (i) : k0_pay36 (F := Ideal) (k0_pay21 v98 vw) (k0_pay34 vg) vu i
    = ((gate D W G U (i 0) (i 1) : ℝ) : EReal) := by
  pointwise [k0_pay36]
  simp only [pay21_eq h98 hw, hu, pay34_eq hg, pay35_eq hg, ← one_coe, mul_coe, sub_coe, add_coe]
  rfl

include h98 hw hg in
theorem pay37_eq (i) : k0_pay37 (F := Ideal) (k0_pay21 v98 vw) (k0_pay34 vg) i
    = ((up D W G (i 0) (i 1) : ℝ) : EReal) := by
  pointwise [k0_pay37]
  simp only [pay21_eq h98 hw, pay34_eq hg, pay35_eq hg, mul_coe]
  rfl

end

section
variable {vw : Vec Ideal S640x1024 .bf16} {W : Fin 640 → Fin 1024 → ℝ} {vg vu : Vec Ideal S256x640 .bf16} {G U : Fin 256 → Fin 640 → ℝ}
  (hw : ∀ i, vw i = ((W (i 0) (i 1) : ℝ) : EReal)) (hg : ∀ i, vg i = ((G (i 0) (i 1) : ℝ) : EReal))
  (hu : ∀ i, vu i = ((U (i 0) (i 1) : ℝ) : EReal))

include h98 hw in
theorem pay22_eq (i) : k0_pay22 (F := Ideal) v98 vw i = ((∑ k, D (i 0) k * W (i 1) k : ℝ) : EReal) := by
  pointwise [k0_pay22]
  simp only [h98, hw, mul_coe, sum_coe]
  rfl

include h98 hw in
theorem pay32_eq (i) : k0_pay32 (F := Ideal) v98 vw i = ((∑ k, D (i 0) k * W (i 1) k : ℝ) : EReal) := pay22_eq h98 hw i

include hg in
theorem pay42_eq (i) : k0_pay42 (F := Ideal) vg i = ((G (i 0) (i 1) : ℝ) : EReal) := by
  pointwise [k0_pay42]
  exact hg i

include hg in
theorem pay43_eq (i) : k0_pay43 (F := Ideal) vg i = ((sg (G (i 0) (i 1)) : ℝ) : EReal) := by
  pointwise [k0_pay43]
  rw [pay42_eq hg, zero_logistic_coe]

include h98 hw hg hu in
theorem pay44_eq (i) : k0_pay44 (F := Ideal) (k0_pay22 v98 vw) vg vu i = ((gate D W G U (i 0) (i 1) : ℝ) : EReal) := by
  pointwise [k0_pay44]
  simp only [pay22_eq h98 hw, hu, pay42_eq hg, pay43_eq hg, ← one_coe, mul_coe, sub_coe, add_coe]
  rfl

include h98 hw hg in
theorem pay45_eq (i) : k0_pay45 (F := Ideal) (k0_pay22 v98 vw) vg i = ((up D W G (i 0) (i 1) : ℝ) : EReal) := by
  pointwise [k0_pay45]
  simp only [pay22_eq h98 hw, pay42_eq hg, pay43_eq hg, mul_coe]
  rfl

end

end

/-! ## A tile of the input's gradient -/

/-- A tile of the input's gradient, from the previous block's gradients. -/
theorem pay8_eq {vd : Vec Ideal S256x256 .f32} {vb : Vec Ideal S256x5632 .bf16} {vw : Vec Ideal S5632x256 .bf16}
    {D : Fin 256 → Fin 256 → ℝ} {B : Fin 256 → Fin 5632 → ℝ} {W : Fin 5632 → Fin 256 → ℝ}
    (hd : ∀ i, vd i = ((D (i 0) (i 1) : ℝ) : EReal)) (hb : ∀ i, vb i = ((B (i 0) (i 1) : ℝ) : EReal))
    (hw : ∀ i, vw i = ((W (i 0) (i 1) : ℝ) : EReal)) (i) :
    k0_pay8 (F := Ideal) vd vb vw i = ((alpha * D (i 0) (i 1) + ∑ j, B (i 0) j * W j (i 1) : ℝ) : EReal) := by
  pointwise [k0_pay8]
  simp only [hd, hb, hw, ofBits_alpha, mul_coe, sum_coe, add_coe]
  rfl

end Cert.FfnKernel

end
-- ==== Proof.FfnHost.lean ====
/- The arrays the feed-forward kernel's windows read, at real arguments. -/
module

public import proofs.«01_k».proof.Proof.FfnPay
public import proofs.«01_k».proof.Proof.Gen.FfnIdeal.Value

@[expose] public section

set_option maxRecDepth 16384

noncomputable section

namespace Cert.FfnKernel

open Cert.FfnIdeal Cert.FfnIdeal.Gen Idealize.ShloMosaic Idealize.ShloMosaic.TcCoe Idealize.SL.Sem
open Cert.Reals Cert.Ffn
open scoped BigOperators

variable (m : (ℓ : Loc nD τ sig) → Buf (Elt Ideal) ℓ) (c : Dev nD) (x : Fin 8192 → Fin 1024 → ℝ) (wgu : Fin 1024 → Fin 5632 → ℝ)
  (wd : Fin 2816 → Fin 1024 → ℝ) (g : Fin 1024 → ℝ) (dy : Fin 8192 → Fin 1024 → ℝ)

/-- The arguments are reals. -/
structure Args : Prop where
  x : ∀ i, m (c, Proc.devRef .tc main_arg0) i = ((x (i 0) (i 1) : ℝ) : EReal)
  wgu : ∀ i, m (c, Proc.devRef .tc main_arg1) i = ((wgu (i 0) (i 1) : ℝ) : EReal)
  wd : ∀ i, m (c, Proc.devRef .tc main_arg2) i = ((wd (i 0) (i 1) : ℝ) : EReal)
  g : ∀ i, m (c, Proc.devRef .tc main_arg3) i = ((g (i 0) : ℝ) : EReal)
  dy : ∀ i, m (c, Proc.devRef .tc main_arg5) i = ((dy (i 0) (i 1) : ℝ) : EReal)

variable {m c x wgu wd g dy} (h : Args m c x wgu wd g dy)
include h

/-- The incoming gradient. -/
theorem Vdy_eq (i) : V m c main_arg5 i = ((dy (i 0) (i 1) : ℝ) : EReal) := by
  rw [V_main_arg5]; exact h.dy i

/-- The gate's weights, transposed. -/
theorem Vwgut_eq (i) : V m c main_v1 i = ((wgu (i 1) (i 0) : ℝ) : EReal) := by
  unfold V
  simp only [hostOps0, hostOps0_1, hostOps0_2, List.flatten_cons, List.flatten_nil, List.append_nil, List.cons_append, List.nil_append]
  after_results
  pointwise
  exact h.wgu _

/-- The down weights. -/
theorem Vwd_eq (i) : V m c main_v2 i = ((wd (i 0) (i 1) : ℝ) : EReal) := by
  unfold V
  simp only [hostOps0, hostOps0_1, hostOps0_2, List.flatten_cons, List.flatten_nil, List.append_nil, List.cons_append, List.nil_append]
  after_results
  pointwise
  exact h.wd _

/-- The normalisation's factor, as a row. -/
theorem Vg_eq (i) : V m c main_v14 i = ((g (i 1) : ℝ) : EReal) := by
  unfold V
  simp only [hostOps0, hostOps0_1, hostOps0_2, List.flatten_cons, List.flatten_nil, List.append_nil, List.cons_append, List.nil_append]
  after_results
  pointwise
  exact h.g _

/-- The product of the input with the gate's weights. -/
theorem dotH (i) : (Host.dotGeneral (φ₁ := .f32) (φ₂ := .f32) dot_S8192x1024_S1024x5632_S8192x5632_1_0_0_1_n_n none
      (m (c, Proc.devRef .tc main_arg0) : FVec Ideal S8192x1024 .f32) (m (c, Proc.devRef .tc main_arg1) : FVec Ideal S1024x5632 .f32)
      : FVec Ideal S8192x5632 .f32) i = ((hid wgu (x (i 0)) (i 1) : ℝ) : EReal) := by
  pointwise
  simp only [h.x, h.wgu, mul_coe, sum_coe]
  rfl

/-- The hidden values. -/
theorem Vh_eq (i) : V m c main_v15 i = ((hid wgu (x (i 0)) (i 1) : ℝ) : EReal) := by
  unfold V
  simp only [hostOps0, hostOps0_1, hostOps0_2, List.flatten_cons, List.flatten_nil, List.append_nil, List.cons_append, List.nil_append]
  after_results
  exact dotH h i

/-- The normalisation's argument. -/
theorem Vr_eq (i) : V m c main_v13 i = ((res wgu wd (x (i 0)) (i 1) : ℝ) : EReal) := by
  unfold V
  simp only [hostOps0, hostOps0_1, hostOps0_2, List.flatten_cons, List.flatten_nil, List.append_nil, List.cons_append, List.nil_append]
  after_results
  generalize hH : (Host.dotGeneral dot_S8192x1024_S1024x5632_S8192x5632_1_0_0_1_n_n none (m (c, Proc.devRef .tc main_arg0)) (m (c, Proc.devRef .tc main_arg1)) : FVec Ideal S8192x5632 .f32) = H
  have hh : ∀ i, H i = ((hid wgu (x (i 0)) (i 1) : ℝ) : EReal) := fun i => by rw [← hH]; exact dotH h i
  simp only [StableHlo.TRef.toBuf, StableHlo.TRef.ofBuf, cast_eq]
  pointwise
  simp only [h.x, h.wd, hh, ofBits_alpha, ofBits_half, logistic_coe, mul_coe, sum_coe, add_coe]
  rfl

end Cert.FfnKernel

end
-- ==== Proof.FfnBlock.lean ====
/- One block of rows: the eight stores that make up its hidden values' gradient, and the four that make up its input's gradient. -/
module

public import proofs.«01_k».proof.Proof.FfnPay
public import proofs.«01_k».proof.Proof.Gen.FfnIdeal.Value

@[expose] public section

set_option maxRecDepth 16384

noncomputable section

namespace Cert.FfnKernel

open Cert.FfnIdeal Cert.FfnIdeal.Gen Idealize.ShloMosaic Idealize.ShloMosaic.TcCoe Idealize.SL.Sem
open Cert.Reals Cert.Ffn
open scoped BigOperators

/-- Stores after which others lie hidden: where the first ones cover an index, the rest do not count. -/
theorem canon_append {S : Shape} {e : EltTy} (T : List (View.Piece (Elt Ideal) S e)) : ∀ (L : List (View.Piece (Elt Ideal) S e)) (y : S.Idx),
    (∃ p ∈ L, y ∈ p.1.set) → View.canon (L ++ T) y = View.canon L y
  | [], _, hc => by obtain ⟨p, hp, _⟩ := hc; exact absurd hp List.not_mem_nil
  | p :: L, y, hc => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append T L y ?_
      obtain ⟨q, hq, hyq⟩ := hc
      rcases List.mem_cons.mp hq with rfl | hq'
      · exact absurd hyq hm
      · exact ⟨q, hq', hyq⟩

/-- The eight stores cover their block. -/
theorem cover8 (y : S256x5632.Idx) (w0 w1 w2 w3 : (⟨2, ![256, 640]⟩ : Shape).Idx → EReal) (w4 w5 w6 w7 : (⟨2, ![256, 768]⟩ : Shape).Idx → EReal) :
    ∃ p ∈ (
      [⟨Rect.unit ![0, 4992] ![256, 640] inb_S256x5632_S256x640_0_4992, w0⟩, ⟨Rect.unit ![0, 2176] ![256, 640] inb_S256x5632_S256x640_0_2176, w1⟩,
       ⟨Rect.unit ![0, 4352] ![256, 640] inb_S256x5632_S256x640_0_4352, w2⟩, ⟨Rect.unit ![0, 1536] ![256, 640] inb_S256x5632_S256x640_0_1536, w3⟩,
       ⟨Rect.unit ![0, 3584] ![256, 768] inb_S256x5632_S256x768_0_3584, w4⟩, ⟨Rect.unit ![0, 768] ![256, 768] inb_S256x5632_S256x768_0_768, w5⟩,
       ⟨Rect.unit ![0, 2816] ![256, 768] inb_S256x5632_S256x768_0_2816, w6⟩, ⟨Rect.unit ![0, 0] ![256, 768] inb_S256x5632_S256x768_0_0, w7⟩] : List (View.Piece (Elt Ideal) S256x5632 EltTy.bf16)), y ∈ p.1.set := by
  have ha : (y 0 : ℕ) < 256 := (y 0).isLt
  have hb : (y 1 : ℕ) < 5632 := (y 1).isLt
  have e := fun (off size : Fin 2 → ℕ) inb => (Rect.mem_set_unit (s := S256x5632) (off := off) (size := size) (inb := inb) (i := y)).mpr
  have k : ∀ (off size : Fin 2 → ℕ) (inb), off 0 = 0 → size 0 = 256 → off 1 ≤ (y 1 : ℕ) → (y 1 : ℕ) < off 1 + size 1 →
      y ∈ (Rect.unit (s := S256x5632) off size inb).set := fun off size inb p q u w => e off size inb fun a => by
    match a with
    | ⟨0, _⟩ => exact ⟨by show off 0 ≤ _; omega, by show (y 0 : ℕ) < off 0 + size 0; omega⟩
    | ⟨1, _⟩ => exact ⟨u, w⟩
  by_cases c1 : (y 1 : ℕ) < 768
  · exact ⟨⟨Rect.unit ![0, 0] ![256, 768] inb_S256x5632_S256x768_0_0, w7⟩, .tail _ (.tail _ (.tail _ (.tail _ (.tail _ (.tail _ (.tail _ (.head _))))))), k ![0, 0] ![256, 768] inb_S256x5632_S256x768_0_0 rfl rfl (Nat.zero_le _) (show (y 1 : ℕ) < 0 + 768 by omega)⟩
  by_cases c2 : (y 1 : ℕ) < 1536
  · exact ⟨⟨Rect.unit ![0, 768] ![256, 768] inb_S256x5632_S256x768_0_768, w5⟩, .tail _ (.tail _ (.tail _ (.tail _ (.tail _ (.head _))))), k ![0, 768] ![256, 768] inb_S256x5632_S256x768_0_768 rfl rfl (show 768 ≤ (y 1 : ℕ) by omega) (show (y 1 : ℕ) < 768 + 768 by omega)⟩
  by_cases c3 : (y 1 : ℕ) < 2176
  · exact ⟨⟨Rect.unit ![0, 1536] ![256, 640] inb_S256x5632_S256x640_0_1536, w3⟩, .tail _ (.tail _ (.tail _ (.head _))), k ![0, 1536] ![256, 640] inb_S256x5632_S256x640_0_1536 rfl rfl (show 1536 ≤ (y 1 : ℕ) by omega) (show (y 1 : ℕ) < 1536 + 640 by omega)⟩
  by_cases c4 : (y 1 : ℕ) < 2816
  · exact ⟨⟨Rect.unit ![0, 2176] ![256, 640] inb_S256x5632_S256x640_0_2176, w1⟩, .tail _ (.head _), k ![0, 2176] ![256, 640] inb_S256x5632_S256x640_0_2176 rfl rfl (show 2176 ≤ (y 1 : ℕ) by omega) (show (y 1 : ℕ) < 2176 + 640 by omega)⟩
  by_cases c5 : (y 1 : ℕ) < 3584
  · exact ⟨⟨Rect.unit ![0, 2816] ![256, 768] inb_S256x5632_S256x768_0_2816, w6⟩, .tail _ (.tail _ (.tail _ (.tail _ (.tail _ (.tail _ (.head _)))))), k ![0, 2816] ![256, 768] inb_S256x5632_S256x768_0_2816 rfl rfl (show 2816 ≤ (y 1 : ℕ) by omega) (show (y 1 : ℕ) < 2816 + 768 by omega)⟩
  by_cases c6 : (y 1 : ℕ) < 4352
  · exact ⟨⟨Rect.unit ![0, 3584] ![256, 768] inb_S256x5632_S256x768_0_3584, w4⟩, .tail _ (.tail _ (.tail _ (.tail _ (.head _)))), k ![0, 3584] ![256, 768] inb_S256x5632_S256x768_0_3584 rfl rfl (show 3584 ≤ (y 1 : ℕ) by omega) (show (y 1 : ℕ) < 3584 + 768 by omega)⟩
  by_cases c7 : (y 1 : ℕ) < 4992
  · exact ⟨⟨Rect.unit ![0, 4352] ![256, 640] inb_S256x5632_S256x640_0_4352, w2⟩, .tail _ (.tail _ (.head _)), k ![0, 4352] ![256, 640] inb_S256x5632_S256x640_0_4352 rfl rfl (show 4352 ≤ (y 1 : ℕ) by omega) (show (y 1 : ℕ) < 4352 + 640 by omega)⟩
  · exact ⟨⟨Rect.unit ![0, 4992] ![256, 640] inb_S256x5632_S256x640_0_4992, w0⟩, .head _, k ![0, 4992] ![256, 640] inb_S256x5632_S256x640_0_4992 rfl rfl (show 4992 ≤ (y 1 : ℕ) by omega) (show (y 1 : ℕ) < 4992 + 640 by omega)⟩

/-- Eight stores that tile a block of hidden values leave `v` at `y` when each leaves `v` where it holds `y`. -/
theorem canon8 {y : S256x5632.Idx} {v : EReal}
    {w0 w1 w2 w3 : (⟨2, ![256, 640]⟩ : Shape).Idx → EReal} {w4 w5 w6 w7 : (⟨2, ![256, 768]⟩ : Shape).Idx → EReal}
    (h0 : View.TileAt (Val := Elt Ideal) (e := EltTy.bf16) y ![0, 4992] ![256, 640] w0 v) (h1 : View.TileAt (Val := Elt Ideal) (e := EltTy.bf16) y ![0, 2176] ![256, 640] w1 v)
    (h2 : View.TileAt (Val := Elt Ideal) (e := EltTy.bf16) y ![0, 4352] ![256, 640] w2 v) (h3 : View.TileAt (Val := Elt Ideal) (e := EltTy.bf16) y ![0, 1536] ![256, 640] w3 v)
    (h4 : View.TileAt (Val := Elt Ideal) (e := EltTy.bf16) y ![0, 3584] ![256, 768] w4 v) (h5 : View.TileAt (Val := Elt Ideal) (e := EltTy.bf16) y ![0, 768] ![256, 768] w5 v)
    (h6 : View.TileAt (Val := Elt Ideal) (e := EltTy.bf16) y ![0, 2816] ![256, 768] w6 v) (h7 : View.TileAt (Val := Elt Ideal) (e := EltTy.bf16) y ![0, 0] ![256, 768] w7 v) :
    View.canon (Val := Elt Ideal) (s := S256x5632) (e := EltTy.bf16)
      [⟨Rect.unit ![0, 4992] ![256, 640] inb_S256x5632_S256x640_0_4992, w0⟩, ⟨Rect.unit ![0, 2176] ![256, 640] inb_S256x5632_S256x640_0_2176, w1⟩,
       ⟨Rect.unit ![0, 4352] ![256, 640] inb_S256x5632_S256x640_0_4352, w2⟩, ⟨Rect.unit ![0, 1536] ![256, 640] inb_S256x5632_S256x640_0_1536, w3⟩,
       ⟨Rect.unit ![0, 3584] ![256, 768] inb_S256x5632_S256x768_0_3584, w4⟩, ⟨Rect.unit ![0, 768] ![256, 768] inb_S256x5632_S256x768_0_768, w5⟩,
       ⟨Rect.unit ![0, 2816] ![256, 768] inb_S256x5632_S256x768_0_2816, w6⟩, ⟨Rect.unit ![0, 0] ![256, 768] inb_S256x5632_S256x768_0_0, w7⟩] y = v := by
  refine View.canon_eq_of_allAt (Val := Elt Ideal) (e := EltTy.bf16) _ y v ?_ ?_
  · exact cover8 y w0 w1 w2 w3 w4 w5 w6 w7
  · exact View.allAt_cons_unit (Val := Elt Ideal) _ _ _ _ _ h0 <| View.allAt_cons_unit (Val := Elt Ideal) _ _ _ _ _ h1 <| View.allAt_cons_unit (Val := Elt Ideal) _ _ _ _ _ h2 <|
      View.allAt_cons_unit (Val := Elt Ideal) _ _ _ _ _ h3 <| View.allAt_cons_unit (Val := Elt Ideal) _ _ _ _ _ h4 <| View.allAt_cons_unit (Val := Elt Ideal) _ _ _ _ _ h5 <|
      View.allAt_cons_unit (Val := Elt Ideal) _ _ _ _ _ h6 <| View.allAt_cons_unit (Val := Elt Ideal) _ _ _ _ _ h7 <| View.allAt_nil (Val := Elt Ideal) _ _

/-- Four stores that tile a block of rows leave `v` at `y` when each leaves `v` where it holds `y`. -/
theorem canon4 {y : S256x1024.Idx} {v : EReal} {w0 w1 w2 w3 : (⟨2, ![256, 256]⟩ : Shape).Idx → EReal}
    (h0 : View.TileAt (Val := Elt Ideal) (e := EltTy.f32) y ![0, 768] ![256, 256] w0 v) (h1 : View.TileAt (Val := Elt Ideal) (e := EltTy.f32) y ![0, 512] ![256, 256] w1 v)
    (h2 : View.TileAt (Val := Elt Ideal) (e := EltTy.f32) y ![0, 256] ![256, 256] w2 v) (h3 : View.TileAt (Val := Elt Ideal) (e := EltTy.f32) y ![0, 0] ![256, 256] w3 v) :
    View.canon (Val := Elt Ideal) (s := S256x1024) (e := EltTy.f32)
      [⟨Rect.unit ![0, 768] ![256, 256] inb_S256x1024_S256x256_0_768, w0⟩, ⟨Rect.unit ![0, 512] ![256, 256] inb_S256x1024_S256x256_0_512, w1⟩,
       ⟨Rect.unit ![0, 256] ![256, 256] inb_S256x1024_S256x256_0_256, w2⟩, ⟨Rect.unit ![0, 0] ![256, 256] inb_S256x1024_S256x256_0_0, w3⟩] y = v := by
  refine View.canon_eq_of_allAt (Val := Elt Ideal) (e := EltTy.f32) _ y v ?_ ?_
  · exact View.cover_of_tiled_head _ _ _ rfl y
  · exact View.allAt_cons_unit (Val := Elt Ideal) _ _ _ _ _ h0 <| View.allAt_cons_unit (Val := Elt Ideal) _ _ _ _ _ h1 <| View.allAt_cons_unit (Val := Elt Ideal) _ _ _ _ _ h2 <|
      View.allAt_cons_unit (Val := Elt Ideal) _ _ _ _ _ h3 <| View.allAt_nil (Val := Elt Ideal) _ _

theorem cast640 (w : FVec Ideal S256x640 .bf16) (h) (x) : shapeCast S256x640 w h x = w x := by pointwise

theorem cast768 (w : FVec Ideal S256x768 .bf16) (h) (x) : shapeCast S256x768 w h x = w x := by pointwise

/-- A tile's gate entry is the row's. -/
theorem gate_dh {n : ℕ} {D : Fin 256 → Fin 1024 → ℝ} {W : Fin n → Fin 1024 → ℝ} {G U : Fin 256 → Fin n → ℝ} {a : Fin 256} {j : Fin n}
    {wd : Fin 2816 → Fin 1024 → ℝ} {h : Fin 5632 → ℝ} {d : Fin 1024 → ℝ} (y : Fin 5632) (hy : (y : ℕ) < 2816)
    (hD : ∀ k, D a k = 1 / 2 * d k) (hW : ∀ k, W j k = wd ⟨y, hy⟩ k) (hG : G a j = h y) (hU : U a j = h ⟨2816 + y, by omega⟩) :
    gate D W G U a j = dh wd h d y := by
  rw [dh_lo _ _ _ _ hy]
  simp only [gate, dgate, da, lo, hi, hD, hW, hG, hU]

/-- A tile's up entry is the row's. -/
theorem up_dh {n : ℕ} {D : Fin 256 → Fin 1024 → ℝ} {W : Fin n → Fin 1024 → ℝ} {G : Fin 256 → Fin n → ℝ} {a : Fin 256} {j : Fin n}
    {wd : Fin 2816 → Fin 1024 → ℝ} {h : Fin 5632 → ℝ} {d : Fin 1024 → ℝ} (y : Fin 5632) (hy : ¬ (y : ℕ) < 2816)
    (hD : ∀ k, D a k = 1 / 2 * d k) (hW : ∀ k, W j k = wd ⟨y - 2816, by omega⟩ k) (hG : G a j = h ⟨y - 2816, by omega⟩) :
    up D W G a j = dh wd h d y := by
  rw [dh_hi _ _ _ _ hy]
  simp only [up, dup, da, lo, hi, hD, hW, hG]

section
variable {d : Fin 256 → Fin 1024 → ℝ} {wd : Fin 2816 → Fin 1024 → ℝ} {hh : Fin 256 → Fin 5632 → ℝ}
  {v98 : FVec Ideal S256x1024 .bf16} {v3 : Vec Ideal S2816x1024 .bf16} {v4 : Vec Ideal S256x5632 .bf16}
  (h98 : ∀ i, v98 i = ((1 / 2 * d (i 0) (i 1) : ℝ) : EReal)) (h3 : ∀ i, v3 i = ((wd (i 0) (i 1) : ℝ) : EReal))
  (h4 : ∀ i, v4 i = ((hh (i 0) (i 1) : ℝ) : EReal))

include h3 in
theorem ldw768 (o : ℕ) (ho : o + 768 ≤ 2816) (inb) (i) : View.ld v3 (Rect.unit ![o, 0] ![768, 1024] inb) i
    = ((wd ⟨o + (i 0 : ℕ), lt_of_lt_of_le (Nat.add_lt_add_left (i 0).isLt o) ho⟩ (i 1) : ℝ) : EReal) := by
  pointwise
  exact h3 _

include h3 in
theorem ldw640 (o : ℕ) (ho : o + 640 ≤ 2816) (inb) (i) : View.ld v3 (Rect.unit ![o, 0] ![640, 1024] inb) i
    = ((wd ⟨o + (i 0 : ℕ), lt_of_lt_of_le (Nat.add_lt_add_left (i 0).isLt o) ho⟩ (i 1) : ℝ) : EReal) := by
  pointwise
  exact h3 _

include h4 in
theorem ldh768 (o : ℕ) (ho : o + 768 ≤ 5632) (inb) (i) : View.ld v4 (Rect.unit ![0, o] ![256, 768] inb) i
    = ((hh (i 0) ⟨o + (i 1 : ℕ), lt_of_lt_of_le (Nat.add_lt_add_left (i 1).isLt o) ho⟩ : ℝ) : EReal) := by
  pointwise
  exact h4 _

include h4 in
theorem ldh640 (o : ℕ) (ho : o + 640 ≤ 5632) (inb) (i) : View.ld v4 (Rect.unit ![0, o] ![256, 640] inb) i
    = ((hh (i 0) ⟨o + (i 1 : ℕ), lt_of_lt_of_le (Nat.add_lt_add_left (i 1).isLt o) ho⟩ : ℝ) : EReal) := by
  pointwise
  exact h4 _

/-- The block's hidden values' gradient at an index. -/
def blockDh (wd : Fin 2816 → Fin 1024 → ℝ) (hh : Fin 256 → Fin 5632 → ℝ) (d : Fin 256 → Fin 1024 → ℝ) (y : S256x5632.Idx) : EReal :=
  ((dh wd (hh (y 0)) (d (y 0)) (y 1) : ℝ) : EReal)

variable (y : S256x5632.Idx)
include h98 h3 h4

theorem piece0 : View.TileAt (Val := Elt Ideal) (e := EltTy.bf16) y ![0, 4992] ![256, 640]
    (k0_pay45 (F := Ideal) (k0_pay22 v98 (View.ld v3 (Rect.unit ![2176, 0] ![640, 1024] inb_S2816x1024_S640x1024_2176_0))) (View.ld v4 (Rect.unit ![0, 2176] ![256, 640] inb_S256x5632_S256x640_0_2176))) (blockDh wd hh d y) := fun x hx => by
  have e0 : y 0 = x 0 := Fin.ext (by have := hx 0; simpa using this)
  have e1 : (y 1 : ℕ) = 4992 + (x 1 : ℕ) := hx 1
  have hlt : (x 1 : ℕ) < 640 := (x 1).isLt
  refine (pay45_eq (D := fun a k => 1 / 2 * d a k) (W := fun j k => wd ⟨2176 + (j : ℕ), lt_of_lt_of_le (Nat.add_lt_add_left j.isLt _) (by norm_num)⟩ k) (G := fun a j => hh a ⟨2176 + (j : ℕ), lt_of_lt_of_le (Nat.add_lt_add_left j.isLt _) (by norm_num)⟩)
    h98 (ldw640 h3 2176 (by norm_num) _) (ldh640 h4 2176 (by norm_num) _) x).trans (congrArg _ ?_)
  rw [← e0]
  exact up_dh (y 1) (by omega) (fun k => rfl) (fun k => congrArg (fun q => wd q k) (Fin.ext (by show 2176 + (x 1 : ℕ) = (y 1 : ℕ) - 2816; omega)))
    (congrArg (hh (y 0)) (Fin.ext (by show 2176 + (x 1 : ℕ) = (y 1 : ℕ) - 2816; omega)))

theorem piece1 : View.TileAt (Val := Elt Ideal) (e := EltTy.bf16) y ![0, 2176] ![256, 640]
    (k0_pay44 (F := Ideal) (k0_pay22 v98 (View.ld v3 (Rect.unit ![2176, 0] ![640, 1024] inb_S2816x1024_S640x1024_2176_0))) (View.ld v4 (Rect.unit ![0, 2176] ![256, 640] inb_S256x5632_S256x640_0_2176)) (View.ld v4 (Rect.unit ![0, 4992] ![256, 640] inb_S256x5632_S256x640_0_4992))) (blockDh wd hh d y) := fun x hx => by
  have e0 : y 0 = x 0 := Fin.ext (by have := hx 0; simpa using this)
  have e1 : (y 1 : ℕ) = 2176 + (x 1 : ℕ) := hx 1
  have hlt : (x 1 : ℕ) < 640 := (x 1).isLt
  refine (pay44_eq (D := fun a k => 1 / 2 * d a k) (W := fun j k => wd ⟨2176 + (j : ℕ), lt_of_lt_of_le (Nat.add_lt_add_left j.isLt _) (by norm_num)⟩ k) (G := fun a j => hh a ⟨2176 + (j : ℕ), lt_of_lt_of_le (Nat.add_lt_add_left j.isLt _) (by norm_num)⟩) (U := fun a j => hh a ⟨4992 + (j : ℕ), lt_of_lt_of_le (Nat.add_lt_add_left j.isLt _) (by norm_num)⟩)
    h98 (ldw640 h3 2176 (by norm_num) _) (ldh640 h4 2176 (by norm_num) _) (ldh640 h4 4992 (by norm_num) _) x).trans (congrArg _ ?_)
  rw [← e0]
  exact gate_dh (y 1) (by omega) (fun k => rfl) (fun k => congrArg (fun q => wd q k) (Fin.ext e1.symm))
    (congrArg (hh (y 0)) (Fin.ext e1.symm)) (congrArg (hh (y 0)) (Fin.ext (by show 4992 + (x 1 : ℕ) = 2816 + (y 1 : ℕ); omega)))

theorem piece2 : View.TileAt (Val := Elt Ideal) (e := EltTy.bf16) y ![0, 4352] ![256, 640]
    (k0_pay45 (F := Ideal) (k0_pay22 v98 (View.ld v3 (Rect.unit ![1536, 0] ![640, 1024] inb_S2816x1024_S640x1024_1536_0))) (View.ld v4 (Rect.unit ![0, 1536] ![256, 640] inb_S256x5632_S256x640_0_1536))) (blockDh wd hh d y) := fun x hx => by
  have e0 : y 0 = x 0 := Fin.ext (by have := hx 0; simpa using this)
  have e1 : (y 1 : ℕ) = 4352 + (x 1 : ℕ) := hx 1
  have hlt : (x 1 : ℕ) < 640 := (x 1).isLt
  refine (pay45_eq (D := fun a k => 1 / 2 * d a k) (W := fun j k => wd ⟨1536 + (j : ℕ), lt_of_lt_of_le (Nat.add_lt_add_left j.isLt _) (by norm_num)⟩ k) (G := fun a j => hh a ⟨1536 + (j : ℕ), lt_of_lt_of_le (Nat.add_lt_add_left j.isLt _) (by norm_num)⟩)
    h98 (ldw640 h3 1536 (by norm_num) _) (ldh640 h4 1536 (by norm_num) _) x).trans (congrArg _ ?_)
  rw [← e0]
  exact up_dh (y 1) (by omega) (fun k => rfl) (fun k => congrArg (fun q => wd q k) (Fin.ext (by show 1536 + (x 1 : ℕ) = (y 1 : ℕ) - 2816; omega)))
    (congrArg (hh (y 0)) (Fin.ext (by show 1536 + (x 1 : ℕ) = (y 1 : ℕ) - 2816; omega)))

theorem piece3 : View.TileAt (Val := Elt Ideal) (e := EltTy.bf16) y ![0, 1536] ![256, 640]
    (k0_pay44 (F := Ideal) (k0_pay22 v98 (View.ld v3 (Rect.unit ![1536, 0] ![640, 1024] inb_S2816x1024_S640x1024_1536_0))) (View.ld v4 (Rect.unit ![0, 1536] ![256, 640] inb_S256x5632_S256x640_0_1536)) (View.ld v4 (Rect.unit ![0, 4352] ![256, 640] inb_S256x5632_S256x640_0_4352))) (blockDh wd hh d y) := fun x hx => by
  have e0 : y 0 = x 0 := Fin.ext (by have := hx 0; simpa using this)
  have e1 : (y 1 : ℕ) = 1536 + (x 1 : ℕ) := hx 1
  have hlt : (x 1 : ℕ) < 640 := (x 1).isLt
  refine (pay44_eq (D := fun a k => 1 / 2 * d a k) (W := fun j k => wd ⟨1536 + (j : ℕ), lt_of_lt_of_le (Nat.add_lt_add_left j.isLt _) (by norm_num)⟩ k) (G := fun a j => hh a ⟨1536 + (j : ℕ), lt_of_lt_of_le (Nat.add_lt_add_left j.isLt _) (by norm_num)⟩) (U := fun a j => hh a ⟨4352 + (j : ℕ), lt_of_lt_of_le (Nat.add_lt_add_left j.isLt _) (by norm_num)⟩)
    h98 (ldw640 h3 1536 (by norm_num) _) (ldh640 h4 1536 (by norm_num) _) (ldh640 h4 4352 (by norm_num) _) x).trans (congrArg _ ?_)
  rw [← e0]
  exact gate_dh (y 1) (by omega) (fun k => rfl) (fun k => congrArg (fun q => wd q k) (Fin.ext e1.symm))
    (congrArg (hh (y 0)) (Fin.ext e1.symm)) (congrArg (hh (y 0)) (Fin.ext (by show 4352 + (x 1 : ℕ) = 2816 + (y 1 : ℕ); omega)))

theorem piece4 : View.TileAt (Val := Elt Ideal) (e := EltTy.bf16) y ![0, 3584] ![256, 768]
    (k0_pay37 (F := Ideal) (k0_pay21 v98 (View.ld v3 (Rect.unit ![768, 0] ![768, 1024] inb_S2816x1024_S768x1024_768_0))) (k0_pay34 (View.ld v4 (Rect.unit ![0, 768] ![256, 768] inb_S256x5632_S256x768_0_768)))) (blockDh wd hh d y) := fun x hx => by
  have e0 : y 0 = x 0 := Fin.ext (by have := hx 0; simpa using this)
  have e1 : (y 1 : ℕ) = 3584 + (x 1 : ℕ) := hx 1
  have hlt : (x 1 : ℕ) < 768 := (x 1).isLt
  refine (pay37_eq (D := fun a k => 1 / 2 * d a k) (W := fun j k => wd ⟨768 + (j : ℕ), lt_of_lt_of_le (Nat.add_lt_add_left j.isLt _) (by norm_num)⟩ k) (G := fun a j => hh a ⟨768 + (j : ℕ), lt_of_lt_of_le (Nat.add_lt_add_left j.isLt _) (by norm_num)⟩)
    h98 (ldw768 h3 768 (by norm_num) _) (ldh768 h4 768 (by norm_num) _) x).trans (congrArg _ ?_)
  rw [← e0]
  exact up_dh (y 1) (by omega) (fun k => rfl) (fun k => congrArg (fun q => wd q k) (Fin.ext (by show 768 + (x 1 : ℕ) = (y 1 : ℕ) - 2816; omega)))
    (congrArg (hh (y 0)) (Fin.ext (by show 768 + (x 1 : ℕ) = (y 1 : ℕ) - 2816; omega)))

theorem piece5 : View.TileAt (Val := Elt Ideal) (e := EltTy.bf16) y ![0, 768] ![256, 768]
    (k0_pay36 (F := Ideal) (k0_pay21 v98 (View.ld v3 (Rect.unit ![768, 0] ![768, 1024] inb_S2816x1024_S768x1024_768_0))) (k0_pay34 (View.ld v4 (Rect.unit ![0, 768] ![256, 768] inb_S256x5632_S256x768_0_768))) (View.ld v4 (Rect.unit ![0, 3584] ![256, 768] inb_S256x5632_S256x768_0_3584))) (blockDh wd hh d y) := fun x hx => by
  have e0 : y 0 = x 0 := Fin.ext (by have := hx 0; simpa using this)
  have e1 : (y 1 : ℕ) = 768 + (x 1 : ℕ) := hx 1
  have hlt : (x 1 : ℕ) < 768 := (x 1).isLt
  refine (pay36_eq (D := fun a k => 1 / 2 * d a k) (W := fun j k => wd ⟨768 + (j : ℕ), lt_of_lt_of_le (Nat.add_lt_add_left j.isLt _) (by norm_num)⟩ k) (G := fun a j => hh a ⟨768 + (j : ℕ), lt_of_lt_of_le (Nat.add_lt_add_left j.isLt _) (by norm_num)⟩) (U := fun a j => hh a ⟨3584 + (j : ℕ), lt_of_lt_of_le (Nat.add_lt_add_left j.isLt _) (by norm_num)⟩)
    h98 (ldw768 h3 768 (by norm_num) _) (ldh768 h4 768 (by norm_num) _) (ldh768 h4 3584 (by norm_num) _) x).trans (congrArg _ ?_)
  rw [← e0]
  exact gate_dh (y 1) (by omega) (fun k => rfl) (fun k => congrArg (fun q => wd q k) (Fin.ext e1.symm))
    (congrArg (hh (y 0)) (Fin.ext e1.symm)) (congrArg (hh (y 0)) (Fin.ext (by show 3584 + (x 1 : ℕ) = 2816 + (y 1 : ℕ); omega)))

theorem piece6 : View.TileAt (Val := Elt Ideal) (e := EltTy.bf16) y ![0, 2816] ![256, 768]
    (k0_pay29 (F := Ideal) (k0_pay20 v98 (k0_pay19 (View.ld v3 (Rect.unit ![0, 0] ![768, 1024] inb_S2816x1024_S768x1024_0_0)))) (k0_pay24 (View.ld v4 (Rect.unit ![0, 0] ![256, 768] inb_S256x5632_S256x768_0_0))) (k0_pay25 (View.ld v4 (Rect.unit ![0, 0] ![256, 768] inb_S256x5632_S256x768_0_0)))) (blockDh wd hh d y) := fun x hx => by
  have e0 : y 0 = x 0 := Fin.ext (by have := hx 0; simpa using this)
  have e1 : (y 1 : ℕ) = 2816 + (x 1 : ℕ) := hx 1
  have hlt : (x 1 : ℕ) < 768 := (x 1).isLt
  refine (pay29_eq (D := fun a k => 1 / 2 * d a k) (W := fun j k => wd ⟨0 + (j : ℕ), lt_of_lt_of_le (Nat.add_lt_add_left j.isLt _) (by norm_num)⟩ k) (G := fun a j => hh a ⟨0 + (j : ℕ), lt_of_lt_of_le (Nat.add_lt_add_left j.isLt _) (by norm_num)⟩)
    h98 (ldw768 h3 0 (by norm_num) _) (ldh768 h4 0 (by norm_num) _) x).trans (congrArg _ ?_)
  rw [← e0]
  exact up_dh (y 1) (by omega) (fun k => rfl) (fun k => congrArg (fun q => wd q k) (Fin.ext (by show 0 + (x 1 : ℕ) = (y 1 : ℕ) - 2816; omega)))
    (congrArg (hh (y 0)) (Fin.ext (by show 0 + (x 1 : ℕ) = (y 1 : ℕ) - 2816; omega)))

theorem piece7 : View.TileAt (Val := Elt Ideal) (e := EltTy.bf16) y ![0, 0] ![256, 768]
    (k0_pay28 (F := Ideal) (k0_pay25 (View.ld v4 (Rect.unit ![0, 0] ![256, 768] inb_S256x5632_S256x768_0_0))) (k0_pay26 v98 (k0_pay19 (View.ld v3 (Rect.unit ![0, 0] ![768, 1024] inb_S2816x1024_S768x1024_0_0))) (View.ld v4 (Rect.unit ![0, 2816] ![256, 768] inb_S256x5632_S256x768_0_2816))) (k0_pay27 (View.ld v4 (Rect.unit ![0, 0] ![256, 768] inb_S256x5632_S256x768_0_0))) (Scalar.ofBits .f32 0x3F800000#32)) (blockDh wd hh d y) := fun x hx => by
  have e0 : y 0 = x 0 := Fin.ext (by have := hx 0; simpa using this)
  have e1 : (y 1 : ℕ) = 0 + (x 1 : ℕ) := hx 1
  have hlt : (x 1 : ℕ) < 768 := (x 1).isLt
  refine (pay28_eq (D := fun a k => 1 / 2 * d a k) (W := fun j k => wd ⟨0 + (j : ℕ), lt_of_lt_of_le (Nat.add_lt_add_left j.isLt _) (by norm_num)⟩ k) (G := fun a j => hh a ⟨0 + (j : ℕ), lt_of_lt_of_le (Nat.add_lt_add_left j.isLt _) (by norm_num)⟩) (U := fun a j => hh a ⟨2816 + (j : ℕ), lt_of_lt_of_le (Nat.add_lt_add_left j.isLt _) (by norm_num)⟩)
    h98 (ldw768 h3 0 (by norm_num) _) (ldh768 h4 0 (by norm_num) _) (ldh768 h4 2816 (by norm_num) _) x).trans (congrArg _ ?_)
  rw [← e0]
  exact gate_dh (y 1) (by omega) (fun k => rfl) (fun k => congrArg (fun q => wd q k) (Fin.ext e1.symm))
    (congrArg (hh (y 0)) (Fin.ext e1.symm)) (congrArg (hh (y 0)) (Fin.ext (by show 2816 + (x 1 : ℕ) = 2816 + (y 1 : ℕ); omega)))

/-- The stores of a block's hidden values' gradient. -/
theorem dh_canon : View.canon (Val := Elt Ideal) (s := S256x5632) (e := EltTy.bf16)
    [⟨Rect.unit ![0, 4992] ![256, 640] inb_S256x5632_S256x640_0_4992, k0_pay45 (F := Ideal) (k0_pay22 v98 (View.ld v3 (Rect.unit ![2176, 0] ![640, 1024] inb_S2816x1024_S640x1024_2176_0))) (View.ld v4 (Rect.unit ![0, 2176] ![256, 640] inb_S256x5632_S256x640_0_2176))⟩,
     ⟨Rect.unit ![0, 2176] ![256, 640] inb_S256x5632_S256x640_0_2176, k0_pay44 (F := Ideal) (k0_pay22 v98 (View.ld v3 (Rect.unit ![2176, 0] ![640, 1024] inb_S2816x1024_S640x1024_2176_0))) (View.ld v4 (Rect.unit ![0, 2176] ![256, 640] inb_S256x5632_S256x640_0_2176)) (View.ld v4 (Rect.unit ![0, 4992] ![256, 640] inb_S256x5632_S256x640_0_4992))⟩,
     ⟨Rect.unit ![0, 4352] ![256, 640] inb_S256x5632_S256x640_0_4352, k0_pay45 (F := Ideal) (k0_pay22 v98 (View.ld v3 (Rect.unit ![1536, 0] ![640, 1024] inb_S2816x1024_S640x1024_1536_0))) (View.ld v4 (Rect.unit ![0, 1536] ![256, 640] inb_S256x5632_S256x640_0_1536))⟩,
     ⟨Rect.unit ![0, 1536] ![256, 640] inb_S256x5632_S256x640_0_1536, k0_pay44 (F := Ideal) (k0_pay22 v98 (View.ld v3 (Rect.unit ![1536, 0] ![640, 1024] inb_S2816x1024_S640x1024_1536_0))) (View.ld v4 (Rect.unit ![0, 1536] ![256, 640] inb_S256x5632_S256x640_0_1536)) (View.ld v4 (Rect.unit ![0, 4352] ![256, 640] inb_S256x5632_S256x640_0_4352))⟩,
     ⟨Rect.unit ![0, 3584] ![256, 768] inb_S256x5632_S256x768_0_3584, k0_pay37 (F := Ideal) (k0_pay21 v98 (View.ld v3 (Rect.unit ![768, 0] ![768, 1024] inb_S2816x1024_S768x1024_768_0))) (k0_pay34 (View.ld v4 (Rect.unit ![0, 768] ![256, 768] inb_S256x5632_S256x768_0_768)))⟩,
     ⟨Rect.unit ![0, 768] ![256, 768] inb_S256x5632_S256x768_0_768, k0_pay36 (F := Ideal) (k0_pay21 v98 (View.ld v3 (Rect.unit ![768, 0] ![768, 1024] inb_S2816x1024_S768x1024_768_0))) (k0_pay34 (View.ld v4 (Rect.unit ![0, 768] ![256, 768] inb_S256x5632_S256x768_0_768))) (View.ld v4 (Rect.unit ![0, 3584] ![256, 768] inb_S256x5632_S256x768_0_3584))⟩,
     ⟨Rect.unit ![0, 2816] ![256, 768] inb_S256x5632_S256x768_0_2816, k0_pay29 (F := Ideal) (k0_pay20 v98 (k0_pay19 (View.ld v3 (Rect.unit ![0, 0] ![768, 1024] inb_S2816x1024_S768x1024_0_0)))) (k0_pay24 (View.ld v4 (Rect.unit ![0, 0] ![256, 768] inb_S256x5632_S256x768_0_0))) (k0_pay25 (View.ld v4 (Rect.unit ![0, 0] ![256, 768] inb_S256x5632_S256x768_0_0)))⟩,
     ⟨Rect.unit ![0, 0] ![256, 768] inb_S256x5632_S256x768_0_0, k0_pay28 (F := Ideal) (k0_pay25 (View.ld v4 (Rect.unit ![0, 0] ![256, 768] inb_S256x5632_S256x768_0_0))) (k0_pay26 v98 (k0_pay19 (View.ld v3 (Rect.unit ![0, 0] ![768, 1024] inb_S2816x1024_S768x1024_0_0))) (View.ld v4 (Rect.unit ![0, 2816] ![256, 768] inb_S256x5632_S256x768_0_2816))) (k0_pay27 (View.ld v4 (Rect.unit ![0, 0] ![256, 768] inb_S256x5632_S256x768_0_0))) (Scalar.ofBits .f32 0x3F800000#32)⟩] y = blockDh wd hh d y :=
  canon8 (piece0 h98 h3 h4 y) (piece1 h98 h3 h4 y) (piece2 h98 h3 h4 y) (piece3 h98 h3 h4 y) (piece4 h98 h3 h4 y) (piece5 h98 h3 h4 y) (piece6 h98 h3 h4 y) (piece7 h98 h3 h4 y)

/-- The same at an odd point. -/
theorem dh_canon_odd : View.canon (Val := Elt Ideal) (s := S256x5632) (e := EltTy.bf16)
    [⟨Rect.unit ![0, 4992] ![256, 640] inb_S256x5632_S256x640_0_4992, k0_pay91 (F := Ideal) (k0_pay68 v98 (View.ld v3 (Rect.unit ![2176, 0] ![640, 1024] inb_S2816x1024_S640x1024_2176_0))) (View.ld v4 (Rect.unit ![0, 2176] ![256, 640] inb_S256x5632_S256x640_0_2176))⟩,
     ⟨Rect.unit ![0, 2176] ![256, 640] inb_S256x5632_S256x640_0_2176, k0_pay90 (F := Ideal) (k0_pay68 v98 (View.ld v3 (Rect.unit ![2176, 0] ![640, 1024] inb_S2816x1024_S640x1024_2176_0))) (View.ld v4 (Rect.unit ![0, 2176] ![256, 640] inb_S256x5632_S256x640_0_2176)) (View.ld v4 (Rect.unit ![0, 4992] ![256, 640] inb_S256x5632_S256x640_0_4992))⟩,
     ⟨Rect.unit ![0, 4352] ![256, 640] inb_S256x5632_S256x640_0_4352, k0_pay91 (F := Ideal) (k0_pay68 v98 (View.ld v3 (Rect.unit ![1536, 0] ![640, 1024] inb_S2816x1024_S640x1024_1536_0))) (View.ld v4 (Rect.unit ![0, 1536] ![256, 640] inb_S256x5632_S256x640_0_1536))⟩,
     ⟨Rect.unit ![0, 1536] ![256, 640] inb_S256x5632_S256x640_0_1536, k0_pay90 (F := Ideal) (k0_pay68 v98 (View.ld v3 (Rect.unit ![1536, 0] ![640, 1024] inb_S2816x1024_S640x1024_1536_0))) (View.ld v4 (Rect.unit ![0, 1536] ![256, 640] inb_S256x5632_S256x640_0_1536)) (View.ld v4 (Rect.unit ![0, 4352] ![256, 640] inb_S256x5632_S256x640_0_4352))⟩,
     ⟨Rect.unit ![0, 3584] ![256, 768] inb_S256x5632_S256x768_0_3584, k0_pay83 (F := Ideal) (k0_pay67 v98 (View.ld v3 (Rect.unit ![768, 0] ![768, 1024] inb_S2816x1024_S768x1024_768_0))) (k0_pay80 (View.ld v4 (Rect.unit ![0, 768] ![256, 768] inb_S256x5632_S256x768_0_768)))⟩,
     ⟨Rect.unit ![0, 768] ![256, 768] inb_S256x5632_S256x768_0_768, k0_pay82 (F := Ideal) (k0_pay67 v98 (View.ld v3 (Rect.unit ![768, 0] ![768, 1024] inb_S2816x1024_S768x1024_768_0))) (k0_pay80 (View.ld v4 (Rect.unit ![0, 768] ![256, 768] inb_S256x5632_S256x768_0_768))) (View.ld v4 (Rect.unit ![0, 3584] ![256, 768] inb_S256x5632_S256x768_0_3584))⟩,
     ⟨Rect.unit ![0, 2816] ![256, 768] inb_S256x5632_S256x768_0_2816, k0_pay75 (F := Ideal) (k0_pay66 v98 (k0_pay65 (View.ld v3 (Rect.unit ![0, 0] ![768, 1024] inb_S2816x1024_S768x1024_0_0)))) (k0_pay70 (View.ld v4 (Rect.unit ![0, 0] ![256, 768] inb_S256x5632_S256x768_0_0))) (k0_pay71 (View.ld v4 (Rect.unit ![0, 0] ![256, 768] inb_S256x5632_S256x768_0_0)))⟩,
     ⟨Rect.unit ![0, 0] ![256, 768] inb_S256x5632_S256x768_0_0, k0_pay74 (F := Ideal) (k0_pay71 (View.ld v4 (Rect.unit ![0, 0] ![256, 768] inb_S256x5632_S256x768_0_0))) (k0_pay72 v98 (k0_pay65 (View.ld v3 (Rect.unit ![0, 0] ![768, 1024] inb_S2816x1024_S768x1024_0_0))) (View.ld v4 (Rect.unit ![0, 2816] ![256, 768] inb_S256x5632_S256x768_0_2816))) (k0_pay73 (View.ld v4 (Rect.unit ![0, 0] ![256, 768] inb_S256x5632_S256x768_0_0))) (Scalar.ofBits .f32 0x3F800000#32)⟩] y = blockDh wd hh d y :=
  dh_canon h98 h3 h4 y

/-- The same values stored a second time, for the next point. -/
theorem dhs_canon : View.canon (Val := Elt Ideal) (s := S256x5632) (e := EltTy.bf16)
    [⟨Rect.unit ![0, 4992] ![256, 640] inb_S256x5632_S256x640_0_4992, k0_pay53 (F := Ideal) (k0_pay22 v98 (View.ld v3 (Rect.unit ![2176, 0] ![640, 1024] inb_S2816x1024_S640x1024_2176_0))) (View.ld v4 (Rect.unit ![0, 2176] ![256, 640] inb_S256x5632_S256x640_0_2176))⟩,
     ⟨Rect.unit ![0, 2176] ![256, 640] inb_S256x5632_S256x640_0_2176, k0_pay52 (F := Ideal) (k0_pay22 v98 (View.ld v3 (Rect.unit ![2176, 0] ![640, 1024] inb_S2816x1024_S640x1024_2176_0))) (View.ld v4 (Rect.unit ![0, 2176] ![256, 640] inb_S256x5632_S256x640_0_2176)) (View.ld v4 (Rect.unit ![0, 4992] ![256, 640] inb_S256x5632_S256x640_0_4992))⟩,
     ⟨Rect.unit ![0, 4352] ![256, 640] inb_S256x5632_S256x640_0_4352, k0_pay47 (F := Ideal) (k0_pay45 (k0_pay22 v98 (View.ld v3 (Rect.unit ![1536, 0] ![640, 1024] inb_S2816x1024_S640x1024_1536_0))) (View.ld v4 (Rect.unit ![0, 1536] ![256, 640] inb_S256x5632_S256x640_0_1536)))⟩,
     ⟨Rect.unit ![0, 1536] ![256, 640] inb_S256x5632_S256x640_0_1536, k0_pay46 (F := Ideal) (k0_pay22 v98 (View.ld v3 (Rect.unit ![1536, 0] ![640, 1024] inb_S2816x1024_S640x1024_1536_0))) (View.ld v4 (Rect.unit ![0, 1536] ![256, 640] inb_S256x5632_S256x640_0_1536)) (View.ld v4 (Rect.unit ![0, 4352] ![256, 640] inb_S256x5632_S256x640_0_4352))⟩,
     ⟨Rect.unit ![0, 3584] ![256, 768] inb_S256x5632_S256x768_0_3584, k0_pay39 (F := Ideal) (k0_pay21 v98 (View.ld v3 (Rect.unit ![768, 0] ![768, 1024] inb_S2816x1024_S768x1024_768_0))) (k0_pay34 (View.ld v4 (Rect.unit ![0, 768] ![256, 768] inb_S256x5632_S256x768_0_768)))⟩,
     ⟨Rect.unit ![0, 768] ![256, 768] inb_S256x5632_S256x768_0_768, k0_pay38 (F := Ideal) (k0_pay21 v98 (View.ld v3 (Rect.unit ![768, 0] ![768, 1024] inb_S2816x1024_S768x1024_768_0))) (k0_pay34 (View.ld v4 (Rect.unit ![0, 768] ![256, 768] inb_S256x5632_S256x768_0_768))) (View.ld v4 (Rect.unit ![0, 3584] ![256, 768] inb_S256x5632_S256x768_0_3584))⟩,
     ⟨Rect.unit ![0, 2816] ![256, 768] inb_S256x5632_S256x768_0_2816, k0_pay31 (F := Ideal) (k0_pay20 v98 (k0_pay19 (View.ld v3 (Rect.unit ![0, 0] ![768, 1024] inb_S2816x1024_S768x1024_0_0)))) (k0_pay24 (View.ld v4 (Rect.unit ![0, 0] ![256, 768] inb_S256x5632_S256x768_0_0))) (k0_pay25 (View.ld v4 (Rect.unit ![0, 0] ![256, 768] inb_S256x5632_S256x768_0_0)))⟩,
     ⟨Rect.unit ![0, 0] ![256, 768] inb_S256x5632_S256x768_0_0, k0_pay30 (F := Ideal) (k0_pay25 (View.ld v4 (Rect.unit ![0, 0] ![256, 768] inb_S256x5632_S256x768_0_0))) (k0_pay26 v98 (k0_pay19 (View.ld v3 (Rect.unit ![0, 0] ![768, 1024] inb_S2816x1024_S768x1024_0_0))) (View.ld v4 (Rect.unit ![0, 2816] ![256, 768] inb_S256x5632_S256x768_0_2816))) (k0_pay27 (View.ld v4 (Rect.unit ![0, 0] ![256, 768] inb_S256x5632_S256x768_0_0))) (Scalar.ofBits .f32 0x3F800000#32)⟩] y = blockDh wd hh d y :=
  canon8 (fun x hx => (cast640 _ _ x).trans (piece0 h98 h3 h4 y x hx))
    (fun x hx => (cast640 _ _ x).trans (piece1 h98 h3 h4 y x hx))
    (fun x hx => (cast640 _ _ x).trans (piece2 h98 h3 h4 y x hx))
    (fun x hx => (cast640 _ _ x).trans (piece3 h98 h3 h4 y x hx))
    (fun x hx => (cast768 _ _ x).trans (piece4 h98 h3 h4 y x hx))
    (fun x hx => (cast768 _ _ x).trans (piece5 h98 h3 h4 y x hx))
    (fun x hx => (cast768 _ _ x).trans (piece6 h98 h3 h4 y x hx))
    (fun x hx => (cast768 _ _ x).trans (piece7 h98 h3 h4 y x hx))

/-- The same values stored over older contents. -/
theorem dhs_canon_fill (T : List (View.Piece (Elt Ideal) S256x5632 EltTy.bf16)) : View.canon (Val := Elt Ideal) (s := S256x5632) (e := EltTy.bf16)
    ([⟨Rect.unit ![0, 4992] ![256, 640] inb_S256x5632_S256x640_0_4992, k0_pay53 (F := Ideal) (k0_pay22 v98 (View.ld v3 (Rect.unit ![2176, 0] ![640, 1024] inb_S2816x1024_S640x1024_2176_0))) (View.ld v4 (Rect.unit ![0, 2176] ![256, 640] inb_S256x5632_S256x640_0_2176))⟩,
     ⟨Rect.unit ![0, 2176] ![256, 640] inb_S256x5632_S256x640_0_2176, k0_pay52 (F := Ideal) (k0_pay22 v98 (View.ld v3 (Rect.unit ![2176, 0] ![640, 1024] inb_S2816x1024_S640x1024_2176_0))) (View.ld v4 (Rect.unit ![0, 2176] ![256, 640] inb_S256x5632_S256x640_0_2176)) (View.ld v4 (Rect.unit ![0, 4992] ![256, 640] inb_S256x5632_S256x640_0_4992))⟩,
     ⟨Rect.unit ![0, 4352] ![256, 640] inb_S256x5632_S256x640_0_4352, k0_pay47 (F := Ideal) (k0_pay45 (k0_pay22 v98 (View.ld v3 (Rect.unit ![1536, 0] ![640, 1024] inb_S2816x1024_S640x1024_1536_0))) (View.ld v4 (Rect.unit ![0, 1536] ![256, 640] inb_S256x5632_S256x640_0_1536)))⟩,
     ⟨Rect.unit ![0, 1536] ![256, 640] inb_S256x5632_S256x640_0_1536, k0_pay46 (F := Ideal) (k0_pay22 v98 (View.ld v3 (Rect.unit ![1536, 0] ![640, 1024] inb_S2816x1024_S640x1024_1536_0))) (View.ld v4 (Rect.unit ![0, 1536] ![256, 640] inb_S256x5632_S256x640_0_1536)) (View.ld v4 (Rect.unit ![0, 4352] ![256, 640] inb_S256x5632_S256x640_0_4352))⟩,
     ⟨Rect.unit ![0, 3584] ![256, 768] inb_S256x5632_S256x768_0_3584, k0_pay39 (F := Ideal) (k0_pay21 v98 (View.ld v3 (Rect.unit ![768, 0] ![768, 1024] inb_S2816x1024_S768x1024_768_0))) (k0_pay34 (View.ld v4 (Rect.unit ![0, 768] ![256, 768] inb_S256x5632_S256x768_0_768)))⟩,
     ⟨Rect.unit ![0, 768] ![256, 768] inb_S256x5632_S256x768_0_768, k0_pay38 (F := Ideal) (k0_pay21 v98 (View.ld v3 (Rect.unit ![768, 0] ![768, 1024] inb_S2816x1024_S768x1024_768_0))) (k0_pay34 (View.ld v4 (Rect.unit ![0, 768] ![256, 768] inb_S256x5632_S256x768_0_768))) (View.ld v4 (Rect.unit ![0, 3584] ![256, 768] inb_S256x5632_S256x768_0_3584))⟩,
     ⟨Rect.unit ![0, 2816] ![256, 768] inb_S256x5632_S256x768_0_2816, k0_pay31 (F := Ideal) (k0_pay20 v98 (k0_pay19 (View.ld v3 (Rect.unit ![0, 0] ![768, 1024] inb_S2816x1024_S768x1024_0_0)))) (k0_pay24 (View.ld v4 (Rect.unit ![0, 0] ![256, 768] inb_S256x5632_S256x768_0_0))) (k0_pay25 (View.ld v4 (Rect.unit ![0, 0] ![256, 768] inb_S256x5632_S256x768_0_0)))⟩,
     ⟨Rect.unit ![0, 0] ![256, 768] inb_S256x5632_S256x768_0_0, k0_pay30 (F := Ideal) (k0_pay25 (View.ld v4 (Rect.unit ![0, 0] ![256, 768] inb_S256x5632_S256x768_0_0))) (k0_pay26 v98 (k0_pay19 (View.ld v3 (Rect.unit ![0, 0] ![768, 1024] inb_S2816x1024_S768x1024_0_0))) (View.ld v4 (Rect.unit ![0, 2816] ![256, 768] inb_S256x5632_S256x768_0_2816))) (k0_pay27 (View.ld v4 (Rect.unit ![0, 0] ![256, 768] inb_S256x5632_S256x768_0_0))) (Scalar.ofBits .f32 0x3F800000#32)⟩] ++ T) y = blockDh wd hh d y :=
  (canon_append T _ y (cover8 y _ _ _ _ _ _ _ _)).trans (dhs_canon h98 h3 h4 y)

/-- The same at an odd point. -/
theorem dhs_canon_odd : View.canon (Val := Elt Ideal) (s := S256x5632) (e := EltTy.bf16)
    [⟨Rect.unit ![0, 4992] ![256, 640] inb_S256x5632_S256x640_0_4992, k0_pay99 (F := Ideal) (k0_pay68 v98 (View.ld v3 (Rect.unit ![2176, 0] ![640, 1024] inb_S2816x1024_S640x1024_2176_0))) (View.ld v4 (Rect.unit ![0, 2176] ![256, 640] inb_S256x5632_S256x640_0_2176))⟩,
     ⟨Rect.unit ![0, 2176] ![256, 640] inb_S256x5632_S256x640_0_2176, k0_pay98 (F := Ideal) (k0_pay68 v98 (View.ld v3 (Rect.unit ![2176, 0] ![640, 1024] inb_S2816x1024_S640x1024_2176_0))) (View.ld v4 (Rect.unit ![0, 2176] ![256, 640] inb_S256x5632_S256x640_0_2176)) (View.ld v4 (Rect.unit ![0, 4992] ![256, 640] inb_S256x5632_S256x640_0_4992))⟩,
     ⟨Rect.unit ![0, 4352] ![256, 640] inb_S256x5632_S256x640_0_4352, k0_pay93 (F := Ideal) (k0_pay91 (k0_pay68 v98 (View.ld v3 (Rect.unit ![1536, 0] ![640, 1024] inb_S2816x1024_S640x1024_1536_0))) (View.ld v4 (Rect.unit ![0, 1536] ![256, 640] inb_S256x5632_S256x640_0_1536)))⟩,
     ⟨Rect.unit ![0, 1536] ![256, 640] inb_S256x5632_S256x640_0_1536, k0_pay92 (F := Ideal) (k0_pay68 v98 (View.ld v3 (Rect.unit ![1536, 0] ![640, 1024] inb_S2816x1024_S640x1024_1536_0))) (View.ld v4 (Rect.unit ![0, 1536] ![256, 640] inb_S256x5632_S256x640_0_1536)) (View.ld v4 (Rect.unit ![0, 4352] ![256, 640] inb_S256x5632_S256x640_0_4352))⟩,
     ⟨Rect.unit ![0, 3584] ![256, 768] inb_S256x5632_S256x768_0_3584, k0_pay85 (F := Ideal) (k0_pay67 v98 (View.ld v3 (Rect.unit ![768, 0] ![768, 1024] inb_S2816x1024_S768x1024_768_0))) (k0_pay80 (View.ld v4 (Rect.unit ![0, 768] ![256, 768] inb_S256x5632_S256x768_0_768)))⟩,
     ⟨Rect.unit ![0, 768] ![256, 768] inb_S256x5632_S256x768_0_768, k0_pay84 (F := Ideal) (k0_pay67 v98 (View.ld v3 (Rect.unit ![768, 0] ![768, 1024] inb_S2816x1024_S768x1024_768_0))) (k0_pay80 (View.ld v4 (Rect.unit ![0, 768] ![256, 768] inb_S256x5632_S256x768_0_768))) (View.ld v4 (Rect.unit ![0, 3584] ![256, 768] inb_S256x5632_S256x768_0_3584))⟩,
     ⟨Rect.unit ![0, 2816] ![256, 768] inb_S256x5632_S256x768_0_2816, k0_pay77 (F := Ideal) (k0_pay66 v98 (k0_pay65 (View.ld v3 (Rect.unit ![0, 0] ![768, 1024] inb_S2816x1024_S768x1024_0_0)))) (k0_pay70 (View.ld v4 (Rect.unit ![0, 0] ![256, 768] inb_S256x5632_S256x768_0_0))) (k0_pay71 (View.ld v4 (Rect.unit ![0, 0] ![256, 768] inb_S256x5632_S256x768_0_0)))⟩,
     ⟨Rect.unit ![0, 0] ![256, 768] inb_S256x5632_S256x768_0_0, k0_pay76 (F := Ideal) (k0_pay71 (View.ld v4 (Rect.unit ![0, 0] ![256, 768] inb_S256x5632_S256x768_0_0))) (k0_pay72 v98 (k0_pay65 (View.ld v3 (Rect.unit ![0, 0] ![768, 1024] inb_S2816x1024_S768x1024_0_0))) (View.ld v4 (Rect.unit ![0, 2816] ![256, 768] inb_S256x5632_S256x768_0_2816))) (k0_pay73 (View.ld v4 (Rect.unit ![0, 0] ![256, 768] inb_S256x5632_S256x768_0_0))) (Scalar.ofBits .f32 0x3F800000#32)⟩] y = blockDh wd hh d y :=
  dhs_canon h98 h3 h4 y

end

section
variable {d : Fin 256 → Fin 1024 → ℝ} {B : Fin 256 → Fin 5632 → ℝ} {wgu : Fin 1024 → Fin 5632 → ℝ}
  {vd : Vec Ideal S256x1024 .f32} {vb : Vec Ideal S256x5632 .bf16} {v5 : Vec Ideal S5632x1024 .bf16}
  (hd : ∀ i, vd i = ((d (i 0) (i 1) : ℝ) : EReal)) (hb : ∀ i, vb i = ((B (i 0) (i 1) : ℝ) : EReal))
  (h5 : ∀ i, v5 i = ((wgu (i 1) (i 0) : ℝ) : EReal))

include hd in
theorem ldd256 (o : ℕ) (ho : o + 256 ≤ 1024) (inb) (i) : View.ld vd (Rect.unit ![0, o] ![256, 256] inb) i
    = ((d (i 0) ⟨o + (i 1 : ℕ), lt_of_lt_of_le (Nat.add_lt_add_left (i 1).isLt o) ho⟩ : ℝ) : EReal) := by
  pointwise
  exact hd _

include h5 in
theorem ldg256 (o : ℕ) (ho : o + 256 ≤ 1024) (inb) (i) : View.ld v5 (Rect.unit ![0, o] ![5632, 256] inb) i
    = ((wgu ⟨o + (i 1 : ℕ), lt_of_lt_of_le (Nat.add_lt_add_left (i 1).isLt o) ho⟩ (i 0) : ℝ) : EReal) := by
  pointwise
  exact h5 _

/-- The block's input's gradient at an index. -/
def blockDx (wgu : Fin 1024 → Fin 5632 → ℝ) (B : Fin 256 → Fin 5632 → ℝ) (d : Fin 256 → Fin 1024 → ℝ) (y : S256x1024.Idx) : EReal :=
  ((dx wgu (B (y 0)) (d (y 0)) (y 1) : ℝ) : EReal)

variable (y : S256x1024.Idx)
include hd hb h5

theorem dxpiece0 : View.TileAt (Val := Elt Ideal) (e := EltTy.f32) y ![0, 768] ![256, 256]
    (k0_pay41 (F := Ideal) (k0_pay40 (View.ld vd (Rect.unit ![0, 768] ![256, 256] inb_S256x1024_S256x256_0_768))) vb (View.ld v5 (Rect.unit ![0, 768] ![5632, 256] inb_S5632x1024_S5632x256_0_768))) (blockDx wgu B d y) := fun x hx => by
  have e0 : y 0 = x 0 := Fin.ext (by have := hx 0; simpa using this)
  have e1 : (y 1 : ℕ) = 768 + (x 1 : ℕ) := hx 1
  refine (pay8_eq (D := fun a k => d a ⟨768 + (k : ℕ), lt_of_lt_of_le (Nat.add_lt_add_left k.isLt _) (by norm_num)⟩) (B := B)
    (W := fun j k => wgu ⟨768 + (k : ℕ), lt_of_lt_of_le (Nat.add_lt_add_left k.isLt _) (by norm_num)⟩ j)
    (ldd256 hd 768 (by norm_num) _) hb (ldg256 h5 768 (by norm_num) _) x).trans (congrArg _ ?_)
  rw [← e0]
  have e2 : y 1 = (⟨768 + (x 1 : ℕ), lt_of_lt_of_le (Nat.add_lt_add_left (x 1).isLt _) (by norm_num)⟩ : Fin 1024) := Fin.ext e1
  exact congrArg (fun q => alpha * d (y 0) q + ∑ j, B (y 0) j * wgu q j) e2.symm

theorem dxpiece1 : View.TileAt (Val := Elt Ideal) (e := EltTy.f32) y ![0, 512] ![256, 256]
    (k0_pay33 (F := Ideal) (View.ld vd (Rect.unit ![0, 512] ![256, 256] inb_S256x1024_S256x256_0_512)) vb (View.ld v5 (Rect.unit ![0, 512] ![5632, 256] inb_S5632x1024_S5632x256_0_512))) (blockDx wgu B d y) := fun x hx => by
  have e0 : y 0 = x 0 := Fin.ext (by have := hx 0; simpa using this)
  have e1 : (y 1 : ℕ) = 512 + (x 1 : ℕ) := hx 1
  refine (pay8_eq (D := fun a k => d a ⟨512 + (k : ℕ), lt_of_lt_of_le (Nat.add_lt_add_left k.isLt _) (by norm_num)⟩) (B := B)
    (W := fun j k => wgu ⟨512 + (k : ℕ), lt_of_lt_of_le (Nat.add_lt_add_left k.isLt _) (by norm_num)⟩ j)
    (ldd256 hd 512 (by norm_num) _) hb (ldg256 h5 512 (by norm_num) _) x).trans (congrArg _ ?_)
  rw [← e0]
  have e2 : y 1 = (⟨512 + (x 1 : ℕ), lt_of_lt_of_le (Nat.add_lt_add_left (x 1).isLt _) (by norm_num)⟩ : Fin 1024) := Fin.ext e1
  exact congrArg (fun q => alpha * d (y 0) q + ∑ j, B (y 0) j * wgu q j) e2.symm

theorem dxpiece2 : View.TileAt (Val := Elt Ideal) (e := EltTy.f32) y ![0, 256] ![256, 256]
    (k0_pay23 (F := Ideal) (View.ld vd (Rect.unit ![0, 256] ![256, 256] inb_S256x1024_S256x256_0_256)) vb (View.ld v5 (Rect.unit ![0, 256] ![5632, 256] inb_S5632x1024_S5632x256_0_256))) (blockDx wgu B d y) := fun x hx => by
  have e0 : y 0 = x 0 := Fin.ext (by have := hx 0; simpa using this)
  have e1 : (y 1 : ℕ) = 256 + (x 1 : ℕ) := hx 1
  refine (pay8_eq (D := fun a k => d a ⟨256 + (k : ℕ), lt_of_lt_of_le (Nat.add_lt_add_left k.isLt _) (by norm_num)⟩) (B := B)
    (W := fun j k => wgu ⟨256 + (k : ℕ), lt_of_lt_of_le (Nat.add_lt_add_left k.isLt _) (by norm_num)⟩ j)
    (ldd256 hd 256 (by norm_num) _) hb (ldg256 h5 256 (by norm_num) _) x).trans (congrArg _ ?_)
  rw [← e0]
  have e2 : y 1 = (⟨256 + (x 1 : ℕ), lt_of_lt_of_le (Nat.add_lt_add_left (x 1).isLt _) (by norm_num)⟩ : Fin 1024) := Fin.ext e1
  exact congrArg (fun q => alpha * d (y 0) q + ∑ j, B (y 0) j * wgu q j) e2.symm

theorem dxpiece3 : View.TileAt (Val := Elt Ideal) (e := EltTy.f32) y ![0, 0] ![256, 256]
    (k0_pay8 (F := Ideal) (View.ld vd (Rect.unit ![0, 0] ![256, 256] inb_S256x1024_S256x256_0_0)) vb (View.ld v5 (Rect.unit ![0, 0] ![5632, 256] inb_S5632x1024_S5632x256_0_0))) (blockDx wgu B d y) := fun x hx => by
  have e0 : y 0 = x 0 := Fin.ext (by have := hx 0; simpa using this)
  have e1 : (y 1 : ℕ) = 0 + (x 1 : ℕ) := hx 1
  refine (pay8_eq (D := fun a k => d a ⟨0 + (k : ℕ), lt_of_lt_of_le (Nat.add_lt_add_left k.isLt _) (by norm_num)⟩) (B := B)
    (W := fun j k => wgu ⟨0 + (k : ℕ), lt_of_lt_of_le (Nat.add_lt_add_left k.isLt _) (by norm_num)⟩ j)
    (ldd256 hd 0 (by norm_num) _) hb (ldg256 h5 0 (by norm_num) _) x).trans (congrArg _ ?_)
  rw [← e0]
  have e2 : y 1 = (⟨0 + (x 1 : ℕ), lt_of_lt_of_le (Nat.add_lt_add_left (x 1).isLt _) (by norm_num)⟩ : Fin 1024) := Fin.ext e1
  exact congrArg (fun q => alpha * d (y 0) q + ∑ j, B (y 0) j * wgu q j) e2.symm

/-- The stores of a block's input's gradient. -/
theorem dx_canon : View.canon (Val := Elt Ideal) (s := S256x1024) (e := EltTy.f32)
    [⟨Rect.unit ![0, 768] ![256, 256] inb_S256x1024_S256x256_0_768, k0_pay41 (F := Ideal) (k0_pay40 (View.ld vd (Rect.unit ![0, 768] ![256, 256] inb_S256x1024_S256x256_0_768))) vb (View.ld v5 (Rect.unit ![0, 768] ![5632, 256] inb_S5632x1024_S5632x256_0_768))⟩,
     ⟨Rect.unit ![0, 512] ![256, 256] inb_S256x1024_S256x256_0_512, k0_pay33 (F := Ideal) (View.ld vd (Rect.unit ![0, 512] ![256, 256] inb_S256x1024_S256x256_0_512)) vb (View.ld v5 (Rect.unit ![0, 512] ![5632, 256] inb_S5632x1024_S5632x256_0_512))⟩,
     ⟨Rect.unit ![0, 256] ![256, 256] inb_S256x1024_S256x256_0_256, k0_pay23 (F := Ideal) (View.ld vd (Rect.unit ![0, 256] ![256, 256] inb_S256x1024_S256x256_0_256)) vb (View.ld v5 (Rect.unit ![0, 256] ![5632, 256] inb_S5632x1024_S5632x256_0_256))⟩,
     ⟨Rect.unit ![0, 0] ![256, 256] inb_S256x1024_S256x256_0_0, k0_pay8 (F := Ideal) (View.ld vd (Rect.unit ![0, 0] ![256, 256] inb_S256x1024_S256x256_0_0)) vb (View.ld v5 (Rect.unit ![0, 0] ![5632, 256] inb_S5632x1024_S5632x256_0_0))⟩] y = blockDx wgu B d y :=
  canon4 (dxpiece0 hd hb h5 y) (dxpiece1 hd hb h5 y) (dxpiece2 hd hb h5 y) (dxpiece3 hd hb h5 y)

/-- The same at an odd point. -/
theorem dx_canon_odd : View.canon (Val := Elt Ideal) (s := S256x1024) (e := EltTy.f32)
    [⟨Rect.unit ![0, 768] ![256, 256] inb_S256x1024_S256x256_0_768, k0_pay87 (F := Ideal) (k0_pay86 (View.ld vd (Rect.unit ![0, 768] ![256, 256] inb_S256x1024_S256x256_0_768))) vb (View.ld v5 (Rect.unit ![0, 768] ![5632, 256] inb_S5632x1024_S5632x256_0_768))⟩,
     ⟨Rect.unit ![0, 512] ![256, 256] inb_S256x1024_S256x256_0_512, k0_pay79 (F := Ideal) (View.ld vd (Rect.unit ![0, 512] ![256, 256] inb_S256x1024_S256x256_0_512)) vb (View.ld v5 (Rect.unit ![0, 512] ![5632, 256] inb_S5632x1024_S5632x256_0_512))⟩,
     ⟨Rect.unit ![0, 256] ![256, 256] inb_S256x1024_S256x256_0_256, k0_pay69 (F := Ideal) (View.ld vd (Rect.unit ![0, 256] ![256, 256] inb_S256x1024_S256x256_0_256)) vb (View.ld v5 (Rect.unit ![0, 256] ![5632, 256] inb_S5632x1024_S5632x256_0_256))⟩,
     ⟨Rect.unit ![0, 0] ![256, 256] inb_S256x1024_S256x256_0_0, k0_pay54 (F := Ideal) (View.ld vd (Rect.unit ![0, 0] ![256, 256] inb_S256x1024_S256x256_0_0)) vb (View.ld v5 (Rect.unit ![0, 0] ![5632, 256] inb_S5632x1024_S5632x256_0_0))⟩] y = blockDx wgu B d y :=
  dx_canon hd hb h5 y

end

end Cert.FfnKernel

end
-- ==== Proof.FfnPoint.lean ====
/- What one point of the feed-forward kernel's grid leaves, at real arguments. -/
module

public import proofs.«01_k».proof.Proof.FfnHost
public import proofs.«01_k».proof.Proof.FfnBlock
public import Idealize.ShloMosaic.Lib.Pipeline.ReadBack

@[expose] public section

set_option maxRecDepth 16384

noncomputable section

namespace Cert.FfnKernel

open Cert.FfnIdeal Cert.FfnIdeal.Gen Idealize.ShloMosaic Idealize.ShloMosaic.TcCoe Idealize.SL.Sem
open Cert.Reals Cert.Ffn
open scoped BigOperators

/-- Where each point's blocks lie. -/
theorem idx : ∀ t : Fin cfg0.N, win0_0.index t = ![min t.val 31, 0] ∧ win0_1.index t = ![min t.val 31, 0] ∧ win0_2.index t = ![0, 0]
    ∧ win0_3.index t = ![0, 0] ∧ win0_4.index t = ![min t.val 31, 0] ∧ win0_5.index t = ![0, 0]
    ∧ win0_6.index t = ![t.val - 1, 0] ∧ win0_7.index t = ![min t.val 31, 0] ∧ win0_8.index t = ![min t.val 31, 0]
    ∧ win0_9.index t = ![0, 0] ∧ win0_10.index t = ![0, 0] := (by decide +kernel : ∀ t : Fin grid0.N, _)

/-- The row of the whole array that row `a` of point `n`'s block is. -/
def row (n : ℕ) (a : Fin 256) : Fin 8192 := ⟨256 * min n 31 + (a : ℕ), by omega⟩

variable {m : (ℓ : Loc nD τ sig) → Buf (Elt Ideal) ℓ} {c : Dev nD} {x : Fin 8192 → Fin 1024 → ℝ} {wgu : Fin 1024 → Fin 5632 → ℝ}
  {wd : Fin 2816 → Fin 1024 → ℝ} {g : Fin 1024 → ℝ} {dy : Fin 8192 → Fin 1024 → ℝ}

variable (x wgu wd g dy) in
/-- The normalisation's gradient at a row of the whole array. -/
def drow (a : Fin 8192) : Fin 1024 → ℝ := dr (res wgu wd (x a)) g (dy a)

variable (x wgu wd g dy) in
/-- The hidden values' gradient at a row of the whole array. -/
def hrow (a : Fin 8192) : Fin 5632 → ℝ := dh wd (hid wgu (x a)) (drow x wgu wd g dy a)

variable (h : Args m c x wgu wd g dy) (t : Fin cfg0.N)
include h

theorem iblk0 (y) : iblk m c 0 t y = ((dy (row t.val (y 0)) (y 1) : ℝ) : EReal) := by
  have e : ∀ F : S8192x1024.Idx → EReal, (∀ i, V m c main_arg5 i = F i) → iblk m c 0 t y = F (ix2 (row t.val (y 0)) (y 1)) := fun F h => by
    blk_simp [iblk]
    rw [h]
    blk_ext [row, idx t]
  exact e _ (Vdy_eq h)

theorem iblk1 (y) : iblk m c 1 t y = ((res wgu wd (x (row t.val (y 0))) (y 1) : ℝ) : EReal) := by
  have e : ∀ F : S8192x1024.Idx → EReal, (∀ i, V m c main_v13 i = F i) → iblk m c 1 t y = F (ix2 (row t.val (y 0)) (y 1)) := fun F h => by
    blk_simp [iblk]
    rw [h]
    blk_ext [row, idx t]
  exact e _ (Vr_eq h)

theorem iblk2 (y) : iblk m c 2 t y = ((g (y 1) : ℝ) : EReal) := by
  have e : ∀ F : S1x1024.Idx → EReal, (∀ i, V m c main_v14 i = F i) → iblk m c 2 t y = F (ix2 (y 0) (y 1)) := fun F h => by
    blk_simp [iblk]
    rw [h]
    blk_ext [idx t]
  exact e _ (Vg_eq h)

theorem iblk3 (y) : iblk m c 3 t y = ((wd (y 0) (y 1) : ℝ) : EReal) := by
  have e : ∀ F : S2816x1024.Idx → EReal, (∀ i, V m c main_v2 i = F i) → iblk m c 3 t y = F (ix2 (y 0) (y 1)) := fun F h => by
    blk_simp [iblk]
    rw [h]
    blk_ext [idx t]
  exact e _ (Vwd_eq h)

theorem iblk4 (y) : iblk m c 4 t y = ((hid wgu (x (row t.val (y 0))) (y 1) : ℝ) : EReal) := by
  have e : ∀ F : S8192x5632.Idx → EReal, (∀ i, V m c main_v15 i = F i) → iblk m c 4 t y = F (ix2 (row t.val (y 0)) (y 1)) := fun F h => by
    blk_simp [iblk]
    rw [h]
    blk_ext [row, idx t]
  exact e _ (Vh_eq h)

theorem iblk5 (y) : iblk m c 5 t y = ((wgu (y 1) (y 0) : ℝ) : EReal) := by
  have e : ∀ F : S5632x1024.Idx → EReal, (∀ i, V m c main_v1 i = F i) → iblk m c 5 t y = F (ix2 (y 0) (y 1)) := fun F h => by
    blk_simp [iblk]
    rw [h]
    blk_ext [idx t]
  exact e _ (Vwgut_eq h)

/-- Half the normalisation's gradient, as a point computes it. -/
theorem df_block (i) : k0_pay18 (F := Ideal) (k0_pay10 (iblk m c 1 t)) (k0_pay11 (iblk m c 1 t)) (iblk m c 0 t) (iblk m c 2 t) i
    = ((1 / 2 * drow x wgu wd g dy (row t.val (i 0)) (i 1) : ℝ) : EReal) :=
  pay18_eq (r := fun a => res wgu wd (x (row t.val a))) (dy := fun a => dy (row t.val a)) (g := g) (iblk1 h t) (iblk0 h t) (iblk2 h t) i

theorem cast1024 (w : FVec Ideal S256x1024 .f32) (h) (x) : shapeCast S256x1024 w h x = w x := by pointwise

/-- The normalisation's gradient, as a point keeps it. -/
theorem dr_block (i) : k0_pay6 (F := Ideal) (k0_pay17 (k0_pay10 (iblk m c 1 t)) (k0_pay11 (iblk m c 1 t)) (iblk m c 0 t) (iblk m c 2 t)) i
    = ((drow x wgu wd g dy (row t.val (i 0)) (i 1) : ℝ) : EReal) :=
  (cast1024 h _ _ _).trans
    (pay17_eq (r := fun a => res wgu wd (x (row t.val a))) (dy := fun a => dy (row t.val a)) (g := g) (iblk1 h t) (iblk0 h t) (iblk2 h t) i)

/-- A point's block of halved gradients. -/
theorem df_point (y) : (outsAt0 m c t.val t.isLt).2.1 y = ((1 / 2 * drow x wgu wd g dy (row t.val (y 0)) (y 1) : ℝ) : EReal) := by
  by_cases h0 : t.val % 33 = 0
  · have ht : t.val < 33 := lt_of_lt_of_eq t.isLt N_0
    rw [outsAt0_A m c t h0 (by omega) (by omega)]
    frame_out
    exact df_block h t y
  · by_cases h1 : t.val % 2 = 0
    · rw [outsAt0_C m c t h0 h1 (by omega)]
      frame_out
      exact df_block h t y
    · rw [outsAt0_B m c t h0 h1 (by omega)]
      frame_out
      exact df_block h t y

/-- A point's kept gradients of the normalisation. -/
theorem dr_point (y) : (outsAt0 m c t.val t.isLt).2.2.2.2.2.2.2 y = ((drow x wgu wd g dy (row t.val (y 0)) (y 1) : ℝ) : EReal) := by
  by_cases h0 : t.val % 33 = 0
  · have ht : t.val < 33 := lt_of_lt_of_eq t.isLt N_0
    rw [outsAt0_A m c t h0 (by omega) (by omega)]
    frame_out
    exact dr_block h t y
  · by_cases h1 : t.val % 2 = 0
    · rw [outsAt0_C m c t h0 h1 (by omega)]
      frame_out
      exact dr_block h t y
    · rw [outsAt0_B m c t h0 h1 (by omega)]
      frame_out
      exact dr_block h t y

/-- A point's block of hidden values' gradients. -/
theorem dh_point (y) : (outsAt0 m c t.val t.isLt).2.2.1 y = ((hrow x wgu wd g dy (row t.val (y 0)) (y 1) : ℝ) : EReal) := by
  by_cases h0 : t.val % 33 = 0
  · have ht : t.val < 33 := lt_of_lt_of_eq t.isLt N_0
    rw [outsAt0_A m c t h0 (by omega) (by omega)]
    frame_out
    exact dh_canon (wd := wd) (hh := fun a => hid wgu (x (row t.val a))) (d := fun a => drow x wgu wd g dy (row t.val a)) (df_block h t) (iblk3 h t) (iblk4 h t) y
  · by_cases h1 : t.val % 2 = 0
    · rw [outsAt0_C m c t h0 h1 (by omega)]
      frame_out
      exact dh_canon (wd := wd) (hh := fun a => hid wgu (x (row t.val a))) (d := fun a => drow x wgu wd g dy (row t.val a)) (df_block h t) (iblk3 h t) (iblk4 h t) y
    · rw [outsAt0_B m c t h0 h1 (by omega)]
      frame_out
      exact dh_canon_odd (wd := wd) (hh := fun a => hid wgu (x (row t.val a))) (d := fun a => drow x wgu wd g dy (row t.val a)) (df_block h t) (iblk3 h t) (iblk4 h t) y

/-- What an even point keeps of them. -/
theorem keep_even (h1 : t.val % 2 = 0) (y) :
    (outsAt0 m c t.val t.isLt).2.2.2.2.2.1 y = ((hrow x wgu wd g dy (row t.val (y 0)) (y 1) : ℝ) : EReal) := by
  by_cases h0 : t.val % 33 = 0
  · rw [outsAt0_A m c t h0 h1 (by omega)]
    frame_out
    exact dhs_canon_fill (wd := wd) (hh := fun a => hid wgu (x (row t.val a))) (d := fun a => drow x wgu wd g dy (row t.val a)) (df_block h t) (iblk3 h t) (iblk4 h t) y
      [⟨Rect.unit ![0, 0] ![256, 5632] inb_S256x5632_S256x5632_0_0, k0_pay1 (F := Ideal)⟩]
  · rw [outsAt0_C m c t h0 h1 (by omega)]
    frame_out
    exact dhs_canon (wd := wd) (hh := fun a => hid wgu (x (row t.val a))) (d := fun a => drow x wgu wd g dy (row t.val a)) (df_block h t) (iblk3 h t) (iblk4 h t) y

/-- What an odd point keeps of them. -/
theorem keep_odd (h2 : t.val % 2 = 1) (y) :
    (outsAt0 m c t.val t.isLt).2.2.2.2.2.2.1 y = ((hrow x wgu wd g dy (row t.val (y 0)) (y 1) : ℝ) : EReal) := by
  have ht : t.val < 33 := lt_of_lt_of_eq t.isLt N_0
  rw [outsAt0_B m c t (by omega) (by omega) h2]
  frame_out
  exact dhs_canon_odd (wd := wd) (hh := fun a => hid wgu (x (row t.val a))) (d := fun a => drow x wgu wd g dy (row t.val a)) (df_block h t) (iblk3 h t) (iblk4 h t) y

/-- A point's block of the input's gradient: the one before's. -/
theorem dx_point (h0 : t.val ≠ 0) (y) : (outsAt0 m c t.val t.isLt).1 y
    = ((dx wgu (hrow x wgu wd g dy (row (t.val - 1) (y 0))) (drow x wgu wd g dy (row (t.val - 1) (y 0))) (y 1) : ℝ) : EReal) := by
  have ht : t.val < 33 := lt_of_lt_of_eq t.isLt N_0
  have h3 : ¬ t.val % 33 = 0 := by omega
  have hp : t.val - 1 < cfg0.N := Nat.lt_of_le_of_lt (Nat.sub_le _ _) t.isLt
  by_cases h1 : t.val % 2 = 0
  · rw [outsAt0_C m c t h3 h1 (by omega)]
    frame_out
    rw [read_unread_whole, read_unread_whole]
    exact dx_canon (B := fun a => hrow x wgu wd g dy (row (t.val - 1) a)) (d := fun a => drow x wgu wd g dy (row (t.val - 1) a)) (wgu := wgu)
      (dr_point h ⟨t.val - 1, hp⟩) (keep_odd h ⟨t.val - 1, hp⟩ (by dsimp only; omega)) (iblk5 h t) y
  · rw [outsAt0_B m c t h3 h1 (by omega)]
    frame_out
    rw [read_unread_whole, read_unread_whole]
    exact dx_canon_odd (B := fun a => hrow x wgu wd g dy (row (t.val - 1) a)) (d := fun a => drow x wgu wd g dy (row (t.val - 1) a)) (wgu := wgu)
      (dr_point h ⟨t.val - 1, hp⟩) (keep_even h ⟨t.val - 1, hp⟩ (by dsimp only; omega)) (iblk5 h t) y

end Cert.FfnKernel

end
-- ==== Proof.FfnFinal.lean ====
/- The feed-forward kernel's five result arrays, at real arguments. -/
module

public import proofs.«01_k».proof.Proof.FfnPoint

@[expose] public section

set_option maxRecDepth 16384

noncomputable section

namespace Cert.FfnKernel

open Cert.FfnIdeal Cert.FfnIdeal.Gen Idealize.ShloMosaic Idealize.ShloMosaic.TcCoe Idealize.SL.Sem
open Cert.Reals Cert.Ffn
open scoped BigOperators

/-- The sum of a function of the rows over the first points of the grid; the last point adds nothing. -/
def psum (F : Fin 8192 → ℝ) (n : ℕ) : ℝ := ∑ s ∈ Finset.range n, if s < 32 then ∑ a, F (row s a) else 0

/-- Over the whole grid it is the sum over all rows. -/
theorem psum_all (F : Fin 8192 → ℝ) : psum F 33 = ∑ t, F t := by
  have e := (Equiv.sum_comp (finProdFinEquiv (m := 32) (n := 256)) F)
  rw [psum, Finset.sum_range_succ, if_neg (by norm_num), add_zero, Finset.sum_range, ← e, Fintype.sum_prod_type]
  refine Finset.sum_congr rfl fun s _ => ?_
  rw [if_pos s.isLt]
  refine Finset.sum_congr rfl fun a _ => congrArg F (Fin.ext ?_)
  have hs : (s : ℕ) < 32 := s.isLt
  simp only [row, finProdFinEquiv_apply_val]
  omega

/-- The factor by which a point's part counts. -/
theorem live (t : Fin cfg0.N) : k0_pay12 (F := Ideal) (BitVec.ofNat 32 ↑(grid0.coords t 0)) = (((if t.val < 32 then 1 else 0 : ℝ)) : EReal) := by
  have e : ∀ t : Fin grid0.N, Scalar.cmpi .slt (BitVec.ofNat 32 ↑(grid0.coords t 0)) 32#32 = if t.val < 32 then 1#1 else 0#1 := by decide +kernel
  unfold k0_pay12
  dsimp only
  rw [e t]
  split
  · exact one_bits
  · show Ideal.ofBits .f32 0x00000000#32 = _
    rw [Ideal.ofBits_zero_f32]; rfl

theorem cast1x1024 (w : FVec Ideal S1x1024 .f32) (h) (x) : shapeCast S1x1024 w h x = w x := by pointwise

variable {r dy0 : Fin 256 → Fin 1024 → ℝ} {v38 v56 : Vec Ideal S256x1024 .f32} {v60 : Vec Ideal S1x1024 .f32}

/-- One point's addition to the factor's gradient. -/
theorem pay15_eq (q : ℝ) (z : ℝ) (h38 : ∀ i, v38 i = ((r (i 0) (i 1) : ℝ) : EReal)) (h56 : ∀ i, v56 i = ((dy0 (i 0) (i 1) : ℝ) : EReal)) (y)
    (h60 : v60 y = ((z : ℝ) : EReal)) : k0_pay15 (F := Ideal) ((q : ℝ) : EReal) (k0_pay13 v60) (k0_pay14 v38 v56) y
      = ((z + q * ∑ a, xhat 1024 eps (r a) (y 1) * dy0 a (y 1) : ℝ) : EReal) := by
  have e : k0_pay13 (F := Ideal) v60 y = ((z : ℝ) : EReal) := (cast1x1024 _ _ _).trans h60
  pointwise [k0_pay15]
  rw [e, pay14_eq h38 h56, mul_coe, add_coe]
  refine congrArg (fun s : ℝ => ((z + q * s : ℝ) : EReal)) (Finset.sum_congr rfl fun a _ => mul_comm _ _)

/-- One point's addition to the offset's gradient. -/
theorem pay16_eq (q : ℝ) (z : ℝ) (h56 : ∀ i, v56 i = ((dy0 (i 0) (i 1) : ℝ) : EReal)) (y)
    (h60 : v60 y = ((z : ℝ) : EReal)) : k0_pay16 (F := Ideal) v56 ((q : ℝ) : EReal) v60 y = ((z + q * ∑ a, dy0 a (y 1) : ℝ) : EReal) := by
  pointwise [k0_pay16]
  simp only [h60, h56, sum_coe, mul_coe, add_coe]
  rfl

variable {m : (ℓ : Loc nD τ sig) → Buf (Elt Ideal) ℓ} {c : Dev nD} {x : Fin 8192 → Fin 1024 → ℝ} {wgu : Fin 1024 → Fin 5632 → ℝ}
  {wd : Fin 2816 → Fin 1024 → ℝ} {g : Fin 1024 → ℝ} {dy : Fin 8192 → Fin 1024 → ℝ}

theorem zero4 (y) : k0_pay4 (F := Ideal) y = ((0 : ℝ) : EReal) := by pointwise [k0_pay4]; rfl

theorem zero5 (y) : k0_pay5 (F := Ideal) y = ((0 : ℝ) : EReal) := by pointwise [k0_pay5]; rfl

theorem psum_succ (F : Fin 8192 → ℝ) (n : ℕ) : psum F (n + 1) = psum F n + (if n < 32 then 1 else 0) * ∑ a, F (row n a) := by
  rw [psum, Finset.sum_range_succ, ← psum]
  split <;> simp

variable (h : Args m c x wgu wd g dy)
include h

/-- The factor's gradient so far. -/
theorem dgam_point (y : S1x1024.Idx) : ∀ (n : ℕ) (hn : n < cfg0.N), (outsAt0 m c n hn).2.2.2.1 y
    = ((psum (fun t => xhat 1024 eps (res wgu wd (x t)) (y 1) * dy t (y 1)) (n + 1) : ℝ) : EReal)
  | 0, hn => by
    rw [psum_succ]
    refine (congrArg (fun o => o.2.2.2.1 y) (outsAt0_A m c ⟨0, hn⟩ rfl rfl (fun e => absurd e (by norm_num)))).trans ?_
    frame_out
    rw [live]
    exact pay15_eq _ _ (r := fun a => res wgu wd (x (row 0 a))) (dy0 := fun a => dy (row 0 a)) (iblk1 h ⟨0, hn⟩) (iblk0 h ⟨0, hn⟩) y (zero4 y)
  | n + 1, hn => by
    have hN : n + 1 < 33 := lt_of_lt_of_eq hn N_0
    rw [psum_succ]
    have ih := dgam_point y n (Nat.lt_of_succ_lt hn)
    by_cases h1 : (n + 1) % 2 = 0
    · refine (congrArg (fun o => o.2.2.2.1 y) (outsAt0_C m c ⟨n + 1, hn⟩ (by dsimp only; omega) h1 (by dsimp only; omega))).trans ?_
      frame_out
      rw [live]
      exact pay15_eq _ _ (r := fun a => res wgu wd (x (row (n + 1) a))) (dy0 := fun a => dy (row (n + 1) a)) (iblk1 h ⟨n + 1, hn⟩) (iblk0 h ⟨n + 1, hn⟩) y ih
    · refine (congrArg (fun o => o.2.2.2.1 y) (outsAt0_B m c ⟨n + 1, hn⟩ (by dsimp only; omega) h1 (by dsimp only; omega))).trans ?_
      frame_out
      refine (congrArg (fun s => k0_pay61 (F := Ideal) s _ _ y) (live ⟨n + 1, hn⟩)).trans ?_
      exact pay15_eq _ _ (r := fun a => res wgu wd (x (row (n + 1) a))) (dy0 := fun a => dy (row (n + 1) a)) (iblk1 h ⟨n + 1, hn⟩) (iblk0 h ⟨n + 1, hn⟩) y ih

/-- The offset's gradient so far. -/
theorem dbet_point (y : S1x1024.Idx) : ∀ (n : ℕ) (hn : n < cfg0.N), (outsAt0 m c n hn).2.2.2.2.1 y
    = ((psum (fun t => dy t (y 1)) (n + 1) : ℝ) : EReal)
  | 0, hn => by
    rw [psum_succ]
    refine (congrArg (fun o => o.2.2.2.2.1 y) (outsAt0_A m c ⟨0, hn⟩ rfl rfl (fun e => absurd e (by norm_num)))).trans ?_
    frame_out
    rw [live]
    exact pay16_eq _ _ (dy0 := fun a => dy (row 0 a)) (iblk0 h ⟨0, hn⟩) y (zero5 y)
  | n + 1, hn => by
    have hN : n + 1 < 33 := lt_of_lt_of_eq hn N_0
    rw [psum_succ]
    have ih := dbet_point y n (Nat.lt_of_succ_lt hn)
    by_cases h1 : (n + 1) % 2 = 0
    · refine (congrArg (fun o => o.2.2.2.2.1 y) (outsAt0_C m c ⟨n + 1, hn⟩ (by dsimp only; omega) h1 (by dsimp only; omega))).trans ?_
      frame_out
      rw [live]
      exact pay16_eq _ _ (dy0 := fun a => dy (row (n + 1) a)) (iblk0 h ⟨n + 1, hn⟩) y ih
    · refine (congrArg (fun o => o.2.2.2.2.1 y) (outsAt0_B m c ⟨n + 1, hn⟩ (by dsimp only; omega) h1 (by dsimp only; omega))).trans ?_
      frame_out
      refine (congrArg (fun s => k0_pay62 (F := Ideal) _ s _ y) (live ⟨n + 1, hn⟩)).trans ?_
      exact pay16_eq _ _ (dy0 := fun a => dy (row (n + 1) a)) (iblk0 h ⟨n + 1, hn⟩) y ih

/-- The input's gradient. -/
theorem dx_final : (dats m 0 c).arrAt 6 cfg0.N = fun i : S8192x1024.Idx =>
    ((dx wgu (hrow x wgu wd g dy (i 0)) (drow x wgu wd g dy (i 0)) (i 1) : ℝ) : EReal) := by
  refine (dats m 0 c).arrAt_eq_of_covers 6 _ (by decide +kernel) fun t hf y => ?_
  have ht : t.val < 33 := lt_of_lt_of_eq t.isLt N_0
  have h0 : t.val ≠ 0 := fun e => by
    have : ∀ t : Fin grid0.N, (cfg0.win 6).flush t = true → t.val ≠ 0 := by decide +kernel
    exact this t hf e
  have e : ∀ F : S8192x1024.Idx → EReal, F (((cfg0.win 6).blk t).view.emb y) = F (ix2 (row (t.val - 1) (y 0)) (y 1)) := fun F => by
    blk_ext [row, idx t]
  rw [after0_6]
  exact (dx_point h t h0 y).trans (e fun i => ((dx wgu (hrow x wgu wd g dy (i 0)) (drow x wgu wd g dy (i 0)) (i 1) : ℝ) : EReal)).symm

/-- Half the normalisation's gradient. -/
theorem df_final : (dats m 0 c).arrAt 7 cfg0.N = fun i : S8192x1024.Idx => ((1 / 2 * drow x wgu wd g dy (i 0) (i 1) : ℝ) : EReal) := by
  refine (dats m 0 c).arrAt_eq_of_covers 7 _ (by decide +kernel) fun t hf y => ?_
  have e : ∀ F : S8192x1024.Idx → EReal, F (((cfg0.win 7).blk t).view.emb y) = F (ix2 (row t.val (y 0)) (y 1)) := fun F => by
    blk_ext [row, idx t]
  rw [after0_7]
  exact (df_point h t y).trans (e fun i => ((1 / 2 * drow x wgu wd g dy (i 0) (i 1) : ℝ) : EReal)).symm

/-- The hidden values' gradient. -/
theorem dh_final : (dats m 0 c).arrAt 8 cfg0.N = fun i : S8192x5632.Idx => ((hrow x wgu wd g dy (i 0) (i 1) : ℝ) : EReal) := by
  refine (dats m 0 c).arrAt_eq_of_covers 8 _ (by decide +kernel) fun t hf y => ?_
  have e : ∀ F : S8192x5632.Idx → EReal, F (((cfg0.win 8).blk t).view.emb y) = F (ix2 (row t.val (y 0)) (y 1)) := fun F => by
    blk_ext [row, idx t]
  rw [after0_8]
  exact (dh_point h t y).trans (e fun i => ((hrow x wgu wd g dy (i 0) (i 1) : ℝ) : EReal)).symm

/-- The factor's gradient. -/
theorem dgam_final : (dats m 0 c).arrAt 9 cfg0.N = fun i : S1x1024.Idx => ((∑ t, xhat 1024 eps (res wgu wd (x t)) (i 1) * dy t (i 1) : ℝ) : EReal) := by
  refine (dats m 0 c).arrAt_eq_of_covers 9 _ (by decide +kernel) fun t hf y => ?_
  have e : ∀ F : S1x1024.Idx → EReal, F (((cfg0.win 9).blk t).view.emb y) = F (ix2 (y 0) (y 1)) := fun F => by
    blk_ext [idx t]
  have ht : t.val = 32 := by
    have h1 := (flush0_9 t).mp hf
    have h2 : t.val < 33 := lt_of_lt_of_eq t.isLt N_0
    omega
  rw [after0_9]
  refine ((dgam_point h y t.val t.isLt).trans ?_).trans (e fun i => ((∑ t, xhat 1024 eps (res wgu wd (x t)) (i 1) * dy t (i 1) : ℝ) : EReal)).symm
  rw [ht, psum_all]; rfl

/-- The offset's gradient. -/
theorem dbet_final : (dats m 0 c).arrAt 10 cfg0.N = fun i : S1x1024.Idx => ((∑ t, dy t (i 1) : ℝ) : EReal) := by
  refine (dats m 0 c).arrAt_eq_of_covers 10 _ (by decide +kernel) fun t hf y => ?_
  have e : ∀ F : S1x1024.Idx → EReal, F (((cfg0.win 10).blk t).view.emb y) = F (ix2 (y 0) (y 1)) := fun F => by
    blk_ext [idx t]
  have ht : t.val = 32 := by
    have h1 := (flush0_10 t).mp hf
    have h2 : t.val < 33 := lt_of_lt_of_eq t.isLt N_0
    omega
  rw [after0_10]
  refine ((dbet_point h y t.val t.isLt).trans ?_).trans (e fun i => ((∑ t, dy t (i 1) : ℝ) : EReal)).symm
  rw [ht, psum_all]; rfl

end Cert.FfnKernel

end
-- ==== Proof.FfnClaim.lean ====
/- The feed-forward block's backward call and its reference leave the same five arrays. -/
module

public import proofs.«01_k».proof.Defs
public import proofs.«01_k».proof.Proof.Finite
public import proofs.«01_k».proof.Proof.FfnRef
public import proofs.«01_k».proof.Proof.FfnFinal
public import proofs.«01_k».proof.Proof.Gen.FfnIdeal.Value

@[expose] public section

set_option maxRecDepth 16384

noncomputable section

namespace Cert.FfnClaim

open Idealize.ShloMosaic Idealize.SL.Sem Cert.Reals Cert.Ffn
open scoped BigOperators

/-- The idealized reference ends with its arguments unchanged and its counters at zero. -/
theorem frame_reference : Cert.quiescent_FfnRefIdeal :=
  fun m ρ _ => (θ_run Cert.FfnRefIdeal.defs _ _).mono
    (fun r h => ⟨fun c => (h c).2.2.2.2.2, sem_eq_zero_of_no_sems (by decide) r.2⟩) (Cert.FfnRefIdeal.Value.run (F := Ideal) m ρ)

variable (m : (ℓ : Loc Cert.FfnIdeal.nD Cert.FfnIdeal.τ Cert.FfnIdeal.sig) → Buf (Elt Ideal) ℓ)

/-- Under the precondition a device's five differentiated arguments are reals. -/
theorem args_of (hp : Cert.Pre_FfnIdeal_ffn_finite m) (c : Dev Cert.FfnIdeal.nD) :
    ∃ x wgu wd g dy, Cert.FfnKernel.Args m c x wgu wd g dy := by
  obtain ⟨h0, h1, h2, h3, h5⟩ := Cert.Pre_ffn_finite.real _ _ _ _ _ _ (hp c)
  choose x hx using h0
  choose wgu hwgu using h1
  choose wd hwd using h2
  choose g hg using h3
  choose dy hdy using h5
  exact ⟨fun a b => x (ValueIdx.ix2 a b), fun a b => wgu (ValueIdx.ix2 a b), fun a b => wd (ValueIdx.ix2 a b), fun a => g (ValueIdx.ix1 a),
    fun a b => dy (ValueIdx.ix2 a b),
    fun i => (hx i).trans (congrArg (fun k => ((x k : ℝ) : EReal)) (ValueIdx.eq_ix2 i)),
    fun i => (hwgu i).trans (congrArg (fun k => ((wgu k : ℝ) : EReal)) (ValueIdx.eq_ix2 i)),
    fun i => (hwd i).trans (congrArg (fun k => ((wd k : ℝ) : EReal)) (ValueIdx.eq_ix2 i)),
    fun i => (hg i).trans (congrArg (fun k => ((g k : ℝ) : EReal)) (ValueIdx.eq_ix1 i)),
    fun i => (hdy i).trans (congrArg (fun k => ((dy k : ℝ) : EReal)) (ValueIdx.eq_ix2 i))⟩

/-- From equal real arguments both programs leave the same results. -/
theorem algebraic : Cert.algebraic_FfnIdeal_FfnRefIdeal_pre_ffn_finite := by
  intro m g m' g' hp hm
  refine ⟨fun c => (Cert.FfnIdeal.Gen.dats m 0 c).arrAt 6 Cert.FfnIdeal.cfg0.N, fun c => (Cert.FfnIdeal.Gen.dats m 0 c).arrAt 7 Cert.FfnIdeal.cfg0.N,
    fun c => (Cert.FfnIdeal.Gen.dats m 0 c).arrAt 8 Cert.FfnIdeal.cfg0.N, fun c => (Cert.FfnIdeal.Gen.dats m 0 c).arrAt 9 Cert.FfnIdeal.cfg0.N,
    fun c => (Cert.FfnIdeal.Gen.dats m 0 c).arrAt 10 Cert.FfnIdeal.cfg0.N, Cert.FfnIdeal.Value.run_blocks m g, ?_⟩
  refine (θ_run _ _ _).mono (fun r h c => ?_) (Cert.FfnRefIdeal.Value.run m' g')
  obtain ⟨x, wgu, wd, ga, dy, ha⟩ := args_of m hp c
  obtain ⟨e0, e1, e2, e3, e4, e5⟩ := hm c
  have hr : Cert.FfnRef.Args (StableHlo.launchContents m' c) x wgu wd ga dy :=
    ⟨fun i => (congrFun e0 i).trans (ha.x i), fun i => (congrFun e1 i).trans (ha.wgu i), fun i => (congrFun e2 i).trans (ha.wd i),
      fun i => (congrFun e3 i).trans (ha.g i), fun i => (congrFun e5 i).trans (ha.dy i)⟩
  obtain ⟨r0, r1, r2, r3, r4, k⟩ := h c
  refine ⟨r0.trans ?_, r1.trans ?_, r2.trans ?_, r3.trans ?_, r4.trans ?_, k⟩
  · exact (funext fun i => Cert.FfnRef.v84_eq hr i).trans (Cert.FfnKernel.dx_final ha).symm
  · exact (funext fun i => Cert.FfnRef.v75_eq hr i).trans (Cert.FfnKernel.df_final ha).symm
  · exact (funext fun i => Cert.FfnRef.v82_eq hr i).trans (Cert.FfnKernel.dh_final ha).symm
  · exact (funext fun i => Cert.FfnRef.v87_eq hr i).trans (Cert.FfnKernel.dgam_final ha).symm
  · exact (funext fun i => Cert.FfnRef.v88_eq hr i).trans (Cert.FfnKernel.dbet_final ha).symm

end Cert.FfnClaim
-- ==== Proof.Blocks.lean ====
/- A sum over all tokens, taken block by block. -/
module

public import Mathlib.Data.EReal.Operations
public import Mathlib.Algebra.BigOperators.Fin
public import Mathlib.Logic.Equiv.Fin.Basic

@[expose] public section

noncomputable section

namespace Cert.Blocks

open scoped BigOperators

/-- The token that row `a` of block `s` is. -/
def token (s : ℕ) (a : Fin 2048) : Fin 8192 := ⟨2048 * (s % 4) + (a : ℕ), by omega⟩

/-- The sum over the first `n` blocks of tokens. -/
def part (f : Fin 8192 → EReal) (n : ℕ) : EReal := ∑ s ∈ Finset.range n, ∑ a, f (token s a)

theorem part_one (f : Fin 8192 → EReal) : part f 1 = ∑ a, f (token 0 a) := by
  rw [part, Finset.sum_range_one]

theorem part_succ (f : Fin 8192 → EReal) (n : ℕ) : part f (n + 1) = part f n + ∑ a, f (token n a) := by
  rw [part, Finset.sum_range_succ, ← part]

/-- Over the four blocks it is the sum over all tokens. -/
theorem part_four (f : Fin 8192 → EReal) : part f 4 = ∑ t, f t := by
  rw [part, Finset.sum_range, ← Equiv.sum_comp (finProdFinEquiv (m := 4) (n := 2048)) f, Fintype.sum_prod_type]
  refine Finset.sum_congr rfl fun s _ => Finset.sum_congr rfl fun a _ => congrArg f (Fin.ext ?_)
  have hs : (s : ℕ) < 4 := s.isLt
  simp only [token, finProdFinEquiv_apply_val]
  omega

end Cert.Blocks
-- ==== Proof.WdownClaim.lean ====
/- The gradient of the feed-forward block's second weight, blocked over the tokens, is the product's. -/
module

public import proofs.«01_k».proof.Defs
public import proofs.«01_k».proof.Proof.Blocks
public import proofs.«01_k».proof.Proof.Gen.WdownIdeal.Value
public import proofs.«01_k».proof.Proof.Gen.WdownRefIdeal.Run
public import Idealize.ShloMosaic.Lib.Pipeline.ValueKit
public import Idealize.ShloMosaic.Lib.Pipeline.ReadBack
public import Idealize.ShloMosaic.Lib.IdealHost

@[expose] public section

set_option maxRecDepth 16384

noncomputable section

namespace Cert.WdownKernel

open Cert.WdownIdeal Cert.WdownIdeal.Gen Idealize.ShloMosaic Idealize.ShloMosaic.TcCoe Idealize.SL.Sem
open Cert.Blocks
open scoped BigOperators

/-- Where each point's blocks lie. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The column that column `a` of point `n`'s block is. -/
def col (n : ℕ) (a : Fin 1408) : Fin 2816 := ⟨1408 * (n / 4 % 2) + (a : ℕ), by omega⟩

/-- A block's part, on top of what was there. -/
theorem pay2_eq (v3 : Vec Ideal S1408x1024 .f32) (v4 : Vec Ideal S2048x1408 .bf16) (v5 : Vec Ideal S2048x1024 .bf16) (y : S1408x1024.Idx) :
    k0_pay2 (F := Ideal) v3 v4 v5 y = v3 y + ∑ k, v4 (ix2 k (y 0)) * v5 (ix2 k (y 1)) := by
  pointwise [k0_pay2]

/-- The accumulator starts at zero. -/
theorem pay1_eq (y : S1408x1024.Idx) : k0_pay1 (F := Ideal) y = 0 := by
  pointwise [k0_pay1]

/-- The stored block is the accumulator. -/
theorem pay3_eq (v : Vec Ideal S1408x1024 .f32) (y : S1408x1024.Idx) : k0_pay3 (F := Ideal) v y = v y := by
  pointwise [k0_pay3]

variable (m : (ℓ : Loc nD τ sig) → Buf (Elt Ideal) ℓ) (c : Dev nD)

/-- The two arguments, as arrays of extended reals. -/
abbrev A : S8192x2816.Idx → EReal := m ((c : Thread nD τ).loc main_arg0)
abbrev B : S8192x1024.Idx → EReal := m ((c : Thread nD τ).loc main_arg1)

theorem iblk0 (t : Fin cfg0.N) (y) : iblk m c 0 t y = A m c (ix2 (token t.val (y 0)) (col t.val (y 1))) := by
  have ht : t.val < 8 := lt_of_lt_of_eq t.isLt N_0
  have e : ∀ F : S8192x2816.Idx → EReal, (∀ i, V m c main_arg0 i = F i) → iblk m c 0 t y = F (ix2 (token t.val (y 0)) (col t.val (y 1))) := fun F h => by
    blk_simp [iblk]
    rw [h]
    blk_ext [token, col, idx t]
  exact e _ fun i => congrFun (V_main_arg0 m c) i

theorem iblk1 (t : Fin cfg0.N) (y) : iblk m c 1 t y = B m c (ix2 (token t.val (y 0)) (y 1)) := by
  have e : ∀ F : S8192x1024.Idx → EReal, (∀ i, V m c main_arg1 i = F i) → iblk m c 1 t y = F (ix2 (token t.val (y 0)) (y 1)) := fun F h => by
    blk_simp [iblk]
    rw [h]
    blk_ext [token, col, idx t]
  exact e _ fun i => congrFun (V_main_arg1 m c) i

/-- A token's part of an entry of the gradient. -/
def term (i : Fin 2816) (j : Fin 1024) (t : Fin 8192) : EReal := A m c (ix2 t i) * B m c (ix2 t j)

/-- A point's block product, on top of what was there. -/
theorem block (t : Fin cfg0.N) (v : Vec Ideal S1408x1024 .f32) (y : S1408x1024.Idx) : k0_pay2 (F := Ideal) v (iblk m c 0 t) (iblk m c 1 t) y
    = v y + ∑ a, term m c (col t.val (y 0)) (y 1) (token t.val a) := by
  refine (pay2_eq _ _ _ y).trans (congrArg (v y + ·) (Finset.sum_congr rfl fun k _ => ?_))
  rw [iblk0, iblk1]
  rfl

/-- The accumulator after a point. -/
theorem acc_point (y : S1408x1024.Idx) : ∀ (n : ℕ) (hn : n < cfg0.N), (outsAt0 m c n hn).2 y = part (term m c (col n (y 0)) (y 1)) (n % 4 + 1)
  | 0, hn => by
    refine (congrArg (fun o => o.2 y) (outsAt0_A m c ⟨0, hn⟩ rfl (by norm_num))).trans ?_
    frame_out
    rw [block, pay1_eq, zero_add, part_one]
  | n + 1, hn => by
    have hN : n + 1 < 8 := lt_of_lt_of_eq hn N_0
    have ih := acc_point y n (Nat.lt_of_succ_lt hn)
    by_cases h0 : (n + 1) % 4 = 0
    · refine (congrArg (fun o => o.2 y) (outsAt0_A m c ⟨n + 1, hn⟩ h0 (by dsimp only; omega))).trans ?_
      frame_out
      rw [block, pay1_eq, zero_add, h0, part_one]
      exact Finset.sum_congr rfl fun a _ => congrArg _ (Fin.ext (by simp only [token, h0]))
    · have e1 : (n + 1) % 4 = n % 4 + 1 := by omega
      have e2 : col (n + 1) (y 0) = col n (y 0) := Fin.ext (by simp only [col]; omega)
      have e3 : ∀ a, token (n + 1) a = token (n % 4 + 1) a := fun a => Fin.ext (by simp only [token]; omega)
      have fin : (outsAt0 m c n (Nat.lt_of_succ_lt hn)).2 y + ∑ a, term m c (col (n + 1) (y 0)) (y 1) (token (n + 1) a)
          = part (term m c (col (n + 1) (y 0)) (y 1)) ((n + 1) % 4 + 1) := by
        rw [ih, e1, part_succ _ (n % 4 + 1), e2]
        simp only [e3]
      by_cases h1 : (n + 1) % 4 = 3
      · refine (congrArg (fun o => o.2 y) (outsAt0_C m c ⟨n + 1, hn⟩ h0 h1)).trans ?_
        frame_out
        rw [block, read_unread_whole]
        exact fin
      · refine (congrArg (fun o => o.2 y) (outsAt0_B m c ⟨n + 1, hn⟩ h0 h1)).trans ?_
        frame_out
        rw [block, read_unread_whole]
        exact fin

/-- The last point of a block stores its accumulator. -/
theorem out_point (t : Fin cfg0.N) (h1 : t.val % 4 = 3) (y : S1408x1024.Idx) :
    (outsAt0 m c t.val t.isLt).1 y = ∑ s, term m c (col t.val (y 0)) (y 1) s := by
  have e : (outsAt0 m c t.val t.isLt).1 y = (outsAt0 m c t.val t.isLt).2 y := by
    rw [outsAt0_C m c t (by omega) h1]
    frame_out
    exact pay3_eq _ y
  rw [e, acc_point, h1, part_four]

/-- The whole gradient. -/
theorem final : (dats m 0 c).arrAt 2 cfg0.N = fun i : S2816x1024.Idx => ∑ t, term m c (i 0) (i 1) t := by
  refine (dats m 0 c).arrAt_eq_of_covers 2 _ (by decide +kernel) fun t hf y => ?_
  have ht : t.val < 8 := lt_of_lt_of_eq t.isLt N_0
  have e : ∀ F : S2816x1024.Idx → EReal, F (((cfg0.win 2).blk t).view.emb y) = F (ix2 (col t.val (y 0)) (y 1)) := fun F => by
    blk_ext [col, idx t]
  rw [after0_2]
  exact (out_point m c t ((flush0_2 t).mp hf) y).trans (e fun i => ∑ t, term m c (i 0) (i 1) t).symm

end Cert.WdownKernel

namespace Cert.WdownClaim

open Idealize.ShloMosaic Idealize.SL.Sem
open scoped BigOperators

/-- The idealized reference ends with its arguments unchanged and its counters at zero. -/
theorem frame_reference : Cert.quiescent_WdownRefIdeal :=
  fun m ρ _ => (θ_run Cert.WdownRefIdeal.defs _ _).mono
    (fun r h => ⟨fun c => (h c).2, sem_eq_zero_of_no_sems (by decide) r.2⟩) (Cert.WdownRefIdeal.Value.run (F := Ideal) m ρ)

section
open Cert.WdownRefIdeal Cert.WdownRefIdeal.Gen

/-- The reference's result. -/
theorem reference (a : (⟨S8192x2816, .bf16⟩ : BufTy).Contents (Elt Ideal)) (b : (⟨S8192x1024, .bf16⟩ : BufTy).Contents (Elt Ideal)) (i : S2816x1024.Idx) :
    truncf (F := Ideal) .bf16 (transpose S2816x1024 [1, 0] (Host.dotGeneral dot_S8192x1024_S8192x2816_S1024x2816_0_0_1_1_n_n none (extf .f32 b bitsLt_bf16_f32) (extf .f32 a bitsLt_bf16_f32)) transposes_S1024x2816_S2816x1024_1_0) bitsLt_bf16_f32 i
      = ∑ t, a (ix2 t (i 0)) * b (ix2 t (i 1)) := by
  pointwise
  exact Finset.sum_congr rfl fun t _ => mul_comm _ _

end

/-- Both programs leave the same gradient. -/
theorem algebraic : Cert.algebraic_WdownIdeal_WdownRefIdeal := by
  intro m g m' g' hp hm
  refine ⟨fun c => (Cert.WdownIdeal.Gen.dats m 0 c).arrAt 2 Cert.WdownIdeal.cfg0.N, Cert.WdownIdeal.Value.run_blocks m g, ?_⟩
  refine (θ_run _ _ _).mono (fun r h c => ?_) (Cert.WdownRefIdeal.Value.run m' g')
  obtain ⟨e0, e1⟩ := hm c
  obtain ⟨r0, k⟩ := h c
  refine ⟨r0.trans ?_, k⟩
  rw [e0, e1]
  exact (funext fun i => reference _ _ i).trans (Cert.WdownKernel.final m c).symm

end Cert.WdownClaim
-- ==== Proof.WguClaim.lean ====
/- The gradient of the feed-forward block's first weight, blocked over the tokens, is the product's. -/
module

public import proofs.«01_k».proof.Defs
public import proofs.«01_k».proof.Proof.Blocks
public import proofs.«01_k».proof.Proof.Gen.WguIdeal.Value
public import proofs.«01_k».proof.Proof.Gen.WguRefIdeal.Run
public import Idealize.ShloMosaic.Lib.Pipeline.ValueKit
public import Idealize.ShloMosaic.Lib.Pipeline.ReadBack
public import Idealize.ShloMosaic.Lib.IdealHost

@[expose] public section

set_option maxRecDepth 16384

noncomputable section

namespace Cert.WguKernel

open Cert.WguIdeal Cert.WguIdeal.Gen Idealize.ShloMosaic Idealize.ShloMosaic.TcCoe Idealize.SL.Sem
open Cert.Blocks
open scoped BigOperators

/-- Where each point's blocks lie. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The column that column `a` of point `n`'s block is. -/
def col (n : ℕ) (a : Fin 1408) : Fin 5632 := ⟨1408 * (n / 4 % 4) + (a : ℕ), by omega⟩

/-- A block's part, on top of what was there. -/
theorem pay2_eq (v3 : Vec Ideal S1408x1024 .f32) (v4 : Vec Ideal S2048x1408 .bf16) (v5 : Vec Ideal S2048x1024 .bf16) (y : S1408x1024.Idx) :
    k0_pay2 (F := Ideal) v3 v4 v5 y = v3 y + ∑ k, v4 (ix2 k (y 0)) * v5 (ix2 k (y 1)) := by
  pointwise [k0_pay2]

/-- The accumulator starts at zero. -/
theorem pay1_eq (y : S1408x1024.Idx) : k0_pay1 (F := Ideal) y = 0 := by
  pointwise [k0_pay1]

/-- The stored block is the accumulator. -/
theorem pay3_eq (v : Vec Ideal S1408x1024 .f32) (y : S1408x1024.Idx) : k0_pay3 (F := Ideal) v y = v y := by
  pointwise [k0_pay3]

variable (m : (ℓ : Loc nD τ sig) → Buf (Elt Ideal) ℓ) (c : Dev nD)

/-- The two arguments, as arrays of extended reals; the result is laid out transposed. -/
abbrev A : S8192x5632.Idx → EReal := m ((c : Thread nD τ).loc main_arg1)
abbrev B : S8192x1024.Idx → EReal := m ((c : Thread nD τ).loc main_arg0)

theorem iblk0 (t : Fin cfg0.N) (y) : iblk m c 0 t y = A m c (ix2 (token t.val (y 0)) (col t.val (y 1))) := by
  have ht : t.val < 16 := lt_of_lt_of_eq t.isLt N_0
  have e : ∀ F : S8192x5632.Idx → EReal, (∀ i, V m c main_arg1 i = F i) → iblk m c 0 t y = F (ix2 (token t.val (y 0)) (col t.val (y 1))) := fun F h => by
    blk_simp [iblk]
    rw [h]
    blk_ext [token, col, idx t]
  exact e _ fun i => congrFun (V_main_arg1 m c) i

theorem iblk1 (t : Fin cfg0.N) (y) : iblk m c 1 t y = B m c (ix2 (token t.val (y 0)) (y 1)) := by
  have e : ∀ F : S8192x1024.Idx → EReal, (∀ i, V m c main_arg0 i = F i) → iblk m c 1 t y = F (ix2 (token t.val (y 0)) (y 1)) := fun F h => by
    blk_simp [iblk]
    rw [h]
    blk_ext [token, col, idx t]
  exact e _ fun i => congrFun (V_main_arg0 m c) i

/-- A token's part of an entry of the gradient. -/
def term (i : Fin 5632) (j : Fin 1024) (t : Fin 8192) : EReal := A m c (ix2 t i) * B m c (ix2 t j)

/-- A point's block product, on top of what was there. -/
theorem block (t : Fin cfg0.N) (v : Vec Ideal S1408x1024 .f32) (y : S1408x1024.Idx) : k0_pay2 (F := Ideal) v (iblk m c 0 t) (iblk m c 1 t) y
    = v y + ∑ a, term m c (col t.val (y 0)) (y 1) (token t.val a) := by
  refine (pay2_eq _ _ _ y).trans (congrArg (v y + ·) (Finset.sum_congr rfl fun k _ => ?_))
  rw [iblk0, iblk1]
  rfl

/-- The accumulator after a point. -/
theorem acc_point (y : S1408x1024.Idx) : ∀ (n : ℕ) (hn : n < cfg0.N), (outsAt0 m c n hn).2 y = part (term m c (col n (y 0)) (y 1)) (n % 4 + 1)
  | 0, hn => by
    refine (congrArg (fun o => o.2 y) (outsAt0_A m c ⟨0, hn⟩ rfl (by norm_num))).trans ?_
    frame_out
    rw [block, pay1_eq, zero_add, part_one]
  | n + 1, hn => by
    have hN : n + 1 < 16 := lt_of_lt_of_eq hn N_0
    have ih := acc_point y n (Nat.lt_of_succ_lt hn)
    by_cases h0 : (n + 1) % 4 = 0
    · refine (congrArg (fun o => o.2 y) (outsAt0_A m c ⟨n + 1, hn⟩ h0 (by dsimp only; omega))).trans ?_
      frame_out
      rw [block, pay1_eq, zero_add, h0, part_one]
      exact Finset.sum_congr rfl fun a _ => congrArg _ (Fin.ext (by simp only [token, h0]))
    · have e1 : (n + 1) % 4 = n % 4 + 1 := by omega
      have e2 : col (n + 1) (y 0) = col n (y 0) := Fin.ext (by simp only [col]; omega)
      have e3 : ∀ a, token (n + 1) a = token (n % 4 + 1) a := fun a => Fin.ext (by simp only [token]; omega)
      have fin : (outsAt0 m c n (Nat.lt_of_succ_lt hn)).2 y + ∑ a, term m c (col (n + 1) (y 0)) (y 1) (token (n + 1) a)
          = part (term m c (col (n + 1) (y 0)) (y 1)) ((n + 1) % 4 + 1) := by
        rw [ih, e1, part_succ _ (n % 4 + 1), e2]
        simp only [e3]
      by_cases h1 : (n + 1) % 4 = 3
      · refine (congrArg (fun o => o.2 y) (outsAt0_C m c ⟨n + 1, hn⟩ h0 h1)).trans ?_
        frame_out
        rw [block, read_unread_whole]
        exact fin
      · refine (congrArg (fun o => o.2 y) (outsAt0_B m c ⟨n + 1, hn⟩ h0 h1)).trans ?_
        frame_out
        rw [block, read_unread_whole]
        exact fin

/-- The last point of a block stores its accumulator. -/
theorem out_point (t : Fin cfg0.N) (h1 : t.val % 4 = 3) (y : S1408x1024.Idx) :
    (outsAt0 m c t.val t.isLt).1 y = ∑ s, term m c (col t.val (y 0)) (y 1) s := by
  have e : (outsAt0 m c t.val t.isLt).1 y = (outsAt0 m c t.val t.isLt).2 y := by
    rw [outsAt0_C m c t (by omega) h1]
    frame_out
    exact pay3_eq _ y
  rw [e, acc_point, h1, part_four]

/-- The whole gradient. -/
theorem final : (dats m 0 c).arrAt 2 cfg0.N = fun i : S5632x1024.Idx => ∑ t, term m c (i 0) (i 1) t := by
  refine (dats m 0 c).arrAt_eq_of_covers 2 _ (by decide +kernel) fun t hf y => ?_
  have ht : t.val < 16 := lt_of_lt_of_eq t.isLt N_0
  have e : ∀ F : S5632x1024.Idx → EReal, F (((cfg0.win 2).blk t).view.emb y) = F (ix2 (col t.val (y 0)) (y 1)) := fun F => by
    blk_ext [col, idx t]
  rw [after0_2]
  exact (out_point m c t ((flush0_2 t).mp hf) y).trans (e fun i => ∑ t, term m c (i 0) (i 1) t).symm

end Cert.WguKernel

namespace Cert.WguClaim

open Idealize.ShloMosaic Idealize.SL.Sem
open scoped BigOperators

/-- The idealized reference ends with its arguments unchanged and its counters at zero. -/
theorem frame_reference : Cert.quiescent_WguRefIdeal :=
  fun m ρ _ => (θ_run Cert.WguRefIdeal.defs _ _).mono
    (fun r h => ⟨fun c => (h c).2, sem_eq_zero_of_no_sems (by decide) r.2⟩) (Cert.WguRefIdeal.Value.run (F := Ideal) m ρ)

section
open Cert.WguRefIdeal Cert.WguRefIdeal.Gen

/-- The reference's result. -/
theorem reference (a : (⟨S8192x1024, .bf16⟩ : BufTy).Contents (Elt Ideal)) (b : (⟨S8192x5632, .bf16⟩ : BufTy).Contents (Elt Ideal)) (i : S5632x1024.Idx) :
    truncf (F := Ideal) .bf16 (transpose S5632x1024 [1, 0] (transpose S1024x5632 [1, 0] (Host.dotGeneral dot_S8192x5632_S8192x1024_S5632x1024_0_0_1_1_n_n none (extf .f32 b bitsLt_bf16_f32) (extf .f32 a bitsLt_bf16_f32)) transposes_S5632x1024_S1024x5632_1_0) transposes_S1024x5632_S5632x1024_1_0) bitsLt_bf16_f32 i
      = ∑ t, b (ix2 t (i 0)) * a (ix2 t (i 1)) := by
  pointwise

end

/-- Both programs leave the same gradient. -/
theorem algebraic : Cert.algebraic_WguIdeal_WguRefIdeal := by
  intro m g m' g' hp hm
  refine ⟨fun c => (Cert.WguIdeal.Gen.dats m 0 c).arrAt 2 Cert.WguIdeal.cfg0.N, Cert.WguIdeal.Value.run_blocks m g, ?_⟩
  refine (θ_run _ _ _).mono (fun r h c => ?_) (Cert.WguRefIdeal.Value.run m' g')
  obtain ⟨e0, e1⟩ := hm c
  obtain ⟨r0, k⟩ := h c
  refine ⟨r0.trans ?_, k⟩
  rw [e0, e1]
  exact (funext fun i => reference _ _ i).trans (Cert.WguKernel.final m c).symm

end Cert.WguClaim
-- ==== Proof.WoutClaim.lean ====
/- The gradient of the mixer's second weight, blocked over the tokens, is the product's. -/
module

public import proofs.«01_k».proof.Defs
public import proofs.«01_k».proof.Proof.Blocks
public import proofs.«01_k».proof.Proof.Gen.WoutIdeal.Value
public import proofs.«01_k».proof.Proof.Gen.WoutRefIdeal.Run
public import Idealize.ShloMosaic.Lib.Pipeline.ValueKit
public import Idealize.ShloMosaic.Lib.Pipeline.ReadBack
public import Idealize.ShloMosaic.Lib.IdealHost

@[expose] public section

set_option maxRecDepth 16384

noncomputable section

namespace Cert.WoutKernel

open Cert.WoutIdeal Cert.WoutIdeal.Gen Idealize.ShloMosaic Idealize.ShloMosaic.TcCoe Idealize.SL.Sem
open Cert.Blocks
open scoped BigOperators

/-- Where each point's blocks lie. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The column that column `a` of point `n`'s block is. -/
def col (n : ℕ) (a : Fin 1024) : Fin 1024 := ⟨1024 * (n / 4 % 1) + (a : ℕ), by omega⟩

/-- A block's part, on top of what was there. -/
theorem pay2_eq (v3 : Vec Ideal S1024x1024 .f32) (v4 : Vec Ideal S2048x1024 .bf16) (v5 : Vec Ideal S2048x1024 .bf16) (y : S1024x1024.Idx) :
    k0_pay2 (F := Ideal) v3 v4 v5 y = v3 y + ∑ k, v4 (ix2 k (y 0)) * v5 (ix2 k (y 1)) := by
  pointwise [k0_pay2]

/-- The accumulator starts at zero. -/
theorem pay1_eq (y : S1024x1024.Idx) : k0_pay1 (F := Ideal) y = 0 := by
  pointwise [k0_pay1]

/-- The stored block is the accumulator. -/
theorem pay3_eq (v : Vec Ideal S1024x1024 .f32) (y : S1024x1024.Idx) : k0_pay3 (F := Ideal) v y = v y := by
  pointwise [k0_pay3]

variable (m : (ℓ : Loc nD τ sig) → Buf (Elt Ideal) ℓ) (c : Dev nD)

/-- The two arguments, as arrays of extended reals. -/
abbrev A : S8192x1024.Idx → EReal := m ((c : Thread nD τ).loc main_arg0)
abbrev B : S8192x1024.Idx → EReal := m ((c : Thread nD τ).loc main_arg1)

theorem iblk0 (t : Fin cfg0.N) (y) : iblk m c 0 t y = A m c (ix2 (token t.val (y 0)) (col t.val (y 1))) := by
  have ht : t.val < 4 := lt_of_lt_of_eq t.isLt N_0
  have e : ∀ F : S8192x1024.Idx → EReal, (∀ i, V m c main_arg0 i = F i) → iblk m c 0 t y = F (ix2 (token t.val (y 0)) (col t.val (y 1))) := fun F h => by
    blk_simp [iblk]
    rw [h]
    blk_ext [token, col, idx t]
  exact e _ fun i => congrFun (V_main_arg0 m c) i

theorem iblk1 (t : Fin cfg0.N) (y) : iblk m c 1 t y = B m c (ix2 (token t.val (y 0)) (y 1)) := by
  have e : ∀ F : S8192x1024.Idx → EReal, (∀ i, V m c main_arg1 i = F i) → iblk m c 1 t y = F (ix2 (token t.val (y 0)) (y 1)) := fun F h => by
    blk_simp [iblk]
    rw [h]
    blk_ext [token, col, idx t]
  exact e _ fun i => congrFun (V_main_arg1 m c) i

/-- A token's part of an entry of the gradient. -/
def term (i : Fin 1024) (j : Fin 1024) (t : Fin 8192) : EReal := A m c (ix2 t i) * B m c (ix2 t j)

/-- A point's block product, on top of what was there. -/
theorem block (t : Fin cfg0.N) (v : Vec Ideal S1024x1024 .f32) (y : S1024x1024.Idx) : k0_pay2 (F := Ideal) v (iblk m c 0 t) (iblk m c 1 t) y
    = v y + ∑ a, term m c (col t.val (y 0)) (y 1) (token t.val a) := by
  refine (pay2_eq _ _ _ y).trans (congrArg (v y + ·) (Finset.sum_congr rfl fun k _ => ?_))
  rw [iblk0, iblk1]
  rfl

/-- The accumulator after a point. -/
theorem acc_point (y : S1024x1024.Idx) : ∀ (n : ℕ) (hn : n < cfg0.N), (outsAt0 m c n hn).2 y = part (term m c (col n (y 0)) (y 1)) (n % 4 + 1)
  | 0, hn => by
    refine (congrArg (fun o => o.2 y) (outsAt0_A m c ⟨0, hn⟩ rfl (by norm_num))).trans ?_
    frame_out
    rw [block, pay1_eq, zero_add, part_one]
  | n + 1, hn => by
    have hN : n + 1 < 4 := lt_of_lt_of_eq hn N_0
    have ih := acc_point y n (Nat.lt_of_succ_lt hn)
    by_cases h0 : (n + 1) % 4 = 0
    · refine (congrArg (fun o => o.2 y) (outsAt0_A m c ⟨n + 1, hn⟩ h0 (by dsimp only; omega))).trans ?_
      frame_out
      rw [block, pay1_eq, zero_add, h0, part_one]
      exact Finset.sum_congr rfl fun a _ => congrArg _ (Fin.ext (by simp only [token, h0]))
    · have e1 : (n + 1) % 4 = n % 4 + 1 := by omega
      have e2 : col (n + 1) (y 0) = col n (y 0) := Fin.ext (by simp only [col]; omega)
      have e3 : ∀ a, token (n + 1) a = token (n % 4 + 1) a := fun a => Fin.ext (by simp only [token]; omega)
      have fin : (outsAt0 m c n (Nat.lt_of_succ_lt hn)).2 y + ∑ a, term m c (col (n + 1) (y 0)) (y 1) (token (n + 1) a)
          = part (term m c (col (n + 1) (y 0)) (y 1)) ((n + 1) % 4 + 1) := by
        rw [ih, e1, part_succ _ (n % 4 + 1), e2]
        simp only [e3]
      by_cases h1 : (n + 1) % 4 = 3
      · refine (congrArg (fun o => o.2 y) (outsAt0_C m c ⟨n + 1, hn⟩ h0 h1)).trans ?_
        frame_out
        rw [block, read_unread_whole]
        exact fin
      · refine (congrArg (fun o => o.2 y) (outsAt0_B m c ⟨n + 1, hn⟩ h0 h1)).trans ?_
        frame_out
        rw [block, read_unread_whole]
        exact fin

/-- The last point of a block stores its accumulator. -/
theorem out_point (t : Fin cfg0.N) (h1 : t.val % 4 = 3) (y : S1024x1024.Idx) :
    (outsAt0 m c t.val t.isLt).1 y = ∑ s, term m c (col t.val (y 0)) (y 1) s := by
  have e : (outsAt0 m c t.val t.isLt).1 y = (outsAt0 m c t.val t.isLt).2 y := by
    rw [outsAt0_C m c t (by omega) h1]
    frame_out
    exact pay3_eq _ y
  rw [e, acc_point, h1, part_four]

/-- The whole gradient. -/
theorem final : (dats m 0 c).arrAt 2 cfg0.N = fun i : S1024x1024.Idx => ∑ t, term m c (i 0) (i 1) t := by
  refine (dats m 0 c).arrAt_eq_of_covers 2 _ (by decide +kernel) fun t hf y => ?_
  have ht : t.val < 4 := lt_of_lt_of_eq t.isLt N_0
  have e : ∀ F : S1024x1024.Idx → EReal, F (((cfg0.win 2).blk t).view.emb y) = F (ix2 (col t.val (y 0)) (y 1)) := fun F => by
    blk_ext [col, idx t]
  rw [after0_2]
  exact (out_point m c t ((flush0_2 t).mp hf) y).trans (e fun i => ∑ t, term m c (i 0) (i 1) t).symm

end Cert.WoutKernel

namespace Cert.WoutClaim

open Idealize.ShloMosaic Idealize.SL.Sem
open scoped BigOperators

/-- The idealized reference ends with its arguments unchanged and its counters at zero. -/
theorem frame_reference : Cert.quiescent_WoutRefIdeal :=
  fun m ρ _ => (θ_run Cert.WoutRefIdeal.defs _ _).mono
    (fun r h => ⟨fun c => (h c).2, sem_eq_zero_of_no_sems (by decide) r.2⟩) (Cert.WoutRefIdeal.Value.run (F := Ideal) m ρ)

section
open Cert.WoutRefIdeal Cert.WoutRefIdeal.Gen

/-- The reference's result. -/
theorem reference (a : (⟨S8192x1024, .bf16⟩ : BufTy).Contents (Elt Ideal)) (b : (⟨S8192x1024, .bf16⟩ : BufTy).Contents (Elt Ideal)) (i : S1024x1024.Idx) :
    truncf (F := Ideal) .bf16 (transpose S1024x1024 [1, 0] (Host.dotGeneral dot_S8192x1024_S8192x1024_S1024x1024_0_0_1_1_n_n none (extf .f32 b bitsLt_bf16_f32) (extf .f32 a bitsLt_bf16_f32)) transposes_S1024x1024_S1024x1024_1_0) bitsLt_bf16_f32 i
      = ∑ t, a (ix2 t (i 0)) * b (ix2 t (i 1)) := by
  pointwise
  exact Finset.sum_congr rfl fun t _ => mul_comm _ _

end

/-- Both programs leave the same gradient. -/
theorem algebraic : Cert.algebraic_WoutIdeal_WoutRefIdeal := by
  intro m g m' g' hp hm
  refine ⟨fun c => (Cert.WoutIdeal.Gen.dats m 0 c).arrAt 2 Cert.WoutIdeal.cfg0.N, Cert.WoutIdeal.Value.run_blocks m g, ?_⟩
  refine (θ_run _ _ _).mono (fun r h c => ?_) (Cert.WoutRefIdeal.Value.run m' g')
  obtain ⟨e0, e1⟩ := hm c
  obtain ⟨r0, k⟩ := h c
  refine ⟨r0.trans ?_, k⟩
  rw [e0, e1]
  exact (funext fun i => reference _ _ i).trans (Cert.WoutKernel.final m c).symm

end Cert.WoutClaim
-- ==== Proof.WinClaim.lean ====
/- The gradient of the mixer's first weight, blocked over the tokens, is the product's. -/
module

public import proofs.«01_k».proof.Defs
public import proofs.«01_k».proof.Proof.Blocks
public import proofs.«01_k».proof.Proof.Gen.WinIdeal.Value
public import proofs.«01_k».proof.Proof.Gen.WinRefIdeal.Run
public import Idealize.ShloMosaic.Lib.Pipeline.ValueKit
public import Idealize.ShloMosaic.Lib.Pipeline.ReadBack
public import Idealize.ShloMosaic.Lib.IdealHost

@[expose] public section

set_option maxRecDepth 16384

noncomputable section

namespace Cert.WinKernel

open Cert.WinIdeal Cert.WinIdeal.Gen Idealize.ShloMosaic Idealize.ShloMosaic.TcCoe Idealize.SL.Sem
open Cert.Blocks
open scoped BigOperators

/-- Where each point's blocks lie. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The column that column `a` of point `n`'s block is. -/
def col (n : ℕ) (a : Fin 1024) : Fin 2048 := ⟨1024 * (n / 4 % 2) + (a : ℕ), by omega⟩

/-- A block's part, on top of what was there. -/
theorem pay2_eq (v3 : Vec Ideal S1024x1024 .f32) (v4 : Vec Ideal S2048x1024 .bf16) (v5 : Vec Ideal S2048x1024 .bf16) (y : S1024x1024.Idx) :
    k0_pay2 (F := Ideal) v3 v4 v5 y = v3 y + ∑ k, v4 (ix2 k (y 0)) * v5 (ix2 k (y 1)) := by
  pointwise [k0_pay2]

/-- The accumulator starts at zero. -/
theorem pay1_eq (y : S1024x1024.Idx) : k0_pay1 (F := Ideal) y = 0 := by
  pointwise [k0_pay1]

/-- The stored block is the accumulator. -/
theorem pay3_eq (v : Vec Ideal S1024x1024 .f32) (y : S1024x1024.Idx) : k0_pay3 (F := Ideal) v y = v y := by
  pointwise [k0_pay3]

variable (m : (ℓ : Loc nD τ sig) → Buf (Elt Ideal) ℓ) (c : Dev nD)

/-- The two arguments, as arrays of extended reals; the result is laid out transposed. -/
abbrev A : S8192x2048.Idx → EReal := m ((c : Thread nD τ).loc main_arg1)
abbrev B : S8192x1024.Idx → EReal := m ((c : Thread nD τ).loc main_arg0)

theorem iblk0 (t : Fin cfg0.N) (y) : iblk m c 0 t y = A m c (ix2 (token t.val (y 0)) (col t.val (y 1))) := by
  have ht : t.val < 8 := lt_of_lt_of_eq t.isLt N_0
  have e : ∀ F : S8192x2048.Idx → EReal, (∀ i, V m c main_arg1 i = F i) → iblk m c 0 t y = F (ix2 (token t.val (y 0)) (col t.val (y 1))) := fun F h => by
    blk_simp [iblk]
    rw [h]
    blk_ext [token, col, idx t]
  exact e _ fun i => congrFun (V_main_arg1 m c) i

theorem iblk1 (t : Fin cfg0.N) (y) : iblk m c 1 t y = B m c (ix2 (token t.val (y 0)) (y 1)) := by
  have e : ∀ F : S8192x1024.Idx → EReal, (∀ i, V m c main_arg0 i = F i) → iblk m c 1 t y = F (ix2 (token t.val (y 0)) (y 1)) := fun F h => by
    blk_simp [iblk]
    rw [h]
    blk_ext [token, col, idx t]
  exact e _ fun i => congrFun (V_main_arg0 m c) i

/-- A token's part of an entry of the gradient. -/
def term (i : Fin 2048) (j : Fin 1024) (t : Fin 8192) : EReal := A m c (ix2 t i) * B m c (ix2 t j)

/-- A point's block product, on top of what was there. -/
theorem block (t : Fin cfg0.N) (v : Vec Ideal S1024x1024 .f32) (y : S1024x1024.Idx) : k0_pay2 (F := Ideal) v (iblk m c 0 t) (iblk m c 1 t) y
    = v y + ∑ a, term m c (col t.val (y 0)) (y 1) (token t.val a) := by
  refine (pay2_eq _ _ _ y).trans (congrArg (v y + ·) (Finset.sum_congr rfl fun k _ => ?_))
  rw [iblk0, iblk1]
  rfl

/-- The accumulator after a point. -/
theorem acc_point (y : S1024x1024.Idx) : ∀ (n : ℕ) (hn : n < cfg0.N), (outsAt0 m c n hn).2 y = part (term m c (col n (y 0)) (y 1)) (n % 4 + 1)
  | 0, hn => by
    refine (congrArg (fun o => o.2 y) (outsAt0_A m c ⟨0, hn⟩ rfl (by norm_num))).trans ?_
    frame_out
    rw [block, pay1_eq, zero_add, part_one]
  | n + 1, hn => by
    have hN : n + 1 < 8 := lt_of_lt_of_eq hn N_0
    have ih := acc_point y n (Nat.lt_of_succ_lt hn)
    by_cases h0 : (n + 1) % 4 = 0
    · refine (congrArg (fun o => o.2 y) (outsAt0_A m c ⟨n + 1, hn⟩ h0 (by dsimp only; omega))).trans ?_
      frame_out
      rw [block, pay1_eq, zero_add, h0, part_one]
      exact Finset.sum_congr rfl fun a _ => congrArg _ (Fin.ext (by simp only [token, h0]))
    · have e1 : (n + 1) % 4 = n % 4 + 1 := by omega
      have e2 : col (n + 1) (y 0) = col n (y 0) := Fin.ext (by simp only [col]; omega)
      have e3 : ∀ a, token (n + 1) a = token (n % 4 + 1) a := fun a => Fin.ext (by simp only [token]; omega)
      have fin : (outsAt0 m c n (Nat.lt_of_succ_lt hn)).2 y + ∑ a, term m c (col (n + 1) (y 0)) (y 1) (token (n + 1) a)
          = part (term m c (col (n + 1) (y 0)) (y 1)) ((n + 1) % 4 + 1) := by
        rw [ih, e1, part_succ _ (n % 4 + 1), e2]
        simp only [e3]
      by_cases h1 : (n + 1) % 4 = 3
      · refine (congrArg (fun o => o.2 y) (outsAt0_C m c ⟨n + 1, hn⟩ h0 h1)).trans ?_
        frame_out
        rw [block, read_unread_whole]
        exact fin
      · refine (congrArg (fun o => o.2 y) (outsAt0_B m c ⟨n + 1, hn⟩ h0 h1)).trans ?_
        frame_out
        rw [block, read_unread_whole]
        exact fin

/-- The last point of a block stores its accumulator. -/
theorem out_point (t : Fin cfg0.N) (h1 : t.val % 4 = 3) (y : S1024x1024.Idx) :
    (outsAt0 m c t.val t.isLt).1 y = ∑ s, term m c (col t.val (y 0)) (y 1) s := by
  have e : (outsAt0 m c t.val t.isLt).1 y = (outsAt0 m c t.val t.isLt).2 y := by
    rw [outsAt0_C m c t (by omega) h1]
    frame_out
    exact pay3_eq _ y
  rw [e, acc_point, h1, part_four]

/-- The whole gradient. -/
theorem final : (dats m 0 c).arrAt 2 cfg0.N = fun i : S2048x1024.Idx => ∑ t, term m c (i 0) (i 1) t := by
  refine (dats m 0 c).arrAt_eq_of_covers 2 _ (by decide +kernel) fun t hf y => ?_
  have ht : t.val < 8 := lt_of_lt_of_eq t.isLt N_0
  have e : ∀ F : S2048x1024.Idx → EReal, F (((cfg0.win 2).blk t).view.emb y) = F (ix2 (col t.val (y 0)) (y 1)) := fun F => by
    blk_ext [col, idx t]
  rw [after0_2]
  exact (out_point m c t ((flush0_2 t).mp hf) y).trans (e fun i => ∑ t, term m c (i 0) (i 1) t).symm

end Cert.WinKernel

namespace Cert.WinClaim

open Idealize.ShloMosaic Idealize.SL.Sem
open scoped BigOperators

/-- The idealized reference ends with its arguments unchanged and its counters at zero. -/
theorem frame_reference : Cert.quiescent_WinRefIdeal :=
  fun m ρ _ => (θ_run Cert.WinRefIdeal.defs _ _).mono
    (fun r h => ⟨fun c => (h c).2, sem_eq_zero_of_no_sems (by decide) r.2⟩) (Cert.WinRefIdeal.Value.run (F := Ideal) m ρ)

section
open Cert.WinRefIdeal Cert.WinRefIdeal.Gen

/-- The reference's result. -/
theorem reference (a : (⟨S8192x1024, .bf16⟩ : BufTy).Contents (Elt Ideal)) (b : (⟨S8192x2048, .bf16⟩ : BufTy).Contents (Elt Ideal)) (i : S2048x1024.Idx) :
    truncf (F := Ideal) .bf16 (transpose S2048x1024 [1, 0] (transpose S1024x2048 [1, 0] (Host.dotGeneral dot_S8192x2048_S8192x1024_S2048x1024_0_0_1_1_n_n none (extf .f32 b bitsLt_bf16_f32) (extf .f32 a bitsLt_bf16_f32)) transposes_S2048x1024_S1024x2048_1_0) transposes_S1024x2048_S2048x1024_1_0) bitsLt_bf16_f32 i
      = ∑ t, b (ix2 t (i 0)) * a (ix2 t (i 1)) := by
  pointwise

end

/-- Both programs leave the same gradient. -/
theorem algebraic : Cert.algebraic_WinIdeal_WinRefIdeal := by
  intro m g m' g' hp hm
  refine ⟨fun c => (Cert.WinIdeal.Gen.dats m 0 c).arrAt 2 Cert.WinIdeal.cfg0.N, Cert.WinIdeal.Value.run_blocks m g, ?_⟩
  refine (θ_run _ _ _).mono (fun r h c => ?_) (Cert.WinRefIdeal.Value.run m' g')
  obtain ⟨e0, e1⟩ := hm c
  obtain ⟨r0, k⟩ := h c
  refine ⟨r0.trans ?_, k⟩
  rw [e0, e1]
  exact (funext fun i => reference _ _ i).trans (Cert.WinKernel.final m c).symm

end Cert.WinClaim
-- ==== Proof.UpClaim.lean ====
/- The feed-forward block's first product and gate, tile by tile, are the whole arrays'. -/
module

public import proofs.«01_k».proof.Defs
public import proofs.«01_k».proof.Proof.Gen.UpIdeal.Value
public import proofs.«01_k».proof.Proof.Gen.UpRefIdeal.Run
public import Idealize.ShloMosaic.Lib.Pipeline.ValueKit
public import Idealize.ShloMosaic.Lib.Pipeline.ReadBack
public import Idealize.ShloMosaic.Lib.IdealHost

@[expose] public section

set_option maxRecDepth 16384

noncomputable section

namespace Cert.UpKernel

open Cert.UpIdeal Cert.UpIdeal.Gen Idealize.ShloMosaic Idealize.ShloMosaic.TcCoe Idealize.SL.Sem
open scoped BigOperators

/-- An entry of the product of two rows. -/
def hid (x w : Fin 1024 → EReal) : EReal := ∑ k, x k * w k

/-- The gated value of a gate `a` and a value `b`. -/
def act (a b : EReal) : EReal := a * Ideal.div 1 (1 + Ideal.exp (-a)) * b

theorem one_bits : (Scalar.ofBits (F := Ideal) .f32 0x3F800000#32 : EReal) = 1 := Ideal.ofBits_one_f32

section
variable (v0 : Vec Ideal S512x1024 .bf16) (v1 v4 : Vec Ideal S1408x1024 .bf16) (i : S512x1408.Idx)

theorem pay3_eq : k0_pay3 (F := Ideal) v0 v1 i = hid (fun k => v0 (ix2 (i 0) k)) (fun k => v1 (ix2 (i 1) k)) := by
  pointwise [k0_pay3]
  rfl

theorem pay5_eq : k0_pay5 (F := Ideal) v0 v1 i = hid (fun k => v0 (ix2 (i 0) k)) (fun k => v1 (ix2 (i 1) k)) := by
  pointwise [k0_pay5]
  exact pay3_eq v0 v1 i

theorem pay6_eq : k0_pay6 (F := Ideal) v0 v1 i = hid (fun k => v0 (ix2 (i 0) k)) (fun k => v1 (ix2 (i 1) k)) := by
  pointwise [k0_pay6, k0_pay4]
  rfl

theorem pay10_eq : k0_pay10 (F := Ideal) v0 v1 i = hid (fun k => v0 (ix2 (i 0) k)) (fun k => v1 (ix2 (i 1) k)) := by
  pointwise [k0_pay10, k0_pay8]
  rfl

theorem pay19_eq : k0_pay1 (F := Ideal) (k0_pay9 v0 v1) i = hid (fun k => v0 (ix2 (i 0) k)) (fun k => v1 (ix2 (i 1) k)) := by
  pointwise [k0_pay1, k0_pay9]
  rfl

theorem pay7_eq : k0_pay7 (F := Ideal) v0 v1 v4 i
    = act (hid (fun k => v0 (ix2 (i 0) k)) (fun k => v1 (ix2 (i 1) k))) (hid (fun k => v0 (ix2 (i 0) k)) (fun k => v4 (ix2 (i 1) k))) := by
  pointwise [k0_pay7, k0_pay3, k0_pay4]
  simp only [zero_sub]
  rfl

theorem pay2_eq : k0_pay2 (F := Ideal) (k0_pay8 v0 v1) (k0_pay9 v0 v4) i
    = act (hid (fun k => v0 (ix2 (i 0) k)) (fun k => v1 (ix2 (i 1) k))) (hid (fun k => v0 (ix2 (i 0) k)) (fun k => v4 (ix2 (i 1) k))) := by
  pointwise [k0_pay2, k0_pay8, k0_pay9]
  simp only [zero_sub]
  rfl

end

/-! ## A point's blocks -/

section
variable {x0 : Vec Ideal S512x1024 .bf16} {x1 : Vec Ideal S5632x1024 .bf16} {X : Fin 512 → Fin 1024 → EReal} {W : Fin 5632 → Fin 1024 → EReal}
  (h0 : ∀ i, x0 i = X (i 0) (i 1)) (h1 : ∀ i, x1 i = W (i 0) (i 1))

include h0 in
theorem ldx (inb) (i) : View.ld x0 (Rect.unit ![0, 0] ![512, 1024] inb) i = X (i 0) (i 1) := by
  pointwise
  exact h0 _

include h1 in
theorem ldw (o : ℕ) (ho : o + 1408 ≤ 5632) (inb) (i) : View.ld x1 (Rect.unit ![o, 0] ![1408, 1024] inb) i
    = W ⟨o + (i 0 : ℕ), lt_of_lt_of_le (Nat.add_lt_add_left (i 0).isLt o) ho⟩ (i 1) := by
  pointwise
  exact h1 _

include h0 h1

/-- The products' tiles. -/
theorem hid_block (y : S512x5632.Idx) : out0_2 (F := Ideal) x0 x1 y = hid (X (y 0)) (W (y 1)) := by
  unfold out0_2
  refine View.canon_eq_of_allAt (Val := Elt Ideal) (e := EltTy.bf16) _ y _ (cover0_2 _ _ _ _ y) ?_
  have k : ∀ (o : ℕ) (ho : o + 1408 ≤ 5632) (inb) (x : S512x1408.Idx), (y 0 : ℕ) = 0 + (x 0 : ℕ) → (y 1 : ℕ) = o + (x 1 : ℕ) →
      hid (fun k => View.ld x0 r0_0 (ix2 (x 0) k)) (fun k => View.ld x1 (Rect.unit ![o, 0] ![1408, 1024] inb) (ix2 (x 1) k)) = hid (X (y 0)) (W (y 1)) :=
    fun o ho inb x e0 e1 => by
      refine congrArg₂ hid (funext fun k => (ldx h0 _ _).trans (congrArg (X · k) ?_)) (funext fun k => (ldw h1 o ho inb _).trans (congrArg (W · k) ?_))
      · exact Fin.ext (by rw [e0, Nat.zero_add]; rfl)
      · exact Fin.ext e1.symm
  refine View.allAt_cons_unit (Val := Elt Ideal) _ _ _ _ _ ?_ <| View.allAt_cons_unit (Val := Elt Ideal) _ _ _ _ _ ?_ <|
    View.allAt_cons_unit (Val := Elt Ideal) _ _ _ _ _ ?_ <| View.allAt_cons_unit (Val := Elt Ideal) _ _ _ _ _ ?_ <| View.allAt_nil (Val := Elt Ideal) _ _
  · exact fun x hx => (pay19_eq _ _ x).trans (k 4224 (by norm_num) _ x (hx 0) (hx 1))
  · exact fun x hx => (pay10_eq _ _ x).trans (k 1408 (by norm_num) _ x (hx 0) (hx 1))
  · exact fun x hx => (pay6_eq _ _ x).trans (k 2816 (by norm_num) _ x (hx 0) (hx 1))
  · exact fun x hx => (pay5_eq _ _ x).trans (k 0 (by norm_num) _ x (hx 0) (hx 1))

/-- The gated values' tiles. -/
theorem act_block (y : S512x2816.Idx) : out0_3 (F := Ideal) x0 x1 y
    = act (hid (X (y 0)) (W ⟨(y 1 : ℕ), lt_of_lt_of_le (y 1).isLt (by decide)⟩)) (hid (X (y 0)) (W ⟨2816 + (y 1 : ℕ), Nat.add_lt_add_left (y 1).isLt 2816⟩)) := by
  unfold out0_3
  refine View.canon_eq_of_allAt (Val := Elt Ideal) (e := EltTy.bf16) _ y _ (cover0_3 _ _ y) ?_
  have k : ∀ (o : ℕ) (ho : o + 1408 ≤ 5632) (inb) (x : S512x1408.Idx) (j : Fin 5632), (y 0 : ℕ) = 0 + (x 0 : ℕ) → (j : ℕ) = o + (x 1 : ℕ) →
      hid (fun k => View.ld x0 r0_0 (ix2 (x 0) k)) (fun k => View.ld x1 (Rect.unit ![o, 0] ![1408, 1024] inb) (ix2 (x 1) k)) = hid (X (y 0)) (W j) :=
    fun o ho inb x j e0 e1 => by
      refine congrArg₂ hid (funext fun k => (ldx h0 _ _).trans (congrArg (X · k) ?_)) (funext fun k => (ldw h1 o ho inb _).trans (congrArg (W · k) ?_))
      · exact Fin.ext (by rw [e0, Nat.zero_add]; rfl)
      · exact Fin.ext e1.symm
  refine View.allAt_cons_unit (Val := Elt Ideal) _ _ _ _ _ ?_ <| View.allAt_cons_unit (Val := Elt Ideal) _ _ _ _ _ ?_ <| View.allAt_nil (Val := Elt Ideal) _ _
  · exact fun x hx => (pay2_eq _ _ _ x).trans (congrArg₂ act
      (k 1408 (by norm_num) _ x _ (hx 0) (hx 1)) (k 4224 (by norm_num) _ x _ (hx 0) (by have := hx 1; simp at this; dsimp only; omega)))
  · exact fun x hx => (pay7_eq _ _ _ x).trans (congrArg₂ act
      (k 0 (by norm_num) _ x _ (hx 0) (hx 1)) (k 2816 (by norm_num) _ x _ (hx 0) (by have := hx 1; simp at this; dsimp only; omega)))

end

/-! ## The whole arrays -/

/-- Where each point's blocks lie. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The row of the whole array that row `a` of point `n`'s block is. -/
def row (n : ℕ) (a : Fin 512) : Fin 8192 := ⟨512 * (n % 16) + (a : ℕ), by omega⟩

variable (m : (ℓ : Loc nD τ sig) → Buf (Elt Ideal) ℓ) (c : Dev nD)

/-- The two arguments, as arrays of extended reals. -/
abbrev A : S8192x1024.Idx → EReal := m ((c : Thread nD τ).loc main_arg0)
abbrev B : S1024x5632.Idx → EReal := m ((c : Thread nD τ).loc main_arg1)

/-- The weights, transposed. -/
theorem Vw_eq (i) : V m c main_v1 i = B m c (ix2 (i 1) (i 0)) := by
  unfold V
  simp only [hostOps0, List.flatten_cons, List.flatten_nil, List.append_nil, List.cons_append, List.nil_append]
  after_results
  pointwise

theorem iblk0 (t : Fin cfg0.N) (y) : iblk m c 0 t y = A m c (ix2 (row t.val (y 0)) (y 1)) := by
  have ht : t.val < 16 := lt_of_lt_of_eq t.isLt N_0
  have e : ∀ F : S8192x1024.Idx → EReal, (∀ i, V m c main_arg0 i = F i) → iblk m c 0 t y = F (ix2 (row t.val (y 0)) (y 1)) := fun F h => by
    blk_simp [iblk]
    rw [h]
    blk_ext [row, idx t]
  exact e _ fun i => congrFun (V_main_arg0 m c) i

theorem iblk1 (t : Fin cfg0.N) (y) : iblk m c 1 t y = B m c (ix2 (y 1) (y 0)) := by
  have e : ∀ F : S5632x1024.Idx → EReal, (∀ i, V m c main_v1 i = F i) → iblk m c 1 t y = F (ix2 (y 0) (y 1)) := fun F h => by
    blk_simp [iblk]
    rw [h]
    blk_ext [row, idx t]
  exact e _ fun i => Vw_eq m c i

/-- An entry of the product. -/
def prod (i : Fin 8192) (j : Fin 5632) : EReal := hid (fun k => A m c (ix2 i k)) (fun k => B m c (ix2 k j))

/-- An entry of the gated values. -/
def gated (i : Fin 8192) (j : Fin 2816) : EReal :=
  act (prod m c i ⟨(j : ℕ), lt_of_lt_of_le j.isLt (by decide)⟩) (prod m c i ⟨2816 + (j : ℕ), Nat.add_lt_add_left j.isLt 2816⟩)

theorem hid_point (t : Fin cfg0.N) (y : S512x5632.Idx) : out0_2 (F := Ideal) (iblk m c 0 t) (iblk m c 1 t) y = prod m c (row t.val (y 0)) (y 1) :=
  hid_block (X := fun a k => A m c (ix2 (row t.val a) k)) (W := fun j k => B m c (ix2 k j)) (iblk0 m c t) (iblk1 m c t) y

theorem act_point (t : Fin cfg0.N) (y : S512x2816.Idx) : out0_3 (F := Ideal) (iblk m c 0 t) (iblk m c 1 t) y = gated m c (row t.val (y 0)) (y 1) :=
  act_block (X := fun a k => A m c (ix2 (row t.val a) k)) (W := fun j k => B m c (ix2 k j)) (iblk0 m c t) (iblk1 m c t) y

attribute [local irreducible] out0_2 out0_3 prod gated

/-- The products. -/
theorem hid_final : (dats m 0 c).arrAt 2 cfg0.N = fun i : S8192x5632.Idx => prod m c (i 0) (i 1) := by
  refine (dats m 0 c).arrAt_eq_of_covers 2 _ (by decide +kernel) fun t hf y => ?_
  have ht : t.val < 16 := lt_of_lt_of_eq t.isLt N_0
  have e : ∀ F : S8192x5632.Idx → EReal, F (((cfg0.win 2).blk t).view.emb y) = F (ix2 (row t.val (y 0)) (y 1)) := fun F => by
    blk_ext [row, idx t]
  rw [after0_2]
  exact (hid_point m c t y).trans (e fun i => prod m c (i 0) (i 1)).symm

/-- The gated values. -/
theorem act_final : (dats m 0 c).arrAt 3 cfg0.N = fun i : S8192x2816.Idx => gated m c (i 0) (i 1) := by
  refine (dats m 0 c).arrAt_eq_of_covers 3 _ (by decide +kernel) fun t hf y => ?_
  have ht : t.val < 16 := lt_of_lt_of_eq t.isLt N_0
  have e : ∀ F : S8192x2816.Idx → EReal, F (((cfg0.win 3).blk t).view.emb y) = F (ix2 (row t.val (y 0)) (y 1)) := fun F => by
    blk_ext [row, idx t]
  rw [after0_3]
  exact (act_point m c t y).trans (e fun i => gated m c (i 0) (i 1)).symm

end Cert.UpKernel

namespace Cert.UpClaim

open Idealize.ShloMosaic Idealize.SL.Sem
open scoped BigOperators

/-- The idealized reference ends with its arguments unchanged and its counters at zero. -/
theorem frame_reference : Cert.quiescent_UpRefIdeal :=
  fun m ρ _ => (θ_run Cert.UpRefIdeal.defs _ _).mono
    (fun r h => ⟨fun c => (h c).2.2, sem_eq_zero_of_no_sems (by decide) r.2⟩) (Cert.UpRefIdeal.Value.run (F := Ideal) m ρ)

section
open Cert.UpRefIdeal Cert.UpRefIdeal.Gen Cert.UpKernel

/-- The reference's product. -/
theorem product (a : (⟨S8192x1024, .bf16⟩ : BufTy).Contents (Elt Ideal)) (b : (⟨S1024x5632, .f32⟩ : BufTy).Contents (Elt Ideal)) (i : S8192x5632.Idx) :
    (Host.dotGeneral (F := Ideal) (φ₁ := .f32) (φ₂ := .f32) dot_S8192x1024_S1024x5632_S8192x5632_1_0_0_1_n_n none (extf .f32 a bitsLt_bf16_f32) b : FVec Ideal S8192x5632 .f32) i
      = hid (fun k => a (ix2 (i 0) k)) (fun k => b (ix2 k (i 1))) := by
  pointwise
  rfl

theorem reference_hid (H : FVec Ideal S8192x5632 .f32) (i) : truncf (F := Ideal) .bf16 H bitsLt_bf16_f32 i = H i := by
  pointwise

theorem reference_act (H : FVec Ideal S8192x5632 .f32) (i : S8192x2816.Idx) :
    truncf (F := Ideal) .bf16 (mulf (mulf (extractStridedSlice S8192x2816 ![0, 0] H slices_S8192x5632_S8192x2816_0_0) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] H slices_S8192x5632_S8192x2816_0_0)))))) (extractStridedSlice S8192x2816 ![0, 2816] H slices_S8192x5632_S8192x2816_0_2816)) bitsLt_bf16_f32 i
      = act (H (ix2 (i 0) ⟨(i 1 : ℕ), lt_of_lt_of_le (i 1).isLt (by decide)⟩)) (H (ix2 (i 0) ⟨2816 + (i 1 : ℕ), Nat.add_lt_add_left (i 1).isLt 2816⟩)) := by
  pointwise
  rfl

end

/-- Both programs leave the same products and gated values. -/
theorem algebraic : Cert.algebraic_UpIdeal_UpRefIdeal := by
  intro m g m' g' hp hm
  refine ⟨fun c => (Cert.UpIdeal.Gen.dats m 0 c).arrAt 2 Cert.UpIdeal.cfg0.N, fun c => (Cert.UpIdeal.Gen.dats m 0 c).arrAt 3 Cert.UpIdeal.cfg0.N,
    Cert.UpIdeal.Value.run_blocks m g, ?_⟩
  refine (θ_run _ _ _).mono (fun r h c => ?_) (Cert.UpRefIdeal.Value.run m' g')
  obtain ⟨e0, e1⟩ := hm c
  obtain ⟨r0, r1, k⟩ := h c
  refine ⟨r0.trans ?_, r1.trans ?_, k⟩
  · rw [e0, e1]
    exact (funext fun i => (reference_hid _ i).trans (product _ _ i)).trans (Cert.UpKernel.hid_final m c).symm
  · rw [e0, e1]
    refine (funext fun i => (reference_act _ i).trans ?_).trans (Cert.UpKernel.act_final m c).symm
    rw [product, product]
    rfl

end Cert.UpClaim
-- ==== Proof.DownClaim.lean ====
/- The feed-forward block's second product with its residual and normalizations, tile by tile, are the whole arrays'. -/
module

public import proofs.«01_k».proof.Defs
public import proofs.«01_k».proof.Proof.Gen.DownIdeal.Value
public import proofs.«01_k».proof.Proof.Gen.DownRefIdeal.Run
public import Idealize.ShloMosaic.Lib.Pipeline.ValueKit
public import Idealize.ShloMosaic.Lib.Pipeline.ReadBack
public import Idealize.ShloMosaic.Lib.IdealHost

@[expose] public section

set_option maxRecDepth 16384

noncomputable section

namespace Cert.DownKernel

open Cert.DownIdeal Cert.DownIdeal.Gen Idealize.ShloMosaic Idealize.ShloMosaic.TcCoe Idealize.SL.Sem
open scoped BigOperators

/-- The mean of a row. -/
def mean (x : Fin 1024 → EReal) : EReal := Ideal.div (∑ k, x k) (Scalar.ofBits (F := Ideal) .f32 0x44800000#32)

/-- An entry of a row, normalized, scaled and shifted. -/
def norm (x : Fin 1024 → EReal) (g b : EReal) (j : Fin 1024) : EReal :=
  (x j - mean x) * Ideal.rsqrt (Ideal.div (∑ k, (x k - mean x) * (x k - mean x)) (Scalar.ofBits (F := Ideal) .f32 0x44800000#32)
    + Scalar.ofBits (F := Ideal) .f32 0x3727C5AC#32) * g + b

/-- An entry of the residual sum: the normalized row and half the product. -/
def total (a : Fin 2816 → EReal) (w : Fin 2816 → EReal) (x : Fin 1024 → EReal) (g b : EReal) (j : Fin 1024) : EReal :=
  Scalar.ofBits (F := Ideal) .f32 0x3FB504F3#32 * norm x g b j + Scalar.ofBits (F := Ideal) .f32 0x3F000000#32 * ∑ k, a k * w k

/-- An index is its two coordinates. -/
theorem split {n k : ℕ} (i : (⟨2, ![n, k]⟩ : Shape).Idx) : i = ix2 (i 0) (i 1) := by
  funext a
  fin_cases a <;> rfl

section
variable (v0 : Vec Ideal S1024x2816 .bf16) (v1 : Vec Ideal S2816x1024 .bf16) (v4 : Vec Ideal S1024x1024 .f32) (v21 v25 : Vec Ideal S1x1024 .f32)

theorem pay2_eq (i : S1024x1024.Idx) : k0_pay2 (F := Ideal) v0 v1 v4 v21 v25 i
    = total (fun k => v0 (ix2 (i 0) k)) (fun k => v1 (ix2 k (i 1))) (fun k => v4 (ix2 (i 0) k)) (v21 (ix2 0 (i 1))) (v25 (ix2 0 (i 1))) (i 1) := by
  obtain ⟨a, b, rfl⟩ : ∃ (a b : Fin 1024), i = ix2 a b := ⟨i 0, i 1, split i⟩
  pointwise [k0_pay2]
  rfl

theorem pay3_eq (i : S1024x1.Idx) : k0_pay3 (F := Ideal) v0 v1 v4 v21 v25 i = ∑ k, k0_pay2 (F := Ideal) v0 v1 v4 v21 v25 (ix2 (i 0) k) := by
  pointwise [k0_pay3]

theorem pay1_eq (s : FVec Ideal S1024x1024 .f32) (t : FVec Ideal S1024x1 .f32) (g b : Vec Ideal S1x1024 .f32)
    (h : ∀ i, t i = ∑ k, s (ix2 (i 0) k)) (i : S1024x1024.Idx) : k0_pay1 (F := Ideal) s t g b i
    = norm (fun k => s (ix2 (i 0) k)) (g (ix2 0 (i 1))) (b (ix2 0 (i 1))) (i 1) := by
  obtain ⟨a, c, rfl⟩ : ∃ (a c : Fin 1024), i = ix2 a c := ⟨i 0, i 1, split i⟩
  pointwise [k0_pay1]
  simp only [h]
  rfl

end

/-! ## A point's blocks -/

section
variable {x0 : Vec Ideal S1024x2816 .bf16} {x1 : Vec Ideal S2816x1024 .bf16} {x2 : Vec Ideal S1024x1024 .f32} {x3 x4 x5 x6 : Vec Ideal S1x1024 .f32}
  {A : Fin 1024 → Fin 2816 → EReal} {W : Fin 2816 → Fin 1024 → EReal} {R : Fin 1024 → Fin 1024 → EReal} {g b g' b' : Fin 1024 → EReal}
  (h0 : ∀ i, x0 i = A (i 0) (i 1)) (h1 : ∀ i, x1 i = W (i 0) (i 1)) (h2 : ∀ i, x2 i = R (i 0) (i 1))
  (h3 : ∀ i, x3 i = g (i 1)) (h4 : ∀ i, x4 i = b (i 1)) (h5 : ∀ i, x5 i = g' (i 1)) (h6 : ∀ i, x6 i = b' (i 1))

theorem ld_whole {n k : ℕ} {e : EltTy} (x : Vec Ideal ⟨2, ![n, k]⟩ e) (inb) (i) : View.ld x (Rect.unit ![0, 0] ![n, k] inb) i = x i := by
  pointwise
  exact congrArg x (funext fun a => Fin.ext (by fin_cases a <;> simp [Shape.Idx.norm]))

include h0 h1 h2 h5 h6

theorem tot_block (i : S1024x1024.Idx) :
    k0_pay2 (F := Ideal) (View.ld x0 r0_0) (View.ld x1 r0_1) (View.ld x2 r0_2) (View.ld x5 r0_3) (View.ld x6 r0_3) i
      = total (A (i 0)) (fun k => W k (i 1)) (R (i 0)) (g' (i 1)) (b' (i 1)) (i 1) := by
  rw [pay2_eq]
  exact congr (congr (congr (congr (congr (congrArg total (funext fun k => (ld_whole _ _ _).trans (h0 _))) (funext fun k => (ld_whole _ _ _).trans (h1 _)))
    (funext fun k => (ld_whole _ _ _).trans (h2 _))) ((ld_whole _ _ _).trans (h5 _))) ((ld_whole _ _ _).trans (h6 _))) rfl

theorem out7_block (y : S1024x1024.Idx) : out0_7 (F := Ideal) x0 x1 x2 x3 x4 x5 x6 y
    = total (A (y 0)) (fun k => W k (y 1)) (R (y 0)) (g' (y 1)) (b' (y 1)) (y 1) := by
  unfold out0_7
  refine View.canon_eq_of_allAt (Val := Elt Ideal) (e := EltTy.f32) _ y _ (cover0_7 _ y) ?_
  refine View.allAt_cons_unit (Val := Elt Ideal) _ _ _ _ _ ?_ <| View.allAt_nil (Val := Elt Ideal) _ _
  intro x hx
  obtain rfl : x = y := funext fun a => Fin.ext (by have := hx a; fin_cases a <;> simpa using this.symm)
  exact tot_block h0 h1 h2 h5 h6 x

include h3 h4

theorem out8_block (y : S1024x1024.Idx) : out0_8 (F := Ideal) x0 x1 x2 x3 x4 x5 x6 y
    = norm (fun k => total (A (y 0)) (fun l => W l k) (R (y 0)) (g' k) (b' k) k) (g (y 1)) (b (y 1)) (y 1) := by
  unfold out0_8
  refine View.canon_eq_of_allAt (Val := Elt Ideal) (e := EltTy.bf16) _ y _ (cover0_8 _ y) ?_
  refine View.allAt_cons_unit (Val := Elt Ideal) _ _ _ _ _ ?_ <| View.allAt_nil (Val := Elt Ideal) _ _
  intro x hx
  obtain rfl : x = y := funext fun a => Fin.ext (by have := hx a; fin_cases a <;> simpa using this.symm)
  refine (pay1_eq _ _ _ _ (pay3_eq _ _ _ _ _) x).trans ?_
  exact congr (congr (congr (congrArg norm (funext fun k => tot_block h0 h1 h2 h5 h6 _)) ((ld_whole _ _ _).trans (h3 _))) ((ld_whole _ _ _).trans (h4 _))) rfl

end

/-! ## The whole arrays -/

/-- Where each point's blocks lie. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)

/-- The row of the whole array that row `a` of point `n`'s block is. -/
def row (n : ℕ) (a : Fin 1024) : Fin 8192 := ⟨1024 * (n % 8) + (a : ℕ), by omega⟩

variable (m : (ℓ : Loc nD τ sig) → Buf (Elt Ideal) ℓ) (c : Dev nD)

/-- The arguments, as arrays of extended reals. -/
abbrev a0 : S8192x2816.Idx → EReal := m ((c : Thread nD τ).loc main_arg0)
abbrev a1 : S2816x1024.Idx → EReal := m ((c : Thread nD τ).loc main_arg1)
abbrev a2 : S8192x1024.Idx → EReal := m ((c : Thread nD τ).loc main_arg2)
abbrev a3 : S1024.Idx → EReal := m ((c : Thread nD τ).loc main_arg3)
abbrev a4 : S1024.Idx → EReal := m ((c : Thread nD τ).loc main_arg4)
abbrev a5 : S1024.Idx → EReal := m ((c : Thread nD τ).loc main_arg5)
abbrev a6 : S1024.Idx → EReal := m ((c : Thread nD τ).loc main_arg6)

/-- The weights are handed over as they are. -/
theorem V0_eq (i) : V m c main_v0 i = a1 m c i := by
  unfold V
  simp only [hostOps0, List.flatten_cons, List.flatten_nil, List.append_nil, List.cons_append, List.nil_append]
  after_results
  pointwise

theorem V1_eq (i) : V m c main_v1 i = a3 m c (ix1 (i 1)) := by
  unfold V
  simp only [hostOps0, List.flatten_cons, List.flatten_nil, List.append_nil, List.cons_append, List.nil_append]
  after_results
  pointwise

theorem V2_eq (i) : V m c main_v2 i = a4 m c (ix1 (i 1)) := by
  unfold V
  simp only [hostOps0, List.flatten_cons, List.flatten_nil, List.append_nil, List.cons_append, List.nil_append]
  after_results
  pointwise

theorem V3_eq (i) : V m c main_v3 i = a5 m c (ix1 (i 1)) := by
  unfold V
  simp only [hostOps0, List.flatten_cons, List.flatten_nil, List.append_nil, List.cons_append, List.nil_append]
  after_results
  pointwise

theorem V4_eq (i) : V m c main_v4 i = a6 m c (ix1 (i 1)) := by
  unfold V
  simp only [hostOps0, List.flatten_cons, List.flatten_nil, List.append_nil, List.cons_append, List.nil_append]
  after_results
  pointwise

theorem iblk0 (t : Fin cfg0.N) (y) : iblk m c 0 t y = a0 m c (ix2 (row t.val (y 0)) (y 1)) := by
  have ht : t.val < 8 := lt_of_lt_of_eq t.isLt N_0
  have e : ∀ F : S8192x2816.Idx → EReal, (∀ i, V m c main_arg0 i = F i) → iblk m c 0 t y = F (ix2 (row t.val (y 0)) (y 1)) := fun F h => by
    blk_simp [iblk]
    rw [h]
    blk_ext [row, idx t]
  exact e _ fun i => congrFun (V_main_arg0 m c) i

theorem iblk1 (t : Fin cfg0.N) (y) : iblk m c 1 t y = a1 m c (ix2 (y 0) (y 1)) := by
  have e : ∀ F : S2816x1024.Idx → EReal, (∀ i, V m c main_v0 i = F i) → iblk m c 1 t y = F (ix2 (y 0) (y 1)) := fun F h => by
    blk_simp [iblk]
    rw [h]
    blk_ext [row, idx t]
  exact e _ fun i => V0_eq m c i

theorem iblk2 (t : Fin cfg0.N) (y) : iblk m c 2 t y = a2 m c (ix2 (row t.val (y 0)) (y 1)) := by
  have ht : t.val < 8 := lt_of_lt_of_eq t.isLt N_0
  have e : ∀ F : S8192x1024.Idx → EReal, (∀ i, V m c main_arg2 i = F i) → iblk m c 2 t y = F (ix2 (row t.val (y 0)) (y 1)) := fun F h => by
    blk_simp [iblk]
    rw [h]
    blk_ext [row, idx t]
  exact e _ fun i => congrFun (V_main_arg2 m c) i

theorem iblk3 (t : Fin cfg0.N) (y) : iblk m c 3 t y = a3 m c (ix1 (y 1)) := by
  have e : ∀ F : S1x1024.Idx → EReal, (∀ i, V m c main_v1 i = F i) → iblk m c 3 t y = F (ix2 (y 0) (y 1)) := fun F h => by
    blk_simp [iblk]
    rw [h]
    blk_ext [row, idx t]
  exact e (fun i => a3 m c (ix1 (i 1))) fun i => V1_eq m c i

theorem iblk4 (t : Fin cfg0.N) (y) : iblk m c 4 t y = a4 m c (ix1 (y 1)) := by
  have e : ∀ F : S1x1024.Idx → EReal, (∀ i, V m c main_v2 i = F i) → iblk m c 4 t y = F (ix2 (y 0) (y 1)) := fun F h => by
    blk_simp [iblk]
    rw [h]
    blk_ext [row, idx t]
  exact e (fun i => a4 m c (ix1 (i 1))) fun i => V2_eq m c i

theorem iblk5 (t : Fin cfg0.N) (y) : iblk m c 5 t y = a5 m c (ix1 (y 1)) := by
  have e : ∀ F : S1x1024.Idx → EReal, (∀ i, V m c main_v3 i = F i) → iblk m c 5 t y = F (ix2 (y 0) (y 1)) := fun F h => by
    blk_simp [iblk]
    rw [h]
    blk_ext [row, idx t]
  exact e (fun i => a5 m c (ix1 (i 1))) fun i => V3_eq m c i

theorem iblk6 (t : Fin cfg0.N) (y) : iblk m c 6 t y = a6 m c (ix1 (y 1)) := by
  have e : ∀ F : S1x1024.Idx → EReal, (∀ i, V m c main_v4 i = F i) → iblk m c 6 t y = F (ix2 (y 0) (y 1)) := fun F h => by
    blk_simp [iblk]
    rw [h]
    blk_ext [row, idx t]
  exact e (fun i => a6 m c (ix1 (i 1))) fun i => V4_eq m c i

/-- An entry of the residual sum. -/
def sumAt (i : Fin 8192) (j : Fin 1024) : EReal :=
  total (fun k => a0 m c (ix2 i k)) (fun k => a1 m c (ix2 k j)) (fun k => a2 m c (ix2 i k)) (a5 m c (ix1 j)) (a6 m c (ix1 j)) j

/-- An entry of the normalized sum. -/
def normAt (i : Fin 8192) (j : Fin 1024) : EReal := norm (sumAt m c i) (a3 m c (ix1 j)) (a4 m c (ix1 j)) j

theorem sum_point (t : Fin cfg0.N) (y : S1024x1024.Idx) : out0_7 (F := Ideal) (iblk m c 0 t) (iblk m c 1 t) (iblk m c 2 t) (iblk m c 3 t) (iblk m c 4 t) (iblk m c 5 t) (iblk m c 6 t) y
    = sumAt m c (row t.val (y 0)) (y 1) :=
  out7_block (A := fun a k => a0 m c (ix2 (row t.val a) k)) (W := fun k j => a1 m c (ix2 k j)) (R := fun a k => a2 m c (ix2 (row t.val a) k))
    (g' := fun j => a5 m c (ix1 j)) (b' := fun j => a6 m c (ix1 j)) (iblk0 m c t) (iblk1 m c t) (iblk2 m c t) (iblk5 m c t) (iblk6 m c t) y

theorem norm_point (t : Fin cfg0.N) (y : S1024x1024.Idx) : out0_8 (F := Ideal) (iblk m c 0 t) (iblk m c 1 t) (iblk m c 2 t) (iblk m c 3 t) (iblk m c 4 t) (iblk m c 5 t) (iblk m c 6 t) y
    = normAt m c (row t.val (y 0)) (y 1) :=
  out8_block (A := fun a k => a0 m c (ix2 (row t.val a) k)) (W := fun k j => a1 m c (ix2 k j)) (R := fun a k => a2 m c (ix2 (row t.val a) k))
    (g := fun j => a3 m c (ix1 j)) (b := fun j => a4 m c (ix1 j))
    (g' := fun j => a5 m c (ix1 j)) (b' := fun j => a6 m c (ix1 j)) (iblk0 m c t) (iblk1 m c t) (iblk2 m c t) (iblk3 m c t) (iblk4 m c t) (iblk5 m c t) (iblk6 m c t) y

attribute [local irreducible] out0_7 out0_8 sumAt normAt

/-- The residual sums. -/
theorem sum_final : (dats m 0 c).arrAt 7 cfg0.N = fun i : S8192x1024.Idx => sumAt m c (i 0) (i 1) := by
  refine (dats m 0 c).arrAt_eq_of_covers 7 _ (by decide +kernel) fun t hf y => ?_
  have ht : t.val < 8 := lt_of_lt_of_eq t.isLt N_0
  have e : ∀ F : S8192x1024.Idx → EReal, F (((cfg0.win 7).blk t).view.emb y) = F (ix2 (row t.val (y 0)) (y 1)) := fun F => by
    blk_ext [row, idx t]
  rw [after0_7]
  exact (sum_point m c t y).trans (e fun i => sumAt m c (i 0) (i 1)).symm

/-- The normalized sums. -/
theorem norm_final : (dats m 0 c).arrAt 8 cfg0.N = fun i : S8192x1024.Idx => normAt m c (i 0) (i 1) := by
  refine (dats m 0 c).arrAt_eq_of_covers 8 _ (by decide +kernel) fun t hf y => ?_
  have ht : t.val < 8 := lt_of_lt_of_eq t.isLt N_0
  have e : ∀ F : S8192x1024.Idx → EReal, F (((cfg0.win 8).blk t).view.emb y) = F (ix2 (row t.val (y 0)) (y 1)) := fun F => by
    blk_ext [row, idx t]
  rw [after0_8]
  exact (norm_point m c t y).trans (e fun i => normAt m c (i 0) (i 1)).symm

end Cert.DownKernel

namespace Cert.DownClaim

open Idealize.ShloMosaic Idealize.SL.Sem
open scoped BigOperators

/-- The idealized reference ends with its arguments unchanged and its counters at zero. -/
theorem frame_reference : Cert.quiescent_DownRefIdeal :=
  fun m ρ _ => (θ_run Cert.DownRefIdeal.defs _ _).mono
    (fun r h => ⟨fun c => (h c).2.2, sem_eq_zero_of_no_sems (by decide) r.2⟩) (Cert.DownRefIdeal.Value.run (F := Ideal) m ρ)

section
open Cert.DownRefIdeal Cert.DownRefIdeal.Gen Cert.DownKernel

/-- The reference's normalization of an array's rows. -/
def rows (X : FVec Ideal S8192x1024 .f32) (G B : FVec Ideal S1024 .f32) : FVec Ideal S8192x1024 .f32 :=
  addf (mulf (mulf (subf X (broadcastInDim S8192x1024 ![0, 1] bcast_S8192x1_S8192x1024_0_1 (Host.divf (broadcastInDim S8192x1 ![0] bcast_S8192_S8192x1_0 (Host.reduceAdd X (constant S_ .f32 0x00000000#32) reducesTo_S8192x1024_S8192_d1 h_S_)) (broadcastInDim S8192x1 ![] bcast_S_S8192x1 (constant S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf X (broadcastInDim S8192x1024 ![0, 1] bcast_S8192x1_S8192x1024_0_1 (Host.divf (broadcastInDim S8192x1 ![0] bcast_S8192_S8192x1_0 (Host.reduceAdd X (constant S_ .f32 0x00000000#32) reducesTo_S8192x1024_S8192_d1 h_S_)) (broadcastInDim S8192x1 ![] bcast_S_S8192x1 (constant S_ .f32 0x44800000#32))))) (subf X (broadcastInDim S8192x1024 ![0, 1] bcast_S8192x1_S8192x1024_0_1 (Host.divf (broadcastInDim S8192x1 ![0] bcast_S8192_S8192x1_0 (Host.reduceAdd X (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 G))) (broadcastInDim S8192x1024 ![0, 1] bcast_S1x1024_S8192x1024_0_1 (broadcastInDim S1x1024 ![1] bcast_S1024_S1x1024_1 B))

theorem rows_eq (X : FVec Ideal S8192x1024 .f32) (G B : FVec Ideal S1024 .f32) (i : S8192x1024.Idx) :
    rows X G B i = norm (fun k => X (ix2 (i 0) k)) (G (ix1 (i 1))) (B (ix1 (i 1))) (i 1) := by
  obtain ⟨a, c, rfl⟩ : ∃ (a : Fin 8192) (c : Fin 1024), i = ix2 a c := ⟨i 0, i 1, split i⟩
  pointwise [rows]
  rfl

/-- The reference's residual sum. -/
def sums (a : FVec Ideal S8192x2816 .bf16) (w : FVec Ideal S2816x1024 .f32) (X : FVec Ideal S8192x1024 .f32) (G B : FVec Ideal S1024 .f32) : FVec Ideal S8192x1024 .f32 :=
  addf (mulf (broadcastInDim S8192x1024 ![] bcast_S_S8192x1024 (constant S_ .f32 0x3FB504F3#32)) (rows X G B)) (mulf (broadcastInDim S8192x1024 ![] bcast_S_S8192x1024 (constant S_ .f32 0x3F000000#32)) (Host.dotGeneral dot_S8192x2816_S2816x1024_S8192x1024_1_0_0_1_n_n none (extf .f32 a bitsLt_bf16_f32) w))

theorem sums_eq (a : FVec Ideal S8192x2816 .bf16) (w : FVec Ideal S2816x1024 .f32) (X : FVec Ideal S8192x1024 .f32) (G B : FVec Ideal S1024 .f32) (i : S8192x1024.Idx) :
    sums a w X G B i = total (fun k => a (ix2 (i 0) k)) (fun k => w (ix2 k (i 1))) (fun k => X (ix2 (i 0) k)) (G (ix1 (i 1))) (B (ix1 (i 1))) (i 1) := by
  pointwise [sums]
  rw [rows_eq]
  rfl

theorem cast_eq (X : FVec Ideal S8192x1024 .f32) (i) : truncf (F := Ideal) .bf16 X bitsLt_bf16_f32 i = X i := by
  pointwise

end

/-- Both programs leave the same sums, plain and normalized. -/
theorem algebraic : Cert.algebraic_DownIdeal_DownRefIdeal := by
  intro m g m' g' hp hm
  refine ⟨fun c => (Cert.DownIdeal.Gen.dats m 0 c).arrAt 7 Cert.DownIdeal.cfg0.N, fun c => (Cert.DownIdeal.Gen.dats m 0 c).arrAt 8 Cert.DownIdeal.cfg0.N,
    Cert.DownIdeal.Value.run_blocks m g, ?_⟩
  refine (θ_run _ _ _).mono (fun r h c => ?_) (Cert.DownRefIdeal.Value.run m' g')
  obtain ⟨e0, e1, e2, e3, e4, e5, e6⟩ := hm c
  obtain ⟨r0, r1, k⟩ := h c
  refine ⟨r0.trans ?_, r1.trans ?_, k⟩
  · rw [e0, e1, e2, e5, e6]
    exact (funext fun i => sums_eq _ _ _ _ _ i).trans (Cert.DownKernel.sum_final m c).symm
  · have u : Cert.DownRefIdeal.Value.res_main_v55 m' c
        = truncf (F := Ideal) .bf16 (rows (sums (m' ((c.tc : Thread _ _).loc Cert.DownRefIdeal.main_arg0)) (m' ((c.tc : Thread _ _).loc Cert.DownRefIdeal.main_arg1))
          (m' ((c.tc : Thread _ _).loc Cert.DownRefIdeal.main_arg2)) (m' ((c.tc : Thread _ _).loc Cert.DownRefIdeal.main_arg5)) (m' ((c.tc : Thread _ _).loc Cert.DownRefIdeal.main_arg6)))
          (m' ((c.tc : Thread _ _).loc Cert.DownRefIdeal.main_arg3)) (m' ((c.tc : Thread _ _).loc Cert.DownRefIdeal.main_arg4))) Cert.DownRefIdeal.Gen.bitsLt_bf16_f32 := by
      unfold Cert.DownRefIdeal.Value.res_main_v55
      rfl
    rw [u, e0, e1, e2, e3, e4, e5, e6]
    refine (funext fun i => (cast_eq _ i).trans ((rows_eq _ _ _ i).trans ?_)).trans (Cert.DownKernel.norm_final m c).symm
    simp only [sums_eq]
    rfl

end Cert.DownClaim
-- ==== Proof.DownxClaim.lean ====
/- The feed-forward block's second product with its residual and one normalization, tile by tile, are the whole arrays'. -/
module

public import proofs.«01_k».proof.Defs
public import proofs.«01_k».proof.Proof.Gen.DownxIdeal.Value
public import proofs.«01_k».proof.Proof.Gen.DownxRefIdeal.Run
public import proofs.«01_k».proof.Proof.DownClaim
public import Idealize.ShloMosaic.Lib.Pipeline.ValueKit
public import Idealize.ShloMosaic.Lib.Pipeline.ReadBack
public import Idealize.ShloMosaic.Lib.IdealHost

@[expose] public section

set_option maxRecDepth 16384

noncomputable section

namespace Cert.DownxKernel

open Cert.DownxIdeal Cert.DownxIdeal.Gen Idealize.ShloMosaic Idealize.ShloMosaic.TcCoe Idealize.SL.Sem
open scoped BigOperators
open Cert.DownKernel (mean norm split)

/-- An entry of the residual sum: the input and half the product. -/
def total (a w : Fin 2816 → EReal) (x : EReal) : EReal :=
  Scalar.ofBits (F := Ideal) .f32 0x3FB504F3#32 * x + Scalar.ofBits (F := Ideal) .f32 0x3F000000#32 * ∑ k, a k * w k

section
variable (v0 : Vec Ideal S1024x2816 .bf16) (v1 : Vec Ideal S2816x1024 .bf16) (v4 : Vec Ideal S1024x1024 .f32)

theorem pay1_eq (i : S1024x1024.Idx) : k0_pay1 (F := Ideal) v0 v1 v4 i
    = total (fun k => v0 (ix2 (i 0) k)) (fun k => v1 (ix2 k (i 1))) (v4 i) := by
  pointwise [k0_pay1]
  rfl

theorem pay2_eq (g b : Vec Ideal S1x1024 .f32) (i : S1024x1024.Idx) : k0_pay2 (F := Ideal) v0 v1 v4 g b i
    = norm (fun k => k0_pay1 (F := Ideal) v0 v1 v4 (ix2 (i 0) k)) (g (ix2 0 (i 1))) (b (ix2 0 (i 1))) (i 1) := by
  obtain ⟨a, c, rfl⟩ : ∃ (a c : Fin 1024), i = ix2 a c := ⟨i 0, i 1, split i⟩
  pointwise [k0_pay2]
  rfl

end

section
variable {x0 : Vec Ideal S1024x2816 .bf16} {x1 : Vec Ideal S2816x1024 .bf16} {x2 : Vec Ideal S1024x1024 .f32} {x3 x4 : Vec Ideal S1x1024 .f32}
  {A : Fin 1024 → Fin 2816 → EReal} {W : Fin 2816 → Fin 1024 → EReal} {R : Fin 1024 → Fin 1024 → EReal} {g b : Fin 1024 → EReal}
  (h0 : ∀ i, x0 i = A (i 0) (i 1)) (h1 : ∀ i, x1 i = W (i 0) (i 1)) (h2 : ∀ i, x2 i = R (i 0) (i 1))
  (h3 : ∀ i, x3 i = g (i 1)) (h4 : ∀ i, x4 i = b (i 1))

theorem ld_whole {n k : ℕ} {e : EltTy} (x : Vec Ideal ⟨2, ![n, k]⟩ e) (inb) (i) : View.ld x (Rect.unit ![0, 0] ![n, k] inb) i = x i := by
  pointwise
  exact congrArg x (funext fun a => Fin.ext (by fin_cases a <;> simp [Shape.Idx.norm]))

include h0 h1 h2

theorem tot_block (i : S1024x1024.Idx) : k0_pay1 (F := Ideal) (View.ld x0 r0_0) (View.ld x1 r0_1) (View.ld x2 r0_2) i
      = total (A (i 0)) (fun k => W k (i 1)) (R (i 0) (i 1)) := by
  rw [pay1_eq]
  exact congr (congr (congrArg total (funext fun k => (ld_whole _ _ _).trans (h0 _))) (funext fun k => (ld_whole _ _ _).trans (h1 _)))
    ((ld_whole _ _ _).trans (h2 _))

theorem out5_block (y : S1024x1024.Idx) : out0_5 (F := Ideal) x0 x1 x2 x3 x4 y = total (A (y 0)) (fun k => W k (y 1)) (R (y 0) (y 1)) := by
  unfold out0_5
  refine View.canon_eq_of_allAt (Val := Elt Ideal) (e := EltTy.f32) _ y _ (cover0_5 _ y) ?_
  refine View.allAt_cons_unit (Val := Elt Ideal) _ _ _ _ _ ?_ <| View.allAt_nil (Val := Elt Ideal) _ _
  intro x hx
  obtain rfl : x = y := funext fun a => Fin.ext (by have := hx a; fin_cases a <;> simpa using this.symm)
  exact tot_block h0 h1 h2 x

include h3 h4

theorem out6_block (y : S1024x1024.Idx) : out0_6 (F := Ideal) x0 x1 x2 x3 x4 y
    = norm (fun k => total (A (y 0)) (fun l => W l k) (R (y 0) k)) (g (y 1)) (b (y 1)) (y 1) := by
  unfold out0_6
  refine View.canon_eq_of_allAt (Val := Elt Ideal) (e := EltTy.bf16) _ y _ (cover0_6 _ y) ?_
  refine View.allAt_cons_unit (Val := Elt Ideal) _ _ _ _ _ ?_ <| View.allAt_nil (Val := Elt Ideal) _ _
  intro x hx
  obtain rfl : x = y := funext fun a => Fin.ext (by have := hx a; fin_cases a <;> simpa using this.symm)
  refine (pay2_eq _ _ _ _ _ x).trans ?_
  exact congr (congr (congr (congrArg norm (funext fun k => tot_block h0 h1 h2 _)) ((ld_whole _ _ _).trans (h3 _))) ((ld_whole _ _ _).trans (h4 _))) rfl

end

/-- Where each point's blocks lie. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] :=
  (by decide +kernel : ∀ t : Fin grid0.N, _)

/-- The row of the whole array that row `a` of point `n`'s block is. -/
def row (n : ℕ) (a : Fin 1024) : Fin 8192 := ⟨1024 * (n % 8) + (a : ℕ), by omega⟩

variable (m : (ℓ : Loc nD τ sig) → Buf (Elt Ideal) ℓ) (c : Dev nD)

/-- The arguments, as arrays of extended reals. -/
abbrev a0 : S8192x2816.Idx → EReal := m ((c : Thread nD τ).loc main_arg0)
abbrev a1 : S2816x1024.Idx → EReal := m ((c : Thread nD τ).loc main_arg1)
abbrev a2 : S8192x1024.Idx → EReal := m ((c : Thread nD τ).loc main_arg2)
abbrev a3 : S1024.Idx → EReal := m ((c : Thread nD τ).loc main_arg3)
abbrev a4 : S1024.Idx → EReal := m ((c : Thread nD τ).loc main_arg4)

theorem V0_eq (i) : V m c main_v0 i = a1 m c i := by
  unfold V
  simp only [hostOps0, List.flatten_cons, List.flatten_nil, List.append_nil, List.cons_append, List.nil_append]
  after_results
  pointwise

theorem V1_eq (i) : V m c main_v1 i = a3 m c (ix1 (i 1)) := by
  unfold V
  simp only [hostOps0, List.flatten_cons, List.flatten_nil, List.append_nil, List.cons_append, List.nil_append]
  after_results
  pointwise

theorem V2_eq (i) : V m c main_v2 i = a4 m c (ix1 (i 1)) := by
  unfold V
  simp only [hostOps0, List.flatten_cons, List.flatten_nil, List.append_nil, List.cons_append, List.nil_append]
  after_results
  pointwise

theorem iblk0 (t : Fin cfg0.N) (y) : iblk m c 0 t y = a0 m c (ix2 (row t.val (y 0)) (y 1)) := by
  have ht : t.val < 8 := lt_of_lt_of_eq t.isLt N_0
  have e : ∀ F : S8192x2816.Idx → EReal, (∀ i, V m c main_arg0 i = F i) → iblk m c 0 t y = F (ix2 (row t.val (y 0)) (y 1)) := fun F h => by
    blk_simp [iblk]
    rw [h]
    blk_ext [row, idx t]
  exact e _ fun i => congrFun (V_main_arg0 m c) i

theorem iblk1 (t : Fin cfg0.N) (y) : iblk m c 1 t y = a1 m c (ix2 (y 0) (y 1)) := by
  have e : ∀ F : S2816x1024.Idx → EReal, (∀ i, V m c main_v0 i = F i) → iblk m c 1 t y = F (ix2 (y 0) (y 1)) := fun F h => by
    blk_simp [iblk]
    rw [h]
    blk_ext [row, idx t]
  exact e _ fun i => V0_eq m c i

theorem iblk2 (t : Fin cfg0.N) (y) : iblk m c 2 t y = a2 m c (ix2 (row t.val (y 0)) (y 1)) := by
  have ht : t.val < 8 := lt_of_lt_of_eq t.isLt N_0
  have e : ∀ F : S8192x1024.Idx → EReal, (∀ i, V m c main_arg2 i = F i) → iblk m c 2 t y = F (ix2 (row t.val (y 0)) (y 1)) := fun F h => by
    blk_simp [iblk]
    rw [h]
    blk_ext [row, idx t]
  exact e _ fun i => congrFun (V_main_arg2 m c) i

theorem iblk3 (t : Fin cfg0.N) (y) : iblk m c 3 t y = a3 m c (ix1 (y 1)) := by
  have e : ∀ F : S1x1024.Idx → EReal, (∀ i, V m c main_v1 i = F i) → iblk m c 3 t y = F (ix2 (y 0) (y 1)) := fun F h => by
    blk_simp [iblk]
    rw [h]
    blk_ext [row, idx t]
  exact e (fun i => a3 m c (ix1 (i 1))) fun i => V1_eq m c i

theorem iblk4 (t : Fin cfg0.N) (y) : iblk m c 4 t y = a4 m c (ix1 (y 1)) := by
  have e : ∀ F : S1x1024.Idx → EReal, (∀ i, V m c main_v2 i = F i) → iblk m c 4 t y = F (ix2 (y 0) (y 1)) := fun F h => by
    blk_simp [iblk]
    rw [h]
    blk_ext [row, idx t]
  exact e (fun i => a4 m c (ix1 (i 1))) fun i => V2_eq m c i

/-- An entry of the residual sum. -/
def sumAt (i : Fin 8192) (j : Fin 1024) : EReal :=
  total (fun k => a0 m c (ix2 i k)) (fun k => a1 m c (ix2 k j)) (a2 m c (ix2 i j))

/-- An entry of the normalized sum. -/
def normAt (i : Fin 8192) (j : Fin 1024) : EReal := norm (sumAt m c i) (a3 m c (ix1 j)) (a4 m c (ix1 j)) j

theorem sum_point (t : Fin cfg0.N) (y : S1024x1024.Idx) : out0_5 (F := Ideal) (iblk m c 0 t) (iblk m c 1 t) (iblk m c 2 t) (iblk m c 3 t) (iblk m c 4 t) y
    = sumAt m c (row t.val (y 0)) (y 1) :=
  out5_block (A := fun a k => a0 m c (ix2 (row t.val a) k)) (W := fun k j => a1 m c (ix2 k j)) (R := fun a k => a2 m c (ix2 (row t.val a) k))
    (iblk0 m c t) (iblk1 m c t) (iblk2 m c t) y

theorem norm_point (t : Fin cfg0.N) (y : S1024x1024.Idx) : out0_6 (F := Ideal) (iblk m c 0 t) (iblk m c 1 t) (iblk m c 2 t) (iblk m c 3 t) (iblk m c 4 t) y
    = normAt m c (row t.val (y 0)) (y 1) :=
  out6_block (A := fun a k => a0 m c (ix2 (row t.val a) k)) (W := fun k j => a1 m c (ix2 k j)) (R := fun a k => a2 m c (ix2 (row t.val a) k))
    (g := fun j => a3 m c (ix1 j)) (b := fun j => a4 m c (ix1 j)) (iblk0 m c t) (iblk1 m c t) (iblk2 m c t) (iblk3 m c t) (iblk4 m c t) y

attribute [local irreducible] out0_5 out0_6 sumAt normAt

/-- The residual sums. -/
theorem sum_final : (dats m 0 c).arrAt 5 cfg0.N = fun i : S8192x1024.Idx => sumAt m c (i 0) (i 1) := by
  refine (dats m 0 c).arrAt_eq_of_covers 5 _ (by decide +kernel) fun t hf y => ?_
  have ht : t.val < 8 := lt_of_lt_of_eq t.isLt N_0
  have e : ∀ F : S8192x1024.Idx → EReal, F (((cfg0.win 5).blk t).view.emb y) = F (ix2 (row t.val (y 0)) (y 1)) := fun F => by
    blk_ext [row, idx t]
  rw [after0_5]
  exact (sum_point m c t y).trans (e fun i => sumAt m c (i 0) (i 1)).symm

/-- The normalized sums. -/
theorem norm_final : (dats m 0 c).arrAt 6 cfg0.N = fun i : S8192x1024.Idx => normAt m c (i 0) (i 1) := by
  refine (dats m 0 c).arrAt_eq_of_covers 6 _ (by decide +kernel) fun t hf y => ?_
  have ht : t.val < 8 := lt_of_lt_of_eq t.isLt N_0
  have e : ∀ F : S8192x1024.Idx → EReal, F (((cfg0.win 6).blk t).view.emb y) = F (ix2 (row t.val (y 0)) (y 1)) := fun F => by
    blk_ext [row, idx t]
  rw [after0_6]
  exact (norm_point m c t y).trans (e fun i => normAt m c (i 0) (i 1)).symm

end Cert.DownxKernel

namespace Cert.DownxClaim

open Idealize.ShloMosaic Idealize.SL.Sem
open scoped BigOperators

/-- The idealized reference ends with its arguments unchanged and its counters at zero. -/
theorem frame_reference : Cert.quiescent_DownxRefIdeal :=
  fun m ρ _ => (θ_run Cert.DownxRefIdeal.defs _ _).mono
    (fun r h => ⟨fun c => (h c).2.2, sem_eq_zero_of_no_sems (by decide) r.2⟩) (Cert.DownxRefIdeal.Value.run (F := Ideal) m ρ)

section
open Cert.DownxRefIdeal Cert.DownxRefIdeal.Gen Cert.DownxKernel
open Cert.DownKernel (norm split)

/-- The reference's normalization of an array's rows. -/
def rows (X : FVec Ideal S8192x1024 .f32) (G B : FVec Ideal S1024 .f32) : FVec Ideal S8192x1024 .f32 :=
  addf (mulf (mulf (subf X (broadcastInDim S8192x1024 ![0, 1] bcast_S8192x1_S8192x1024_0_1 (Host.divf (broadcastInDim S8192x1 ![0] bcast_S8192_S8192x1_0 (Host.reduceAdd X (constant S_ .f32 0x00000000#32) reducesTo_S8192x1024_S8192_d1 h_S_)) (broadcastInDim S8192x1 ![] bcast_S_S8192x1 (constant S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf X (broadcastInDim S8192x1024 ![0, 1] bcast_S8192x1_S8192x1024_0_1 (Host.divf (broadcastInDim S8192x1 ![0] bcast_S8192_S8192x1_0 (Host.reduceAdd X (constant S_ .f32 0x00000000#32) reducesTo_S8192x1024_S8192_d1 h_S_)) (broadcastInDim S8192x1 ![] bcast_S_S8192x1 (constant S_ .f32 0x44800000#32))))) (subf X (broadcastInDim S8192x1024 ![0, 1] bcast_S8192x1_S8192x1024_0_1 (Host.divf (broadcastInDim S8192x1 ![0] bcast_S8192_S8192x1_0 (Host.reduceAdd X (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 G))) (broadcastInDim S8192x1024 ![0, 1] bcast_S1x1024_S8192x1024_0_1 (broadcastInDim S1x1024 ![1] bcast_S1024_S1x1024_1 B))

theorem rows_eq (X : FVec Ideal S8192x1024 .f32) (G B : FVec Ideal S1024 .f32) (i : S8192x1024.Idx) :
    rows X G B i = norm (fun k => X (ix2 (i 0) k)) (G (ix1 (i 1))) (B (ix1 (i 1))) (i 1) := by
  obtain ⟨a, c, rfl⟩ : ∃ (a : Fin 8192) (c : Fin 1024), i = ix2 a c := ⟨i 0, i 1, split i⟩
  pointwise [rows]
  rfl

/-- The reference's residual sum. -/
def sums (a : FVec Ideal S8192x2816 .bf16) (w : FVec Ideal S2816x1024 .f32) (X : FVec Ideal S8192x1024 .f32) : FVec Ideal S8192x1024 .f32 :=
  addf (mulf (broadcastInDim S8192x1024 ![] bcast_S_S8192x1024 (constant S_ .f32 0x3FB504F3#32)) X) (mulf (broadcastInDim S8192x1024 ![] bcast_S_S8192x1024 (constant S_ .f32 0x3F000000#32)) (Host.dotGeneral dot_S8192x2816_S2816x1024_S8192x1024_1_0_0_1_n_n none (extf .f32 a bitsLt_bf16_f32) w))

theorem sums_eq (a : FVec Ideal S8192x2816 .bf16) (w : FVec Ideal S2816x1024 .f32) (X : FVec Ideal S8192x1024 .f32) (i : S8192x1024.Idx) :
    sums a w X i = total (fun k => a (ix2 (i 0) k)) (fun k => w (ix2 k (i 1))) (X (ix2 (i 0) (i 1))) := by
  obtain ⟨b, c, rfl⟩ : ∃ (b : Fin 8192) (c : Fin 1024), i = ix2 b c := ⟨i 0, i 1, split i⟩
  pointwise [sums]
  rfl

theorem cast_eq (X : FVec Ideal S8192x1024 .f32) (i) : truncf (F := Ideal) .bf16 X bitsLt_bf16_f32 i = X i := by
  pointwise

end

/-- Both programs leave the same sums, plain and normalized. -/
theorem algebraic : Cert.algebraic_DownxIdeal_DownxRefIdeal := by
  intro m g m' g' hp hm
  refine ⟨fun c => (Cert.DownxIdeal.Gen.dats m 0 c).arrAt 5 Cert.DownxIdeal.cfg0.N, fun c => (Cert.DownxIdeal.Gen.dats m 0 c).arrAt 6 Cert.DownxIdeal.cfg0.N,
    Cert.DownxIdeal.Value.run_blocks m g, ?_⟩
  refine (θ_run _ _ _).mono (fun r h c => ?_) (Cert.DownxRefIdeal.Value.run m' g')
  obtain ⟨e0, e1, e2, e3, e4⟩ := hm c
  obtain ⟨r0, r1, k⟩ := h c
  refine ⟨r0.trans ?_, r1.trans ?_, k⟩
  · rw [e0, e1, e2]
    refine (funext fun i => sums_eq _ _ _ i).trans (Eq.trans ?_ (Cert.DownxKernel.sum_final m c).symm)
    funext i
    unfold Cert.DownxKernel.sumAt
    rfl
  · have u : Cert.DownxRefIdeal.Value.res_main_v31 m' c
        = truncf (F := Ideal) .bf16 (rows (sums (m' ((c.tc : Thread _ _).loc Cert.DownxRefIdeal.main_arg0)) (m' ((c.tc : Thread _ _).loc Cert.DownxRefIdeal.main_arg1))
          (m' ((c.tc : Thread _ _).loc Cert.DownxRefIdeal.main_arg2)))
          (m' ((c.tc : Thread _ _).loc Cert.DownxRefIdeal.main_arg3)) (m' ((c.tc : Thread _ _).loc Cert.DownxRefIdeal.main_arg4))) Cert.DownxRefIdeal.Gen.bitsLt_bf16_f32 := by
      unfold Cert.DownxRefIdeal.Value.res_main_v31
      rfl
    rw [u, e0, e1, e2, e3, e4]
    refine (funext fun i => (cast_eq _ i).trans ((rows_eq _ _ _ i).trans ?_)).trans (Cert.DownxKernel.norm_final m c).symm
    simp only [sums_eq]
    unfold Cert.DownxKernel.normAt Cert.DownxKernel.sumAt
    rfl

end Cert.DownxClaim
-- ==== Proof.Tiles.lean ====
/- A sum over all rows of an array, taken block by block. -/
module

public import Mathlib.Algebra.BigOperators.Fin
public import Mathlib.Logic.Equiv.Fin.Basic

@[expose] public section

noncomputable section

namespace Cert.Tiles

open scoped BigOperators

variable {M : Type} [AddCommMonoid M] {T N : ℕ} (row : ℕ → Fin T → Fin N) (f : Fin N → M)

/-- The sum over the rows of the first `n` blocks. -/
def part (n : ℕ) : M := ∑ s ∈ Finset.range n, ∑ a, f (row s a)

theorem part_zero : part row f 0 = 0 := Finset.sum_range_zero _

theorem part_succ (n : ℕ) : part row f (n + 1) = part row f n + ∑ a, f (row n a) := Finset.sum_range_succ _ n

theorem part_one : part row f 1 = ∑ a, f (row 0 a) := by rw [part_succ, part_zero, zero_add]

/-- Over all blocks it is the sum over all rows. -/
theorem part_all (P : ℕ) (hP : P * T = N) (hrow : ∀ s a, s < P → (row s a : ℕ) = T * s + (a : ℕ)) : part row f P = ∑ t, f t := by
  subst hP
  rw [part, Finset.sum_range, ← Equiv.sum_comp (finProdFinEquiv (m := P) (n := T)) f, Fintype.sum_prod_type]
  refine Finset.sum_congr rfl fun s _ => Finset.sum_congr rfl fun a _ => congrArg f (Fin.ext ?_)
  rw [hrow s a s.isLt, finProdFinEquiv_apply_val, Nat.add_comm]

end Cert.Tiles
-- ==== Proof.DownlClaim.lean ====
/- The feed-forward block's second product of the last layer with its residual, its normalizations and the loss, tile by tile, are the whole arrays'. -/
module

public import proofs.«01_k».proof.Defs
public import proofs.«01_k».proof.Proof.Gen.DownlIdeal.Value
public import proofs.«01_k».proof.Proof.Gen.DownlRefIdeal.Run
public import proofs.«01_k».proof.Proof.DownClaim
public import proofs.«01_k».proof.Proof.Tiles
public import proofs.«01_k».proof.Proof.FfnSpec
public import Idealize.ShloMosaic.Lib.Pipeline.ValueKit
public import Idealize.ShloMosaic.Lib.Pipeline.ReadBack
public import Idealize.ShloMosaic.Lib.IdealHost

@[expose] public section

set_option maxRecDepth 16384

noncomputable section

namespace Cert.DownlKernel

open Cert.DownlIdeal Cert.DownlIdeal.Gen Idealize.ShloMosaic Idealize.ShloMosaic.TcCoe Idealize.SL.Sem
open scoped BigOperators
open Cert.DownKernel (mean norm split total)

/-- An entry of the normalized sum less the target. -/
def off (s : Fin 1024 → EReal) (g b t : EReal) (j : Fin 1024) : EReal := norm s g b j - t

/-- The gradient of the loss at such an entry. -/
def scaled (d : EReal) : EReal := Ideal.div d (Scalar.ofBits (F := Ideal) .f32 0x44800000#32)

/-- Half of the mean's factor, times two, is the mean's factor. -/
theorem scaled_eq (d : EReal) : Ideal.div (Scalar.ofBits (F := Ideal) .f32 0x3F000000#32 * Scalar.ofBits (F := Ideal) .f32 0x3F800000#32) (Scalar.ofBits (F := Ideal) .f32 0x44800000#32)
    * (Scalar.ofBits (F := Ideal) .f32 0x40000000#32 * d) = scaled d := by
  have e0 : (Scalar.ofBits (F := Ideal) .f32 0x3F000000#32 : EReal) = ((1 / 2 : ℝ) : EReal) := Cert.Reals.ofBits_half
  have e1 : (Scalar.ofBits (F := Ideal) .f32 0x3F800000#32 : EReal) = ((1 : ℝ) : EReal) := Ideal.ofBits_one_f32
  have e2 : (Scalar.ofBits (F := Ideal) .f32 0x44800000#32 : EReal) = ((1024 : ℝ) : EReal) := Cert.Reals.ofBits_1024
  have e3 : (Scalar.ofBits (F := Ideal) .f32 0x40000000#32 : EReal) = ((2 : ℝ) : EReal) := Cert.Reals.ofBits_two
  unfold scaled
  rw [e0, e1, e2, e3, Cert.Reals.mul_coe, Cert.Reals.div_coe _ _ (by norm_num), ← mul_assoc, Cert.Reals.mul_coe]
  have h : ((1024 : ℝ) : EReal) ≠ 0 := by exact_mod_cast (by norm_num : (1024 : ℝ) ≠ 0)
  rw [Ideal.div, if_neg h, ← EReal.coe_inv, mul_comm d]
  norm_num

section
variable (v0 : Vec Ideal S1024x2816 .bf16) (v1 : Vec Ideal S2816x1024 .bf16) (v4 : Vec Ideal S1024x1024 .f32) (v21 v25 : Vec Ideal S1x1024 .f32)

theorem pay1_eq (i : S1024x1024.Idx) : k0_pay1 (F := Ideal) v0 v1 v4 v21 v25 i
    = total (fun k => v0 (ix2 (i 0) k)) (fun k => v1 (ix2 k (i 1))) (fun k => v4 (ix2 (i 0) k)) (v21 (ix2 0 (i 1))) (v25 (ix2 0 (i 1))) (i 1) := by
  obtain ⟨a, b, rfl⟩ : ∃ (a b : Fin 1024), i = ix2 a b := ⟨i 0, i 1, split i⟩
  pointwise [k0_pay1]
  rfl

theorem pay2_eq (i : S1024x1.Idx) : k0_pay2 (F := Ideal) v0 v1 v4 v21 v25 i = ∑ k, k0_pay1 (F := Ideal) v0 v1 v4 v21 v25 (ix2 (i 0) k) := by
  pointwise [k0_pay2]

end

section
variable (s : FVec Ideal S1024x1024 .f32) (t : FVec Ideal S1024x1 .f32) (g b : Vec Ideal S1x1024 .f32) (y : Vec Ideal S1024x1024 .f32)
  (h : ∀ i, t i = ∑ k, s (ix2 (i 0) k))
include h

theorem pay3_eq (i : S1024x1024.Idx) : k0_pay3 (F := Ideal) s t g b y i
    = off (fun k => s (ix2 (i 0) k)) (g (ix2 0 (i 1))) (b (ix2 0 (i 1))) (y i) (i 1) := by
  obtain ⟨a, c, rfl⟩ : ∃ (a c : Fin 1024), i = ix2 a c := ⟨i 0, i 1, split i⟩
  pointwise [k0_pay3]
  simp only [h]
  rfl

theorem pay4_eq (i : S1024x1024.Idx) : k0_pay4 (F := Ideal) s t g b y i = scaled (k0_pay3 (F := Ideal) s t g b y i) := by
  pointwise [k0_pay4]
  rfl

theorem pay6_eq (z : Vec Ideal S1x1024 .f32) (i : S1x1024.Idx) : k0_pay6 (F := Ideal) s t g b y z i
    = z i + ∑ a, k0_pay3 (F := Ideal) s t g b y (ix2 a (i 1)) * k0_pay3 (F := Ideal) s t g b y (ix2 a (i 1)) := by
  obtain ⟨a, c, rfl⟩ : ∃ (a : Fin 1) (c : Fin 1024), i = ix2 a c := ⟨i 0, i 1, split i⟩
  pointwise [k0_pay6]

end

theorem pay5_eq (i) : k0_pay5 (F := Ideal) i = 0 := by
  pointwise [k0_pay5]

/-- Where each point's blocks lie. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![0, 0] ∧ win0_6.index t = ![0, 0] ∧ win0_7.index t = ![t.val, 0] ∧ win0_8.index t = ![t.val, 0]
    ∧ win0_9.index t = ![t.val, 0] ∧ win0_10.index t = ![0, 0] :=
  (by decide +kernel : ∀ t : Fin grid0.N, _)

/-- The row of the whole array that row `a` of point `n`'s block is. -/
def row (n : ℕ) (a : Fin 1024) : Fin 8192 := ⟨1024 * (n % 8) + (a : ℕ), by omega⟩

variable (m : (ℓ : Loc nD τ sig) → Buf (Elt Ideal) ℓ) (c : Dev nD)

/-- The arguments, as arrays of extended reals. -/
abbrev a0 : S8192x2816.Idx → EReal := m ((c : Thread nD τ).loc main_arg0)
abbrev a1 : S2816x1024.Idx → EReal := m ((c : Thread nD τ).loc main_arg1)
abbrev a2 : S8192x1024.Idx → EReal := m ((c : Thread nD τ).loc main_arg2)
abbrev a3 : S1024.Idx → EReal := m ((c : Thread nD τ).loc main_arg3)
abbrev a4 : S1024.Idx → EReal := m ((c : Thread nD τ).loc main_arg4)
abbrev a5 : S1024.Idx → EReal := m ((c : Thread nD τ).loc main_arg5)
abbrev a6 : S1024.Idx → EReal := m ((c : Thread nD τ).loc main_arg6)
abbrev a7 : S8192x1024.Idx → EReal := m ((c : Thread nD τ).loc main_arg7)

theorem V0_eq (i) : V m c main_v0 i = a1 m c i := by
  unfold V
  simp only [hostOps0, List.flatten_cons, List.flatten_nil, List.append_nil, List.cons_append, List.nil_append]
  after_results
  pointwise

theorem V1_eq (i) : V m c main_v1 i = a3 m c (ix1 (i 1)) := by
  unfold V
  simp only [hostOps0, List.flatten_cons, List.flatten_nil, List.append_nil, List.cons_append, List.nil_append]
  after_results
  pointwise

theorem V2_eq (i) : V m c main_v2 i = a4 m c (ix1 (i 1)) := by
  unfold V
  simp only [hostOps0, List.flatten_cons, List.flatten_nil, List.append_nil, List.cons_append, List.nil_append]
  after_results
  pointwise

theorem V3_eq (i) : V m c main_v3 i = a5 m c (ix1 (i 1)) := by
  unfold V
  simp only [hostOps0, List.flatten_cons, List.flatten_nil, List.append_nil, List.cons_append, List.nil_append]
  after_results
  pointwise

theorem V4_eq (i) : V m c main_v4 i = a6 m c (ix1 (i 1)) := by
  unfold V
  simp only [hostOps0, List.flatten_cons, List.flatten_nil, List.append_nil, List.cons_append, List.nil_append]
  after_results
  pointwise

theorem iblk0 (t : Fin cfg0.N) (y) : iblk m c 0 t y = a0 m c (ix2 (row t.val (y 0)) (y 1)) := by
  have ht : t.val < 8 := lt_of_lt_of_eq t.isLt N_0
  have e : ∀ F : S8192x2816.Idx → EReal, (∀ i, V m c main_arg0 i = F i) → iblk m c 0 t y = F (ix2 (row t.val (y 0)) (y 1)) := fun F h => by
    blk_simp [iblk]
    rw [h]
    blk_ext [row, idx t]
  exact e _ fun i => congrFun (V_main_arg0 m c) i

theorem iblk1 (t : Fin cfg0.N) (y) : iblk m c 1 t y = a1 m c (ix2 (y 0) (y 1)) := by
  have e : ∀ F : S2816x1024.Idx → EReal, (∀ i, V m c main_v0 i = F i) → iblk m c 1 t y = F (ix2 (y 0) (y 1)) := fun F h => by
    blk_simp [iblk]
    rw [h]
    blk_ext [row, idx t]
  exact e _ fun i => V0_eq m c i

theorem iblk2 (t : Fin cfg0.N) (y) : iblk m c 2 t y = a2 m c (ix2 (row t.val (y 0)) (y 1)) := by
  have ht : t.val < 8 := lt_of_lt_of_eq t.isLt N_0
  have e : ∀ F : S8192x1024.Idx → EReal, (∀ i, V m c main_arg2 i = F i) → iblk m c 2 t y = F (ix2 (row t.val (y 0)) (y 1)) := fun F h => by
    blk_simp [iblk]
    rw [h]
    blk_ext [row, idx t]
  exact e _ fun i => congrFun (V_main_arg2 m c) i

theorem iblk3 (t : Fin cfg0.N) (y) : iblk m c 3 t y = a3 m c (ix1 (y 1)) := by
  have e : ∀ F : S1x1024.Idx → EReal, (∀ i, V m c main_v1 i = F i) → iblk m c 3 t y = F (ix2 (y 0) (y 1)) := fun F h => by
    blk_simp [iblk]
    rw [h]
    blk_ext [row, idx t]
  exact e (fun i => a3 m c (ix1 (i 1))) fun i => V1_eq m c i

theorem iblk4 (t : Fin cfg0.N) (y) : iblk m c 4 t y = a4 m c (ix1 (y 1)) := by
  have e : ∀ F : S1x1024.Idx → EReal, (∀ i, V m c main_v2 i = F i) → iblk m c 4 t y = F (ix2 (y 0) (y 1)) := fun F h => by
    blk_simp [iblk]
    rw [h]
    blk_ext [row, idx t]
  exact e (fun i => a4 m c (ix1 (i 1))) fun i => V2_eq m c i

theorem iblk5 (t : Fin cfg0.N) (y) : iblk m c 5 t y = a5 m c (ix1 (y 1)) := by
  have e : ∀ F : S1x1024.Idx → EReal, (∀ i, V m c main_v3 i = F i) → iblk m c 5 t y = F (ix2 (y 0) (y 1)) := fun F h => by
    blk_simp [iblk]
    rw [h]
    blk_ext [row, idx t]
  exact e (fun i => a5 m c (ix1 (i 1))) fun i => V3_eq m c i

theorem iblk6 (t : Fin cfg0.N) (y) : iblk m c 6 t y = a6 m c (ix1 (y 1)) := by
  have e : ∀ F : S1x1024.Idx → EReal, (∀ i, V m c main_v4 i = F i) → iblk m c 6 t y = F (ix2 (y 0) (y 1)) := fun F h => by
    blk_simp [iblk]
    rw [h]
    blk_ext [row, idx t]
  exact e (fun i => a6 m c (ix1 (i 1))) fun i => V4_eq m c i

theorem iblk7 (t : Fin cfg0.N) (y) : iblk m c 7 t y = a7 m c (ix2 (row t.val (y 0)) (y 1)) := by
  have ht : t.val < 8 := lt_of_lt_of_eq t.isLt N_0
  have e : ∀ F : S8192x1024.Idx → EReal, (∀ i, V m c main_arg7 i = F i) → iblk m c 7 t y = F (ix2 (row t.val (y 0)) (y 1)) := fun F h => by
    blk_simp [iblk]
    rw [h]
    blk_ext [row, idx t]
  exact e _ fun i => congrFun (V_main_arg7 m c) i

/-- An entry of the residual sum. -/
def sumAt (i : Fin 8192) (j : Fin 1024) : EReal :=
  total (fun k => a0 m c (ix2 i k)) (fun k => a1 m c (ix2 k j)) (fun k => a2 m c (ix2 i k)) (a5 m c (ix1 j)) (a6 m c (ix1 j)) j

/-- An entry of the normalized sum less the target. -/
def offAt (i : Fin 8192) (j : Fin 1024) : EReal := off (sumAt m c i) (a3 m c (ix1 j)) (a4 m c (ix1 j)) (a7 m c (ix2 i j)) j

/-- An entry of the loss's gradient. -/
def gradAt (i : Fin 8192) (j : Fin 1024) : EReal := scaled (offAt m c i j)

theorem sum_block (t : Fin cfg0.N) (y : S1024x1024.Idx) : k0_pay1 (F := Ideal) (iblk m c 0 t) (iblk m c 1 t) (iblk m c 2 t) (iblk m c 5 t) (iblk m c 6 t) y
    = sumAt m c (row t.val (y 0)) (y 1) := by
  rw [pay1_eq]
  unfold sumAt
  exact congr (congr (congr (congr (congr (congrArg total (funext fun k => iblk0 m c t _)) (funext fun k => iblk1 m c t _))
    (funext fun k => iblk2 m c t _)) (iblk5 m c t _)) (iblk6 m c t _)) rfl

theorem off_block (t : Fin cfg0.N) (y : S1024x1024.Idx) : k0_pay3 (F := Ideal) (k0_pay1 (iblk m c 0 t) (iblk m c 1 t) (iblk m c 2 t) (iblk m c 5 t) (iblk m c 6 t)) (k0_pay2 (iblk m c 0 t) (iblk m c 1 t) (iblk m c 2 t) (iblk m c 5 t) (iblk m c 6 t)) (iblk m c 3 t) (iblk m c 4 t) (iblk m c 7 t) y
    = offAt m c (row t.val (y 0)) (y 1) := by
  refine (pay3_eq _ _ _ _ _ (pay2_eq _ _ _ _ _) y).trans ?_
  unfold offAt
  exact congr (congr (congr (congr (congrArg off (funext fun k => sum_block m c t _)) (iblk3 m c t _)) (iblk4 m c t _))
    ((iblk7 m c t y).trans rfl)) rfl

theorem sum_point (t : Fin cfg0.N) (y : S1024x1024.Idx) : (outsAt0 m c t.val t.isLt).1 y = sumAt m c (row t.val (y 0)) (y 1) := by
  by_cases h0 : t.val % 8 = 0
  · rw [outsAt0_A m c t h0]
    frame_out
    exact sum_block m c t y
  · rw [outsAt0_B m c t h0]
    frame_out
    exact sum_block m c t y

theorem grad_point (t : Fin cfg0.N) (y : S1024x1024.Idx) : (outsAt0 m c t.val t.isLt).2.1 y = gradAt m c (row t.val (y 0)) (y 1) := by
  by_cases h0 : t.val % 8 = 0
  · rw [outsAt0_A m c t h0]
    frame_out
    exact (pay4_eq _ _ _ _ _ (pay2_eq _ _ _ _ _) y).trans (congrArg scaled (off_block m c t y))
  · rw [outsAt0_B m c t h0]
    frame_out
    exact (pay4_eq _ _ _ _ _ (pay2_eq _ _ _ _ _) y).trans (congrArg scaled (off_block m c t y))

/-- The squares of a column so far. -/
theorem square_point (y : S1x1024.Idx) : ∀ (n : ℕ) (hn : n < cfg0.N), (outsAt0 m c n hn).2.2 y
    = Cert.Tiles.part row (fun i => offAt m c i (y 1) * offAt m c i (y 1)) (n + 1)
  | 0, hn => by
    rw [Cert.Tiles.part_one]
    refine (congrArg (fun o => o.2.2 y) (outsAt0_A m c ⟨0, hn⟩ rfl)).trans ?_
    frame_out
    refine (pay6_eq _ _ _ _ _ (pay2_eq _ _ _ _ _) _ y).trans ?_
    rw [pay5_eq, zero_add]
    exact Finset.sum_congr rfl fun a _ => congr (congrArg _ (off_block m c ⟨0, hn⟩ (ix2 a (y 1)))) (off_block m c ⟨0, hn⟩ (ix2 a (y 1)))
  | n + 1, hn => by
    have hN : n + 1 < 8 := lt_of_lt_of_eq hn N_0
    have ih := square_point y n (Nat.lt_of_succ_lt hn)
    rw [Cert.Tiles.part_succ]
    refine (congrArg (fun o => o.2.2 y) (outsAt0_B m c ⟨n + 1, hn⟩ (by dsimp only; omega))).trans ?_
    frame_out
    refine (pay6_eq _ _ _ _ _ (pay2_eq _ _ _ _ _) _ y).trans ?_
    exact congr (congrArg _ ih) (Finset.sum_congr rfl fun a _ =>
      congr (congrArg _ (off_block m c ⟨n + 1, hn⟩ (ix2 a (y 1)))) (off_block m c ⟨n + 1, hn⟩ (ix2 a (y 1))))

attribute [local irreducible] sumAt offAt gradAt

/-- The residual sums. -/
theorem sum_final : (dats m 0 c).arrAt 8 cfg0.N = fun i : S8192x1024.Idx => sumAt m c (i 0) (i 1) := by
  refine (dats m 0 c).arrAt_eq_of_covers 8 _ (by decide +kernel) fun t hf y => ?_
  have ht : t.val < 8 := lt_of_lt_of_eq t.isLt N_0
  have e : ∀ F : S8192x1024.Idx → EReal, F (((cfg0.win 8).blk t).view.emb y) = F (ix2 (row t.val (y 0)) (y 1)) := fun F => by
    blk_ext [row, idx t]
  rw [after0_8]
  exact (sum_point m c t y).trans (e fun i => sumAt m c (i 0) (i 1)).symm

/-- The loss's gradient. -/
theorem grad_final : (dats m 0 c).arrAt 9 cfg0.N = fun i : S8192x1024.Idx => gradAt m c (i 0) (i 1) := by
  refine (dats m 0 c).arrAt_eq_of_covers 9 _ (by decide +kernel) fun t hf y => ?_
  have ht : t.val < 8 := lt_of_lt_of_eq t.isLt N_0
  have e : ∀ F : S8192x1024.Idx → EReal, F (((cfg0.win 9).blk t).view.emb y) = F (ix2 (row t.val (y 0)) (y 1)) := fun F => by
    blk_ext [row, idx t]
  rw [after0_9]
  exact (grad_point m c t y).trans (e fun i => gradAt m c (i 0) (i 1)).symm

/-- The sums of the squares over the tokens. -/
theorem square_final : (dats m 0 c).arrAt 10 cfg0.N = fun i : S1x1024.Idx => ∑ t, offAt m c t (i 1) * offAt m c t (i 1) := by
  refine (dats m 0 c).arrAt_eq_of_covers 10 _ (by decide +kernel) fun t hf y => ?_
  have e : ∀ F : S1x1024.Idx → EReal, F (((cfg0.win 10).blk t).view.emb y) = F (ix2 (y 0) (y 1)) := fun F => by
    blk_ext [idx t]
  have ht : t.val = 7 := by
    have h1 := (flush0_10 t).mp hf
    have h2 : t.val < 8 := lt_of_lt_of_eq t.isLt N_0
    omega
  rw [after0_10]
  refine ((square_point m c y t.val t.isLt).trans ?_).trans (e fun i => ∑ t, offAt m c t (i 1) * offAt m c t (i 1)).symm
  rw [ht]
  exact Cert.Tiles.part_all row _ 8 (by norm_num) fun s a hs => by
    show 1024 * (s % 8) + (a : ℕ) = _
    rw [Nat.mod_eq_of_lt hs]

end Cert.DownlKernel

namespace Cert.DownlClaim

open Idealize.ShloMosaic Idealize.SL.Sem
open scoped BigOperators

/-- The idealized reference ends with its arguments unchanged and its counters at zero. -/
theorem frame_reference : Cert.quiescent_DownlRefIdeal :=
  fun m ρ _ => (θ_run Cert.DownlRefIdeal.defs _ _).mono
    (fun r h => ⟨fun c => (h c).2.2.2, sem_eq_zero_of_no_sems (by decide) r.2⟩) (Cert.DownlRefIdeal.Value.run (F := Ideal) m ρ)

section
open Cert.DownlRefIdeal Cert.DownlRefIdeal.Gen Cert.DownlKernel
open Cert.DownKernel (norm split total)

/-- The reference's normalization of an array's rows. -/
def rows (X : FVec Ideal S8192x1024 .f32) (G B : FVec Ideal S1024 .f32) : FVec Ideal S8192x1024 .f32 :=
  addf (mulf (mulf (subf X (broadcastInDim S8192x1024 ![0, 1] bcast_S8192x1_S8192x1024_0_1 (Host.divf (broadcastInDim S8192x1 ![0] bcast_S8192_S8192x1_0 (Host.reduceAdd X (constant S_ .f32 0x00000000#32) reducesTo_S8192x1024_S8192_d1 h_S_)) (broadcastInDim S8192x1 ![] bcast_S_S8192x1 (constant S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf X (broadcastInDim S8192x1024 ![0, 1] bcast_S8192x1_S8192x1024_0_1 (Host.divf (broadcastInDim S8192x1 ![0] bcast_S8192_S8192x1_0 (Host.reduceAdd X (constant S_ .f32 0x00000000#32) reducesTo_S8192x1024_S8192_d1 h_S_)) (broadcastInDim S8192x1 ![] bcast_S_S8192x1 (constant S_ .f32 0x44800000#32))))) (subf X (broadcastInDim S8192x1024 ![0, 1] bcast_S8192x1_S8192x1024_0_1 (Host.divf (broadcastInDim S8192x1 ![0] bcast_S8192_S8192x1_0 (Host.reduceAdd X (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 G))) (broadcastInDim S8192x1024 ![0, 1] bcast_S1x1024_S8192x1024_0_1 (broadcastInDim S1x1024 ![1] bcast_S1024_S1x1024_1 B))

theorem rows_eq (X : FVec Ideal S8192x1024 .f32) (G B : FVec Ideal S1024 .f32) (i : S8192x1024.Idx) :
    rows X G B i = norm (fun k => X (ix2 (i 0) k)) (G (ix1 (i 1))) (B (ix1 (i 1))) (i 1) := by
  obtain ⟨a, c, rfl⟩ : ∃ (a : Fin 8192) (c : Fin 1024), i = ix2 a c := ⟨i 0, i 1, split i⟩
  pointwise [rows]
  rfl

/-- The reference's residual sum. -/
def sums (a : FVec Ideal S8192x2816 .bf16) (w : FVec Ideal S2816x1024 .f32) (X : FVec Ideal S8192x1024 .f32) (G B : FVec Ideal S1024 .f32) : FVec Ideal S8192x1024 .f32 :=
  addf (mulf (broadcastInDim S8192x1024 ![] bcast_S_S8192x1024 (constant S_ .f32 0x3FB504F3#32)) (rows X G B)) (mulf (broadcastInDim S8192x1024 ![] bcast_S_S8192x1024 (constant S_ .f32 0x3F000000#32)) (Host.dotGeneral dot_S8192x2816_S2816x1024_S8192x1024_1_0_0_1_n_n none (extf .f32 a bitsLt_bf16_f32) w))

theorem sums_eq (a : FVec Ideal S8192x2816 .bf16) (w : FVec Ideal S2816x1024 .f32) (X : FVec Ideal S8192x1024 .f32) (G B : FVec Ideal S1024 .f32) (i : S8192x1024.Idx) :
    sums a w X G B i = total (fun k => a (ix2 (i 0) k)) (fun k => w (ix2 k (i 1))) (fun k => X (ix2 (i 0) k)) (G (ix1 (i 1))) (B (ix1 (i 1))) (i 1) := by
  pointwise [sums]
  rw [rows_eq]
  rfl

/-- The reference's normalized sum less the target. -/
def offs (a : FVec Ideal S8192x2816 .bf16) (w : FVec Ideal S2816x1024 .f32) (X : FVec Ideal S8192x1024 .f32) (G B G' B' : FVec Ideal S1024 .f32) (Y : FVec Ideal S8192x1024 .f32) : FVec Ideal S8192x1024 .f32 :=
  subf (rows (sums a w X G' B') G B) Y

theorem offs_eq (a : FVec Ideal S8192x2816 .bf16) (w : FVec Ideal S2816x1024 .f32) (X : FVec Ideal S8192x1024 .f32) (G B G' B' : FVec Ideal S1024 .f32) (Y : FVec Ideal S8192x1024 .f32) (i : S8192x1024.Idx) :
    offs a w X G B G' B' Y i = off (fun j => total (fun k => a (ix2 (i 0) k)) (fun k => w (ix2 k j)) (fun k => X (ix2 (i 0) k)) (G' (ix1 j)) (B' (ix1 j)) j)
      (G (ix1 (i 1))) (B (ix1 (i 1))) (Y (ix2 (i 0) (i 1))) (i 1) := by
  obtain ⟨b, c, rfl⟩ : ∃ (b : Fin 8192) (c : Fin 1024), i = ix2 b c := ⟨i 0, i 1, split i⟩
  pointwise [offs]
  rw [rows_eq]
  simp only [sums_eq]
  rfl

theorem grads_eq (D : FVec Ideal S8192x1024 .f32) (i : S8192x1024.Idx) :
    mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) D) i
      = scaled (D i) := by
  rw [← scaled_eq]
  pointwise

theorem squares_eq (D : FVec Ideal S8192x1024 .f32) (i : S1x1024.Idx) :
    broadcastInDim S1x1024 ![1] bcast_S1024_S1x1024_1 (Host.reduceAdd (mulf D D) (constant S_ .f32 0x00000000#32) reducesTo_S8192x1024_S1024_d0 h_S_) i
      = ∑ t, D (ix2 t (i 1)) * D (ix2 t (i 1)) := by
  obtain ⟨b, c, rfl⟩ : ∃ (b : Fin 1) (c : Fin 1024), i = ix2 b c := ⟨i 0, i 1, split i⟩
  pointwise

end

/-- Both programs leave the same sums, gradient and squares. -/
theorem algebraic : Cert.algebraic_DownlIdeal_DownlRefIdeal := by
  intro m g m' g' hp hm
  refine ⟨fun c => (Cert.DownlIdeal.Gen.dats m 0 c).arrAt 8 Cert.DownlIdeal.cfg0.N, fun c => (Cert.DownlIdeal.Gen.dats m 0 c).arrAt 9 Cert.DownlIdeal.cfg0.N,
    fun c => (Cert.DownlIdeal.Gen.dats m 0 c).arrAt 10 Cert.DownlIdeal.cfg0.N, Cert.DownlIdeal.Value.run_blocks m g, ?_⟩
  refine (θ_run _ _ _).mono (fun r h c => ?_) (Cert.DownlRefIdeal.Value.run m' g')
  obtain ⟨e0, e1, e2, e3, e4, e5, e6, e7⟩ := hm c
  obtain ⟨r0, r1, r2, k⟩ := h c
  have d : ∀ i, offs (m ((c.tc : Thread _ _).loc Cert.DownlIdeal.main_arg0)) (m ((c.tc : Thread _ _).loc Cert.DownlIdeal.main_arg1)) (m ((c.tc : Thread _ _).loc Cert.DownlIdeal.main_arg2))
      (m ((c.tc : Thread _ _).loc Cert.DownlIdeal.main_arg3)) (m ((c.tc : Thread _ _).loc Cert.DownlIdeal.main_arg4)) (m ((c.tc : Thread _ _).loc Cert.DownlIdeal.main_arg5))
      (m ((c.tc : Thread _ _).loc Cert.DownlIdeal.main_arg6)) (m ((c.tc : Thread _ _).loc Cert.DownlIdeal.main_arg7)) i = Cert.DownlKernel.offAt m c (i 0) (i 1) := fun i => by
    rw [offs_eq]
    unfold Cert.DownlKernel.offAt Cert.DownlKernel.sumAt
    rfl
  refine ⟨r0.trans ?_, r1.trans ?_, r2.trans ?_, k⟩
  · rw [e0, e1, e2, e5, e6]
    refine (funext fun i => sums_eq _ _ _ _ _ i).trans (Eq.trans ?_ (Cert.DownlKernel.sum_final m c).symm)
    funext i
    unfold Cert.DownlKernel.sumAt
    rfl
  · have u : Cert.DownlRefIdeal.Value.res_main_v69 m' c
        = mulf (broadcastInDim Cert.DownlRefIdeal.S8192x1024 ![0] Cert.DownlRefIdeal.Gen.bcast_S8192_S8192x1024_0 (Host.divf (broadcastInDim Cert.DownlRefIdeal.S8192 ![] Cert.DownlRefIdeal.Gen.bcast_S_S8192 (mulf (constant Cert.DownlRefIdeal.S_ .f32 0x3F000000#32) (constant Cert.DownlRefIdeal.S_ .f32 0x3F800000#32))) (broadcastInDim Cert.DownlRefIdeal.S8192 ![] Cert.DownlRefIdeal.Gen.bcast_S_S8192 (constant Cert.DownlRefIdeal.S_ .f32 0x44800000#32)))) (mulf (broadcastInDim Cert.DownlRefIdeal.S8192x1024 ![] Cert.DownlRefIdeal.Gen.bcast_S_S8192x1024 (constant Cert.DownlRefIdeal.S_ .f32 0x40000000#32))
          (offs (m' ((c.tc : Thread _ _).loc Cert.DownlRefIdeal.main_arg0)) (m' ((c.tc : Thread _ _).loc Cert.DownlRefIdeal.main_arg1)) (m' ((c.tc : Thread _ _).loc Cert.DownlRefIdeal.main_arg2)) (m' ((c.tc : Thread _ _).loc Cert.DownlRefIdeal.main_arg3)) (m' ((c.tc : Thread _ _).loc Cert.DownlRefIdeal.main_arg4)) (m' ((c.tc : Thread _ _).loc Cert.DownlRefIdeal.main_arg5)) (m' ((c.tc : Thread _ _).loc Cert.DownlRefIdeal.main_arg6)) (m' ((c.tc : Thread _ _).loc Cert.DownlRefIdeal.main_arg7)))) := by
      unfold Cert.DownlRefIdeal.Value.res_main_v69
      rfl
    rw [u, e0, e1, e2, e3, e4, e5, e6, e7]
    refine (funext fun i => (grads_eq _ i).trans ?_).trans (Cert.DownlKernel.grad_final m c).symm
    rw [d]
    unfold Cert.DownlKernel.gradAt
    rfl
  · have u : Cert.DownlRefIdeal.Value.res_main_v73 m' c
        = broadcastInDim Cert.DownlRefIdeal.S1x1024 ![1] Cert.DownlRefIdeal.Gen.bcast_S1024_S1x1024_1 (Host.reduceAdd (mulf (offs (m' ((c.tc : Thread _ _).loc Cert.DownlRefIdeal.main_arg0)) (m' ((c.tc : Thread _ _).loc Cert.DownlRefIdeal.main_arg1)) (m' ((c.tc : Thread _ _).loc Cert.DownlRefIdeal.main_arg2)) (m' ((c.tc : Thread _ _).loc Cert.DownlRefIdeal.main_arg3)) (m' ((c.tc : Thread _ _).loc Cert.DownlRefIdeal.main_arg4)) (m' ((c.tc : Thread _ _).loc Cert.DownlRefIdeal.main_arg5)) (m' ((c.tc : Thread _ _).loc Cert.DownlRefIdeal.main_arg6)) (m' ((c.tc : Thread _ _).loc Cert.DownlRefIdeal.main_arg7)))
          (offs (m' ((c.tc : Thread _ _).loc Cert.DownlRefIdeal.main_arg0)) (m' ((c.tc : Thread _ _).loc Cert.DownlRefIdeal.main_arg1)) (m' ((c.tc : Thread _ _).loc Cert.DownlRefIdeal.main_arg2)) (m' ((c.tc : Thread _ _).loc Cert.DownlRefIdeal.main_arg3)) (m' ((c.tc : Thread _ _).loc Cert.DownlRefIdeal.main_arg4)) (m' ((c.tc : Thread _ _).loc Cert.DownlRefIdeal.main_arg5)) (m' ((c.tc : Thread _ _).loc Cert.DownlRefIdeal.main_arg6)) (m' ((c.tc : Thread _ _).loc Cert.DownlRefIdeal.main_arg7)))) (constant Cert.DownlRefIdeal.S_ .f32 0x00000000#32) Cert.DownlRefIdeal.Gen.reducesTo_S8192x1024_S1024_d0 Cert.DownlRefIdeal.Gen.h_S_) := by
      unfold Cert.DownlRefIdeal.Value.res_main_v73
      rfl
    rw [u, e0, e1, e2, e3, e4, e5, e6, e7]
    refine (funext fun i => (squares_eq _ i).trans ?_).trans (Cert.DownlKernel.square_final m c).symm
    simp only [d]
    rfl

end Cert.DownlClaim
-- ==== Proof.ProjClaim.lean ====
/- The input projection, tile by tile, is the whole array's. -/
module

public import proofs.«01_k».proof.Defs
public import proofs.«01_k».proof.Proof.Gen.ProjIdeal.Value
public import proofs.«01_k».proof.Proof.Gen.ProjRefIdeal.Run
public import Idealize.ShloMosaic.Lib.Pipeline.ValueKit
public import Idealize.ShloMosaic.Lib.Pipeline.ReadBack
public import Idealize.ShloMosaic.Lib.IdealHost

@[expose] public section

set_option maxRecDepth 16384

noncomputable section

namespace Cert.ProjKernel

open Cert.ProjIdeal Cert.ProjIdeal.Gen Idealize.ShloMosaic Idealize.ShloMosaic.TcCoe Idealize.SL.Sem
open scoped BigOperators

/-- A row by a row. -/
def dot (x w : Fin 1024 → EReal) : EReal := ∑ k, x k * w k

theorem pay1_eq (v0 : Vec Ideal S1024x1024 .bf16) (v1 : Vec Ideal S2048x1024 .bf16) (i : S1024x2048.Idx) :
    k0_pay1 (F := Ideal) v0 v1 i = dot (fun k => v0 (ix2 (i 0) k)) (fun k => v1 (ix2 (i 1) k)) := by
  pointwise [k0_pay1]
  rfl

theorem ld_whole {n k : ℕ} {e : EltTy} (x : Vec Ideal ⟨2, ![n, k]⟩ e) (inb) (i) : View.ld x (Rect.unit ![0, 0] ![n, k] inb) i = x i := by
  pointwise
  exact congrArg x (funext fun a => Fin.ext (by fin_cases a <;> simp [Shape.Idx.norm]))

theorem out2_block {x0 : Vec Ideal S1024x1024 .bf16} {x1 : Vec Ideal S2048x1024 .bf16}
    {A : Fin 1024 → Fin 1024 → EReal} {W : Fin 2048 → Fin 1024 → EReal}
    (h0 : ∀ i, x0 i = A (i 0) (i 1)) (h1 : ∀ i, x1 i = W (i 0) (i 1)) (y : S1024x2048.Idx) :
    out0_2 (F := Ideal) x0 x1 y = dot (A (y 0)) (W (y 1)) := by
  unfold out0_2
  refine View.canon_eq_of_allAt (Val := Elt Ideal) (e := EltTy.f32) _ y _ (cover0_2 _ y) ?_
  refine View.allAt_cons_unit (Val := Elt Ideal) _ _ _ _ _ ?_ <| View.allAt_nil (Val := Elt Ideal) _ _
  intro x hx
  obtain rfl : x = y := funext fun a => Fin.ext (by have := hx a; fin_cases a <;> simpa using this.symm)
  refine (pay1_eq _ _ x).trans ?_
  exact congr (congrArg dot (funext fun k => (ld_whole _ _ _).trans (h0 _))) (funext fun k => (ld_whole _ _ _).trans (h1 _))

/-- Where each point's blocks lie. -/
theorem idx : ∀ t : Fin cfg0.N, win0_0.index t = ![t.val, 0] ∧ win0_1.index t = ![0, 0] ∧ win0_2.index t = ![t.val, 0] :=
  (by decide +kernel : ∀ t : Fin grid0.N, _)

/-- The row of the whole array that row `a` of point `n`'s block is. -/
def row (n : ℕ) (a : Fin 1024) : Fin 8192 := ⟨1024 * (n % 8) + (a : ℕ), by omega⟩

variable (m : (ℓ : Loc nD τ sig) → Buf (Elt Ideal) ℓ) (c : Dev nD)

/-- The arguments, as arrays of extended reals. -/
abbrev a0 : S8192x1024.Idx → EReal := m ((c : Thread nD τ).loc main_arg0)
abbrev a1 : S1024x2048.Idx → EReal := m ((c : Thread nD τ).loc main_arg1)

/-- The weights, transposed. -/
theorem V1_eq (i) : V m c main_v1 i = a1 m c (ix2 (i 1) (i 0)) := by
  unfold V
  simp only [hostOps0, List.flatten_cons, List.flatten_nil, List.append_nil, List.cons_append, List.nil_append]
  after_results
  pointwise

theorem iblk0 (t : Fin cfg0.N) (y) : iblk m c 0 t y = a0 m c (ix2 (row t.val (y 0)) (y 1)) := by
  have ht : t.val < 8 := lt_of_lt_of_eq t.isLt N_0
  have e : ∀ F : S8192x1024.Idx → EReal, (∀ i, V m c main_arg0 i = F i) → iblk m c 0 t y = F (ix2 (row t.val (y 0)) (y 1)) := fun F h => by
    blk_simp [iblk]
    rw [h]
    blk_ext [row, idx t]
  exact e _ fun i => congrFun (V_main_arg0 m c) i

theorem iblk1 (t : Fin cfg0.N) (y) : iblk m c 1 t y = a1 m c (ix2 (y 1) (y 0)) := by
  have e : ∀ F : S2048x1024.Idx → EReal, (∀ i, V m c main_v1 i = F i) → iblk m c 1 t y = F (ix2 (y 0) (y 1)) := fun F h => by
    blk_simp [iblk]
    rw [h]
    blk_ext [row, idx t]
  exact e (fun i => a1 m c (ix2 (i 1) (i 0))) fun i => V1_eq m c i

/-- An entry of the projection. -/
def projAt (i : Fin 8192) (j : Fin 2048) : EReal := dot (fun k => a0 m c (ix2 i k)) (fun k => a1 m c (ix2 k j))

theorem proj_point (t : Fin cfg0.N) (y : S1024x2048.Idx) : out0_2 (F := Ideal) (iblk m c 0 t) (iblk m c 1 t) y = projAt m c (row t.val (y 0)) (y 1) :=
  out2_block (A := fun a k => a0 m c (ix2 (row t.val a) k)) (W := fun j k => a1 m c (ix2 k j)) (iblk0 m c t) (iblk1 m c t) y

attribute [local irreducible] out0_2 projAt

/-- The whole projection. -/
theorem proj_final : (dats m 0 c).arrAt 2 cfg0.N = fun i : S8192x2048.Idx => projAt m c (i 0) (i 1) := by
  refine (dats m 0 c).arrAt_eq_of_covers 2 _ (by decide +kernel) fun t hf y => ?_
  have ht : t.val < 8 := lt_of_lt_of_eq t.isLt N_0
  have e : ∀ F : S8192x2048.Idx → EReal, F (((cfg0.win 2).blk t).view.emb y) = F (ix2 (row t.val (y 0)) (y 1)) := fun F => by
    blk_ext [row, idx t]
  rw [after0_2]
  exact (proj_point m c t y).trans (e fun i => projAt m c (i 0) (i 1)).symm

end Cert.ProjKernel

namespace Cert.ProjClaim

open Idealize.ShloMosaic Idealize.SL.Sem
open scoped BigOperators

/-- The idealized reference ends with its arguments unchanged and its counters at zero. -/
theorem frame_reference : Cert.quiescent_ProjRefIdeal :=
  fun m ρ _ => (θ_run Cert.ProjRefIdeal.defs _ _).mono
    (fun r h => ⟨fun c => (h c).2, sem_eq_zero_of_no_sems (by decide) r.2⟩) (Cert.ProjRefIdeal.Value.run (F := Ideal) m ρ)

section
open Cert.ProjRefIdeal Cert.ProjRefIdeal.Gen Cert.ProjKernel

theorem reference_eq (x : FVec Ideal S8192x1024 .bf16) (w : FVec Ideal S1024x2048 .f32) (i : S8192x2048.Idx) :
    Host.dotGeneral dot_S8192x1024_S1024x2048_S8192x2048_1_0_0_1_n_n none (extf .f32 x bitsLt_bf16_f32) w i
      = dot (fun k => x (ix2 (i 0) k)) (fun k => w (ix2 k (i 1))) := by
  pointwise
  rfl

end

/-- Both programs leave the same projection. -/
theorem algebraic : Cert.algebraic_ProjIdeal_ProjRefIdeal := by
  intro m g m' g' hp hm
  refine ⟨fun c => (Cert.ProjIdeal.Gen.dats m 0 c).arrAt 2 Cert.ProjIdeal.cfg0.N, Cert.ProjIdeal.Value.run_blocks m g, ?_⟩
  refine (θ_run _ _ _).mono (fun r h c => ?_) (Cert.ProjRefIdeal.Value.run m' g')
  obtain ⟨e0, e1⟩ := hm c
  obtain ⟨r0, k⟩ := h c
  refine ⟨r0.trans ?_, k⟩
  rw [e0, e1]
  refine (funext fun i => reference_eq _ _ i).trans (Eq.trans ?_ (Cert.ProjKernel.proj_final m c).symm)
  funext i
  unfold Cert.ProjKernel.projAt
  rfl

end Cert.ProjClaim
-- ==== Proof.OutlnClaim.lean ====
/- The output projection with its residual and normalization, tile by tile, are the whole arrays'. -/
module

public import proofs.«01_k».proof.Defs
public import proofs.«01_k».proof.Proof.Gen.OutlnIdeal.Value
public import proofs.«01_k».proof.Proof.Gen.OutlnRefIdeal.Run
public import proofs.«01_k».proof.Proof.DownClaim
public import Idealize.ShloMosaic.Lib.Pipeline.ValueKit
public import Idealize.ShloMosaic.Lib.Pipeline.ReadBack
public import Idealize.ShloMosaic.Lib.IdealHost

@[expose] public section

set_option maxRecDepth 16384

noncomputable section

namespace Cert.OutlnKernel

open Cert.OutlnIdeal Cert.OutlnIdeal.Gen Idealize.ShloMosaic Idealize.ShloMosaic.TcCoe Idealize.SL.Sem
open scoped BigOperators
open Cert.DownKernel (mean norm split)

/-- Three rows side by side. -/
def beside (x : Fin 256 → EReal) (y : Fin 512 → EReal) (z : Fin 256 → EReal) (j : Fin 1024) : EReal :=
  if h : j.val < 256 then x ⟨j.val, h⟩ else if h' : j.val - 256 < 512 then y ⟨j.val - 256, h'⟩ else z ⟨j.val - 256 - 512, by omega⟩

/-- An entry of the residual sum: the normalized row and the product. -/
def total (a w x : Fin 1024 → EReal) (g b : EReal) (j : Fin 1024) : EReal :=
  Scalar.ofBits (F := Ideal) .f32 0x3FB504F3#32 * norm x g b j + ∑ k, a k * w k

theorem pay3_eq (v0 : Vec Ideal S1024x256 .bf16) (v1 : Vec Ideal S1024x512 .bf16) (v2 : Vec Ideal S1024x256 .bf16) (i : S1024x1024.Idx) :
    k0_pay3 (F := Ideal) v0 v1 v2 i = beside (fun k => v0 (ix2 (i 0) k)) (fun k => v1 (ix2 (i 0) k)) (fun k => v2 (ix2 (i 0) k)) (i 1) := by
  pointwise [k0_pay3]
  rfl

theorem pay4_eq (v0 : Vec Ideal S1024x256 .bf16) (v1 : Vec Ideal S1024x512 .bf16) (v2 : Vec Ideal S1024x256 .bf16) (v5 : Vec Ideal S1024x1024 .bf16) (i : S1024x1024.Idx) :
    k0_pay4 (F := Ideal) v0 v1 v2 v5 i = ∑ k, k0_pay3 (F := Ideal) v0 v1 v2 (ix2 (i 0) k) * v5 (ix2 k (i 1)) := by
  pointwise [k0_pay4]

theorem pay5_eq (v8 : Vec Ideal S1024x1024 .f32) (g b : Vec Ideal S1x1024 .f32) (i : S1024x1024.Idx) :
    k0_pay5 (F := Ideal) v8 g b i = Scalar.ofBits (F := Ideal) .f32 0x3FB504F3#32 * norm (fun k => v8 (ix2 (i 0) k)) (g (ix2 0 (i 1))) (b (ix2 0 (i 1))) (i 1) := by
  obtain ⟨a, c, rfl⟩ : ∃ (a c : Fin 1024), i = ix2 a c := ⟨i 0, i 1, split i⟩
  pointwise [k0_pay5]
  rfl

theorem pay1_eq (x y : FVec Ideal S1024x1024 .f32) (i : S1024x1024.Idx) : k0_pay1 (F := Ideal) x y i = y i + x i := by
  pointwise [k0_pay1]

theorem pay2_eq (x y : FVec Ideal S1024x1024 .f32) (g b : Vec Ideal S1x1024 .f32) (i : S1024x1024.Idx) : k0_pay2 (F := Ideal) x y g b i
    = norm (fun k => k0_pay1 (F := Ideal) x y (ix2 (i 0) k)) (g (ix2 0 (i 1))) (b (ix2 0 (i 1))) (i 1) := by
  obtain ⟨a, c, rfl⟩ : ∃ (a c : Fin 1024), i = ix2 a c := ⟨i 0, i 1, split i⟩
  pointwise [k0_pay2]
  rfl

section
variable {x0 : Vec Ideal S1024x256 .bf16} {x1 : Vec Ideal S1024x512 .bf16} {x2 : Vec Ideal S1024x256 .bf16} {x3 : Vec Ideal S1024x1024 .bf16} {x4 : Vec Ideal S1024x1024 .f32}
  {x5 x6 x7 x8 : Vec Ideal S1x1024 .f32}
  {A : Fin 1024 → Fin 256 → EReal} {B : Fin 1024 → Fin 512 → EReal} {C : Fin 1024 → Fin 256 → EReal}
  {W R : Fin 1024 → Fin 1024 → EReal} {g b g' b' : Fin 1024 → EReal}
  (h0 : ∀ i, x0 i = A (i 0) (i 1)) (h1 : ∀ i, x1 i = B (i 0) (i 1)) (h2 : ∀ i, x2 i = C (i 0) (i 1)) (h3 : ∀ i, x3 i = W (i 0) (i 1))
  (h4 : ∀ i, x4 i = R (i 0) (i 1)) (h5 : ∀ i, x5 i = g (i 1)) (h6 : ∀ i, x6 i = b (i 1)) (h7 : ∀ i, x7 i = g' (i 1)) (h8 : ∀ i, x8 i = b' (i 1))

theorem ld_whole {n k : ℕ} {e : EltTy} (x : Vec Ideal ⟨2, ![n, k]⟩ e) (inb) (i) : View.ld x (Rect.unit ![0, 0] ![n, k] inb) i = x i := by
  pointwise
  exact congrArg x (funext fun a => Fin.ext (by fin_cases a <;> simp [Shape.Idx.norm]))

include h0 h1 h2

theorem cat_block (i : S1024x1024.Idx) : k0_pay3 (F := Ideal) (View.ld x0 r0_0) (View.ld x1 r0_1) (View.ld x2 r0_0) i = beside (A (i 0)) (B (i 0)) (C (i 0)) (i 1) := by
  rw [pay3_eq]
  exact congr (congr (congr (congrArg beside (funext fun k => (ld_whole _ _ _).trans (h0 _))) (funext fun k => (ld_whole _ _ _).trans (h1 _)))
    (funext fun k => (ld_whole _ _ _).trans (h2 _))) rfl

theorem out9_block (y : S1024x1024.Idx) : out0_9 (F := Ideal) x0 x1 x2 x3 x4 x5 x6 x7 x8 y = beside (A (y 0)) (B (y 0)) (C (y 0)) (y 1) := by
  unfold out0_9
  refine View.canon_eq_of_allAt (Val := Elt Ideal) (e := EltTy.bf16) _ y _ (cover0_9 _ y) ?_
  refine View.allAt_cons_unit (Val := Elt Ideal) _ _ _ _ _ ?_ <| View.allAt_nil (Val := Elt Ideal) _ _
  intro x hx
  obtain rfl : x = y := funext fun a => Fin.ext (by have := hx a; fin_cases a <;> simpa using this.symm)
  exact cat_block h0 h1 h2 x

include h3 h4 h7 h8

theorem tot_block (i : S1024x1024.Idx) : k0_pay1 (F := Ideal) (k0_pay6 x0 x1 x2 x3 x4 x5 x6 x7 x8) (k0_pay7 x0 x1 x2 x3 x4 x5 x6 x7 x8) i
      = total (beside (A (i 0)) (B (i 0)) (C (i 0))) (fun k => W k (i 1)) (R (i 0)) (g' (i 1)) (b' (i 1)) (i 1) := by
  rw [pay1_eq]
  unfold k0_pay6 k0_pay7
  rw [pay4_eq, pay5_eq]
  unfold total
  refine congr (congrArg _ (congrArg _ ?_)) (Finset.sum_congr rfl fun k _ => ?_)
  · exact congr (congr (congr (congrArg norm (funext fun k => (ld_whole _ _ _).trans (h4 _))) ((ld_whole _ _ _).trans (h7 _))) ((ld_whole _ _ _).trans (h8 _))) rfl
  · exact congr (congrArg _ (cat_block h0 h1 h2 _)) ((ld_whole _ _ _).trans (h3 _))

theorem out10_block (y : S1024x1024.Idx) : out0_10 (F := Ideal) x0 x1 x2 x3 x4 x5 x6 x7 x8 y
    = total (beside (A (y 0)) (B (y 0)) (C (y 0))) (fun k => W k (y 1)) (R (y 0)) (g' (y 1)) (b' (y 1)) (y 1) := by
  unfold out0_10
  refine View.canon_eq_of_allAt (Val := Elt Ideal) (e := EltTy.f32) _ y _ (cover0_10 _ y) ?_
  refine View.allAt_cons_unit (Val := Elt Ideal) _ _ _ _ _ ?_ <| View.allAt_nil (Val := Elt Ideal) _ _
  intro x hx
  obtain rfl : x = y := funext fun a => Fin.ext (by have := hx a; fin_cases a <;> simpa using this.symm)
  exact tot_block h0 h1 h2 h3 h4 h7 h8 x

include h5 h6

theorem out11_block (y : S1024x1024.Idx) : out0_11 (F := Ideal) x0 x1 x2 x3 x4 x5 x6 x7 x8 y
    = norm (fun k => total (beside (A (y 0)) (B (y 0)) (C (y 0))) (fun l => W l k) (R (y 0)) (g' k) (b' k) k) (g (y 1)) (b (y 1)) (y 1) := by
  unfold out0_11
  refine View.canon_eq_of_allAt (Val := Elt Ideal) (e := EltTy.bf16) _ y _ (cover0_11 _ y) ?_
  refine View.allAt_cons_unit (Val := Elt Ideal) _ _ _ _ _ ?_ <| View.allAt_nil (Val := Elt Ideal) _ _
  intro x hx
  obtain rfl : x = y := funext fun a => Fin.ext (by have := hx a; fin_cases a <;> simpa using this.symm)
  refine (pay2_eq _ _ _ _ x).trans ?_
  exact congr (congr (congr (congrArg norm (funext fun k => tot_block h0 h1 h2 h3 h4 h7 h8 _)) ((ld_whole _ _ _).trans (h5 _))) ((ld_whole _ _ _).trans (h6 _))) rfl

end

/-- Where each point's blocks lie. -/
theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] :=
  (by decide +kernel : ∀ t : Fin grid0.N, _)

/-- The row of the whole array that row `a` of point `n`'s block is. -/
def row (n : ℕ) (a : Fin 1024) : Fin 8192 := ⟨1024 * (n % 8) + (a : ℕ), by omega⟩

variable (m : (ℓ : Loc nD τ sig) → Buf (Elt Ideal) ℓ) (c : Dev nD)

/-- The arguments, as arrays of extended reals. -/
abbrev a0 : S8192x256.Idx → EReal := m ((c : Thread nD τ).loc main_arg0)
abbrev a1 : S8192x512.Idx → EReal := m ((c : Thread nD τ).loc main_arg1)
abbrev a2 : S8192x256.Idx → EReal := m ((c : Thread nD τ).loc main_arg2)
abbrev a3 : S1024x1024.Idx → EReal := m ((c : Thread nD τ).loc main_arg3)
abbrev a4 : S8192x1024.Idx → EReal := m ((c : Thread nD τ).loc main_arg4)
abbrev a5 : S1024.Idx → EReal := m ((c : Thread nD τ).loc main_arg5)
abbrev a6 : S1024.Idx → EReal := m ((c : Thread nD τ).loc main_arg6)
abbrev a7 : S1024.Idx → EReal := m ((c : Thread nD τ).loc main_arg7)
abbrev a8 : S1024.Idx → EReal := m ((c : Thread nD τ).loc main_arg8)

theorem V0_eq (i) : V m c main_v0 i = a3 m c i := by
  unfold V
  simp only [hostOps0, List.flatten_cons, List.flatten_nil, List.append_nil, List.cons_append, List.nil_append]
  after_results
  pointwise

theorem V1_eq (i) : V m c main_v1 i = a5 m c (ix1 (i 1)) := by
  unfold V
  simp only [hostOps0, List.flatten_cons, List.flatten_nil, List.append_nil, List.cons_append, List.nil_append]
  after_results
  pointwise

theorem V2_eq (i) : V m c main_v2 i = a6 m c (ix1 (i 1)) := by
  unfold V
  simp only [hostOps0, List.flatten_cons, List.flatten_nil, List.append_nil, List.cons_append, List.nil_append]
  after_results
  pointwise

theorem V3_eq (i) : V m c main_v3 i = a7 m c (ix1 (i 1)) := by
  unfold V
  simp only [hostOps0, List.flatten_cons, List.flatten_nil, List.append_nil, List.cons_append, List.nil_append]
  after_results
  pointwise

theorem V4_eq (i) : V m c main_v4 i = a8 m c (ix1 (i 1)) := by
  unfold V
  simp only [hostOps0, List.flatten_cons, List.flatten_nil, List.append_nil, List.cons_append, List.nil_append]
  after_results
  pointwise

theorem iblk0 (t : Fin cfg0.N) (y) : iblk m c 0 t y = a0 m c (ix2 (row t.val (y 0)) (y 1)) := by
  have ht : t.val < 8 := lt_of_lt_of_eq t.isLt N_0
  have e : ∀ F : S8192x256.Idx → EReal, (∀ i, V m c main_arg0 i = F i) → iblk m c 0 t y = F (ix2 (row t.val (y 0)) (y 1)) := fun F h => by
    blk_simp [iblk]
    rw [h]
    blk_ext [row, idx t]
  exact e _ fun i => congrFun (V_main_arg0 m c) i

theorem iblk1 (t : Fin cfg0.N) (y) : iblk m c 1 t y = a1 m c (ix2 (row t.val (y 0)) (y 1)) := by
  have ht : t.val < 8 := lt_of_lt_of_eq t.isLt N_0
  have e : ∀ F : S8192x512.Idx → EReal, (∀ i, V m c main_arg1 i = F i) → iblk m c 1 t y = F (ix2 (row t.val (y 0)) (y 1)) := fun F h => by
    blk_simp [iblk]
    rw [h]
    blk_ext [row, idx t]
  exact e _ fun i => congrFun (V_main_arg1 m c) i

theorem iblk2 (t : Fin cfg0.N) (y) : iblk m c 2 t y = a2 m c (ix2 (row t.val (y 0)) (y 1)) := by
  have ht : t.val < 8 := lt_of_lt_of_eq t.isLt N_0
  have e : ∀ F : S8192x256.Idx → EReal, (∀ i, V m c main_arg2 i = F i) → iblk m c 2 t y = F (ix2 (row t.val (y 0)) (y 1)) := fun F h => by
    blk_simp [iblk]
    rw [h]
    blk_ext [row, idx t]
  exact e _ fun i => congrFun (V_main_arg2 m c) i

theorem iblk3 (t : Fin cfg0.N) (y) : iblk m c 3 t y = a3 m c (ix2 (y 0) (y 1)) := by
  have e : ∀ F : S1024x1024.Idx → EReal, (∀ i, V m c main_v0 i = F i) → iblk m c 3 t y = F (ix2 (y 0) (y 1)) := fun F h => by
    blk_simp [iblk]
    rw [h]
    blk_ext [row, idx t]
  exact e _ fun i => V0_eq m c i

theorem iblk4 (t : Fin cfg0.N) (y) : iblk m c 4 t y = a4 m c (ix2 (row t.val (y 0)) (y 1)) := by
  have ht : t.val < 8 := lt_of_lt_of_eq t.isLt N_0
  have e : ∀ F : S8192x1024.Idx → EReal, (∀ i, V m c main_arg4 i = F i) → iblk m c 4 t y = F (ix2 (row t.val (y 0)) (y 1)) := fun F h => by
    blk_simp [iblk]
    rw [h]
    blk_ext [row, idx t]
  exact e _ fun i => congrFun (V_main_arg4 m c) i

theorem iblk5 (t : Fin cfg0.N) (y) : iblk m c 5 t y = a5 m c (ix1 (y 1)) := by
  have e : ∀ F : S1x1024.Idx → EReal, (∀ i, V m c main_v1 i = F i) → iblk m c 5 t y = F (ix2 (y 0) (y 1)) := fun F h => by
    blk_simp [iblk]
    rw [h]
    blk_ext [row, idx t]
  exact e (fun i => a5 m c (ix1 (i 1))) fun i => V1_eq m c i

theorem iblk6 (t : Fin cfg0.N) (y) : iblk m c 6 t y = a6 m c (ix1 (y 1)) := by
  have e : ∀ F : S1x1024.Idx → EReal, (∀ i, V m c main_v2 i = F i) → iblk m c 6 t y = F (ix2 (y 0) (y 1)) := fun F h => by
    blk_simp [iblk]
    rw [h]
    blk_ext [row, idx t]
  exact e (fun i => a6 m c (ix1 (i 1))) fun i => V2_eq m c i

theorem iblk7 (t : Fin cfg0.N) (y) : iblk m c 7 t y = a7 m c (ix1 (y 1)) := by
  have e : ∀ F : S1x1024.Idx → EReal, (∀ i, V m c main_v3 i = F i) → iblk m c 7 t y = F (ix2 (y 0) (y 1)) := fun F h => by
    blk_simp [iblk]
    rw [h]
    blk_ext [row, idx t]
  exact e (fun i => a7 m c (ix1 (i 1))) fun i => V3_eq m c i

theorem iblk8 (t : Fin cfg0.N) (y) : iblk m c 8 t y = a8 m c (ix1 (y 1)) := by
  have e : ∀ F : S1x1024.Idx → EReal, (∀ i, V m c main_v4 i = F i) → iblk m c 8 t y = F (ix2 (y 0) (y 1)) := fun F h => by
    blk_simp [iblk]
    rw [h]
    blk_ext [row, idx t]
  exact e (fun i => a8 m c (ix1 (i 1))) fun i => V4_eq m c i

/-- An entry of the three arrays side by side. -/
def catAt (i : Fin 8192) (j : Fin 1024) : EReal := beside (fun k => a0 m c (ix2 i k)) (fun k => a1 m c (ix2 i k)) (fun k => a2 m c (ix2 i k)) j

/-- An entry of the residual sum. -/
def sumAt (i : Fin 8192) (j : Fin 1024) : EReal :=
  total (catAt m c i) (fun k => a3 m c (ix2 k j)) (fun k => a4 m c (ix2 i k)) (a7 m c (ix1 j)) (a8 m c (ix1 j)) j

/-- An entry of the normalized sum. -/
def normAt (i : Fin 8192) (j : Fin 1024) : EReal := norm (sumAt m c i) (a5 m c (ix1 j)) (a6 m c (ix1 j)) j

theorem cat_point (t : Fin cfg0.N) (y : S1024x1024.Idx) : out0_9 (F := Ideal) (iblk m c 0 t) (iblk m c 1 t) (iblk m c 2 t) (iblk m c 3 t) (iblk m c 4 t) (iblk m c 5 t) (iblk m c 6 t) (iblk m c 7 t) (iblk m c 8 t) y
    = catAt m c (row t.val (y 0)) (y 1) :=
  out9_block (A := fun a k => a0 m c (ix2 (row t.val a) k)) (B := fun a k => a1 m c (ix2 (row t.val a) k)) (C := fun a k => a2 m c (ix2 (row t.val a) k)) (iblk0 m c t) (iblk1 m c t) (iblk2 m c t) y

theorem sum_point (t : Fin cfg0.N) (y : S1024x1024.Idx) : out0_10 (F := Ideal) (iblk m c 0 t) (iblk m c 1 t) (iblk m c 2 t) (iblk m c 3 t) (iblk m c 4 t) (iblk m c 5 t) (iblk m c 6 t) (iblk m c 7 t) (iblk m c 8 t) y
    = sumAt m c (row t.val (y 0)) (y 1) :=
  out10_block (A := fun a k => a0 m c (ix2 (row t.val a) k)) (B := fun a k => a1 m c (ix2 (row t.val a) k)) (C := fun a k => a2 m c (ix2 (row t.val a) k))
    (W := fun k j => a3 m c (ix2 k j)) (R := fun a k => a4 m c (ix2 (row t.val a) k)) (g' := fun j => a7 m c (ix1 j)) (b' := fun j => a8 m c (ix1 j))
    (iblk0 m c t) (iblk1 m c t) (iblk2 m c t) (iblk3 m c t) (iblk4 m c t) (iblk7 m c t) (iblk8 m c t) y

theorem norm_point (t : Fin cfg0.N) (y : S1024x1024.Idx) : out0_11 (F := Ideal) (iblk m c 0 t) (iblk m c 1 t) (iblk m c 2 t) (iblk m c 3 t) (iblk m c 4 t) (iblk m c 5 t) (iblk m c 6 t) (iblk m c 7 t) (iblk m c 8 t) y
    = normAt m c (row t.val (y 0)) (y 1) :=
  out11_block (A := fun a k => a0 m c (ix2 (row t.val a) k)) (B := fun a k => a1 m c (ix2 (row t.val a) k)) (C := fun a k => a2 m c (ix2 (row t.val a) k))
    (W := fun k j => a3 m c (ix2 k j)) (R := fun a k => a4 m c (ix2 (row t.val a) k)) (g' := fun j => a7 m c (ix1 j)) (b' := fun j => a8 m c (ix1 j))
    (g := fun j => a5 m c (ix1 j)) (b := fun j => a6 m c (ix1 j))
    (iblk0 m c t) (iblk1 m c t) (iblk2 m c t) (iblk3 m c t) (iblk4 m c t) (iblk5 m c t) (iblk6 m c t) (iblk7 m c t) (iblk8 m c t) y

attribute [local irreducible] out0_9 out0_10 out0_11 catAt sumAt normAt

/-- The three arrays side by side. -/
theorem cat_final : (dats m 0 c).arrAt 9 cfg0.N = fun i : S8192x1024.Idx => catAt m c (i 0) (i 1) := by
  refine (dats m 0 c).arrAt_eq_of_covers 9 _ (by decide +kernel) fun t hf y => ?_
  have ht : t.val < 8 := lt_of_lt_of_eq t.isLt N_0
  have e : ∀ F : S8192x1024.Idx → EReal, F (((cfg0.win 9).blk t).view.emb y) = F (ix2 (row t.val (y 0)) (y 1)) := fun F => by
    blk_ext [row, idx t]
  rw [after0_9]
  exact (cat_point m c t y).trans (e fun i => catAt m c (i 0) (i 1)).symm

/-- The residual sums. -/
theorem sum_final : (dats m 0 c).arrAt 10 cfg0.N = fun i : S8192x1024.Idx => sumAt m c (i 0) (i 1) := by
  refine (dats m 0 c).arrAt_eq_of_covers 10 _ (by decide +kernel) fun t hf y => ?_
  have ht : t.val < 8 := lt_of_lt_of_eq t.isLt N_0
  have e : ∀ F : S8192x1024.Idx → EReal, F (((cfg0.win 10).blk t).view.emb y) = F (ix2 (row t.val (y 0)) (y 1)) := fun F => by
    blk_ext [row, idx t]
  rw [after0_10]
  exact (sum_point m c t y).trans (e fun i => sumAt m c (i 0) (i 1)).symm

/-- The normalized sums. -/
theorem norm_final : (dats m 0 c).arrAt 11 cfg0.N = fun i : S8192x1024.Idx => normAt m c (i 0) (i 1) := by
  refine (dats m 0 c).arrAt_eq_of_covers 11 _ (by decide +kernel) fun t hf y => ?_
  have ht : t.val < 8 := lt_of_lt_of_eq t.isLt N_0
  have e : ∀ F : S8192x1024.Idx → EReal, F (((cfg0.win 11).blk t).view.emb y) = F (ix2 (row t.val (y 0)) (y 1)) := fun F => by
    blk_ext [row, idx t]
  rw [after0_11]
  exact (norm_point m c t y).trans (e fun i => normAt m c (i 0) (i 1)).symm

end Cert.OutlnKernel

namespace Cert.OutlnClaim

open Idealize.ShloMosaic Idealize.SL.Sem
open scoped BigOperators

/-- The idealized reference ends with its arguments unchanged and its counters at zero. -/
theorem frame_reference : Cert.quiescent_OutlnRefIdeal :=
  fun m ρ _ => (θ_run Cert.OutlnRefIdeal.defs _ _).mono
    (fun r h => ⟨fun c => (h c).2.2.2, sem_eq_zero_of_no_sems (by decide) r.2⟩) (Cert.OutlnRefIdeal.Value.run (F := Ideal) m ρ)

section
open Cert.OutlnRefIdeal Cert.OutlnRefIdeal.Gen Cert.OutlnKernel
open Cert.DownKernel (norm split)

/-- The reference's normalization of an array's rows. -/
def rows (X : FVec Ideal S8192x1024 .f32) (G B : FVec Ideal S1024 .f32) : FVec Ideal S8192x1024 .f32 :=
  addf (mulf (mulf (subf X (broadcastInDim S8192x1024 ![0, 1] bcast_S8192x1_S8192x1024_0_1 (Host.divf (broadcastInDim S8192x1 ![0] bcast_S8192_S8192x1_0 (Host.reduceAdd X (constant S_ .f32 0x00000000#32) reducesTo_S8192x1024_S8192_d1 h_S_)) (broadcastInDim S8192x1 ![] bcast_S_S8192x1 (constant S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf X (broadcastInDim S8192x1024 ![0, 1] bcast_S8192x1_S8192x1024_0_1 (Host.divf (broadcastInDim S8192x1 ![0] bcast_S8192_S8192x1_0 (Host.reduceAdd X (constant S_ .f32 0x00000000#32) reducesTo_S8192x1024_S8192_d1 h_S_)) (broadcastInDim S8192x1 ![] bcast_S_S8192x1 (constant S_ .f32 0x44800000#32))))) (subf X (broadcastInDim S8192x1024 ![0, 1] bcast_S8192x1_S8192x1024_0_1 (Host.divf (broadcastInDim S8192x1 ![0] bcast_S8192_S8192x1_0 (Host.reduceAdd X (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 G))) (broadcastInDim S8192x1024 ![0, 1] bcast_S1x1024_S8192x1024_0_1 (broadcastInDim S1x1024 ![1] bcast_S1024_S1x1024_1 B))

theorem rows_eq (X : FVec Ideal S8192x1024 .f32) (G B : FVec Ideal S1024 .f32) (i : S8192x1024.Idx) :
    rows X G B i = norm (fun k => X (ix2 (i 0) k)) (G (ix1 (i 1))) (B (ix1 (i 1))) (i 1) := by
  obtain ⟨a, c, rfl⟩ : ∃ (a : Fin 8192) (c : Fin 1024), i = ix2 a c := ⟨i 0, i 1, split i⟩
  pointwise [rows]
  rfl

/-- The reference's three arrays side by side. -/
def cats (a : FVec Ideal S8192x256 .bf16) (b : FVec Ideal S8192x512 .bf16) (d : FVec Ideal S8192x256 .bf16) : FVec Ideal S8192x1024 .f32 :=
  concatenate S8192x1024 1 [⟨S8192x256, extf .f32 a bitsLt_bf16_f32⟩, ⟨S8192x512, extf .f32 b bitsLt_bf16_f32⟩, ⟨S8192x256, extf .f32 d bitsLt_bf16_f32⟩] concatenates_S8192x256_S8192x512_S8192x256_S8192x1024_d1

theorem cats_eq (a : FVec Ideal S8192x256 .bf16) (b : FVec Ideal S8192x512 .bf16) (d : FVec Ideal S8192x256 .bf16) (i : S8192x1024.Idx) :
    cats a b d i = beside (fun k => a (ix2 (i 0) k)) (fun k => b (ix2 (i 0) k)) (fun k => d (ix2 (i 0) k)) (i 1) := by
  pointwise [cats]
  rfl

/-- The reference's residual sum. -/
def sums (a : FVec Ideal S8192x1024 .f32) (w : FVec Ideal S1024x1024 .f32) (X : FVec Ideal S8192x1024 .f32) (G B : FVec Ideal S1024 .f32) : FVec Ideal S8192x1024 .f32 :=
  addf (mulf (broadcastInDim S8192x1024 ![] bcast_S_S8192x1024 (constant S_ .f32 0x3FB504F3#32)) (rows X G B)) (Host.dotGeneral dot_S8192x1024_S1024x1024_S8192x1024_1_0_0_1_n_n none a w)

theorem sums_eq (a : FVec Ideal S8192x1024 .f32) (w : FVec Ideal S1024x1024 .f32) (X : FVec Ideal S8192x1024 .f32) (G B : FVec Ideal S1024 .f32) (i : S8192x1024.Idx) :
    sums a w X G B i = total (fun k => a (ix2 (i 0) k)) (fun k => w (ix2 k (i 1))) (fun k => X (ix2 (i 0) k)) (G (ix1 (i 1))) (B (ix1 (i 1))) (i 1) := by
  pointwise [sums]
  rw [rows_eq]
  rfl

theorem cast_eq (X : FVec Ideal S8192x1024 .f32) (i) : truncf (F := Ideal) .bf16 X bitsLt_bf16_f32 i = X i := by
  pointwise

end

/-- Both programs leave the same arrays. -/
theorem algebraic : Cert.algebraic_OutlnIdeal_OutlnRefIdeal := by
  intro m g m' g' hp hm
  refine ⟨fun c => (Cert.OutlnIdeal.Gen.dats m 0 c).arrAt 9 Cert.OutlnIdeal.cfg0.N, fun c => (Cert.OutlnIdeal.Gen.dats m 0 c).arrAt 10 Cert.OutlnIdeal.cfg0.N,
    fun c => (Cert.OutlnIdeal.Gen.dats m 0 c).arrAt 11 Cert.OutlnIdeal.cfg0.N, Cert.OutlnIdeal.Value.run_blocks m g, ?_⟩
  refine (θ_run _ _ _).mono (fun r h c => ?_) (Cert.OutlnRefIdeal.Value.run m' g')
  obtain ⟨e0, e1, e2, e3, e4, e5, e6, e7, e8⟩ := hm c
  obtain ⟨r0, r1, r2, k⟩ := h c
  refine ⟨r0.trans ?_, r1.trans ?_, r2.trans ?_, k⟩
  · rw [e0, e1, e2]
    refine (funext fun i => (cast_eq _ i).trans (cats_eq _ _ _ i)).trans (Eq.trans ?_ (Cert.OutlnKernel.cat_final m c).symm)
    funext i
    unfold Cert.OutlnKernel.catAt
    rfl
  · rw [e0, e1, e2, e3, e4, e7, e8]
    refine (funext fun i => (sums_eq (cats _ _ _) _ _ _ _ i).trans ?_).trans (Cert.OutlnKernel.sum_final m c).symm
    simp only [cats_eq]
    unfold Cert.OutlnKernel.sumAt Cert.OutlnKernel.catAt
    rfl
  · have u : Cert.OutlnRefIdeal.Value.res_main_v57 m' c
        = truncf (F := Ideal) .bf16 (rows (sums (cats (m' ((c.tc : Thread _ _).loc Cert.OutlnRefIdeal.main_arg0)) (m' ((c.tc : Thread _ _).loc Cert.OutlnRefIdeal.main_arg1))
          (m' ((c.tc : Thread _ _).loc Cert.OutlnRefIdeal.main_arg2))) (m' ((c.tc : Thread _ _).loc Cert.OutlnRefIdeal.main_arg3)) (m' ((c.tc : Thread _ _).loc Cert.OutlnRefIdeal.main_arg4))
          (m' ((c.tc : Thread _ _).loc Cert.OutlnRefIdeal.main_arg7)) (m' ((c.tc : Thread _ _).loc Cert.OutlnRefIdeal.main_arg8)))
          (m' ((c.tc : Thread _ _).loc Cert.OutlnRefIdeal.main_arg5)) (m' ((c.tc : Thread _ _).loc Cert.OutlnRefIdeal.main_arg6))) Cert.OutlnRefIdeal.Gen.bitsLt_bf16_f32 := by
      unfold Cert.OutlnRefIdeal.Value.res_main_v57
      rfl
    rw [u, e0, e1, e2, e3, e4, e5, e6, e7, e8]
    refine (funext fun i => (cast_eq _ i).trans ((rows_eq _ _ _ i).trans ?_)).trans (Cert.OutlnKernel.norm_final m c).symm
    simp only [sums_eq, cats_eq]
    unfold Cert.OutlnKernel.normAt Cert.OutlnKernel.sumAt Cert.OutlnKernel.catAt
    rfl

end Cert.OutlnClaim
-- ==== Proof.DxinClaim.lean ====
/- The gradient of the input through the input projection and the residual, tile by tile, is the whole array's. -/
module

public import proofs.«01_k».proof.Defs
public import proofs.«01_k».proof.Proof.Gen.DxinIdeal.Value
public import proofs.«01_k».proof.Proof.Gen.DxinRefIdeal.Run
public import Idealize.ShloMosaic.Lib.Pipeline.ValueKit
public import Idealize.ShloMosaic.Lib.Pipeline.ReadBack
public import Idealize.ShloMosaic.Lib.IdealHost

@[expose] public section

set_option maxRecDepth 16384

noncomputable section

namespace Cert.DxinKernel

open Cert.DxinIdeal Cert.DxinIdeal.Gen Idealize.ShloMosaic Idealize.ShloMosaic.TcCoe Idealize.SL.Sem
open scoped BigOperators

/-- An entry of the input's gradient: the residual's part and the product's. -/
def through (d : EReal) (h w : Fin 2048 → EReal) : EReal := Scalar.ofBits (F := Ideal) .f32 0x3FB504F3#32 * d + ∑ k, h k * w k

theorem pay1_eq (v0 : Vec Ideal S1024x1024 .f32) (v3 : Vec Ideal S1024x2048 .bf16) (v4 : Vec Ideal S2048x1024 .bf16) (i : S1024x1024.Idx) :
    k0_pay1 (F := Ideal) v0 v3 v4 i = through (v0 i) (fun k => v3 (ix2 (i 0) k)) (fun k => v4 (ix2 k (i 1))) := by
  pointwise [k0_pay1]
  rfl

theorem ld_whole {n k : ℕ} {e : EltTy} (x : Vec Ideal ⟨2, ![n, k]⟩ e) (inb) (i) : View.ld x (Rect.unit ![0, 0] ![n, k] inb) i = x i := by
  pointwise
  exact congrArg x (funext fun a => Fin.ext (by fin_cases a <;> simp [Shape.Idx.norm]))

theorem out3_block {x0 : Vec Ideal S1024x1024 .f32} {x1 : Vec Ideal S1024x2048 .bf16} {x2 : Vec Ideal S2048x1024 .bf16}
    {D : Fin 1024 → Fin 1024 → EReal} {H : Fin 1024 → Fin 2048 → EReal} {W : Fin 2048 → Fin 1024 → EReal}
    (h0 : ∀ i, x0 i = D (i 0) (i 1)) (h1 : ∀ i, x1 i = H (i 0) (i 1)) (h2 : ∀ i, x2 i = W (i 0) (i 1)) (y : S1024x1024.Idx) :
    out0_3 (F := Ideal) x0 x1 x2 y = through (D (y 0) (y 1)) (H (y 0)) (fun k => W k (y 1)) := by
  unfold out0_3
  refine View.canon_eq_of_allAt (Val := Elt Ideal) (e := EltTy.f32) _ y _ (cover0_3 _ y) ?_
  refine View.allAt_cons_unit (Val := Elt Ideal) _ _ _ _ _ ?_ <| View.allAt_nil (Val := Elt Ideal) _ _
  intro x hx
  obtain rfl : x = y := funext fun a => Fin.ext (by have := hx a; fin_cases a <;> simpa using this.symm)
  refine (pay1_eq _ _ _ x).trans ?_
  exact congr (congr (congrArg through ((ld_whole _ _ _).trans (h0 _))) (funext fun k => (ld_whole _ _ _).trans (h1 _))) (funext fun k => (ld_whole _ _ _).trans (h2 _))

/-- Where each point's blocks lie. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The row of the whole array that row `a` of point `n`'s block is. -/
def row (n : ℕ) (a : Fin 1024) : Fin 8192 := ⟨1024 * (n % 8) + (a : ℕ), by omega⟩

variable (m : (ℓ : Loc nD τ sig) → Buf (Elt Ideal) ℓ) (c : Dev nD)

/-- The arguments, as arrays of extended reals. -/
abbrev a0 : S8192x1024.Idx → EReal := m ((c : Thread nD τ).loc main_arg0)
abbrev a1 : S8192x2048.Idx → EReal := m ((c : Thread nD τ).loc main_arg1)
abbrev a2 : S1024x2048.Idx → EReal := m ((c : Thread nD τ).loc main_arg2)

/-- The weights, transposed. -/
theorem V1_eq (i) : V m c main_v1 i = a2 m c (ix2 (i 1) (i 0)) := by
  unfold V
  simp only [hostOps0, List.flatten_cons, List.flatten_nil, List.append_nil, List.cons_append, List.nil_append]
  after_results
  pointwise

theorem iblk0 (t : Fin cfg0.N) (y) : iblk m c 0 t y = a0 m c (ix2 (row t.val (y 0)) (y 1)) := by
  have ht : t.val < 8 := lt_of_lt_of_eq t.isLt N_0
  have e : ∀ F : S8192x1024.Idx → EReal, (∀ i, V m c main_arg0 i = F i) → iblk m c 0 t y = F (ix2 (row t.val (y 0)) (y 1)) := fun F h => by
    blk_simp [iblk]
    rw [h]
    blk_ext [row, idx t]
  exact e _ fun i => congrFun (V_main_arg0 m c) i

theorem iblk1 (t : Fin cfg0.N) (y) : iblk m c 1 t y = a1 m c (ix2 (row t.val (y 0)) (y 1)) := by
  have ht : t.val < 8 := lt_of_lt_of_eq t.isLt N_0
  have e : ∀ F : S8192x2048.Idx → EReal, (∀ i, V m c main_arg1 i = F i) → iblk m c 1 t y = F (ix2 (row t.val (y 0)) (y 1)) := fun F h => by
    blk_simp [iblk]
    rw [h]
    blk_ext [row, idx t]
  exact e _ fun i => congrFun (V_main_arg1 m c) i

theorem iblk2 (t : Fin cfg0.N) (y) : iblk m c 2 t y = a2 m c (ix2 (y 1) (y 0)) := by
  have e : ∀ F : S2048x1024.Idx → EReal, (∀ i, V m c main_v1 i = F i) → iblk m c 2 t y = F (ix2 (y 0) (y 1)) := fun F h => by
    blk_simp [iblk]
    rw [h]
    blk_ext [row, idx t]
  exact e (fun i => a2 m c (ix2 (i 1) (i 0))) fun i => V1_eq m c i

/-- An entry of the gradient. -/
def gradAt (i : Fin 8192) (j : Fin 1024) : EReal := through (a0 m c (ix2 i j)) (fun k => a1 m c (ix2 i k)) (fun k => a2 m c (ix2 j k))

theorem grad_point (t : Fin cfg0.N) (y : S1024x1024.Idx) : out0_3 (F := Ideal) (iblk m c 0 t) (iblk m c 1 t) (iblk m c 2 t) y = gradAt m c (row t.val (y 0)) (y 1) :=
  out3_block (D := fun a k => a0 m c (ix2 (row t.val a) k)) (H := fun a k => a1 m c (ix2 (row t.val a) k)) (W := fun k j => a2 m c (ix2 j k)) (iblk0 m c t) (iblk1 m c t) (iblk2 m c t) y

attribute [local irreducible] out0_3 gradAt

/-- The whole gradient. -/
theorem grad_final : (dats m 0 c).arrAt 3 cfg0.N = fun i : S8192x1024.Idx => gradAt m c (i 0) (i 1) := by
  refine (dats m 0 c).arrAt_eq_of_covers 3 _ (by decide +kernel) fun t hf y => ?_
  have ht : t.val < 8 := lt_of_lt_of_eq t.isLt N_0
  have e : ∀ F : S8192x1024.Idx → EReal, F (((cfg0.win 3).blk t).view.emb y) = F (ix2 (row t.val (y 0)) (y 1)) := fun F => by
    blk_ext [row, idx t]
  rw [after0_3]
  exact (grad_point m c t y).trans (e fun i => gradAt m c (i 0) (i 1)).symm

end Cert.DxinKernel

namespace Cert.DxinClaim

open Idealize.ShloMosaic Idealize.SL.Sem
open scoped BigOperators

/-- The idealized reference ends with its arguments unchanged and its counters at zero. -/
theorem frame_reference : Cert.quiescent_DxinRefIdeal :=
  fun m ρ _ => (θ_run Cert.DxinRefIdeal.defs _ _).mono
    (fun r h => ⟨fun c => (h c).2, sem_eq_zero_of_no_sems (by decide) r.2⟩) (Cert.DxinRefIdeal.Value.run (F := Ideal) m ρ)

section
open Cert.DxinRefIdeal Cert.DxinRefIdeal.Gen Cert.DxinKernel

/-- The reference's gradient: the two parts the other way round. -/
theorem reference_eq (d : FVec Ideal S8192x1024 .f32) (h : FVec Ideal S8192x2048 .bf16) (w : FVec Ideal S1024x2048 .f32) (i : S8192x1024.Idx) :
    addf (Host.dotGeneral dot_S8192x2048_S1024x2048_S8192x1024_1_1_0_0_n_n none (extf .f32 h bitsLt_bf16_f32) w) (mulf (broadcastInDim S8192x1024 ![] bcast_S_S8192x1024 (constant S_ .f32 0x3FB504F3#32)) d) i
      = through (d (ix2 (i 0) (i 1))) (fun k => h (ix2 (i 0) k)) (fun k => w (ix2 (i 1) k)) := by
  obtain ⟨a, c, rfl⟩ : ∃ (a : Fin 8192) (c : Fin 1024), i = ix2 a c := ⟨i 0, i 1, by funext a; fin_cases a <;> rfl⟩
  pointwise
  exact add_comm _ _

end

/-- Both programs leave the same gradient. -/
theorem algebraic : Cert.algebraic_DxinIdeal_DxinRefIdeal := by
  intro m g m' g' hp hm
  refine ⟨fun c => (Cert.DxinIdeal.Gen.dats m 0 c).arrAt 3 Cert.DxinIdeal.cfg0.N, Cert.DxinIdeal.Value.run_blocks m g, ?_⟩
  refine (θ_run _ _ _).mono (fun r h c => ?_) (Cert.DxinRefIdeal.Value.run m' g')
  obtain ⟨e0, e1, e2⟩ := hm c
  obtain ⟨r0, k⟩ := h c
  refine ⟨r0.trans ?_, k⟩
  rw [e0, e1, e2]
  refine (funext fun i => reference_eq _ _ _ i).trans (Eq.trans ?_ (Cert.DxinKernel.grad_final m c).symm)
  funext i
  unfold Cert.DxinKernel.gradAt
  rfl

end Cert.DxinClaim
-- ==== Proof.DxguClaim.lean ====
/- The gradient of the input through the up projection and the residual, tile by tile, is the whole array's. -/
module

public import proofs.«01_k».proof.Defs
public import proofs.«01_k».proof.Proof.Gen.DxguIdeal.Value
public import proofs.«01_k».proof.Proof.Gen.DxguRefIdeal.Run
public import Idealize.ShloMosaic.Lib.Pipeline.ValueKit
public import Idealize.ShloMosaic.Lib.Pipeline.ReadBack
public import Idealize.ShloMosaic.Lib.IdealHost

@[expose] public section

set_option maxRecDepth 16384

noncomputable section

namespace Cert.DxguKernel

open Cert.DxguIdeal Cert.DxguIdeal.Gen Idealize.ShloMosaic Idealize.ShloMosaic.TcCoe Idealize.SL.Sem
open scoped BigOperators

/-- An entry of the input's gradient: the residual's part and the product's. -/
def through (d : EReal) (h w : Fin 5632 → EReal) : EReal := Scalar.ofBits (F := Ideal) .f32 0x3FB504F3#32 * d + ∑ k, h k * w k

theorem pay1_eq (v0 : Vec Ideal S1024x1024 .f32) (v3 : Vec Ideal S1024x5632 .bf16) (v4 : Vec Ideal S5632x1024 .bf16) (i : S1024x1024.Idx) :
    k0_pay1 (F := Ideal) v0 v3 v4 i = through (v0 i) (fun k => v3 (ix2 (i 0) k)) (fun k => v4 (ix2 k (i 1))) := by
  pointwise [k0_pay1]
  rfl

theorem ld_whole {n k : ℕ} {e : EltTy} (x : Vec Ideal ⟨2, ![n, k]⟩ e) (inb) (i) : View.ld x (Rect.unit ![0, 0] ![n, k] inb) i = x i := by
  pointwise
  exact congrArg x (funext fun a => Fin.ext (by fin_cases a <;> simp [Shape.Idx.norm]))

theorem out3_block {x0 : Vec Ideal S1024x1024 .f32} {x1 : Vec Ideal S1024x5632 .bf16} {x2 : Vec Ideal S5632x1024 .bf16}
    {D : Fin 1024 → Fin 1024 → EReal} {H : Fin 1024 → Fin 5632 → EReal} {W : Fin 5632 → Fin 1024 → EReal}
    (h0 : ∀ i, x0 i = D (i 0) (i 1)) (h1 : ∀ i, x1 i = H (i 0) (i 1)) (h2 : ∀ i, x2 i = W (i 0) (i 1)) (y : S1024x1024.Idx) :
    out0_3 (F := Ideal) x0 x1 x2 y = through (D (y 0) (y 1)) (H (y 0)) (fun k => W k (y 1)) := by
  unfold out0_3
  refine View.canon_eq_of_allAt (Val := Elt Ideal) (e := EltTy.f32) _ y _ (cover0_3 _ y) ?_
  refine View.allAt_cons_unit (Val := Elt Ideal) _ _ _ _ _ ?_ <| View.allAt_nil (Val := Elt Ideal) _ _
  intro x hx
  obtain rfl : x = y := funext fun a => Fin.ext (by have := hx a; fin_cases a <;> simpa using this.symm)
  refine (pay1_eq _ _ _ x).trans ?_
  exact congr (congr (congrArg through ((ld_whole _ _ _).trans (h0 _))) (funext fun k => (ld_whole _ _ _).trans (h1 _))) (funext fun k => (ld_whole _ _ _).trans (h2 _))

/-- Where each point's blocks lie. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The row of the whole array that row `a` of point `n`'s block is. -/
def row (n : ℕ) (a : Fin 1024) : Fin 8192 := ⟨1024 * (n % 8) + (a : ℕ), by omega⟩

variable (m : (ℓ : Loc nD τ sig) → Buf (Elt Ideal) ℓ) (c : Dev nD)

/-- The arguments, as arrays of extended reals. -/
abbrev a0 : S8192x1024.Idx → EReal := m ((c : Thread nD τ).loc main_arg0)
abbrev a1 : S8192x5632.Idx → EReal := m ((c : Thread nD τ).loc main_arg1)
abbrev a2 : S1024x5632.Idx → EReal := m ((c : Thread nD τ).loc main_arg2)

/-- The weights, transposed. -/
theorem V1_eq (i) : V m c main_v1 i = a2 m c (ix2 (i 1) (i 0)) := by
  unfold V
  simp only [hostOps0, List.flatten_cons, List.flatten_nil, List.append_nil, List.cons_append, List.nil_append]
  after_results
  pointwise

theorem iblk0 (t : Fin cfg0.N) (y) : iblk m c 0 t y = a0 m c (ix2 (row t.val (y 0)) (y 1)) := by
  have ht : t.val < 8 := lt_of_lt_of_eq t.isLt N_0
  have e : ∀ F : S8192x1024.Idx → EReal, (∀ i, V m c main_arg0 i = F i) → iblk m c 0 t y = F (ix2 (row t.val (y 0)) (y 1)) := fun F h => by
    blk_simp [iblk]
    rw [h]
    blk_ext [row, idx t]
  exact e _ fun i => congrFun (V_main_arg0 m c) i

theorem iblk1 (t : Fin cfg0.N) (y) : iblk m c 1 t y = a1 m c (ix2 (row t.val (y 0)) (y 1)) := by
  have ht : t.val < 8 := lt_of_lt_of_eq t.isLt N_0
  have e : ∀ F : S8192x5632.Idx → EReal, (∀ i, V m c main_arg1 i = F i) → iblk m c 1 t y = F (ix2 (row t.val (y 0)) (y 1)) := fun F h => by
    blk_simp [iblk]
    rw [h]
    blk_ext [row, idx t]
  exact e _ fun i => congrFun (V_main_arg1 m c) i

theorem iblk2 (t : Fin cfg0.N) (y) : iblk m c 2 t y = a2 m c (ix2 (y 1) (y 0)) := by
  have e : ∀ F : S5632x1024.Idx → EReal, (∀ i, V m c main_v1 i = F i) → iblk m c 2 t y = F (ix2 (y 0) (y 1)) := fun F h => by
    blk_simp [iblk]
    rw [h]
    blk_ext [row, idx t]
  exact e (fun i => a2 m c (ix2 (i 1) (i 0))) fun i => V1_eq m c i

/-- An entry of the gradient. -/
def gradAt (i : Fin 8192) (j : Fin 1024) : EReal := through (a0 m c (ix2 i j)) (fun k => a1 m c (ix2 i k)) (fun k => a2 m c (ix2 j k))

theorem grad_point (t : Fin cfg0.N) (y : S1024x1024.Idx) : out0_3 (F := Ideal) (iblk m c 0 t) (iblk m c 1 t) (iblk m c 2 t) y = gradAt m c (row t.val (y 0)) (y 1) :=
  out3_block (D := fun a k => a0 m c (ix2 (row t.val a) k)) (H := fun a k => a1 m c (ix2 (row t.val a) k)) (W := fun k j => a2 m c (ix2 j k)) (iblk0 m c t) (iblk1 m c t) (iblk2 m c t) y

attribute [local irreducible] out0_3 gradAt

/-- The whole gradient. -/
theorem grad_final : (dats m 0 c).arrAt 3 cfg0.N = fun i : S8192x1024.Idx => gradAt m c (i 0) (i 1) := by
  refine (dats m 0 c).arrAt_eq_of_covers 3 _ (by decide +kernel) fun t hf y => ?_
  have ht : t.val < 8 := lt_of_lt_of_eq t.isLt N_0
  have e : ∀ F : S8192x1024.Idx → EReal, F (((cfg0.win 3).blk t).view.emb y) = F (ix2 (row t.val (y 0)) (y 1)) := fun F => by
    blk_ext [row, idx t]
  rw [after0_3]
  exact (grad_point m c t y).trans (e fun i => gradAt m c (i 0) (i 1)).symm

end Cert.DxguKernel

namespace Cert.DxguClaim

open Idealize.ShloMosaic Idealize.SL.Sem
open scoped BigOperators

/-- The idealized reference ends with its arguments unchanged and its counters at zero. -/
theorem frame_reference : Cert.quiescent_DxguRefIdeal :=
  fun m ρ _ => (θ_run Cert.DxguRefIdeal.defs _ _).mono
    (fun r h => ⟨fun c => (h c).2, sem_eq_zero_of_no_sems (by decide) r.2⟩) (Cert.DxguRefIdeal.Value.run (F := Ideal) m ρ)

section
open Cert.DxguRefIdeal Cert.DxguRefIdeal.Gen Cert.DxguKernel

/-- The reference's gradient: the two parts the other way round. -/
theorem reference_eq (d : FVec Ideal S8192x1024 .f32) (h : FVec Ideal S8192x5632 .bf16) (w : FVec Ideal S1024x5632 .f32) (i : S8192x1024.Idx) :
    addf (Host.dotGeneral dot_S8192x5632_S1024x5632_S8192x1024_1_1_0_0_n_n none (extf .f32 h bitsLt_bf16_f32) w) (mulf (broadcastInDim S8192x1024 ![] bcast_S_S8192x1024 (constant S_ .f32 0x3FB504F3#32)) d) i
      = through (d (ix2 (i 0) (i 1))) (fun k => h (ix2 (i 0) k)) (fun k => w (ix2 (i 1) k)) := by
  obtain ⟨a, c, rfl⟩ : ∃ (a : Fin 8192) (c : Fin 1024), i = ix2 a c := ⟨i 0, i 1, by funext a; fin_cases a <;> rfl⟩
  pointwise
  exact add_comm _ _

end

/-- Both programs leave the same gradient. -/
theorem algebraic : Cert.algebraic_DxguIdeal_DxguRefIdeal := by
  intro m g m' g' hp hm
  refine ⟨fun c => (Cert.DxguIdeal.Gen.dats m 0 c).arrAt 3 Cert.DxguIdeal.cfg0.N, Cert.DxguIdeal.Value.run_blocks m g, ?_⟩
  refine (θ_run _ _ _).mono (fun r h c => ?_) (Cert.DxguRefIdeal.Value.run m' g')
  obtain ⟨e0, e1, e2⟩ := hm c
  obtain ⟨r0, k⟩ := h c
  refine ⟨r0.trans ?_, k⟩
  rw [e0, e1, e2]
  refine (funext fun i => reference_eq _ _ _ i).trans (Eq.trans ?_ (Cert.DxguKernel.grad_final m c).symm)
  funext i
  unfold Cert.DxguKernel.gradAt
  rfl

end Cert.DxguClaim
-- ==== Proof.LnRef.lean ====
/- A normalization's gradient as the references spell it, at real arguments: the closed form. -/
module

public import proofs.«01_k».proof.Proof.FfnSpec
public import proofs.«01_k».proof.Proof.Gen.OutbRefIdeal.Run
public import Idealize.ShloMosaic.Lib.Pipeline.ValueKit
public import Idealize.ShloMosaic.Lib.IdealHost

@[expose] public section

set_option maxRecDepth 16384

noncomputable section

namespace Cert.LnRef

open Cert.OutbRefIdeal Cert.OutbRefIdeal.Gen Idealize.ShloMosaic
open Cert.Reals Cert.Ffn
open scoped BigOperators

/-- The gradient of the normalized rows. -/
def scaled (D : FVec Ideal S8192x1024 .f32) (G : FVec Ideal S1024 .f32) : FVec Ideal S8192x1024 .f32 :=
  mulf (shapeCast _ D shapeCasts_S8192x1024_S8192x1024) (broadcastInDim S8192x1024 ![0, 1] bcast_S1x1024_S8192x1024_0_1 (broadcastInDim S1x1024 ![1] bcast_S1024_S1x1024_1 G))

/-- The rows' length. -/
def len : FVec Ideal S8192x1 .f32 := broadcastInDim S8192x1 ![] bcast_S_S8192x1 (constant S_ .f32 0x44800000#32)

/-- The rows less their means. -/
def less (R : FVec Ideal S8192x1024 .f32) : FVec Ideal S8192x1024 .f32 :=
  subf R (broadcastInDim S8192x1024 ![0, 1] bcast_S8192x1_S8192x1024_0_1 (Host.divf (broadcastInDim S8192x1 ![0] bcast_S8192_S8192x1_0 (Host.reduceAdd R (constant S_ .f32 0x00000000#32) reducesTo_S8192x1024_S8192_d1 h_S_)) len))

/-- The rows' variances and the small constant. -/
def spread (R : FVec Ideal S8192x1024 .f32) : FVec Ideal S8192x1 .f32 :=
  addf (Host.divf (broadcastInDim S8192x1 ![0] bcast_S8192_S8192x1_0 (Host.reduceAdd (mulf (less R) (less R)) (constant S_ .f32 0x00000000#32) reducesTo_S8192x1024_S8192_d1 h_S_)) len) (broadcastInDim S8192x1 ![] bcast_S_S8192x1 (constant S_ .f32 0x3727C5AC#32))

/-- The reciprocal standard deviations along the rows. -/
def wide (R : FVec Ideal S8192x1024 .f32) : FVec Ideal S8192x1024 .f32 :=
  broadcastInDim S8192x1024 ![0, 1] bcast_S8192x1_S8192x1024_0_1 (Host.rsqrt (spread R))

/-- The part through the rows themselves. -/
def direct (R D : FVec Ideal S8192x1024 .f32) (G : FVec Ideal S1024 .f32) : FVec Ideal S8192x1024 .f32 := mulf (scaled D G) (wide R)

/-- The part through the variances. -/
def around (R D : FVec Ideal S8192x1024 .f32) (G : FVec Ideal S1024 .f32) : FVec Ideal S8192x1024 .f32 :=
  mulf (broadcastInDim S8192x1024 ![0] bcast_S8192_S8192x1024_0 (Host.reduceAdd (Host.divf (mulf (shapeCast _ (Host.reduceAdd (mulf (less R) (scaled D G)) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (spread R)) (spread R)))) len) (constant S_ .f32 0x00000000#32) reducesTo_S8192x1_S8192_d1 h_S_)) (mulf (broadcastInDim S8192x1024 ![] bcast_S_S8192x1024 (constant S_ .f32 0x40000000#32)) (less R))

/-- The whole gradient: the two parts and what flows through the means. -/
def grad (R D : FVec Ideal S8192x1024 .f32) (G : FVec Ideal S1024 .f32) : FVec Ideal S8192x1024 .f32 :=
  addf (addf (direct R D G) (around R D G)) (broadcastInDim S8192x1024 ![0] bcast_S8192_S8192x1024_0 (Host.reduceAdd (Host.divf (addf (shapeCast _ (Host.reduceAdd (Host.negf (direct R D G)) (constant S_ .f32 0x00000000#32) reducesTo_S8192x1024_S8192_d1 h_S_) shapeCasts_S8192_S8192x1) (shapeCast _ (Host.reduceAdd (Host.negf (around R D G)) (constant S_ .f32 0x00000000#32) reducesTo_S8192x1024_S8192_d1 h_S_) shapeCasts_S8192_S8192x1)) len) (constant S_ .f32 0x00000000#32) reducesTo_S8192x1_S8192_d1 h_S_))

/-- The factor's gradient. -/
def factor (R D : FVec Ideal S8192x1024 .f32) : FVec Ideal S1x1024 .f32 :=
  shapeCast _ (Host.reduceAdd (shapeCast _ (Host.reduceAdd (mulf (mulf (less R) (wide R)) (shapeCast _ D shapeCasts_S8192x1024_S8192x1024)) (constant S_ .f32 0x00000000#32) reducesTo_S8192x1024_S1024_d0 h_S_) shapeCasts_S1024_S1x1024) (constant S_ .f32 0x00000000#32) reducesTo_S1x1024_S1024_d0 h_S_) shapeCasts_S1024_S1x1024

/-- The offset's gradient. -/
def offset (D : FVec Ideal S8192x1024 .f32) : FVec Ideal S1x1024 .f32 :=
  shapeCast _ (Host.reduceAdd (shapeCast _ (Host.reduceAdd D (constant S_ .f32 0x00000000#32) reducesTo_S8192x1024_S1024_d0 h_S_) shapeCasts_S1024_S1x1024) (constant S_ .f32 0x00000000#32) reducesTo_S1x1024_S1024_d0 h_S_) shapeCasts_S1024_S1x1024

theorem var_pos (r : Fin 1024 → ℝ) : 0 < var 1024 r + eps :=
  add_pos_of_nonneg_of_pos (var_nonneg 1024 r (by norm_num)) eps_pos

variable {R D : FVec Ideal S8192x1024 .f32} {G : FVec Ideal S1024 .f32} {r dy : Fin 8192 → Fin 1024 → ℝ} {g : Fin 1024 → ℝ}
  (hR : ∀ i, R i = ((r (i 0) (i 1) : ℝ) : EReal)) (hD : ∀ i, D i = ((dy (i 0) (i 1) : ℝ) : EReal)) (hG : ∀ i, G i = ((g (i 0) : ℝ) : EReal))

include hD hG in
theorem scaled_eq (i) : scaled D G i = ((dy (i 0) (i 1) * g (i 1) : ℝ) : EReal) := by
  pointwise [scaled]
  simp only [hD, hG, mul_coe]
  rfl

theorem len_eq (i) : len i = ((1024 : ℝ) : EReal) := by
  pointwise [len]
  exact ofBits_1024

include hR in
theorem less_eq (i) : less R i = ((cen 1024 (r (i 0)) (i 1) : ℝ) : EReal) := by
  pointwise [less]
  simp only [hR, len_eq, sum_coe, div_coe _ (1024 : ℝ) (by norm_num), sub_coe]
  rfl

include hR in
theorem spread_eq (i) : spread R i = ((var 1024 (r (i 0)) + eps : ℝ) : EReal) := by
  pointwise [spread]
  simp only [less_eq hR, len_eq, ofBits_eps, mul_coe, sum_coe, div_coe _ (1024 : ℝ) (by norm_num), add_coe]
  rfl

include hR in
theorem wide_eq (i) : wide R i = ((rstd 1024 eps (r (i 0)) : ℝ) : EReal) := by
  pointwise [wide]
  rw [spread_eq hR, rsqrt_coe _ (var_pos _)]
  rfl

section
include hR hD hG

theorem direct_eq (i) : direct R D G i = ((dy (i 0) (i 1) * g (i 1) * rstd 1024 eps (r (i 0)) : ℝ) : EReal) := by
  pointwise [direct]
  rw [scaled_eq hD hG, wide_eq hR, mul_coe]

theorem around_eq (i) : around R D G i = (((∑ k, cen 1024 (r (i 0)) k * (dy (i 0) k * g k))
      * (-(1 / 2) * (rstd 1024 eps (r (i 0)) / (var 1024 (r (i 0)) + eps))) / 1024
      * (2 * cen 1024 (r (i 0)) (i 1)) : ℝ) : EReal) := by
  pointwise [around]
  simp only [less_eq hR, scaled_eq hD hG, spread_eq hR, len_eq, rsqrt_coe _ (var_pos _), ofBits_neg_half, ofBits_two, mul_coe, sum_coe,
    div_coe _ _ (var_pos _).ne', div_coe _ (1024 : ℝ) (by norm_num), Finset.univ_unique, Finset.sum_singleton]
  try rfl

/-- The gradient is the closed form. -/
theorem grad_eq (i) : grad R D G i = ((dr (r (i 0)) g (dy (i 0)) (i 1) : ℝ) : EReal) := by
  pointwise [grad]
  simp only [direct_eq hR hD hG, around_eq hR hD hG, len_eq, neg_coe, mul_coe, sum_coe, add_coe, div_coe _ (1024 : ℝ) (by norm_num),
    Finset.univ_unique, Finset.sum_singleton]
  exact congrArg _ (chain 1024 eps (r (i 0)) (by norm_num) (by norm_num) eps_pos (fun k => dy (i 0) k * g k) (i 1))

end

include hR hD in
theorem factor_eq (i) : factor R D i = ((∑ t, xhat 1024 eps (r t) (i 1) * dy t (i 1) : ℝ) : EReal) := by
  pointwise [factor]
  simp only [less_eq hR, wide_eq hR, hD, mul_coe, sum_coe, Finset.univ_unique, Finset.sum_singleton]
  try rfl

include hD in
theorem offset_eq (i) : offset D i = ((∑ t, dy t (i 1) : ℝ) : EReal) := by
  pointwise [offset]
  simp only [hD, mul_coe, sum_coe, Finset.univ_unique, Finset.sum_singleton]
  try rfl

end Cert.LnRef

end
-- ==== Proof.OutbClaim.lean ====
/- The output projection's backward call and its reference leave the same arrays. -/
module

public import proofs.«01_k».proof.Defs
public import proofs.«01_k».proof.Proof.Gen.OutbIdeal.Value
public import proofs.«01_k».proof.Proof.Gen.OutbRefIdeal.Run
public import proofs.«01_k».proof.Proof.LnRef
public import proofs.«01_k».proof.Proof.Tiles
public import proofs.«01_k».proof.Proof.Finite
public import proofs.«01_k».proof.Proof.Gen.Pre_outb_finite
public import Idealize.ShloMosaic.Lib.Pipeline.ValueKit
public import Idealize.ShloMosaic.Lib.Pipeline.ReadBack
public import Idealize.ShloMosaic.Lib.IdealHost

@[expose] public section

set_option maxRecDepth 16384

noncomputable section

namespace Cert.OutbKernel

open Cert.OutbIdeal Cert.OutbIdeal.Gen Idealize.ShloMosaic Idealize.ShloMosaic.TcCoe Idealize.SL.Sem
open scoped BigOperators
open Cert.Reals
open Cert.Ffn (dr)

section

variable {r dy : Fin 1024 → Fin 1024 → ℝ} {g : Fin 1024 → ℝ} {v0 v17 : Vec Ideal S1024x1024 .f32} {v34 z : Vec Ideal S1x1024 .f32}
  (h0 : ∀ i, v0 i = ((r (i 0) (i 1) : ℝ) : EReal)) (h17 : ∀ i, v17 i = ((dy (i 0) (i 1) : ℝ) : EReal))
  (h34 : ∀ i, v34 i = ((g (i 1) : ℝ) : EReal))

include h0 in
/-- The rows less their means. -/
theorem less_eq (i) : k0_pay7 (F := Ideal) v0 i = ((cen 1024 (r (i 0)) (i 1) : ℝ) : EReal) := by
  pointwise [k0_pay7]
  simp only [h0, ofBits_1024, sum_coe, sub_coe, div_coe _ (1024 : ℝ) (by norm_num)]
  rfl

include h0 in
/-- The reciprocal standard deviations. -/
theorem rstd_eq (i) : k0_pay8 (F := Ideal) v0 i = ((rstd 1024 eps (r (i 0)) : ℝ) : EReal) := by
  pointwise [k0_pay8]
  simp only [less_eq h0, ofBits_1024, ofBits_eps, mul_coe, sum_coe, div_coe _ (1024 : ℝ) (by norm_num), add_coe]
  exact rsqrt_coe _ (Cert.LnRef.var_pos (r (i 0)))

include h0 in
/-- The normalized rows. -/
theorem xhat_eq (i) : k0_pay9 (F := Ideal) v0 i = ((xhat 1024 eps (r (i 0)) (i 1) : ℝ) : EReal) := by
  pointwise [k0_pay9]
  rw [less_eq h0, rstd_eq h0, mul_coe]
  rfl

include h0 h17 h34 in
/-- The normalization's gradient. -/
theorem dr_eq (i) : k0_pay1 (F := Ideal) (k0_pay8 v0) (k0_pay9 v0) v17 v34 i = ((dr (r (i 0)) g (dy (i 0)) (i 1) : ℝ) : EReal) := by
  pointwise [k0_pay1]
  simp only [rstd_eq h0, xhat_eq h0, h17, h34, ofBits_1024, mul_coe, sum_coe, sub_coe, div_coe _ (1024 : ℝ) (by norm_num), add_coe]
  rfl

include h0 h17 in
/-- One point's addition to the factor's gradient. -/
theorem factor_add (y) (s : ℝ) (hz : z y = ((s : ℝ) : EReal)) : k0_pay12 (F := Ideal) v0 v17 z y
    = ((s + ∑ a, xhat 1024 eps (r a) (y 1) * dy a (y 1) : ℝ) : EReal) := by
  have e : ∀ w : FVec Ideal S1x1024 .f32, ∀ h, shapeCast S1x1024 w h y = w y := fun w h => by pointwise
  pointwise [k0_pay12]
  simp only [xhat_eq h0, h17, hz, mul_coe, sum_coe, add_coe]
  exact congrArg (fun q : ℝ => ((s + q : ℝ) : EReal)) (Finset.sum_congr rfl fun a _ => mul_comm _ _)

include h17 in
/-- One point's addition to the offset's gradient. -/
theorem offset_add (y) (s : ℝ) (hz : z y = ((s : ℝ) : EReal)) : k0_pay13 (F := Ideal) v17 z y = ((s + ∑ a, dy a (y 1) : ℝ) : EReal) := by
  pointwise [k0_pay13]
  simp only [h17, hz, sum_coe, add_coe]
  rfl

/-- A row of a gradient against a row of weights. -/
def dot (d w : Fin 1024 → EReal) : EReal := ∑ k, d k * w k

/-- Column `j` from `o` on. -/
def from' (o : ℕ) {n : ℕ} (h : o + n ≤ 1024) (j : Fin n) : Fin 1024 := ⟨o + j, by omega⟩

variable {v57 : Vec Ideal S1024x1024 .bf16}

theorem prod_eq (v14 : FVec Ideal S1024x1 .f32) (v16 v17 : FVec Ideal S1024x1024 .f32) (v34 : Vec Ideal S1x1024 .f32) (i) : k0_pay3 (F := Ideal) v14 v16 v17 v34 v57 i
    = dot (fun k => k0_pay1 (F := Ideal) v14 v16 v17 v34 (ix2 (i 0) k)) (fun k => v57 (ix2 (i 1) k)) := by
  pointwise [k0_pay3, k0_pay2]
  rfl

include h0 h17 h34

theorem piece4_eq (i : S1024x256.Idx) : k0_pay4 (F := Ideal) (k0_pay8 v0) (k0_pay9 v0) v17 v34 v57 i
    = dot (fun k => ((dr (r (i 0)) g (dy (i 0)) k : ℝ) : EReal)) (fun k => v57 (ix2 (from' 0 (n := 256) (by norm_num) (i 1)) k)) := by
  have e : k0_pay4 (F := Ideal) (k0_pay8 v0) (k0_pay9 v0) v17 v34 v57 i = k0_pay3 (F := Ideal) (k0_pay8 v0) (k0_pay9 v0) v17 v34 v57 (ix2 (i 0) (from' 0 (n := 256) (by norm_num) (i 1))) := by
    pointwise [k0_pay4]
    exact congrArg (fun q => k0_pay3 (F := Ideal) (k0_pay8 v0) (k0_pay9 v0) v17 v34 v57 (ix2 (i 0) q)) (Fin.ext (Nat.zero_add _).symm)
  rw [e, prod_eq]
  unfold dot
  exact Finset.sum_congr rfl fun k _ => congrArg (· * _) (dr_eq h0 h17 h34 _)

theorem piece5_eq (i : S1024x512.Idx) : k0_pay5 (F := Ideal) (k0_pay8 v0) (k0_pay9 v0) v17 v34 v57 i
    = dot (fun k => ((dr (r (i 0)) g (dy (i 0)) k : ℝ) : EReal)) (fun k => v57 (ix2 (from' 256 (n := 512) (by norm_num) (i 1)) k)) := by
  have e : k0_pay5 (F := Ideal) (k0_pay8 v0) (k0_pay9 v0) v17 v34 v57 i = k0_pay3 (F := Ideal) (k0_pay8 v0) (k0_pay9 v0) v17 v34 v57 (ix2 (i 0) (from' 256 (n := 512) (by norm_num) (i 1))) := by
    pointwise [k0_pay5]
    rfl
  rw [e, prod_eq]
  unfold dot
  exact Finset.sum_congr rfl fun k _ => congrArg (· * _) (dr_eq h0 h17 h34 _)

theorem piece6_eq (i : S1024x256.Idx) : k0_pay6 (F := Ideal) (k0_pay8 v0) (k0_pay9 v0) v17 v34 v57 i
    = dot (fun k => ((dr (r (i 0)) g (dy (i 0)) k : ℝ) : EReal)) (fun k => v57 (ix2 (from' 768 (n := 256) (by norm_num) (i 1)) k)) := by
  have e : k0_pay6 (F := Ideal) (k0_pay8 v0) (k0_pay9 v0) v17 v34 v57 i = k0_pay3 (F := Ideal) (k0_pay8 v0) (k0_pay9 v0) v17 v34 v57 (ix2 (i 0) (from' 768 (n := 256) (by norm_num) (i 1))) := by
    pointwise [k0_pay6]
    rfl
  rw [e, prod_eq]
  unfold dot
  exact Finset.sum_congr rfl fun k _ => congrArg (· * _) (dr_eq h0 h17 h34 _)

end

theorem zero10 (y) : k0_pay10 (F := Ideal) y = ((0 : ℝ) : EReal) := by pointwise [k0_pay10]; rfl

theorem zero11 (y) : k0_pay11 (F := Ideal) y = ((0 : ℝ) : EReal) := by pointwise [k0_pay11]; rfl

/-- Where each point's blocks lie. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![0, 0] ∧ win0_10.index t = ![0, 0] :=
  (by decide +kernel : ∀ t : Fin grid0.N, _)

/-- The row of the whole array that row `a` of point `n`'s block is. -/
def row (n : ℕ) (a : Fin 1024) : Fin 8192 := ⟨1024 * (n % 8) + (a : ℕ), by omega⟩

section
variable (m : (ℓ : Loc nD τ sig) → Buf (Elt Ideal) ℓ) (c : Dev nD) (r dy : Fin 8192 → Fin 1024 → ℝ) (g : Fin 1024 → ℝ)

/-- The arguments, as arrays of extended reals. -/
abbrev a0 : S8192x1024.Idx → EReal := m ((c : Thread nD τ).loc main_arg0)
abbrev a1 : S8192x1024.Idx → EReal := m ((c : Thread nD τ).loc main_arg1)
abbrev a2 : S1024.Idx → EReal := m ((c : Thread nD τ).loc main_arg2)
abbrev a4 : S1024x1024.Idx → EReal := m ((c : Thread nD τ).loc main_arg4)

/-- Three of the arguments are reals. -/
structure Args : Prop where
  dy : ∀ i, a0 m c i = ((dy (i 0) (i 1) : ℝ) : EReal)
  r : ∀ i, a1 m c i = ((r (i 0) (i 1) : ℝ) : EReal)
  g : ∀ i, a2 m c i = ((g (i 0) : ℝ) : EReal)

theorem V0_eq (i) : V m c main_v0 i = a2 m c (ix1 (i 1)) := by
  unfold V
  simp only [hostOps0, List.flatten_cons, List.flatten_nil, List.append_nil, List.cons_append, List.nil_append]
  after_results
  pointwise

theorem V1_eq (i) : V m c main_v1 i = a4 m c i := by
  unfold V
  simp only [hostOps0, List.flatten_cons, List.flatten_nil, List.append_nil, List.cons_append, List.nil_append]
  after_results
  pointwise

theorem iblk0 (t : Fin cfg0.N) (y) : iblk m c 0 t y = a0 m c (ix2 (row t.val (y 0)) (y 1)) := by
  have ht : t.val < 8 := lt_of_lt_of_eq t.isLt N_0
  have e : ∀ F : S8192x1024.Idx → EReal, (∀ i, V m c main_arg0 i = F i) → iblk m c 0 t y = F (ix2 (row t.val (y 0)) (y 1)) := fun F h => by
    blk_simp [iblk]
    rw [h]
    blk_ext [row, idx t]
  exact e _ fun i => congrFun (V_main_arg0 m c) i

theorem iblk1 (t : Fin cfg0.N) (y) : iblk m c 1 t y = a1 m c (ix2 (row t.val (y 0)) (y 1)) := by
  have ht : t.val < 8 := lt_of_lt_of_eq t.isLt N_0
  have e : ∀ F : S8192x1024.Idx → EReal, (∀ i, V m c main_arg1 i = F i) → iblk m c 1 t y = F (ix2 (row t.val (y 0)) (y 1)) := fun F h => by
    blk_simp [iblk]
    rw [h]
    blk_ext [row, idx t]
  exact e _ fun i => congrFun (V_main_arg1 m c) i

theorem iblk2 (t : Fin cfg0.N) (y) : iblk m c 2 t y = a2 m c (ix1 (y 1)) := by
  have e : ∀ F : S1x1024.Idx → EReal, (∀ i, V m c main_v0 i = F i) → iblk m c 2 t y = F (ix2 (y 0) (y 1)) := fun F h => by
    blk_simp [iblk]
    rw [h]
    blk_ext [row, idx t]
  exact e (fun i => a2 m c (ix1 (i 1))) fun i => V0_eq m c i

theorem iblk3 (t : Fin cfg0.N) (y) : iblk m c 3 t y = a4 m c (ix2 (y 0) (y 1)) := by
  have e : ∀ F : S1024x1024.Idx → EReal, (∀ i, V m c main_v1 i = F i) → iblk m c 3 t y = F (ix2 (y 0) (y 1)) := fun F h => by
    blk_simp [iblk]
    rw [h]
    blk_ext [row, idx t]
  exact e _ fun i => V1_eq m c i

/-- An entry of the product with the weights. -/
def backAt (t : Fin 8192) (j : Fin 1024) : EReal := dot (fun k => ((dr (r t) g (dy t) k : ℝ) : EReal)) (fun k => a4 m c (ix2 j k))

end

variable {m : (ℓ : Loc nD τ sig) → Buf (Elt Ideal) ℓ} {c : Dev nD} {r dy : Fin 8192 → Fin 1024 → ℝ} {g : Fin 1024 → ℝ} (ha : Args m c r dy g)
include ha

theorem blk_dy (t : Fin cfg0.N) (i) : iblk m c 0 t i = ((dy (row t.val (i 0)) (i 1) : ℝ) : EReal) := (iblk0 m c t i).trans (ha.dy _)

theorem blk_r (t : Fin cfg0.N) (i) : iblk m c 1 t i = ((r (row t.val (i 0)) (i 1) : ℝ) : EReal) := (iblk1 m c t i).trans (ha.r _)

theorem blk_g (t : Fin cfg0.N) (i) : iblk m c 2 t i = ((g (i 1) : ℝ) : EReal) := (iblk2 m c t i).trans (ha.g _)

theorem dr_point (t : Fin cfg0.N) (y : S1024x1024.Idx) : (outsAt0 m c t.val t.isLt).1 y = ((dr (r (row t.val (y 0))) g (dy (row t.val (y 0))) (y 1) : ℝ) : EReal) := by
  by_cases h0 : t.val % 8 = 0
  · rw [outsAt0_A m c t h0]
    frame_out
    exact dr_eq (r := fun a => r (row t.val a)) (dy := fun a => dy (row t.val a)) (blk_r ha t) (blk_dy ha t) (blk_g ha t) y
  · rw [outsAt0_B m c t h0]
    frame_out
    exact dr_eq (r := fun a => r (row t.val a)) (dy := fun a => dy (row t.val a)) (blk_r ha t) (blk_dy ha t) (blk_g ha t) y

theorem half_point (t : Fin cfg0.N) (y : S1024x1024.Idx) : (outsAt0 m c t.val t.isLt).2.1 y = ((dr (r (row t.val (y 0))) g (dy (row t.val (y 0))) (y 1) : ℝ) : EReal) := by
  by_cases h0 : t.val % 8 = 0
  · rw [outsAt0_A m c t h0]
    frame_out
    exact dr_eq (r := fun a => r (row t.val a)) (dy := fun a => dy (row t.val a)) (blk_r ha t) (blk_dy ha t) (blk_g ha t) y
  · rw [outsAt0_B m c t h0]
    frame_out
    exact dr_eq (r := fun a => r (row t.val a)) (dy := fun a => dy (row t.val a)) (blk_r ha t) (blk_dy ha t) (blk_g ha t) y

theorem back4 (t : Fin cfg0.N) (y : S1024x256.Idx) : k0_pay4 (F := Ideal) (k0_pay8 (iblk m c 1 t)) (k0_pay9 (iblk m c 1 t)) (iblk m c 0 t) (iblk m c 2 t) (iblk m c 3 t) y
    = backAt m c r dy g (row t.val (y 0)) (from' 0 (n := 256) (by norm_num) (y 1)) := by
  refine (piece4_eq (r := fun a => r (row t.val a)) (dy := fun a => dy (row t.val a)) (blk_r ha t) (blk_dy ha t) (blk_g ha t) y).trans ?_
  unfold backAt
  exact congrArg (dot _) (funext fun k => iblk3 m c t _)

theorem first_point (t : Fin cfg0.N) (y : S1024x256.Idx) : (outsAt0 m c t.val t.isLt).2.2.1 y = backAt m c r dy g (row t.val (y 0)) (from' 0 (n := 256) (by norm_num) (y 1)) := by
  by_cases h0 : t.val % 8 = 0
  · rw [outsAt0_A m c t h0]
    frame_out
    exact back4 ha t y
  · rw [outsAt0_B m c t h0]
    frame_out
    exact back4 ha t y

theorem back5 (t : Fin cfg0.N) (y : S1024x512.Idx) : k0_pay5 (F := Ideal) (k0_pay8 (iblk m c 1 t)) (k0_pay9 (iblk m c 1 t)) (iblk m c 0 t) (iblk m c 2 t) (iblk m c 3 t) y
    = backAt m c r dy g (row t.val (y 0)) (from' 256 (n := 512) (by norm_num) (y 1)) := by
  refine (piece5_eq (r := fun a => r (row t.val a)) (dy := fun a => dy (row t.val a)) (blk_r ha t) (blk_dy ha t) (blk_g ha t) y).trans ?_
  unfold backAt
  exact congrArg (dot _) (funext fun k => iblk3 m c t _)

theorem middle_point (t : Fin cfg0.N) (y : S1024x512.Idx) : (outsAt0 m c t.val t.isLt).2.2.2.1 y = backAt m c r dy g (row t.val (y 0)) (from' 256 (n := 512) (by norm_num) (y 1)) := by
  by_cases h0 : t.val % 8 = 0
  · rw [outsAt0_A m c t h0]
    frame_out
    exact back5 ha t y
  · rw [outsAt0_B m c t h0]
    frame_out
    exact back5 ha t y

theorem back6 (t : Fin cfg0.N) (y : S1024x256.Idx) : k0_pay6 (F := Ideal) (k0_pay8 (iblk m c 1 t)) (k0_pay9 (iblk m c 1 t)) (iblk m c 0 t) (iblk m c 2 t) (iblk m c 3 t) y
    = backAt m c r dy g (row t.val (y 0)) (from' 768 (n := 256) (by norm_num) (y 1)) := by
  refine (piece6_eq (r := fun a => r (row t.val a)) (dy := fun a => dy (row t.val a)) (blk_r ha t) (blk_dy ha t) (blk_g ha t) y).trans ?_
  unfold backAt
  exact congrArg (dot _) (funext fun k => iblk3 m c t _)

theorem last_point (t : Fin cfg0.N) (y : S1024x256.Idx) : (outsAt0 m c t.val t.isLt).2.2.2.2.1 y = backAt m c r dy g (row t.val (y 0)) (from' 768 (n := 256) (by norm_num) (y 1)) := by
  by_cases h0 : t.val % 8 = 0
  · rw [outsAt0_A m c t h0]
    frame_out
    exact back6 ha t y
  · rw [outsAt0_B m c t h0]
    frame_out
    exact back6 ha t y

/-- The factor's gradient so far. -/
theorem gam_point (y : S1x1024.Idx) : ∀ (n : ℕ) (hn : n < cfg0.N), (outsAt0 m c n hn).2.2.2.2.2.1 y
    = ((Cert.Tiles.part row (fun t => xhat 1024 eps (r t) (y 1) * dy t (y 1)) (n + 1) : ℝ) : EReal)
  | 0, hn => by
    rw [Cert.Tiles.part_succ, Cert.Tiles.part_zero]
    refine (congrArg (fun o => o.2.2.2.2.2.1 y) (outsAt0_A m c ⟨0, hn⟩ rfl)).trans ?_
    frame_out
    exact factor_add (r := fun a => r (row (0) a)) (dy := fun a => dy (row (0) a)) (blk_r ha ⟨0, hn⟩) (blk_dy ha ⟨0, hn⟩) y 0 (zero10 y)
  | n + 1, hn => by
    have hN : n + 1 < 8 := lt_of_lt_of_eq hn N_0
    have ih := gam_point y n (Nat.lt_of_succ_lt hn)
    rw [Cert.Tiles.part_succ]
    refine (congrArg (fun o => o.2.2.2.2.2.1 y) (outsAt0_B m c ⟨n + 1, hn⟩ (by dsimp only; omega))).trans ?_
    frame_out
    exact factor_add (r := fun a => r (row (n + 1) a)) (dy := fun a => dy (row (n + 1) a)) (blk_r ha ⟨n + 1, hn⟩) (blk_dy ha ⟨n + 1, hn⟩) y _ ih

/-- The offset's gradient so far. -/
theorem bet_point (y : S1x1024.Idx) : ∀ (n : ℕ) (hn : n < cfg0.N), (outsAt0 m c n hn).2.2.2.2.2.2 y
    = ((Cert.Tiles.part row (fun t => dy t (y 1)) (n + 1) : ℝ) : EReal)
  | 0, hn => by
    rw [Cert.Tiles.part_succ, Cert.Tiles.part_zero]
    refine (congrArg (fun o => o.2.2.2.2.2.2 y) (outsAt0_A m c ⟨0, hn⟩ rfl)).trans ?_
    frame_out
    exact offset_add (dy := fun a => dy (row (0) a)) (blk_dy ha ⟨0, hn⟩) y 0 (zero11 y)
  | n + 1, hn => by
    have hN : n + 1 < 8 := lt_of_lt_of_eq hn N_0
    have ih := bet_point y n (Nat.lt_of_succ_lt hn)
    rw [Cert.Tiles.part_succ]
    refine (congrArg (fun o => o.2.2.2.2.2.2 y) (outsAt0_B m c ⟨n + 1, hn⟩ (by dsimp only; omega))).trans ?_
    frame_out
    exact offset_add (dy := fun a => dy (row (n + 1) a)) (blk_dy ha ⟨n + 1, hn⟩) y _ ih

attribute [local irreducible] backAt

theorem dr_final : (dats m 0 c).arrAt 4 cfg0.N = fun i : S8192x1024.Idx => ((dr (r (i 0)) g (dy (i 0)) (i 1) : ℝ) : EReal) := by
  refine (dats m 0 c).arrAt_eq_of_covers 4 _ (by decide +kernel) fun t hf y => ?_
  have ht : t.val < 8 := lt_of_lt_of_eq t.isLt N_0
  have e : ∀ F : S8192x1024.Idx → EReal, F (((cfg0.win 4).blk t).view.emb y) = F (ix2 (row t.val (y 0)) (y 1)) := fun F => by
    blk_ext [row, idx t]
  rw [after0_4]
  exact (dr_point ha t y).trans (e fun i => ((dr (r (i 0)) g (dy (i 0)) (i 1) : ℝ) : EReal)).symm

theorem half_final : (dats m 0 c).arrAt 5 cfg0.N = fun i : S8192x1024.Idx => ((dr (r (i 0)) g (dy (i 0)) (i 1) : ℝ) : EReal) := by
  refine (dats m 0 c).arrAt_eq_of_covers 5 _ (by decide +kernel) fun t hf y => ?_
  have ht : t.val < 8 := lt_of_lt_of_eq t.isLt N_0
  have e : ∀ F : S8192x1024.Idx → EReal, F (((cfg0.win 5).blk t).view.emb y) = F (ix2 (row t.val (y 0)) (y 1)) := fun F => by
    blk_ext [row, idx t]
  rw [after0_5]
  exact (half_point ha t y).trans (e fun i => ((dr (r (i 0)) g (dy (i 0)) (i 1) : ℝ) : EReal)).symm

theorem first_final : (dats m 0 c).arrAt 6 cfg0.N = fun i : S8192x256.Idx => backAt m c r dy g (i 0) (from' 0 (n := 256) (by norm_num) (i 1)) := by
  refine (dats m 0 c).arrAt_eq_of_covers 6 _ (by decide +kernel) fun t hf y => ?_
  have ht : t.val < 8 := lt_of_lt_of_eq t.isLt N_0
  have e : ∀ F : S8192x256.Idx → EReal, F (((cfg0.win 6).blk t).view.emb y) = F (ix2 (row t.val (y 0)) (y 1)) := fun F => by
    blk_ext [row, idx t]
  rw [after0_6]
  exact (first_point ha t y).trans (e fun i => backAt m c r dy g (i 0) (from' 0 (n := 256) (by norm_num) (i 1))).symm

theorem middle_final : (dats m 0 c).arrAt 7 cfg0.N = fun i : S8192x512.Idx => backAt m c r dy g (i 0) (from' 256 (n := 512) (by norm_num) (i 1)) := by
  refine (dats m 0 c).arrAt_eq_of_covers 7 _ (by decide +kernel) fun t hf y => ?_
  have ht : t.val < 8 := lt_of_lt_of_eq t.isLt N_0
  have e : ∀ F : S8192x512.Idx → EReal, F (((cfg0.win 7).blk t).view.emb y) = F (ix2 (row t.val (y 0)) (y 1)) := fun F => by
    blk_ext [row, idx t]
  rw [after0_7]
  exact (middle_point ha t y).trans (e fun i => backAt m c r dy g (i 0) (from' 256 (n := 512) (by norm_num) (i 1))).symm

theorem last_final : (dats m 0 c).arrAt 8 cfg0.N = fun i : S8192x256.Idx => backAt m c r dy g (i 0) (from' 768 (n := 256) (by norm_num) (i 1)) := by
  refine (dats m 0 c).arrAt_eq_of_covers 8 _ (by decide +kernel) fun t hf y => ?_
  have ht : t.val < 8 := lt_of_lt_of_eq t.isLt N_0
  have e : ∀ F : S8192x256.Idx → EReal, F (((cfg0.win 8).blk t).view.emb y) = F (ix2 (row t.val (y 0)) (y 1)) := fun F => by
    blk_ext [row, idx t]
  rw [after0_8]
  exact (last_point ha t y).trans (e fun i => backAt m c r dy g (i 0) (from' 768 (n := 256) (by norm_num) (i 1))).symm

theorem gam_final : (dats m 0 c).arrAt 9 cfg0.N = fun i : S1x1024.Idx => ((∑ t, xhat 1024 eps (r t) (i 1) * dy t (i 1) : ℝ) : EReal) := by
  refine (dats m 0 c).arrAt_eq_of_covers 9 _ (by decide +kernel) fun t hf y => ?_
  have e : ∀ F : S1x1024.Idx → EReal, F (((cfg0.win 9).blk t).view.emb y) = F (ix2 (y 0) (y 1)) := fun F => by
    blk_ext [idx t]
  have ht : t.val = 7 := by
    have h1 := (flush0_9 t).mp hf
    have h2 : t.val < 8 := lt_of_lt_of_eq t.isLt N_0
    omega
  rw [after0_9]
  refine ((gam_point ha y t.val t.isLt).trans ?_).trans (e fun i => ((∑ t, xhat 1024 eps (r t) (i 1) * dy t (i 1) : ℝ) : EReal)).symm
  rw [ht]
  exact congrArg _ (Cert.Tiles.part_all row _ 8 (by norm_num) fun s a hs => by
    show 1024 * (s % 8) + (a : ℕ) = _
    rw [Nat.mod_eq_of_lt hs])

theorem bet_final : (dats m 0 c).arrAt 10 cfg0.N = fun i : S1x1024.Idx => ((∑ t, dy t (i 1) : ℝ) : EReal) := by
  refine (dats m 0 c).arrAt_eq_of_covers 10 _ (by decide +kernel) fun t hf y => ?_
  have e : ∀ F : S1x1024.Idx → EReal, F (((cfg0.win 10).blk t).view.emb y) = F (ix2 (y 0) (y 1)) := fun F => by
    blk_ext [idx t]
  have ht : t.val = 7 := by
    have h1 := (flush0_10 t).mp hf
    have h2 : t.val < 8 := lt_of_lt_of_eq t.isLt N_0
    omega
  rw [after0_10]
  refine ((bet_point ha y t.val t.isLt).trans ?_).trans (e fun i => ((∑ t, dy t (i 1) : ℝ) : EReal)).symm
  rw [ht]
  exact congrArg _ (Cert.Tiles.part_all row _ 8 (by norm_num) fun s a hs => by
    show 1024 * (s % 8) + (a : ℕ) = _
    rw [Nat.mod_eq_of_lt hs])

end Cert.OutbKernel

namespace Cert.OutbClaim

open Idealize.ShloMosaic Idealize.SL.Sem Cert.Reals
open scoped BigOperators

/-- The idealized reference ends with its arguments unchanged and its counters at zero. -/
theorem frame_reference : Cert.quiescent_OutbRefIdeal :=
  fun m ρ _ => (θ_run Cert.OutbRefIdeal.defs _ _).mono
    (fun r h => ⟨fun c => (h c).2.2.2.2.2.2.2, sem_eq_zero_of_no_sems (by decide) r.2⟩) (Cert.OutbRefIdeal.Value.run (F := Ideal) m ρ)

/-- Under the precondition three of the arguments are reals. -/
theorem args_of (m : (ℓ : Loc Cert.OutbIdeal.nD Cert.OutbIdeal.τ Cert.OutbIdeal.sig) → Buf (Elt Ideal) ℓ) (hp : Cert.Pre_OutbIdeal_outb_finite m) (c : Dev Cert.OutbIdeal.nD) :
    ∃ r dy g, Cert.OutbKernel.Args m c r dy g := by
  have ht : ∀ a b : Cert.Pre_outb_finite.S_.Idx, a = b := fun a b => funext fun k => k.elim0
  have e0 := congrFun (hp c) (fun k => k.elim0)
  simp only [Cert.Pre_outb_finite.fn, andi, Cert.Finite.and_bits] at e0
  obtain ⟨⟨h0, h1⟩, h2⟩ := e0
  choose dy hdy using Cert.Finite.real_of_lt _ _ _ _ _ ht _ h0
  choose r hr using Cert.Finite.real_of_lt _ _ _ _ _ ht _ h1
  choose g hg using Cert.Finite.real_of_lt _ _ _ _ _ ht _ h2
  exact ⟨fun a b => r (ValueIdx.ix2 a b), fun a b => dy (ValueIdx.ix2 a b), fun a => g (ValueIdx.ix1 a),
    fun i => (hdy i).trans (congrArg (fun k => ((dy k : ℝ) : EReal)) (ValueIdx.eq_ix2 i)),
    fun i => (hr i).trans (congrArg (fun k => ((r k : ℝ) : EReal)) (ValueIdx.eq_ix2 i)),
    fun i => (hg i).trans (congrArg (fun k => ((g k : ℝ) : EReal)) (ValueIdx.eq_ix1 i))⟩

section
open Cert.OutbRefIdeal Cert.OutbRefIdeal.Gen Cert.OutbKernel

/-- The product with the weights. -/
def back (R : FVec Ideal S8192x1024 .f32) (W : FVec Ideal S1024x1024 .f32) : FVec Ideal S8192x1024 .f32 :=
  Host.dotGeneral dot_S8192x1024_S1024x1024_S8192x1024_1_1_0_0_n_n none R W

theorem back_eq (R : FVec Ideal S8192x1024 .f32) (W : FVec Ideal S1024x1024 .f32) (i) : back R W i = dot (fun k => R (ix2 (i 0) k)) (fun k => W (ix2 (i 1) k)) := by
  pointwise [back]
  rfl

variable (T : FVec Ideal S8192x1024 .f32)

theorem first_eq (i) : extractStridedSlice S8192x256 ![0, 0] T slices_S8192x1024_S8192x256_0_0 i = T (ix2 (i 0) (from' 0 (n := 256) (by norm_num) (i 1))) := by
  pointwise
  exact congrArg (fun q => T (ix2 (i 0) q)) (Fin.ext (Nat.zero_add _).symm)

theorem middle_eq (i) : extractStridedSlice S8192x512 ![0, 256] T slices_S8192x1024_S8192x512_0_256 i = T (ix2 (i 0) (from' 256 (n := 512) (by norm_num) (i 1))) := by
  pointwise
  rfl

theorem last_eq (i) : extractStridedSlice S8192x256 ![0, 768] T slices_S8192x1024_S8192x256_0_768 i = T (ix2 (i 0) (from' 768 (n := 256) (by norm_num) (i 1))) := by
  pointwise
  rfl

end

/-- From equal arguments, three of them real, both programs leave the same results. -/
theorem algebraic : Cert.algebraic_OutbIdeal_OutbRefIdeal_pre_outb_finite := by
  intro m g m' g' hp hm
  refine ⟨fun c => (Cert.OutbIdeal.Gen.dats m 0 c).arrAt 4 Cert.OutbIdeal.cfg0.N, fun c => (Cert.OutbIdeal.Gen.dats m 0 c).arrAt 5 Cert.OutbIdeal.cfg0.N, fun c => (Cert.OutbIdeal.Gen.dats m 0 c).arrAt 6 Cert.OutbIdeal.cfg0.N, fun c => (Cert.OutbIdeal.Gen.dats m 0 c).arrAt 7 Cert.OutbIdeal.cfg0.N, fun c => (Cert.OutbIdeal.Gen.dats m 0 c).arrAt 8 Cert.OutbIdeal.cfg0.N, fun c => (Cert.OutbIdeal.Gen.dats m 0 c).arrAt 9 Cert.OutbIdeal.cfg0.N, fun c => (Cert.OutbIdeal.Gen.dats m 0 c).arrAt 10 Cert.OutbIdeal.cfg0.N, Cert.OutbIdeal.Value.run_blocks m g, ?_⟩
  refine (θ_run _ _ _).mono (fun r h c => ?_) (Cert.OutbRefIdeal.Value.run m' g')
  obtain ⟨x, dy, ga, ha⟩ := args_of m hp c
  obtain ⟨e0, e1, e2, e3, e4⟩ := hm c
  obtain ⟨r0, r1, r2, r3, r4, r5, r6, k⟩ := h c
  have hR : ∀ i, (m' ((c.tc : Thread _ _).loc Cert.OutbRefIdeal.main_arg1)) i = ((x (i 0) (i 1) : ℝ) : EReal) := fun i => (congrFun e1 i).trans (ha.r i)
  have hD : ∀ i, (m' ((c.tc : Thread _ _).loc Cert.OutbRefIdeal.main_arg0)) i = ((dy (i 0) (i 1) : ℝ) : EReal) := fun i => (congrFun e0 i).trans (ha.dy i)
  have hG : ∀ i, (m' ((c.tc : Thread _ _).loc Cert.OutbRefIdeal.main_arg2)) i = ((ga (i 0) : ℝ) : EReal) := fun i => (congrFun e2 i).trans (ha.g i)
  have u0 : Cert.OutbRefIdeal.Value.res_main_v62 m' c = Cert.LnRef.grad (m' ((c.tc : Thread _ _).loc Cert.OutbRefIdeal.main_arg1)) (m' ((c.tc : Thread _ _).loc Cert.OutbRefIdeal.main_arg0)) (m' ((c.tc : Thread _ _).loc Cert.OutbRefIdeal.main_arg2)) := by
    unfold Cert.OutbRefIdeal.Value.res_main_v62
    rfl
  have u1 : Cert.OutbRefIdeal.Value.res_main_v69 m' c = truncf .bf16 (Cert.LnRef.grad (m' ((c.tc : Thread _ _).loc Cert.OutbRefIdeal.main_arg1)) (m' ((c.tc : Thread _ _).loc Cert.OutbRefIdeal.main_arg0)) (m' ((c.tc : Thread _ _).loc Cert.OutbRefIdeal.main_arg2))) Cert.OutbRefIdeal.Gen.bitsLt_bf16_f32 := by
    unfold Cert.OutbRefIdeal.Value.res_main_v69
    rfl
  have u2 : Cert.OutbRefIdeal.Value.res_main_v66 m' c = extractStridedSlice Cert.OutbRefIdeal.S8192x256 ![0, 0] (back (Cert.LnRef.grad (m' ((c.tc : Thread _ _).loc Cert.OutbRefIdeal.main_arg1)) (m' ((c.tc : Thread _ _).loc Cert.OutbRefIdeal.main_arg0)) (m' ((c.tc : Thread _ _).loc Cert.OutbRefIdeal.main_arg2))) (m' ((c.tc : Thread _ _).loc Cert.OutbRefIdeal.main_arg4))) Cert.OutbRefIdeal.Gen.slices_S8192x1024_S8192x256_0_0 := by
    unfold Cert.OutbRefIdeal.Value.res_main_v66
    rfl
  have u3 : Cert.OutbRefIdeal.Value.res_main_v67 m' c = extractStridedSlice Cert.OutbRefIdeal.S8192x512 ![0, 256] (back (Cert.LnRef.grad (m' ((c.tc : Thread _ _).loc Cert.OutbRefIdeal.main_arg1)) (m' ((c.tc : Thread _ _).loc Cert.OutbRefIdeal.main_arg0)) (m' ((c.tc : Thread _ _).loc Cert.OutbRefIdeal.main_arg2))) (m' ((c.tc : Thread _ _).loc Cert.OutbRefIdeal.main_arg4))) Cert.OutbRefIdeal.Gen.slices_S8192x1024_S8192x512_0_256 := by
    unfold Cert.OutbRefIdeal.Value.res_main_v67
    rfl
  have u4 : Cert.OutbRefIdeal.Value.res_main_v68 m' c = extractStridedSlice Cert.OutbRefIdeal.S8192x256 ![0, 768] (back (Cert.LnRef.grad (m' ((c.tc : Thread _ _).loc Cert.OutbRefIdeal.main_arg1)) (m' ((c.tc : Thread _ _).loc Cert.OutbRefIdeal.main_arg0)) (m' ((c.tc : Thread _ _).loc Cert.OutbRefIdeal.main_arg2))) (m' ((c.tc : Thread _ _).loc Cert.OutbRefIdeal.main_arg4))) Cert.OutbRefIdeal.Gen.slices_S8192x1024_S8192x256_0_768 := by
    unfold Cert.OutbRefIdeal.Value.res_main_v68
    rfl
  have b : ∀ i, back (Cert.LnRef.grad (m' ((c.tc : Thread _ _).loc Cert.OutbRefIdeal.main_arg1)) (m' ((c.tc : Thread _ _).loc Cert.OutbRefIdeal.main_arg0)) (m' ((c.tc : Thread _ _).loc Cert.OutbRefIdeal.main_arg2))) (m' ((c.tc : Thread _ _).loc Cert.OutbRefIdeal.main_arg4)) i = Cert.OutbKernel.backAt m c x dy ga (i 0) (i 1) := fun i => by
    rw [back_eq, e4]
    unfold Cert.OutbKernel.backAt
    exact congr (congrArg Cert.OutbKernel.dot (funext fun k => Cert.LnRef.grad_eq hR hD hG _)) rfl
  refine ⟨(r0.trans u0).trans ?_, (r1.trans u1).trans ?_, (r2.trans u2).trans ?_, (r3.trans u3).trans ?_, (r4.trans u4).trans ?_, r5.trans ?_, r6.trans ?_, k⟩
  · exact (funext fun i => Cert.LnRef.grad_eq hR hD hG i).trans (Cert.OutbKernel.dr_final ha).symm
  · exact (funext fun i => Cert.LnRef.grad_eq hR hD hG i).trans (Cert.OutbKernel.half_final ha).symm
  · exact (funext fun i => (first_eq _ i).trans (b _)).trans (Cert.OutbKernel.first_final ha).symm
  · exact (funext fun i => (middle_eq _ i).trans (b _)).trans (Cert.OutbKernel.middle_final ha).symm
  · exact (funext fun i => (last_eq _ i).trans (b _)).trans (Cert.OutbKernel.last_final ha).symm
  · exact (funext fun i => Cert.LnRef.factor_eq hR hD i).trans (Cert.OutbKernel.gam_final ha).symm
  · exact (funext fun i => Cert.LnRef.offset_eq hD i).trans (Cert.OutbKernel.bet_final ha).symm

end Cert.OutbClaim
-- ==== Proof.FfbClaim.lean ====
/- The feed-forward block's backward call and its reference leave the same arrays. -/
module

public import proofs.«01_k».proof.Defs
public import proofs.«01_k».proof.Proof.Gen.FfbIdeal.Value
public import proofs.«01_k».proof.Proof.Gen.FfbRefIdeal.Run
public import proofs.«01_k».proof.Proof.LnRef
public import proofs.«01_k».proof.Proof.Tiles
public import proofs.«01_k».proof.Proof.Finite
public import proofs.«01_k».proof.Proof.Gen.Pre_ffb_finite
public import proofs.«01_k».proof.Proof.FfnBlock
public import Idealize.ShloMosaic.Lib.Pipeline.ValueKit
public import Idealize.ShloMosaic.Lib.Pipeline.ReadBack
public import Idealize.ShloMosaic.Lib.IdealHost

@[expose] public section

set_option maxRecDepth 16384

noncomputable section

namespace Cert.FfbKernel

open Cert.FfbIdeal Cert.FfbIdeal.Gen Idealize.ShloMosaic Idealize.ShloMosaic.TcCoe Idealize.SL.Sem
open scoped BigOperators
open Cert.Reals
open Cert.Ffn (dr dh dup dh_lo dh_hi lo hi da)
open Cert.FfnKernel (gate up zero_logistic_coe one_coe)

section

variable {r dy : Fin 256 → Fin 1024 → ℝ} {g : Fin 1024 → ℝ} {v0 v17 : Vec Ideal S256x1024 .f32} {v34 z : Vec Ideal S1x1024 .f32}
  (h0 : ∀ i, v0 i = ((r (i 0) (i 1) : ℝ) : EReal)) (h17 : ∀ i, v17 i = ((dy (i 0) (i 1) : ℝ) : EReal))
  (h34 : ∀ i, v34 i = ((g (i 1) : ℝ) : EReal))

include h0 in
/-- The rows less their means. -/
theorem less_eq (i) : k0_pay6 (F := Ideal) v0 i = ((cen 1024 (r (i 0)) (i 1) : ℝ) : EReal) := by
  pointwise [k0_pay6]
  simp only [h0, ofBits_1024, sum_coe, sub_coe, div_coe _ (1024 : ℝ) (by norm_num)]
  rfl

include h0 in
/-- The reciprocal standard deviations. -/
theorem rstd_eq (i) : k0_pay7 (F := Ideal) v0 i = ((rstd 1024 eps (r (i 0)) : ℝ) : EReal) := by
  pointwise [k0_pay7]
  simp only [less_eq h0, ofBits_1024, ofBits_eps, mul_coe, sum_coe, div_coe _ (1024 : ℝ) (by norm_num), add_coe]
  exact rsqrt_coe _ (Cert.LnRef.var_pos (r (i 0)))

include h0 in
/-- The normalized rows. -/
theorem xhat_eq (i) : k0_pay8 (F := Ideal) v0 i = ((xhat 1024 eps (r (i 0)) (i 1) : ℝ) : EReal) := by
  pointwise [k0_pay8]
  rw [less_eq h0, rstd_eq h0, mul_coe]
  rfl

include h0 h17 h34 in
/-- The normalization's gradient. -/
theorem dr_eq (i) : k0_pay13 (F := Ideal) (k0_pay7 v0) (k0_pay8 v0) v17 v34 i = ((dr (r (i 0)) g (dy (i 0)) (i 1) : ℝ) : EReal) := by
  pointwise [k0_pay13]
  simp only [rstd_eq h0, xhat_eq h0, h17, h34, ofBits_1024, mul_coe, sum_coe, sub_coe, div_coe _ (1024 : ℝ) (by norm_num), add_coe]
  rfl

include h0 h17 in
/-- One point's addition to the factor's gradient. -/
theorem factor_add (y) (s : ℝ) (hz : z y = ((s : ℝ) : EReal)) : k0_pay11 (F := Ideal) v0 v17 z y
    = ((s + ∑ a, xhat 1024 eps (r a) (y 1) * dy a (y 1) : ℝ) : EReal) := by
  have e : ∀ w : FVec Ideal S1x1024 .f32, ∀ h, shapeCast S1x1024 w h y = w y := fun w h => by pointwise
  pointwise [k0_pay11]
  simp only [xhat_eq h0, h17, hz, mul_coe, sum_coe, add_coe]
  exact congrArg (fun q : ℝ => ((s + q : ℝ) : EReal)) (Finset.sum_congr rfl fun a _ => mul_comm _ _)

include h17 in
/-- One point's addition to the offset's gradient. -/
theorem offset_add (y) (s : ℝ) (hz : z y = ((s : ℝ) : EReal)) : k0_pay12 (F := Ideal) v17 z y = ((s + ∑ a, dy a (y 1) : ℝ) : EReal) := by
  pointwise [k0_pay12]
  simp only [h17, hz, sum_coe, add_coe]
  rfl

include h0 h17 h34 in
/-- Half of it. -/
theorem half_eq (i) : k0_pay14 (F := Ideal) (k0_pay7 v0) (k0_pay8 v0) v17 v34 i = ((1 / 2 * dr (r (i 0)) g (dy (i 0)) (i 1) : ℝ) : EReal) := by
  pointwise [k0_pay14]
  rw [dr_eq h0 h17 h34, ofBits_half, mul_coe]

end

theorem zero9 (y) : k0_pay9 (F := Ideal) y = ((0 : ℝ) : EReal) := by pointwise [k0_pay9]; rfl

theorem zero10 (y) : k0_pay10 (F := Ideal) y = ((0 : ℝ) : EReal) := by pointwise [k0_pay10]; rfl

/-! ## The tiles of the hidden values' gradient -/

section
variable {v57 : FVec Ideal S256x1024 .bf16} {D : Fin 256 → Fin 1024 → ℝ} (h57 : ∀ i, v57 i = ((D (i 0) (i 1) : ℝ) : EReal))

section
variable {vw : Vec Ideal S768x1024 .bf16} {W : Fin 768 → Fin 1024 → ℝ} {vg vu : Vec Ideal S256x768 .bf16} {G U : Fin 256 → Fin 768 → ℝ}
  (hw : ∀ i, vw i = ((W (i 0) (i 1) : ℝ) : EReal)) (hg : ∀ i, vg i = ((G (i 0) (i 1) : ℝ) : EReal))
  (hu : ∀ i, vu i = ((U (i 0) (i 1) : ℝ) : EReal))

include h57 hw in
theorem prod768 (i) : k0_pay23 (F := Ideal) v57 vw i = ((∑ k, D (i 0) k * W (i 1) k : ℝ) : EReal) := by
  pointwise [k0_pay23]
  simp only [h57, hw, mul_coe, sum_coe]
  rfl

include hg in
theorem ext768 (i) : k0_pay24 (F := Ideal) vg i = ((G (i 0) (i 1) : ℝ) : EReal) := by
  pointwise [k0_pay24]
  exact hg i

include hg in
theorem logi768 (i) : k0_pay25 (F := Ideal) vg i = ((sg (G (i 0) (i 1)) : ℝ) : EReal) := by
  pointwise [k0_pay25]
  rw [ext768 hg, zero_logistic_coe]

include h57 hw hg hu in
theorem gate768 (i) : k0_pay26 (F := Ideal) v57 vw vg vu i = ((gate D W G U (i 0) (i 1) : ℝ) : EReal) := by
  pointwise [k0_pay26]
  simp only [prod768 h57 hw, hu, ext768 hg, logi768 hg, ← one_coe, mul_coe, sub_coe, add_coe]
  rfl

include h57 hw hg in
theorem up768 (i) : k0_pay27 (F := Ideal) (k0_pay23 v57 vw) (k0_pay24 vg) (k0_pay25 vg) i = ((up D W G (i 0) (i 1) : ℝ) : EReal) := by
  pointwise [k0_pay27]
  simp only [prod768 h57 hw, ext768 hg, logi768 hg, mul_coe]
  rfl

end

section
variable {vw : Vec Ideal S640x1024 .bf16} {W : Fin 640 → Fin 1024 → ℝ} {vg vu : Vec Ideal S256x640 .bf16} {G U : Fin 256 → Fin 640 → ℝ}
  (hw : ∀ i, vw i = ((W (i 0) (i 1) : ℝ) : EReal)) (hg : ∀ i, vg i = ((G (i 0) (i 1) : ℝ) : EReal))
  (hu : ∀ i, vu i = ((U (i 0) (i 1) : ℝ) : EReal))

include h57 hw in
theorem prod640 (i) : k0_pay28 (F := Ideal) v57 vw i = ((∑ k, D (i 0) k * W (i 1) k : ℝ) : EReal) := by
  pointwise [k0_pay28]
  simp only [h57, hw, mul_coe, sum_coe]
  rfl

include hg in
theorem ext640 (i) : k0_pay29 (F := Ideal) vg i = ((G (i 0) (i 1) : ℝ) : EReal) := by
  pointwise [k0_pay29]
  exact hg i

include hg in
theorem logi640 (i) : k0_pay30 (F := Ideal) vg i = ((sg (G (i 0) (i 1)) : ℝ) : EReal) := by
  pointwise [k0_pay30]
  rw [ext640 hg, zero_logistic_coe]

include h57 hw hg hu in
theorem gate640 (i) : k0_pay31 (F := Ideal) v57 vw vg vu i = ((gate D W G U (i 0) (i 1) : ℝ) : EReal) := by
  pointwise [k0_pay31]
  simp only [prod640 h57 hw, hu, ext640 hg, logi640 hg, ← one_coe, mul_coe, sub_coe, add_coe]
  rfl

include h57 hw hg in
theorem up640 (i) : k0_pay32 (F := Ideal) v57 vw vg i = ((up D W G (i 0) (i 1) : ℝ) : EReal) := by
  pointwise [k0_pay32]
  simp only [prod640 h57 hw, ext640 hg, logi640 hg, mul_coe]
  rfl

end

end

section
variable {d : Fin 256 → Fin 1024 → ℝ} {wd : Fin 2816 → Fin 1024 → ℝ} {hh : Fin 256 → Fin 5632 → ℝ}
  {v57 : FVec Ideal S256x1024 .bf16} {v3 : Vec Ideal S2816x1024 .bf16} {v4 : Vec Ideal S256x5632 .bf16}
  (h57 : ∀ i, v57 i = ((1 / 2 * d (i 0) (i 1) : ℝ) : EReal)) (h3 : ∀ i, v3 i = ((wd (i 0) (i 1) : ℝ) : EReal))
  (h4 : ∀ i, v4 i = ((hh (i 0) (i 1) : ℝ) : EReal))

include h3 in
theorem ldw (n o : ℕ) (ho : o + n ≤ 2816) (inb) (i) : View.ld v3 (Rect.unit ![o, 0] ![n, 1024] inb) i
    = ((wd ⟨o + (i 0 : ℕ), lt_of_lt_of_le (Nat.add_lt_add_left (i 0).isLt o) ho⟩ (i 1) : ℝ) : EReal) := by
  pointwise
  exact h3 _

include h4 in
theorem ldh (n o : ℕ) (ho : o + n ≤ 5632) (inb) (i) : View.ld v4 (Rect.unit ![0, o] ![256, n] inb) i
    = ((hh (i 0) ⟨o + (i 1 : ℕ), lt_of_lt_of_le (Nat.add_lt_add_left (i 1).isLt o) ho⟩ : ℝ) : EReal) := by
  pointwise
  exact h4 _

variable (y : S256x5632.Idx)

/-- A tile that holds the gate's entries holds the row's. -/
theorem gate_tile (n o : ℕ) (ho : o + n ≤ 2816) (w : (⟨2, ![256, n]⟩ : Shape).Idx → EReal)
    (hw : ∀ i, w i = ((gate (fun a k => 1 / 2 * d a k) (fun (j : Fin n) k => wd ⟨o + (j : ℕ), by omega⟩ k) (fun a (j : Fin n) => hh a ⟨o + (j : ℕ), by omega⟩)
      (fun a (j : Fin n) => hh a ⟨2816 + o + (j : ℕ), by omega⟩) (i 0) (i 1) : ℝ) : EReal)) :
    View.TileAt (Val := Elt Ideal) (e := EltTy.bf16) y ![0, o] ![256, n] w (Cert.FfnKernel.blockDh wd hh d y) := fun x hx => by
  have e0 : y 0 = x 0 := Fin.ext (by have := hx 0; simpa using this)
  have e1 : (y 1 : ℕ) = o + (x 1 : ℕ) := hx 1
  have hlt : (x 1 : ℕ) < n := (x 1).isLt
  refine (hw x).trans (congrArg _ ?_)
  rw [← e0]
  exact Cert.FfnKernel.gate_dh (y 1) (by omega) (fun k => rfl) (fun k => congrArg (fun q => wd q k) (Fin.ext e1.symm))
    (congrArg (hh (y 0)) (Fin.ext e1.symm)) (congrArg (hh (y 0)) (Fin.ext (by show 2816 + o + (x 1 : ℕ) = 2816 + (y 1 : ℕ); omega)))

/-- A tile that holds the up half's entries holds the row's. -/
theorem up_tile (n o o' : ℕ) (ho : o + n ≤ 2816) (hoo : o' = 2816 + o) (w : (⟨2, ![256, n]⟩ : Shape).Idx → EReal)
    (hw : ∀ i, w i = ((up (fun a k => 1 / 2 * d a k) (fun (j : Fin n) k => wd ⟨o + (j : ℕ), by omega⟩ k) (fun a (j : Fin n) => hh a ⟨o + (j : ℕ), by omega⟩)
      (i 0) (i 1) : ℝ) : EReal)) :
    View.TileAt (Val := Elt Ideal) (e := EltTy.bf16) y ![0, o'] ![256, n] w (Cert.FfnKernel.blockDh wd hh d y) := fun x hx => by
  have e0 : y 0 = x 0 := Fin.ext (by have := hx 0; simpa using this)
  have e1 : (y 1 : ℕ) = o' + (x 1 : ℕ) := hx 1
  have hlt : (x 1 : ℕ) < n := (x 1).isLt
  refine (hw x).trans (congrArg _ ?_)
  rw [← e0]
  exact Cert.FfnKernel.up_dh (y 1) (by omega) (fun k => rfl) (fun k => congrArg (fun q => wd q k) (Fin.ext (by show o + (x 1 : ℕ) = (y 1 : ℕ) - 2816; omega)))
    (congrArg (hh (y 0)) (Fin.ext (by show o + (x 1 : ℕ) = (y 1 : ℕ) - 2816; omega)))

include h57 h3 h4

theorem gate_at0 : View.TileAt (Val := Elt Ideal) (e := EltTy.bf16) y ![0, 0] ![256, 768] (k0_pay26 (F := Ideal) v57 (View.ld v3 (Rect.unit ![0, 0] ![768, 1024] inb_S2816x1024_S768x1024_0_0)) (View.ld v4 (Rect.unit ![0, 0] ![256, 768] inb_S256x5632_S256x768_0_0)) (View.ld v4 (Rect.unit ![0, 2816] ![256, 768] inb_S256x5632_S256x768_0_2816))) (Cert.FfnKernel.blockDh wd hh d y) :=
  gate_tile y 768 0 (by norm_num) _ (gate768 (D := fun a k => 1 / 2 * d a k) (W := fun j k => wd ⟨0 + (j : ℕ), by omega⟩ k) (G := fun a j => hh a ⟨0 + (j : ℕ), by omega⟩)
    (U := fun a j => hh a ⟨2816 + 0 + (j : ℕ), by omega⟩) h57 (ldw h3 768 0 (by norm_num) _) (ldh h4 768 0 (by norm_num) _) (ldh h4 768 2816 (by norm_num) _))

theorem up_at0 : View.TileAt (Val := Elt Ideal) (e := EltTy.bf16) y ![0, 2816] ![256, 768] (k0_pay27 (F := Ideal) (k0_pay23 v57 (View.ld v3 (Rect.unit ![0, 0] ![768, 1024] inb_S2816x1024_S768x1024_0_0))) (k0_pay24 (View.ld v4 (Rect.unit ![0, 0] ![256, 768] inb_S256x5632_S256x768_0_0))) (k0_pay25 (View.ld v4 (Rect.unit ![0, 0] ![256, 768] inb_S256x5632_S256x768_0_0)))) (Cert.FfnKernel.blockDh wd hh d y) :=
  up_tile y 768 0 2816 (by norm_num) (by norm_num) _ (up768 (D := fun a k => 1 / 2 * d a k) (W := fun j k => wd ⟨0 + (j : ℕ), by omega⟩ k) (G := fun a j => hh a ⟨0 + (j : ℕ), by omega⟩)
    h57 (ldw h3 768 0 (by norm_num) _) (ldh h4 768 0 (by norm_num) _))

theorem gate_at768 : View.TileAt (Val := Elt Ideal) (e := EltTy.bf16) y ![0, 768] ![256, 768] (k0_pay26 (F := Ideal) v57 (View.ld v3 (Rect.unit ![768, 0] ![768, 1024] inb_S2816x1024_S768x1024_768_0)) (View.ld v4 (Rect.unit ![0, 768] ![256, 768] inb_S256x5632_S256x768_0_768)) (View.ld v4 (Rect.unit ![0, 3584] ![256, 768] inb_S256x5632_S256x768_0_3584))) (Cert.FfnKernel.blockDh wd hh d y) :=
  gate_tile y 768 768 (by norm_num) _ (gate768 (D := fun a k => 1 / 2 * d a k) (W := fun j k => wd ⟨768 + (j : ℕ), by omega⟩ k) (G := fun a j => hh a ⟨768 + (j : ℕ), by omega⟩)
    (U := fun a j => hh a ⟨2816 + 768 + (j : ℕ), by omega⟩) h57 (ldw h3 768 768 (by norm_num) _) (ldh h4 768 768 (by norm_num) _) (ldh h4 768 3584 (by norm_num) _))

theorem up_at768 : View.TileAt (Val := Elt Ideal) (e := EltTy.bf16) y ![0, 3584] ![256, 768] (k0_pay27 (F := Ideal) (k0_pay23 v57 (View.ld v3 (Rect.unit ![768, 0] ![768, 1024] inb_S2816x1024_S768x1024_768_0))) (k0_pay24 (View.ld v4 (Rect.unit ![0, 768] ![256, 768] inb_S256x5632_S256x768_0_768))) (k0_pay25 (View.ld v4 (Rect.unit ![0, 768] ![256, 768] inb_S256x5632_S256x768_0_768)))) (Cert.FfnKernel.blockDh wd hh d y) :=
  up_tile y 768 768 3584 (by norm_num) (by norm_num) _ (up768 (D := fun a k => 1 / 2 * d a k) (W := fun j k => wd ⟨768 + (j : ℕ), by omega⟩ k) (G := fun a j => hh a ⟨768 + (j : ℕ), by omega⟩)
    h57 (ldw h3 768 768 (by norm_num) _) (ldh h4 768 768 (by norm_num) _))

theorem gate_at1536 : View.TileAt (Val := Elt Ideal) (e := EltTy.bf16) y ![0, 1536] ![256, 640] (k0_pay31 (F := Ideal) v57 (View.ld v3 (Rect.unit ![1536, 0] ![640, 1024] inb_S2816x1024_S640x1024_1536_0)) (View.ld v4 (Rect.unit ![0, 1536] ![256, 640] inb_S256x5632_S256x640_0_1536)) (View.ld v4 (Rect.unit ![0, 4352] ![256, 640] inb_S256x5632_S256x640_0_4352))) (Cert.FfnKernel.blockDh wd hh d y) :=
  gate_tile y 640 1536 (by norm_num) _ (gate640 (D := fun a k => 1 / 2 * d a k) (W := fun j k => wd ⟨1536 + (j : ℕ), by omega⟩ k) (G := fun a j => hh a ⟨1536 + (j : ℕ), by omega⟩)
    (U := fun a j => hh a ⟨2816 + 1536 + (j : ℕ), by omega⟩) h57 (ldw h3 640 1536 (by norm_num) _) (ldh h4 640 1536 (by norm_num) _) (ldh h4 640 4352 (by norm_num) _))

theorem up_at1536 : View.TileAt (Val := Elt Ideal) (e := EltTy.bf16) y ![0, 4352] ![256, 640] (k0_pay32 (F := Ideal) v57 (View.ld v3 (Rect.unit ![1536, 0] ![640, 1024] inb_S2816x1024_S640x1024_1536_0)) (View.ld v4 (Rect.unit ![0, 1536] ![256, 640] inb_S256x5632_S256x640_0_1536))) (Cert.FfnKernel.blockDh wd hh d y) :=
  up_tile y 640 1536 4352 (by norm_num) (by norm_num) _ (up640 (D := fun a k => 1 / 2 * d a k) (W := fun j k => wd ⟨1536 + (j : ℕ), by omega⟩ k) (G := fun a j => hh a ⟨1536 + (j : ℕ), by omega⟩)
    h57 (ldw h3 640 1536 (by norm_num) _) (ldh h4 640 1536 (by norm_num) _))

theorem gate_at2176 : View.TileAt (Val := Elt Ideal) (e := EltTy.bf16) y ![0, 2176] ![256, 640] (k0_pay31 (F := Ideal) v57 (View.ld v3 (Rect.unit ![2176, 0] ![640, 1024] inb_S2816x1024_S640x1024_2176_0)) (View.ld v4 (Rect.unit ![0, 2176] ![256, 640] inb_S256x5632_S256x640_0_2176)) (View.ld v4 (Rect.unit ![0, 4992] ![256, 640] inb_S256x5632_S256x640_0_4992))) (Cert.FfnKernel.blockDh wd hh d y) :=
  gate_tile y 640 2176 (by norm_num) _ (gate640 (D := fun a k => 1 / 2 * d a k) (W := fun j k => wd ⟨2176 + (j : ℕ), by omega⟩ k) (G := fun a j => hh a ⟨2176 + (j : ℕ), by omega⟩)
    (U := fun a j => hh a ⟨2816 + 2176 + (j : ℕ), by omega⟩) h57 (ldw h3 640 2176 (by norm_num) _) (ldh h4 640 2176 (by norm_num) _) (ldh h4 640 4992 (by norm_num) _))

theorem up_at2176 : View.TileAt (Val := Elt Ideal) (e := EltTy.bf16) y ![0, 4992] ![256, 640] (k0_pay32 (F := Ideal) v57 (View.ld v3 (Rect.unit ![2176, 0] ![640, 1024] inb_S2816x1024_S640x1024_2176_0)) (View.ld v4 (Rect.unit ![0, 2176] ![256, 640] inb_S256x5632_S256x640_0_2176))) (Cert.FfnKernel.blockDh wd hh d y) :=
  up_tile y 640 2176 4992 (by norm_num) (by norm_num) _ (up640 (D := fun a k => 1 / 2 * d a k) (W := fun j k => wd ⟨2176 + (j : ℕ), by omega⟩ k) (G := fun a j => hh a ⟨2176 + (j : ℕ), by omega⟩)
    h57 (ldw h3 640 2176 (by norm_num) _) (ldh h4 640 2176 (by norm_num) _))

end

section
variable {r dy : Fin 256 → Fin 1024 → ℝ} {g : Fin 1024 → ℝ} {wd : Fin 2816 → Fin 1024 → ℝ} {hh : Fin 256 → Fin 5632 → ℝ}
  {v0 v17 : Vec Ideal S256x1024 .f32} {v34 : Vec Ideal S1x1024 .f32} {v3 : Vec Ideal S2816x1024 .bf16} {v4 : Vec Ideal S256x5632 .bf16}
  (h0 : ∀ i, v0 i = ((r (i 0) (i 1) : ℝ) : EReal)) (h17 : ∀ i, v17 i = ((dy (i 0) (i 1) : ℝ) : EReal))
  (h34 : ∀ i, v34 i = ((g (i 1) : ℝ) : EReal)) (h3 : ∀ i, v3 i = ((wd (i 0) (i 1) : ℝ) : EReal)) (h4 : ∀ i, v4 i = ((hh (i 0) (i 1) : ℝ) : EReal))
include h0 h17 h34 h3 h4

/-- The eight stores leave the block's hidden values' gradient. -/
theorem dh_canon (y : S256x5632.Idx) : View.canon (Val := Elt Ideal) (s := S256x5632) (e := EltTy.bf16)
    [⟨Rect.unit ![0, 4992] ![256, 640] inb_S256x5632_S256x640_0_4992, k0_pay5 (F := Ideal) (k0_pay14 (k0_pay7 v0) (k0_pay8 v0) v17 v34) (k0_pay33 (View.ld v3 (Rect.unit ![2176, 0] ![640, 1024] inb_S2816x1024_S640x1024_2176_0))) (constant S256x640 .f32 0x00000000#32) (View.ld v4 (Rect.unit ![0, 2176] ![256, 640] inb_S256x5632_S256x640_0_2176))⟩,
     ⟨Rect.unit ![0, 2176] ![256, 640] inb_S256x5632_S256x640_0_2176, k0_pay4 (F := Ideal) (k0_pay14 (k0_pay7 v0) (k0_pay8 v0) v17 v34) (k0_pay33 (View.ld v3 (Rect.unit ![2176, 0] ![640, 1024] inb_S2816x1024_S640x1024_2176_0))) (constant S256x640 .f32 0x00000000#32) (View.ld v4 (Rect.unit ![0, 2176] ![256, 640] inb_S256x5632_S256x640_0_2176)) (View.ld v4 (Rect.unit ![0, 4992] ![256, 640] inb_S256x5632_S256x640_0_4992))⟩,
     ⟨Rect.unit ![0, 4352] ![256, 640] inb_S256x5632_S256x640_0_4352, k0_pay32 (F := Ideal) (k0_pay14 (k0_pay7 v0) (k0_pay8 v0) v17 v34) (View.ld v3 (Rect.unit ![1536, 0] ![640, 1024] inb_S2816x1024_S640x1024_1536_0)) (View.ld v4 (Rect.unit ![0, 1536] ![256, 640] inb_S256x5632_S256x640_0_1536))⟩,
     ⟨Rect.unit ![0, 1536] ![256, 640] inb_S256x5632_S256x640_0_1536, k0_pay31 (F := Ideal) (k0_pay14 (k0_pay7 v0) (k0_pay8 v0) v17 v34) (View.ld v3 (Rect.unit ![1536, 0] ![640, 1024] inb_S2816x1024_S640x1024_1536_0)) (View.ld v4 (Rect.unit ![0, 1536] ![256, 640] inb_S256x5632_S256x640_0_1536)) (View.ld v4 (Rect.unit ![0, 4352] ![256, 640] inb_S256x5632_S256x640_0_4352))⟩,
     ⟨Rect.unit ![0, 3584] ![256, 768] inb_S256x5632_S256x768_0_3584, k0_pay27 (F := Ideal) (k0_pay23 (k0_pay14 (k0_pay7 v0) (k0_pay8 v0) v17 v34) (View.ld v3 (Rect.unit ![768, 0] ![768, 1024] inb_S2816x1024_S768x1024_768_0))) (k0_pay24 (View.ld v4 (Rect.unit ![0, 768] ![256, 768] inb_S256x5632_S256x768_0_768))) (k0_pay25 (View.ld v4 (Rect.unit ![0, 768] ![256, 768] inb_S256x5632_S256x768_0_768)))⟩,
     ⟨Rect.unit ![0, 768] ![256, 768] inb_S256x5632_S256x768_0_768, k0_pay26 (F := Ideal) (k0_pay14 (k0_pay7 v0) (k0_pay8 v0) v17 v34) (View.ld v3 (Rect.unit ![768, 0] ![768, 1024] inb_S2816x1024_S768x1024_768_0)) (View.ld v4 (Rect.unit ![0, 768] ![256, 768] inb_S256x5632_S256x768_0_768)) (View.ld v4 (Rect.unit ![0, 3584] ![256, 768] inb_S256x5632_S256x768_0_3584))⟩,
     ⟨Rect.unit ![0, 2816] ![256, 768] inb_S256x5632_S256x768_0_2816, k0_pay22 (F := Ideal) (k0_pay15 (k0_pay7 v0) (k0_pay8 v0) v17 v34 (View.ld v3 (Rect.unit ![0, 0] ![768, 1024] inb_S2816x1024_S768x1024_0_0))) (k0_pay16 (View.ld v4 (Rect.unit ![0, 0] ![256, 768] inb_S256x5632_S256x768_0_0))) (k0_pay18 (View.ld v4 (Rect.unit ![0, 0] ![256, 768] inb_S256x5632_S256x768_0_0))) k0_pay19⟩,
     ⟨Rect.unit ![0, 0] ![256, 768] inb_S256x5632_S256x768_0_0, k0_pay21 (F := Ideal) (k0_pay15 (k0_pay7 v0) (k0_pay8 v0) v17 v34 (View.ld v3 (Rect.unit ![0, 0] ![768, 1024] inb_S2816x1024_S768x1024_0_0))) (k0_pay16 (View.ld v4 (Rect.unit ![0, 0] ![256, 768] inb_S256x5632_S256x768_0_0))) (k0_pay17 (View.ld v4 (Rect.unit ![0, 2816] ![256, 768] inb_S256x5632_S256x768_0_2816))) (k0_pay18 (View.ld v4 (Rect.unit ![0, 0] ![256, 768] inb_S256x5632_S256x768_0_0))) k0_pay19⟩] y = Cert.FfnKernel.blockDh wd hh (fun a => dr (r a) g (dy a)) y := by
  have h57 := half_eq h0 h17 h34
  exact Cert.FfnKernel.canon8 (up_at2176 (d := fun a => dr (r a) g (dy a)) h57 h3 h4 y) (gate_at2176 (d := fun a => dr (r a) g (dy a)) h57 h3 h4 y)
    (up_at1536 (d := fun a => dr (r a) g (dy a)) h57 h3 h4 y) (gate_at1536 (d := fun a => dr (r a) g (dy a)) h57 h3 h4 y)
    (up_at768 (d := fun a => dr (r a) g (dy a)) h57 h3 h4 y) (gate_at768 (d := fun a => dr (r a) g (dy a)) h57 h3 h4 y)
    (up_at0 (d := fun a => dr (r a) g (dy a)) h57 h3 h4 y) (gate_at0 (d := fun a => dr (r a) g (dy a)) h57 h3 h4 y)

end

/-- Where each point's blocks lie. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0]
    ∧ win0_8.index t = ![0, 0] ∧ win0_9.index t = ![0, 0] :=
  (by decide +kernel : ∀ t : Fin grid0.N, _)

/-- The row of the whole array that row `a` of point `n`'s block is. -/
def row (n : ℕ) (a : Fin 256) : Fin 8192 := ⟨256 * (n % 32) + (a : ℕ), by omega⟩

section
variable (m : (ℓ : Loc nD τ sig) → Buf (Elt Ideal) ℓ) (c : Dev nD) (r dy : Fin 8192 → Fin 1024 → ℝ) (g : Fin 1024 → ℝ)
  (wd : Fin 2816 → Fin 1024 → ℝ) (hh : Fin 8192 → Fin 5632 → ℝ)

/-- The arguments, as arrays of extended reals. -/
abbrev a0 : S8192x1024.Idx → EReal := m ((c : Thread nD τ).loc main_arg0)
abbrev a1 : S8192x1024.Idx → EReal := m ((c : Thread nD τ).loc main_arg1)
abbrev a2 : S1024.Idx → EReal := m ((c : Thread nD τ).loc main_arg2)
abbrev a4 : S2816x1024.Idx → EReal := m ((c : Thread nD τ).loc main_arg4)
abbrev a5 : S8192x5632.Idx → EReal := m ((c : Thread nD τ).loc main_arg5)

/-- Five of the arguments are reals. -/
structure Args : Prop where
  dy : ∀ i, a0 m c i = ((dy (i 0) (i 1) : ℝ) : EReal)
  r : ∀ i, a1 m c i = ((r (i 0) (i 1) : ℝ) : EReal)
  g : ∀ i, a2 m c i = ((g (i 0) : ℝ) : EReal)
  wd : ∀ i, a4 m c i = ((wd (i 0) (i 1) : ℝ) : EReal)
  hh : ∀ i, a5 m c i = ((hh (i 0) (i 1) : ℝ) : EReal)

theorem V0_eq (i) : V m c main_v0 i = a2 m c (ix1 (i 1)) := by
  unfold V
  simp only [hostOps0, List.flatten_cons, List.flatten_nil, List.append_nil, List.cons_append, List.nil_append]
  after_results
  pointwise

theorem V1_eq (i) : V m c main_v1 i = a4 m c i := by
  unfold V
  simp only [hostOps0, List.flatten_cons, List.flatten_nil, List.append_nil, List.cons_append, List.nil_append]
  after_results
  pointwise

theorem iblk0 (t : Fin cfg0.N) (y) : iblk m c 0 t y = a0 m c (ix2 (row t.val (y 0)) (y 1)) := by
  have ht : t.val < 32 := lt_of_lt_of_eq t.isLt N_0
  have e : ∀ F : S8192x1024.Idx → EReal, (∀ i, V m c main_arg0 i = F i) → iblk m c 0 t y = F (ix2 (row t.val (y 0)) (y 1)) := fun F h => by
    blk_simp [iblk]
    rw [h]
    blk_ext [row, idx t]
  exact e _ fun i => congrFun (V_main_arg0 m c) i

theorem iblk1 (t : Fin cfg0.N) (y) : iblk m c 1 t y = a1 m c (ix2 (row t.val (y 0)) (y 1)) := by
  have ht : t.val < 32 := lt_of_lt_of_eq t.isLt N_0
  have e : ∀ F : S8192x1024.Idx → EReal, (∀ i, V m c main_arg1 i = F i) → iblk m c 1 t y = F (ix2 (row t.val (y 0)) (y 1)) := fun F h => by
    blk_simp [iblk]
    rw [h]
    blk_ext [row, idx t]
  exact e _ fun i => congrFun (V_main_arg1 m c) i

theorem iblk2 (t : Fin cfg0.N) (y) : iblk m c 2 t y = a2 m c (ix1 (y 1)) := by
  have e : ∀ F : S1x1024.Idx → EReal, (∀ i, V m c main_v0 i = F i) → iblk m c 2 t y = F (ix2 (y 0) (y 1)) := fun F h => by
    blk_simp [iblk]
    rw [h]
    blk_ext [row, idx t]
  exact e (fun i => a2 m c (ix1 (i 1))) fun i => V0_eq m c i

theorem iblk3 (t : Fin cfg0.N) (y) : iblk m c 3 t y = a4 m c (ix2 (y 0) (y 1)) := by
  have e : ∀ F : S2816x1024.Idx → EReal, (∀ i, V m c main_v1 i = F i) → iblk m c 3 t y = F (ix2 (y 0) (y 1)) := fun F h => by
    blk_simp [iblk]
    rw [h]
    blk_ext [row, idx t]
  exact e _ fun i => V1_eq m c i

theorem iblk4 (t : Fin cfg0.N) (y) : iblk m c 4 t y = a5 m c (ix2 (row t.val (y 0)) (y 1)) := by
  have ht : t.val < 32 := lt_of_lt_of_eq t.isLt N_0
  have e : ∀ F : S8192x5632.Idx → EReal, (∀ i, V m c main_arg5 i = F i) → iblk m c 4 t y = F (ix2 (row t.val (y 0)) (y 1)) := fun F h => by
    blk_simp [iblk]
    rw [h]
    blk_ext [row, idx t]
  exact e _ fun i => congrFun (V_main_arg5 m c) i

/-- An entry of the hidden values' gradient. -/
def dhAt (t : Fin 8192) (j : Fin 5632) : EReal := ((dh wd (hh t) (dr (r t) g (dy t)) j : ℝ) : EReal)

end

variable {m : (ℓ : Loc nD τ sig) → Buf (Elt Ideal) ℓ} {c : Dev nD} {r dy : Fin 8192 → Fin 1024 → ℝ} {g : Fin 1024 → ℝ}
  {wd : Fin 2816 → Fin 1024 → ℝ} {hh : Fin 8192 → Fin 5632 → ℝ} (ha : Args m c r dy g wd hh)
include ha

theorem blk_dy (t : Fin cfg0.N) (i) : iblk m c 0 t i = ((dy (row t.val (i 0)) (i 1) : ℝ) : EReal) := (iblk0 m c t i).trans (ha.dy _)

theorem blk_r (t : Fin cfg0.N) (i) : iblk m c 1 t i = ((r (row t.val (i 0)) (i 1) : ℝ) : EReal) := (iblk1 m c t i).trans (ha.r _)

theorem blk_g (t : Fin cfg0.N) (i) : iblk m c 2 t i = ((g (i 1) : ℝ) : EReal) := (iblk2 m c t i).trans (ha.g _)

theorem blk_wd (t : Fin cfg0.N) (i) : iblk m c 3 t i = ((wd (i 0) (i 1) : ℝ) : EReal) := (iblk3 m c t i).trans (ha.wd _)

theorem blk_hh (t : Fin cfg0.N) (i) : iblk m c 4 t i = ((hh (row t.val (i 0)) (i 1) : ℝ) : EReal) := (iblk4 m c t i).trans (ha.hh _)

theorem dr_point (t : Fin cfg0.N) (y : S256x1024.Idx) : (outsAt0 m c t.val t.isLt).1 y = ((dr (r (row t.val (y 0))) g (dy (row t.val (y 0))) (y 1) : ℝ) : EReal) := by
  by_cases h0 : t.val % 32 = 0
  · rw [outsAt0_A m c t h0]
    frame_out
    exact dr_eq (r := fun a => r (row t.val a)) (dy := fun a => dy (row t.val a)) (blk_r ha t) (blk_dy ha t) (blk_g ha t) y
  · rw [outsAt0_B m c t h0]
    frame_out
    exact dr_eq (r := fun a => r (row t.val a)) (dy := fun a => dy (row t.val a)) (blk_r ha t) (blk_dy ha t) (blk_g ha t) y

theorem half_point (t : Fin cfg0.N) (y : S256x1024.Idx) : (outsAt0 m c t.val t.isLt).2.1 y = ((1 / 2 * dr (r (row t.val (y 0))) g (dy (row t.val (y 0))) (y 1) : ℝ) : EReal) := by
  by_cases h0 : t.val % 32 = 0
  · rw [outsAt0_A m c t h0]
    frame_out
    exact half_eq (r := fun a => r (row t.val a)) (dy := fun a => dy (row t.val a)) (blk_r ha t) (blk_dy ha t) (blk_g ha t) y
  · rw [outsAt0_B m c t h0]
    frame_out
    exact half_eq (r := fun a => r (row t.val a)) (dy := fun a => dy (row t.val a)) (blk_r ha t) (blk_dy ha t) (blk_g ha t) y

theorem dh_point (t : Fin cfg0.N) (y : S256x5632.Idx) : (outsAt0 m c t.val t.isLt).2.2.1 y = dhAt r dy g wd hh (row t.val (y 0)) (y 1) := by
  by_cases h0 : t.val % 32 = 0
  · rw [outsAt0_A m c t h0]
    frame_out
    exact dh_canon (r := fun a => r (row t.val a)) (dy := fun a => dy (row t.val a)) (hh := fun a => hh (row t.val a)) (blk_r ha t) (blk_dy ha t) (blk_g ha t) (blk_wd ha t) (blk_hh ha t) y
  · rw [outsAt0_B m c t h0]
    frame_out
    exact dh_canon (r := fun a => r (row t.val a)) (dy := fun a => dy (row t.val a)) (hh := fun a => hh (row t.val a)) (blk_r ha t) (blk_dy ha t) (blk_g ha t) (blk_wd ha t) (blk_hh ha t) y

/-- The factor's gradient so far. -/
theorem gam_point (y : S1x1024.Idx) : ∀ (n : ℕ) (hn : n < cfg0.N), (outsAt0 m c n hn).2.2.2.1 y
    = ((Cert.Tiles.part row (fun t => xhat 1024 eps (r t) (y 1) * dy t (y 1)) (n + 1) : ℝ) : EReal)
  | 0, hn => by
    rw [Cert.Tiles.part_succ, Cert.Tiles.part_zero]
    refine (congrArg (fun o => o.2.2.2.1 y) (outsAt0_A m c ⟨0, hn⟩ rfl)).trans ?_
    frame_out
    exact factor_add (r := fun a => r (row (0) a)) (dy := fun a => dy (row (0) a)) (blk_r ha ⟨0, hn⟩) (blk_dy ha ⟨0, hn⟩) y 0 (zero9 y)
  | n + 1, hn => by
    have hN : n + 1 < 32 := lt_of_lt_of_eq hn N_0
    have ih := gam_point y n (Nat.lt_of_succ_lt hn)
    rw [Cert.Tiles.part_succ]
    refine (congrArg (fun o => o.2.2.2.1 y) (outsAt0_B m c ⟨n + 1, hn⟩ (by dsimp only; omega))).trans ?_
    frame_out
    exact factor_add (r := fun a => r (row (n + 1) a)) (dy := fun a => dy (row (n + 1) a)) (blk_r ha ⟨n + 1, hn⟩) (blk_dy ha ⟨n + 1, hn⟩) y _ ih

/-- The offset's gradient so far. -/
theorem bet_point (y : S1x1024.Idx) : ∀ (n : ℕ) (hn : n < cfg0.N), (outsAt0 m c n hn).2.2.2.2 y
    = ((Cert.Tiles.part row (fun t => dy t (y 1)) (n + 1) : ℝ) : EReal)
  | 0, hn => by
    rw [Cert.Tiles.part_succ, Cert.Tiles.part_zero]
    refine (congrArg (fun o => o.2.2.2.2 y) (outsAt0_A m c ⟨0, hn⟩ rfl)).trans ?_
    frame_out
    exact offset_add (dy := fun a => dy (row (0) a)) (blk_dy ha ⟨0, hn⟩) y 0 (zero10 y)
  | n + 1, hn => by
    have hN : n + 1 < 32 := lt_of_lt_of_eq hn N_0
    have ih := bet_point y n (Nat.lt_of_succ_lt hn)
    rw [Cert.Tiles.part_succ]
    refine (congrArg (fun o => o.2.2.2.2 y) (outsAt0_B m c ⟨n + 1, hn⟩ (by dsimp only; omega))).trans ?_
    frame_out
    exact offset_add (dy := fun a => dy (row (n + 1) a)) (blk_dy ha ⟨n + 1, hn⟩) y _ ih

attribute [local irreducible] dhAt

theorem dr_final : (dats m 0 c).arrAt 5 cfg0.N = fun i : S8192x1024.Idx => ((dr (r (i 0)) g (dy (i 0)) (i 1) : ℝ) : EReal) := by
  refine (dats m 0 c).arrAt_eq_of_covers 5 _ (by decide +kernel) fun t hf y => ?_
  have ht : t.val < 32 := lt_of_lt_of_eq t.isLt N_0
  have e : ∀ F : S8192x1024.Idx → EReal, F (((cfg0.win 5).blk t).view.emb y) = F (ix2 (row t.val (y 0)) (y 1)) := fun F => by
    blk_ext [row, idx t]
  rw [after0_5]
  exact (dr_point ha t y).trans (e fun i => ((dr (r (i 0)) g (dy (i 0)) (i 1) : ℝ) : EReal)).symm

theorem half_final : (dats m 0 c).arrAt 6 cfg0.N = fun i : S8192x1024.Idx => ((1 / 2 * dr (r (i 0)) g (dy (i 0)) (i 1) : ℝ) : EReal) := by
  refine (dats m 0 c).arrAt_eq_of_covers 6 _ (by decide +kernel) fun t hf y => ?_
  have ht : t.val < 32 := lt_of_lt_of_eq t.isLt N_0
  have e : ∀ F : S8192x1024.Idx → EReal, F (((cfg0.win 6).blk t).view.emb y) = F (ix2 (row t.val (y 0)) (y 1)) := fun F => by
    blk_ext [row, idx t]
  rw [after0_6]
  exact (half_point ha t y).trans (e fun i => ((1 / 2 * dr (r (i 0)) g (dy (i 0)) (i 1) : ℝ) : EReal)).symm

theorem dh_final : (dats m 0 c).arrAt 7 cfg0.N = fun i : S8192x5632.Idx => dhAt r dy g wd hh (i 0) (i 1) := by
  refine (dats m 0 c).arrAt_eq_of_covers 7 _ (by decide +kernel) fun t hf y => ?_
  have ht : t.val < 32 := lt_of_lt_of_eq t.isLt N_0
  have e : ∀ F : S8192x5632.Idx → EReal, F (((cfg0.win 7).blk t).view.emb y) = F (ix2 (row t.val (y 0)) (y 1)) := fun F => by
    blk_ext [row, idx t]
  rw [after0_7]
  exact (dh_point ha t y).trans (e fun i => dhAt r dy g wd hh (i 0) (i 1)).symm

theorem gam_final : (dats m 0 c).arrAt 8 cfg0.N = fun i : S1x1024.Idx => ((∑ t, xhat 1024 eps (r t) (i 1) * dy t (i 1) : ℝ) : EReal) := by
  refine (dats m 0 c).arrAt_eq_of_covers 8 _ (by decide +kernel) fun t hf y => ?_
  have e : ∀ F : S1x1024.Idx → EReal, F (((cfg0.win 8).blk t).view.emb y) = F (ix2 (y 0) (y 1)) := fun F => by
    blk_ext [idx t]
  have ht : t.val = 31 := by
    have h1 := (flush0_8 t).mp hf
    have h2 : t.val < 32 := lt_of_lt_of_eq t.isLt N_0
    omega
  rw [after0_8]
  refine ((gam_point ha y t.val t.isLt).trans ?_).trans (e fun i => ((∑ t, xhat 1024 eps (r t) (i 1) * dy t (i 1) : ℝ) : EReal)).symm
  rw [ht]
  exact congrArg _ (Cert.Tiles.part_all row _ 32 (by norm_num) fun s a hs => by
    show 256 * (s % 32) + (a : ℕ) = _
    rw [Nat.mod_eq_of_lt hs])

theorem bet_final : (dats m 0 c).arrAt 9 cfg0.N = fun i : S1x1024.Idx => ((∑ t, dy t (i 1) : ℝ) : EReal) := by
  refine (dats m 0 c).arrAt_eq_of_covers 9 _ (by decide +kernel) fun t hf y => ?_
  have e : ∀ F : S1x1024.Idx → EReal, F (((cfg0.win 9).blk t).view.emb y) = F (ix2 (y 0) (y 1)) := fun F => by
    blk_ext [idx t]
  have ht : t.val = 31 := by
    have h1 := (flush0_9 t).mp hf
    have h2 : t.val < 32 := lt_of_lt_of_eq t.isLt N_0
    omega
  rw [after0_9]
  refine ((bet_point ha y t.val t.isLt).trans ?_).trans (e fun i => ((∑ t, dy t (i 1) : ℝ) : EReal)).symm
  rw [ht]
  exact congrArg _ (Cert.Tiles.part_all row _ 32 (by norm_num) fun s a hs => by
    show 256 * (s % 32) + (a : ℕ) = _
    rw [Nat.mod_eq_of_lt hs])

end Cert.FfbKernel

namespace Cert.FfbClaim

open Idealize.ShloMosaic Idealize.SL.Sem Cert.Reals
open scoped BigOperators

/-- The idealized reference ends with its arguments unchanged and its counters at zero. -/
theorem frame_reference : Cert.quiescent_FfbRefIdeal :=
  fun m ρ _ => (θ_run Cert.FfbRefIdeal.defs _ _).mono
    (fun r h => ⟨fun c => (h c).2.2.2.2.2, sem_eq_zero_of_no_sems (by decide) r.2⟩) (Cert.FfbRefIdeal.Value.run (F := Ideal) m ρ)

/-- The word of infinity in the short format. -/
theorem ofBits_inf : (FloatOps.ofBits (F := Ideal) .bf16 0x7F80#16 : EReal) = ⊤ := by
  simp [FloatOps.ofBits, Ideal.ofBits, Ideal.ieee]

/-- A short-format array whose absolute values are all below infinity holds reals. -/
theorem real_of_lt {s t u v : Shape} {axes : List (Fin s.rank)} {d : Fin u.rank → Fin s.rank} (a : FVec Ideal s .bf16)
    (hb : u.BroadcastsInDim s d) (o : IVec v 1) (hr : s.ReducesTo axes t) (hv : 0 < v.numel) (ht : ∀ a b : t.Idx, a = b) (j : t.Idx)
    (e : Host.reduce IntOp.andi (cmpf .olt (Host.absf a) (broadcastInDim s d hb (constant u .bf16 0x7F80#16))) o hr hv j = 1#1)
    (i : s.Idx) : ∃ r : ℝ, a i = ((r : ℝ) : EReal) := by
  have h := Cert.Finite.reduce_bits _ _ hr hv ht j e i
  refine Cert.Reals.exists_real _ ?_
  by_contra hn
  have h2 : (Ideal.cmp .olt (max (a i) (-(a i))) (FloatOps.ofBits (F := Ideal) .bf16 0x7F80#16) : BitVec 1) = 1#1 := h
  rw [ofBits_inf] at h2
  simp [Ideal.cmp, hn] at h2

/-- Under the precondition five of the arguments are reals. -/
theorem args_of (m : (ℓ : Loc Cert.FfbIdeal.nD Cert.FfbIdeal.τ Cert.FfbIdeal.sig) → Buf (Elt Ideal) ℓ) (hp : Cert.Pre_FfbIdeal_ffb_finite m) (c : Dev Cert.FfbIdeal.nD) :
    ∃ r dy g wd hh, Cert.FfbKernel.Args m c r dy g wd hh := by
  have ht : ∀ a b : Cert.Pre_ffb_finite.S_.Idx, a = b := fun a b => funext fun k => k.elim0
  have e0 := congrFun (hp c) (fun k => k.elim0)
  simp only [Cert.Pre_ffb_finite.fn, Cert.Pre_ffb_finite.fn_part1, andi, Cert.Finite.and_bits] at e0
  obtain ⟨⟨⟨⟨h0, h1⟩, h2⟩, h4⟩, h5⟩ := e0
  choose dy hdy using Cert.Finite.real_of_lt _ _ _ _ _ ht _ h0
  choose r hr using Cert.Finite.real_of_lt _ _ _ _ _ ht _ h1
  choose g hg using Cert.Finite.real_of_lt _ _ _ _ _ ht _ h2
  choose wd hwd using Cert.Finite.real_of_lt _ _ _ _ _ ht _ h4
  choose hh hhh using real_of_lt _ _ _ _ _ ht _ h5
  exact ⟨fun a b => r (ValueIdx.ix2 a b), fun a b => dy (ValueIdx.ix2 a b), fun a => g (ValueIdx.ix1 a), fun a b => wd (ValueIdx.ix2 a b), fun a b => hh (ValueIdx.ix2 a b),
    fun i => (hdy i).trans (congrArg (fun k => ((dy k : ℝ) : EReal)) (ValueIdx.eq_ix2 i)),
    fun i => (hr i).trans (congrArg (fun k => ((r k : ℝ) : EReal)) (ValueIdx.eq_ix2 i)),
    fun i => (hg i).trans (congrArg (fun k => ((g k : ℝ) : EReal)) (ValueIdx.eq_ix1 i)),
    fun i => (hwd i).trans (congrArg (fun k => ((wd k : ℝ) : EReal)) (ValueIdx.eq_ix2 i)),
    fun i => (hhh i).trans (congrArg (fun k => ((hh k : ℝ) : EReal)) (ValueIdx.eq_ix2 i))⟩

section
open Cert.FfbRefIdeal Cert.FfbRefIdeal.Gen Cert.FfbKernel
open Cert.Ffn (dr dh dup dh_lo dh_hi lo hi da)

/-- Half of a gradient. -/
def half (R : FVec Ideal S8192x1024 .f32) : FVec Ideal S8192x1024 .f32 :=
  mulf (broadcastInDim S8192x1024 ![] bcast_S_S8192x1024 (constant S_ .f32 0x3F000000#32)) R

/-- The gated activation's gradient. -/
def act (R : FVec Ideal S8192x1024 .f32) (W : FVec Ideal S2816x1024 .f32) : FVec Ideal S8192x2816 .f32 :=
  Host.dotGeneral dot_S8192x1024_S2816x1024_S8192x2816_1_1_0_0_n_n none (half R) W

/-- The gate half of the hidden values, and the up half. -/
def low (A : FVec Ideal S8192x5632 .bf16) : FVec Ideal S8192x2816 .f32 :=
  extractStridedSlice S8192x2816 ![0, 0] (extf .f32 A bitsLt_bf16_f32) slices_S8192x5632_S8192x2816_0_0

def high (A : FVec Ideal S8192x5632 .bf16) : FVec Ideal S8192x2816 .f32 :=
  extractStridedSlice S8192x2816 ![0, 2816] (extf .f32 A bitsLt_bf16_f32) slices_S8192x5632_S8192x2816_0_2816

/-- Ones. -/
def ones : FVec Ideal S8192x2816 .f32 := broadcastInDim S8192x2816 ![] bcast_S_S8192x2816 (constant S_ .f32 0x3F800000#32)

/-- The gate's logistic function. -/
def logi (A : FVec Ideal S8192x5632 .bf16) : FVec Ideal S8192x2816 .f32 := Host.divf ones (addf ones (Host.exp (Host.negf (low A))))

/-- The hidden values' gradient. -/
def hid (R : FVec Ideal S8192x1024 .f32) (W : FVec Ideal S2816x1024 .f32) (A : FVec Ideal S8192x5632 .bf16) : FVec Ideal S8192x5632 .bf16 :=
  truncf .bf16 (concatenate S8192x5632 1 [⟨S8192x2816, (addf (mulf (mulf (act R W) (high A)) (logi A)) (mulf (mulf (low A) (mulf (act R W) (high A))) (mulf (logi A) (subf ones (logi A)))))⟩, ⟨S8192x2816, (mulf (mulf (low A) (logi A)) (act R W))⟩] concatenates_S8192x2816_S8192x2816_S8192x5632_d1) bitsLt_bf16_f32

variable {R : FVec Ideal S8192x1024 .f32} {W : FVec Ideal S2816x1024 .f32} {A : FVec Ideal S8192x5632 .bf16}
  {d : Fin 8192 → Fin 1024 → ℝ} {wd : Fin 2816 → Fin 1024 → ℝ} {hh : Fin 8192 → Fin 5632 → ℝ}
  (hR : ∀ i, R i = ((d (i 0) (i 1) : ℝ) : EReal)) (hW : ∀ i, W i = ((wd (i 0) (i 1) : ℝ) : EReal)) (hA : ∀ i, A i = ((hh (i 0) (i 1) : ℝ) : EReal))

include hR in
theorem half_eq (i) : half R i = ((1 / 2 * d (i 0) (i 1) : ℝ) : EReal) := by
  pointwise [half]
  rw [hR, ofBits_half, mul_coe]

include hR hW in
theorem act_eq (i) : act R W i = ((da wd (d (i 0)) (i 1) : ℝ) : EReal) := by
  pointwise [act]
  simp only [half_eq hR, hW, mul_coe, sum_coe]
  rfl

include hA in
theorem low_eq (i) : low A i = ((lo (hh (i 0)) (i 1) : ℝ) : EReal) := by
  pointwise [low]
  rw [hA]
  rfl

include hA in
theorem high_eq (i) : high A i = ((hi (hh (i 0)) (i 1) : ℝ) : EReal) := by
  pointwise [high]
  rw [hA]
  rfl

theorem ones_eq (i) : ones i = ((1 : ℝ) : EReal) := by
  pointwise [ones]
  first | rfl | exact Cert.FfnKernel.one_bits

include hA in
theorem logi_eq (i) : logi A i = ((sg (lo (hh (i 0)) (i 1)) : ℝ) : EReal) := by
  pointwise [logi]
  rw [low_eq hA, ones_eq]
  exact logistic_coe _

include hR hW hA in
theorem hid_eq (i) : hid R W A i = ((dh wd (hh (i 0)) (d (i 0)) (i 1) : ℝ) : EReal) := by
  pointwise [hid]
  simp only [act_eq hR hW, low_eq hA, high_eq hA, ones_eq, logi_eq hA, mul_coe, sub_coe, add_coe]
  split
  · rename_i hj
    rw [dh_lo _ _ _ _ hj, EReal.coe_eq_coe_iff]
    have e : ∀ a u s g : ℝ, a * u * s + g * (a * u) * (s * (1 - s)) = a * u * (s * (1 + g * (1 - s))) := fun a u s g => by ring
    exact e _ _ _ _
  · rename_i hj
    rw [dh_hi _ _ _ _ hj, EReal.coe_eq_coe_iff, dup, mul_comm]
    rfl

end

/-- From equal arguments, five of them real, both programs leave the same results. -/
theorem algebraic : Cert.algebraic_FfbIdeal_FfbRefIdeal_pre_ffb_finite := by
  intro m g m' g' hp hm
  refine ⟨fun c => (Cert.FfbIdeal.Gen.dats m 0 c).arrAt 5 Cert.FfbIdeal.cfg0.N, fun c => (Cert.FfbIdeal.Gen.dats m 0 c).arrAt 6 Cert.FfbIdeal.cfg0.N, fun c => (Cert.FfbIdeal.Gen.dats m 0 c).arrAt 7 Cert.FfbIdeal.cfg0.N, fun c => (Cert.FfbIdeal.Gen.dats m 0 c).arrAt 8 Cert.FfbIdeal.cfg0.N, fun c => (Cert.FfbIdeal.Gen.dats m 0 c).arrAt 9 Cert.FfbIdeal.cfg0.N, Cert.FfbIdeal.Value.run_blocks m g, ?_⟩
  refine (θ_run _ _ _).mono (fun r h c => ?_) (Cert.FfbRefIdeal.Value.run m' g')
  obtain ⟨x, dy, ga, wd, hh, ha⟩ := args_of m hp c
  obtain ⟨e0, e1, e2, e3, e4, e5⟩ := hm c
  obtain ⟨r0, r1, r2, r3, r4, k⟩ := h c
  have hR : ∀ i, (m' ((c.tc : Thread _ _).loc Cert.FfbRefIdeal.main_arg1)) i = ((x (i 0) (i 1) : ℝ) : EReal) := fun i => (congrFun e1 i).trans (ha.r i)
  have hD : ∀ i, (m' ((c.tc : Thread _ _).loc Cert.FfbRefIdeal.main_arg0)) i = ((dy (i 0) (i 1) : ℝ) : EReal) := fun i => (congrFun e0 i).trans (ha.dy i)
  have hG : ∀ i, (m' ((c.tc : Thread _ _).loc Cert.FfbRefIdeal.main_arg2)) i = ((ga (i 0) : ℝ) : EReal) := fun i => (congrFun e2 i).trans (ha.g i)
  have hW : ∀ i, (m' ((c.tc : Thread _ _).loc Cert.FfbRefIdeal.main_arg4)) i = ((wd (i 0) (i 1) : ℝ) : EReal) := fun i => (congrFun e4 i).trans (ha.wd i)
  have hH : ∀ i, (m' ((c.tc : Thread _ _).loc Cert.FfbRefIdeal.main_arg5)) i = ((hh (i 0) (i 1) : ℝ) : EReal) := fun i => (congrFun e5 i).trans (ha.hh i)
  have u0 : Cert.FfbRefIdeal.Value.res_main_v62 m' c = Cert.LnRef.grad (m' ((c.tc : Thread _ _).loc Cert.FfbRefIdeal.main_arg1)) (m' ((c.tc : Thread _ _).loc Cert.FfbRefIdeal.main_arg0)) (m' ((c.tc : Thread _ _).loc Cert.FfbRefIdeal.main_arg2)) := by
    unfold Cert.FfbRefIdeal.Value.res_main_v62
    rfl
  have u1 : Cert.FfbRefIdeal.Value.res_main_v80 m' c = truncf .bf16 (half (Cert.LnRef.grad (m' ((c.tc : Thread _ _).loc Cert.FfbRefIdeal.main_arg1)) (m' ((c.tc : Thread _ _).loc Cert.FfbRefIdeal.main_arg0)) (m' ((c.tc : Thread _ _).loc Cert.FfbRefIdeal.main_arg2)))) Cert.FfbRefIdeal.Gen.bitsLt_bf16_f32 := by
    unfold Cert.FfbRefIdeal.Value.res_main_v80
    rfl
  have u2 : Cert.FfbRefIdeal.Value.res_main_v81 m' c = hid (Cert.LnRef.grad (m' ((c.tc : Thread _ _).loc Cert.FfbRefIdeal.main_arg1)) (m' ((c.tc : Thread _ _).loc Cert.FfbRefIdeal.main_arg0)) (m' ((c.tc : Thread _ _).loc Cert.FfbRefIdeal.main_arg2))) (m' ((c.tc : Thread _ _).loc Cert.FfbRefIdeal.main_arg4)) (m' ((c.tc : Thread _ _).loc Cert.FfbRefIdeal.main_arg5)) := by
    unfold Cert.FfbRefIdeal.Value.res_main_v81
    rfl
  have b := Cert.LnRef.grad_eq hR hD hG
  refine ⟨(r0.trans u0).trans ?_, (r1.trans u1).trans ?_, (r2.trans u2).trans ?_, r3.trans ?_, r4.trans ?_, k⟩
  · exact (funext fun i => b i).trans (Cert.FfbKernel.dr_final ha).symm
  · exact (funext fun i => half_eq (d := fun a => Cert.Ffn.dr (x a) ga (dy a)) b i).trans (Cert.FfbKernel.half_final ha).symm
  · refine (funext fun i => ?_).trans (Cert.FfbKernel.dh_final ha).symm
    unfold Cert.FfbKernel.dhAt
    exact hid_eq (d := fun a => Cert.Ffn.dr (x a) ga (dy a)) b hW hH i
  · exact (funext fun i => Cert.LnRef.factor_eq hR hD i).trans (Cert.FfbKernel.gam_final ha).symm
  · exact (funext fun i => Cert.LnRef.offset_eq hD i).trans (Cert.FfbKernel.bet_final ha).symm

end Cert.FfbClaim
-- ==== Proof.AttfSpec.lean ====
/- Attention of one query in one head, over the extended reals. -/
module

public import proofs.«01_k».proof.Defs
public import proofs.«01_k».proof.Proof.Reals

@[expose] public section

noncomputable section

namespace Cert.AttfSpec

open Idealize.ShloMosaic
open scoped BigOperators

/-- The largest of the scores and the sink. -/
def peak (s : Fin 384 → EReal) (sk : EReal) : EReal := max ((Finset.univ : Finset (Fin 384)).fold max ⊥ s) sk

/-- Attention of one query in one head: its scores, the head's sink and one column of the values. -/
def att (s : Fin 384 → EReal) (sk : EReal) (v : Fin 384 → EReal) : EReal :=
  (∑ k, Ideal.exp (s k - peak s sk) * v k) * Ideal.div 1 ((∑ k, Ideal.exp (s k - peak s sk)) + Ideal.exp (sk - peak s sk))

theorem exp_nonneg (x : EReal) : 0 ≤ Ideal.exp x := by
  induction x using EReal.rec with
  | bot => exact le_refl _
  | coe r => exact EReal.coe_nonneg.2 (Real.exp_pos r).le
  | top => exact le_top

theorem total_pos (s : Fin 384 → EReal) (sk : ℝ) (hs : ∀ k, s k ≠ ⊤) :
    0 < (∑ k, Ideal.exp (s k - peak s sk)) + Ideal.exp ((sk : EReal) - peak s sk) := by
  have h1 : peak s sk < ⊤ := max_lt ((Finset.fold_max_lt _).2 ⟨bot_lt_top, fun k _ => lt_top_iff_ne_top.2 (hs k)⟩) (EReal.coe_lt_top sk)
  have h2 : ⊥ < peak s sk := lt_of_lt_of_le (EReal.bot_lt_coe sk) (le_max_right _ _)
  obtain ⟨p, hp⟩ : ∃ p : ℝ, peak s sk = p := ⟨_, (EReal.coe_toReal h1.ne h2.ne').symm⟩
  rw [hp]
  have h3 : 0 < Ideal.exp ((sk : EReal) - (p : EReal)) := by
    rw [Cert.Reals.sub_coe, Cert.Reals.exp_coe]
    exact EReal.coe_pos.2 (Real.exp_pos _)
  exact lt_of_lt_of_le h3 (le_add_of_nonneg_left (Finset.sum_nonneg fun k _ => exp_nonneg _))

/-- Dividing the weighted sum is multiplying it by the reciprocal, for the total is not zero. -/
theorem att_div (s : Fin 384 → EReal) (sk : ℝ) (v : Fin 384 → EReal) (hs : ∀ k, s k ≠ ⊤) :
    Ideal.div (∑ k, v k * Ideal.exp (s k - peak s sk)) ((∑ k, Ideal.exp (s k - peak s sk)) + Ideal.exp ((sk : EReal) - peak s sk)) = att s sk v := by
  have h := (total_pos s sk hs).ne'
  unfold att Ideal.div
  rw [if_neg h, if_neg h, one_mul]
  congr 1
  exact Finset.sum_congr rfl fun k _ => mul_comm _ _

/-- Values that meet no score do not matter. -/
theorem att_congr {s s' : Fin 384 → EReal} {sk sk' : EReal} {v v' : Fin 384 → EReal} (hs : ∀ k, s k = s' k) (hsk : sk = sk')
    (hv : ∀ k, s' k ≠ ⊥ → v k = v' k) : att s sk v = att s' sk' v' := by
  obtain rfl : s = s' := funext hs
  subst hsk
  unfold att
  congr 1
  refine Finset.sum_congr rfl fun k _ => ?_
  by_cases h : s k = ⊥
  · rw [h, EReal.bot_sub, Ideal.exp_bot, zero_mul, zero_mul]
  · rw [hv k h]

end Cert.AttfSpec
-- ==== Proof.AttfBlock.lean ====
/- What one point of the kernel's grid computes: attention of 512 queries, 128 at a time, head by head. -/
module

public import proofs.«01_k».proof.Defs
public import proofs.«01_k».proof.Proof.Gen.AttfIdeal.Value
public import proofs.«01_k».proof.Proof.AttfSpec
public import Idealize.ShloMosaic.Lib.Pipeline.ValueKit
public import Idealize.ShloMosaic.Lib.Pipeline.ReadBack
public import Idealize.ShloMosaic.Lib.IdealHost

@[expose] public section

set_option maxRecDepth 16384

noncomputable section

namespace Cert.AttfKernel

open Cert.AttfSpec

open Cert.AttfIdeal Cert.AttfIdeal.Gen Idealize.ShloMosaic Idealize.ShloMosaic.TcCoe Idealize.SL.Sem
open scoped BigOperators

variable (m : (ℓ : Loc nD τ sig) → Buf (Elt Ideal) ℓ) (c : Dev nD)

/-- Three blocks of rows under one another. -/
def cat (a b c : FVec Ideal S128x64 .bf16) (k : Fin 384) (d : Fin 64) : EReal :=
  if h : k.val < 128 then a (ix2 ⟨k.val, h⟩ d) else if h : k.val - 128 < 128 then b (ix2 ⟨k.val - 128, h⟩ d)
    else c (ix2 ⟨k.val - 128 - 128, by omega⟩ d)

theorem scores_apply (q k0 k1 k2 : FVec Ideal S128x64 .bf16) (b : FVec Ideal S1x128x384 .f32) (i : S128x384.Idx) :
    k0_pay30 (F := Ideal) (k0_pay13 k0 k1 k2) q b i = (∑ d, q (ix2 (i 0) d) * cat k0 k1 k2 (i 1) d) + b (ix3 0 (i 0) (i 1)) := by
  pointwise [k0_pay30, k0_pay13, cat]

theorem ofBits_neg_inf : Ideal.ofBits FTy.f32 4286578688#32 = ⊥ := by
  simp [Ideal.ofBits, Ideal.ieee]

theorem unit_apply (s : FVec Ideal S128x384 .f32) (v : FVec Ideal S384x64 .bf16) (sk) (x : S128x64.Idx) :
    k0_pay1 (k0_pay129 s sk) (k0_pay130 v s sk) (FloatOps.ofBits FTy.f32 1065353216#32) x = att (fun k => s (ix2 (x 0) k)) sk (fun k => v (ix2 k (x 1))) := by
  pointwise [k0_pay1, k0_pay129, k0_pay130, k0_pay128, k0_pay127, att, peak]
  rw [ofBits_neg_inf]

theorem vals_apply (v0 v1 v2 : FVec Ideal S128x64 .bf16) (i : S384x64.Idx) : k0_pay14 (F := Ideal) v0 v1 v2 i = cat v0 v1 v2 (i 0) (i 1) := by
  pointwise [k0_pay14, cat]

/-- Whether query `r` of block `b` sees column `k` of its band. -/
def seen (b : BitVec 32) (r k : ℕ) : BitVec 1 :=
  IntOp.andi
    (IntOp.andi
      (IntOp.cmpi CmpIPredicate.sle
        (IntOp.absi (IntOp.subi (BitVec.ofNat 32 r) (IntOp.subi (BitVec.ofNat 32 k) 128#32))) 128#32)
      (IntOp.ori (IntOp.cmpi CmpIPredicate.sge (BitVec.ofNat 32 k) 128#32) (Scalar.cmpi CmpIPredicate.sgt b 0#32)))
    (IntOp.ori (IntOp.cmpi CmpIPredicate.slt (BitVec.ofNat 32 k) 256#32) (Scalar.cmpi CmpIPredicate.slt b 63#32))

/-- What is added to a score: nothing, or minus infinity where the query does not see the key. -/
def bias (b : BitVec 32) (r k : ℕ) : EReal := Scalar.select (seen b r k) 0 ⊥

theorem mask_named : (Named.named κ "mask" 4048155338#32 : Ideal .f32) = (⊥ : EReal) := by
  rfl

theorem bias0 (i : grid0.Coords) (x) : k0_pay2 (F := Ideal) i x = bias (Scalar.addi (Scalar.muli (BitVec.ofNat 32 (i 0)) 4#32) 0#32) (x 1) (x 2) := by
  pointwise [k0_pay2]
  rw [mask_named]; rfl

theorem bias1 (i : BitVec 32) (x) : k0_pay5 (F := Ideal) (Scalar.addi (Scalar.muli i 4#32) 1#32) (iota Kind.tc S128x384 32 [1] iota_S128x384_d1_w32) k0_pay3 k0_pay4 x = bias (Scalar.addi (Scalar.muli i 4#32) 1#32) (x 1) (x 2) := by
  pointwise [k0_pay5, k0_pay3, k0_pay4]
  rw [mask_named]; rfl

theorem bias2 (i : BitVec 32) (x) : k0_pay7 (k0_pay6 (F := Ideal) i) x = bias (Scalar.addi (Scalar.muli i 4#32) 2#32) (x 1) (x 2) := by
  pointwise [k0_pay6, k0_pay7]
  rw [mask_named]; rfl

theorem bias3 (i : BitVec 32) (x) : k0_pay8 (F := Ideal) i x = bias (Scalar.addi (Scalar.muli i 4#32) 3#32) (x 1) (x 2) := by
  pointwise [k0_pay8]
  rw [mask_named]; rfl

/-- A row of the keys (or values) around a tile: 128 before it, its 512, 128 after it. -/
def near (a : FVec Ideal S128x128 .bf16) (o : FVec Ideal S512x128 .bf16) (n : FVec Ideal S128x128 .bf16) (p d : ℕ) : EReal :=
  if h : p < 128 ∧ d < 128 then a (ix2 ⟨p, h.1⟩ ⟨d, h.2⟩)
  else if h : p - 128 < 512 ∧ d < 128 then o (ix2 ⟨p - 128, h.1⟩ ⟨d, h.2⟩)
  else if h : p - 128 - 512 < 128 ∧ d < 128 then n (ix2 ⟨p - 128 - 512, h.1⟩ ⟨d, h.2⟩) else 0

variable (a : FVec Ideal S128x128 .bf16) (o : FVec Ideal S512x128 .bf16) (n : FVec Ideal S128x128 .bf16)

theorem cat0 (e : ℕ) (he : e < 65) (i0 i1 i2) (k : Fin 384) (d : Fin 64) :
    cat (View.ld (Val := Elt Ideal) (e' := .bf16) (S := S128x128) a (Rect.unit ![0, e] ![128, 64] i0)) (View.ld (Val := Elt Ideal) (e' := .bf16) (S := S512x128) o (Rect.unit ![0, e] ![128, 64] i1)) (View.ld (Val := Elt Ideal) (e' := .bf16) (S := S512x128) o (Rect.unit ![128, e] ![128, 64] i2)) k d = near a o n (128 * 0 + k.val) (e + d.val) := by
  have := k.isLt
  have := d.isLt
  unfold cat near
  split_ifs <;> first
    | omega
    | (refine View.ld_unit_apply_of _ _ _ _ _ _ ?_
       intro ax
       fin_cases ax <;> simp <;> omega)

theorem cat1 (e : ℕ) (he : e < 65) (i0 i1 i2) (k : Fin 384) (d : Fin 64) :
    cat (View.ld (Val := Elt Ideal) (e' := .bf16) (S := S512x128) o (Rect.unit ![0, e] ![128, 64] i0)) (View.ld (Val := Elt Ideal) (e' := .bf16) (S := S512x128) o (Rect.unit ![128, e] ![128, 64] i1)) (View.ld (Val := Elt Ideal) (e' := .bf16) (S := S512x128) o (Rect.unit ![256, e] ![128, 64] i2)) k d = near a o n (128 * 1 + k.val) (e + d.val) := by
  have := k.isLt
  have := d.isLt
  unfold cat near
  split_ifs <;> first
    | omega
    | (refine View.ld_unit_apply_of _ _ _ _ _ _ ?_
       intro ax
       fin_cases ax <;> simp <;> omega)

theorem cat2 (e : ℕ) (he : e < 65) (i0 i1 i2) (k : Fin 384) (d : Fin 64) :
    cat (View.ld (Val := Elt Ideal) (e' := .bf16) (S := S512x128) o (Rect.unit ![128, e] ![128, 64] i0)) (View.ld (Val := Elt Ideal) (e' := .bf16) (S := S512x128) o (Rect.unit ![256, e] ![128, 64] i1)) (View.ld (Val := Elt Ideal) (e' := .bf16) (S := S512x128) o (Rect.unit ![384, e] ![128, 64] i2)) k d = near a o n (128 * 2 + k.val) (e + d.val) := by
  have := k.isLt
  have := d.isLt
  unfold cat near
  split_ifs <;> first
    | omega
    | (refine View.ld_unit_apply_of _ _ _ _ _ _ ?_
       intro ax
       fin_cases ax <;> simp <;> omega)

theorem cat3 (e : ℕ) (he : e < 65) (i0 i1 i2) (k : Fin 384) (d : Fin 64) :
    cat (View.ld (Val := Elt Ideal) (e' := .bf16) (S := S512x128) o (Rect.unit ![256, e] ![128, 64] i0)) (View.ld (Val := Elt Ideal) (e' := .bf16) (S := S512x128) o (Rect.unit ![384, e] ![128, 64] i1)) (View.ld (Val := Elt Ideal) (e' := .bf16) (S := S128x128) n (Rect.unit ![0, e] ![128, 64] i2)) k d = near a o n (128 * 3 + k.val) (e + d.val) := by
  have := k.isLt
  have := d.isLt
  unfold cat near
  split_ifs <;> first
    | omega
    | (refine View.ld_unit_apply_of _ _ _ _ _ _ ?_
       intro ax
       fin_cases ax <;> simp <;> omega)

/-- One head of one block of queries, as the kernel computes it. -/
def unit (q k0 k1 k2 v0 v1 v2 : FVec Ideal S128x64 .bf16) (b : FVec Ideal S1x128x384 .f32) (sk : Elt Ideal .f32) : FVec Ideal S128x64 .bf16 :=
  k0_pay1 (k0_pay129 (k0_pay30 (F := Ideal) (k0_pay13 k0 k1 k2) q b) sk) (k0_pay130 (k0_pay14 v0 v1 v2) (k0_pay30 (F := Ideal) (k0_pay13 k0 k1 k2) q b) sk) (FloatOps.ofBits FTy.f32 1065353216#32)

/-- What one point of the grid leaves: attention of its 512 queries. -/
def tile (t : ℕ) (q : FVec Ideal S512x512 .bf16) (a : FVec Ideal S128x128 .bf16) (o : FVec Ideal S512x128 .bf16) (n : FVec Ideal S128x128 .bf16)
    (a' : FVec Ideal S128x128 .bf16) (o' : FVec Ideal S512x128 .bf16) (n' : FVec Ideal S128x128 .bf16) (sk : FVec Ideal S8 .f32) (y : S512x512.Idx) : EReal :=
  att (fun k => (∑ d : Fin 64, q (ix2 (y 0) ⟨(y 1).val / 64 * 64 + d.val, by have : (y 1).val < 512 := (y 1).isLt; omega⟩)
        * near a o n (128 * ((y 0).val / 128) + k.val) (64 * ((y 1).val / 256) + d.val))
      + bias (Scalar.addi (Scalar.muli (BitVec.ofNat 32 t) 4#32) (BitVec.ofNat 32 ((y 0).val / 128))) ((y 0).val % 128) k.val)
    (sk (ix1 ⟨(y 1).val / 64, by have : (y 1).val < 512 := (y 1).isLt; omega⟩))
    (fun k => near a' o' n' (128 * ((y 0).val / 128) + k.val) (64 * ((y 1).val / 256) + (y 1).val % 64))

theorem unit_eq (t : ℕ) (q : FVec Ideal S512x512 .bf16) (a' : FVec Ideal S128x128 .bf16) (o' : FVec Ideal S512x128 .bf16) (n' : FVec Ideal S128x128 .bf16)
    (sk : FVec Ideal S8 .f32) (s h : ℕ) (hh : h < 8) (r0 r1 e : ℕ) (hr0 : r0 = 128 * s) (hr1 : r1 = 64 * h) (he : e = 64 * (h / 4))
    (k0 k1 k2 v0 v1 v2 : FVec Ideal S128x64 .bf16) (B : FVec Ideal S1x128x384 .f32)
    (SK : Elt Ideal .f32) (inb) (x : S128x64.Idx) (y : S512x512.Idx) (hx : ∀ ax, (y ax).val = ![r0, r1] ax + (x ax).val)
    (hk : ∀ k d, cat k0 k1 k2 k d = near a o n (128 * s + k.val) (e + d.val))
    (hv : ∀ k d, cat v0 v1 v2 k d = near a' o' n' (128 * s + k.val) (e + d.val))
    (hB : ∀ i, B i = bias (Scalar.addi (Scalar.muli (BitVec.ofNat 32 t) 4#32) (BitVec.ofNat 32 s)) (i 1).val (i 2).val)
    (hsk : SK = sk (ix1 ⟨h, hh⟩)) :
    unit (View.ld (Val := Elt Ideal) (e' := .bf16) (S := S512x512) q (Rect.unit ![r0, r1] ![128, 64] inb)) k0 k1 k2 v0 v1 v2 B SK x
      = tile t q a o n a' o' n' sk y := by
  have h0 : (y 0).val = r0 + (x 0).val := hx 0
  have h1 : (y 1).val = r1 + (x 1).val := hx 1
  have l0 : (x 0).val < 128 := (x 0).isLt
  have l1 : (x 1).val < 64 := (x 1).isLt
  have e0 : (y 0).val / 128 = s := by omega
  have e1 : (y 1).val / 64 = h := by omega
  have e2 : (y 1).val / 256 = h / 4 := by omega
  have e3 : (y 0).val % 128 = (x 0).val := by omega
  have e4 : (y 1).val % 64 = (x 1).val := by omega
  unfold unit tile
  rw [unit_apply]
  congr 1
  · funext k
    rw [scores_apply, hB]
    congr 1
    · refine Finset.sum_congr rfl fun d _ => ?_
      congr 1
      · refine View.ld_unit_apply_of _ _ _ _ _ _ ?_
        intro ax
        fin_cases ax
        · exact h0
        · show (y 1).val / 64 * 64 + d.val = r1 + d.val
          omega
      · refine (hk k d).trans ?_
        rw [e0, e2, he]
    · rw [e0, e3]
      rfl
  · rw [hsk]
    congr 2
    exact Fin.ext e1.symm
  · funext k
    rw [vals_apply]
    refine (hv k (x 1)).trans ?_
    rw [e0, e2, e4, he]

variable (m : (ℓ : Loc nD τ sig) → Buf (Elt Ideal) ℓ) (c : Dev nD)

theorem read1 (t : Fin cfg0.N) (h : (ms0_1 t).IsWhole) (X) : View.read (Elt Ideal) (ms0_1 t).view (h.unread X) = X := h.read_unread X

theorem read2 (t : Fin cfg0.N) (h : (ms0_2 t).IsWhole) (X) : View.read (Elt Ideal) (ms0_2 t).view (h.unread X) = X := h.read_unread X

theorem read3 (t : Fin cfg0.N) (h : (ms0_3 t).IsWhole) (X) : View.read (Elt Ideal) (ms0_3 t).view (h.unread X) = X := h.read_unread X

theorem read4 (t : Fin cfg0.N) (h : (ms0_4 t).IsWhole) (X) : View.read (Elt Ideal) (ms0_4 t).view (h.unread X) = X := h.read_unread X

theorem read5 (t : Fin cfg0.N) (h : (ms0_5 t).IsWhole) (X) : View.read (Elt Ideal) (ms0_5 t).view (h.unread X) = X := h.read_unread X

theorem read6 (t : Fin cfg0.N) (h : (ms0_6 t).IsWhole) (X) : View.read (Elt Ideal) (ms0_6 t).view (h.unread X) = X := h.read_unread X

theorem sink_eq (sk : FVec Ideal S8 .f32) (h : ℕ) (hh : h < 8) (inb) (w : (⟨1, ![1]⟩ : Shape).Idx) :
    View.ld (Val := Elt Ideal) (e' := .f32) (S := S8) sk (Rect.unit ![h] ![1] inb) w = sk (ix1 ⟨h, hh⟩) := by
  refine View.ld_unit_apply_of _ _ _ _ _ _ ?_
  intro ax
  have : (w 0).val < 1 := (w 0).isLt
  fin_cases ax
  show h = h + (w 0).val
  omega

section
variable {κ : Kind} {sp : Space} (v : View sig κ sp S4x128x384 .f32) (w3 w2 w1 w0 : FVec Ideal S1x128x384 .f32)

theorem cov0 : View.readCov (Val := Elt Ideal) v [⟨Rect.unit (s := S4x128x384) ![3, 0, 0] ![1, 128, 384] inb_S4x128x384_S1x128x384_3_0_0, w3⟩, ⟨Rect.unit (s := S4x128x384) ![2, 0, 0] ![1, 128, 384] inb_S4x128x384_S1x128x384_2_0_0, w2⟩,
    ⟨Rect.unit (s := S4x128x384) ![1, 0, 0] ![1, 128, 384] inb_S4x128x384_S1x128x384_1_0_0, w1⟩, ⟨Rect.unit (s := S4x128x384) ![0, 0, 0] ![1, 128, 384] inb_S4x128x384_S1x128x384_0_0_0, w0⟩]
    (Rect.unit (s := S4x128x384) ![0, 0, 0] ![1, 128, 384] inb_S4x128x384_S1x128x384_0_0_0).toLoadRect = w0 := by
  rw [View.readCov_skip _ _ _ _ _ (by decide +kernel)]
  rw [View.readCov_skip _ _ _ _ _ (by decide +kernel)]
  rw [View.readCov_skip _ _ _ _ _ (by decide +kernel)]
  exact View.readCov_cons_toLoadRect _ _ _ _

theorem cov1 : View.readCov (Val := Elt Ideal) v [⟨Rect.unit (s := S4x128x384) ![3, 0, 0] ![1, 128, 384] inb_S4x128x384_S1x128x384_3_0_0, w3⟩, ⟨Rect.unit (s := S4x128x384) ![2, 0, 0] ![1, 128, 384] inb_S4x128x384_S1x128x384_2_0_0, w2⟩,
    ⟨Rect.unit (s := S4x128x384) ![1, 0, 0] ![1, 128, 384] inb_S4x128x384_S1x128x384_1_0_0, w1⟩, ⟨Rect.unit (s := S4x128x384) ![0, 0, 0] ![1, 128, 384] inb_S4x128x384_S1x128x384_0_0_0, w0⟩]
    (Rect.unit (s := S4x128x384) ![1, 0, 0] ![1, 128, 384] inb_S4x128x384_S1x128x384_1_0_0).toLoadRect = w1 := by
  rw [View.readCov_skip _ _ _ _ _ (by decide +kernel)]
  rw [View.readCov_skip _ _ _ _ _ (by decide +kernel)]
  exact View.readCov_cons_toLoadRect _ _ _ _

theorem cov2 : View.readCov (Val := Elt Ideal) v [⟨Rect.unit (s := S4x128x384) ![3, 0, 0] ![1, 128, 384] inb_S4x128x384_S1x128x384_3_0_0, w3⟩, ⟨Rect.unit (s := S4x128x384) ![2, 0, 0] ![1, 128, 384] inb_S4x128x384_S1x128x384_2_0_0, w2⟩,
    ⟨Rect.unit (s := S4x128x384) ![1, 0, 0] ![1, 128, 384] inb_S4x128x384_S1x128x384_1_0_0, w1⟩, ⟨Rect.unit (s := S4x128x384) ![0, 0, 0] ![1, 128, 384] inb_S4x128x384_S1x128x384_0_0_0, w0⟩]
    (Rect.unit (s := S4x128x384) ![2, 0, 0] ![1, 128, 384] inb_S4x128x384_S1x128x384_2_0_0).toLoadRect = w2 := by
  rw [View.readCov_skip _ _ _ _ _ (by decide +kernel)]
  exact View.readCov_cons_toLoadRect _ _ _ _

theorem cov3 : View.readCov (Val := Elt Ideal) v [⟨Rect.unit (s := S4x128x384) ![3, 0, 0] ![1, 128, 384] inb_S4x128x384_S1x128x384_3_0_0, w3⟩, ⟨Rect.unit (s := S4x128x384) ![2, 0, 0] ![1, 128, 384] inb_S4x128x384_S1x128x384_2_0_0, w2⟩,
    ⟨Rect.unit (s := S4x128x384) ![1, 0, 0] ![1, 128, 384] inb_S4x128x384_S1x128x384_1_0_0, w1⟩, ⟨Rect.unit (s := S4x128x384) ![0, 0, 0] ![1, 128, 384] inb_S4x128x384_S1x128x384_0_0_0, w0⟩]
    (Rect.unit (s := S4x128x384) ![3, 0, 0] ![1, 128, 384] inb_S4x128x384_S1x128x384_3_0_0).toLoadRect = w3 := by
  exact View.readCov_cons_toLoadRect _ _ _ _

end

set_option maxHeartbeats 2000000 in
/-- What a point of the grid leaves is attention of its queries. -/
theorem out_block (t : Fin cfg0.N) (y : S512x512.Idx) : outsAt0 m c t y = tile (grid0.coords t 0) (iblk m c 0 t) (iblk m c 1 t) (iblk m c 2 t) (iblk m c 3 t) (iblk m c 4 t) (iblk m c 5 t) (iblk m c 6 t) (iblk m c 7 t) y := by
  unfold outsAt0
  frame_out
  refine View.canon_eq_of_allAt (Val := Elt Ideal) (e := EltTy.bf16) _ y _ ?_ ?_
  · exact View.cover_of_tiledL (s := S512x512) (Val := Elt Ideal) (e := EltTy.bf16) _ ![128, 64] (by sl_kernel_rfl) y
  refine View.allAt_cons_unit (Val := Elt Ideal) _ _ _ _ _ ?_ ?_
  · intro x hx
    refine unit_eq _ _ _ (grid0.coords t 0).val _ _ _ _ _ 3 7 (by omega) _ _ 64 rfl rfl rfl _ _ _ _ _ _ _ _ _ x y hx
      ?_ ?_ ?_ ?_
    · intro k d
      simp only [read1, read2, read3]
      exact cat3 _ _ _ 64 (by omega) _ _ _ k d
    · intro k d
      simp only [read4, read5, read6]
      exact cat3 _ _ _ 64 (by omega) _ _ _ k d
    · intro i
      rw [cov3]
      exact bias3 _ i
    · exact sink_eq _ _ _ _ _
  refine View.allAt_cons_unit (Val := Elt Ideal) _ _ _ _ _ ?_ ?_
  · intro x hx
    refine unit_eq _ _ _ (grid0.coords t 0).val _ _ _ _ _ 3 6 (by omega) _ _ 64 rfl rfl rfl _ _ _ _ _ _ _ _ _ x y hx
      ?_ ?_ ?_ ?_
    · intro k d
      simp only [read1, read2, read3]
      exact cat3 _ _ _ 64 (by omega) _ _ _ k d
    · intro k d
      simp only [read4, read5, read6]
      exact cat3 _ _ _ 64 (by omega) _ _ _ k d
    · intro i
      rw [cov3]
      exact bias3 _ i
    · exact sink_eq _ _ _ _ _
  refine View.allAt_cons_unit (Val := Elt Ideal) _ _ _ _ _ ?_ ?_
  · intro x hx
    refine unit_eq _ _ _ (grid0.coords t 0).val _ _ _ _ _ 3 5 (by omega) _ _ 64 rfl rfl rfl _ _ _ _ _ _ _ _ _ x y hx
      ?_ ?_ ?_ ?_
    · intro k d
      simp only [read1, read2, read3]
      exact cat3 _ _ _ 64 (by omega) _ _ _ k d
    · intro k d
      simp only [read4, read5, read6]
      exact cat3 _ _ _ 64 (by omega) _ _ _ k d
    · intro i
      rw [cov3]
      exact bias3 _ i
    · exact sink_eq _ _ _ _ _
  refine View.allAt_cons_unit (Val := Elt Ideal) _ _ _ _ _ ?_ ?_
  · intro x hx
    refine unit_eq _ _ _ (grid0.coords t 0).val _ _ _ _ _ 3 4 (by omega) _ _ 64 rfl rfl rfl _ _ _ _ _ _ _ _ _ x y hx
      ?_ ?_ ?_ ?_
    · intro k d
      simp only [read1, read2, read3]
      exact cat3 _ _ _ 64 (by omega) _ _ _ k d
    · intro k d
      simp only [read4, read5, read6]
      exact cat3 _ _ _ 64 (by omega) _ _ _ k d
    · intro i
      rw [cov3]
      exact bias3 _ i
    · exact sink_eq _ _ _ _ _
  refine View.allAt_cons_unit (Val := Elt Ideal) _ _ _ _ _ ?_ ?_
  · intro x hx
    refine unit_eq _ _ _ (grid0.coords t 0).val _ _ _ _ _ 3 3 (by omega) _ _ 0 rfl rfl rfl _ _ _ _ _ _ _ _ _ x y hx
      ?_ ?_ ?_ ?_
    · intro k d
      simp only [read1, read2, read3]
      exact cat3 _ _ _ 0 (by omega) _ _ _ k d
    · intro k d
      simp only [read4, read5, read6]
      exact cat3 _ _ _ 0 (by omega) _ _ _ k d
    · intro i
      rw [cov3]
      exact bias3 _ i
    · exact sink_eq _ _ _ _ _
  refine View.allAt_cons_unit (Val := Elt Ideal) _ _ _ _ _ ?_ ?_
  · intro x hx
    refine unit_eq _ _ _ (grid0.coords t 0).val _ _ _ _ _ 3 2 (by omega) _ _ 0 rfl rfl rfl _ _ _ _ _ _ _ _ _ x y hx
      ?_ ?_ ?_ ?_
    · intro k d
      simp only [read1, read2, read3]
      exact cat3 _ _ _ 0 (by omega) _ _ _ k d
    · intro k d
      simp only [read4, read5, read6]
      exact cat3 _ _ _ 0 (by omega) _ _ _ k d
    · intro i
      rw [cov3]
      exact bias3 _ i
    · exact sink_eq _ _ _ _ _
  refine View.allAt_cons_unit (Val := Elt Ideal) _ _ _ _ _ ?_ ?_
  · intro x hx
    refine unit_eq _ _ _ (grid0.coords t 0).val _ _ _ _ _ 3 1 (by omega) _ _ 0 rfl rfl rfl _ _ _ _ _ _ _ _ _ x y hx
      ?_ ?_ ?_ ?_
    · intro k d
      simp only [read1, read2, read3]
      exact cat3 _ _ _ 0 (by omega) _ _ _ k d
    · intro k d
      simp only [read4, read5, read6]
      exact cat3 _ _ _ 0 (by omega) _ _ _ k d
    · intro i
      rw [cov3]
      exact bias3 _ i
    · exact sink_eq _ _ _ _ _
  refine View.allAt_cons_unit (Val := Elt Ideal) _ _ _ _ _ ?_ ?_
  · intro x hx
    refine unit_eq _ _ _ (grid0.coords t 0).val _ _ _ _ _ 3 0 (by omega) _ _ 0 rfl rfl rfl _ _ _ _ _ _ _ _ _ x y hx
      ?_ ?_ ?_ ?_
    · intro k d
      simp only [read1, read2, read3]
      exact cat3 _ _ _ 0 (by omega) _ _ _ k d
    · intro k d
      simp only [read4, read5, read6]
      exact cat3 _ _ _ 0 (by omega) _ _ _ k d
    · intro i
      rw [cov3]
      exact bias3 _ i
    · exact sink_eq _ _ _ _ _
  refine View.allAt_cons_unit (Val := Elt Ideal) _ _ _ _ _ ?_ ?_
  · intro x hx
    refine unit_eq _ _ _ (grid0.coords t 0).val _ _ _ _ _ 2 7 (by omega) _ _ 64 rfl rfl rfl _ _ _ _ _ _ _ _ _ x y hx
      ?_ ?_ ?_ ?_
    · intro k d
      simp only [read1, read2, read3]
      exact cat2 _ _ _ 64 (by omega) _ _ _ k d
    · intro k d
      simp only [read4, read5, read6]
      exact cat2 _ _ _ 64 (by omega) _ _ _ k d
    · intro i
      rw [cov2]
      exact bias2 _ i
    · exact sink_eq _ _ _ _ _
  refine View.allAt_cons_unit (Val := Elt Ideal) _ _ _ _ _ ?_ ?_
  · intro x hx
    refine unit_eq _ _ _ (grid0.coords t 0).val _ _ _ _ _ 2 6 (by omega) _ _ 64 rfl rfl rfl _ _ _ _ _ _ _ _ _ x y hx
      ?_ ?_ ?_ ?_
    · intro k d
      simp only [read1, read2, read3]
      exact cat2 _ _ _ 64 (by omega) _ _ _ k d
    · intro k d
      simp only [read4, read5, read6]
      exact cat2 _ _ _ 64 (by omega) _ _ _ k d
    · intro i
      rw [cov2]
      exact bias2 _ i
    · exact sink_eq _ _ _ _ _
  refine View.allAt_cons_unit (Val := Elt Ideal) _ _ _ _ _ ?_ ?_
  · intro x hx
    refine unit_eq _ _ _ (grid0.coords t 0).val _ _ _ _ _ 2 5 (by omega) _ _ 64 rfl rfl rfl _ _ _ _ _ _ _ _ _ x y hx
      ?_ ?_ ?_ ?_
    · intro k d
      simp only [read1, read2, read3]
      exact cat2 _ _ _ 64 (by omega) _ _ _ k d
    · intro k d
      simp only [read4, read5, read6]
      exact cat2 _ _ _ 64 (by omega) _ _ _ k d
    · intro i
      rw [cov2]
      exact bias2 _ i
    · exact sink_eq _ _ _ _ _
  refine View.allAt_cons_unit (Val := Elt Ideal) _ _ _ _ _ ?_ ?_
  · intro x hx
    refine unit_eq _ _ _ (grid0.coords t 0).val _ _ _ _ _ 2 4 (by omega) _ _ 64 rfl rfl rfl _ _ _ _ _ _ _ _ _ x y hx
      ?_ ?_ ?_ ?_
    · intro k d
      simp only [read1, read2, read3]
      exact cat2 _ _ _ 64 (by omega) _ _ _ k d
    · intro k d
      simp only [read4, read5, read6]
      exact cat2 _ _ _ 64 (by omega) _ _ _ k d
    · intro i
      rw [cov2]
      exact bias2 _ i
    · exact sink_eq _ _ _ _ _
  refine View.allAt_cons_unit (Val := Elt Ideal) _ _ _ _ _ ?_ ?_
  · intro x hx
    refine unit_eq _ _ _ (grid0.coords t 0).val _ _ _ _ _ 2 3 (by omega) _ _ 0 rfl rfl rfl _ _ _ _ _ _ _ _ _ x y hx
      ?_ ?_ ?_ ?_
    · intro k d
      simp only [read1, read2, read3]
      exact cat2 _ _ _ 0 (by omega) _ _ _ k d
    · intro k d
      simp only [read4, read5, read6]
      exact cat2 _ _ _ 0 (by omega) _ _ _ k d
    · intro i
      rw [cov2]
      exact bias2 _ i
    · exact sink_eq _ _ _ _ _
  refine View.allAt_cons_unit (Val := Elt Ideal) _ _ _ _ _ ?_ ?_
  · intro x hx
    refine unit_eq _ _ _ (grid0.coords t 0).val _ _ _ _ _ 2 2 (by omega) _ _ 0 rfl rfl rfl _ _ _ _ _ _ _ _ _ x y hx
      ?_ ?_ ?_ ?_
    · intro k d
      simp only [read1, read2, read3]
      exact cat2 _ _ _ 0 (by omega) _ _ _ k d
    · intro k d
      simp only [read4, read5, read6]
      exact cat2 _ _ _ 0 (by omega) _ _ _ k d
    · intro i
      rw [cov2]
      exact bias2 _ i
    · exact sink_eq _ _ _ _ _
  refine View.allAt_cons_unit (Val := Elt Ideal) _ _ _ _ _ ?_ ?_
  · intro x hx
    refine unit_eq _ _ _ (grid0.coords t 0).val _ _ _ _ _ 2 1 (by omega) _ _ 0 rfl rfl rfl _ _ _ _ _ _ _ _ _ x y hx
      ?_ ?_ ?_ ?_
    · intro k d
      simp only [read1, read2, read3]
      exact cat2 _ _ _ 0 (by omega) _ _ _ k d
    · intro k d
      simp only [read4, read5, read6]
      exact cat2 _ _ _ 0 (by omega) _ _ _ k d
    · intro i
      rw [cov2]
      exact bias2 _ i
    · exact sink_eq _ _ _ _ _
  refine View.allAt_cons_unit (Val := Elt Ideal) _ _ _ _ _ ?_ ?_
  · intro x hx
    refine unit_eq _ _ _ (grid0.coords t 0).val _ _ _ _ _ 2 0 (by omega) _ _ 0 rfl rfl rfl _ _ _ _ _ _ _ _ _ x y hx
      ?_ ?_ ?_ ?_
    · intro k d
      simp only [read1, read2, read3]
      exact cat2 _ _ _ 0 (by omega) _ _ _ k d
    · intro k d
      simp only [read4, read5, read6]
      exact cat2 _ _ _ 0 (by omega) _ _ _ k d
    · intro i
      rw [cov2]
      exact bias2 _ i
    · exact sink_eq _ _ _ _ _
  refine View.allAt_cons_unit (Val := Elt Ideal) _ _ _ _ _ ?_ ?_
  · intro x hx
    refine unit_eq _ _ _ (grid0.coords t 0).val _ _ _ _ _ 1 7 (by omega) _ _ 64 rfl rfl rfl _ _ _ _ _ _ _ _ _ x y hx
      ?_ ?_ ?_ ?_
    · intro k d
      simp only [read1, read2, read3]
      exact cat1 _ _ _ 64 (by omega) _ _ _ k d
    · intro k d
      simp only [read4, read5, read6]
      exact cat1 _ _ _ 64 (by omega) _ _ _ k d
    · intro i
      rw [cov1]
      exact bias1 _ i
    · exact sink_eq _ _ _ _ _
  refine View.allAt_cons_unit (Val := Elt Ideal) _ _ _ _ _ ?_ ?_
  · intro x hx
    refine unit_eq _ _ _ (grid0.coords t 0).val _ _ _ _ _ 1 6 (by omega) _ _ 64 rfl rfl rfl _ _ _ _ _ _ _ _ _ x y hx
      ?_ ?_ ?_ ?_
    · intro k d
      simp only [read1, read2, read3]
      exact cat1 _ _ _ 64 (by omega) _ _ _ k d
    · intro k d
      simp only [read4, read5, read6]
      exact cat1 _ _ _ 64 (by omega) _ _ _ k d
    · intro i
      rw [cov1]
      exact bias1 _ i
    · exact sink_eq _ _ _ _ _
  refine View.allAt_cons_unit (Val := Elt Ideal) _ _ _ _ _ ?_ ?_
  · intro x hx
    refine unit_eq _ _ _ (grid0.coords t 0).val _ _ _ _ _ 1 5 (by omega) _ _ 64 rfl rfl rfl _ _ _ _ _ _ _ _ _ x y hx
      ?_ ?_ ?_ ?_
    · intro k d
      simp only [read1, read2, read3]
      exact cat1 _ _ _ 64 (by omega) _ _ _ k d
    · intro k d
      simp only [read4, read5, read6]
      exact cat1 _ _ _ 64 (by omega) _ _ _ k d
    · intro i
      rw [cov1]
      exact bias1 _ i
    · exact sink_eq _ _ _ _ _
  refine View.allAt_cons_unit (Val := Elt Ideal) _ _ _ _ _ ?_ ?_
  · intro x hx
    refine unit_eq _ _ _ (grid0.coords t 0).val _ _ _ _ _ 1 4 (by omega) _ _ 64 rfl rfl rfl _ _ _ _ _ _ _ _ _ x y hx
      ?_ ?_ ?_ ?_
    · intro k d
      simp only [read1, read2, read3]
      exact cat1 _ _ _ 64 (by omega) _ _ _ k d
    · intro k d
      simp only [read4, read5, read6]
      exact cat1 _ _ _ 64 (by omega) _ _ _ k d
    · intro i
      rw [cov1]
      exact bias1 _ i
    · exact sink_eq _ _ _ _ _
  refine View.allAt_cons_unit (Val := Elt Ideal) _ _ _ _ _ ?_ ?_
  · intro x hx
    refine unit_eq _ _ _ (grid0.coords t 0).val _ _ _ _ _ 1 3 (by omega) _ _ 0 rfl rfl rfl _ _ _ _ _ _ _ _ _ x y hx
      ?_ ?_ ?_ ?_
    · intro k d
      simp only [read1, read2, read3]
      exact cat1 _ _ _ 0 (by omega) _ _ _ k d
    · intro k d
      simp only [read4, read5, read6]
      exact cat1 _ _ _ 0 (by omega) _ _ _ k d
    · intro i
      rw [cov1]
      exact bias1 _ i
    · exact sink_eq _ _ _ _ _
  refine View.allAt_cons_unit (Val := Elt Ideal) _ _ _ _ _ ?_ ?_
  · intro x hx
    refine unit_eq _ _ _ (grid0.coords t 0).val _ _ _ _ _ 1 2 (by omega) _ _ 0 rfl rfl rfl _ _ _ _ _ _ _ _ _ x y hx
      ?_ ?_ ?_ ?_
    · intro k d
      simp only [read1, read2, read3]
      exact cat1 _ _ _ 0 (by omega) _ _ _ k d
    · intro k d
      simp only [read4, read5, read6]
      exact cat1 _ _ _ 0 (by omega) _ _ _ k d
    · intro i
      rw [cov1]
      exact bias1 _ i
    · exact sink_eq _ _ _ _ _
  refine View.allAt_cons_unit (Val := Elt Ideal) _ _ _ _ _ ?_ ?_
  · intro x hx
    refine unit_eq _ _ _ (grid0.coords t 0).val _ _ _ _ _ 1 1 (by omega) _ _ 0 rfl rfl rfl _ _ _ _ _ _ _ _ _ x y hx
      ?_ ?_ ?_ ?_
    · intro k d
      simp only [read1, read2, read3]
      exact cat1 _ _ _ 0 (by omega) _ _ _ k d
    · intro k d
      simp only [read4, read5, read6]
      exact cat1 _ _ _ 0 (by omega) _ _ _ k d
    · intro i
      rw [cov1]
      exact bias1 _ i
    · exact sink_eq _ _ _ _ _
  refine View.allAt_cons_unit (Val := Elt Ideal) _ _ _ _ _ ?_ ?_
  · intro x hx
    refine unit_eq _ _ _ (grid0.coords t 0).val _ _ _ _ _ 1 0 (by omega) _ _ 0 rfl rfl rfl _ _ _ _ _ _ _ _ _ x y hx
      ?_ ?_ ?_ ?_
    · intro k d
      simp only [read1, read2, read3]
      exact cat1 _ _ _ 0 (by omega) _ _ _ k d
    · intro k d
      simp only [read4, read5, read6]
      exact cat1 _ _ _ 0 (by omega) _ _ _ k d
    · intro i
      rw [cov1]
      exact bias1 _ i
    · exact sink_eq _ _ _ _ _
  refine View.allAt_cons_unit (Val := Elt Ideal) _ _ _ _ _ ?_ ?_
  · intro x hx
    refine unit_eq _ _ _ (grid0.coords t 0).val _ _ _ _ _ 0 7 (by omega) _ _ 64 rfl rfl rfl _ _ _ _ _ _ _ _ _ x y hx
      ?_ ?_ ?_ ?_
    · intro k d
      simp only [read1, read2, read3]
      exact cat0 _ _ _ 64 (by omega) _ _ _ k d
    · intro k d
      simp only [read4, read5, read6]
      exact cat0 _ _ _ 64 (by omega) _ _ _ k d
    · intro i
      rw [cov0]
      exact bias0 _ i
    · exact sink_eq _ _ _ _ _
  refine View.allAt_cons_unit (Val := Elt Ideal) _ _ _ _ _ ?_ ?_
  · intro x hx
    refine unit_eq _ _ _ (grid0.coords t 0).val _ _ _ _ _ 0 6 (by omega) _ _ 64 rfl rfl rfl _ _ _ _ _ _ _ _ _ x y hx
      ?_ ?_ ?_ ?_
    · intro k d
      simp only [read1, read2, read3]
      exact cat0 _ _ _ 64 (by omega) _ _ _ k d
    · intro k d
      simp only [read4, read5, read6]
      exact cat0 _ _ _ 64 (by omega) _ _ _ k d
    · intro i
      rw [cov0]
      exact bias0 _ i
    · exact sink_eq _ _ _ _ _
  refine View.allAt_cons_unit (Val := Elt Ideal) _ _ _ _ _ ?_ ?_
  · intro x hx
    refine unit_eq _ _ _ (grid0.coords t 0).val _ _ _ _ _ 0 5 (by omega) _ _ 64 rfl rfl rfl _ _ _ _ _ _ _ _ _ x y hx
      ?_ ?_ ?_ ?_
    · intro k d
      simp only [read1, read2, read3]
      exact cat0 _ _ _ 64 (by omega) _ _ _ k d
    · intro k d
      simp only [read4, read5, read6]
      exact cat0 _ _ _ 64 (by omega) _ _ _ k d
    · intro i
      rw [cov0]
      exact bias0 _ i
    · exact sink_eq _ _ _ _ _
  refine View.allAt_cons_unit (Val := Elt Ideal) _ _ _ _ _ ?_ ?_
  · intro x hx
    refine unit_eq _ _ _ (grid0.coords t 0).val _ _ _ _ _ 0 4 (by omega) _ _ 64 rfl rfl rfl _ _ _ _ _ _ _ _ _ x y hx
      ?_ ?_ ?_ ?_
    · intro k d
      simp only [read1, read2, read3]
      exact cat0 _ _ _ 64 (by omega) _ _ _ k d
    · intro k d
      simp only [read4, read5, read6]
      exact cat0 _ _ _ 64 (by omega) _ _ _ k d
    · intro i
      rw [cov0]
      exact bias0 _ i
    · exact sink_eq _ _ _ _ _
  refine View.allAt_cons_unit (Val := Elt Ideal) _ _ _ _ _ ?_ ?_
  · intro x hx
    refine unit_eq _ _ _ (grid0.coords t 0).val _ _ _ _ _ 0 3 (by omega) _ _ 0 rfl rfl rfl _ _ _ _ _ _ _ _ _ x y hx
      ?_ ?_ ?_ ?_
    · intro k d
      simp only [read1, read2, read3]
      exact cat0 _ _ _ 0 (by omega) _ _ _ k d
    · intro k d
      simp only [read4, read5, read6]
      exact cat0 _ _ _ 0 (by omega) _ _ _ k d
    · intro i
      rw [cov0]
      exact bias0 _ i
    · exact sink_eq _ _ _ _ _
  refine View.allAt_cons_unit (Val := Elt Ideal) _ _ _ _ _ ?_ ?_
  · intro x hx
    refine unit_eq _ _ _ (grid0.coords t 0).val _ _ _ _ _ 0 2 (by omega) _ _ 0 rfl rfl rfl _ _ _ _ _ _ _ _ _ x y hx
      ?_ ?_ ?_ ?_
    · intro k d
      simp only [read1, read2, read3]
      exact cat0 _ _ _ 0 (by omega) _ _ _ k d
    · intro k d
      simp only [read4, read5, read6]
      exact cat0 _ _ _ 0 (by omega) _ _ _ k d
    · intro i
      rw [cov0]
      exact bias0 _ i
    · exact sink_eq _ _ _ _ _
  refine View.allAt_cons_unit (Val := Elt Ideal) _ _ _ _ _ ?_ ?_
  · intro x hx
    refine unit_eq _ _ _ (grid0.coords t 0).val _ _ _ _ _ 0 1 (by omega) _ _ 0 rfl rfl rfl _ _ _ _ _ _ _ _ _ x y hx
      ?_ ?_ ?_ ?_
    · intro k d
      simp only [read1, read2, read3]
      exact cat0 _ _ _ 0 (by omega) _ _ _ k d
    · intro k d
      simp only [read4, read5, read6]
      exact cat0 _ _ _ 0 (by omega) _ _ _ k d
    · intro i
      rw [cov0]
      exact bias0 _ i
    · exact sink_eq _ _ _ _ _
  refine View.allAt_cons_unit (Val := Elt Ideal) _ _ _ _ _ ?_ ?_
  · intro x hx
    refine unit_eq _ _ _ (grid0.coords t 0).val _ _ _ _ _ 0 0 (by omega) _ _ 0 rfl rfl rfl _ _ _ _ _ _ _ _ _ x y hx
      ?_ ?_ ?_ ?_
    · intro k d
      simp only [read1, read2, read3]
      exact cat0 _ _ _ 0 (by omega) _ _ _ k d
    · intro k d
      simp only [read4, read5, read6]
      exact cat0 _ _ _ 0 (by omega) _ _ _ k d
    · intro i
      rw [cov0]
      exact bias0 _ i
    · exact sink_eq _ _ _ _ _
  exact View.allAt_nil _ _

end Cert.AttfKernel
-- ==== Proof.AttfRef.lean ====
/- The plain attention of the reference, read at one entry of its result. -/
module

public import proofs.«01_k».proof.Defs
public import proofs.«01_k».proof.Proof.Gen.AttfRefIdeal.Run
public import proofs.«01_k».proof.Proof.AttfSpec
public import Idealize.ShloMosaic.Lib.Pipeline.ValueKit
public import Idealize.ShloMosaic.Lib.Pipeline.ReadBack
public import Idealize.ShloMosaic.Lib.IdealHost

@[expose] public section

set_option maxRecDepth 16384

noncomputable section

namespace Cert.AttfReference

theorem max_last {n0 n1 n2 n3 n4 : Nat} (h : (⟨5, ![n0, n1, n2, n3, n4]⟩ : Idealize.ShloMosaic.Shape).ReducesTo [4] ⟨4, ![n0, n1, n2, n3]⟩)
    (v : Idealize.ShloMosaic.FVec Idealize.ShloMosaic.Ideal ⟨5, ![n0, n1, n2, n3, n4]⟩ .f32)
    (c : Idealize.ShloMosaic.FVec Idealize.ShloMosaic.Ideal ⟨0, ![]⟩ .f32) (hu) (j) :
    Idealize.ShloMosaic.Host.reduce Idealize.ShloMosaic.FloatOps.maximumf v c h hu j
      = (Finset.univ : Finset (Fin n4)).fold max (c (Idealize.ShloMosaic.Shape.Idx.first hu)) fun k => v (Idealize.ShloMosaic.ix5 (j 0) (j 1) (j 2) (j 3) k) := by
  simp only [pointwise]

open Cert.AttfRefIdeal Cert.AttfRefIdeal.Gen Idealize.ShloMosaic Idealize.ShloMosaic.TcCoe Idealize.SL.Sem
open Idealize.ShloMosaic.ValueIdx
open scoped BigOperators
open Cert.AttfSpec

/-- A key or value array with one block of zeros on either side. -/
def padded (x : FVec Ideal S8192x128 .f32) : FVec Ideal S8448x2x64 .f32 :=
  (pad S8448x2x64 ![128, 0, 0] ![128, 0, 0] ![0, 0, 0] (shapeCast S8192x2x64 x shapeCasts_S8192x128_S8192x2x64) (sitofp  .f32 (constantI S_ 32 0#32)) pads_S8192x2x64_S8448x2x64_1281280_000_000 h_S_)

/-- The rows of the previous, the own and the next block of each block. -/
def band (x : FVec Ideal S8192x128 .f32) : FVec Ideal S64x384x2x64 .f32 :=
  ((concatenate S64x384x2x64 1 [⟨S64x128x2x64, ((shapeCast S64x128x2x64 (extractStridedSlice S8192x2x64 ![0, 0, 0] (padded x) slices_S8448x2x64_S8192x2x64_0_0_0) shapeCasts_S8192x2x64_S64x128x2x64) : (⟨S64x128x2x64, .f32⟩ : BufTy).Contents (Elt Ideal))⟩, ⟨S64x128x2x64, ((shapeCast S64x128x2x64 (extractStridedSlice S8192x2x64 ![128, 0, 0] (padded x) slices_S8448x2x64_S8192x2x64_128_0_0) shapeCasts_S8192x2x64_S64x128x2x64) : (⟨S64x128x2x64, .f32⟩ : BufTy).Contents (Elt Ideal))⟩, ⟨S64x128x2x64, ((shapeCast S64x128x2x64 (extractStridedSlice S8192x2x64 ![256, 0, 0] (padded x) slices_S8448x2x64_S8192x2x64_256_0_0) shapeCasts_S8192x2x64_S64x128x2x64) : (⟨S64x128x2x64, .f32⟩ : BufTy).Contents (Elt Ideal))⟩] concatenates_S64x128x2x64_S64x128x2x64_S64x128x2x64_S64x384x2x64_d1 : (⟨S64x384x2x64, .f32⟩ : BufTy).Contents (Elt Ideal)))

/-- The key's place, for each block and each column of its band. -/
def kpos : IVec S64x384 32 :=
  (addi (broadcastInDim S64x384 ![0, 1] bcast_S64x1_S64x384_0_1 (subi (muli (broadcastInDim S64x1 ![0] bcast_S64_S64x1_0 (iotaInDim S64 32 0)) (broadcastInDim S64x1 ![] bcast_S_S64x1 (constantI S_ 32 128#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0))))

/-- Which key a query sees. -/
def mask : IVec S64x128x384 1 :=
  (andi (andi (cmpi .sle (absi (subi (broadcastInDim S64x128x384 ![0, 1, 2] bcast_S64x128x1_S64x128x384_0_1_2 (broadcastInDim S64x128x1 ![0, 1] bcast_S64x128_S64x128x1_0_1 (shapeCast S64x128 (iotaInDim S8192 32 0) shapeCasts_S8192_S64x128))) (broadcastInDim S64x128x384 ![0, 1, 2] bcast_S64x1x384_S64x128x384_0_1_2 (broadcastInDim S64x1x384 ![0, 2] bcast_S64x384_S64x1x384_0_2 kpos)))) (broadcastInDim S64x128x384 ![] bcast_S_S64x128x384 (constantI S_ 32 128#32))) (broadcastInDim S64x128x384 ![0, 1, 2] bcast_S64x1x384_S64x128x384_0_1_2 (broadcastInDim S64x1x384 ![0, 2] bcast_S64x384_S64x1x384_0_2 (cmpi .sge kpos (broadcastInDim S64x384 ![] bcast_S_S64x384 (constantI S_ 32 0#32)))))) (broadcastInDim S64x128x384 ![0, 1, 2] bcast_S64x1x384_S64x128x384_0_1_2 (broadcastInDim S64x1x384 ![0, 2] bcast_S64x384_S64x1x384_0_2 (cmpi .slt kpos (broadcastInDim S64x384 ![] bcast_S_S64x384 (constantI S_ 32 8192#32))))))

/-- The scaled products of queries and keys, minus infinity where a query does not see the key. -/
def scores (q : FVec Ideal S8192x512 .f32) (k : FVec Ideal S8192x128 .f32) : FVec Ideal S64x2x4x128x384 .f32 :=
  (select (broadcastInDim S64x2x4x128x384 ![0, 1, 2, 3, 4] bcast_S64x1x1x128x384_S64x2x4x128x384_0_1_2_3_4 (broadcastInDim S64x1x1x128x384 ![0, 3, 4] bcast_S64x128x384_S64x1x1x128x384_0_3_4 mask)) (mulf (transpose S64x2x4x128x384 [0, 1, 4, 3, 2] (Host.dotGeneral dot_S64x384x2x64_S64x128x2x4x64_S64x2x384x128x4_3_4_1_13_02_02 none (band k) (shapeCast S64x128x2x4x64 q shapeCasts_S8192x512_S64x128x2x4x64)) transposes_S64x2x384x128x4_S64x2x4x128x384_0_1_4_3_2) (broadcastInDim S64x2x4x128x384 ![] bcast_S_S64x2x4x128x384 (constant S_ .f32 0x3E000000#32))) (broadcastInDim S64x2x4x128x384 ![] bcast_S_S64x2x4x128x384 (id (constant S_ .f32 0xFF800000#32))))

/-- The sink of each head. -/
def sinks (sk : FVec Ideal S8 .f32) : FVec Ideal S1x2x4x1 .f32 :=
  (broadcastInDim S1x2x4x1 ![1, 2] bcast_S2x4_S1x2x4x1_1_2 (shapeCast S2x4 sk shapeCasts_S8_S2x4))

/-- The largest score of each row. -/
def top (s : FVec Ideal S64x2x4x128x384 .f32) (sk : FVec Ideal S8 .f32) : FVec Ideal S64x2x4x128 .f32 :=
  (maximumf (Host.reduce FloatOps.maximumf s (constant S_ .f32 0xFF800000#32) reducesTo_S64x2x4x128x384_S64x2x4x128_d4 h_S_) (broadcastInDim S64x2x4x128 ![0, 1, 2, 3] bcast_S1x2x4x1_S64x2x4x128_0_1_2_3 (sinks sk)))

/-- The weights before they are divided. -/
def weights (s : FVec Ideal S64x2x4x128x384 .f32) (sk : FVec Ideal S8 .f32) : FVec Ideal S64x2x4x128x384 .f32 :=
  (Host.exp (subf s (broadcastInDim S64x2x4x128x384 ![0, 1, 2, 3, 4] bcast_S64x2x4x128x1_S64x2x4x128x384_0_1_2_3_4 (broadcastInDim S64x2x4x128x1 ![0, 1, 2, 3] bcast_S64x2x4x128_S64x2x4x128x1_0_1_2_3 (top s sk)))))

/-- What they are divided by. -/
def total (s : FVec Ideal S64x2x4x128x384 .f32) (sk : FVec Ideal S8 .f32) : FVec Ideal S64x2x4x128 .f32 :=
  (addf (Host.reduceAdd (weights s sk) (constant S_ .f32 0x00000000#32) reducesTo_S64x2x4x128x384_S64x2x4x128_d4 h_S_) (Host.exp (subf (broadcastInDim S64x2x4x128 ![0, 1, 2, 3] bcast_S1x2x4x1_S64x2x4x128_0_1_2_3 (sinks sk)) (top s sk))))

/-- The weighted sum of the values. -/
def mixed (s : FVec Ideal S64x2x4x128x384 .f32) (sk : FVec Ideal S8 .f32) (v : FVec Ideal S8192x128 .f32) : FVec Ideal S8192x512 .bf16 :=
  truncf .bf16 (shapeCast S8192x512 (Host.divf (transpose S64x128x2x4x64 [0, 4, 1, 3, 2] (Host.dotGeneral dot_S64x384x2x64_S64x2x4x128x384_S64x2x64x4x128_1_4_3_23_02_01 none (band v) (weights s sk)) transposes_S64x2x64x4x128_S64x128x2x4x64_0_4_1_3_2) (broadcastInDim S64x128x2x4x64 ![0, 1, 2, 3, 4] bcast_S64x128x2x4x1_S64x128x2x4x64_0_1_2_3_4 (broadcastInDim S64x128x2x4x1 ![0, 1, 2, 3] bcast_S64x128x2x4_S64x128x2x4x1_0_1_2_3 (transpose S64x128x2x4 [0, 3, 1, 2] (total s sk) transposes_S64x2x4x128_S64x128x2x4_0_3_1_2)))) shapeCasts_S64x128x2x4x64_S8192x512) bitsLt_bf16_f32

variable (m : (ℓ : Loc nD τ sig) → Buf (Elt Ideal) ℓ) (c : Dev nD)

theorem top_apply (s sk) (i : S64x2x4x128.Idx) : top s sk i = max ((Finset.univ : Finset (Fin 384)).fold max (Ideal.ofBits FTy.f32 4286578688#32) fun k => s (Idealize.ShloMosaic.ix5 (i 0) (i 1) (i 2) (i 3) k)) (sinks sk (Idealize.ShloMosaic.ix4 0 (i 1) (i 2) 0)) := by
  unfold top
  rw [ValueIdx.maximumf_apply, max_last]
  congr 1

theorem weights_apply (s sk) (i : S64x2x4x128x384.Idx) : weights s sk i = Ideal.exp (s i - top s sk (Idealize.ShloMosaic.ix4 (i 0) (i 1) (i 2) (i 3))) := by
  pointwise [weights]

theorem sinks_apply (sk) (g : Fin 2) (h : Fin 4) : sinks sk (Idealize.ShloMosaic.ix4 0 g h 0) = sk (Idealize.ShloMosaic.ix1 ⟨g.val * 4 + h.val, by omega⟩) := by
  pointwise [sinks]

theorem total_apply (s sk) (n : Fin 64) (g : Fin 2) (h : Fin 4) (r : Fin 128) : total s sk (Idealize.ShloMosaic.ix4 n g h r)
    = ∑ x, weights s sk (Idealize.ShloMosaic.ix5 n g h r x) + Ideal.exp (sk (Idealize.ShloMosaic.ix1 ⟨g.val * 4 + h.val, by omega⟩) - top s sk (Idealize.ShloMosaic.ix4 n g h r)) := by
  pointwise [total, sinks]

theorem mixed_apply (s sk v) (i : S8192x512.Idx) (n : Fin 64) (g : Fin 2) (h : Fin 4) (r : Fin 128) (d : Fin 64)
    (h0 : (i 0).val = n.val * 128 + r.val) (h1 : (i 1).val = g.val * 256 + h.val * 64 + d.val) : mixed s sk v i
      = Ideal.div (∑ x, band v (Idealize.ShloMosaic.ix4 n x g d) * weights s sk (Idealize.ShloMosaic.ix5 n g h r x)) (total s sk (Idealize.ShloMosaic.ix4 n g h r)) := by
  have e1 : (i 0).val / 128 = n.val := by omega
  have e2 : (i 0).val % 128 = r.val := by omega
  have e3 : (i 1).val / 256 = g.val := by omega
  have e4 : (i 1).val / 64 % 4 = h.val := by omega
  have e5 : (i 1).val % 64 = d.val := by omega
  pointwise [mixed]
  simp only [e1, e2, e3, e4, e5]

theorem band_apply (x) (n : Fin 64) (k : Fin 384) (g : Fin 2) (d : Fin 64) (hk : 128 ≤ n.val * 128 + k.val) (hk' : n.val * 128 + k.val < 8320) :
    band x (Idealize.ShloMosaic.ix4 n k g d) = x (Idealize.ShloMosaic.ix2 ⟨n.val * 128 + k.val - 128, by omega⟩ ⟨g.val * 64 + d.val, by omega⟩) := by
  pointwise [band, padded]
  split_ifs <;> first
    | omega
    | exact congrArg x (congrArg (fun p => Idealize.ShloMosaic.ix2 p _) (Fin.ext (by first | (simp only []; omega) | simp only [])))

theorem scores_apply (q k) (n : Fin 64) (g : Fin 2) (h : Fin 4) (r : Fin 128) (x : Fin 384) : scores q k (Idealize.ShloMosaic.ix5 n g h r x)
    = Scalar.select (mask (Idealize.ShloMosaic.ix3 n r x)) ((∑ d : Fin 64, band k (Idealize.ShloMosaic.ix4 n x g d) * q (Idealize.ShloMosaic.ix2 ⟨n.val * 128 + r.val, by omega⟩ ⟨g.val * 256 + h.val * 64 + d.val, by omega⟩)) * Ideal.ofBits FTy.f32 1040187392#32) (Ideal.ofBits FTy.f32 4286578688#32) := by
  pointwise [scores]
  rfl

theorem mask_apply (n : Fin 64) (r : Fin 128) (k : Fin 384) : mask (Idealize.ShloMosaic.ix3 n r k) = IntOp.andi
      (IntOp.andi
        (IntOp.cmpi CmpIPredicate.sle
          (IntOp.absi
            (IntOp.subi (BitVec.ofNat 32 (n.val * 128 + r.val))
              (IntOp.addi (IntOp.subi (IntOp.muli (BitVec.ofNat 32 n.val) 128#32) 128#32) (BitVec.ofNat 32 k.val))))
          128#32)
        (IntOp.cmpi CmpIPredicate.sge
          (IntOp.addi (IntOp.subi (IntOp.muli (BitVec.ofNat 32 n.val) 128#32) 128#32) (BitVec.ofNat 32 k.val)) 0#32))
      (IntOp.cmpi CmpIPredicate.slt
        (IntOp.addi (IntOp.subi (IntOp.muli (BitVec.ofNat 32 n.val) 128#32) 128#32) (BitVec.ofNat 32 k.val))
        8192#32) := by
  pointwise [mask, kpos]

theorem ofBits_neg_inf : Ideal.ofBits FTy.f32 4286578688#32 = ⊥ := by
  simp [Ideal.ofBits, Ideal.ieee]

variable (m : (ℓ : Loc nD τ sig) → Buf (Elt Ideal) ℓ) (c : Dev nD)

/-- The reference's result is made of these. -/
theorem res_eq : Cert.AttfRefIdeal.Value.res_main_v77 m c
    = mixed (scores (m ((c.tc : Thread nD τ).loc main_arg0)) (m ((c.tc : Thread nD τ).loc main_arg1))) (m ((c.tc : Thread nD τ).loc main_arg3)) (m ((c.tc : Thread nD τ).loc main_arg2)) := by
  unfold Cert.AttfRefIdeal.Value.res_main_v77 mixed total weights top sinks scores mask kpos band padded
  rfl

/-- An entry of the reference's result is attention of one query in one head. -/
theorem mixed_att (s : FVec Ideal S64x2x4x128x384 .f32) (sk : FVec Ideal S8 .f32) (v : FVec Ideal S8192x128 .f32) (i : S8192x512.Idx) (n : Fin 64) (g : Fin 2) (h : Fin 4) (r : Fin 128) (d : Fin 64)
    (h0 : (i 0).val = n.val * 128 + r.val) (h1 : (i 1).val = g.val * 256 + h.val * 64 + d.val)
    (hs : ∀ x, s (Idealize.ShloMosaic.ix5 n g h r x) ≠ ⊤) (z : ℝ) (hz : sk (Idealize.ShloMosaic.ix1 ⟨g.val * 4 + h.val, by omega⟩) = (z : EReal)) :
    mixed s sk v i = att (fun x => s (Idealize.ShloMosaic.ix5 n g h r x)) z (fun x => band v (Idealize.ShloMosaic.ix4 n x g d)) := by
  have ht : top s sk (Idealize.ShloMosaic.ix4 n g h r) = peak (fun x => s (Idealize.ShloMosaic.ix5 n g h r x)) z := by
    rw [top_apply, ofBits_neg_inf]
    exact congrArg (max _) ((sinks_apply sk g h).trans hz)
  have hw : ∀ x, weights s sk (Idealize.ShloMosaic.ix5 n g h r x) = Ideal.exp (s (Idealize.ShloMosaic.ix5 n g h r x) - peak (fun x => s (Idealize.ShloMosaic.ix5 n g h r x)) z) := fun x =>
    (weights_apply s sk _).trans (congrArg (fun t => Ideal.exp (s (Idealize.ShloMosaic.ix5 n g h r x) - t)) ht)
  rw [mixed_apply s sk v i n g h r d h0 h1, total_apply, ht, hz]
  simp only [hw]
  exact att_div _ z _ hs

end Cert.AttfReference
-- ==== Proof.AttfTiles.lean ====
/- Where the blocks of the attention kernel lie, and that its points together leave the reference's result. -/
module

public import proofs.«01_k».proof.Proof.AttfBlock
public import proofs.«01_k».proof.Proof.AttfRef
public import proofs.«01_k».proof.Proof.Blocks
public import proofs.«01_k».proof.Proof.Reals

@[expose] public section

set_option maxRecDepth 16384

noncomputable section

namespace Cert.AttfKernel

open Cert.AttfSpec
open Cert.AttfIdeal Cert.AttfIdeal.Gen Idealize.ShloMosaic Idealize.ShloMosaic.TcCoe Idealize.SL.Sem
open scoped BigOperators

variable (m : (ℓ : Loc nD τ sig) → Buf (Elt Ideal) ℓ) (c : Dev nD)

/-- Where each point's blocks lie. -/
theorem idx : ∀ t : Fin cfg0.N, win0_0.index t = ![t.val, 0] ∧ win0_1.index t = ![4 * t.val - 1, 0] ∧ win0_2.index t = ![t.val, 0] ∧ win0_3.index t = ![min (4 * t.val + 4) 63, 0]
    ∧ win0_4.index t = ![4 * t.val - 1, 0] ∧ win0_5.index t = ![t.val, 0] ∧ win0_6.index t = ![min (4 * t.val + 4) 63, 0] ∧ win0_7.index t = ![0] ∧ win0_8.index t = ![t.val, 0] :=
  (by decide +kernel : ∀ t : Fin grid0.N, _)

theorem coords : ∀ t : Fin cfg0.N, (grid0.coords t 0).val = t.val :=
  (by decide +kernel : ∀ t : Fin grid0.N, (grid0.coords t 0).val = t.val)

/-- The row of the whole array that row `a` of point `n`'s block is. -/
def row (n : ℕ) (a : Fin 512) : Fin 8192 := ⟨512 * (n % 16) + (a : ℕ), by omega⟩

/-- … of its previous block. -/
def prow (n : ℕ) (a : Fin 128) : Fin 8192 := ⟨128 * ((4 * n - 1) % 64) + (a : ℕ), by omega⟩

/-- … of its next block. -/
def nrow (n : ℕ) (a : Fin 128) : Fin 8192 := ⟨128 * (min (4 * n + 4) 63) + (a : ℕ), by omega⟩

/-- The arguments, as arrays of extended reals. -/
abbrev a0 : S8192x512.Idx → EReal := m ((c : Thread nD τ).loc main_arg0)
abbrev a1 : S8192x128.Idx → EReal := m ((c : Thread nD τ).loc main_arg1)
abbrev a2 : S8192x128.Idx → EReal := m ((c : Thread nD τ).loc main_arg2)
abbrev a3 : S8.Idx → EReal := m ((c : Thread nD τ).loc main_arg3)

/-- The queries, scaled. -/
theorem V2_eq (i) : V m c main_v2 i = a0 m c i * Ideal.ofBits FTy.f32 1040187392#32 := by
  unfold V
  simp only [hostOps0, List.flatten_cons, List.flatten_nil, List.append_nil, List.cons_append, List.nil_append]
  after_results
  pointwise

theorem V3_eq (i) : V m c main_v3 i = a1 m c i := by
  unfold V
  simp only [hostOps0, List.flatten_cons, List.flatten_nil, List.append_nil, List.cons_append, List.nil_append]
  after_results
  pointwise

theorem V4_eq (i) : V m c main_v4 i = a2 m c i := by
  unfold V
  simp only [hostOps0, List.flatten_cons, List.flatten_nil, List.append_nil, List.cons_append, List.nil_append]
  after_results
  pointwise

theorem iblk0 (t : Fin cfg0.N) (y) : iblk m c 0 t y = a0 m c (ix2 (row t.val (y 0)) (y 1)) * Ideal.ofBits FTy.f32 1040187392#32 := by
  have ht : t.val < 16 := lt_of_lt_of_eq t.isLt N_0
  have e : ∀ F : S8192x512.Idx → EReal, (∀ i, V m c main_v2 i = F i) → iblk m c 0 t y = F (ix2 (row t.val (y 0)) (y 1)) := fun F h => by
    blk_simp [iblk]
    rw [h]
    blk_ext [row, idx t]
  exact e (fun i => a0 m c i * Ideal.ofBits FTy.f32 1040187392#32) fun i => V2_eq m c i

theorem iblk1 (t : Fin cfg0.N) (y) : iblk m c 1 t y = a1 m c (ix2 (prow t.val (y 0)) (y 1)) := by
  have ht : t.val < 16 := lt_of_lt_of_eq t.isLt N_0
  have e : ∀ F : S8192x128.Idx → EReal, (∀ i, V m c main_v3 i = F i) → iblk m c 1 t y = F (ix2 (prow t.val (y 0)) (y 1)) := fun F h => by
    blk_simp [iblk]
    rw [h]
    blk_ext [prow, idx t]
  exact e (a1 m c) fun i => V3_eq m c i

theorem iblk2 (t : Fin cfg0.N) (y) : iblk m c 2 t y = a1 m c (ix2 (row t.val (y 0)) (y 1)) := by
  have ht : t.val < 16 := lt_of_lt_of_eq t.isLt N_0
  have e : ∀ F : S8192x128.Idx → EReal, (∀ i, V m c main_v3 i = F i) → iblk m c 2 t y = F (ix2 (row t.val (y 0)) (y 1)) := fun F h => by
    blk_simp [iblk]
    rw [h]
    blk_ext [row, idx t]
  exact e (a1 m c) fun i => V3_eq m c i

theorem iblk3 (t : Fin cfg0.N) (y) : iblk m c 3 t y = a1 m c (ix2 (nrow t.val (y 0)) (y 1)) := by
  have ht : t.val < 16 := lt_of_lt_of_eq t.isLt N_0
  have e : ∀ F : S8192x128.Idx → EReal, (∀ i, V m c main_v3 i = F i) → iblk m c 3 t y = F (ix2 (nrow t.val (y 0)) (y 1)) := fun F h => by
    blk_simp [iblk]
    rw [h]
    blk_ext [nrow, idx t]
  exact e (a1 m c) fun i => V3_eq m c i

theorem iblk4 (t : Fin cfg0.N) (y) : iblk m c 4 t y = a2 m c (ix2 (prow t.val (y 0)) (y 1)) := by
  have ht : t.val < 16 := lt_of_lt_of_eq t.isLt N_0
  have e : ∀ F : S8192x128.Idx → EReal, (∀ i, V m c main_v4 i = F i) → iblk m c 4 t y = F (ix2 (prow t.val (y 0)) (y 1)) := fun F h => by
    blk_simp [iblk]
    rw [h]
    blk_ext [prow, idx t]
  exact e (a2 m c) fun i => V4_eq m c i

theorem iblk5 (t : Fin cfg0.N) (y) : iblk m c 5 t y = a2 m c (ix2 (row t.val (y 0)) (y 1)) := by
  have ht : t.val < 16 := lt_of_lt_of_eq t.isLt N_0
  have e : ∀ F : S8192x128.Idx → EReal, (∀ i, V m c main_v4 i = F i) → iblk m c 5 t y = F (ix2 (row t.val (y 0)) (y 1)) := fun F h => by
    blk_simp [iblk]
    rw [h]
    blk_ext [row, idx t]
  exact e (a2 m c) fun i => V4_eq m c i

theorem iblk6 (t : Fin cfg0.N) (y) : iblk m c 6 t y = a2 m c (ix2 (nrow t.val (y 0)) (y 1)) := by
  have ht : t.val < 16 := lt_of_lt_of_eq t.isLt N_0
  have e : ∀ F : S8192x128.Idx → EReal, (∀ i, V m c main_v4 i = F i) → iblk m c 6 t y = F (ix2 (nrow t.val (y 0)) (y 1)) := fun F h => by
    blk_simp [iblk]
    rw [h]
    blk_ext [nrow, idx t]
  exact e (a2 m c) fun i => V4_eq m c i

theorem iblk7 (t : Fin cfg0.N) (y) : iblk m c 7 t y = a3 m c y := by
  have e : ∀ F : S8.Idx → EReal, (∀ i, V m c main_arg3 i = F i) → iblk m c 7 t y = F y := fun F h => by
    blk_simp [iblk]
    rw [h]
    blk_ext [idx t]
  exact e _ fun i => congrFun (V_main_arg3 m c) i

/-- The rows around a tile are rows of the whole array, except outside it. -/
theorem near_eq (X : S8192x128.Idx → EReal) (t : ℕ) (ht : t < 16) (a : FVec Ideal S128x128 .bf16) (o : FVec Ideal S512x128 .bf16) (n : FVec Ideal S128x128 .bf16)
    (ha : ∀ y, a y = X (ix2 (prow t (y 0)) (y 1))) (ho : ∀ y, o y = X (ix2 (row t (y 0)) (y 1))) (hn : ∀ y, n y = X (ix2 (nrow t (y 0)) (y 1)))
    (p d : ℕ) (hp : p < 768) (hd : d < 128) (h1 : 128 ≤ 512 * t + p) (h2 : 512 * t + p < 8320) :
    near a o n p d = X (ix2 ⟨512 * t + p - 128, by omega⟩ ⟨d, hd⟩) := by
  unfold near
  split_ifs
  · rw [ha]
    exact congrArg X (congrArg (fun r => ix2 r (⟨d, hd⟩ : Fin 128)) (Fin.ext (by show 128 * ((4 * t - 1) % 64) + p = 512 * t + p - 128; omega)))
  · rw [ho]
    exact congrArg X (congrArg (fun r => ix2 r (⟨d, hd⟩ : Fin 128)) (Fin.ext (by show 512 * (t % 16) + (p - 128) = 512 * t + p - 128; omega)))
  · rw [hn]
    exact congrArg X (congrArg (fun r => ix2 r (⟨d, hd⟩ : Fin 128)) (Fin.ext (by show 128 * (min (4 * t + 4) 63) + (p - 128 - 512) = 512 * t + p - 128; omega)))
  · omega

theorem block_word : ∀ (t : Fin 16) (s : Fin 4), Scalar.addi (Scalar.muli (BitVec.ofNat 32 t.val) 4#32) (BitVec.ofNat 32 s.val) = BitVec.ofNat 32 (4 * t.val + s.val) := by
  decide

/-- The query sees a key only inside the array. -/
theorem seen_range : ∀ (b : Fin 64) (k : Fin 384),
    IntOp.andi (IntOp.ori (IntOp.cmpi CmpIPredicate.sge (BitVec.ofNat 32 k.val) 128#32) (Scalar.cmpi CmpIPredicate.sgt (BitVec.ofNat 32 b.val) 0#32))
      (IntOp.ori (IntOp.cmpi CmpIPredicate.slt (BitVec.ofNat 32 k.val) 256#32) (Scalar.cmpi CmpIPredicate.slt (BitVec.ofNat 32 b.val) 63#32))
      = (if 128 ≤ 128 * b.val + k.val ∧ 128 * b.val + k.val < 8320 then 1#1 else 0#1) := by
  decide +kernel

theorem mask_range : ∀ (n : Fin 64) (k : Fin 384),
    IntOp.andi (IntOp.cmpi CmpIPredicate.sge
          (IntOp.addi (IntOp.subi (IntOp.muli (BitVec.ofNat 32 n.val) 128#32) 128#32) (BitVec.ofNat 32 k.val)) 0#32)
      (IntOp.cmpi CmpIPredicate.slt
        (IntOp.addi (IntOp.subi (IntOp.muli (BitVec.ofNat 32 n.val) 128#32) 128#32) (BitVec.ofNat 32 k.val))
        8192#32) = (if 128 ≤ 128 * n.val + k.val ∧ 128 * n.val + k.val < 8320 then 1#1 else 0#1) := by
  decide +kernel

theorem and_assoc' (a b c : BitVec 1) : IntOp.andi (IntOp.andi a b) c = IntOp.andi a (IntOp.andi b c) := by
  revert a b c; decide

theorem dist_eq (n r k : ℕ) :
    IntOp.subi (BitVec.ofNat 32 (n * 128 + r)) (IntOp.addi (IntOp.subi (IntOp.muli (BitVec.ofNat 32 n) 128#32) 128#32) (BitVec.ofNat 32 k))
      = IntOp.subi (BitVec.ofNat 32 r) (IntOp.subi (BitVec.ofNat 32 k) 128#32) := by
  simp only [IntOp.subi, IntOp.addi, IntOp.muli, BitVec.ofNat_add, BitVec.ofNat_mul]
  generalize BitVec.ofNat 32 n * 128#32 = u
  generalize BitVec.ofNat 32 r = v
  generalize BitVec.ofNat 32 k = w
  apply BitVec.eq_of_toNat_eq
  simp only [BitVec.toNat_sub, BitVec.toNat_add, BitVec.toNat_ofNat]
  have := u.isLt
  have := v.isLt
  have := w.isLt
  omega

end Cert.AttfKernel
-- ==== Proof.AttfClaim.lean ====
/- The points of the attention kernel together leave the reference's result. -/
module

public import proofs.«01_k».proof.Proof.AttfBlock
public import proofs.«01_k».proof.Proof.AttfRef
public import proofs.«01_k».proof.Proof.Blocks
public import proofs.«01_k».proof.Proof.Reals
public import proofs.«01_k».proof.Proof.AttfTiles
public import proofs.«01_k».proof.Proof.Finite
public import proofs.«01_k».proof.Proof.Gen.Pre_att_finite

@[expose] public section

set_option maxRecDepth 16384

noncomputable section

namespace Cert.AttfKernel

open Cert.AttfSpec
open Cert.AttfIdeal Cert.AttfIdeal.Gen Idealize.ShloMosaic Idealize.ShloMosaic.TcCoe Idealize.SL.Sem
open scoped BigOperators

variable (m : (ℓ : Loc nD τ sig) → Buf (Elt Ideal) ℓ) (c : Dev nD)

/-- The key in column `k` of block `b` is a row of the array. -/
def Inside (b k : ℕ) : Prop := 128 ≤ 128 * b + k ∧ 128 * b + k < 8320

open Cert.AttfReference in
/-- The kernel and the reference let a query see the same keys, and only keys of the array. -/
theorem seen_mask (t : Fin 16) (s : Fin 4) (n : Fin 64) (hn : n.val = 4 * t.val + s.val) (r : Fin 128) (x : Fin 384) :
    seen (Scalar.addi (Scalar.muli (BitVec.ofNat 32 t.val) 4#32) (BitVec.ofNat 32 s.val)) r.val x.val = mask (ix3 n r x) := by
  rw [block_word, ← hn, mask_apply, dist_eq]
  unfold seen
  rw [and_assoc', and_assoc', seen_range n x, mask_range n x]

open Cert.AttfReference in
theorem mask_outside (n : Fin 64) (r : Fin 128) (x : Fin 384) (hx : ¬ Inside n.val x.val) : mask (ix3 n r x) = 0#1 := by
  rw [mask_apply, and_assoc', mask_range n x, if_neg (show ¬(128 ≤ 128 * n.val + x.val ∧ 128 * n.val + x.val < 8320) from hx)]
  generalize IntOp.cmpi _ _ _ = w
  revert w
  decide

theorem bit_cases : ∀ w : BitVec 1, w = 0#1 ∨ w = 1#1 := by
  decide

theorem eighth : Ideal.ofBits FTy.f32 1040187392#32 = ((1 / 8 : ℝ) : EReal) := by
  simp [Ideal.ofBits, Ideal.ieee]
  refine (EReal.coe_mul _ _).symm.trans (congrArg _ ?_)
  norm_num

/-- Scaling the queries first, or the products after. -/
theorem scaled (f g : Fin 64 → ℝ) (u : ℝ) : (∑ d, ((f d : EReal) * (u : EReal)) * (g d : EReal)) = (∑ d, (g d : EReal) * (f d : EReal)) * (u : EReal) := by
  simp only [Cert.Reals.mul_coe, Cert.Reals.sum_coe, Finset.sum_mul]
  exact congrArg _ (Finset.sum_congr rfl fun d _ => by ring)

/-- The queries of a point. -/
abbrev b0 (t : Fin cfg0.N) : S512x512.Idx → EReal := iblk m c 0 t

/-- Queries, keys and sinks are reals. -/
structure Args (q : S8192x512.Idx → ℝ) (k : S8192x128.Idx → ℝ) (z : S8.Idx → ℝ) : Prop where
  q : ∀ i, a0 m c i = ((q i : ℝ) : EReal)
  k : ∀ i, a1 m c i = ((k i : ℝ) : EReal)
  z : ∀ i, a3 m c i = ((z i : ℝ) : EReal)

variable {m c} {q : S8192x512.Idx → ℝ} {k : S8192x128.Idx → ℝ} {z : S8.Idx → ℝ} (ha : Args m c q k z)
include ha

open Cert.AttfReference in
/-- A score of the reference is minus infinity, or a real and its key a row of the array. -/
theorem scores_cases (n : Fin 64) (g : Fin 2) (h : Fin 4) (r : Fin 128) (x : Fin 384) :
    scores (a0 m c) (a1 m c) (ix5 n g h r x) = ⊥ ∨ (Inside n.val x.val ∧ ∃ p : ℝ, scores (a0 m c) (a1 m c) (ix5 n g h r x) = (p : EReal)) := by
  rw [Cert.AttfReference.scores_apply]
  rcases bit_cases (mask (ix3 n r x)) with e | e
  · left
    rw [e, Cert.AttfReference.ofBits_neg_inf]
    rfl
  · right
    have hx : Inside n.val x.val := by
      by_contra hx
      rw [mask_outside n r x hx] at e
      exact absurd e (by decide)
    refine ⟨hx, ?_⟩
    rw [e]
    have h1 := hx.1
    have h2 := hx.2
    have hb : ∀ d : Fin 64, band (a1 m c) (ix4 n x g d) = ((k (ix2 ⟨n.val * 128 + x.val - 128, by omega⟩ ⟨g.val * 64 + d.val, by omega⟩) : ℝ) : EReal) := fun d =>
      (band_apply (a1 m c) n x g d (by omega) (by omega)).trans (ha.k _)
    refine ⟨(∑ d : Fin 64, k (ix2 ⟨n.val * 128 + x.val - 128, by omega⟩ ⟨g.val * 64 + d.val, by omega⟩)
      * q (ix2 ⟨n.val * 128 + r.val, by omega⟩ ⟨g.val * 256 + h.val * 64 + d.val, by omega⟩)) * (1 / 8), (if_pos rfl : Scalar.select 1#1 _ _ = _).trans ?_⟩
    rw [eighth]
    simp only [hb, ha.q, Cert.Reals.mul_coe, Cert.Reals.sum_coe]

open Cert.AttfReference in
/-- A score of the kernel is one of the reference. -/
theorem score_eq (t : Fin cfg0.N) (y : S512x512.Idx) (n : Fin 64) (g : Fin 2) (h : Fin 4) (r : Fin 128) (hn : n.val = 4 * t.val + (y 0).val / 128) (hg : g.val = (y 1).val / 256)
    (hh : h.val = (y 1).val / 64 % 4) (hr : r.val = (y 0).val % 128) (x : Fin 384) :
    (∑ d : Fin 64, b0 m c t (ix2 (y 0) ⟨(y 1).val / 64 * 64 + d.val, by have : (y 1).val < 512 := (y 1).isLt; omega⟩)
        * near (iblk m c 1 t) (iblk m c 2 t) (iblk m c 3 t) (128 * ((y 0).val / 128) + x.val) (64 * ((y 1).val / 256) + d.val))
      + bias (Scalar.addi (Scalar.muli (BitVec.ofNat 32 t.val) 4#32) (BitVec.ofNat 32 ((y 0).val / 128))) ((y 0).val % 128) x.val
      = scores (a0 m c) (a1 m c) (ix5 n g h r x) := by
  have ht : t.val < 16 := lt_of_lt_of_eq t.isLt N_0
  have l0 : (y 0).val < 512 := (y 0).isLt
  have l1 : (y 1).val < 512 := (y 1).isLt
  have hm := seen_mask ⟨t.val, ht⟩ ⟨(y 0).val / 128, by omega⟩ n hn r x
  rw [hr] at hm
  unfold bias
  rw [Cert.AttfReference.scores_apply, hm]
  rcases bit_cases (mask (ix3 n r x)) with e | e
  · rw [e, Cert.AttfReference.ofBits_neg_inf]
    exact EReal.add_bot _
  · have hx : Inside n.val x.val := by
      by_contra hx
      rw [mask_outside n r x hx] at e
      exact absurd e (by decide)
    have h1 := hx.1
    have h2 := hx.2
    rw [e]
    refine (congrArg (_ + ·) (if_pos rfl : Scalar.select 1#1 (0 : EReal) ⊥ = 0)).trans ((add_zero _).trans (Eq.trans ?_ (if_pos rfl : Scalar.select 1#1 _ _ = _).symm))
    have hb : ∀ d : Fin 64, band (a1 m c) (ix4 n x g d) = ((k (ix2 ⟨n.val * 128 + x.val - 128, by omega⟩ ⟨g.val * 64 + d.val, by omega⟩) : ℝ) : EReal) := fun d =>
      (band_apply (a1 m c) n x g d (by omega) (by omega)).trans (ha.k _)
    have hc : ∀ d : Fin 64, near (iblk m c 1 t) (iblk m c 2 t) (iblk m c 3 t) (128 * ((y 0).val / 128) + x.val) (64 * ((y 1).val / 256) + d.val)
        = ((k (ix2 ⟨n.val * 128 + x.val - 128, by omega⟩ ⟨g.val * 64 + d.val, by omega⟩) : ℝ) : EReal) := fun d => by
      refine (near_eq (a1 m c) t.val ht _ _ _ (iblk1 m c t) (iblk2 m c t) (iblk3 m c t) _ _ (by omega) (by omega) (by omega) (by omega)).trans ?_
      refine (ha.k _).trans (congrArg (fun i => ((k i : ℝ) : EReal)) ?_)
      exact congr (congrArg ix2 (Fin.ext (by show 512 * t.val + (128 * ((y 0).val / 128) + x.val) - 128 = n.val * 128 + x.val - 128; omega)))
        (Fin.ext (by show 64 * ((y 1).val / 256) + d.val = g.val * 64 + d.val; omega))
    have hq : ∀ d : Fin 64, b0 m c t (ix2 (y 0) ⟨(y 1).val / 64 * 64 + d.val, by omega⟩)
        = ((q (ix2 ⟨n.val * 128 + r.val, by omega⟩ ⟨g.val * 256 + h.val * 64 + d.val, by omega⟩) : ℝ) : EReal) * ((1 / 8 : ℝ) : EReal) := fun d => by
      refine (iblk0 m c t _).trans ?_
      rw [eighth, ha.q]
      refine congrArg (fun i => ((q i : ℝ) : EReal) * ((1 / 8 : ℝ) : EReal)) ?_
      exact congr (congrArg ix2 (Fin.ext (by show 512 * (t.val % 16) + (y 0).val = n.val * 128 + r.val; omega)))
        (Fin.ext (by show (y 1).val / 64 * 64 + d.val = g.val * 256 + h.val * 64 + d.val; omega))
    simp only [hb, hc, hq, eighth, ha.q]
    exact scaled _ _ _

open Cert.AttfReference in
/-- A point of the grid leaves a block of the reference's result. -/
theorem tile_eq (t : Fin cfg0.N) (y : S512x512.Idx) : outsAt0 m c t y = mixed (scores (a0 m c) (a1 m c)) (a3 m c) (a2 m c) (ix2 (row t.val (y 0)) (y 1)) := by
  have ht : t.val < 16 := lt_of_lt_of_eq t.isLt N_0
  have l0 : (y 0).val < 512 := (y 0).isLt
  have l1 : (y 1).val < 512 := (y 1).isLt
  rw [out_block]
  unfold tile
  rw [coords]
  have hn : 4 * t.val + (y 0).val / 128 < 64 := by omega
  obtain ⟨n, hn⟩ : ∃ n : Fin 64, n.val = 4 * t.val + (y 0).val / 128 := ⟨⟨_, hn⟩, rfl⟩
  obtain ⟨g, hg⟩ : ∃ g : Fin 2, g.val = (y 1).val / 256 := ⟨⟨_, by omega⟩, rfl⟩
  obtain ⟨h, hh⟩ : ∃ h : Fin 4, h.val = (y 1).val / 64 % 4 := ⟨⟨_, by omega⟩, rfl⟩
  obtain ⟨r, hr⟩ : ∃ r : Fin 128, r.val = (y 0).val % 128 := ⟨⟨_, by omega⟩, rfl⟩
  obtain ⟨d, hd⟩ : ∃ d : Fin 64, d.val = (y 1).val % 64 := ⟨⟨_, by omega⟩, rfl⟩
  have hs : ∀ x, scores (a0 m c) (a1 m c) (ix5 n g h r x) ≠ ⊤ := fun x => by
    rcases scores_cases ha n g h r x with e | ⟨_, p, e⟩
    · rw [e]; exact bot_ne_top
    · rw [e]; exact EReal.coe_ne_top p
  refine Eq.trans ?_ (mixed_att (scores (a0 m c) (a1 m c)) (a3 m c) (a2 m c) (ix2 (row t.val (y 0)) (y 1)) n g h r d
    (by show 512 * (t.val % 16) + (y 0).val = n.val * 128 + r.val; omega) (by show (y 1).val = g.val * 256 + h.val * 64 + d.val; omega) hs _ (ha.z _)).symm
  refine att_congr (score_eq ha t y n g h r hn hg hh hr) ?_ fun x hx => ?_
  · refine (iblk7 m c t _).trans ((ha.z _).trans (congrArg (fun i => ((z i : ℝ) : EReal)) ?_))
    exact congrArg ix1 (Fin.ext (by show (y 1).val / 64 = g.val * 4 + h.val; omega))
  · rcases scores_cases ha n g h r x with e | ⟨⟨h1, h2⟩, _⟩
    · exact absurd e hx
    refine (near_eq (a2 m c) t.val ht _ _ _ (iblk4 m c t) (iblk5 m c t) (iblk6 m c t) _ _ (by omega) (by omega) (by omega) (by omega)).trans ?_
    refine Eq.trans ?_ (band_apply (a2 m c) n x g d (by omega) (by omega)).symm
    refine congrArg (a2 m c) ?_
    exact congr (congrArg ix2 (Fin.ext (by show 512 * t.val + (128 * ((y 0).val / 128) + x.val) - 128 = n.val * 128 + x.val - 128; omega)))
      (Fin.ext (by show 64 * ((y 1).val / 256) + (y 1).val % 64 = g.val * 64 + d.val; omega))

attribute [local irreducible] outsAt0 Cert.AttfReference.mixed Cert.AttfReference.scores

/-- The whole attention. -/
theorem att_final : (dats m 0 c).arrAt 8 cfg0.N = fun i : S8192x512.Idx => Cert.AttfReference.mixed (Cert.AttfReference.scores (a0 m c) (a1 m c)) (a3 m c) (a2 m c) i := by
  refine (dats m 0 c).arrAt_eq_of_covers 8 _ (by decide +kernel) fun t hf y => ?_
  have ht : t.val < 16 := lt_of_lt_of_eq t.isLt N_0
  have e : ∀ F : S8192x512.Idx → EReal, F (((cfg0.win 8).blk t).view.emb y) = F (ix2 (row t.val (y 0)) (y 1)) := fun F => by
    blk_ext [row, idx t]
  rw [after0_8]
  exact (tile_eq ha t y).trans (e fun i => Cert.AttfReference.mixed (Cert.AttfReference.scores (a0 m c) (a1 m c)) (a3 m c) (a2 m c) i).symm

end Cert.AttfKernel

namespace Cert.AttfClaim

open Idealize.ShloMosaic Idealize.SL.Sem

/-- The constant that masks a score stands for minus infinity. -/
theorem preserves : Cert.preserves_Attf_AttfIdeal :=
  IdealRules.named_const.statement Cert.AttfIdeal.κ "mask" .f32 0xF149F2CA#32 ⊥ rfl

/-- The idealized reference ends with its arguments unchanged and its counters at zero. -/
theorem frame_reference : Cert.quiescent_AttfRefIdeal :=
  fun m ρ _ => (θ_run Cert.AttfRefIdeal.defs _ _).mono
    (fun r h => ⟨fun c => (h c).2, sem_eq_zero_of_no_sems (by decide) r.2⟩) (Cert.AttfRefIdeal.Value.run (F := Ideal) m ρ)

/-- Under the precondition queries, keys and sinks are reals. -/
theorem args_of (m : (ℓ : Loc Cert.AttfIdeal.nD Cert.AttfIdeal.τ Cert.AttfIdeal.sig) → Buf (Elt Ideal) ℓ) (hp : Cert.Pre_AttfIdeal_att_finite m) (c : Dev Cert.AttfIdeal.nD) :
    ∃ q k z, Cert.AttfKernel.Args m c q k z := by
  have ht : ∀ a b : Cert.Pre_att_finite.S_.Idx, a = b := fun a b => funext fun k => k.elim0
  have e0 := congrFun (hp c) (fun k => k.elim0)
  simp only [Cert.Pre_att_finite.fn, andi, Cert.Finite.and_bits] at e0
  obtain ⟨⟨h0, h1⟩, h2⟩ := e0
  choose q hq using Cert.Finite.real_of_lt _ _ _ _ _ ht _ h0
  choose k hk using Cert.Finite.real_of_lt _ _ _ _ _ ht _ h1
  choose z hz using Cert.Finite.real_of_lt _ _ _ _ _ ht _ h2
  exact ⟨q, k, z, hq, hk, hz⟩

/-- From equal arguments, queries, keys and sinks finite, both programs leave the same attention. -/
theorem algebraic : Cert.algebraic_AttfIdeal_AttfRefIdeal_pre_att_finite := by
  intro m g m' g' hp hm
  refine ⟨fun c => (Cert.AttfIdeal.Gen.dats m 0 c).arrAt 8 Cert.AttfIdeal.cfg0.N, Cert.AttfIdeal.Value.run_blocks m g, ?_⟩
  refine (θ_run _ _ _).mono (fun r h c => ?_) (Cert.AttfRefIdeal.Value.run m' g')
  obtain ⟨q, k, z, ha⟩ := args_of m hp c
  obtain ⟨e0, e1, e2, e3⟩ := hm c
  obtain ⟨r0, k⟩ := h c
  refine ⟨r0.trans ((Cert.AttfReference.res_eq m' c).trans ?_), k⟩
  rw [e0, e1, e2, e3]
  exact (Cert.AttfKernel.att_final ha).symm

end Cert.AttfClaim
-- ==== Proof.SadaClaim.lean ====
/- The optimiser's step for the small weights. -/
module

public import proofs.«01_k».proof.Defs
public import proofs.«01_k».proof.Proof.Gen.SadaIdeal.Value
public import proofs.«01_k».proof.Proof.Gen.SadaRefIdeal.Run
public import Idealize.ShloMosaic.Lib.Pipeline.ValueKit
public import Idealize.ShloMosaic.Lib.Pipeline.ReadBack
public import Idealize.ShloMosaic.Lib.IdealHost

@[expose] public section

set_option maxRecDepth 16384

noncomputable section

namespace Cert.SadaClaim

open Idealize.ShloMosaic Idealize.SL.Sem

variable {s : Shape} (hb : Shape.BroadcastsInDim ⟨0, ![]⟩ s (![] : Fin 0 → Fin s.rank)) {w g m v w' g' m' v' : FVec Ideal s .f32}

/-- The first moment. -/
theorem mom_eq (hg : g = g') (hm : m = m') : addf (mulf (broadcastInDim s ![] hb (constant ⟨0, ![]⟩ .f32 0x3F666666#32)) m) (mulf (broadcastInDim s ![] hb (constant ⟨0, ![]⟩ .f32 0x3DCCCCCD#32)) g)
    = (addf (mulf (broadcast s (Scalar.ofBits .f32 0x3F666666#32)) m') (mulf (broadcast s (Scalar.ofBits .f32 0x3DCCCCCD#32)) g') : FVec Ideal s .f32) := by
  subst hg hm
  funext i
  pointwise

/-- The second moment. -/
theorem var_eq (hg : g = g') (hv : v = v') : addf (mulf (broadcastInDim s ![] hb (constant ⟨0, ![]⟩ .f32 0x3F7FBE77#32)) v) (mulf (broadcastInDim s ![] hb (constant ⟨0, ![]⟩ .f32 0x3A83126F#32)) (mulf g g))
    = (addf (mulf (broadcast s (Scalar.ofBits .f32 0x3F7FBE77#32)) v') (mulf (broadcast s (Scalar.ofBits .f32 0x3A83126F#32)) (mulf g' g')) : FVec Ideal s .f32) := by
  subst hg hv
  funext i
  pointwise

/-- The change of the weights. -/
theorem delta_eq (hw : w = w') (hg : g = g') (hm : m = m') (hv : v = v') : mulf (broadcastInDim s ![] hb (constant ⟨0, ![]⟩ .f32 0xBA83126F#32)) (addf (Host.divf (Host.divf (addf (mulf (broadcastInDim s ![] hb (constant ⟨0, ![]⟩ .f32 0x3F666666#32)) m) (mulf (broadcastInDim s ![] hb (constant ⟨0, ![]⟩ .f32 0x3DCCCCCD#32)) g)) (broadcastInDim s ![] hb (constant ⟨0, ![]⟩ .f32 0x3F26BD02#32))) (addf (Host.sqrt (Host.divf (addf (mulf (broadcastInDim s ![] hb (constant ⟨0, ![]⟩ .f32 0x3F7FBE77#32)) v) (mulf (broadcastInDim s ![] hb (constant ⟨0, ![]⟩ .f32 0x3A83126F#32)) (mulf g g))) (broadcastInDim s ![] hb (constant ⟨0, ![]⟩ .f32 0x3C231ACC#32)))) (broadcastInDim s ![] hb (constant ⟨0, ![]⟩ .f32 0x322BCC77#32)))) (mulf (broadcastInDim s ![] hb (constant ⟨0, ![]⟩ .f32 0x3C23D70A#32)) w))
    = (mulf (broadcast s (Scalar.ofBits .f32 0xBA83126F#32)) (addf (divf (divf (addf (mulf (broadcast s (Scalar.ofBits .f32 0x3F666666#32)) m') (mulf (broadcast s (Scalar.ofBits .f32 0x3DCCCCCD#32)) g')) (broadcast s (Scalar.ofBits .f32 0x3F26BD02#32))) (addf (sqrt (divf (addf (mulf (broadcast s (Scalar.ofBits .f32 0x3F7FBE77#32)) v') (mulf (broadcast s (Scalar.ofBits .f32 0x3A83126F#32)) (mulf g' g'))) (broadcast s (Scalar.ofBits .f32 0x3C231ACC#32)))) (broadcast s (Scalar.ofBits .f32 0x322BCC77#32)))) (mulf (broadcast s (Scalar.ofBits .f32 0x3C23D70A#32)) w')) : FVec Ideal s .f32) := by
  subst hw hg hm hv
  funext i
  pointwise

/-- The idealized reference ends with its arguments unchanged and its counters at zero. -/
theorem frame_reference : Cert.quiescent_SadaRefIdeal :=
  fun m ρ _ => (θ_run Cert.SadaRefIdeal.defs _ _).mono
    (fun r h => ⟨fun c => (h c).2.2.2.2.2.2.2.2.2, sem_eq_zero_of_no_sems (by decide) r.2⟩) (Cert.SadaRefIdeal.Value.run (F := Ideal) m ρ)

/-- Both programs leave the same changes and moments of the small weights. -/
theorem algebraic : Cert.algebraic_SadaIdeal_SadaRefIdeal := by
  intro m g m' g' hp hm
  refine ⟨fun c => (Cert.SadaIdeal.Gen.dats m 0 c).arrAt 12 Cert.SadaIdeal.cfg0.N, fun c => (Cert.SadaIdeal.Gen.dats m 0 c).arrAt 13 Cert.SadaIdeal.cfg0.N, fun c => (Cert.SadaIdeal.Gen.dats m 0 c).arrAt 14 Cert.SadaIdeal.cfg0.N, fun c => (Cert.SadaIdeal.Gen.dats m 0 c).arrAt 15 Cert.SadaIdeal.cfg0.N, fun c => (Cert.SadaIdeal.Gen.dats m 0 c).arrAt 16 Cert.SadaIdeal.cfg0.N, fun c => (Cert.SadaIdeal.Gen.dats m 0 c).arrAt 17 Cert.SadaIdeal.cfg0.N, fun c => (Cert.SadaIdeal.Gen.dats m 0 c).arrAt 18 Cert.SadaIdeal.cfg0.N, fun c => (Cert.SadaIdeal.Gen.dats m 0 c).arrAt 19 Cert.SadaIdeal.cfg0.N, fun c => (Cert.SadaIdeal.Gen.dats m 0 c).arrAt 20 Cert.SadaIdeal.cfg0.N, Cert.SadaIdeal.Value.run_blocks m g, ?_⟩
  refine (θ_run _ _ _).mono (fun r h c => ?_) (Cert.SadaRefIdeal.Value.run m' g')
  obtain ⟨e0, e1, e2, e3, e4, e5, e6, e7, e8, e9, e10, e11⟩ := hm c
  obtain ⟨r0, r1, r2, r3, r4, r5, r6, r7, r8, k⟩ := h c
  refine ⟨r0.trans ?_, r1.trans ?_, r2.trans ?_, r3.trans ?_, r4.trans ?_, r5.trans ?_, r6.trans ?_, r7.trans ?_, r8.trans ?_, k⟩
  · exact (delta_eq _ e0 e3 e6 e9).trans (Cert.SadaIdeal.Value.final12 m c).symm
  · exact (delta_eq _ e1 e4 e7 e10).trans (Cert.SadaIdeal.Value.final13 m c).symm
  · exact (delta_eq _ e2 e5 e8 e11).trans (Cert.SadaIdeal.Value.final14 m c).symm
  · exact (mom_eq _ e3 e6).trans (Cert.SadaIdeal.Value.final15 m c).symm
  · exact (mom_eq _ e4 e7).trans (Cert.SadaIdeal.Value.final16 m c).symm
  · exact (mom_eq _ e5 e8).trans (Cert.SadaIdeal.Value.final17 m c).symm
  · exact (var_eq _ e3 e9).trans (Cert.SadaIdeal.Value.final18 m c).symm
  · exact (var_eq _ e4 e10).trans (Cert.SadaIdeal.Value.final19 m c).symm
  · exact (var_eq _ e5 e11).trans (Cert.SadaIdeal.Value.final20 m c).symm

end Cert.SadaClaim
-- ==== Proof.SadbClaim.lean ====
/- The optimiser's step for the small weights. -/
module

public import proofs.«01_k».proof.Defs
public import proofs.«01_k».proof.Proof.Gen.SadbIdeal.Value
public import proofs.«01_k».proof.Proof.Gen.SadbRefIdeal.Run
public import Idealize.ShloMosaic.Lib.Pipeline.ValueKit
public import Idealize.ShloMosaic.Lib.Pipeline.ReadBack
public import Idealize.ShloMosaic.Lib.IdealHost

@[expose] public section

set_option maxRecDepth 16384

noncomputable section

namespace Cert.SadbClaim

open Idealize.ShloMosaic Idealize.SL.Sem

variable {s : Shape} (hb : Shape.BroadcastsInDim ⟨0, ![]⟩ s (![] : Fin 0 → Fin s.rank)) {w g m v w' g' m' v' : FVec Ideal s .f32}

/-- The first moment. -/
theorem mom_eq (hg : g = g') (hm : m = m') : addf (mulf (broadcastInDim s ![] hb (constant ⟨0, ![]⟩ .f32 0x3F666666#32)) m) (mulf (broadcastInDim s ![] hb (constant ⟨0, ![]⟩ .f32 0x3DCCCCCD#32)) g)
    = (addf (mulf (broadcast s (Scalar.ofBits .f32 0x3F666666#32)) m') (mulf (broadcast s (Scalar.ofBits .f32 0x3DCCCCCD#32)) g') : FVec Ideal s .f32) := by
  subst hg hm
  funext i
  pointwise

/-- The second moment. -/
theorem var_eq (hg : g = g') (hv : v = v') : addf (mulf (broadcastInDim s ![] hb (constant ⟨0, ![]⟩ .f32 0x3F7FBE77#32)) v) (mulf (broadcastInDim s ![] hb (constant ⟨0, ![]⟩ .f32 0x3A83126F#32)) (mulf g g))
    = (addf (mulf (broadcast s (Scalar.ofBits .f32 0x3F7FBE77#32)) v') (mulf (broadcast s (Scalar.ofBits .f32 0x3A83126F#32)) (mulf g' g')) : FVec Ideal s .f32) := by
  subst hg hv
  funext i
  pointwise

/-- The change of the weights. -/
theorem delta_eq (hw : w = w') (hg : g = g') (hm : m = m') (hv : v = v') : mulf (broadcastInDim s ![] hb (constant ⟨0, ![]⟩ .f32 0xBA83126F#32)) (addf (Host.divf (Host.divf (addf (mulf (broadcastInDim s ![] hb (constant ⟨0, ![]⟩ .f32 0x3F666666#32)) m) (mulf (broadcastInDim s ![] hb (constant ⟨0, ![]⟩ .f32 0x3DCCCCCD#32)) g)) (broadcastInDim s ![] hb (constant ⟨0, ![]⟩ .f32 0x3F26BD02#32))) (addf (Host.sqrt (Host.divf (addf (mulf (broadcastInDim s ![] hb (constant ⟨0, ![]⟩ .f32 0x3F7FBE77#32)) v) (mulf (broadcastInDim s ![] hb (constant ⟨0, ![]⟩ .f32 0x3A83126F#32)) (mulf g g))) (broadcastInDim s ![] hb (constant ⟨0, ![]⟩ .f32 0x3C231ACC#32)))) (broadcastInDim s ![] hb (constant ⟨0, ![]⟩ .f32 0x322BCC77#32)))) (mulf (broadcastInDim s ![] hb (constant ⟨0, ![]⟩ .f32 0x3C23D70A#32)) w))
    = (mulf (broadcast s (Scalar.ofBits .f32 0xBA83126F#32)) (addf (divf (divf (addf (mulf (broadcast s (Scalar.ofBits .f32 0x3F666666#32)) m') (mulf (broadcast s (Scalar.ofBits .f32 0x3DCCCCCD#32)) g')) (broadcast s (Scalar.ofBits .f32 0x3F26BD02#32))) (addf (sqrt (divf (addf (mulf (broadcast s (Scalar.ofBits .f32 0x3F7FBE77#32)) v') (mulf (broadcast s (Scalar.ofBits .f32 0x3A83126F#32)) (mulf g' g'))) (broadcast s (Scalar.ofBits .f32 0x3C231ACC#32)))) (broadcast s (Scalar.ofBits .f32 0x322BCC77#32)))) (mulf (broadcast s (Scalar.ofBits .f32 0x3C23D70A#32)) w')) : FVec Ideal s .f32) := by
  subst hw hg hm hv
  funext i
  pointwise

/-- The idealized reference ends with its arguments unchanged and its counters at zero. -/
theorem frame_reference : Cert.quiescent_SadbRefIdeal :=
  fun m ρ _ => (θ_run Cert.SadbRefIdeal.defs _ _).mono
    (fun r h => ⟨fun c => (h c).2.2.2.2.2.2.2.2.2, sem_eq_zero_of_no_sems (by decide) r.2⟩) (Cert.SadbRefIdeal.Value.run (F := Ideal) m ρ)

/-- Both programs leave the same changes and moments of the small weights. -/
theorem algebraic : Cert.algebraic_SadbIdeal_SadbRefIdeal := by
  intro m g m' g' hp hm
  refine ⟨fun c => (Cert.SadbIdeal.Gen.dats m 0 c).arrAt 12 Cert.SadbIdeal.cfg0.N, fun c => (Cert.SadbIdeal.Gen.dats m 0 c).arrAt 13 Cert.SadbIdeal.cfg0.N, fun c => (Cert.SadbIdeal.Gen.dats m 0 c).arrAt 14 Cert.SadbIdeal.cfg0.N, fun c => (Cert.SadbIdeal.Gen.dats m 0 c).arrAt 15 Cert.SadbIdeal.cfg0.N, fun c => (Cert.SadbIdeal.Gen.dats m 0 c).arrAt 16 Cert.SadbIdeal.cfg0.N, fun c => (Cert.SadbIdeal.Gen.dats m 0 c).arrAt 17 Cert.SadbIdeal.cfg0.N, fun c => (Cert.SadbIdeal.Gen.dats m 0 c).arrAt 18 Cert.SadbIdeal.cfg0.N, fun c => (Cert.SadbIdeal.Gen.dats m 0 c).arrAt 19 Cert.SadbIdeal.cfg0.N, fun c => (Cert.SadbIdeal.Gen.dats m 0 c).arrAt 20 Cert.SadbIdeal.cfg0.N, Cert.SadbIdeal.Value.run_blocks m g, ?_⟩
  refine (θ_run _ _ _).mono (fun r h c => ?_) (Cert.SadbRefIdeal.Value.run m' g')
  obtain ⟨e0, e1, e2, e3, e4, e5, e6, e7, e8, e9, e10, e11⟩ := hm c
  obtain ⟨r0, r1, r2, r3, r4, r5, r6, r7, r8, k⟩ := h c
  refine ⟨r0.trans ?_, r1.trans ?_, r2.trans ?_, r3.trans ?_, r4.trans ?_, r5.trans ?_, r6.trans ?_, r7.trans ?_, r8.trans ?_, k⟩
  · exact (delta_eq _ e0 e3 e6 e9).trans (Cert.SadbIdeal.Value.final12 m c).symm
  · exact (delta_eq _ e1 e4 e7 e10).trans (Cert.SadbIdeal.Value.final13 m c).symm
  · exact (delta_eq _ e2 e5 e8 e11).trans (Cert.SadbIdeal.Value.final14 m c).symm
  · exact (mom_eq _ e3 e6).trans (Cert.SadbIdeal.Value.final15 m c).symm
  · exact (mom_eq _ e4 e7).trans (Cert.SadbIdeal.Value.final16 m c).symm
  · exact (mom_eq _ e5 e8).trans (Cert.SadbIdeal.Value.final17 m c).symm
  · exact (var_eq _ e3 e9).trans (Cert.SadbIdeal.Value.final18 m c).symm
  · exact (var_eq _ e4 e10).trans (Cert.SadbIdeal.Value.final19 m c).symm
  · exact (var_eq _ e5 e11).trans (Cert.SadbIdeal.Value.final20 m c).symm

end Cert.SadbClaim
-- ==== Proof.SadcClaim.lean ====
/- The optimiser's step for the small weights. -/
module

public import proofs.«01_k».proof.Defs
public import proofs.«01_k».proof.Proof.Gen.SadcIdeal.Value
public import proofs.«01_k».proof.Proof.Gen.SadcRefIdeal.Run
public import Idealize.ShloMosaic.Lib.Pipeline.ValueKit
public import Idealize.ShloMosaic.Lib.Pipeline.ReadBack
public import Idealize.ShloMosaic.Lib.IdealHost

@[expose] public section

set_option maxRecDepth 16384

noncomputable section

namespace Cert.SadcClaim

open Idealize.ShloMosaic Idealize.SL.Sem

variable {s : Shape} (hb : Shape.BroadcastsInDim ⟨0, ![]⟩ s (![] : Fin 0 → Fin s.rank)) {w g m v w' g' m' v' : FVec Ideal s .f32}

/-- The first moment. -/
theorem mom_eq (hg : g = g') (hm : m = m') : addf (mulf (broadcastInDim s ![] hb (constant ⟨0, ![]⟩ .f32 0x3F666666#32)) m) (mulf (broadcastInDim s ![] hb (constant ⟨0, ![]⟩ .f32 0x3DCCCCCD#32)) g)
    = (addf (mulf (broadcast s (Scalar.ofBits .f32 0x3F666666#32)) m') (mulf (broadcast s (Scalar.ofBits .f32 0x3DCCCCCD#32)) g') : FVec Ideal s .f32) := by
  subst hg hm
  funext i
  pointwise

/-- The second moment. -/
theorem var_eq (hg : g = g') (hv : v = v') : addf (mulf (broadcastInDim s ![] hb (constant ⟨0, ![]⟩ .f32 0x3F7FBE77#32)) v) (mulf (broadcastInDim s ![] hb (constant ⟨0, ![]⟩ .f32 0x3A83126F#32)) (mulf g g))
    = (addf (mulf (broadcast s (Scalar.ofBits .f32 0x3F7FBE77#32)) v') (mulf (broadcast s (Scalar.ofBits .f32 0x3A83126F#32)) (mulf g' g')) : FVec Ideal s .f32) := by
  subst hg hv
  funext i
  pointwise

/-- The change of the weights. -/
theorem delta_eq (hw : w = w') (hg : g = g') (hm : m = m') (hv : v = v') : mulf (broadcastInDim s ![] hb (constant ⟨0, ![]⟩ .f32 0xBA83126F#32)) (addf (Host.divf (Host.divf (addf (mulf (broadcastInDim s ![] hb (constant ⟨0, ![]⟩ .f32 0x3F666666#32)) m) (mulf (broadcastInDim s ![] hb (constant ⟨0, ![]⟩ .f32 0x3DCCCCCD#32)) g)) (broadcastInDim s ![] hb (constant ⟨0, ![]⟩ .f32 0x3F26BD02#32))) (addf (Host.sqrt (Host.divf (addf (mulf (broadcastInDim s ![] hb (constant ⟨0, ![]⟩ .f32 0x3F7FBE77#32)) v) (mulf (broadcastInDim s ![] hb (constant ⟨0, ![]⟩ .f32 0x3A83126F#32)) (mulf g g))) (broadcastInDim s ![] hb (constant ⟨0, ![]⟩ .f32 0x3C231ACC#32)))) (broadcastInDim s ![] hb (constant ⟨0, ![]⟩ .f32 0x322BCC77#32)))) (mulf (broadcastInDim s ![] hb (constant ⟨0, ![]⟩ .f32 0x3C23D70A#32)) w))
    = (mulf (broadcast s (Scalar.ofBits .f32 0xBA83126F#32)) (addf (divf (divf (addf (mulf (broadcast s (Scalar.ofBits .f32 0x3F666666#32)) m') (mulf (broadcast s (Scalar.ofBits .f32 0x3DCCCCCD#32)) g')) (broadcast s (Scalar.ofBits .f32 0x3F26BD02#32))) (addf (sqrt (divf (addf (mulf (broadcast s (Scalar.ofBits .f32 0x3F7FBE77#32)) v') (mulf (broadcast s (Scalar.ofBits .f32 0x3A83126F#32)) (mulf g' g'))) (broadcast s (Scalar.ofBits .f32 0x3C231ACC#32)))) (broadcast s (Scalar.ofBits .f32 0x322BCC77#32)))) (mulf (broadcast s (Scalar.ofBits .f32 0x3C23D70A#32)) w')) : FVec Ideal s .f32) := by
  subst hw hg hm hv
  funext i
  pointwise

/-- The idealized reference ends with its arguments unchanged and its counters at zero. -/
theorem frame_reference : Cert.quiescent_SadcRefIdeal :=
  fun m ρ _ => (θ_run Cert.SadcRefIdeal.defs _ _).mono
    (fun r h => ⟨fun c => (h c).2.2.2.2.2.2.2.2.2, sem_eq_zero_of_no_sems (by decide) r.2⟩) (Cert.SadcRefIdeal.Value.run (F := Ideal) m ρ)

/-- Both programs leave the same changes and moments of the small weights. -/
theorem algebraic : Cert.algebraic_SadcIdeal_SadcRefIdeal := by
  intro m g m' g' hp hm
  refine ⟨fun c => (Cert.SadcIdeal.Gen.dats m 0 c).arrAt 12 Cert.SadcIdeal.cfg0.N, fun c => (Cert.SadcIdeal.Gen.dats m 0 c).arrAt 13 Cert.SadcIdeal.cfg0.N, fun c => (Cert.SadcIdeal.Gen.dats m 0 c).arrAt 14 Cert.SadcIdeal.cfg0.N, fun c => (Cert.SadcIdeal.Gen.dats m 0 c).arrAt 15 Cert.SadcIdeal.cfg0.N, fun c => (Cert.SadcIdeal.Gen.dats m 0 c).arrAt 16 Cert.SadcIdeal.cfg0.N, fun c => (Cert.SadcIdeal.Gen.dats m 0 c).arrAt 17 Cert.SadcIdeal.cfg0.N, fun c => (Cert.SadcIdeal.Gen.dats m 0 c).arrAt 18 Cert.SadcIdeal.cfg0.N, fun c => (Cert.SadcIdeal.Gen.dats m 0 c).arrAt 19 Cert.SadcIdeal.cfg0.N, fun c => (Cert.SadcIdeal.Gen.dats m 0 c).arrAt 20 Cert.SadcIdeal.cfg0.N, Cert.SadcIdeal.Value.run_blocks m g, ?_⟩
  refine (θ_run _ _ _).mono (fun r h c => ?_) (Cert.SadcRefIdeal.Value.run m' g')
  obtain ⟨e0, e1, e2, e3, e4, e5, e6, e7, e8, e9, e10, e11⟩ := hm c
  obtain ⟨r0, r1, r2, r3, r4, r5, r6, r7, r8, k⟩ := h c
  refine ⟨r0.trans ?_, r1.trans ?_, r2.trans ?_, r3.trans ?_, r4.trans ?_, r5.trans ?_, r6.trans ?_, r7.trans ?_, r8.trans ?_, k⟩
  · exact (delta_eq _ e0 e3 e6 e9).trans (Cert.SadcIdeal.Value.final12 m c).symm
  · exact (delta_eq _ e1 e4 e7 e10).trans (Cert.SadcIdeal.Value.final13 m c).symm
  · exact (delta_eq _ e2 e5 e8 e11).trans (Cert.SadcIdeal.Value.final14 m c).symm
  · exact (mom_eq _ e3 e6).trans (Cert.SadcIdeal.Value.final15 m c).symm
  · exact (mom_eq _ e4 e7).trans (Cert.SadcIdeal.Value.final16 m c).symm
  · exact (mom_eq _ e5 e8).trans (Cert.SadcIdeal.Value.final17 m c).symm
  · exact (var_eq _ e3 e9).trans (Cert.SadcIdeal.Value.final18 m c).symm
  · exact (var_eq _ e4 e10).trans (Cert.SadcIdeal.Value.final19 m c).symm
  · exact (var_eq _ e5 e11).trans (Cert.SadcIdeal.Value.final20 m c).symm

end Cert.SadcClaim
-- ==== Proof.SaddClaim.lean ====
/- The optimiser's step for the small weights. -/
module

public import proofs.«01_k».proof.Defs
public import proofs.«01_k».proof.Proof.Gen.SaddIdeal.Value
public import proofs.«01_k».proof.Proof.Gen.SaddRefIdeal.Run
public import Idealize.ShloMosaic.Lib.Pipeline.ValueKit
public import Idealize.ShloMosaic.Lib.Pipeline.ReadBack
public import Idealize.ShloMosaic.Lib.IdealHost

@[expose] public section

set_option maxRecDepth 16384

noncomputable section

namespace Cert.SaddClaim

open Idealize.ShloMosaic Idealize.SL.Sem

variable {s : Shape} (hb : Shape.BroadcastsInDim ⟨0, ![]⟩ s (![] : Fin 0 → Fin s.rank)) {w g m v w' g' m' v' : FVec Ideal s .f32}

/-- The first moment. -/
theorem mom_eq (hg : g = g') (hm : m = m') : addf (mulf (broadcastInDim s ![] hb (constant ⟨0, ![]⟩ .f32 0x3F666666#32)) m) (mulf (broadcastInDim s ![] hb (constant ⟨0, ![]⟩ .f32 0x3DCCCCCD#32)) g)
    = (addf (mulf (broadcast s (Scalar.ofBits .f32 0x3F666666#32)) m') (mulf (broadcast s (Scalar.ofBits .f32 0x3DCCCCCD#32)) g') : FVec Ideal s .f32) := by
  subst hg hm
  funext i
  pointwise

/-- The second moment. -/
theorem var_eq (hg : g = g') (hv : v = v') : addf (mulf (broadcastInDim s ![] hb (constant ⟨0, ![]⟩ .f32 0x3F7FBE77#32)) v) (mulf (broadcastInDim s ![] hb (constant ⟨0, ![]⟩ .f32 0x3A83126F#32)) (mulf g g))
    = (addf (mulf (broadcast s (Scalar.ofBits .f32 0x3F7FBE77#32)) v') (mulf (broadcast s (Scalar.ofBits .f32 0x3A83126F#32)) (mulf g' g')) : FVec Ideal s .f32) := by
  subst hg hv
  funext i
  pointwise

/-- The change of the weights. -/
theorem delta_eq (hw : w = w') (hg : g = g') (hm : m = m') (hv : v = v') : mulf (broadcastInDim s ![] hb (constant ⟨0, ![]⟩ .f32 0xBA83126F#32)) (addf (Host.divf (Host.divf (addf (mulf (broadcastInDim s ![] hb (constant ⟨0, ![]⟩ .f32 0x3F666666#32)) m) (mulf (broadcastInDim s ![] hb (constant ⟨0, ![]⟩ .f32 0x3DCCCCCD#32)) g)) (broadcastInDim s ![] hb (constant ⟨0, ![]⟩ .f32 0x3F26BD02#32))) (addf (Host.sqrt (Host.divf (addf (mulf (broadcastInDim s ![] hb (constant ⟨0, ![]⟩ .f32 0x3F7FBE77#32)) v) (mulf (broadcastInDim s ![] hb (constant ⟨0, ![]⟩ .f32 0x3A83126F#32)) (mulf g g))) (broadcastInDim s ![] hb (constant ⟨0, ![]⟩ .f32 0x3C231ACC#32)))) (broadcastInDim s ![] hb (constant ⟨0, ![]⟩ .f32 0x322BCC77#32)))) (mulf (broadcastInDim s ![] hb (constant ⟨0, ![]⟩ .f32 0x3C23D70A#32)) w))
    = (mulf (broadcast s (Scalar.ofBits .f32 0xBA83126F#32)) (addf (divf (divf (addf (mulf (broadcast s (Scalar.ofBits .f32 0x3F666666#32)) m') (mulf (broadcast s (Scalar.ofBits .f32 0x3DCCCCCD#32)) g')) (broadcast s (Scalar.ofBits .f32 0x3F26BD02#32))) (addf (sqrt (divf (addf (mulf (broadcast s (Scalar.ofBits .f32 0x3F7FBE77#32)) v') (mulf (broadcast s (Scalar.ofBits .f32 0x3A83126F#32)) (mulf g' g'))) (broadcast s (Scalar.ofBits .f32 0x3C231ACC#32)))) (broadcast s (Scalar.ofBits .f32 0x322BCC77#32)))) (mulf (broadcast s (Scalar.ofBits .f32 0x3C23D70A#32)) w')) : FVec Ideal s .f32) := by
  subst hw hg hm hv
  funext i
  pointwise

/-- The idealized reference ends with its arguments unchanged and its counters at zero. -/
theorem frame_reference : Cert.quiescent_SaddRefIdeal :=
  fun m ρ _ => (θ_run Cert.SaddRefIdeal.defs _ _).mono
    (fun r h => ⟨fun c => (h c).2.2.2.2.2.2.2.2.2, sem_eq_zero_of_no_sems (by decide) r.2⟩) (Cert.SaddRefIdeal.Value.run (F := Ideal) m ρ)

/-- Both programs leave the same changes and moments of the small weights. -/
theorem algebraic : Cert.algebraic_SaddIdeal_SaddRefIdeal := by
  intro m g m' g' hp hm
  refine ⟨fun c => (Cert.SaddIdeal.Gen.dats m 0 c).arrAt 12 Cert.SaddIdeal.cfg0.N, fun c => (Cert.SaddIdeal.Gen.dats m 0 c).arrAt 13 Cert.SaddIdeal.cfg0.N, fun c => (Cert.SaddIdeal.Gen.dats m 0 c).arrAt 14 Cert.SaddIdeal.cfg0.N, fun c => (Cert.SaddIdeal.Gen.dats m 0 c).arrAt 15 Cert.SaddIdeal.cfg0.N, fun c => (Cert.SaddIdeal.Gen.dats m 0 c).arrAt 16 Cert.SaddIdeal.cfg0.N, fun c => (Cert.SaddIdeal.Gen.dats m 0 c).arrAt 17 Cert.SaddIdeal.cfg0.N, fun c => (Cert.SaddIdeal.Gen.dats m 0 c).arrAt 18 Cert.SaddIdeal.cfg0.N, fun c => (Cert.SaddIdeal.Gen.dats m 0 c).arrAt 19 Cert.SaddIdeal.cfg0.N, fun c => (Cert.SaddIdeal.Gen.dats m 0 c).arrAt 20 Cert.SaddIdeal.cfg0.N, Cert.SaddIdeal.Value.run_blocks m g, ?_⟩
  refine (θ_run _ _ _).mono (fun r h c => ?_) (Cert.SaddRefIdeal.Value.run m' g')
  obtain ⟨e0, e1, e2, e3, e4, e5, e6, e7, e8, e9, e10, e11⟩ := hm c
  obtain ⟨r0, r1, r2, r3, r4, r5, r6, r7, r8, k⟩ := h c
  refine ⟨r0.trans ?_, r1.trans ?_, r2.trans ?_, r3.trans ?_, r4.trans ?_, r5.trans ?_, r6.trans ?_, r7.trans ?_, r8.trans ?_, k⟩
  · exact (delta_eq _ e0 e3 e6 e9).trans (Cert.SaddIdeal.Value.final12 m c).symm
  · exact (delta_eq _ e1 e4 e7 e10).trans (Cert.SaddIdeal.Value.final13 m c).symm
  · exact (delta_eq _ e2 e5 e8 e11).trans (Cert.SaddIdeal.Value.final14 m c).symm
  · exact (mom_eq _ e3 e6).trans (Cert.SaddIdeal.Value.final15 m c).symm
  · exact (mom_eq _ e4 e7).trans (Cert.SaddIdeal.Value.final16 m c).symm
  · exact (mom_eq _ e5 e8).trans (Cert.SaddIdeal.Value.final17 m c).symm
  · exact (var_eq _ e3 e9).trans (Cert.SaddIdeal.Value.final18 m c).symm
  · exact (var_eq _ e4 e10).trans (Cert.SaddIdeal.Value.final19 m c).symm
  · exact (var_eq _ e5 e11).trans (Cert.SaddIdeal.Value.final20 m c).symm

end Cert.SaddClaim
-- ==== Proof.SsumClaim.lean ====
/- The sum of the devices' gradients of the small weights. -/
module

public import proofs.«01_k».proof.Defs
public import proofs.«01_k».proof.Proof.Gen.SsumIdeal.Value
public import proofs.«01_k».proof.Proof.Gen.SsumRefIdeal.Run
public import Idealize.ShloMosaic.Lib.Pipeline.ValueKit
public import Idealize.ShloMosaic.Lib.Pipeline.ReadBack
public import Idealize.ShloMosaic.Lib.IdealHost

@[expose] public section

set_option maxRecDepth 16384

noncomputable section

namespace Cert.SsumClaim

open Idealize.ShloMosaic Idealize.SL.Sem
open scoped BigOperators

/-- The idealized reference ends with its arguments unchanged and its counters at zero. -/
theorem frame_reference : Cert.quiescent_SsumRefIdeal :=
  fun m ρ _ => (θ_run Cert.SsumRefIdeal.defs _ _).mono
    (fun r h => ⟨fun c => (h c).2, sem_eq_zero_of_no_sems (by decide) r.2⟩) (Cert.SsumRefIdeal.Value.run (F := Ideal) m ρ)

section
open Cert.SsumRefIdeal Cert.SsumRefIdeal.Gen

theorem reference_eq (x : FVec Ideal S8x248x128 .f32) (i : S248x128.Idx) :
    Host.reduceAdd x (constant S_ .f32 0x00000000#32) reducesTo_S8x248x128_S248x128_d0 h_S_ i = ∑ s : Fin 8, x (ix3 s (i 0) (i 1)) := by
  pointwise

end

section
open Cert.SsumIdeal Cert.SsumIdeal.Gen Cert.SsumIdeal.Value

theorem kernel_eq (x : FVec Ideal S8x248x128 .f32) (i : S248x128.Idx) : G1 (F := Ideal) x i = ∑ s : Fin 8, x (ix3 s (i 0) (i 1)) := by
  unfold G1 k0_pay1
  pointwise
  rw [Fin.sum_univ_eight]

end

/-- Both programs leave the same sum. -/
theorem algebraic : Cert.algebraic_SsumIdeal_SsumRefIdeal := by
  intro m g m' g' hp hm
  refine ⟨fun c => (Cert.SsumIdeal.Gen.dats m 0 c).arrAt 1 Cert.SsumIdeal.cfg0.N, Cert.SsumIdeal.Value.run_blocks m g, ?_⟩
  refine (θ_run _ _ _).mono (fun r h c => ?_) (Cert.SsumRefIdeal.Value.run m' g')
  have e0 := hm c
  obtain ⟨r0, k⟩ := h c
  refine ⟨r0.trans ?_, k⟩
  rw [e0]
  exact (funext fun i => (reference_eq _ i).trans (kernel_eq _ i).symm).trans (Cert.SsumIdeal.Value.final1 m c).symm

end Cert.SsumClaim
-- ==== Proof.MixfClaim.lean ====
/- The rotary part of the token mixer's forward call: the queries and keys rotated by their positions' angles, and the values. -/
module

public import proofs.«01_k».proof.Defs
public import proofs.«01_k».proof.Proof.Gen.MixfIdeal.Value
public import proofs.«01_k».proof.Proof.Gen.MixfRefIdeal.Run
public import Idealize.ShloMosaic.Lib.Pipeline.ValueKit
public import Idealize.ShloMosaic.Lib.Pipeline.ReadBack
public import Idealize.ShloMosaic.Lib.IdealHost

@[expose] public section

set_option maxRecDepth 16384

noncomputable section

namespace Cert.MixfSpec

open Idealize.ShloMosaic Idealize.SL.Sem

/-- The angle of lane `l` at position `i`. -/
def angle (i l : ℕ) : EReal :=
  FloatOps.sitofp (F := Ideal) .f32 (BitVec.ofNat 32 i) * Ideal.pow (Ideal.ofBits .f32 0x461C4000#32)
    (Ideal.div (-FloatOps.sitofp (F := Ideal) .f32 (BitVec.ofNat 32 l)) (Ideal.ofBits .f32 0x42000000#32))

/-- Element `n` of row `i`. -/
def elem (z : (⟨2, ![8192, 2048]⟩ : Shape).Idx → EReal) (i : Fin 8192) (n : ℕ) : EReal := if h : n < 2048 then z (ix2 i ⟨n, h⟩) else 0

theorem elem_eq (z : (⟨2, ![8192, 2048]⟩ : Shape).Idx → EReal) (i : Fin 8192) (k : Fin 2048) (n : ℕ) (h : k.val = n) : z (ix2 i k) = elem z i n := by
  subst h
  exact (show elem z i k.val = _ from dif_pos k.isLt).symm

/-- Element `n` of row `i` of the columns from `o` on, its head rotated by the position's angles. -/
def turned (z : (⟨2, ![8192, 2048]⟩ : Shape).Idx → EReal) (o : ℕ) (i : Fin 8192) (n : ℕ) : EReal :=
  if n % 64 < 32 then elem z i (o + n) * Ideal.cos (angle i.val (n % 64)) - elem z i (o + n + 32) * Ideal.sin (angle i.val (n % 64))
  else elem z i (o + n) * Ideal.cos (angle i.val (n % 64 - 32)) + elem z i (o + n - 32) * Ideal.sin (angle i.val (n % 64 - 32))

theorem turned_lo (z : (⟨2, ![8192, 2048]⟩ : Shape).Idx → EReal) (o : ℕ) (i : Fin 8192) (n : ℕ) (h : n % 64 < 32) : turned z o i n
    = elem z i (o + n) * Ideal.cos (angle i.val (n % 64)) - elem z i (o + n + 32) * Ideal.sin (angle i.val (n % 64)) := if_pos h

theorem turned_hi (z : (⟨2, ![8192, 2048]⟩ : Shape).Idx → EReal) (o : ℕ) (i : Fin 8192) (n : ℕ) (h : ¬ n % 64 < 32) : turned z o i n
    = elem z i (o + n) * Ideal.cos (angle i.val (n % 64 - 32)) + elem z i (o + n - 32) * Ideal.sin (angle i.val (n % 64 - 32)) := if_neg h

theorem sub_congr {a a' b b' c d : EReal} (h : a = a') (k : b = b') : a * c - b * d = a' * c - b' * d := by
  rw [h, k]

theorem add_congr {a a' b b' c d : EReal} (h : a = a') (k : b = b') : a * c + b * d = a' * c + b' * d := by
  rw [h, k]

end Cert.MixfSpec

namespace Cert.MixfReference

open Idealize.ShloMosaic Idealize.SL.Sem Cert.MixfRefIdeal Cert.MixfRefIdeal.Gen Cert.MixfSpec

variable (z : FVec Ideal S8192x2048 .f32)

/-- The queries. -/
theorem queries_eq : (truncf .bf16 (mulf (shapeCast _ (concatenate S8192x8x64 2 [⟨S8192x8x32, (subf (mulf (extractStridedSlice S8192x8x32 ![0, 0, 0] (shapeCast _ (extractStridedSlice S8192x512 ![0, 768] z slices_S8192x2048_S8192x512_0_768) shapeCasts_S8192x512_S8192x8x64) slices_S8192x8x64_S8192x8x32_0_0_0) (broadcastInDim S8192x8x32 ![0, 1, 2] bcast_S8192x1x32_S8192x8x32_0_1_2 (broadcastInDim S8192x1x32 ![0, 2] bcast_S8192x32_S8192x1x32_0_2 (Host.cos (mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))))))) (mulf (extractStridedSlice S8192x8x32 ![0, 0, 32] (shapeCast _ (extractStridedSlice S8192x512 ![0, 768] z slices_S8192x2048_S8192x512_0_768) shapeCasts_S8192x512_S8192x8x64) slices_S8192x8x64_S8192x8x32_0_0_32) (broadcastInDim S8192x8x32 ![0, 1, 2] bcast_S8192x1x32_S8192x8x32_0_1_2 (broadcastInDim S8192x1x32 ![0, 2] bcast_S8192x32_S8192x1x32_0_2 (Host.sin (mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))))))))⟩, ⟨S8192x8x32, (addf (mulf (extractStridedSlice S8192x8x32 ![0, 0, 32] (shapeCast _ (extractStridedSlice S8192x512 ![0, 768] z slices_S8192x2048_S8192x512_0_768) shapeCasts_S8192x512_S8192x8x64) slices_S8192x8x64_S8192x8x32_0_0_32) (broadcastInDim S8192x8x32 ![0, 1, 2] bcast_S8192x1x32_S8192x8x32_0_1_2 (broadcastInDim S8192x1x32 ![0, 2] bcast_S8192x32_S8192x1x32_0_2 (Host.cos (mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))))))) (mulf (extractStridedSlice S8192x8x32 ![0, 0, 0] (shapeCast _ (extractStridedSlice S8192x512 ![0, 768] z slices_S8192x2048_S8192x512_0_768) shapeCasts_S8192x512_S8192x8x64) slices_S8192x8x64_S8192x8x32_0_0_0) (broadcastInDim S8192x8x32 ![0, 1, 2] bcast_S8192x1x32_S8192x8x32_0_1_2 (broadcastInDim S8192x1x32 ![0, 2] bcast_S8192x32_S8192x1x32_0_2 (Host.sin (mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))))))))⟩] concatenates_S8192x8x32_S8192x8x32_S8192x8x64_d2) shapeCasts_S8192x8x64_S8192x512) (broadcastInDim S8192x512 ![] bcast_S_S8192x512 (constant S_ .f32 0x3E000000#32))) bitsLt_bf16_f32 : FVec Ideal S8192x512 .bf16) = fun y => turned z 768 (y 0) (y 1).val * Ideal.ofBits .f32 0x3E000000#32 := by
  funext y
  have h1 : (y 1).val < 512 := (y 1).isLt
  pointwise
  by_cases h : (y 1).val % 64 < 32
  · exact congrArg (· * Ideal.ofBits .f32 0x3E000000#32) ((dif_pos h).trans ((sub_congr (elem_eq z _ _ _ rfl) (elem_eq z _ _ _ (by dsimp only; omega))).trans (turned_lo z 768 (y 0) (y 1).val h).symm))
  · exact congrArg (· * Ideal.ofBits .f32 0x3E000000#32) ((dif_neg h).trans ((add_congr (elem_eq z _ _ _ (by dsimp only; omega)) (elem_eq z _ _ _ (by dsimp only; omega))).trans (turned_hi z 768 (y 0) (y 1).val h).symm))

/-- The keys. -/
theorem keys_eq : (truncf .bf16 (shapeCast _ (concatenate S8192x2x64 2 [⟨S8192x2x32, (subf (mulf (extractStridedSlice S8192x2x32 ![0, 0, 0] (shapeCast _ (extractStridedSlice S8192x128 ![0, 1280] z slices_S8192x2048_S8192x128_0_1280) shapeCasts_S8192x128_S8192x2x64) slices_S8192x2x64_S8192x2x32_0_0_0) (broadcastInDim S8192x2x32 ![0, 1, 2] bcast_S8192x1x32_S8192x2x32_0_1_2 (broadcastInDim S8192x1x32 ![0, 2] bcast_S8192x32_S8192x1x32_0_2 (Host.cos (mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))))))) (mulf (extractStridedSlice S8192x2x32 ![0, 0, 32] (shapeCast _ (extractStridedSlice S8192x128 ![0, 1280] z slices_S8192x2048_S8192x128_0_1280) shapeCasts_S8192x128_S8192x2x64) slices_S8192x2x64_S8192x2x32_0_0_32) (broadcastInDim S8192x2x32 ![0, 1, 2] bcast_S8192x1x32_S8192x2x32_0_1_2 (broadcastInDim S8192x1x32 ![0, 2] bcast_S8192x32_S8192x1x32_0_2 (Host.sin (mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))))))))⟩, ⟨S8192x2x32, (addf (mulf (extractStridedSlice S8192x2x32 ![0, 0, 32] (shapeCast _ (extractStridedSlice S8192x128 ![0, 1280] z slices_S8192x2048_S8192x128_0_1280) shapeCasts_S8192x128_S8192x2x64) slices_S8192x2x64_S8192x2x32_0_0_32) (broadcastInDim S8192x2x32 ![0, 1, 2] bcast_S8192x1x32_S8192x2x32_0_1_2 (broadcastInDim S8192x1x32 ![0, 2] bcast_S8192x32_S8192x1x32_0_2 (Host.cos (mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))))))) (mulf (extractStridedSlice S8192x2x32 ![0, 0, 0] (shapeCast _ (extractStridedSlice S8192x128 ![0, 1280] z slices_S8192x2048_S8192x128_0_1280) shapeCasts_S8192x128_S8192x2x64) slices_S8192x2x64_S8192x2x32_0_0_0) (broadcastInDim S8192x2x32 ![0, 1, 2] bcast_S8192x1x32_S8192x2x32_0_1_2 (broadcastInDim S8192x1x32 ![0, 2] bcast_S8192x32_S8192x1x32_0_2 (Host.sin (mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))))))))⟩] concatenates_S8192x2x32_S8192x2x32_S8192x2x64_d2) shapeCasts_S8192x2x64_S8192x128) bitsLt_bf16_f32 : FVec Ideal S8192x128 .bf16) = fun y => turned z 1280 (y 0) (y 1).val := by
  funext y
  have h1 : (y 1).val < 128 := (y 1).isLt
  pointwise
  by_cases h : (y 1).val % 64 < 32
  · exact (dif_pos h).trans ((sub_congr (elem_eq z _ _ _ rfl) (elem_eq z _ _ _ (by dsimp only; omega))).trans (turned_lo z 1280 (y 0) (y 1).val h).symm)
  · exact (dif_neg h).trans ((add_congr (elem_eq z _ _ _ (by dsimp only; omega)) (elem_eq z _ _ _ (by dsimp only; omega))).trans (turned_hi z 1280 (y 0) (y 1).val h).symm)

/-- The values. -/
theorem values_eq : (truncf .bf16 (extractStridedSlice S8192x128 ![0, 1408] z slices_S8192x2048_S8192x128_0_1408) bitsLt_bf16_f32 : FVec Ideal S8192x128 .bf16) = fun y => elem z (y 0) (1408 + (y 1).val) := by
  funext y
  have h1 : (y 1).val < 128 := (y 1).isLt
  pointwise
  exact elem_eq z _ _ _ rfl

end Cert.MixfReference

namespace Cert.MixfKernel

open Cert.MixfSpec
open Cert.MixfIdeal Cert.MixfIdeal.Gen Idealize.ShloMosaic Idealize.ShloMosaic.TcCoe Idealize.SL.Sem

variable (m : (ℓ : Loc nD τ sig) → Buf (Elt Ideal) ℓ) (c : Dev nD)

/-- Where each point's blocks lie. -/
theorem idx : ∀ t : Fin cfg0.N, win0_0.index t = ![t.val, 0] ∧ win0_8.index t = ![t.val, 0] ∧ win0_9.index t = ![t.val, 0]
    ∧ win0_13.index t = ![t.val, 0] ∧ win0_14.index t = ![t.val, 0] ∧ win0_15.index t = ![t.val, 0] :=
  (by decide +kernel : ∀ t : Fin grid0.N, _)

/-- The row of the whole array that row `a` of point `n`'s block is. -/
def row (n : ℕ) (a : Fin 512) : Fin 8192 := ⟨512 * (n % 16) + (a : ℕ), by omega⟩

/-- The argument, as an array of extended reals. -/
abbrev z : S8192x2048.Idx → EReal := m ((c : Thread nD τ).loc main_arg0)

/-- The cosines. -/
theorem V23_eq (i) : V m c main_v23 i = Ideal.cos (angle (i 0).val ((i 1).val % 32)) := by
  unfold V
  simp only [hostOps0, List.flatten_cons, List.flatten_nil, List.append_nil, List.cons_append, List.nil_append]
  after_results
  pointwise
  rfl

/-- The sign of a lane's sine. -/
def sign (n : ℕ) : EReal := if n % 64 < 32 then -1 else 1

/-- The sines, signed. -/
theorem V27_eq (i) : V m c main_v27 i = Ideal.sin (angle (i 0).val ((i 1).val % 32)) * sign (i 1).val := by
  unfold V
  simp only [hostOps0, List.flatten_cons, List.flatten_nil, List.append_nil, List.cons_append, List.nil_append]
  after_results
  pointwise
  rfl

theorem V0_eq (i) : V m c main_arg0 i = z m c i := by
  unfold V
  simp only [hostOps0, List.flatten_cons, List.flatten_nil, List.append_nil, List.cons_append, List.nil_append]
  after_results

theorem iblk0 (t : Fin cfg0.N) (y) : iblk m c 0 t y = z m c (ix2 (row t.val (y 0)) (y 1)) := by
  have ht : t.val < 16 := lt_of_lt_of_eq t.isLt N_0
  have e : ∀ F : S8192x2048.Idx → EReal, (∀ i, V m c main_arg0 i = F i) → iblk m c 0 t y = F (ix2 (row t.val (y 0)) (y 1)) := fun F h => by
    blk_simp [iblk]
    rw [h]
    blk_ext [row, idx t]
  exact e (z m c) fun i => V0_eq m c i

theorem iblk8 (t : Fin cfg0.N) (y) : iblk m c 8 t y = Ideal.cos (angle (row t.val (y 0)).val ((y 1).val % 32)) := by
  have ht : t.val < 16 := lt_of_lt_of_eq t.isLt N_0
  have e : ∀ F : S8192x128.Idx → EReal, (∀ i, V m c main_v23 i = F i) → iblk m c 8 t y = F (ix2 (row t.val (y 0)) (y 1)) := fun F h => by
    blk_simp [iblk]
    rw [h]
    blk_ext [row, idx t]
  exact e (fun i => Ideal.cos (angle (i 0).val ((i 1).val % 32))) fun i => V23_eq m c i

theorem iblk9 (t : Fin cfg0.N) (y) : iblk m c 9 t y = Ideal.sin (angle (row t.val (y 0)).val ((y 1).val % 32)) * sign (y 1).val := by
  have ht : t.val < 16 := lt_of_lt_of_eq t.isLt N_0
  have e : ∀ F : S8192x128.Idx → EReal, (∀ i, V m c main_v27 i = F i) → iblk m c 9 t y = F (ix2 (row t.val (y 0)) (y 1)) := fun F h => by
    blk_simp [iblk]
    rw [h]
    blk_ext [row, idx t]
  exact e (fun i => Ideal.sin (angle (i 0).val ((i 1).val % 32)) * sign (i 1).val) fun i => V27_eq m c i

theorem sign_mod (n : ℕ) : sign (n % 128) = sign n := by
  unfold sign
  rw [show n % 128 % 64 = n % 64 by omega]

/-- The lane chooses where the rotation takes from. -/
theorem lane : ∀ n : Fin 512, IntOp.cmpi CmpIPredicate.slt
    (Scalar.select (IntOp.andi (IntOp.xori (IntOp.cmpi CmpIPredicate.slt (IntOp.remsi ArithUnit.vector (BitVec.ofNat 32 n.val)
        (Scalar.select (Scalar.cmpi CmpIPredicate.eq 64#32 0#32) (1#32) 64#32)) 0#32)
        (Scalar.cmpi CmpIPredicate.slt (Scalar.select (Scalar.cmpi CmpIPredicate.eq 64#32 0#32) (1#32) 64#32) 0#32))
        (IntOp.cmpi CmpIPredicate.ne (IntOp.remsi ArithUnit.vector (BitVec.ofNat 32 n.val) (Scalar.select (Scalar.cmpi CmpIPredicate.eq 64#32 0#32) (1#32) 64#32)) 0#32))
      (IntOp.addi (IntOp.remsi ArithUnit.vector (BitVec.ofNat 32 n.val) (Scalar.select (Scalar.cmpi CmpIPredicate.eq 64#32 0#32) (1#32) 64#32))
        (Scalar.select (Scalar.cmpi CmpIPredicate.eq 64#32 0#32) (1#32) 64#32))
      (IntOp.remsi ArithUnit.vector (BitVec.ofNat 32 n.val) (Scalar.select (Scalar.cmpi CmpIPredicate.eq 64#32 0#32) (1#32) 64#32))) 32#32
    = if n.val % 64 < 32 then 1#1 else 0#1 := by
  decide +kernel

theorem lane_keys : ∀ n : Fin 128, IntOp.cmpi CmpIPredicate.slt
    (Scalar.select (IntOp.andi (IntOp.xori (IntOp.cmpi CmpIPredicate.slt (IntOp.remsi ArithUnit.vector (BitVec.ofNat 32 n.val) (Scalar.select (Scalar.cmpi CmpIPredicate.eq 64#32 0#32) 1#32 64#32)) 0#32) (Scalar.cmpi CmpIPredicate.slt 64#32 0#32))
        (IntOp.cmpi CmpIPredicate.ne (IntOp.remsi ArithUnit.vector (BitVec.ofNat 32 n.val) (Scalar.select (Scalar.cmpi CmpIPredicate.eq 64#32 0#32) 1#32 64#32)) 0#32))
      (IntOp.addi (IntOp.remsi ArithUnit.vector (BitVec.ofNat 32 n.val) (Scalar.select (Scalar.cmpi CmpIPredicate.eq 64#32 0#32) 1#32 64#32)) 64#32) (IntOp.remsi ArithUnit.vector (BitVec.ofNat 32 n.val) (Scalar.select (Scalar.cmpi CmpIPredicate.eq 64#32 0#32) 1#32 64#32))) 32#32
    = if n.val % 64 < 32 then 1#1 else 0#1 := by
  decide +kernel

theorem bit (n : ℕ) (p q : EReal) : Scalar.select (if n % 64 < 32 then 1#1 else 0#1) p q = if n % 64 < 32 then p else q := by
  by_cases h : n % 64 < 32
  · rw [if_pos h, if_pos h]; rfl
  · rw [if_neg h, if_neg h]; rfl

theorem cat4 (b : S512x128.Idx → EReal) (i : Fin 512) (n : ℕ) (hn : n < 512) :
    (if h : n < 128 then b (ix2 i ⟨n, h⟩) else if h : n - 128 < 128 then b (ix2 i ⟨n - 128, h⟩)
      else if h : n - 128 - 128 < 128 then b (ix2 i ⟨n - 128 - 128, h⟩) else b (ix2 i ⟨n - 128 - 128 - 128, by omega⟩))
    = b (ix2 i ⟨n % 128, by omega⟩) := by
  by_cases h1 : n < 128
  · rw [dif_pos h1]
    exact congrArg b (congrArg (ix2 i) (Fin.ext (by dsimp only; omega)))
  rw [dif_neg h1]
  by_cases h2 : n - 128 < 128
  · rw [dif_pos h2]
    exact congrArg b (congrArg (ix2 i) (Fin.ext (by dsimp only; omega)))
  rw [dif_neg h2]
  by_cases h3 : n - 128 - 128 < 128
  · rw [dif_pos h3]
    exact congrArg b (congrArg (ix2 i) (Fin.ext (by dsimp only; omega)))
  rw [dif_neg h3]
  exact congrArg b (congrArg (ix2 i) (Fin.ext (by dsimp only; omega)))

/-- What the kernel stores of the queries. -/
theorem queries_eq (a : Vec Ideal S512x512 .f32) (cs sn : Vec Ideal S512x128 .f32) (y : S512x512.Idx) (A B B' C D : EReal) (hA : a y = A)
    (hB : (y 1).val % 64 < 32 → a (ix2 (y 0) ⟨((y 1).val + 512 - 480) % 512, by omega⟩) = B)
    (hB' : ¬ (y 1).val % 64 < 32 → a (ix2 (y 0) ⟨((y 1).val + 512 - 32) % 512, by omega⟩) = B')
    (hC : cs (ix2 (y 0) ⟨(y 1).val % 128, by omega⟩) = C) (hD : sn (ix2 (y 0) ⟨(y 1).val % 128, by omega⟩) = D * sign (y 1).val) :
    k0_pay91 (F := Ideal) a (k0_pay90 a cs) (iota Kind.tc S512x512 32 [1] iota_S512x512_d1_w32) 64#32 sn y
    = (if (y 1).val % 64 < 32 then A * C - B * D else A * C + B' * D) * Ideal.ofBits .f32 0x3E000000#32 := by
  have l := lane (y 1)
  have c4 := (cat4 cs (y 0) (y 1).val (y 1).isLt).trans hC
  have s4 := (cat4 sn (y 0) (y 1).val (y 1).isLt).trans hD
  pointwise [k0_pay91, k0_pay90]
  rw [l, bit, c4, s4, hA]
  refine congrArg (· * Ideal.ofBits .f32 0x3E000000#32) ?_
  unfold sign
  by_cases h : (y 1).val % 64 < 32
  · rw [if_pos h, if_pos h, if_pos h, hB h, mul_neg, mul_one, mul_neg, sub_eq_add_neg]
  · rw [if_neg h, if_neg h, if_neg h, hB' h, mul_one]

/-- What the kernel stores of the keys. -/
theorem keys_eq (a cs sn : Vec Ideal S512x128 .f32) (y : S512x128.Idx) (A B B' C D : EReal) (hA : a y = A)
    (hB : (y 1).val % 64 < 32 → a (ix2 (y 0) ⟨((y 1).val + 128 - 96) % 128, by omega⟩) = B)
    (hB' : ¬ (y 1).val % 64 < 32 → a (ix2 (y 0) ⟨((y 1).val + 128 - 32) % 128, by omega⟩) = B')
    (hC : cs y = C) (hD : sn y = D * sign (y 1).val) :
    k0_pay1 (F := Ideal) (k0_pay92 a cs) (k0_pay94 a 64#32 k0_pay93) sn y
    = if (y 1).val % 64 < 32 then A * C - B * D else A * C + B' * D := by
  have l := lane_keys (y 1)
  pointwise [k0_pay1, k0_pay92, k0_pay94, k0_pay93]
  rw [l, bit, hC, hD, hA]
  unfold sign
  by_cases h : (y 1).val % 64 < 32
  · rw [if_pos h, if_pos h, if_pos h, hB h, mul_neg, mul_one, mul_neg, sub_eq_add_neg]
  · rw [if_neg h, if_neg h, if_neg h, hB' h, mul_one]

/-- What the kernel stores of the values. -/
theorem values_eq (a : Vec Ideal S512x128 .f32) (y : S512x128.Idx) : k0_pay2 (F := Ideal) a y = a y := by
  pointwise [k0_pay2]

/-- The values' block. -/
theorem v_block (t : Fin cfg0.N) (y : S512x128.Idx) : (outsAt0 m c t).2.2.2.2.2 y = elem (z m c) (row t.val (y 0)) (1408 + (y 1).val) := by
  have l1 : (y 1).val < 128 := (y 1).isLt
  unfold outsAt0
  frame_out
  refine (values_eq _ y).trans ((View.ld_unit_apply_of _ _ _ _ _ (ix2 (y 0) ⟨1408 + (y 1).val, by omega⟩) ?_).trans ?_)
  · intro ax
    fin_cases ax <;> simp
  · exact (iblk0 m c t _).trans (elem_eq _ _ _ _ rfl)

/-- The keys' block. -/
theorem k_block (t : Fin cfg0.N) (y : S512x128.Idx) : (outsAt0 m c t).2.2.2.2.1 y = turned (z m c) 1280 (row t.val (y 0)) (y 1).val := by
  have l1 : (y 1).val < 128 := (y 1).isLt
  unfold outsAt0
  frame_out
  refine (keys_eq _ _ _ y (elem (z m c) (row t.val (y 0)) (1280 + (y 1).val)) (elem (z m c) (row t.val (y 0)) (1280 + (y 1).val + 32))
    (elem (z m c) (row t.val (y 0)) (1280 + (y 1).val - 32)) (Ideal.cos (angle (row t.val (y 0)).val ((y 1).val % 32)))
    (Ideal.sin (angle (row t.val (y 0)).val ((y 1).val % 32))) ?_ (fun h => ?_) (fun h => ?_) (iblk8 m c t y) (iblk9 m c t y)).trans ?_
  · refine (View.ld_unit_apply_of _ _ _ _ _ (ix2 (y 0) ⟨1280 + (y 1).val, by omega⟩) ?_).trans ?_
    · intro ax
      fin_cases ax <;> simp
    · exact (iblk0 m c t _).trans (elem_eq _ _ _ _ rfl)
  · refine (View.ld_unit_apply_of _ _ _ _ _ (ix2 (y 0) ⟨1280 + (y 1).val + 32, by omega⟩) ?_).trans ?_
    · intro ax
      fin_cases ax <;> simp
      omega
    · exact (iblk0 m c t _).trans (elem_eq _ _ _ _ rfl)
  · refine (View.ld_unit_apply_of _ _ _ _ _ (ix2 (y 0) ⟨1280 + (y 1).val - 32, by omega⟩) ?_).trans ?_
    · intro ax
      fin_cases ax <;> simp
      omega
    · exact (iblk0 m c t _).trans (elem_eq _ _ _ _ rfl)
  · by_cases h : (y 1).val % 64 < 32
    · refine (if_pos h).trans (Eq.trans ?_ (turned_lo (z m c) 1280 _ (y 1).val h).symm)
      rw [show (y 1).val % 32 = (y 1).val % 64 by omega]
    · refine (if_neg h).trans (Eq.trans ?_ (turned_hi (z m c) 1280 _ (y 1).val h).symm)
      rw [show (y 1).val % 32 = (y 1).val % 64 - 32 by omega]

/-- The queries' block. -/
theorem q_block (t : Fin cfg0.N) (y : S512x512.Idx) : (outsAt0 m c t).2.2.2.1 y
    = turned (z m c) 768 (row t.val (y 0)) (y 1).val * Ideal.ofBits .f32 0x3E000000#32 := by
  have l1 : (y 1).val < 512 := (y 1).isLt
  unfold outsAt0
  frame_out
  refine (queries_eq _ _ _ y (elem (z m c) (row t.val (y 0)) (768 + (y 1).val)) (elem (z m c) (row t.val (y 0)) (768 + (y 1).val + 32))
    (elem (z m c) (row t.val (y 0)) (768 + (y 1).val - 32)) (Ideal.cos (angle (row t.val (y 0)).val ((y 1).val % 128 % 32)))
    (Ideal.sin (angle (row t.val (y 0)).val ((y 1).val % 128 % 32))) ?_ (fun h => ?_) (fun h => ?_) (iblk8 m c t _)
    ((iblk9 m c t _).trans (congrArg (_ * ·) (sign_mod _)))).trans ?_
  · refine (View.ld_unit_apply_of _ _ _ _ _ (ix2 (y 0) ⟨768 + (y 1).val, by omega⟩) ?_).trans ?_
    · intro ax
      fin_cases ax <;> simp
    · exact (iblk0 m c t _).trans (elem_eq _ _ _ _ rfl)
  · refine (View.ld_unit_apply_of _ _ _ _ _ (ix2 (y 0) ⟨768 + (y 1).val + 32, by omega⟩) ?_).trans ?_
    · intro ax
      fin_cases ax <;> simp
      omega
    · exact (iblk0 m c t _).trans (elem_eq _ _ _ _ rfl)
  · refine (View.ld_unit_apply_of _ _ _ _ _ (ix2 (y 0) ⟨768 + (y 1).val - 32, by omega⟩) ?_).trans ?_
    · intro ax
      fin_cases ax <;> simp
      omega
    · exact (iblk0 m c t _).trans (elem_eq _ _ _ _ rfl)
  · refine congrArg (· * Ideal.ofBits .f32 0x3E000000#32) ?_
    by_cases h : (y 1).val % 64 < 32
    · refine (if_pos h).trans (Eq.trans ?_ (turned_lo (z m c) 768 _ (y 1).val h).symm)
      rw [show (y 1).val % 128 % 32 = (y 1).val % 64 by omega]
    · refine (if_neg h).trans (Eq.trans ?_ (turned_hi (z m c) 768 _ (y 1).val h).symm)
      rw [show (y 1).val % 128 % 32 = (y 1).val % 64 - 32 by omega]

attribute [local irreducible] outsAt0 elem turned

/-- All the queries. -/
theorem q_final : (dats m 0 c).arrAt 13 cfg0.N = fun i : S8192x512.Idx => turned (z m c) 768 (i 0) (i 1).val * Ideal.ofBits .f32 0x3E000000#32 := by
  refine (dats m 0 c).arrAt_eq_of_covers 13 _ (by decide +kernel) fun t hf y => ?_
  have ht : t.val < 16 := lt_of_lt_of_eq t.isLt N_0
  have e : ∀ F : S8192x512.Idx → EReal, F (((cfg0.win 13).blk t).view.emb y) = F (ix2 (row t.val (y 0)) (y 1)) := fun F => by
    blk_ext [row, idx t]
  rw [after0_13]
  exact (q_block m c t y).trans (e fun i => turned (z m c) 768 (i 0) (i 1).val * Ideal.ofBits .f32 0x3E000000#32).symm

/-- All the keys. -/
theorem k_final : (dats m 0 c).arrAt 14 cfg0.N = fun i : S8192x128.Idx => turned (z m c) 1280 (i 0) (i 1).val := by
  refine (dats m 0 c).arrAt_eq_of_covers 14 _ (by decide +kernel) fun t hf y => ?_
  have ht : t.val < 16 := lt_of_lt_of_eq t.isLt N_0
  have e : ∀ F : S8192x128.Idx → EReal, F (((cfg0.win 14).blk t).view.emb y) = F (ix2 (row t.val (y 0)) (y 1)) := fun F => by
    blk_ext [row, idx t]
  rw [after0_14]
  exact (k_block m c t y).trans (e fun i => turned (z m c) 1280 (i 0) (i 1).val).symm

/-- All the values. -/
theorem v_final : (dats m 0 c).arrAt 15 cfg0.N = fun i : S8192x128.Idx => elem (z m c) (i 0) (1408 + (i 1).val) := by
  refine (dats m 0 c).arrAt_eq_of_covers 15 _ (by decide +kernel) fun t hf y => ?_
  have ht : t.val < 16 := lt_of_lt_of_eq t.isLt N_0
  have e : ∀ F : S8192x128.Idx → EReal, F (((cfg0.win 15).blk t).view.emb y) = F (ix2 (row t.val (y 0)) (y 1)) := fun F => by
    blk_ext [row, idx t]
  rw [after0_15]
  exact (v_block m c t y).trans (e fun i => elem (z m c) (i 0) (1408 + (i 1).val)).symm

end Cert.MixfKernel

namespace Cert.MixfClaim

open Idealize.ShloMosaic Idealize.SL.Sem

/-- The idealized reference ends with its arguments unchanged and its counters at zero. -/
theorem frame_reference : Cert.quiescent_MixfRefIdeal :=
  fun m ρ _ => (θ_run Cert.MixfRefIdeal.defs _ _).mono
    (fun r h => ⟨fun c => (h c).2.2.2, sem_eq_zero_of_no_sems (by decide) r.2⟩) (Cert.MixfRefIdeal.Value.run (F := Ideal) m ρ)

/-- Both programs leave the same queries, keys and values. -/
theorem algebraic : Cert.algebraic_MixfIdeal_MixfRefIdeal := by
  intro m g m' g' hp hm
  refine ⟨fun c => (Cert.MixfIdeal.Gen.dats m 0 c).arrAt 13 Cert.MixfIdeal.cfg0.N, fun c => (Cert.MixfIdeal.Gen.dats m 0 c).arrAt 14 Cert.MixfIdeal.cfg0.N,
    fun c => (Cert.MixfIdeal.Gen.dats m 0 c).arrAt 15 Cert.MixfIdeal.cfg0.N, ?_, ?_⟩
  · refine (θ_run _ _ _).mono (fun r h c => ?_) (Cert.MixfIdeal.Value.run_blocks m g)
    obtain ⟨_, _, _, k⟩ := h c
    exact k
  refine (θ_run _ _ _).mono (fun r h c => ?_) (Cert.MixfRefIdeal.Value.run m' g')
  obtain ⟨e0, e1, e2, e3, e4, e5⟩ := hm c
  obtain ⟨r0, r1, r2, k⟩ := h c
  refine ⟨r0.trans ((Cert.MixfReference.queries_eq _).trans ?_), r1.trans ((Cert.MixfReference.keys_eq _).trans ?_),
    r2.trans ((Cert.MixfReference.values_eq _).trans ?_), k⟩
  · rw [e0]
    exact (Cert.MixfKernel.q_final m c).symm
  · rw [e0]
    exact (Cert.MixfKernel.k_final m c).symm
  · rw [e0]
    exact (Cert.MixfKernel.v_final m c).symm

end Cert.MixfClaim
-- ==== Proof.lean ====
/- The certificate: the frames of the programs and of their references, and the equations of their results over the reals. -/
module

public import proofs.«01_k».proof.Defs
public import proofs.«01_k».proof.Proof.Gen.Ffn.Frame
public import proofs.«01_k».proof.Proof.FfnClaim
public import proofs.«01_k».proof.Proof.Gen.Wdown.Frame
public import proofs.«01_k».proof.Proof.WdownClaim
public import proofs.«01_k».proof.Proof.Gen.Wgu.Frame
public import proofs.«01_k».proof.Proof.WguClaim
public import proofs.«01_k».proof.Proof.Gen.Wout.Frame
public import proofs.«01_k».proof.Proof.WoutClaim
public import proofs.«01_k».proof.Proof.Gen.Win.Frame
public import proofs.«01_k».proof.Proof.WinClaim
public import proofs.«01_k».proof.Proof.Gen.Up.Frame
public import proofs.«01_k».proof.Proof.UpClaim
public import proofs.«01_k».proof.Proof.Gen.Down.Frame
public import proofs.«01_k».proof.Proof.DownClaim
public import proofs.«01_k».proof.Proof.Gen.Downx.Frame
public import proofs.«01_k».proof.Proof.DownxClaim
public import proofs.«01_k».proof.Proof.Gen.Downl.Frame
public import proofs.«01_k».proof.Proof.DownlClaim
public import proofs.«01_k».proof.Proof.Gen.Proj.Frame
public import proofs.«01_k».proof.Proof.ProjClaim
public import proofs.«01_k».proof.Proof.Gen.Outln.Frame
public import proofs.«01_k».proof.Proof.OutlnClaim
public import proofs.«01_k».proof.Proof.Gen.Dxin.Frame
public import proofs.«01_k».proof.Proof.DxinClaim
public import proofs.«01_k».proof.Proof.Gen.Dxgu.Frame
public import proofs.«01_k».proof.Proof.DxguClaim
public import proofs.«01_k».proof.Proof.Gen.Outb.Frame
public import proofs.«01_k».proof.Proof.OutbClaim
public import proofs.«01_k».proof.Proof.Gen.Ffb.Frame
public import proofs.«01_k».proof.Proof.FfbClaim
public import proofs.«01_k».proof.Proof.Gen.Attf.Frame
public import proofs.«01_k».proof.Proof.AttfClaim
public import proofs.«01_k».proof.Proof.Gen.Sada.Frame
public import proofs.«01_k».proof.Proof.SadaClaim
public import proofs.«01_k».proof.Proof.Gen.Sadb.Frame
public import proofs.«01_k».proof.Proof.SadbClaim
public import proofs.«01_k».proof.Proof.Gen.Sadc.Frame
public import proofs.«01_k».proof.Proof.SadcClaim
public import proofs.«01_k».proof.Proof.Gen.Sadd.Frame
public import proofs.«01_k».proof.Proof.SaddClaim
public import proofs.«01_k».proof.Proof.Gen.Ssum.Frame
public import proofs.«01_k».proof.Proof.SsumClaim
public import proofs.«01_k».proof.Proof.Gen.Mixf.Frame
public import proofs.«01_k».proof.Proof.MixfClaim

@[expose] public section

/-- Every claim of the certificate. -/
theorem Cert.Proof.claim : Cert.Claim :=
  ⟨Cert.Ffn.Gen.facts, Cert.FfnIdeal.Gen.facts, Cert.FfnRefIdeal.Gen.facts, Cert.Wdown.Gen.facts, Cert.WdownIdeal.Gen.facts, Cert.WdownRefIdeal.Gen.facts, Cert.Wgu.Gen.facts, Cert.WguIdeal.Gen.facts, Cert.WguRefIdeal.Gen.facts, Cert.Wout.Gen.facts, Cert.WoutIdeal.Gen.facts, Cert.WoutRefIdeal.Gen.facts, Cert.Win.Gen.facts, Cert.WinIdeal.Gen.facts, Cert.WinRefIdeal.Gen.facts, Cert.Up.Gen.facts, Cert.UpIdeal.Gen.facts, Cert.UpRefIdeal.Gen.facts, Cert.Down.Gen.facts, Cert.DownIdeal.Gen.facts, Cert.DownRefIdeal.Gen.facts, Cert.Downx.Gen.facts, Cert.DownxIdeal.Gen.facts, Cert.DownxRefIdeal.Gen.facts, Cert.Downl.Gen.facts, Cert.DownlIdeal.Gen.facts, Cert.DownlRefIdeal.Gen.facts, Cert.Proj.Gen.facts, Cert.ProjIdeal.Gen.facts, Cert.ProjRefIdeal.Gen.facts, Cert.Outln.Gen.facts, Cert.OutlnIdeal.Gen.facts, Cert.OutlnRefIdeal.Gen.facts, Cert.Dxin.Gen.facts, Cert.DxinIdeal.Gen.facts, Cert.DxinRefIdeal.Gen.facts, Cert.Dxgu.Gen.facts, Cert.DxguIdeal.Gen.facts, Cert.DxguRefIdeal.Gen.facts, Cert.Outb.Gen.facts, Cert.OutbIdeal.Gen.facts, Cert.OutbRefIdeal.Gen.facts, Cert.Ffb.Gen.facts, Cert.FfbIdeal.Gen.facts, Cert.FfbRefIdeal.Gen.facts, Cert.Attf.Gen.facts, Cert.AttfIdeal.Gen.facts, Cert.AttfRefIdeal.Gen.facts, Cert.Sada.Gen.facts, Cert.SadaIdeal.Gen.facts, Cert.SadaRefIdeal.Gen.facts, Cert.Sadb.Gen.facts, Cert.SadbIdeal.Gen.facts, Cert.SadbRefIdeal.Gen.facts, Cert.Sadc.Gen.facts, Cert.SadcIdeal.Gen.facts, Cert.SadcRefIdeal.Gen.facts, Cert.Sadd.Gen.facts, Cert.SaddIdeal.Gen.facts, Cert.SaddRefIdeal.Gen.facts, Cert.Ssum.Gen.facts, Cert.SsumIdeal.Gen.facts, Cert.SsumRefIdeal.Gen.facts, Cert.Mixf.Gen.facts, Cert.MixfIdeal.Gen.facts, Cert.MixfRefIdeal.Gen.facts, Cert.Pre_ffn_finite.Gen.facts, Cert.Pre_outb_finite.Gen.facts, Cert.Pre_ffb_finite.Gen.facts, Cert.Pre_att_finite.Gen.facts,
    fun m ρ _ => Cert.Ffn.Gen.frame m ρ, fun m ρ _ => Cert.FfnIdeal.Gen.frame m ρ, fun m ρ _ => Cert.FfnIdeal.Gen.frame m ρ,
    Cert.FfnClaim.frame_reference, fun m ρ _ => Cert.FfnClaim.frame_reference m ρ trivial,
    fun m ρ _ => Cert.Wdown.Gen.frame m ρ, fun m ρ _ => Cert.WdownIdeal.Gen.frame m ρ, Cert.WdownClaim.frame_reference,
    fun m ρ _ => Cert.Wgu.Gen.frame m ρ, fun m ρ _ => Cert.WguIdeal.Gen.frame m ρ, Cert.WguClaim.frame_reference,
    fun m ρ _ => Cert.Wout.Gen.frame m ρ, fun m ρ _ => Cert.WoutIdeal.Gen.frame m ρ, Cert.WoutClaim.frame_reference,
    fun m ρ _ => Cert.Win.Gen.frame m ρ, fun m ρ _ => Cert.WinIdeal.Gen.frame m ρ, Cert.WinClaim.frame_reference,
    fun m ρ _ => Cert.Up.Gen.frame m ρ, fun m ρ _ => Cert.UpIdeal.Gen.frame m ρ, Cert.UpClaim.frame_reference,
    fun m ρ _ => Cert.Down.Gen.frame m ρ, fun m ρ _ => Cert.DownIdeal.Gen.frame m ρ, Cert.DownClaim.frame_reference,
    fun m ρ _ => Cert.Downx.Gen.frame m ρ, fun m ρ _ => Cert.DownxIdeal.Gen.frame m ρ, Cert.DownxClaim.frame_reference,
    fun m ρ _ => Cert.Downl.Gen.frame m ρ, fun m ρ _ => Cert.DownlIdeal.Gen.frame m ρ, Cert.DownlClaim.frame_reference,
    fun m ρ _ => Cert.Proj.Gen.frame m ρ, fun m ρ _ => Cert.ProjIdeal.Gen.frame m ρ, Cert.ProjClaim.frame_reference,
    fun m ρ _ => Cert.Outln.Gen.frame m ρ, fun m ρ _ => Cert.OutlnIdeal.Gen.frame m ρ, Cert.OutlnClaim.frame_reference,
    fun m ρ _ => Cert.Dxin.Gen.frame m ρ, fun m ρ _ => Cert.DxinIdeal.Gen.frame m ρ, Cert.DxinClaim.frame_reference,
    fun m ρ _ => Cert.Dxgu.Gen.frame m ρ, fun m ρ _ => Cert.DxguIdeal.Gen.frame m ρ, Cert.DxguClaim.frame_reference,
    fun m ρ _ => Cert.Outb.Gen.frame m ρ, fun m ρ _ => Cert.OutbIdeal.Gen.frame m ρ, fun m ρ _ => Cert.OutbIdeal.Gen.frame m ρ,
    Cert.OutbClaim.frame_reference, fun m ρ _ => Cert.OutbClaim.frame_reference m ρ trivial,
    fun m ρ _ => Cert.Ffb.Gen.frame m ρ, fun m ρ _ => Cert.FfbIdeal.Gen.frame m ρ, fun m ρ _ => Cert.FfbIdeal.Gen.frame m ρ,
    Cert.FfbClaim.frame_reference, fun m ρ _ => Cert.FfbClaim.frame_reference m ρ trivial,
    fun m ρ _ => Cert.Attf.Gen.frame m ρ, fun m ρ _ => Cert.AttfIdeal.Gen.frame m ρ, fun m ρ _ => Cert.AttfIdeal.Gen.frame m ρ,
    Cert.AttfClaim.frame_reference, fun m ρ _ => Cert.AttfClaim.frame_reference m ρ trivial,
    fun m ρ _ => Cert.Sada.Gen.frame m ρ, fun m ρ _ => Cert.SadaIdeal.Gen.frame m ρ, Cert.SadaClaim.frame_reference,
    fun m ρ _ => Cert.Sadb.Gen.frame m ρ, fun m ρ _ => Cert.SadbIdeal.Gen.frame m ρ, Cert.SadbClaim.frame_reference,
    fun m ρ _ => Cert.Sadc.Gen.frame m ρ, fun m ρ _ => Cert.SadcIdeal.Gen.frame m ρ, Cert.SadcClaim.frame_reference,
    fun m ρ _ => Cert.Sadd.Gen.frame m ρ, fun m ρ _ => Cert.SaddIdeal.Gen.frame m ρ, Cert.SaddClaim.frame_reference,
    fun m ρ _ => Cert.Ssum.Gen.frame m ρ, fun m ρ _ => Cert.SsumIdeal.Gen.frame m ρ, Cert.SsumClaim.frame_reference,
    fun m ρ _ => Cert.Mixf.Gen.frame m ρ, fun m ρ _ => Cert.MixfIdeal.Gen.frame m ρ, Cert.MixfClaim.frame_reference,
    trivial, Cert.FfnClaim.algebraic,
    trivial, Cert.WdownClaim.algebraic,
    trivial, Cert.WguClaim.algebraic,
    trivial, Cert.WoutClaim.algebraic,
    trivial, Cert.WinClaim.algebraic,
    trivial, Cert.UpClaim.algebraic,
    trivial, Cert.DownClaim.algebraic,
    trivial, Cert.DownxClaim.algebraic,
    trivial, Cert.DownlClaim.algebraic,
    trivial, Cert.ProjClaim.algebraic,
    trivial, Cert.OutlnClaim.algebraic,
    trivial, Cert.DxinClaim.algebraic,
    trivial, Cert.DxguClaim.algebraic,
    trivial, Cert.OutbClaim.algebraic,
    trivial, Cert.FfbClaim.algebraic,
    Cert.AttfClaim.preserves, Cert.AttfClaim.algebraic,
    trivial, Cert.SadaClaim.algebraic,
    trivial, Cert.SadbClaim.algebraic,
    trivial, Cert.SadcClaim.algebraic,
    trivial, Cert.SaddClaim.algebraic,
    trivial, Cert.SsumClaim.algebraic,
    trivial, Cert.MixfClaim.algebraic⟩
